-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxReferenceIdeal (m : (ℓ : Loc Cert.DxReferenceIdeal.nD Cert.DxReferenceIdeal.τ Cert.DxReferenceIdeal.sig) → Buf (Elt Ideal) ℓ) : Prop :=
  True

def Pre_DxEven (m : (ℓ : Loc Cert.DxEven.nD Cert.DxEven.τ Cert.DxEven.sig) → Buf (Elt Bits) ℓ) : Prop :=
  True

def Pre_DxEvenIdeal (m : (ℓ : Loc Cert.DxEvenIdeal.nD Cert.DxEvenIdeal.τ Cert.DxEvenIdeal.sig) → Buf (Elt Ideal) ℓ) : Prop :=
  True

def Pre_DxEvenReferenceIdeal (m : (ℓ : Loc Cert.DxEvenReferenceIdeal.nD Cert.DxEvenReferenceIdeal.τ Cert.DxEvenReferenceIdeal.sig) → Buf (Elt Ideal) ℓ) : Prop :=
  True

def Pre_DwOdd (m : (ℓ : Loc Cert.DwOdd.nD Cert.DwOdd.τ Cert.DwOdd.sig) → Buf (Elt Bits) ℓ) : Prop :=
  True

def Pre_DwOddIdeal (m : (ℓ : Loc Cert.DwOddIdeal.nD Cert.DwOddIdeal.τ Cert.DwOddIdeal.sig) → Buf (Elt Ideal) ℓ) : Prop :=
  True

def Pre_DwOddReferenceIdeal (m : (ℓ : Loc Cert.DwOddReferenceIdeal.nD Cert.DwOddReferenceIdeal.τ Cert.DwOddReferenceIdeal.sig) → Buf (Elt Ideal) ℓ) : Prop :=
  True

def Pre_DwEven (m : (ℓ : Loc Cert.DwEven.nD Cert.DwEven.τ Cert.DwEven.sig) → Buf (Elt Bits) ℓ) : Prop :=
  True

def Pre_DwEvenIdeal (m : (ℓ : Loc Cert.DwEvenIdeal.nD Cert.DwEvenIdeal.τ Cert.DwEvenIdeal.sig) → Buf (Elt Ideal) ℓ) : Prop :=
  True

def Pre_DwEvenReferenceIdeal (m : (ℓ : Loc Cert.DwEvenReferenceIdeal.nD Cert.DwEvenReferenceIdeal.τ Cert.DwEvenReferenceIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutReferenceIdeal (m : (ℓ : Loc Cert.DwOutReferenceIdeal.nD Cert.DwOutReferenceIdeal.τ Cert.DwOutReferenceIdeal.sig) → Buf (Elt Ideal) ℓ) : Prop :=
  True

def Pre_Dy (m : (ℓ : Loc Cert.Dy.nD Cert.Dy.τ Cert.Dy.sig) → Buf (Elt Bits) ℓ) : Prop :=
  True

def Pre_DyIdeal (m : (ℓ : Loc Cert.DyIdeal.nD Cert.DyIdeal.τ Cert.DyIdeal.sig) → Buf (Elt Ideal) ℓ) : Prop :=
  True

def Pre_DyReferenceIdeal (m : (ℓ : Loc Cert.DyReferenceIdeal.nD Cert.DyReferenceIdeal.τ Cert.DyReferenceIdeal.sig) → Buf (Elt Ideal) ℓ) : Prop :=
  True

def Pre_InOdd (m : (ℓ : Loc Cert.InOdd.nD Cert.InOdd.τ Cert.InOdd.sig) → Buf (Elt Bits) ℓ) : Prop :=
  True

def Pre_InOddIdeal (m : (ℓ : Loc Cert.InOddIdeal.nD Cert.InOddIdeal.τ Cert.InOddIdeal.sig) → Buf (Elt Ideal) ℓ) : Prop :=
  True

def Pre_InOddReferenceIdeal (m : (ℓ : Loc Cert.InOddReferenceIdeal.nD Cert.InOddReferenceIdeal.τ Cert.InOddReferenceIdeal.sig) → Buf (Elt Ideal) ℓ) : Prop :=
  True

def Pre_InEven (m : (ℓ : Loc Cert.InEven.nD Cert.InEven.τ Cert.InEven.sig) → Buf (Elt Bits) ℓ) : Prop :=
  True

def Pre_InEvenIdeal (m : (ℓ : Loc Cert.InEvenIdeal.nD Cert.InEvenIdeal.τ Cert.InEvenIdeal.sig) → Buf (Elt Ideal) ℓ) : Prop :=
  True

def Pre_InEvenReferenceIdeal (m : (ℓ : Loc Cert.InEvenReferenceIdeal.nD Cert.InEvenReferenceIdeal.τ Cert.InEvenReferenceIdeal.sig) → Buf (Elt Ideal) ℓ) : Prop :=
  True

def Pre_OutEven (m : (ℓ : Loc Cert.OutEven.nD Cert.OutEven.τ Cert.OutEven.sig) → Buf (Elt Bits) ℓ) : Prop :=
  True

def Pre_OutEvenIdeal (m : (ℓ : Loc Cert.OutEvenIdeal.nD Cert.OutEvenIdeal.τ Cert.OutEvenIdeal.sig) → Buf (Elt Ideal) ℓ) : Prop :=
  True

def Pre_OutEvenReferenceIdeal (m : (ℓ : Loc Cert.OutEvenReferenceIdeal.nD Cert.OutEvenReferenceIdeal.τ Cert.OutEvenReferenceIdeal.sig) → Buf (Elt Ideal) ℓ) : Prop :=
  True

def Pre_OutOdd (m : (ℓ : Loc Cert.OutOdd.nD Cert.OutOdd.τ Cert.OutOdd.sig) → Buf (Elt Bits) ℓ) : Prop :=
  True

def Pre_OutOddIdeal (m : (ℓ : Loc Cert.OutOddIdeal.nD Cert.OutOddIdeal.τ Cert.OutOddIdeal.sig) → Buf (Elt Ideal) ℓ) : Prop :=
  True

def Pre_OutOddReferenceIdeal (m : (ℓ : Loc Cert.OutOddReferenceIdeal.nD Cert.OutOddReferenceIdeal.τ Cert.OutOddReferenceIdeal.sig) → Buf (Elt Ideal) ℓ) : Prop :=
  True

def Pre_AdamInEven (m : (ℓ : Loc Cert.AdamInEven.nD Cert.AdamInEven.τ Cert.AdamInEven.sig) → Buf (Elt Bits) ℓ) : Prop :=
  True

def Pre_AdamInEvenIdeal (m : (ℓ : Loc Cert.AdamInEvenIdeal.nD Cert.AdamInEvenIdeal.τ Cert.AdamInEvenIdeal.sig) → Buf (Elt Ideal) ℓ) : Prop :=
  True

def Pre_AdamInEvenReferenceIdeal (m : (ℓ : Loc Cert.AdamInEvenReferenceIdeal.nD Cert.AdamInEvenReferenceIdeal.τ Cert.AdamInEvenReferenceIdeal.sig) → Buf (Elt Ideal) ℓ) : Prop :=
  True

def Pre_AdamPool (m : (ℓ : Loc Cert.AdamPool.nD Cert.AdamPool.τ Cert.AdamPool.sig) → Buf (Elt Bits) ℓ) : Prop :=
  True

def Pre_AdamPoolIdeal (m : (ℓ : Loc Cert.AdamPoolIdeal.nD Cert.AdamPoolIdeal.τ Cert.AdamPoolIdeal.sig) → Buf (Elt Ideal) ℓ) : Prop :=
  True

def Pre_AdamPoolReferenceIdeal (m : (ℓ : Loc Cert.AdamPoolReferenceIdeal.nD Cert.AdamPoolReferenceIdeal.τ Cert.AdamPoolReferenceIdeal.sig) → Buf (Elt Ideal) ℓ) : Prop :=
  True

def Pre_AdamPoolScale (m : (ℓ : Loc Cert.AdamPoolScale.nD Cert.AdamPoolScale.τ Cert.AdamPoolScale.sig) → Buf (Elt Bits) ℓ) : Prop :=
  True

def Pre_AdamPoolScaleIdeal (m : (ℓ : Loc Cert.AdamPoolScaleIdeal.nD Cert.AdamPoolScaleIdeal.τ Cert.AdamPoolScaleIdeal.sig) → Buf (Elt Ideal) ℓ) : Prop :=
  True

def Pre_AdamPoolScaleReferenceIdeal (m : (ℓ : Loc Cert.AdamPoolScaleReferenceIdeal.nD Cert.AdamPoolScaleReferenceIdeal.τ Cert.AdamPoolScaleReferenceIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutReferenceIdeal (m : (ℓ : Loc Cert.AdamOutReferenceIdeal.nD Cert.AdamOutReferenceIdeal.τ Cert.AdamOutReferenceIdeal.sig) → Buf (Elt Ideal) ℓ) : Prop :=
  True

def Pre_AdamNorm (m : (ℓ : Loc Cert.AdamNorm.nD Cert.AdamNorm.τ Cert.AdamNorm.sig) → Buf (Elt Bits) ℓ) : Prop :=
  True

def Pre_AdamNormIdeal (m : (ℓ : Loc Cert.AdamNormIdeal.nD Cert.AdamNormIdeal.τ Cert.AdamNormIdeal.sig) → Buf (Elt Ideal) ℓ) : Prop :=
  True

def Pre_AdamNormReferenceIdeal (m : (ℓ : Loc Cert.AdamNormReferenceIdeal.nD Cert.AdamNormReferenceIdeal.τ Cert.AdamNormReferenceIdeal.sig) → Buf (Elt Ideal) ℓ) : Prop :=
  True

def Pre_AdamNormOdd (m : (ℓ : Loc Cert.AdamNormOdd.nD Cert.AdamNormOdd.τ Cert.AdamNormOdd.sig) → Buf (Elt Bits) ℓ) : Prop :=
  True

def Pre_AdamNormOddIdeal (m : (ℓ : Loc Cert.AdamNormOddIdeal.nD Cert.AdamNormOddIdeal.τ Cert.AdamNormOddIdeal.sig) → Buf (Elt Ideal) ℓ) : Prop :=
  True

def Pre_AdamNormOddReferenceIdeal (m : (ℓ : Loc Cert.AdamNormOddReferenceIdeal.nD Cert.AdamNormOddReferenceIdeal.τ Cert.AdamNormOddReferenceIdeal.sig) → Buf (Elt Ideal) ℓ) : Prop :=
  True

def Pre_AdamInOdd (m : (ℓ : Loc Cert.AdamInOdd.nD Cert.AdamInOdd.τ Cert.AdamInOdd.sig) → Buf (Elt Bits) ℓ) : Prop :=
  True

def Pre_AdamInOddIdeal (m : (ℓ : Loc Cert.AdamInOddIdeal.nD Cert.AdamInOddIdeal.τ Cert.AdamInOddIdeal.sig) → Buf (Elt Ideal) ℓ) : Prop :=
  True

def Pre_AdamInOddReferenceIdeal (m : (ℓ : Loc Cert.AdamInOddReferenceIdeal.nD Cert.AdamInOddReferenceIdeal.τ Cert.AdamInOddReferenceIdeal.sig) → Buf (Elt Ideal) ℓ) : Prop :=
  True

def Pre_AdamShort (m : (ℓ : Loc Cert.AdamShort.nD Cert.AdamShort.τ Cert.AdamShort.sig) → Buf (Elt Bits) ℓ) : Prop :=
  True

def Pre_AdamShortIdeal (m : (ℓ : Loc Cert.AdamShortIdeal.nD Cert.AdamShortIdeal.τ Cert.AdamShortIdeal.sig) → Buf (Elt Ideal) ℓ) : Prop :=
  True

def Pre_AdamShortReferenceIdeal (m : (ℓ : Loc Cert.AdamShortReferenceIdeal.nD Cert.AdamShortReferenceIdeal.τ Cert.AdamShortReferenceIdeal.sig) → Buf (Elt Ideal) ℓ) : Prop :=
  True

def Pre_AdamLong (m : (ℓ : Loc Cert.AdamLong.nD Cert.AdamLong.τ Cert.AdamLong.sig) → Buf (Elt Bits) ℓ) : Prop :=
  True

def Pre_AdamLongIdeal (m : (ℓ : Loc Cert.AdamLongIdeal.nD Cert.AdamLongIdeal.τ Cert.AdamLongIdeal.sig) → Buf (Elt Ideal) ℓ) : Prop :=
  True

def Pre_AdamLongReferenceIdeal (m : (ℓ : Loc Cert.AdamLongReferenceIdeal.nD Cert.AdamLongReferenceIdeal.τ Cert.AdamLongReferenceIdeal.sig) → Buf (Elt Ideal) ℓ) : Prop :=
  True

def Pre_AdamBias (m : (ℓ : Loc Cert.AdamBias.nD Cert.AdamBias.τ Cert.AdamBias.sig) → Buf (Elt Bits) ℓ) : Prop :=
  True

def Pre_AdamBiasIdeal (m : (ℓ : Loc Cert.AdamBiasIdeal.nD Cert.AdamBiasIdeal.τ Cert.AdamBiasIdeal.sig) → Buf (Elt Ideal) ℓ) : Prop :=
  True

def Pre_AdamBiasReferenceIdeal (m : (ℓ : Loc Cert.AdamBiasReferenceIdeal.nD Cert.AdamBiasReferenceIdeal.τ Cert.AdamBiasReferenceIdeal.sig) → Buf (Elt Ideal) ℓ) : Prop :=
  True

def Pre_Att (m : (ℓ : Loc Cert.Att.nD Cert.Att.τ Cert.Att.sig) → Buf (Elt Bits) ℓ) : Prop :=
  True

def Pre_AttIdeal (m : (ℓ : Loc Cert.AttIdeal.nD Cert.AttIdeal.τ Cert.AttIdeal.sig) → Buf (Elt Ideal) ℓ) : Prop :=
  True

def Pre_AttIdeal_finite_qk [hPre_finite_qk : Cert.Pre_finite_qk.Facts] (m : (ℓ : Loc Cert.AttIdeal.nD Cert.AttIdeal.τ Cert.AttIdeal.sig) → Buf (Elt Ideal) ℓ) : Prop :=
  ∀ c : Dev Cert.AttIdeal.nD,
    (Cert.Pre_finite_qk.fn (F := Ideal) (m ((c.tc : Thread Cert.AttIdeal.nD Cert.AttIdeal.τ).loc Cert.AttIdeal.main_arg0))) = (fun _ => 1#1)

def Pre_AttReferenceIdeal (m : (ℓ : Loc Cert.AttReferenceIdeal.nD Cert.AttReferenceIdeal.τ Cert.AttReferenceIdeal.sig) → Buf (Elt Ideal) ℓ) : Prop :=
  True

def Pre_AttReferenceIdeal_finite_qk [hPre_finite_qk : Cert.Pre_finite_qk.Facts] (m : (ℓ : Loc Cert.AttReferenceIdeal.nD Cert.AttReferenceIdeal.τ Cert.AttReferenceIdeal.sig) → Buf (Elt Ideal) ℓ) : Prop :=
  ∀ c : Dev Cert.AttReferenceIdeal.nD,
    (Cert.Pre_finite_qk.fn (F := Ideal) (m ((c.tc : Thread Cert.AttReferenceIdeal.nD Cert.AttReferenceIdeal.τ).loc Cert.AttReferenceIdeal.main_arg0))) = (fun _ => 1#1)

def Pre_Rms (m : (ℓ : Loc Cert.Rms.nD Cert.Rms.τ Cert.Rms.sig) → Buf (Elt Bits) ℓ) : Prop :=
  True

def Pre_RmsIdeal (m : (ℓ : Loc Cert.RmsIdeal.nD Cert.RmsIdeal.τ Cert.RmsIdeal.sig) → Buf (Elt Ideal) ℓ) : Prop :=
  True

def Pre_RmsReferenceIdeal (m : (ℓ : Loc Cert.RmsReferenceIdeal.nD Cert.RmsReferenceIdeal.τ Cert.RmsReferenceIdeal.sig) → Buf (Elt Ideal) ℓ) : Prop :=
  True

def Pre_OddRows (m : (ℓ : Loc Cert.OddRows.nD Cert.OddRows.τ Cert.OddRows.sig) → Buf (Elt Bits) ℓ) : Prop :=
  True

def Pre_OddRowsIdeal (m : (ℓ : Loc Cert.OddRowsIdeal.nD Cert.OddRowsIdeal.τ Cert.OddRowsIdeal.sig) → Buf (Elt Ideal) ℓ) : Prop :=
  True

def Pre_OddRowsIdeal_finite_rows [hPre_finite_rows : Cert.Pre_finite_rows.Facts] (m : (ℓ : Loc Cert.OddRowsIdeal.nD Cert.OddRowsIdeal.τ Cert.OddRowsIdeal.sig) → Buf (Elt Ideal) ℓ) : Prop :=
  ∀ c : Dev Cert.OddRowsIdeal.nD,
    (Cert.Pre_finite_rows.fn (F := Ideal) (m ((c.tc : Thread Cert.OddRowsIdeal.nD Cert.OddRowsIdeal.τ).loc Cert.OddRowsIdeal.main_arg0)) (m ((c.tc : Thread Cert.OddRowsIdeal.nD Cert.OddRowsIdeal.τ).loc Cert.OddRowsIdeal.main_arg1)) (m ((c.tc : Thread Cert.OddRowsIdeal.nD Cert.OddRowsIdeal.τ).loc Cert.OddRowsIdeal.main_arg2)) (m ((c.tc : Thread Cert.OddRowsIdeal.nD Cert.OddRowsIdeal.τ).loc Cert.OddRowsIdeal.main_arg3)) (m ((c.tc : Thread Cert.OddRowsIdeal.nD Cert.OddRowsIdeal.τ).loc Cert.OddRowsIdeal.main_arg4)) (m ((c.tc : Thread Cert.OddRowsIdeal.nD Cert.OddRowsIdeal.τ).loc Cert.OddRowsIdeal.main_arg5))) = (fun _ => 1#1)

def Pre_OddRowsReferenceIdeal (m : (ℓ : Loc Cert.OddRowsReferenceIdeal.nD Cert.OddRowsReferenceIdeal.τ Cert.OddRowsReferenceIdeal.sig) → Buf (Elt Ideal) ℓ) : Prop :=
  True

def Pre_OddRowsReferenceIdeal_finite_rows [hPre_finite_rows : Cert.Pre_finite_rows.Facts] (m : (ℓ : Loc Cert.OddRowsReferenceIdeal.nD Cert.OddRowsReferenceIdeal.τ Cert.OddRowsReferenceIdeal.sig) → Buf (Elt Ideal) ℓ) : Prop :=
  ∀ c : Dev Cert.OddRowsReferenceIdeal.nD,
    (Cert.Pre_finite_rows.fn (F := Ideal) (m ((c.tc : Thread Cert.OddRowsReferenceIdeal.nD Cert.OddRowsReferenceIdeal.τ).loc Cert.OddRowsReferenceIdeal.main_arg0)) (m ((c.tc : Thread Cert.OddRowsReferenceIdeal.nD Cert.OddRowsReferenceIdeal.τ).loc Cert.OddRowsReferenceIdeal.main_arg1)) (m ((c.tc : Thread Cert.OddRowsReferenceIdeal.nD Cert.OddRowsReferenceIdeal.τ).loc Cert.OddRowsReferenceIdeal.main_arg2)) (m ((c.tc : Thread Cert.OddRowsReferenceIdeal.nD Cert.OddRowsReferenceIdeal.τ).loc Cert.OddRowsReferenceIdeal.main_arg3)) (m ((c.tc : Thread Cert.OddRowsReferenceIdeal.nD Cert.OddRowsReferenceIdeal.τ).loc Cert.OddRowsReferenceIdeal.main_arg4)) (m ((c.tc : Thread Cert.OddRowsReferenceIdeal.nD Cert.OddRowsReferenceIdeal.τ).loc Cert.OddRowsReferenceIdeal.main_arg5))) = (fun _ => 1#1)

def Pre_EvenMix (m : (ℓ : Loc Cert.EvenMix.nD Cert.EvenMix.τ Cert.EvenMix.sig) → Buf (Elt Bits) ℓ) : Prop :=
  True

def Pre_EvenMixIdeal (m : (ℓ : Loc Cert.EvenMixIdeal.nD Cert.EvenMixIdeal.τ Cert.EvenMixIdeal.sig) → Buf (Elt Ideal) ℓ) : Prop :=
  True

def Pre_EvenMixReferenceIdeal (m : (ℓ : Loc Cert.EvenMixReferenceIdeal.nD Cert.EvenMixReferenceIdeal.τ Cert.EvenMixReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1)
      ∧ r.2.mem ((c.tc : Thread Cert.Dx.nD Cert.Dx.τ).loc Cert.Dx.main_arg2) = m ((c.tc : Thread Cert.Dx.nD Cert.Dx.τ).loc Cert.Dx.main_arg2)
      ∧ r.2.mem ((c.tc : Thread Cert.Dx.nD Cert.Dx.τ).loc Cert.Dx.main_arg3) = m ((c.tc : Thread Cert.Dx.nD Cert.Dx.τ).loc Cert.Dx.main_arg3)
      ∧ r.2.mem ((c.tc : Thread Cert.Dx.nD Cert.Dx.τ).loc Cert.Dx.main_arg4) = m ((c.tc : Thread Cert.Dx.nD Cert.Dx.τ).loc Cert.Dx.main_arg4)
      ∧ r.2.mem ((c.tc : Thread Cert.Dx.nD Cert.Dx.τ).loc Cert.Dx.main_arg5) = m ((c.tc : Thread Cert.Dx.nD Cert.Dx.τ).loc Cert.Dx.main_arg5)
      ∧ r.2.mem ((c.tc : Thread Cert.Dx.nD Cert.Dx.τ).loc Cert.Dx.main_arg6) = m ((c.tc : Thread Cert.Dx.nD Cert.Dx.τ).loc Cert.Dx.main_arg6))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
      ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
      ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
      ∧ r.2.mem ((c.tc : Thread Cert.DxIdeal.nD Cert.DxIdeal.τ).loc Cert.DxIdeal.main_arg5) = m ((c.tc : Thread Cert.DxIdeal.nD Cert.DxIdeal.τ).loc Cert.DxIdeal.main_arg5)
      ∧ r.2.mem ((c.tc : Thread Cert.DxIdeal.nD Cert.DxIdeal.τ).loc Cert.DxIdeal.main_arg6) = m ((c.tc : Thread Cert.DxIdeal.nD Cert.DxIdeal.τ).loc Cert.DxIdeal.main_arg6))
      ∧ r.2.sem = fun _ => 0)

def quiescent_DxReferenceIdeal [hDxReferenceIdeal : Cert.DxReferenceIdeal.Facts] : Prop :=
  ∀ (m : (ℓ : Loc Cert.DxReferenceIdeal.nD Cert.DxReferenceIdeal.τ Cert.DxReferenceIdeal.sig) → Buf (Elt Ideal) ℓ) (g : Dev Cert.DxReferenceIdeal.nD → PrngReg), Pre_DxReferenceIdeal m →
    θ_run (Cert.DxReferenceIdeal.defs (F := Ideal)) (onTc (τ := Cert.DxReferenceIdeal.τ) (Cert.DxReferenceIdeal.main (F := Ideal))) ⟨m, fun _ => 0, g⟩ (fun r => (∀ c : Dev Cert.DxReferenceIdeal.nD,
      r.2.mem ((c.tc : Thread Cert.DxReferenceIdeal.nD Cert.DxReferenceIdeal.τ).loc Cert.DxReferenceIdeal.main_arg0) = m ((c.tc : Thread Cert.DxReferenceIdeal.nD Cert.DxReferenceIdeal.τ).loc Cert.DxReferenceIdeal.main_arg0)
      ∧ r.2.mem ((c.tc : Thread Cert.DxReferenceIdeal.nD Cert.DxReferenceIdeal.τ).loc Cert.DxReferenceIdeal.main_arg1) = m ((c.tc : Thread Cert.DxReferenceIdeal.nD Cert.DxReferenceIdeal.τ).loc Cert.DxReferenceIdeal.main_arg1)
      ∧ r.2.mem ((c.tc : Thread Cert.DxReferenceIdeal.nD Cert.DxReferenceIdeal.τ).loc Cert.DxReferenceIdeal.main_arg2) = m ((c.tc : Thread Cert.DxReferenceIdeal.nD Cert.DxReferenceIdeal.τ).loc Cert.DxReferenceIdeal.main_arg2)
      ∧ r.2.mem ((c.tc : Thread Cert.DxReferenceIdeal.nD Cert.DxReferenceIdeal.τ).loc Cert.DxReferenceIdeal.main_arg3) = m ((c.tc : Thread Cert.DxReferenceIdeal.nD Cert.DxReferenceIdeal.τ).loc Cert.DxReferenceIdeal.main_arg3)
      ∧ r.2.mem ((c.tc : Thread Cert.DxReferenceIdeal.nD Cert.DxReferenceIdeal.τ).loc Cert.DxReferenceIdeal.main_arg4) = m ((c.tc : Thread Cert.DxReferenceIdeal.nD Cert.DxReferenceIdeal.τ).loc Cert.DxReferenceIdeal.main_arg4)
      ∧ r.2.mem ((c.tc : Thread Cert.DxReferenceIdeal.nD Cert.DxReferenceIdeal.τ).loc Cert.DxReferenceIdeal.main_arg5) = m ((c.tc : Thread Cert.DxReferenceIdeal.nD Cert.DxReferenceIdeal.τ).loc Cert.DxReferenceIdeal.main_arg5)
      ∧ r.2.mem ((c.tc : Thread Cert.DxReferenceIdeal.nD Cert.DxReferenceIdeal.τ).loc Cert.DxReferenceIdeal.main_arg6) = m ((c.tc : Thread Cert.DxReferenceIdeal.nD Cert.DxReferenceIdeal.τ).loc Cert.DxReferenceIdeal.main_arg6))
      ∧ r.2.sem = fun _ => 0)

def quiescent_DxEven [hDxEven : Cert.DxEven.Facts] : Prop :=
  ∀ (m : (ℓ : Loc Cert.DxEven.nD Cert.DxEven.τ Cert.DxEven.sig) → Buf (Elt Bits) ℓ) (g : Dev Cert.DxEven.nD → PrngReg), Pre_DxEven m →
    θ_run (Cert.DxEven.defs (F := Bits)) (onTc (τ := Cert.DxEven.τ) (Cert.DxEven.main (F := Bits))) ⟨m, fun _ => 0, g⟩ (fun r => (∀ c : Dev Cert.DxEven.nD,
      r.2.mem ((c.tc : Thread Cert.DxEven.nD Cert.DxEven.τ).loc Cert.DxEven.main_arg0) = m ((c.tc : Thread Cert.DxEven.nD Cert.DxEven.τ).loc Cert.DxEven.main_arg0)
      ∧ r.2.mem ((c.tc : Thread Cert.DxEven.nD Cert.DxEven.τ).loc Cert.DxEven.main_arg1) = m ((c.tc : Thread Cert.DxEven.nD Cert.DxEven.τ).loc Cert.DxEven.main_arg1)
      ∧ r.2.mem ((c.tc : Thread Cert.DxEven.nD Cert.DxEven.τ).loc Cert.DxEven.main_arg2) = m ((c.tc : Thread Cert.DxEven.nD Cert.DxEven.τ).loc Cert.DxEven.main_arg2)
      ∧ r.2.mem ((c.tc : Thread Cert.DxEven.nD Cert.DxEven.τ).loc Cert.DxEven.main_arg3) = m ((c.tc : Thread Cert.DxEven.nD Cert.DxEven.τ).loc Cert.DxEven.main_arg3)
      ∧ r.2.mem ((c.tc : Thread Cert.DxEven.nD Cert.DxEven.τ).loc Cert.DxEven.main_arg4) = m ((c.tc : Thread Cert.DxEven.nD Cert.DxEven.τ).loc Cert.DxEven.main_arg4))
      ∧ r.2.sem = fun _ => 0)

def quiescent_DxEvenIdeal [hDxEvenIdeal : Cert.DxEvenIdeal.Facts] : Prop :=
  ∀ (m : (ℓ : Loc Cert.DxEvenIdeal.nD Cert.DxEvenIdeal.τ Cert.DxEvenIdeal.sig) → Buf (Elt Ideal) ℓ) (g : Dev Cert.DxEvenIdeal.nD → PrngReg), Pre_DxEvenIdeal m →
    θ_run (Cert.DxEvenIdeal.defs (F := Ideal)) (onTc (τ := Cert.DxEvenIdeal.τ) (Cert.DxEvenIdeal.main (F := Ideal))) ⟨m, fun _ => 0, g⟩ (fun r => (∀ c : Dev Cert.DxEvenIdeal.nD,
      r.2.mem ((c.tc : Thread Cert.DxEvenIdeal.nD Cert.DxEvenIdeal.τ).loc Cert.DxEvenIdeal.main_arg0) = m ((c.tc : Thread Cert.DxEvenIdeal.nD Cert.DxEvenIdeal.τ).loc Cert.DxEvenIdeal.main_arg0)
      ∧ r.2.mem ((c.tc : Thread Cert.DxEvenIdeal.nD Cert.DxEvenIdeal.τ).loc Cert.DxEvenIdeal.main_arg1) = m ((c.tc : Thread Cert.DxEvenIdeal.nD Cert.DxEvenIdeal.τ).loc Cert.DxEvenIdeal.main_arg1)
      ∧ r.2.mem ((c.tc : Thread Cert.DxEvenIdeal.nD Cert.DxEvenIdeal.τ).loc Cert.DxEvenIdeal.main_arg2) = m ((c.tc : Thread Cert.DxEvenIdeal.nD Cert.DxEvenIdeal.τ).loc Cert.DxEvenIdeal.main_arg2)
      ∧ r.2.mem ((c.tc : Thread Cert.DxEvenIdeal.nD Cert.DxEvenIdeal.τ).loc Cert.DxEvenIdeal.main_arg3) = m ((c.tc : Thread Cert.DxEvenIdeal.nD Cert.DxEvenIdeal.τ).loc Cert.DxEvenIdeal.main_arg3)
      ∧ r.2.mem ((c.tc : Thread Cert.DxEvenIdeal.nD Cert.DxEvenIdeal.τ).loc Cert.DxEvenIdeal.main_arg4) = m ((c.tc : Thread Cert.DxEvenIdeal.nD Cert.DxEvenIdeal.τ).loc Cert.DxEvenIdeal.main_arg4))
      ∧ r.2.sem = fun _ => 0)

def quiescent_DxEvenReferenceIdeal [hDxEvenReferenceIdeal : Cert.DxEvenReferenceIdeal.Facts] : Prop :=
  ∀ (m : (ℓ : Loc Cert.DxEvenReferenceIdeal.nD Cert.DxEvenReferenceIdeal.τ Cert.DxEvenReferenceIdeal.sig) → Buf (Elt Ideal) ℓ) (g : Dev Cert.DxEvenReferenceIdeal.nD → PrngReg), Pre_DxEvenReferenceIdeal m →
    θ_run (Cert.DxEvenReferenceIdeal.defs (F := Ideal)) (onTc (τ := Cert.DxEvenReferenceIdeal.τ) (Cert.DxEvenReferenceIdeal.main (F := Ideal))) ⟨m, fun _ => 0, g⟩ (fun r => (∀ c : Dev Cert.DxEvenReferenceIdeal.nD,
      r.2.mem ((c.tc : Thread Cert.DxEvenReferenceIdeal.nD Cert.DxEvenReferenceIdeal.τ).loc Cert.DxEvenReferenceIdeal.main_arg0) = m ((c.tc : Thread Cert.DxEvenReferenceIdeal.nD Cert.DxEvenReferenceIdeal.τ).loc Cert.DxEvenReferenceIdeal.main_arg0)
      ∧ r.2.mem ((c.tc : Thread Cert.DxEvenReferenceIdeal.nD Cert.DxEvenReferenceIdeal.τ).loc Cert.DxEvenReferenceIdeal.main_arg1) = m ((c.tc : Thread Cert.DxEvenReferenceIdeal.nD Cert.DxEvenReferenceIdeal.τ).loc Cert.DxEvenReferenceIdeal.main_arg1)
      ∧ r.2.mem ((c.tc : Thread Cert.DxEvenReferenceIdeal.nD Cert.DxEvenReferenceIdeal.τ).loc Cert.DxEvenReferenceIdeal.main_arg2) = m ((c.tc : Thread Cert.DxEvenReferenceIdeal.nD Cert.DxEvenReferenceIdeal.τ).loc Cert.DxEvenReferenceIdeal.main_arg2)
      ∧ r.2.mem ((c.tc : Thread Cert.DxEvenReferenceIdeal.nD Cert.DxEvenReferenceIdeal.τ).loc Cert.DxEvenReferenceIdeal.main_arg3) = m ((c.tc : Thread Cert.DxEvenReferenceIdeal.nD Cert.DxEvenReferenceIdeal.τ).loc Cert.DxEvenReferenceIdeal.main_arg3)
      ∧ r.2.mem ((c.tc : Thread Cert.DxEvenReferenceIdeal.nD Cert.DxEvenReferenceIdeal.τ).loc Cert.DxEvenReferenceIdeal.main_arg4) = m ((c.tc : Thread Cert.DxEvenReferenceIdeal.nD Cert.DxEvenReferenceIdeal.τ).loc Cert.DxEvenReferenceIdeal.main_arg4))
      ∧ r.2.sem = fun _ => 0)

def quiescent_DwOdd [hDwOdd : Cert.DwOdd.Facts] : Prop :=
  ∀ (m : (ℓ : Loc Cert.DwOdd.nD Cert.DwOdd.τ Cert.DwOdd.sig) → Buf (Elt Bits) ℓ) (g : Dev Cert.DwOdd.nD → PrngReg), Pre_DwOdd m →
    θ_run (Cert.DwOdd.defs (F := Bits)) (onTc (τ := Cert.DwOdd.τ) (Cert.DwOdd.main (F := Bits))) ⟨m, fun _ => 0, g⟩ (fun r => (∀ c : Dev Cert.DwOdd.nD,
      r.2.mem ((c.tc : Thread Cert.DwOdd.nD Cert.DwOdd.τ).loc Cert.DwOdd.main_arg0) = m ((c.tc : Thread Cert.DwOdd.nD Cert.DwOdd.τ).loc Cert.DwOdd.main_arg0)
      ∧ r.2.mem ((c.tc : Thread Cert.DwOdd.nD Cert.DwOdd.τ).loc Cert.DwOdd.main_arg1) = m ((c.tc : Thread Cert.DwOdd.nD Cert.DwOdd.τ).loc Cert.DwOdd.main_arg1))
      ∧ r.2.sem = fun _ => 0)

def quiescent_DwOddIdeal [hDwOddIdeal : Cert.DwOddIdeal.Facts] : Prop :=
  ∀ (m : (ℓ : Loc Cert.DwOddIdeal.nD Cert.DwOddIdeal.τ Cert.DwOddIdeal.sig) → Buf (Elt Ideal) ℓ) (g : Dev Cert.DwOddIdeal.nD → PrngReg), Pre_DwOddIdeal m →
    θ_run (Cert.DwOddIdeal.defs (F := Ideal)) (onTc (τ := Cert.DwOddIdeal.τ) (Cert.DwOddIdeal.main (F := Ideal))) ⟨m, fun _ => 0, g⟩ (fun r => (∀ c : Dev Cert.DwOddIdeal.nD,
      r.2.mem ((c.tc : Thread Cert.DwOddIdeal.nD Cert.DwOddIdeal.τ).loc Cert.DwOddIdeal.main_arg0) = m ((c.tc : Thread Cert.DwOddIdeal.nD Cert.DwOddIdeal.τ).loc Cert.DwOddIdeal.main_arg0)
      ∧ r.2.mem ((c.tc : Thread Cert.DwOddIdeal.nD Cert.DwOddIdeal.τ).loc Cert.DwOddIdeal.main_arg1) = m ((c.tc : Thread Cert.DwOddIdeal.nD Cert.DwOddIdeal.τ).loc Cert.DwOddIdeal.main_arg1))
      ∧ r.2.sem = fun _ => 0)

def quiescent_DwOddReferenceIdeal [hDwOddReferenceIdeal : Cert.DwOddReferenceIdeal.Facts] : Prop :=
  ∀ (m : (ℓ : Loc Cert.DwOddReferenceIdeal.nD Cert.DwOddReferenceIdeal.τ Cert.DwOddReferenceIdeal.sig) → Buf (Elt Ideal) ℓ) (g : Dev Cert.DwOddReferenceIdeal.nD → PrngReg), Pre_DwOddReferenceIdeal m →
    θ_run (Cert.DwOddReferenceIdeal.defs (F := Ideal)) (onTc (τ := Cert.DwOddReferenceIdeal.τ) (Cert.DwOddReferenceIdeal.main (F := Ideal))) ⟨m, fun _ => 0, g⟩ (fun r => (∀ c : Dev Cert.DwOddReferenceIdeal.nD,
      r.2.mem ((c.tc : Thread Cert.DwOddReferenceIdeal.nD Cert.DwOddReferenceIdeal.τ).loc Cert.DwOddReferenceIdeal.main_arg0) = m ((c.tc : Thread Cert.DwOddReferenceIdeal.nD Cert.DwOddReferenceIdeal.τ).loc Cert.DwOddReferenceIdeal.main_arg0)
      ∧ r.2.mem ((c.tc : Thread Cert.DwOddReferenceIdeal.nD Cert.DwOddReferenceIdeal.τ).loc Cert.DwOddReferenceIdeal.main_arg1) = m ((c.tc : Thread Cert.DwOddReferenceIdeal.nD Cert.DwOddReferenceIdeal.τ).loc Cert.DwOddReferenceIdeal.main_arg1))
      ∧ r.2.sem = fun _ => 0)

def quiescent_DwEven [hDwEven : Cert.DwEven.Facts] : Prop :=
  ∀ (m : (ℓ : Loc Cert.DwEven.nD Cert.DwEven.τ Cert.DwEven.sig) → Buf (Elt Bits) ℓ) (g : Dev Cert.DwEven.nD → PrngReg), Pre_DwEven m →
    θ_run (Cert.DwEven.defs (F := Bits)) (onTc (τ := Cert.DwEven.τ) (Cert.DwEven.main (F := Bits))) ⟨m, fun _ => 0, g⟩ (fun r => (∀ c : Dev Cert.DwEven.nD,
      r.2.mem ((c.tc : Thread Cert.DwEven.nD Cert.DwEven.τ).loc Cert.DwEven.main_arg0) = m ((c.tc : Thread Cert.DwEven.nD Cert.DwEven.τ).loc Cert.DwEven.main_arg0)
      ∧ r.2.mem ((c.tc : Thread Cert.DwEven.nD Cert.DwEven.τ).loc Cert.DwEven.main_arg1) = m ((c.tc : Thread Cert.DwEven.nD Cert.DwEven.τ).loc Cert.DwEven.main_arg1))
      ∧ r.2.sem = fun _ => 0)

def quiescent_DwEvenIdeal [hDwEvenIdeal : Cert.DwEvenIdeal.Facts] : Prop :=
  ∀ (m : (ℓ : Loc Cert.DwEvenIdeal.nD Cert.DwEvenIdeal.τ Cert.DwEvenIdeal.sig) → Buf (Elt Ideal) ℓ) (g : Dev Cert.DwEvenIdeal.nD → PrngReg), Pre_DwEvenIdeal m →
    θ_run (Cert.DwEvenIdeal.defs (F := Ideal)) (onTc (τ := Cert.DwEvenIdeal.τ) (Cert.DwEvenIdeal.main (F := Ideal))) ⟨m, fun _ => 0, g⟩ (fun r => (∀ c : Dev Cert.DwEvenIdeal.nD,
      r.2.mem ((c.tc : Thread Cert.DwEvenIdeal.nD Cert.DwEvenIdeal.τ).loc Cert.DwEvenIdeal.main_arg0) = m ((c.tc : Thread Cert.DwEvenIdeal.nD Cert.DwEvenIdeal.τ).loc Cert.DwEvenIdeal.main_arg0)
      ∧ r.2.mem ((c.tc : Thread Cert.DwEvenIdeal.nD Cert.DwEvenIdeal.τ).loc Cert.DwEvenIdeal.main_arg1) = m ((c.tc : Thread Cert.DwEvenIdeal.nD Cert.DwEvenIdeal.τ).loc Cert.DwEvenIdeal.main_arg1))
      ∧ r.2.sem = fun _ => 0)

def quiescent_DwEvenReferenceIdeal [hDwEvenReferenceIdeal : Cert.DwEvenReferenceIdeal.Facts] : Prop :=
  ∀ (m : (ℓ : Loc Cert.DwEvenReferenceIdeal.nD Cert.DwEvenReferenceIdeal.τ Cert.DwEvenReferenceIdeal.sig) → Buf (Elt Ideal) ℓ) (g : Dev Cert.DwEvenReferenceIdeal.nD → PrngReg), Pre_DwEvenReferenceIdeal m →
    θ_run (Cert.DwEvenReferenceIdeal.defs (F := Ideal)) (onTc (τ := Cert.DwEvenReferenceIdeal.τ) (Cert.DwEvenReferenceIdeal.main (F := Ideal))) ⟨m, fun _ => 0, g⟩ (fun r => (∀ c : Dev Cert.DwEvenReferenceIdeal.nD,
      r.2.mem ((c.tc : Thread Cert.DwEvenReferenceIdeal.nD Cert.DwEvenReferenceIdeal.τ).loc Cert.DwEvenReferenceIdeal.main_arg0) = m ((c.tc : Thread Cert.DwEvenReferenceIdeal.nD Cert.DwEvenReferenceIdeal.τ).loc Cert.DwEvenReferenceIdeal.main_arg0)
      ∧ r.2.mem ((c.tc : Thread Cert.DwEvenReferenceIdeal.nD Cert.DwEvenReferenceIdeal.τ).loc Cert.DwEvenReferenceIdeal.main_arg1) = m ((c.tc : Thread Cert.DwEvenReferenceIdeal.nD Cert.DwEvenReferenceIdeal.τ).loc Cert.DwEvenReferenceIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutReferenceIdeal [hDwOutReferenceIdeal : Cert.DwOutReferenceIdeal.Facts] : Prop :=
  ∀ (m : (ℓ : Loc Cert.DwOutReferenceIdeal.nD Cert.DwOutReferenceIdeal.τ Cert.DwOutReferenceIdeal.sig) → Buf (Elt Ideal) ℓ) (g : Dev Cert.DwOutReferenceIdeal.nD → PrngReg), Pre_DwOutReferenceIdeal m →
    θ_run (Cert.DwOutReferenceIdeal.defs (F := Ideal)) (onTc (τ := Cert.DwOutReferenceIdeal.τ) (Cert.DwOutReferenceIdeal.main (F := Ideal))) ⟨m, fun _ => 0, g⟩ (fun r => (∀ c : Dev Cert.DwOutReferenceIdeal.nD,
      r.2.mem ((c.tc : Thread Cert.DwOutReferenceIdeal.nD Cert.DwOutReferenceIdeal.τ).loc Cert.DwOutReferenceIdeal.main_arg0) = m ((c.tc : Thread Cert.DwOutReferenceIdeal.nD Cert.DwOutReferenceIdeal.τ).loc Cert.DwOutReferenceIdeal.main_arg0)
      ∧ r.2.mem ((c.tc : Thread Cert.DwOutReferenceIdeal.nD Cert.DwOutReferenceIdeal.τ).loc Cert.DwOutReferenceIdeal.main_arg1) = m ((c.tc : Thread Cert.DwOutReferenceIdeal.nD Cert.DwOutReferenceIdeal.τ).loc Cert.DwOutReferenceIdeal.main_arg1))
      ∧ r.2.sem = fun _ => 0)

def quiescent_Dy [hDy : Cert.Dy.Facts] : Prop :=
  ∀ (m : (ℓ : Loc Cert.Dy.nD Cert.Dy.τ Cert.Dy.sig) → Buf (Elt Bits) ℓ) (g : Dev Cert.Dy.nD → PrngReg), Pre_Dy m →
    θ_run (Cert.Dy.defs (F := Bits)) (onTc (τ := Cert.Dy.τ) (Cert.Dy.main (F := Bits))) ⟨m, fun _ => 0, g⟩ (fun r => (∀ c : Dev Cert.Dy.nD,
      r.2.mem ((c.tc : Thread Cert.Dy.nD Cert.Dy.τ).loc Cert.Dy.main_arg0) = m ((c.tc : Thread Cert.Dy.nD Cert.Dy.τ).loc Cert.Dy.main_arg0)
      ∧ r.2.mem ((c.tc : Thread Cert.Dy.nD Cert.Dy.τ).loc Cert.Dy.main_arg1) = m ((c.tc : Thread Cert.Dy.nD Cert.Dy.τ).loc Cert.Dy.main_arg1))
      ∧ r.2.sem = fun _ => 0)

def quiescent_DyIdeal [hDyIdeal : Cert.DyIdeal.Facts] : Prop :=
  ∀ (m : (ℓ : Loc Cert.DyIdeal.nD Cert.DyIdeal.τ Cert.DyIdeal.sig) → Buf (Elt Ideal) ℓ) (g : Dev Cert.DyIdeal.nD → PrngReg), Pre_DyIdeal m →
    θ_run (Cert.DyIdeal.defs (F := Ideal)) (onTc (τ := Cert.DyIdeal.τ) (Cert.DyIdeal.main (F := Ideal))) ⟨m, fun _ => 0, g⟩ (fun r => (∀ c : Dev Cert.DyIdeal.nD,
      r.2.mem ((c.tc : Thread Cert.DyIdeal.nD Cert.DyIdeal.τ).loc Cert.DyIdeal.main_arg0) = m ((c.tc : Thread Cert.DyIdeal.nD Cert.DyIdeal.τ).loc Cert.DyIdeal.main_arg0)
      ∧ r.2.mem ((c.tc : Thread Cert.DyIdeal.nD Cert.DyIdeal.τ).loc Cert.DyIdeal.main_arg1) = m ((c.tc : Thread Cert.DyIdeal.nD Cert.DyIdeal.τ).loc Cert.DyIdeal.main_arg1))
      ∧ r.2.sem = fun _ => 0)

def quiescent_DyReferenceIdeal [hDyReferenceIdeal : Cert.DyReferenceIdeal.Facts] : Prop :=
  ∀ (m : (ℓ : Loc Cert.DyReferenceIdeal.nD Cert.DyReferenceIdeal.τ Cert.DyReferenceIdeal.sig) → Buf (Elt Ideal) ℓ) (g : Dev Cert.DyReferenceIdeal.nD → PrngReg), Pre_DyReferenceIdeal m →
    θ_run (Cert.DyReferenceIdeal.defs (F := Ideal)) (onTc (τ := Cert.DyReferenceIdeal.τ) (Cert.DyReferenceIdeal.main (F := Ideal))) ⟨m, fun _ => 0, g⟩ (fun r => (∀ c : Dev Cert.DyReferenceIdeal.nD,
      r.2.mem ((c.tc : Thread Cert.DyReferenceIdeal.nD Cert.DyReferenceIdeal.τ).loc Cert.DyReferenceIdeal.main_arg0) = m ((c.tc : Thread Cert.DyReferenceIdeal.nD Cert.DyReferenceIdeal.τ).loc Cert.DyReferenceIdeal.main_arg0)
      ∧ r.2.mem ((c.tc : Thread Cert.DyReferenceIdeal.nD Cert.DyReferenceIdeal.τ).loc Cert.DyReferenceIdeal.main_arg1) = m ((c.tc : Thread Cert.DyReferenceIdeal.nD Cert.DyReferenceIdeal.τ).loc Cert.DyReferenceIdeal.main_arg1))
      ∧ r.2.sem = fun _ => 0)

def quiescent_InOdd [hInOdd : Cert.InOdd.Facts] : Prop :=
  ∀ (m : (ℓ : Loc Cert.InOdd.nD Cert.InOdd.τ Cert.InOdd.sig) → Buf (Elt Bits) ℓ) (g : Dev Cert.InOdd.nD → PrngReg), Pre_InOdd m →
    θ_run (Cert.InOdd.defs (F := Bits)) (onTc (τ := Cert.InOdd.τ) (Cert.InOdd.main (F := Bits))) ⟨m, fun _ => 0, g⟩ (fun r => (∀ c : Dev Cert.InOdd.nD,
      r.2.mem ((c.tc : Thread Cert.InOdd.nD Cert.InOdd.τ).loc Cert.InOdd.main_arg0) = m ((c.tc : Thread Cert.InOdd.nD Cert.InOdd.τ).loc Cert.InOdd.main_arg0)
      ∧ r.2.mem ((c.tc : Thread Cert.InOdd.nD Cert.InOdd.τ).loc Cert.InOdd.main_arg1) = m ((c.tc : Thread Cert.InOdd.nD Cert.InOdd.τ).loc Cert.InOdd.main_arg1))
      ∧ r.2.sem = fun _ => 0)

def quiescent_InOddIdeal [hInOddIdeal : Cert.InOddIdeal.Facts] : Prop :=
  ∀ (m : (ℓ : Loc Cert.InOddIdeal.nD Cert.InOddIdeal.τ Cert.InOddIdeal.sig) → Buf (Elt Ideal) ℓ) (g : Dev Cert.InOddIdeal.nD → PrngReg), Pre_InOddIdeal m →
    θ_run (Cert.InOddIdeal.defs (F := Ideal)) (onTc (τ := Cert.InOddIdeal.τ) (Cert.InOddIdeal.main (F := Ideal))) ⟨m, fun _ => 0, g⟩ (fun r => (∀ c : Dev Cert.InOddIdeal.nD,
      r.2.mem ((c.tc : Thread Cert.InOddIdeal.nD Cert.InOddIdeal.τ).loc Cert.InOddIdeal.main_arg0) = m ((c.tc : Thread Cert.InOddIdeal.nD Cert.InOddIdeal.τ).loc Cert.InOddIdeal.main_arg0)
      ∧ r.2.mem ((c.tc : Thread Cert.InOddIdeal.nD Cert.InOddIdeal.τ).loc Cert.InOddIdeal.main_arg1) = m ((c.tc : Thread Cert.InOddIdeal.nD Cert.InOddIdeal.τ).loc Cert.InOddIdeal.main_arg1))
      ∧ r.2.sem = fun _ => 0)

def quiescent_InOddReferenceIdeal [hInOddReferenceIdeal : Cert.InOddReferenceIdeal.Facts] : Prop :=
  ∀ (m : (ℓ : Loc Cert.InOddReferenceIdeal.nD Cert.InOddReferenceIdeal.τ Cert.InOddReferenceIdeal.sig) → Buf (Elt Ideal) ℓ) (g : Dev Cert.InOddReferenceIdeal.nD → PrngReg), Pre_InOddReferenceIdeal m →
    θ_run (Cert.InOddReferenceIdeal.defs (F := Ideal)) (onTc (τ := Cert.InOddReferenceIdeal.τ) (Cert.InOddReferenceIdeal.main (F := Ideal))) ⟨m, fun _ => 0, g⟩ (fun r => (∀ c : Dev Cert.InOddReferenceIdeal.nD,
      r.2.mem ((c.tc : Thread Cert.InOddReferenceIdeal.nD Cert.InOddReferenceIdeal.τ).loc Cert.InOddReferenceIdeal.main_arg0) = m ((c.tc : Thread Cert.InOddReferenceIdeal.nD Cert.InOddReferenceIdeal.τ).loc Cert.InOddReferenceIdeal.main_arg0)
      ∧ r.2.mem ((c.tc : Thread Cert.InOddReferenceIdeal.nD Cert.InOddReferenceIdeal.τ).loc Cert.InOddReferenceIdeal.main_arg1) = m ((c.tc : Thread Cert.InOddReferenceIdeal.nD Cert.InOddReferenceIdeal.τ).loc Cert.InOddReferenceIdeal.main_arg1))
      ∧ r.2.sem = fun _ => 0)

def quiescent_InEven [hInEven : Cert.InEven.Facts] : Prop :=
  ∀ (m : (ℓ : Loc Cert.InEven.nD Cert.InEven.τ Cert.InEven.sig) → Buf (Elt Bits) ℓ) (g : Dev Cert.InEven.nD → PrngReg), Pre_InEven m →
    θ_run (Cert.InEven.defs (F := Bits)) (onTc (τ := Cert.InEven.τ) (Cert.InEven.main (F := Bits))) ⟨m, fun _ => 0, g⟩ (fun r => (∀ c : Dev Cert.InEven.nD,
      r.2.mem ((c.tc : Thread Cert.InEven.nD Cert.InEven.τ).loc Cert.InEven.main_arg0) = m ((c.tc : Thread Cert.InEven.nD Cert.InEven.τ).loc Cert.InEven.main_arg0)
      ∧ r.2.mem ((c.tc : Thread Cert.InEven.nD Cert.InEven.τ).loc Cert.InEven.main_arg1) = m ((c.tc : Thread Cert.InEven.nD Cert.InEven.τ).loc Cert.InEven.main_arg1))
      ∧ r.2.sem = fun _ => 0)

def quiescent_InEvenIdeal [hInEvenIdeal : Cert.InEvenIdeal.Facts] : Prop :=
  ∀ (m : (ℓ : Loc Cert.InEvenIdeal.nD Cert.InEvenIdeal.τ Cert.InEvenIdeal.sig) → Buf (Elt Ideal) ℓ) (g : Dev Cert.InEvenIdeal.nD → PrngReg), Pre_InEvenIdeal m →
    θ_run (Cert.InEvenIdeal.defs (F := Ideal)) (onTc (τ := Cert.InEvenIdeal.τ) (Cert.InEvenIdeal.main (F := Ideal))) ⟨m, fun _ => 0, g⟩ (fun r => (∀ c : Dev Cert.InEvenIdeal.nD,
      r.2.mem ((c.tc : Thread Cert.InEvenIdeal.nD Cert.InEvenIdeal.τ).loc Cert.InEvenIdeal.main_arg0) = m ((c.tc : Thread Cert.InEvenIdeal.nD Cert.InEvenIdeal.τ).loc Cert.InEvenIdeal.main_arg0)
      ∧ r.2.mem ((c.tc : Thread Cert.InEvenIdeal.nD Cert.InEvenIdeal.τ).loc Cert.InEvenIdeal.main_arg1) = m ((c.tc : Thread Cert.InEvenIdeal.nD Cert.InEvenIdeal.τ).loc Cert.InEvenIdeal.main_arg1))
      ∧ r.2.sem = fun _ => 0)

def quiescent_InEvenReferenceIdeal [hInEvenReferenceIdeal : Cert.InEvenReferenceIdeal.Facts] : Prop :=
  ∀ (m : (ℓ : Loc Cert.InEvenReferenceIdeal.nD Cert.InEvenReferenceIdeal.τ Cert.InEvenReferenceIdeal.sig) → Buf (Elt Ideal) ℓ) (g : Dev Cert.InEvenReferenceIdeal.nD → PrngReg), Pre_InEvenReferenceIdeal m →
    θ_run (Cert.InEvenReferenceIdeal.defs (F := Ideal)) (onTc (τ := Cert.InEvenReferenceIdeal.τ) (Cert.InEvenReferenceIdeal.main (F := Ideal))) ⟨m, fun _ => 0, g⟩ (fun r => (∀ c : Dev Cert.InEvenReferenceIdeal.nD,
      r.2.mem ((c.tc : Thread Cert.InEvenReferenceIdeal.nD Cert.InEvenReferenceIdeal.τ).loc Cert.InEvenReferenceIdeal.main_arg0) = m ((c.tc : Thread Cert.InEvenReferenceIdeal.nD Cert.InEvenReferenceIdeal.τ).loc Cert.InEvenReferenceIdeal.main_arg0)
      ∧ r.2.mem ((c.tc : Thread Cert.InEvenReferenceIdeal.nD Cert.InEvenReferenceIdeal.τ).loc Cert.InEvenReferenceIdeal.main_arg1) = m ((c.tc : Thread Cert.InEvenReferenceIdeal.nD Cert.InEvenReferenceIdeal.τ).loc Cert.InEvenReferenceIdeal.main_arg1))
      ∧ r.2.sem = fun _ => 0)

def quiescent_OutEven [hOutEven : Cert.OutEven.Facts] : Prop :=
  ∀ (m : (ℓ : Loc Cert.OutEven.nD Cert.OutEven.τ Cert.OutEven.sig) → Buf (Elt Bits) ℓ) (g : Dev Cert.OutEven.nD → PrngReg), Pre_OutEven m →
    θ_run (Cert.OutEven.defs (F := Bits)) (onTc (τ := Cert.OutEven.τ) (Cert.OutEven.main (F := Bits))) ⟨m, fun _ => 0, g⟩ (fun r => (∀ c : Dev Cert.OutEven.nD,
      r.2.mem ((c.tc : Thread Cert.OutEven.nD Cert.OutEven.τ).loc Cert.OutEven.main_arg0) = m ((c.tc : Thread Cert.OutEven.nD Cert.OutEven.τ).loc Cert.OutEven.main_arg0)
      ∧ r.2.mem ((c.tc : Thread Cert.OutEven.nD Cert.OutEven.τ).loc Cert.OutEven.main_arg1) = m ((c.tc : Thread Cert.OutEven.nD Cert.OutEven.τ).loc Cert.OutEven.main_arg1)
      ∧ r.2.mem ((c.tc : Thread Cert.OutEven.nD Cert.OutEven.τ).loc Cert.OutEven.main_arg2) = m ((c.tc : Thread Cert.OutEven.nD Cert.OutEven.τ).loc Cert.OutEven.main_arg2)
      ∧ r.2.mem ((c.tc : Thread Cert.OutEven.nD Cert.OutEven.τ).loc Cert.OutEven.main_arg3) = m ((c.tc : Thread Cert.OutEven.nD Cert.OutEven.τ).loc Cert.OutEven.main_arg3)
      ∧ r.2.mem ((c.tc : Thread Cert.OutEven.nD Cert.OutEven.τ).loc Cert.OutEven.main_arg4) = m ((c.tc : Thread Cert.OutEven.nD Cert.OutEven.τ).loc Cert.OutEven.main_arg4))
      ∧ r.2.sem = fun _ => 0)

def quiescent_OutEvenIdeal [hOutEvenIdeal : Cert.OutEvenIdeal.Facts] : Prop :=
  ∀ (m : (ℓ : Loc Cert.OutEvenIdeal.nD Cert.OutEvenIdeal.τ Cert.OutEvenIdeal.sig) → Buf (Elt Ideal) ℓ) (g : Dev Cert.OutEvenIdeal.nD → PrngReg), Pre_OutEvenIdeal m →
    θ_run (Cert.OutEvenIdeal.defs (F := Ideal)) (onTc (τ := Cert.OutEvenIdeal.τ) (Cert.OutEvenIdeal.main (F := Ideal))) ⟨m, fun _ => 0, g⟩ (fun r => (∀ c : Dev Cert.OutEvenIdeal.nD,
      r.2.mem ((c.tc : Thread Cert.OutEvenIdeal.nD Cert.OutEvenIdeal.τ).loc Cert.OutEvenIdeal.main_arg0) = m ((c.tc : Thread Cert.OutEvenIdeal.nD Cert.OutEvenIdeal.τ).loc Cert.OutEvenIdeal.main_arg0)
      ∧ r.2.mem ((c.tc : Thread Cert.OutEvenIdeal.nD Cert.OutEvenIdeal.τ).loc Cert.OutEvenIdeal.main_arg1) = m ((c.tc : Thread Cert.OutEvenIdeal.nD Cert.OutEvenIdeal.τ).loc Cert.OutEvenIdeal.main_arg1)
      ∧ r.2.mem ((c.tc : Thread Cert.OutEvenIdeal.nD Cert.OutEvenIdeal.τ).loc Cert.OutEvenIdeal.main_arg2) = m ((c.tc : Thread Cert.OutEvenIdeal.nD Cert.OutEvenIdeal.τ).loc Cert.OutEvenIdeal.main_arg2)
      ∧ r.2.mem ((c.tc : Thread Cert.OutEvenIdeal.nD Cert.OutEvenIdeal.τ).loc Cert.OutEvenIdeal.main_arg3) = m ((c.tc : Thread Cert.OutEvenIdeal.nD Cert.OutEvenIdeal.τ).loc Cert.OutEvenIdeal.main_arg3)
      ∧ r.2.mem ((c.tc : Thread Cert.OutEvenIdeal.nD Cert.OutEvenIdeal.τ).loc Cert.OutEvenIdeal.main_arg4) = m ((c.tc : Thread Cert.OutEvenIdeal.nD Cert.OutEvenIdeal.τ).loc Cert.OutEvenIdeal.main_arg4))
      ∧ r.2.sem = fun _ => 0)

def quiescent_OutEvenReferenceIdeal [hOutEvenReferenceIdeal : Cert.OutEvenReferenceIdeal.Facts] : Prop :=
  ∀ (m : (ℓ : Loc Cert.OutEvenReferenceIdeal.nD Cert.OutEvenReferenceIdeal.τ Cert.OutEvenReferenceIdeal.sig) → Buf (Elt Ideal) ℓ) (g : Dev Cert.OutEvenReferenceIdeal.nD → PrngReg), Pre_OutEvenReferenceIdeal m →
    θ_run (Cert.OutEvenReferenceIdeal.defs (F := Ideal)) (onTc (τ := Cert.OutEvenReferenceIdeal.τ) (Cert.OutEvenReferenceIdeal.main (F := Ideal))) ⟨m, fun _ => 0, g⟩ (fun r => (∀ c : Dev Cert.OutEvenReferenceIdeal.nD,
      r.2.mem ((c.tc : Thread Cert.OutEvenReferenceIdeal.nD Cert.OutEvenReferenceIdeal.τ).loc Cert.OutEvenReferenceIdeal.main_arg0) = m ((c.tc : Thread Cert.OutEvenReferenceIdeal.nD Cert.OutEvenReferenceIdeal.τ).loc Cert.OutEvenReferenceIdeal.main_arg0)
      ∧ r.2.mem ((c.tc : Thread Cert.OutEvenReferenceIdeal.nD Cert.OutEvenReferenceIdeal.τ).loc Cert.OutEvenReferenceIdeal.main_arg1) = m ((c.tc : Thread Cert.OutEvenReferenceIdeal.nD Cert.OutEvenReferenceIdeal.τ).loc Cert.OutEvenReferenceIdeal.main_arg1)
      ∧ r.2.mem ((c.tc : Thread Cert.OutEvenReferenceIdeal.nD Cert.OutEvenReferenceIdeal.τ).loc Cert.OutEvenReferenceIdeal.main_arg2) = m ((c.tc : Thread Cert.OutEvenReferenceIdeal.nD Cert.OutEvenReferenceIdeal.τ).loc Cert.OutEvenReferenceIdeal.main_arg2)
      ∧ r.2.mem ((c.tc : Thread Cert.OutEvenReferenceIdeal.nD Cert.OutEvenReferenceIdeal.τ).loc Cert.OutEvenReferenceIdeal.main_arg3) = m ((c.tc : Thread Cert.OutEvenReferenceIdeal.nD Cert.OutEvenReferenceIdeal.τ).loc Cert.OutEvenReferenceIdeal.main_arg3)
      ∧ r.2.mem ((c.tc : Thread Cert.OutEvenReferenceIdeal.nD Cert.OutEvenReferenceIdeal.τ).loc Cert.OutEvenReferenceIdeal.main_arg4) = m ((c.tc : Thread Cert.OutEvenReferenceIdeal.nD Cert.OutEvenReferenceIdeal.τ).loc Cert.OutEvenReferenceIdeal.main_arg4))
      ∧ r.2.sem = fun _ => 0)

def quiescent_OutOdd [hOutOdd : Cert.OutOdd.Facts] : Prop :=
  ∀ (m : (ℓ : Loc Cert.OutOdd.nD Cert.OutOdd.τ Cert.OutOdd.sig) → Buf (Elt Bits) ℓ) (g : Dev Cert.OutOdd.nD → PrngReg), Pre_OutOdd m →
    θ_run (Cert.OutOdd.defs (F := Bits)) (onTc (τ := Cert.OutOdd.τ) (Cert.OutOdd.main (F := Bits))) ⟨m, fun _ => 0, g⟩ (fun r => (∀ c : Dev Cert.OutOdd.nD,
      r.2.mem ((c.tc : Thread Cert.OutOdd.nD Cert.OutOdd.τ).loc Cert.OutOdd.main_arg0) = m ((c.tc : Thread Cert.OutOdd.nD Cert.OutOdd.τ).loc Cert.OutOdd.main_arg0)
      ∧ r.2.mem ((c.tc : Thread Cert.OutOdd.nD Cert.OutOdd.τ).loc Cert.OutOdd.main_arg1) = m ((c.tc : Thread Cert.OutOdd.nD Cert.OutOdd.τ).loc Cert.OutOdd.main_arg1)
      ∧ r.2.mem ((c.tc : Thread Cert.OutOdd.nD Cert.OutOdd.τ).loc Cert.OutOdd.main_arg2) = m ((c.tc : Thread Cert.OutOdd.nD Cert.OutOdd.τ).loc Cert.OutOdd.main_arg2)
      ∧ r.2.mem ((c.tc : Thread Cert.OutOdd.nD Cert.OutOdd.τ).loc Cert.OutOdd.main_arg3) = m ((c.tc : Thread Cert.OutOdd.nD Cert.OutOdd.τ).loc Cert.OutOdd.main_arg3)
      ∧ r.2.mem ((c.tc : Thread Cert.OutOdd.nD Cert.OutOdd.τ).loc Cert.OutOdd.main_arg4) = m ((c.tc : Thread Cert.OutOdd.nD Cert.OutOdd.τ).loc Cert.OutOdd.main_arg4))
      ∧ r.2.sem = fun _ => 0)

def quiescent_OutOddIdeal [hOutOddIdeal : Cert.OutOddIdeal.Facts] : Prop :=
  ∀ (m : (ℓ : Loc Cert.OutOddIdeal.nD Cert.OutOddIdeal.τ Cert.OutOddIdeal.sig) → Buf (Elt Ideal) ℓ) (g : Dev Cert.OutOddIdeal.nD → PrngReg), Pre_OutOddIdeal m →
    θ_run (Cert.OutOddIdeal.defs (F := Ideal)) (onTc (τ := Cert.OutOddIdeal.τ) (Cert.OutOddIdeal.main (F := Ideal))) ⟨m, fun _ => 0, g⟩ (fun r => (∀ c : Dev Cert.OutOddIdeal.nD,
      r.2.mem ((c.tc : Thread Cert.OutOddIdeal.nD Cert.OutOddIdeal.τ).loc Cert.OutOddIdeal.main_arg0) = m ((c.tc : Thread Cert.OutOddIdeal.nD Cert.OutOddIdeal.τ).loc Cert.OutOddIdeal.main_arg0)
      ∧ r.2.mem ((c.tc : Thread Cert.OutOddIdeal.nD Cert.OutOddIdeal.τ).loc Cert.OutOddIdeal.main_arg1) = m ((c.tc : Thread Cert.OutOddIdeal.nD Cert.OutOddIdeal.τ).loc Cert.OutOddIdeal.main_arg1)
      ∧ r.2.mem ((c.tc : Thread Cert.OutOddIdeal.nD Cert.OutOddIdeal.τ).loc Cert.OutOddIdeal.main_arg2) = m ((c.tc : Thread Cert.OutOddIdeal.nD Cert.OutOddIdeal.τ).loc Cert.OutOddIdeal.main_arg2)
      ∧ r.2.mem ((c.tc : Thread Cert.OutOddIdeal.nD Cert.OutOddIdeal.τ).loc Cert.OutOddIdeal.main_arg3) = m ((c.tc : Thread Cert.OutOddIdeal.nD Cert.OutOddIdeal.τ).loc Cert.OutOddIdeal.main_arg3)
      ∧ r.2.mem ((c.tc : Thread Cert.OutOddIdeal.nD Cert.OutOddIdeal.τ).loc Cert.OutOddIdeal.main_arg4) = m ((c.tc : Thread Cert.OutOddIdeal.nD Cert.OutOddIdeal.τ).loc Cert.OutOddIdeal.main_arg4))
      ∧ r.2.sem = fun _ => 0)

def quiescent_OutOddReferenceIdeal [hOutOddReferenceIdeal : Cert.OutOddReferenceIdeal.Facts] : Prop :=
  ∀ (m : (ℓ : Loc Cert.OutOddReferenceIdeal.nD Cert.OutOddReferenceIdeal.τ Cert.OutOddReferenceIdeal.sig) → Buf (Elt Ideal) ℓ) (g : Dev Cert.OutOddReferenceIdeal.nD → PrngReg), Pre_OutOddReferenceIdeal m →
    θ_run (Cert.OutOddReferenceIdeal.defs (F := Ideal)) (onTc (τ := Cert.OutOddReferenceIdeal.τ) (Cert.OutOddReferenceIdeal.main (F := Ideal))) ⟨m, fun _ => 0, g⟩ (fun r => (∀ c : Dev Cert.OutOddReferenceIdeal.nD,
      r.2.mem ((c.tc : Thread Cert.OutOddReferenceIdeal.nD Cert.OutOddReferenceIdeal.τ).loc Cert.OutOddReferenceIdeal.main_arg0) = m ((c.tc : Thread Cert.OutOddReferenceIdeal.nD Cert.OutOddReferenceIdeal.τ).loc Cert.OutOddReferenceIdeal.main_arg0)
      ∧ r.2.mem ((c.tc : Thread Cert.OutOddReferenceIdeal.nD Cert.OutOddReferenceIdeal.τ).loc Cert.OutOddReferenceIdeal.main_arg1) = m ((c.tc : Thread Cert.OutOddReferenceIdeal.nD Cert.OutOddReferenceIdeal.τ).loc Cert.OutOddReferenceIdeal.main_arg1)
      ∧ r.2.mem ((c.tc : Thread Cert.OutOddReferenceIdeal.nD Cert.OutOddReferenceIdeal.τ).loc Cert.OutOddReferenceIdeal.main_arg2) = m ((c.tc : Thread Cert.OutOddReferenceIdeal.nD Cert.OutOddReferenceIdeal.τ).loc Cert.OutOddReferenceIdeal.main_arg2)
      ∧ r.2.mem ((c.tc : Thread Cert.OutOddReferenceIdeal.nD Cert.OutOddReferenceIdeal.τ).loc Cert.OutOddReferenceIdeal.main_arg3) = m ((c.tc : Thread Cert.OutOddReferenceIdeal.nD Cert.OutOddReferenceIdeal.τ).loc Cert.OutOddReferenceIdeal.main_arg3)
      ∧ r.2.mem ((c.tc : Thread Cert.OutOddReferenceIdeal.nD Cert.OutOddReferenceIdeal.τ).loc Cert.OutOddReferenceIdeal.main_arg4) = m ((c.tc : Thread Cert.OutOddReferenceIdeal.nD Cert.OutOddReferenceIdeal.τ).loc Cert.OutOddReferenceIdeal.main_arg4))
      ∧ r.2.sem = fun _ => 0)

def quiescent_AdamInEven [hAdamInEven : Cert.AdamInEven.Facts] : Prop :=
  ∀ (m : (ℓ : Loc Cert.AdamInEven.nD Cert.AdamInEven.τ Cert.AdamInEven.sig) → Buf (Elt Bits) ℓ) (g : Dev Cert.AdamInEven.nD → PrngReg), Pre_AdamInEven m →
    θ_run (Cert.AdamInEven.defs (F := Bits)) (onTc (τ := Cert.AdamInEven.τ) (Cert.AdamInEven.main (F := Bits))) ⟨m, fun _ => 0, g⟩ (fun r => (∀ c : Dev Cert.AdamInEven.nD,
      r.2.mem ((c.tc : Thread Cert.AdamInEven.nD Cert.AdamInEven.τ).loc Cert.AdamInEven.main_arg0) = m ((c.tc : Thread Cert.AdamInEven.nD Cert.AdamInEven.τ).loc Cert.AdamInEven.main_arg0)
      ∧ r.2.mem ((c.tc : Thread Cert.AdamInEven.nD Cert.AdamInEven.τ).loc Cert.AdamInEven.main_arg1) = m ((c.tc : Thread Cert.AdamInEven.nD Cert.AdamInEven.τ).loc Cert.AdamInEven.main_arg1)
      ∧ r.2.mem ((c.tc : Thread Cert.AdamInEven.nD Cert.AdamInEven.τ).loc Cert.AdamInEven.main_arg2) = m ((c.tc : Thread Cert.AdamInEven.nD Cert.AdamInEven.τ).loc Cert.AdamInEven.main_arg2)
      ∧ r.2.mem ((c.tc : Thread Cert.AdamInEven.nD Cert.AdamInEven.τ).loc Cert.AdamInEven.main_arg3) = m ((c.tc : Thread Cert.AdamInEven.nD Cert.AdamInEven.τ).loc Cert.AdamInEven.main_arg3))
      ∧ r.2.sem = fun _ => 0)

def quiescent_AdamInEvenIdeal [hAdamInEvenIdeal : Cert.AdamInEvenIdeal.Facts] : Prop :=
  ∀ (m : (ℓ : Loc Cert.AdamInEvenIdeal.nD Cert.AdamInEvenIdeal.τ Cert.AdamInEvenIdeal.sig) → Buf (Elt Ideal) ℓ) (g : Dev Cert.AdamInEvenIdeal.nD → PrngReg), Pre_AdamInEvenIdeal m →
    θ_run (Cert.AdamInEvenIdeal.defs (F := Ideal)) (onTc (τ := Cert.AdamInEvenIdeal.τ) (Cert.AdamInEvenIdeal.main (F := Ideal))) ⟨m, fun _ => 0, g⟩ (fun r => (∀ c : Dev Cert.AdamInEvenIdeal.nD,
      r.2.mem ((c.tc : Thread Cert.AdamInEvenIdeal.nD Cert.AdamInEvenIdeal.τ).loc Cert.AdamInEvenIdeal.main_arg0) = m ((c.tc : Thread Cert.AdamInEvenIdeal.nD Cert.AdamInEvenIdeal.τ).loc Cert.AdamInEvenIdeal.main_arg0)
      ∧ r.2.mem ((c.tc : Thread Cert.AdamInEvenIdeal.nD Cert.AdamInEvenIdeal.τ).loc Cert.AdamInEvenIdeal.main_arg1) = m ((c.tc : Thread Cert.AdamInEvenIdeal.nD Cert.AdamInEvenIdeal.τ).loc Cert.AdamInEvenIdeal.main_arg1)
      ∧ r.2.mem ((c.tc : Thread Cert.AdamInEvenIdeal.nD Cert.AdamInEvenIdeal.τ).loc Cert.AdamInEvenIdeal.main_arg2) = m ((c.tc : Thread Cert.AdamInEvenIdeal.nD Cert.AdamInEvenIdeal.τ).loc Cert.AdamInEvenIdeal.main_arg2)
      ∧ r.2.mem ((c.tc : Thread Cert.AdamInEvenIdeal.nD Cert.AdamInEvenIdeal.τ).loc Cert.AdamInEvenIdeal.main_arg3) = m ((c.tc : Thread Cert.AdamInEvenIdeal.nD Cert.AdamInEvenIdeal.τ).loc Cert.AdamInEvenIdeal.main_arg3))
      ∧ r.2.sem = fun _ => 0)

def quiescent_AdamInEvenReferenceIdeal [hAdamInEvenReferenceIdeal : Cert.AdamInEvenReferenceIdeal.Facts] : Prop :=
  ∀ (m : (ℓ : Loc Cert.AdamInEvenReferenceIdeal.nD Cert.AdamInEvenReferenceIdeal.τ Cert.AdamInEvenReferenceIdeal.sig) → Buf (Elt Ideal) ℓ) (g : Dev Cert.AdamInEvenReferenceIdeal.nD → PrngReg), Pre_AdamInEvenReferenceIdeal m →
    θ_run (Cert.AdamInEvenReferenceIdeal.defs (F := Ideal)) (onTc (τ := Cert.AdamInEvenReferenceIdeal.τ) (Cert.AdamInEvenReferenceIdeal.main (F := Ideal))) ⟨m, fun _ => 0, g⟩ (fun r => (∀ c : Dev Cert.AdamInEvenReferenceIdeal.nD,
      r.2.mem ((c.tc : Thread Cert.AdamInEvenReferenceIdeal.nD Cert.AdamInEvenReferenceIdeal.τ).loc Cert.AdamInEvenReferenceIdeal.main_arg0) = m ((c.tc : Thread Cert.AdamInEvenReferenceIdeal.nD Cert.AdamInEvenReferenceIdeal.τ).loc Cert.AdamInEvenReferenceIdeal.main_arg0)
      ∧ r.2.mem ((c.tc : Thread Cert.AdamInEvenReferenceIdeal.nD Cert.AdamInEvenReferenceIdeal.τ).loc Cert.AdamInEvenReferenceIdeal.main_arg1) = m ((c.tc : Thread Cert.AdamInEvenReferenceIdeal.nD Cert.AdamInEvenReferenceIdeal.τ).loc Cert.AdamInEvenReferenceIdeal.main_arg1)
      ∧ r.2.mem ((c.tc : Thread Cert.AdamInEvenReferenceIdeal.nD Cert.AdamInEvenReferenceIdeal.τ).loc Cert.AdamInEvenReferenceIdeal.main_arg2) = m ((c.tc : Thread Cert.AdamInEvenReferenceIdeal.nD Cert.AdamInEvenReferenceIdeal.τ).loc Cert.AdamInEvenReferenceIdeal.main_arg2)
      ∧ r.2.mem ((c.tc : Thread Cert.AdamInEvenReferenceIdeal.nD Cert.AdamInEvenReferenceIdeal.τ).loc Cert.AdamInEvenReferenceIdeal.main_arg3) = m ((c.tc : Thread Cert.AdamInEvenReferenceIdeal.nD Cert.AdamInEvenReferenceIdeal.τ).loc Cert.AdamInEvenReferenceIdeal.main_arg3))
      ∧ r.2.sem = fun _ => 0)

def quiescent_AdamPool [hAdamPool : Cert.AdamPool.Facts] : Prop :=
  ∀ (m : (ℓ : Loc Cert.AdamPool.nD Cert.AdamPool.τ Cert.AdamPool.sig) → Buf (Elt Bits) ℓ) (g : Dev Cert.AdamPool.nD → PrngReg), Pre_AdamPool m →
    θ_run (Cert.AdamPool.defs (F := Bits)) (onTc (τ := Cert.AdamPool.τ) (Cert.AdamPool.main (F := Bits))) ⟨m, fun _ => 0, g⟩ (fun r => (∀ c : Dev Cert.AdamPool.nD,
      r.2.mem ((c.tc : Thread Cert.AdamPool.nD Cert.AdamPool.τ).loc Cert.AdamPool.main_arg0) = m ((c.tc : Thread Cert.AdamPool.nD Cert.AdamPool.τ).loc Cert.AdamPool.main_arg0)
      ∧ r.2.mem ((c.tc : Thread Cert.AdamPool.nD Cert.AdamPool.τ).loc Cert.AdamPool.main_arg1) = m ((c.tc : Thread Cert.AdamPool.nD Cert.AdamPool.τ).loc Cert.AdamPool.main_arg1)
      ∧ r.2.mem ((c.tc : Thread Cert.AdamPool.nD Cert.AdamPool.τ).loc Cert.AdamPool.main_arg2) = m ((c.tc : Thread Cert.AdamPool.nD Cert.AdamPool.τ).loc Cert.AdamPool.main_arg2)
      ∧ r.2.mem ((c.tc : Thread Cert.AdamPool.nD Cert.AdamPool.τ).loc Cert.AdamPool.main_arg3) = m ((c.tc : Thread Cert.AdamPool.nD Cert.AdamPool.τ).loc Cert.AdamPool.main_arg3))
      ∧ r.2.sem = fun _ => 0)

def quiescent_AdamPoolIdeal [hAdamPoolIdeal : Cert.AdamPoolIdeal.Facts] : Prop :=
  ∀ (m : (ℓ : Loc Cert.AdamPoolIdeal.nD Cert.AdamPoolIdeal.τ Cert.AdamPoolIdeal.sig) → Buf (Elt Ideal) ℓ) (g : Dev Cert.AdamPoolIdeal.nD → PrngReg), Pre_AdamPoolIdeal m →
    θ_run (Cert.AdamPoolIdeal.defs (F := Ideal)) (onTc (τ := Cert.AdamPoolIdeal.τ) (Cert.AdamPoolIdeal.main (F := Ideal))) ⟨m, fun _ => 0, g⟩ (fun r => (∀ c : Dev Cert.AdamPoolIdeal.nD,
      r.2.mem ((c.tc : Thread Cert.AdamPoolIdeal.nD Cert.AdamPoolIdeal.τ).loc Cert.AdamPoolIdeal.main_arg0) = m ((c.tc : Thread Cert.AdamPoolIdeal.nD Cert.AdamPoolIdeal.τ).loc Cert.AdamPoolIdeal.main_arg0)
      ∧ r.2.mem ((c.tc : Thread Cert.AdamPoolIdeal.nD Cert.AdamPoolIdeal.τ).loc Cert.AdamPoolIdeal.main_arg1) = m ((c.tc : Thread Cert.AdamPoolIdeal.nD Cert.AdamPoolIdeal.τ).loc Cert.AdamPoolIdeal.main_arg1)
      ∧ r.2.mem ((c.tc : Thread Cert.AdamPoolIdeal.nD Cert.AdamPoolIdeal.τ).loc Cert.AdamPoolIdeal.main_arg2) = m ((c.tc : Thread Cert.AdamPoolIdeal.nD Cert.AdamPoolIdeal.τ).loc Cert.AdamPoolIdeal.main_arg2)
      ∧ r.2.mem ((c.tc : Thread Cert.AdamPoolIdeal.nD Cert.AdamPoolIdeal.τ).loc Cert.AdamPoolIdeal.main_arg3) = m ((c.tc : Thread Cert.AdamPoolIdeal.nD Cert.AdamPoolIdeal.τ).loc Cert.AdamPoolIdeal.main_arg3))
      ∧ r.2.sem = fun _ => 0)

def quiescent_AdamPoolReferenceIdeal [hAdamPoolReferenceIdeal : Cert.AdamPoolReferenceIdeal.Facts] : Prop :=
  ∀ (m : (ℓ : Loc Cert.AdamPoolReferenceIdeal.nD Cert.AdamPoolReferenceIdeal.τ Cert.AdamPoolReferenceIdeal.sig) → Buf (Elt Ideal) ℓ) (g : Dev Cert.AdamPoolReferenceIdeal.nD → PrngReg), Pre_AdamPoolReferenceIdeal m →
    θ_run (Cert.AdamPoolReferenceIdeal.defs (F := Ideal)) (onTc (τ := Cert.AdamPoolReferenceIdeal.τ) (Cert.AdamPoolReferenceIdeal.main (F := Ideal))) ⟨m, fun _ => 0, g⟩ (fun r => (∀ c : Dev Cert.AdamPoolReferenceIdeal.nD,
      r.2.mem ((c.tc : Thread Cert.AdamPoolReferenceIdeal.nD Cert.AdamPoolReferenceIdeal.τ).loc Cert.AdamPoolReferenceIdeal.main_arg0) = m ((c.tc : Thread Cert.AdamPoolReferenceIdeal.nD Cert.AdamPoolReferenceIdeal.τ).loc Cert.AdamPoolReferenceIdeal.main_arg0)
      ∧ r.2.mem ((c.tc : Thread Cert.AdamPoolReferenceIdeal.nD Cert.AdamPoolReferenceIdeal.τ).loc Cert.AdamPoolReferenceIdeal.main_arg1) = m ((c.tc : Thread Cert.AdamPoolReferenceIdeal.nD Cert.AdamPoolReferenceIdeal.τ).loc Cert.AdamPoolReferenceIdeal.main_arg1)
      ∧ r.2.mem ((c.tc : Thread Cert.AdamPoolReferenceIdeal.nD Cert.AdamPoolReferenceIdeal.τ).loc Cert.AdamPoolReferenceIdeal.main_arg2) = m ((c.tc : Thread Cert.AdamPoolReferenceIdeal.nD Cert.AdamPoolReferenceIdeal.τ).loc Cert.AdamPoolReferenceIdeal.main_arg2)
      ∧ r.2.mem ((c.tc : Thread Cert.AdamPoolReferenceIdeal.nD Cert.AdamPoolReferenceIdeal.τ).loc Cert.AdamPoolReferenceIdeal.main_arg3) = m ((c.tc : Thread Cert.AdamPoolReferenceIdeal.nD Cert.AdamPoolReferenceIdeal.τ).loc Cert.AdamPoolReferenceIdeal.main_arg3))
      ∧ r.2.sem = fun _ => 0)

def quiescent_AdamPoolScale [hAdamPoolScale : Cert.AdamPoolScale.Facts] : Prop :=
  ∀ (m : (ℓ : Loc Cert.AdamPoolScale.nD Cert.AdamPoolScale.τ Cert.AdamPoolScale.sig) → Buf (Elt Bits) ℓ) (g : Dev Cert.AdamPoolScale.nD → PrngReg), Pre_AdamPoolScale m →
    θ_run (Cert.AdamPoolScale.defs (F := Bits)) (onTc (τ := Cert.AdamPoolScale.τ) (Cert.AdamPoolScale.main (F := Bits))) ⟨m, fun _ => 0, g⟩ (fun r => (∀ c : Dev Cert.AdamPoolScale.nD,
      r.2.mem ((c.tc : Thread Cert.AdamPoolScale.nD Cert.AdamPoolScale.τ).loc Cert.AdamPoolScale.main_arg0) = m ((c.tc : Thread Cert.AdamPoolScale.nD Cert.AdamPoolScale.τ).loc Cert.AdamPoolScale.main_arg0)
      ∧ r.2.mem ((c.tc : Thread Cert.AdamPoolScale.nD Cert.AdamPoolScale.τ).loc Cert.AdamPoolScale.main_arg1) = m ((c.tc : Thread Cert.AdamPoolScale.nD Cert.AdamPoolScale.τ).loc Cert.AdamPoolScale.main_arg1)
      ∧ r.2.mem ((c.tc : Thread Cert.AdamPoolScale.nD Cert.AdamPoolScale.τ).loc Cert.AdamPoolScale.main_arg2) = m ((c.tc : Thread Cert.AdamPoolScale.nD Cert.AdamPoolScale.τ).loc Cert.AdamPoolScale.main_arg2)
      ∧ r.2.mem ((c.tc : Thread Cert.AdamPoolScale.nD Cert.AdamPoolScale.τ).loc Cert.AdamPoolScale.main_arg3) = m ((c.tc : Thread Cert.AdamPoolScale.nD Cert.AdamPoolScale.τ).loc Cert.AdamPoolScale.main_arg3))
      ∧ r.2.sem = fun _ => 0)

def quiescent_AdamPoolScaleIdeal [hAdamPoolScaleIdeal : Cert.AdamPoolScaleIdeal.Facts] : Prop :=
  ∀ (m : (ℓ : Loc Cert.AdamPoolScaleIdeal.nD Cert.AdamPoolScaleIdeal.τ Cert.AdamPoolScaleIdeal.sig) → Buf (Elt Ideal) ℓ) (g : Dev Cert.AdamPoolScaleIdeal.nD → PrngReg), Pre_AdamPoolScaleIdeal m →
    θ_run (Cert.AdamPoolScaleIdeal.defs (F := Ideal)) (onTc (τ := Cert.AdamPoolScaleIdeal.τ) (Cert.AdamPoolScaleIdeal.main (F := Ideal))) ⟨m, fun _ => 0, g⟩ (fun r => (∀ c : Dev Cert.AdamPoolScaleIdeal.nD,
      r.2.mem ((c.tc : Thread Cert.AdamPoolScaleIdeal.nD Cert.AdamPoolScaleIdeal.τ).loc Cert.AdamPoolScaleIdeal.main_arg0) = m ((c.tc : Thread Cert.AdamPoolScaleIdeal.nD Cert.AdamPoolScaleIdeal.τ).loc Cert.AdamPoolScaleIdeal.main_arg0)
      ∧ r.2.mem ((c.tc : Thread Cert.AdamPoolScaleIdeal.nD Cert.AdamPoolScaleIdeal.τ).loc Cert.AdamPoolScaleIdeal.main_arg1) = m ((c.tc : Thread Cert.AdamPoolScaleIdeal.nD Cert.AdamPoolScaleIdeal.τ).loc Cert.AdamPoolScaleIdeal.main_arg1)
      ∧ r.2.mem ((c.tc : Thread Cert.AdamPoolScaleIdeal.nD Cert.AdamPoolScaleIdeal.τ).loc Cert.AdamPoolScaleIdeal.main_arg2) = m ((c.tc : Thread Cert.AdamPoolScaleIdeal.nD Cert.AdamPoolScaleIdeal.τ).loc Cert.AdamPoolScaleIdeal.main_arg2)
      ∧ r.2.mem ((c.tc : Thread Cert.AdamPoolScaleIdeal.nD Cert.AdamPoolScaleIdeal.τ).loc Cert.AdamPoolScaleIdeal.main_arg3) = m ((c.tc : Thread Cert.AdamPoolScaleIdeal.nD Cert.AdamPoolScaleIdeal.τ).loc Cert.AdamPoolScaleIdeal.main_arg3))
      ∧ r.2.sem = fun _ => 0)

def quiescent_AdamPoolScaleReferenceIdeal [hAdamPoolScaleReferenceIdeal : Cert.AdamPoolScaleReferenceIdeal.Facts] : Prop :=
  ∀ (m : (ℓ : Loc Cert.AdamPoolScaleReferenceIdeal.nD Cert.AdamPoolScaleReferenceIdeal.τ Cert.AdamPoolScaleReferenceIdeal.sig) → Buf (Elt Ideal) ℓ) (g : Dev Cert.AdamPoolScaleReferenceIdeal.nD → PrngReg), Pre_AdamPoolScaleReferenceIdeal m →
    θ_run (Cert.AdamPoolScaleReferenceIdeal.defs (F := Ideal)) (onTc (τ := Cert.AdamPoolScaleReferenceIdeal.τ) (Cert.AdamPoolScaleReferenceIdeal.main (F := Ideal))) ⟨m, fun _ => 0, g⟩ (fun r => (∀ c : Dev Cert.AdamPoolScaleReferenceIdeal.nD,
      r.2.mem ((c.tc : Thread Cert.AdamPoolScaleReferenceIdeal.nD Cert.AdamPoolScaleReferenceIdeal.τ).loc Cert.AdamPoolScaleReferenceIdeal.main_arg0) = m ((c.tc : Thread Cert.AdamPoolScaleReferenceIdeal.nD Cert.AdamPoolScaleReferenceIdeal.τ).loc Cert.AdamPoolScaleReferenceIdeal.main_arg0)
      ∧ r.2.mem ((c.tc : Thread Cert.AdamPoolScaleReferenceIdeal.nD Cert.AdamPoolScaleReferenceIdeal.τ).loc Cert.AdamPoolScaleReferenceIdeal.main_arg1) = m ((c.tc : Thread Cert.AdamPoolScaleReferenceIdeal.nD Cert.AdamPoolScaleReferenceIdeal.τ).loc Cert.AdamPoolScaleReferenceIdeal.main_arg1)
      ∧ r.2.mem ((c.tc : Thread Cert.AdamPoolScaleReferenceIdeal.nD Cert.AdamPoolScaleReferenceIdeal.τ).loc Cert.AdamPoolScaleReferenceIdeal.main_arg2) = m ((c.tc : Thread Cert.AdamPoolScaleReferenceIdeal.nD Cert.AdamPoolScaleReferenceIdeal.τ).loc Cert.AdamPoolScaleReferenceIdeal.main_arg2)
      ∧ r.2.mem ((c.tc : Thread Cert.AdamPoolScaleReferenceIdeal.nD Cert.AdamPoolScaleReferenceIdeal.τ).loc Cert.AdamPoolScaleReferenceIdeal.main_arg3) = m ((c.tc : Thread Cert.AdamPoolScaleReferenceIdeal.nD Cert.AdamPoolScaleReferenceIdeal.τ).loc Cert.AdamPoolScaleReferenceIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutReferenceIdeal [hAdamOutReferenceIdeal : Cert.AdamOutReferenceIdeal.Facts] : Prop :=
  ∀ (m : (ℓ : Loc Cert.AdamOutReferenceIdeal.nD Cert.AdamOutReferenceIdeal.τ Cert.AdamOutReferenceIdeal.sig) → Buf (Elt Ideal) ℓ) (g : Dev Cert.AdamOutReferenceIdeal.nD → PrngReg), Pre_AdamOutReferenceIdeal m →
    θ_run (Cert.AdamOutReferenceIdeal.defs (F := Ideal)) (onTc (τ := Cert.AdamOutReferenceIdeal.τ) (Cert.AdamOutReferenceIdeal.main (F := Ideal))) ⟨m, fun _ => 0, g⟩ (fun r => (∀ c : Dev Cert.AdamOutReferenceIdeal.nD,
      r.2.mem ((c.tc : Thread Cert.AdamOutReferenceIdeal.nD Cert.AdamOutReferenceIdeal.τ).loc Cert.AdamOutReferenceIdeal.main_arg0) = m ((c.tc : Thread Cert.AdamOutReferenceIdeal.nD Cert.AdamOutReferenceIdeal.τ).loc Cert.AdamOutReferenceIdeal.main_arg0)
      ∧ r.2.mem ((c.tc : Thread Cert.AdamOutReferenceIdeal.nD Cert.AdamOutReferenceIdeal.τ).loc Cert.AdamOutReferenceIdeal.main_arg1) = m ((c.tc : Thread Cert.AdamOutReferenceIdeal.nD Cert.AdamOutReferenceIdeal.τ).loc Cert.AdamOutReferenceIdeal.main_arg1)
      ∧ r.2.mem ((c.tc : Thread Cert.AdamOutReferenceIdeal.nD Cert.AdamOutReferenceIdeal.τ).loc Cert.AdamOutReferenceIdeal.main_arg2) = m ((c.tc : Thread Cert.AdamOutReferenceIdeal.nD Cert.AdamOutReferenceIdeal.τ).loc Cert.AdamOutReferenceIdeal.main_arg2)
      ∧ r.2.mem ((c.tc : Thread Cert.AdamOutReferenceIdeal.nD Cert.AdamOutReferenceIdeal.τ).loc Cert.AdamOutReferenceIdeal.main_arg3) = m ((c.tc : Thread Cert.AdamOutReferenceIdeal.nD Cert.AdamOutReferenceIdeal.τ).loc Cert.AdamOutReferenceIdeal.main_arg3))
      ∧ r.2.sem = fun _ => 0)

def quiescent_AdamNorm [hAdamNorm : Cert.AdamNorm.Facts] : Prop :=
  ∀ (m : (ℓ : Loc Cert.AdamNorm.nD Cert.AdamNorm.τ Cert.AdamNorm.sig) → Buf (Elt Bits) ℓ) (g : Dev Cert.AdamNorm.nD → PrngReg), Pre_AdamNorm m →
    θ_run (Cert.AdamNorm.defs (F := Bits)) (onTc (τ := Cert.AdamNorm.τ) (Cert.AdamNorm.main (F := Bits))) ⟨m, fun _ => 0, g⟩ (fun r => (∀ c : Dev Cert.AdamNorm.nD,
      r.2.mem ((c.tc : Thread Cert.AdamNorm.nD Cert.AdamNorm.τ).loc Cert.AdamNorm.main_arg0) = m ((c.tc : Thread Cert.AdamNorm.nD Cert.AdamNorm.τ).loc Cert.AdamNorm.main_arg0)
      ∧ r.2.mem ((c.tc : Thread Cert.AdamNorm.nD Cert.AdamNorm.τ).loc Cert.AdamNorm.main_arg1) = m ((c.tc : Thread Cert.AdamNorm.nD Cert.AdamNorm.τ).loc Cert.AdamNorm.main_arg1)
      ∧ r.2.mem ((c.tc : Thread Cert.AdamNorm.nD Cert.AdamNorm.τ).loc Cert.AdamNorm.main_arg2) = m ((c.tc : Thread Cert.AdamNorm.nD Cert.AdamNorm.τ).loc Cert.AdamNorm.main_arg2)
      ∧ r.2.mem ((c.tc : Thread Cert.AdamNorm.nD Cert.AdamNorm.τ).loc Cert.AdamNorm.main_arg3) = m ((c.tc : Thread Cert.AdamNorm.nD Cert.AdamNorm.τ).loc Cert.AdamNorm.main_arg3))
      ∧ r.2.sem = fun _ => 0)

def quiescent_AdamNormIdeal [hAdamNormIdeal : Cert.AdamNormIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg), Pre_AdamNormIdeal m →
    θ_run (Cert.AdamNormIdeal.defs (F := Ideal)) (onTc (τ := Cert.AdamNormIdeal.τ) (Cert.AdamNormIdeal.main (F := Ideal))) ⟨m, fun _ => 0, g⟩ (fun r => (∀ c : Dev Cert.AdamNormIdeal.nD,
      r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
      ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
      ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
      ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ r.2.sem = fun _ => 0)

def quiescent_AdamNormReferenceIdeal [hAdamNormReferenceIdeal : Cert.AdamNormReferenceIdeal.Facts] : Prop :=
  ∀ (m : (ℓ : Loc Cert.AdamNormReferenceIdeal.nD Cert.AdamNormReferenceIdeal.τ Cert.AdamNormReferenceIdeal.sig) → Buf (Elt Ideal) ℓ) (g : Dev Cert.AdamNormReferenceIdeal.nD → PrngReg), Pre_AdamNormReferenceIdeal m →
    θ_run (Cert.AdamNormReferenceIdeal.defs (F := Ideal)) (onTc (τ := Cert.AdamNormReferenceIdeal.τ) (Cert.AdamNormReferenceIdeal.main (F := Ideal))) ⟨m, fun _ => 0, g⟩ (fun r => (∀ c : Dev Cert.AdamNormReferenceIdeal.nD,
      r.2.mem ((c.tc : Thread Cert.AdamNormReferenceIdeal.nD Cert.AdamNormReferenceIdeal.τ).loc Cert.AdamNormReferenceIdeal.main_arg0) = m ((c.tc : Thread Cert.AdamNormReferenceIdeal.nD Cert.AdamNormReferenceIdeal.τ).loc Cert.AdamNormReferenceIdeal.main_arg0)
      ∧ r.2.mem ((c.tc : Thread Cert.AdamNormReferenceIdeal.nD Cert.AdamNormReferenceIdeal.τ).loc Cert.AdamNormReferenceIdeal.main_arg1) = m ((c.tc : Thread Cert.AdamNormReferenceIdeal.nD Cert.AdamNormReferenceIdeal.τ).loc Cert.AdamNormReferenceIdeal.main_arg1)
      ∧ r.2.mem ((c.tc : Thread Cert.AdamNormReferenceIdeal.nD Cert.AdamNormReferenceIdeal.τ).loc Cert.AdamNormReferenceIdeal.main_arg2) = m ((c.tc : Thread Cert.AdamNormReferenceIdeal.nD Cert.AdamNormReferenceIdeal.τ).loc Cert.AdamNormReferenceIdeal.main_arg2)
      ∧ r.2.mem ((c.tc : Thread Cert.AdamNormReferenceIdeal.nD Cert.AdamNormReferenceIdeal.τ).loc Cert.AdamNormReferenceIdeal.main_arg3) = m ((c.tc : Thread Cert.AdamNormReferenceIdeal.nD Cert.AdamNormReferenceIdeal.τ).loc Cert.AdamNormReferenceIdeal.main_arg3))
      ∧ r.2.sem = fun _ => 0)

def quiescent_AdamNormOdd [hAdamNormOdd : Cert.AdamNormOdd.Facts] : Prop :=
  ∀ (m : (ℓ : Loc Cert.AdamNormOdd.nD Cert.AdamNormOdd.τ Cert.AdamNormOdd.sig) → Buf (Elt Bits) ℓ) (g : Dev Cert.AdamNormOdd.nD → PrngReg), Pre_AdamNormOdd m →
    θ_run (Cert.AdamNormOdd.defs (F := Bits)) (onTc (τ := Cert.AdamNormOdd.τ) (Cert.AdamNormOdd.main (F := Bits))) ⟨m, fun _ => 0, g⟩ (fun r => (∀ c : Dev Cert.AdamNormOdd.nD,
      r.2.mem ((c.tc : Thread Cert.AdamNormOdd.nD Cert.AdamNormOdd.τ).loc Cert.AdamNormOdd.main_arg0) = m ((c.tc : Thread Cert.AdamNormOdd.nD Cert.AdamNormOdd.τ).loc Cert.AdamNormOdd.main_arg0)
      ∧ r.2.mem ((c.tc : Thread Cert.AdamNormOdd.nD Cert.AdamNormOdd.τ).loc Cert.AdamNormOdd.main_arg1) = m ((c.tc : Thread Cert.AdamNormOdd.nD Cert.AdamNormOdd.τ).loc Cert.AdamNormOdd.main_arg1)
      ∧ r.2.mem ((c.tc : Thread Cert.AdamNormOdd.nD Cert.AdamNormOdd.τ).loc Cert.AdamNormOdd.main_arg2) = m ((c.tc : Thread Cert.AdamNormOdd.nD Cert.AdamNormOdd.τ).loc Cert.AdamNormOdd.main_arg2)
      ∧ r.2.mem ((c.tc : Thread Cert.AdamNormOdd.nD Cert.AdamNormOdd.τ).loc Cert.AdamNormOdd.main_arg3) = m ((c.tc : Thread Cert.AdamNormOdd.nD Cert.AdamNormOdd.τ).loc Cert.AdamNormOdd.main_arg3))
      ∧ r.2.sem = fun _ => 0)

def quiescent_AdamNormOddIdeal [hAdamNormOddIdeal : Cert.AdamNormOddIdeal.Facts] : Prop :=
  ∀ (m : (ℓ : Loc Cert.AdamNormOddIdeal.nD Cert.AdamNormOddIdeal.τ Cert.AdamNormOddIdeal.sig) → Buf (Elt Ideal) ℓ) (g : Dev Cert.AdamNormOddIdeal.nD → PrngReg), Pre_AdamNormOddIdeal m →
    θ_run (Cert.AdamNormOddIdeal.defs (F := Ideal)) (onTc (τ := Cert.AdamNormOddIdeal.τ) (Cert.AdamNormOddIdeal.main (F := Ideal))) ⟨m, fun _ => 0, g⟩ (fun r => (∀ c : Dev Cert.AdamNormOddIdeal.nD,
      r.2.mem ((c.tc : Thread Cert.AdamNormOddIdeal.nD Cert.AdamNormOddIdeal.τ).loc Cert.AdamNormOddIdeal.main_arg0) = m ((c.tc : Thread Cert.AdamNormOddIdeal.nD Cert.AdamNormOddIdeal.τ).loc Cert.AdamNormOddIdeal.main_arg0)
      ∧ r.2.mem ((c.tc : Thread Cert.AdamNormOddIdeal.nD Cert.AdamNormOddIdeal.τ).loc Cert.AdamNormOddIdeal.main_arg1) = m ((c.tc : Thread Cert.AdamNormOddIdeal.nD Cert.AdamNormOddIdeal.τ).loc Cert.AdamNormOddIdeal.main_arg1)
      ∧ r.2.mem ((c.tc : Thread Cert.AdamNormOddIdeal.nD Cert.AdamNormOddIdeal.τ).loc Cert.AdamNormOddIdeal.main_arg2) = m ((c.tc : Thread Cert.AdamNormOddIdeal.nD Cert.AdamNormOddIdeal.τ).loc Cert.AdamNormOddIdeal.main_arg2)
      ∧ r.2.mem ((c.tc : Thread Cert.AdamNormOddIdeal.nD Cert.AdamNormOddIdeal.τ).loc Cert.AdamNormOddIdeal.main_arg3) = m ((c.tc : Thread Cert.AdamNormOddIdeal.nD Cert.AdamNormOddIdeal.τ).loc Cert.AdamNormOddIdeal.main_arg3))
      ∧ r.2.sem = fun _ => 0)

def quiescent_AdamNormOddReferenceIdeal [hAdamNormOddReferenceIdeal : Cert.AdamNormOddReferenceIdeal.Facts] : Prop :=
  ∀ (m : (ℓ : Loc Cert.AdamNormOddReferenceIdeal.nD Cert.AdamNormOddReferenceIdeal.τ Cert.AdamNormOddReferenceIdeal.sig) → Buf (Elt Ideal) ℓ) (g : Dev Cert.AdamNormOddReferenceIdeal.nD → PrngReg), Pre_AdamNormOddReferenceIdeal m →
    θ_run (Cert.AdamNormOddReferenceIdeal.defs (F := Ideal)) (onTc (τ := Cert.AdamNormOddReferenceIdeal.τ) (Cert.AdamNormOddReferenceIdeal.main (F := Ideal))) ⟨m, fun _ => 0, g⟩ (fun r => (∀ c : Dev Cert.AdamNormOddReferenceIdeal.nD,
      r.2.mem ((c.tc : Thread Cert.AdamNormOddReferenceIdeal.nD Cert.AdamNormOddReferenceIdeal.τ).loc Cert.AdamNormOddReferenceIdeal.main_arg0) = m ((c.tc : Thread Cert.AdamNormOddReferenceIdeal.nD Cert.AdamNormOddReferenceIdeal.τ).loc Cert.AdamNormOddReferenceIdeal.main_arg0)
      ∧ r.2.mem ((c.tc : Thread Cert.AdamNormOddReferenceIdeal.nD Cert.AdamNormOddReferenceIdeal.τ).loc Cert.AdamNormOddReferenceIdeal.main_arg1) = m ((c.tc : Thread Cert.AdamNormOddReferenceIdeal.nD Cert.AdamNormOddReferenceIdeal.τ).loc Cert.AdamNormOddReferenceIdeal.main_arg1)
      ∧ r.2.mem ((c.tc : Thread Cert.AdamNormOddReferenceIdeal.nD Cert.AdamNormOddReferenceIdeal.τ).loc Cert.AdamNormOddReferenceIdeal.main_arg2) = m ((c.tc : Thread Cert.AdamNormOddReferenceIdeal.nD Cert.AdamNormOddReferenceIdeal.τ).loc Cert.AdamNormOddReferenceIdeal.main_arg2)
      ∧ r.2.mem ((c.tc : Thread Cert.AdamNormOddReferenceIdeal.nD Cert.AdamNormOddReferenceIdeal.τ).loc Cert.AdamNormOddReferenceIdeal.main_arg3) = m ((c.tc : Thread Cert.AdamNormOddReferenceIdeal.nD Cert.AdamNormOddReferenceIdeal.τ).loc Cert.AdamNormOddReferenceIdeal.main_arg3))
      ∧ r.2.sem = fun _ => 0)

def quiescent_AdamInOdd [hAdamInOdd : Cert.AdamInOdd.Facts] : Prop :=
  ∀ (m : (ℓ : Loc Cert.AdamInOdd.nD Cert.AdamInOdd.τ Cert.AdamInOdd.sig) → Buf (Elt Bits) ℓ) (g : Dev Cert.AdamInOdd.nD → PrngReg), Pre_AdamInOdd m →
    θ_run (Cert.AdamInOdd.defs (F := Bits)) (onTc (τ := Cert.AdamInOdd.τ) (Cert.AdamInOdd.main (F := Bits))) ⟨m, fun _ => 0, g⟩ (fun r => (∀ c : Dev Cert.AdamInOdd.nD,
      r.2.mem ((c.tc : Thread Cert.AdamInOdd.nD Cert.AdamInOdd.τ).loc Cert.AdamInOdd.main_arg0) = m ((c.tc : Thread Cert.AdamInOdd.nD Cert.AdamInOdd.τ).loc Cert.AdamInOdd.main_arg0)
      ∧ r.2.mem ((c.tc : Thread Cert.AdamInOdd.nD Cert.AdamInOdd.τ).loc Cert.AdamInOdd.main_arg1) = m ((c.tc : Thread Cert.AdamInOdd.nD Cert.AdamInOdd.τ).loc Cert.AdamInOdd.main_arg1)
      ∧ r.2.mem ((c.tc : Thread Cert.AdamInOdd.nD Cert.AdamInOdd.τ).loc Cert.AdamInOdd.main_arg2) = m ((c.tc : Thread Cert.AdamInOdd.nD Cert.AdamInOdd.τ).loc Cert.AdamInOdd.main_arg2)
      ∧ r.2.mem ((c.tc : Thread Cert.AdamInOdd.nD Cert.AdamInOdd.τ).loc Cert.AdamInOdd.main_arg3) = m ((c.tc : Thread Cert.AdamInOdd.nD Cert.AdamInOdd.τ).loc Cert.AdamInOdd.main_arg3))
      ∧ r.2.sem = fun _ => 0)

def quiescent_AdamInOddIdeal [hAdamInOddIdeal : Cert.AdamInOddIdeal.Facts] : Prop :=
  ∀ (m : (ℓ : Loc Cert.AdamInOddIdeal.nD Cert.AdamInOddIdeal.τ Cert.AdamInOddIdeal.sig) → Buf (Elt Ideal) ℓ) (g : Dev Cert.AdamInOddIdeal.nD → PrngReg), Pre_AdamInOddIdeal m →
    θ_run (Cert.AdamInOddIdeal.defs (F := Ideal)) (onTc (τ := Cert.AdamInOddIdeal.τ) (Cert.AdamInOddIdeal.main (F := Ideal))) ⟨m, fun _ => 0, g⟩ (fun r => (∀ c : Dev Cert.AdamInOddIdeal.nD,
      r.2.mem ((c.tc : Thread Cert.AdamInOddIdeal.nD Cert.AdamInOddIdeal.τ).loc Cert.AdamInOddIdeal.main_arg0) = m ((c.tc : Thread Cert.AdamInOddIdeal.nD Cert.AdamInOddIdeal.τ).loc Cert.AdamInOddIdeal.main_arg0)
      ∧ r.2.mem ((c.tc : Thread Cert.AdamInOddIdeal.nD Cert.AdamInOddIdeal.τ).loc Cert.AdamInOddIdeal.main_arg1) = m ((c.tc : Thread Cert.AdamInOddIdeal.nD Cert.AdamInOddIdeal.τ).loc Cert.AdamInOddIdeal.main_arg1)
      ∧ r.2.mem ((c.tc : Thread Cert.AdamInOddIdeal.nD Cert.AdamInOddIdeal.τ).loc Cert.AdamInOddIdeal.main_arg2) = m ((c.tc : Thread Cert.AdamInOddIdeal.nD Cert.AdamInOddIdeal.τ).loc Cert.AdamInOddIdeal.main_arg2)
      ∧ r.2.mem ((c.tc : Thread Cert.AdamInOddIdeal.nD Cert.AdamInOddIdeal.τ).loc Cert.AdamInOddIdeal.main_arg3) = m ((c.tc : Thread Cert.AdamInOddIdeal.nD Cert.AdamInOddIdeal.τ).loc Cert.AdamInOddIdeal.main_arg3))
      ∧ r.2.sem = fun _ => 0)

def quiescent_AdamInOddReferenceIdeal [hAdamInOddReferenceIdeal : Cert.AdamInOddReferenceIdeal.Facts] : Prop :=
  ∀ (m : (ℓ : Loc Cert.AdamInOddReferenceIdeal.nD Cert.AdamInOddReferenceIdeal.τ Cert.AdamInOddReferenceIdeal.sig) → Buf (Elt Ideal) ℓ) (g : Dev Cert.AdamInOddReferenceIdeal.nD → PrngReg), Pre_AdamInOddReferenceIdeal m →
    θ_run (Cert.AdamInOddReferenceIdeal.defs (F := Ideal)) (onTc (τ := Cert.AdamInOddReferenceIdeal.τ) (Cert.AdamInOddReferenceIdeal.main (F := Ideal))) ⟨m, fun _ => 0, g⟩ (fun r => (∀ c : Dev Cert.AdamInOddReferenceIdeal.nD,
      r.2.mem ((c.tc : Thread Cert.AdamInOddReferenceIdeal.nD Cert.AdamInOddReferenceIdeal.τ).loc Cert.AdamInOddReferenceIdeal.main_arg0) = m ((c.tc : Thread Cert.AdamInOddReferenceIdeal.nD Cert.AdamInOddReferenceIdeal.τ).loc Cert.AdamInOddReferenceIdeal.main_arg0)
      ∧ r.2.mem ((c.tc : Thread Cert.AdamInOddReferenceIdeal.nD Cert.AdamInOddReferenceIdeal.τ).loc Cert.AdamInOddReferenceIdeal.main_arg1) = m ((c.tc : Thread Cert.AdamInOddReferenceIdeal.nD Cert.AdamInOddReferenceIdeal.τ).loc Cert.AdamInOddReferenceIdeal.main_arg1)
      ∧ r.2.mem ((c.tc : Thread Cert.AdamInOddReferenceIdeal.nD Cert.AdamInOddReferenceIdeal.τ).loc Cert.AdamInOddReferenceIdeal.main_arg2) = m ((c.tc : Thread Cert.AdamInOddReferenceIdeal.nD Cert.AdamInOddReferenceIdeal.τ).loc Cert.AdamInOddReferenceIdeal.main_arg2)
      ∧ r.2.mem ((c.tc : Thread Cert.AdamInOddReferenceIdeal.nD Cert.AdamInOddReferenceIdeal.τ).loc Cert.AdamInOddReferenceIdeal.main_arg3) = m ((c.tc : Thread Cert.AdamInOddReferenceIdeal.nD Cert.AdamInOddReferenceIdeal.τ).loc Cert.AdamInOddReferenceIdeal.main_arg3))
      ∧ r.2.sem = fun _ => 0)

def quiescent_AdamShort [hAdamShort : Cert.AdamShort.Facts] : Prop :=
  ∀ (m : (ℓ : Loc Cert.AdamShort.nD Cert.AdamShort.τ Cert.AdamShort.sig) → Buf (Elt Bits) ℓ) (g : Dev Cert.AdamShort.nD → PrngReg), Pre_AdamShort m →
    θ_run (Cert.AdamShort.defs (F := Bits)) (onTc (τ := Cert.AdamShort.τ) (Cert.AdamShort.main (F := Bits))) ⟨m, fun _ => 0, g⟩ (fun r => (∀ c : Dev Cert.AdamShort.nD,
      r.2.mem ((c.tc : Thread Cert.AdamShort.nD Cert.AdamShort.τ).loc Cert.AdamShort.main_arg0) = m ((c.tc : Thread Cert.AdamShort.nD Cert.AdamShort.τ).loc Cert.AdamShort.main_arg0)
      ∧ r.2.mem ((c.tc : Thread Cert.AdamShort.nD Cert.AdamShort.τ).loc Cert.AdamShort.main_arg1) = m ((c.tc : Thread Cert.AdamShort.nD Cert.AdamShort.τ).loc Cert.AdamShort.main_arg1)
      ∧ r.2.mem ((c.tc : Thread Cert.AdamShort.nD Cert.AdamShort.τ).loc Cert.AdamShort.main_arg2) = m ((c.tc : Thread Cert.AdamShort.nD Cert.AdamShort.τ).loc Cert.AdamShort.main_arg2)
      ∧ r.2.mem ((c.tc : Thread Cert.AdamShort.nD Cert.AdamShort.τ).loc Cert.AdamShort.main_arg3) = m ((c.tc : Thread Cert.AdamShort.nD Cert.AdamShort.τ).loc Cert.AdamShort.main_arg3))
      ∧ r.2.sem = fun _ => 0)

def quiescent_AdamShortIdeal [hAdamShortIdeal : Cert.AdamShortIdeal.Facts] : Prop :=
  ∀ (m : (ℓ : Loc Cert.AdamShortIdeal.nD Cert.AdamShortIdeal.τ Cert.AdamShortIdeal.sig) → Buf (Elt Ideal) ℓ) (g : Dev Cert.AdamShortIdeal.nD → PrngReg), Pre_AdamShortIdeal m →
    θ_run (Cert.AdamShortIdeal.defs (F := Ideal)) (onTc (τ := Cert.AdamShortIdeal.τ) (Cert.AdamShortIdeal.main (F := Ideal))) ⟨m, fun _ => 0, g⟩ (fun r => (∀ c : Dev Cert.AdamShortIdeal.nD,
      r.2.mem ((c.tc : Thread Cert.AdamShortIdeal.nD Cert.AdamShortIdeal.τ).loc Cert.AdamShortIdeal.main_arg0) = m ((c.tc : Thread Cert.AdamShortIdeal.nD Cert.AdamShortIdeal.τ).loc Cert.AdamShortIdeal.main_arg0)
      ∧ r.2.mem ((c.tc : Thread Cert.AdamShortIdeal.nD Cert.AdamShortIdeal.τ).loc Cert.AdamShortIdeal.main_arg1) = m ((c.tc : Thread Cert.AdamShortIdeal.nD Cert.AdamShortIdeal.τ).loc Cert.AdamShortIdeal.main_arg1)
      ∧ r.2.mem ((c.tc : Thread Cert.AdamShortIdeal.nD Cert.AdamShortIdeal.τ).loc Cert.AdamShortIdeal.main_arg2) = m ((c.tc : Thread Cert.AdamShortIdeal.nD Cert.AdamShortIdeal.τ).loc Cert.AdamShortIdeal.main_arg2)
      ∧ r.2.mem ((c.tc : Thread Cert.AdamShortIdeal.nD Cert.AdamShortIdeal.τ).loc Cert.AdamShortIdeal.main_arg3) = m ((c.tc : Thread Cert.AdamShortIdeal.nD Cert.AdamShortIdeal.τ).loc Cert.AdamShortIdeal.main_arg3))
      ∧ r.2.sem = fun _ => 0)

def quiescent_AdamShortReferenceIdeal [hAdamShortReferenceIdeal : Cert.AdamShortReferenceIdeal.Facts] : Prop :=
  ∀ (m : (ℓ : Loc Cert.AdamShortReferenceIdeal.nD Cert.AdamShortReferenceIdeal.τ Cert.AdamShortReferenceIdeal.sig) → Buf (Elt Ideal) ℓ) (g : Dev Cert.AdamShortReferenceIdeal.nD → PrngReg), Pre_AdamShortReferenceIdeal m →
    θ_run (Cert.AdamShortReferenceIdeal.defs (F := Ideal)) (onTc (τ := Cert.AdamShortReferenceIdeal.τ) (Cert.AdamShortReferenceIdeal.main (F := Ideal))) ⟨m, fun _ => 0, g⟩ (fun r => (∀ c : Dev Cert.AdamShortReferenceIdeal.nD,
      r.2.mem ((c.tc : Thread Cert.AdamShortReferenceIdeal.nD Cert.AdamShortReferenceIdeal.τ).loc Cert.AdamShortReferenceIdeal.main_arg0) = m ((c.tc : Thread Cert.AdamShortReferenceIdeal.nD Cert.AdamShortReferenceIdeal.τ).loc Cert.AdamShortReferenceIdeal.main_arg0)
      ∧ r.2.mem ((c.tc : Thread Cert.AdamShortReferenceIdeal.nD Cert.AdamShortReferenceIdeal.τ).loc Cert.AdamShortReferenceIdeal.main_arg1) = m ((c.tc : Thread Cert.AdamShortReferenceIdeal.nD Cert.AdamShortReferenceIdeal.τ).loc Cert.AdamShortReferenceIdeal.main_arg1)
      ∧ r.2.mem ((c.tc : Thread Cert.AdamShortReferenceIdeal.nD Cert.AdamShortReferenceIdeal.τ).loc Cert.AdamShortReferenceIdeal.main_arg2) = m ((c.tc : Thread Cert.AdamShortReferenceIdeal.nD Cert.AdamShortReferenceIdeal.τ).loc Cert.AdamShortReferenceIdeal.main_arg2)
      ∧ r.2.mem ((c.tc : Thread Cert.AdamShortReferenceIdeal.nD Cert.AdamShortReferenceIdeal.τ).loc Cert.AdamShortReferenceIdeal.main_arg3) = m ((c.tc : Thread Cert.AdamShortReferenceIdeal.nD Cert.AdamShortReferenceIdeal.τ).loc Cert.AdamShortReferenceIdeal.main_arg3))
      ∧ r.2.sem = fun _ => 0)

def quiescent_AdamLong [hAdamLong : Cert.AdamLong.Facts] : Prop :=
  ∀ (m : (ℓ : Loc Cert.AdamLong.nD Cert.AdamLong.τ Cert.AdamLong.sig) → Buf (Elt Bits) ℓ) (g : Dev Cert.AdamLong.nD → PrngReg), Pre_AdamLong m →
    θ_run (Cert.AdamLong.defs (F := Bits)) (onTc (τ := Cert.AdamLong.τ) (Cert.AdamLong.main (F := Bits))) ⟨m, fun _ => 0, g⟩ (fun r => (∀ c : Dev Cert.AdamLong.nD,
      r.2.mem ((c.tc : Thread Cert.AdamLong.nD Cert.AdamLong.τ).loc Cert.AdamLong.main_arg0) = m ((c.tc : Thread Cert.AdamLong.nD Cert.AdamLong.τ).loc Cert.AdamLong.main_arg0)
      ∧ r.2.mem ((c.tc : Thread Cert.AdamLong.nD Cert.AdamLong.τ).loc Cert.AdamLong.main_arg1) = m ((c.tc : Thread Cert.AdamLong.nD Cert.AdamLong.τ).loc Cert.AdamLong.main_arg1)
      ∧ r.2.mem ((c.tc : Thread Cert.AdamLong.nD Cert.AdamLong.τ).loc Cert.AdamLong.main_arg2) = m ((c.tc : Thread Cert.AdamLong.nD Cert.AdamLong.τ).loc Cert.AdamLong.main_arg2)
      ∧ r.2.mem ((c.tc : Thread Cert.AdamLong.nD Cert.AdamLong.τ).loc Cert.AdamLong.main_arg3) = m ((c.tc : Thread Cert.AdamLong.nD Cert.AdamLong.τ).loc Cert.AdamLong.main_arg3))
      ∧ r.2.sem = fun _ => 0)

def quiescent_AdamLongIdeal [hAdamLongIdeal : Cert.AdamLongIdeal.Facts] : Prop :=
  ∀ (m : (ℓ : Loc Cert.AdamLongIdeal.nD Cert.AdamLongIdeal.τ Cert.AdamLongIdeal.sig) → Buf (Elt Ideal) ℓ) (g : Dev Cert.AdamLongIdeal.nD → PrngReg), Pre_AdamLongIdeal m →
    θ_run (Cert.AdamLongIdeal.defs (F := Ideal)) (onTc (τ := Cert.AdamLongIdeal.τ) (Cert.AdamLongIdeal.main (F := Ideal))) ⟨m, fun _ => 0, g⟩ (fun r => (∀ c : Dev Cert.AdamLongIdeal.nD,
      r.2.mem ((c.tc : Thread Cert.AdamLongIdeal.nD Cert.AdamLongIdeal.τ).loc Cert.AdamLongIdeal.main_arg0) = m ((c.tc : Thread Cert.AdamLongIdeal.nD Cert.AdamLongIdeal.τ).loc Cert.AdamLongIdeal.main_arg0)
      ∧ r.2.mem ((c.tc : Thread Cert.AdamLongIdeal.nD Cert.AdamLongIdeal.τ).loc Cert.AdamLongIdeal.main_arg1) = m ((c.tc : Thread Cert.AdamLongIdeal.nD Cert.AdamLongIdeal.τ).loc Cert.AdamLongIdeal.main_arg1)
      ∧ r.2.mem ((c.tc : Thread Cert.AdamLongIdeal.nD Cert.AdamLongIdeal.τ).loc Cert.AdamLongIdeal.main_arg2) = m ((c.tc : Thread Cert.AdamLongIdeal.nD Cert.AdamLongIdeal.τ).loc Cert.AdamLongIdeal.main_arg2)
      ∧ r.2.mem ((c.tc : Thread Cert.AdamLongIdeal.nD Cert.AdamLongIdeal.τ).loc Cert.AdamLongIdeal.main_arg3) = m ((c.tc : Thread Cert.AdamLongIdeal.nD Cert.AdamLongIdeal.τ).loc Cert.AdamLongIdeal.main_arg3))
      ∧ r.2.sem = fun _ => 0)

def quiescent_AdamLongReferenceIdeal [hAdamLongReferenceIdeal : Cert.AdamLongReferenceIdeal.Facts] : Prop :=
  ∀ (m : (ℓ : Loc Cert.AdamLongReferenceIdeal.nD Cert.AdamLongReferenceIdeal.τ Cert.AdamLongReferenceIdeal.sig) → Buf (Elt Ideal) ℓ) (g : Dev Cert.AdamLongReferenceIdeal.nD → PrngReg), Pre_AdamLongReferenceIdeal m →
    θ_run (Cert.AdamLongReferenceIdeal.defs (F := Ideal)) (onTc (τ := Cert.AdamLongReferenceIdeal.τ) (Cert.AdamLongReferenceIdeal.main (F := Ideal))) ⟨m, fun _ => 0, g⟩ (fun r => (∀ c : Dev Cert.AdamLongReferenceIdeal.nD,
      r.2.mem ((c.tc : Thread Cert.AdamLongReferenceIdeal.nD Cert.AdamLongReferenceIdeal.τ).loc Cert.AdamLongReferenceIdeal.main_arg0) = m ((c.tc : Thread Cert.AdamLongReferenceIdeal.nD Cert.AdamLongReferenceIdeal.τ).loc Cert.AdamLongReferenceIdeal.main_arg0)
      ∧ r.2.mem ((c.tc : Thread Cert.AdamLongReferenceIdeal.nD Cert.AdamLongReferenceIdeal.τ).loc Cert.AdamLongReferenceIdeal.main_arg1) = m ((c.tc : Thread Cert.AdamLongReferenceIdeal.nD Cert.AdamLongReferenceIdeal.τ).loc Cert.AdamLongReferenceIdeal.main_arg1)
      ∧ r.2.mem ((c.tc : Thread Cert.AdamLongReferenceIdeal.nD Cert.AdamLongReferenceIdeal.τ).loc Cert.AdamLongReferenceIdeal.main_arg2) = m ((c.tc : Thread Cert.AdamLongReferenceIdeal.nD Cert.AdamLongReferenceIdeal.τ).loc Cert.AdamLongReferenceIdeal.main_arg2)
      ∧ r.2.mem ((c.tc : Thread Cert.AdamLongReferenceIdeal.nD Cert.AdamLongReferenceIdeal.τ).loc Cert.AdamLongReferenceIdeal.main_arg3) = m ((c.tc : Thread Cert.AdamLongReferenceIdeal.nD Cert.AdamLongReferenceIdeal.τ).loc Cert.AdamLongReferenceIdeal.main_arg3))
      ∧ r.2.sem = fun _ => 0)

def quiescent_AdamBias [hAdamBias : Cert.AdamBias.Facts] : Prop :=
  ∀ (m : (ℓ : Loc Cert.AdamBias.nD Cert.AdamBias.τ Cert.AdamBias.sig) → Buf (Elt Bits) ℓ) (g : Dev Cert.AdamBias.nD → PrngReg), Pre_AdamBias m →
    θ_run (Cert.AdamBias.defs (F := Bits)) (onTc (τ := Cert.AdamBias.τ) (Cert.AdamBias.main (F := Bits))) ⟨m, fun _ => 0, g⟩ (fun r => (∀ c : Dev Cert.AdamBias.nD,
      r.2.mem ((c.tc : Thread Cert.AdamBias.nD Cert.AdamBias.τ).loc Cert.AdamBias.main_arg0) = m ((c.tc : Thread Cert.AdamBias.nD Cert.AdamBias.τ).loc Cert.AdamBias.main_arg0)
      ∧ r.2.mem ((c.tc : Thread Cert.AdamBias.nD Cert.AdamBias.τ).loc Cert.AdamBias.main_arg1) = m ((c.tc : Thread Cert.AdamBias.nD Cert.AdamBias.τ).loc Cert.AdamBias.main_arg1)
      ∧ r.2.mem ((c.tc : Thread Cert.AdamBias.nD Cert.AdamBias.τ).loc Cert.AdamBias.main_arg2) = m ((c.tc : Thread Cert.AdamBias.nD Cert.AdamBias.τ).loc Cert.AdamBias.main_arg2)
      ∧ r.2.mem ((c.tc : Thread Cert.AdamBias.nD Cert.AdamBias.τ).loc Cert.AdamBias.main_arg3) = m ((c.tc : Thread Cert.AdamBias.nD Cert.AdamBias.τ).loc Cert.AdamBias.main_arg3))
      ∧ r.2.sem = fun _ => 0)

def quiescent_AdamBiasIdeal [hAdamBiasIdeal : Cert.AdamBiasIdeal.Facts] : Prop :=
  ∀ (m : (ℓ : Loc Cert.AdamBiasIdeal.nD Cert.AdamBiasIdeal.τ Cert.AdamBiasIdeal.sig) → Buf (Elt Ideal) ℓ) (g : Dev Cert.AdamBiasIdeal.nD → PrngReg), Pre_AdamBiasIdeal m →
    θ_run (Cert.AdamBiasIdeal.defs (F := Ideal)) (onTc (τ := Cert.AdamBiasIdeal.τ) (Cert.AdamBiasIdeal.main (F := Ideal))) ⟨m, fun _ => 0, g⟩ (fun r => (∀ c : Dev Cert.AdamBiasIdeal.nD,
      r.2.mem ((c.tc : Thread Cert.AdamBiasIdeal.nD Cert.AdamBiasIdeal.τ).loc Cert.AdamBiasIdeal.main_arg0) = m ((c.tc : Thread Cert.AdamBiasIdeal.nD Cert.AdamBiasIdeal.τ).loc Cert.AdamBiasIdeal.main_arg0)
      ∧ r.2.mem ((c.tc : Thread Cert.AdamBiasIdeal.nD Cert.AdamBiasIdeal.τ).loc Cert.AdamBiasIdeal.main_arg1) = m ((c.tc : Thread Cert.AdamBiasIdeal.nD Cert.AdamBiasIdeal.τ).loc Cert.AdamBiasIdeal.main_arg1)
      ∧ r.2.mem ((c.tc : Thread Cert.AdamBiasIdeal.nD Cert.AdamBiasIdeal.τ).loc Cert.AdamBiasIdeal.main_arg2) = m ((c.tc : Thread Cert.AdamBiasIdeal.nD Cert.AdamBiasIdeal.τ).loc Cert.AdamBiasIdeal.main_arg2)
      ∧ r.2.mem ((c.tc : Thread Cert.AdamBiasIdeal.nD Cert.AdamBiasIdeal.τ).loc Cert.AdamBiasIdeal.main_arg3) = m ((c.tc : Thread Cert.AdamBiasIdeal.nD Cert.AdamBiasIdeal.τ).loc Cert.AdamBiasIdeal.main_arg3))
      ∧ r.2.sem = fun _ => 0)

def quiescent_AdamBiasReferenceIdeal [hAdamBiasReferenceIdeal : Cert.AdamBiasReferenceIdeal.Facts] : Prop :=
  ∀ (m : (ℓ : Loc Cert.AdamBiasReferenceIdeal.nD Cert.AdamBiasReferenceIdeal.τ Cert.AdamBiasReferenceIdeal.sig) → Buf (Elt Ideal) ℓ) (g : Dev Cert.AdamBiasReferenceIdeal.nD → PrngReg), Pre_AdamBiasReferenceIdeal m →
    θ_run (Cert.AdamBiasReferenceIdeal.defs (F := Ideal)) (onTc (τ := Cert.AdamBiasReferenceIdeal.τ) (Cert.AdamBiasReferenceIdeal.main (F := Ideal))) ⟨m, fun _ => 0, g⟩ (fun r => (∀ c : Dev Cert.AdamBiasReferenceIdeal.nD,
      r.2.mem ((c.tc : Thread Cert.AdamBiasReferenceIdeal.nD Cert.AdamBiasReferenceIdeal.τ).loc Cert.AdamBiasReferenceIdeal.main_arg0) = m ((c.tc : Thread Cert.AdamBiasReferenceIdeal.nD Cert.AdamBiasReferenceIdeal.τ).loc Cert.AdamBiasReferenceIdeal.main_arg0)
      ∧ r.2.mem ((c.tc : Thread Cert.AdamBiasReferenceIdeal.nD Cert.AdamBiasReferenceIdeal.τ).loc Cert.AdamBiasReferenceIdeal.main_arg1) = m ((c.tc : Thread Cert.AdamBiasReferenceIdeal.nD Cert.AdamBiasReferenceIdeal.τ).loc Cert.AdamBiasReferenceIdeal.main_arg1)
      ∧ r.2.mem ((c.tc : Thread Cert.AdamBiasReferenceIdeal.nD Cert.AdamBiasReferenceIdeal.τ).loc Cert.AdamBiasReferenceIdeal.main_arg2) = m ((c.tc : Thread Cert.AdamBiasReferenceIdeal.nD Cert.AdamBiasReferenceIdeal.τ).loc Cert.AdamBiasReferenceIdeal.main_arg2)
      ∧ r.2.mem ((c.tc : Thread Cert.AdamBiasReferenceIdeal.nD Cert.AdamBiasReferenceIdeal.τ).loc Cert.AdamBiasReferenceIdeal.main_arg3) = m ((c.tc : Thread Cert.AdamBiasReferenceIdeal.nD Cert.AdamBiasReferenceIdeal.τ).loc Cert.AdamBiasReferenceIdeal.main_arg3))
      ∧ r.2.sem = fun _ => 0)

def quiescent_Att [hAtt : Cert.Att.Facts] : Prop :=
  ∀ (m : (ℓ : Loc Cert.Att.nD Cert.Att.τ Cert.Att.sig) → Buf (Elt Bits) ℓ) (g : Dev Cert.Att.nD → PrngReg), Pre_Att m →
    θ_run (Cert.Att.defs (F := Bits)) (onTc (τ := Cert.Att.τ) (Cert.Att.main (F := Bits))) ⟨m, fun _ => 0, g⟩ (fun r => (∀ c : Dev Cert.Att.nD,
      r.2.mem ((c.tc : Thread Cert.Att.nD Cert.Att.τ).loc Cert.Att.main_arg0) = m ((c.tc : Thread Cert.Att.nD Cert.Att.τ).loc Cert.Att.main_arg0))
      ∧ r.2.sem = fun _ => 0)

def quiescent_AttIdeal [hAttIdeal : Cert.AttIdeal.Facts] : Prop :=
  ∀ (m : (ℓ : Loc Cert.AttIdeal.nD Cert.AttIdeal.τ Cert.AttIdeal.sig) → Buf (Elt Ideal) ℓ) (g : Dev Cert.AttIdeal.nD → PrngReg), Pre_AttIdeal m →
    θ_run (Cert.AttIdeal.defs (F := Ideal)) (onTc (τ := Cert.AttIdeal.τ) (Cert.AttIdeal.main (F := Ideal))) ⟨m, fun _ => 0, g⟩ (fun r => (∀ c : Dev Cert.AttIdeal.nD,
      r.2.mem ((c.tc : Thread Cert.AttIdeal.nD Cert.AttIdeal.τ).loc Cert.AttIdeal.main_arg0) = m ((c.tc : Thread Cert.AttIdeal.nD Cert.AttIdeal.τ).loc Cert.AttIdeal.main_arg0))
      ∧ r.2.sem = fun _ => 0)

def quiescent_AttIdeal_pre_finite_qk [hAttIdeal : Cert.AttIdeal.Facts] [hPre_finite_qk : Cert.Pre_finite_qk.Facts] : Prop :=
  ∀ (m : (ℓ : Loc Cert.AttIdeal.nD Cert.AttIdeal.τ Cert.AttIdeal.sig) → Buf (Elt Ideal) ℓ) (g : Dev Cert.AttIdeal.nD → PrngReg), Pre_AttIdeal_finite_qk m →
    θ_run (Cert.AttIdeal.defs (F := Ideal)) (onTc (τ := Cert.AttIdeal.τ) (Cert.AttIdeal.main (F := Ideal))) ⟨m, fun _ => 0, g⟩ (fun r => (∀ c : Dev Cert.AttIdeal.nD,
      r.2.mem ((c.tc : Thread Cert.AttIdeal.nD Cert.AttIdeal.τ).loc Cert.AttIdeal.main_arg0) = m ((c.tc : Thread Cert.AttIdeal.nD Cert.AttIdeal.τ).loc Cert.AttIdeal.main_arg0))
      ∧ r.2.sem = fun _ => 0)

def quiescent_AttReferenceIdeal [hAttReferenceIdeal : Cert.AttReferenceIdeal.Facts] : Prop :=
  ∀ (m : (ℓ : Loc Cert.AttReferenceIdeal.nD Cert.AttReferenceIdeal.τ Cert.AttReferenceIdeal.sig) → Buf (Elt Ideal) ℓ) (g : Dev Cert.AttReferenceIdeal.nD → PrngReg), Pre_AttReferenceIdeal m →
    θ_run (Cert.AttReferenceIdeal.defs (F := Ideal)) (onTc (τ := Cert.AttReferenceIdeal.τ) (Cert.AttReferenceIdeal.main (F := Ideal))) ⟨m, fun _ => 0, g⟩ (fun r => (∀ c : Dev Cert.AttReferenceIdeal.nD,
      r.2.mem ((c.tc : Thread Cert.AttReferenceIdeal.nD Cert.AttReferenceIdeal.τ).loc Cert.AttReferenceIdeal.main_arg0) = m ((c.tc : Thread Cert.AttReferenceIdeal.nD Cert.AttReferenceIdeal.τ).loc Cert.AttReferenceIdeal.main_arg0))
      ∧ r.2.sem = fun _ => 0)

def quiescent_AttReferenceIdeal_pre_finite_qk [hAttReferenceIdeal : Cert.AttReferenceIdeal.Facts] [hPre_finite_qk : Cert.Pre_finite_qk.Facts] : Prop :=
  ∀ (m : (ℓ : Loc Cert.AttReferenceIdeal.nD Cert.AttReferenceIdeal.τ Cert.AttReferenceIdeal.sig) → Buf (Elt Ideal) ℓ) (g : Dev Cert.AttReferenceIdeal.nD → PrngReg), Pre_AttReferenceIdeal_finite_qk m →
    θ_run (Cert.AttReferenceIdeal.defs (F := Ideal)) (onTc (τ := Cert.AttReferenceIdeal.τ) (Cert.AttReferenceIdeal.main (F := Ideal))) ⟨m, fun _ => 0, g⟩ (fun r => (∀ c : Dev Cert.AttReferenceIdeal.nD,
      r.2.mem ((c.tc : Thread Cert.AttReferenceIdeal.nD Cert.AttReferenceIdeal.τ).loc Cert.AttReferenceIdeal.main_arg0) = m ((c.tc : Thread Cert.AttReferenceIdeal.nD Cert.AttReferenceIdeal.τ).loc Cert.AttReferenceIdeal.main_arg0))
      ∧ r.2.sem = fun _ => 0)

def quiescent_Rms [hRms : Cert.Rms.Facts] : Prop :=
  ∀ (m : (ℓ : Loc Cert.Rms.nD Cert.Rms.τ Cert.Rms.sig) → Buf (Elt Bits) ℓ) (g : Dev Cert.Rms.nD → PrngReg), Pre_Rms m →
    θ_run (Cert.Rms.defs (F := Bits)) (onTc (τ := Cert.Rms.τ) (Cert.Rms.main (F := Bits))) ⟨m, fun _ => 0, g⟩ (fun r => (∀ c : Dev Cert.Rms.nD,
      r.2.mem ((c.tc : Thread Cert.Rms.nD Cert.Rms.τ).loc Cert.Rms.main_arg0) = m ((c.tc : Thread Cert.Rms.nD Cert.Rms.τ).loc Cert.Rms.main_arg0)
      ∧ r.2.mem ((c.tc : Thread Cert.Rms.nD Cert.Rms.τ).loc Cert.Rms.main_arg1) = m ((c.tc : Thread Cert.Rms.nD Cert.Rms.τ).loc Cert.Rms.main_arg1))
      ∧ r.2.sem = fun _ => 0)

def quiescent_RmsIdeal [hRmsIdeal : Cert.RmsIdeal.Facts] : Prop :=
  ∀ (m : (ℓ : Loc Cert.RmsIdeal.nD Cert.RmsIdeal.τ Cert.RmsIdeal.sig) → Buf (Elt Ideal) ℓ) (g : Dev Cert.RmsIdeal.nD → PrngReg), Pre_RmsIdeal m →
    θ_run (Cert.RmsIdeal.defs (F := Ideal)) (onTc (τ := Cert.RmsIdeal.τ) (Cert.RmsIdeal.main (F := Ideal))) ⟨m, fun _ => 0, g⟩ (fun r => (∀ c : Dev Cert.RmsIdeal.nD,
      r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
      ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1))
      ∧ r.2.sem = fun _ => 0)

def quiescent_RmsReferenceIdeal [hRmsReferenceIdeal : Cert.RmsReferenceIdeal.Facts] : Prop :=
  ∀ (m : (ℓ : Loc Cert.RmsReferenceIdeal.nD Cert.RmsReferenceIdeal.τ Cert.RmsReferenceIdeal.sig) → Buf (Elt Ideal) ℓ) (g : Dev Cert.RmsReferenceIdeal.nD → PrngReg), Pre_RmsReferenceIdeal m →
    θ_run (Cert.RmsReferenceIdeal.defs (F := Ideal)) (onTc (τ := Cert.RmsReferenceIdeal.τ) (Cert.RmsReferenceIdeal.main (F := Ideal))) ⟨m, fun _ => 0, g⟩ (fun r => (∀ c : Dev Cert.RmsReferenceIdeal.nD,
      r.2.mem ((c.tc : Thread Cert.RmsReferenceIdeal.nD Cert.RmsReferenceIdeal.τ).loc Cert.RmsReferenceIdeal.main_arg0) = m ((c.tc : Thread Cert.RmsReferenceIdeal.nD Cert.RmsReferenceIdeal.τ).loc Cert.RmsReferenceIdeal.main_arg0)
      ∧ r.2.mem ((c.tc : Thread Cert.RmsReferenceIdeal.nD Cert.RmsReferenceIdeal.τ).loc Cert.RmsReferenceIdeal.main_arg1) = m ((c.tc : Thread Cert.RmsReferenceIdeal.nD Cert.RmsReferenceIdeal.τ).loc Cert.RmsReferenceIdeal.main_arg1))
      ∧ r.2.sem = fun _ => 0)

def quiescent_OddRows [hOddRows : Cert.OddRows.Facts] : Prop :=
  ∀ (m : (ℓ : Loc Cert.OddRows.nD Cert.OddRows.τ Cert.OddRows.sig) → Buf (Elt Bits) ℓ) (g : Dev Cert.OddRows.nD → PrngReg), Pre_OddRows m →
    θ_run (Cert.OddRows.defs (F := Bits)) (onTc (τ := Cert.OddRows.τ) (Cert.OddRows.main (F := Bits))) ⟨m, fun _ => 0, g⟩ (fun r => (∀ c : Dev Cert.OddRows.nD,
      r.2.mem ((c.tc : Thread Cert.OddRows.nD Cert.OddRows.τ).loc Cert.OddRows.main_arg0) = m ((c.tc : Thread Cert.OddRows.nD Cert.OddRows.τ).loc Cert.OddRows.main_arg0)
      ∧ r.2.mem ((c.tc : Thread Cert.OddRows.nD Cert.OddRows.τ).loc Cert.OddRows.main_arg1) = m ((c.tc : Thread Cert.OddRows.nD Cert.OddRows.τ).loc Cert.OddRows.main_arg1)
      ∧ r.2.mem ((c.tc : Thread Cert.OddRows.nD Cert.OddRows.τ).loc Cert.OddRows.main_arg2) = m ((c.tc : Thread Cert.OddRows.nD Cert.OddRows.τ).loc Cert.OddRows.main_arg2)
      ∧ r.2.mem ((c.tc : Thread Cert.OddRows.nD Cert.OddRows.τ).loc Cert.OddRows.main_arg3) = m ((c.tc : Thread Cert.OddRows.nD Cert.OddRows.τ).loc Cert.OddRows.main_arg3)
      ∧ r.2.mem ((c.tc : Thread Cert.OddRows.nD Cert.OddRows.τ).loc Cert.OddRows.main_arg4) = m ((c.tc : Thread Cert.OddRows.nD Cert.OddRows.τ).loc Cert.OddRows.main_arg4)
      ∧ r.2.mem ((c.tc : Thread Cert.OddRows.nD Cert.OddRows.τ).loc Cert.OddRows.main_arg5) = m ((c.tc : Thread Cert.OddRows.nD Cert.OddRows.τ).loc Cert.OddRows.main_arg5))
      ∧ r.2.sem = fun _ => 0)

def quiescent_OddRowsIdeal [hOddRowsIdeal : Cert.OddRowsIdeal.Facts] : Prop :=
  ∀ (m : (ℓ : Loc Cert.OddRowsIdeal.nD Cert.OddRowsIdeal.τ Cert.OddRowsIdeal.sig) → Buf (Elt Ideal) ℓ) (g : Dev Cert.OddRowsIdeal.nD → PrngReg), Pre_OddRowsIdeal m →
    θ_run (Cert.OddRowsIdeal.defs (F := Ideal)) (onTc (τ := Cert.OddRowsIdeal.τ) (Cert.OddRowsIdeal.main (F := Ideal))) ⟨m, fun _ => 0, g⟩ (fun r => (∀ c : Dev Cert.OddRowsIdeal.nD,
      r.2.mem ((c.tc : Thread Cert.OddRowsIdeal.nD Cert.OddRowsIdeal.τ).loc Cert.OddRowsIdeal.main_arg0) = m ((c.tc : Thread Cert.OddRowsIdeal.nD Cert.OddRowsIdeal.τ).loc Cert.OddRowsIdeal.main_arg0)
      ∧ r.2.mem ((c.tc : Thread Cert.OddRowsIdeal.nD Cert.OddRowsIdeal.τ).loc Cert.OddRowsIdeal.main_arg1) = m ((c.tc : Thread Cert.OddRowsIdeal.nD Cert.OddRowsIdeal.τ).loc Cert.OddRowsIdeal.main_arg1)
      ∧ r.2.mem ((c.tc : Thread Cert.OddRowsIdeal.nD Cert.OddRowsIdeal.τ).loc Cert.OddRowsIdeal.main_arg2) = m ((c.tc : Thread Cert.OddRowsIdeal.nD Cert.OddRowsIdeal.τ).loc Cert.OddRowsIdeal.main_arg2)
      ∧ r.2.mem ((c.tc : Thread Cert.OddRowsIdeal.nD Cert.OddRowsIdeal.τ).loc Cert.OddRowsIdeal.main_arg3) = m ((c.tc : Thread Cert.OddRowsIdeal.nD Cert.OddRowsIdeal.τ).loc Cert.OddRowsIdeal.main_arg3)
      ∧ r.2.mem ((c.tc : Thread Cert.OddRowsIdeal.nD Cert.OddRowsIdeal.τ).loc Cert.OddRowsIdeal.main_arg4) = m ((c.tc : Thread Cert.OddRowsIdeal.nD Cert.OddRowsIdeal.τ).loc Cert.OddRowsIdeal.main_arg4)
      ∧ r.2.mem ((c.tc : Thread Cert.OddRowsIdeal.nD Cert.OddRowsIdeal.τ).loc Cert.OddRowsIdeal.main_arg5) = m ((c.tc : Thread Cert.OddRowsIdeal.nD Cert.OddRowsIdeal.τ).loc Cert.OddRowsIdeal.main_arg5))
      ∧ r.2.sem = fun _ => 0)

def quiescent_OddRowsIdeal_pre_finite_rows [hOddRowsIdeal : Cert.OddRowsIdeal.Facts] [hPre_finite_rows : Cert.Pre_finite_rows.Facts] : Prop :=
  ∀ (m : (ℓ : Loc Cert.OddRowsIdeal.nD Cert.OddRowsIdeal.τ Cert.OddRowsIdeal.sig) → Buf (Elt Ideal) ℓ) (g : Dev Cert.OddRowsIdeal.nD → PrngReg), Pre_OddRowsIdeal_finite_rows m →
    θ_run (Cert.OddRowsIdeal.defs (F := Ideal)) (onTc (τ := Cert.OddRowsIdeal.τ) (Cert.OddRowsIdeal.main (F := Ideal))) ⟨m, fun _ => 0, g⟩ (fun r => (∀ c : Dev Cert.OddRowsIdeal.nD,
      r.2.mem ((c.tc : Thread Cert.OddRowsIdeal.nD Cert.OddRowsIdeal.τ).loc Cert.OddRowsIdeal.main_arg0) = m ((c.tc : Thread Cert.OddRowsIdeal.nD Cert.OddRowsIdeal.τ).loc Cert.OddRowsIdeal.main_arg0)
      ∧ r.2.mem ((c.tc : Thread Cert.OddRowsIdeal.nD Cert.OddRowsIdeal.τ).loc Cert.OddRowsIdeal.main_arg1) = m ((c.tc : Thread Cert.OddRowsIdeal.nD Cert.OddRowsIdeal.τ).loc Cert.OddRowsIdeal.main_arg1)
      ∧ r.2.mem ((c.tc : Thread Cert.OddRowsIdeal.nD Cert.OddRowsIdeal.τ).loc Cert.OddRowsIdeal.main_arg2) = m ((c.tc : Thread Cert.OddRowsIdeal.nD Cert.OddRowsIdeal.τ).loc Cert.OddRowsIdeal.main_arg2)
      ∧ r.2.mem ((c.tc : Thread Cert.OddRowsIdeal.nD Cert.OddRowsIdeal.τ).loc Cert.OddRowsIdeal.main_arg3) = m ((c.tc : Thread Cert.OddRowsIdeal.nD Cert.OddRowsIdeal.τ).loc Cert.OddRowsIdeal.main_arg3)
      ∧ r.2.mem ((c.tc : Thread Cert.OddRowsIdeal.nD Cert.OddRowsIdeal.τ).loc Cert.OddRowsIdeal.main_arg4) = m ((c.tc : Thread Cert.OddRowsIdeal.nD Cert.OddRowsIdeal.τ).loc Cert.OddRowsIdeal.main_arg4)
      ∧ r.2.mem ((c.tc : Thread Cert.OddRowsIdeal.nD Cert.OddRowsIdeal.τ).loc Cert.OddRowsIdeal.main_arg5) = m ((c.tc : Thread Cert.OddRowsIdeal.nD Cert.OddRowsIdeal.τ).loc Cert.OddRowsIdeal.main_arg5))
      ∧ r.2.sem = fun _ => 0)

def quiescent_OddRowsReferenceIdeal [hOddRowsReferenceIdeal : Cert.OddRowsReferenceIdeal.Facts] : Prop :=
  ∀ (m : (ℓ : Loc Cert.OddRowsReferenceIdeal.nD Cert.OddRowsReferenceIdeal.τ Cert.OddRowsReferenceIdeal.sig) → Buf (Elt Ideal) ℓ) (g : Dev Cert.OddRowsReferenceIdeal.nD → PrngReg), Pre_OddRowsReferenceIdeal m →
    θ_run (Cert.OddRowsReferenceIdeal.defs (F := Ideal)) (onTc (τ := Cert.OddRowsReferenceIdeal.τ) (Cert.OddRowsReferenceIdeal.main (F := Ideal))) ⟨m, fun _ => 0, g⟩ (fun r => (∀ c : Dev Cert.OddRowsReferenceIdeal.nD,
      r.2.mem ((c.tc : Thread Cert.OddRowsReferenceIdeal.nD Cert.OddRowsReferenceIdeal.τ).loc Cert.OddRowsReferenceIdeal.main_arg0) = m ((c.tc : Thread Cert.OddRowsReferenceIdeal.nD Cert.OddRowsReferenceIdeal.τ).loc Cert.OddRowsReferenceIdeal.main_arg0)
      ∧ r.2.mem ((c.tc : Thread Cert.OddRowsReferenceIdeal.nD Cert.OddRowsReferenceIdeal.τ).loc Cert.OddRowsReferenceIdeal.main_arg1) = m ((c.tc : Thread Cert.OddRowsReferenceIdeal.nD Cert.OddRowsReferenceIdeal.τ).loc Cert.OddRowsReferenceIdeal.main_arg1)
      ∧ r.2.mem ((c.tc : Thread Cert.OddRowsReferenceIdeal.nD Cert.OddRowsReferenceIdeal.τ).loc Cert.OddRowsReferenceIdeal.main_arg2) = m ((c.tc : Thread Cert.OddRowsReferenceIdeal.nD Cert.OddRowsReferenceIdeal.τ).loc Cert.OddRowsReferenceIdeal.main_arg2)
      ∧ r.2.mem ((c.tc : Thread Cert.OddRowsReferenceIdeal.nD Cert.OddRowsReferenceIdeal.τ).loc Cert.OddRowsReferenceIdeal.main_arg3) = m ((c.tc : Thread Cert.OddRowsReferenceIdeal.nD Cert.OddRowsReferenceIdeal.τ).loc Cert.OddRowsReferenceIdeal.main_arg3)
      ∧ r.2.mem ((c.tc : Thread Cert.OddRowsReferenceIdeal.nD Cert.OddRowsReferenceIdeal.τ).loc Cert.OddRowsReferenceIdeal.main_arg4) = m ((c.tc : Thread Cert.OddRowsReferenceIdeal.nD Cert.OddRowsReferenceIdeal.τ).loc Cert.OddRowsReferenceIdeal.main_arg4)
      ∧ r.2.mem ((c.tc : Thread Cert.OddRowsReferenceIdeal.nD Cert.OddRowsReferenceIdeal.τ).loc Cert.OddRowsReferenceIdeal.main_arg5) = m ((c.tc : Thread Cert.OddRowsReferenceIdeal.nD Cert.OddRowsReferenceIdeal.τ).loc Cert.OddRowsReferenceIdeal.main_arg5))
      ∧ r.2.sem = fun _ => 0)

def quiescent_OddRowsReferenceIdeal_pre_finite_rows [hOddRowsReferenceIdeal : Cert.OddRowsReferenceIdeal.Facts] [hPre_finite_rows : Cert.Pre_finite_rows.Facts] : Prop :=
  ∀ (m : (ℓ : Loc Cert.OddRowsReferenceIdeal.nD Cert.OddRowsReferenceIdeal.τ Cert.OddRowsReferenceIdeal.sig) → Buf (Elt Ideal) ℓ) (g : Dev Cert.OddRowsReferenceIdeal.nD → PrngReg), Pre_OddRowsReferenceIdeal_finite_rows m →
    θ_run (Cert.OddRowsReferenceIdeal.defs (F := Ideal)) (onTc (τ := Cert.OddRowsReferenceIdeal.τ) (Cert.OddRowsReferenceIdeal.main (F := Ideal))) ⟨m, fun _ => 0, g⟩ (fun r => (∀ c : Dev Cert.OddRowsReferenceIdeal.nD,
      r.2.mem ((c.tc : Thread Cert.OddRowsReferenceIdeal.nD Cert.OddRowsReferenceIdeal.τ).loc Cert.OddRowsReferenceIdeal.main_arg0) = m ((c.tc : Thread Cert.OddRowsReferenceIdeal.nD Cert.OddRowsReferenceIdeal.τ).loc Cert.OddRowsReferenceIdeal.main_arg0)
      ∧ r.2.mem ((c.tc : Thread Cert.OddRowsReferenceIdeal.nD Cert.OddRowsReferenceIdeal.τ).loc Cert.OddRowsReferenceIdeal.main_arg1) = m ((c.tc : Thread Cert.OddRowsReferenceIdeal.nD Cert.OddRowsReferenceIdeal.τ).loc Cert.OddRowsReferenceIdeal.main_arg1)
      ∧ r.2.mem ((c.tc : Thread Cert.OddRowsReferenceIdeal.nD Cert.OddRowsReferenceIdeal.τ).loc Cert.OddRowsReferenceIdeal.main_arg2) = m ((c.tc : Thread Cert.OddRowsReferenceIdeal.nD Cert.OddRowsReferenceIdeal.τ).loc Cert.OddRowsReferenceIdeal.main_arg2)
      ∧ r.2.mem ((c.tc : Thread Cert.OddRowsReferenceIdeal.nD Cert.OddRowsReferenceIdeal.τ).loc Cert.OddRowsReferenceIdeal.main_arg3) = m ((c.tc : Thread Cert.OddRowsReferenceIdeal.nD Cert.OddRowsReferenceIdeal.τ).loc Cert.OddRowsReferenceIdeal.main_arg3)
      ∧ r.2.mem ((c.tc : Thread Cert.OddRowsReferenceIdeal.nD Cert.OddRowsReferenceIdeal.τ).loc Cert.OddRowsReferenceIdeal.main_arg4) = m ((c.tc : Thread Cert.OddRowsReferenceIdeal.nD Cert.OddRowsReferenceIdeal.τ).loc Cert.OddRowsReferenceIdeal.main_arg4)
      ∧ r.2.mem ((c.tc : Thread Cert.OddRowsReferenceIdeal.nD Cert.OddRowsReferenceIdeal.τ).loc Cert.OddRowsReferenceIdeal.main_arg5) = m ((c.tc : Thread Cert.OddRowsReferenceIdeal.nD Cert.OddRowsReferenceIdeal.τ).loc Cert.OddRowsReferenceIdeal.main_arg5))
      ∧ r.2.sem = fun _ => 0)

def quiescent_EvenMix [hEvenMix : Cert.EvenMix.Facts] : Prop :=
  ∀ (m : (ℓ : Loc Cert.EvenMix.nD Cert.EvenMix.τ Cert.EvenMix.sig) → Buf (Elt Bits) ℓ) (g : Dev Cert.EvenMix.nD → PrngReg), Pre_EvenMix m →
    θ_run (Cert.EvenMix.defs (F := Bits)) (onTc (τ := Cert.EvenMix.τ) (Cert.EvenMix.main (F := Bits))) ⟨m, fun _ => 0, g⟩ (fun r => (∀ c : Dev Cert.EvenMix.nD,
      r.2.mem ((c.tc : Thread Cert.EvenMix.nD Cert.EvenMix.τ).loc Cert.EvenMix.main_arg0) = m ((c.tc : Thread Cert.EvenMix.nD Cert.EvenMix.τ).loc Cert.EvenMix.main_arg0)
      ∧ r.2.mem ((c.tc : Thread Cert.EvenMix.nD Cert.EvenMix.τ).loc Cert.EvenMix.main_arg1) = m ((c.tc : Thread Cert.EvenMix.nD Cert.EvenMix.τ).loc Cert.EvenMix.main_arg1)
      ∧ r.2.mem ((c.tc : Thread Cert.EvenMix.nD Cert.EvenMix.τ).loc Cert.EvenMix.main_arg2) = m ((c.tc : Thread Cert.EvenMix.nD Cert.EvenMix.τ).loc Cert.EvenMix.main_arg2)
      ∧ r.2.mem ((c.tc : Thread Cert.EvenMix.nD Cert.EvenMix.τ).loc Cert.EvenMix.main_arg3) = m ((c.tc : Thread Cert.EvenMix.nD Cert.EvenMix.τ).loc Cert.EvenMix.main_arg3))
      ∧ r.2.sem = fun _ => 0)

def quiescent_EvenMixIdeal [hEvenMixIdeal : Cert.EvenMixIdeal.Facts] : Prop :=
  ∀ (m : (ℓ : Loc Cert.EvenMixIdeal.nD Cert.EvenMixIdeal.τ Cert.EvenMixIdeal.sig) → Buf (Elt Ideal) ℓ) (g : Dev Cert.EvenMixIdeal.nD → PrngReg), Pre_EvenMixIdeal m →
    θ_run (Cert.EvenMixIdeal.defs (F := Ideal)) (onTc (τ := Cert.EvenMixIdeal.τ) (Cert.EvenMixIdeal.main (F := Ideal))) ⟨m, fun _ => 0, g⟩ (fun r => (∀ c : Dev Cert.EvenMixIdeal.nD,
      r.2.mem ((c.tc : Thread Cert.EvenMixIdeal.nD Cert.EvenMixIdeal.τ).loc Cert.EvenMixIdeal.main_arg0) = m ((c.tc : Thread Cert.EvenMixIdeal.nD Cert.EvenMixIdeal.τ).loc Cert.EvenMixIdeal.main_arg0)
      ∧ r.2.mem ((c.tc : Thread Cert.EvenMixIdeal.nD Cert.EvenMixIdeal.τ).loc Cert.EvenMixIdeal.main_arg1) = m ((c.tc : Thread Cert.EvenMixIdeal.nD Cert.EvenMixIdeal.τ).loc Cert.EvenMixIdeal.main_arg1)
      ∧ r.2.mem ((c.tc : Thread Cert.EvenMixIdeal.nD Cert.EvenMixIdeal.τ).loc Cert.EvenMixIdeal.main_arg2) = m ((c.tc : Thread Cert.EvenMixIdeal.nD Cert.EvenMixIdeal.τ).loc Cert.EvenMixIdeal.main_arg2)
      ∧ r.2.mem ((c.tc : Thread Cert.EvenMixIdeal.nD Cert.EvenMixIdeal.τ).loc Cert.EvenMixIdeal.main_arg3) = m ((c.tc : Thread Cert.EvenMixIdeal.nD Cert.EvenMixIdeal.τ).loc Cert.EvenMixIdeal.main_arg3))
      ∧ r.2.sem = fun _ => 0)

def quiescent_EvenMixReferenceIdeal [hEvenMixReferenceIdeal : Cert.EvenMixReferenceIdeal.Facts] : Prop :=
  ∀ (m : (ℓ : Loc Cert.EvenMixReferenceIdeal.nD Cert.EvenMixReferenceIdeal.τ Cert.EvenMixReferenceIdeal.sig) → Buf (Elt Ideal) ℓ) (g : Dev Cert.EvenMixReferenceIdeal.nD → PrngReg), Pre_EvenMixReferenceIdeal m →
    θ_run (Cert.EvenMixReferenceIdeal.defs (F := Ideal)) (onTc (τ := Cert.EvenMixReferenceIdeal.τ) (Cert.EvenMixReferenceIdeal.main (F := Ideal))) ⟨m, fun _ => 0, g⟩ (fun r => (∀ c : Dev Cert.EvenMixReferenceIdeal.nD,
      r.2.mem ((c.tc : Thread Cert.EvenMixReferenceIdeal.nD Cert.EvenMixReferenceIdeal.τ).loc Cert.EvenMixReferenceIdeal.main_arg0) = m ((c.tc : Thread Cert.EvenMixReferenceIdeal.nD Cert.EvenMixReferenceIdeal.τ).loc Cert.EvenMixReferenceIdeal.main_arg0)
      ∧ r.2.mem ((c.tc : Thread Cert.EvenMixReferenceIdeal.nD Cert.EvenMixReferenceIdeal.τ).loc Cert.EvenMixReferenceIdeal.main_arg1) = m ((c.tc : Thread Cert.EvenMixReferenceIdeal.nD Cert.EvenMixReferenceIdeal.τ).loc Cert.EvenMixReferenceIdeal.main_arg1)
      ∧ r.2.mem ((c.tc : Thread Cert.EvenMixReferenceIdeal.nD Cert.EvenMixReferenceIdeal.τ).loc Cert.EvenMixReferenceIdeal.main_arg2) = m ((c.tc : Thread Cert.EvenMixReferenceIdeal.nD Cert.EvenMixReferenceIdeal.τ).loc Cert.EvenMixReferenceIdeal.main_arg2)
      ∧ r.2.mem ((c.tc : Thread Cert.EvenMixReferenceIdeal.nD Cert.EvenMixReferenceIdeal.τ).loc Cert.EvenMixReferenceIdeal.main_arg3) = m ((c.tc : Thread Cert.EvenMixReferenceIdeal.nD Cert.EvenMixReferenceIdeal.τ).loc Cert.EvenMixReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v22_0)) (v1 : (c : Dev Cert.KernelIdeal.nD) → Buf (Elt Ideal) ((c.tc : Thread Cert.KernelIdeal.nD Cert.KernelIdeal.τ).loc Cert.KernelIdeal.main_v22_1)) (v2 : (c : Dev Cert.KernelIdeal.nD) → Buf (Elt Ideal) ((c.tc : Thread Cert.KernelIdeal.nD Cert.KernelIdeal.τ).loc Cert.KernelIdeal.main_v22_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22_0) = v0 c
          ∧ r.2.mem ((c.tc : Thread Cert.KernelIdeal.nD Cert.KernelIdeal.τ).loc Cert.KernelIdeal.main_v22_1) = v1 c
          ∧ r.2.mem ((c.tc : Thread Cert.KernelIdeal.nD Cert.KernelIdeal.τ).loc Cert.KernelIdeal.main_v22_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_v54) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Dx_DxIdeal : Prop :=
  True

def algebraic_DxIdeal_DxReferenceIdeal [hDxIdeal : Cert.DxIdeal.Facts] [hDxReferenceIdeal : Cert.DxReferenceIdeal.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxReferenceIdeal.nD Cert.DxReferenceIdeal.τ Cert.DxReferenceIdeal.sig) → Buf (Elt Ideal) ℓ) (g' : Dev Cert.DxReferenceIdeal.nD → PrngReg), Pre_DxIdeal m →
    (∀ c : Dev Cert.DxIdeal.nD,
      m' ((c.tc : Thread Cert.DxReferenceIdeal.nD Cert.DxReferenceIdeal.τ).loc Cert.DxReferenceIdeal.main_arg0) = m ((c.tc : Thread Cert.DxIdeal.nD Cert.DxIdeal.τ).loc Cert.DxIdeal.main_arg0)
      ∧ m' ((c.tc : Thread Cert.DxReferenceIdeal.nD Cert.DxReferenceIdeal.τ).loc Cert.DxReferenceIdeal.main_arg1) = m ((c.tc : Thread Cert.DxIdeal.nD Cert.DxIdeal.τ).loc Cert.DxIdeal.main_arg1)
      ∧ m' ((c.tc : Thread Cert.DxReferenceIdeal.nD Cert.DxReferenceIdeal.τ).loc Cert.DxReferenceIdeal.main_arg2) = m ((c.tc : Thread Cert.DxIdeal.nD Cert.DxIdeal.τ).loc Cert.DxIdeal.main_arg2)
      ∧ m' ((c.tc : Thread Cert.DxReferenceIdeal.nD Cert.DxReferenceIdeal.τ).loc Cert.DxReferenceIdeal.main_arg3) = m ((c.tc : Thread Cert.DxIdeal.nD Cert.DxIdeal.τ).loc Cert.DxIdeal.main_arg3)
      ∧ m' ((c.tc : Thread Cert.DxReferenceIdeal.nD Cert.DxReferenceIdeal.τ).loc Cert.DxReferenceIdeal.main_arg4) = m ((c.tc : Thread Cert.DxIdeal.nD Cert.DxIdeal.τ).loc Cert.DxIdeal.main_arg4)
      ∧ m' ((c.tc : Thread Cert.DxReferenceIdeal.nD Cert.DxReferenceIdeal.τ).loc Cert.DxReferenceIdeal.main_arg5) = m ((c.tc : Thread Cert.DxIdeal.nD Cert.DxIdeal.τ).loc Cert.DxIdeal.main_arg5)
      ∧ m' ((c.tc : Thread Cert.DxReferenceIdeal.nD Cert.DxReferenceIdeal.τ).loc Cert.DxReferenceIdeal.main_arg6) = m ((c.tc : Thread Cert.DxIdeal.nD Cert.DxIdeal.τ).loc Cert.DxIdeal.main_arg6)) →
    ∃ (v0 : (c : Dev Cert.DxIdeal.nD) → Buf (Elt Ideal) ((c.tc : Thread Cert.DxIdeal.nD Cert.DxIdeal.τ).loc Cert.DxIdeal.main_v0_0)) (v1 : (c : Dev Cert.DxIdeal.nD) → Buf (Elt Ideal) ((c.tc : Thread Cert.DxIdeal.nD Cert.DxIdeal.τ).loc Cert.DxIdeal.main_v0_1)) (v2 : (c : Dev Cert.DxIdeal.nD) → Buf (Elt Ideal) ((c.tc : Thread Cert.DxIdeal.nD Cert.DxIdeal.τ).loc Cert.DxIdeal.main_v0_2)) (v3 : (c : Dev Cert.DxIdeal.nD) → Buf (Elt Ideal) ((c.tc : Thread Cert.DxIdeal.nD Cert.DxIdeal.τ).loc Cert.DxIdeal.main_v0_3)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v0_0) = v0 c
          ∧ r.2.mem ((c.tc : Thread Cert.DxIdeal.nD Cert.DxIdeal.τ).loc Cert.DxIdeal.main_v0_1) = v1 c
          ∧ r.2.mem ((c.tc : Thread Cert.DxIdeal.nD Cert.DxIdeal.τ).loc Cert.DxIdeal.main_v0_2) = v2 c
          ∧ r.2.mem ((c.tc : Thread Cert.DxIdeal.nD Cert.DxIdeal.τ).loc Cert.DxIdeal.main_v0_3) = v3 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
          ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
          ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
          ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
          ∧ r.2.mem ((c.tc : Thread Cert.DxIdeal.nD Cert.DxIdeal.τ).loc Cert.DxIdeal.main_arg5) = m ((c.tc : Thread Cert.DxIdeal.nD Cert.DxIdeal.τ).loc Cert.DxIdeal.main_arg5)
          ∧ r.2.mem ((c.tc : Thread Cert.DxIdeal.nD Cert.DxIdeal.τ).loc Cert.DxIdeal.main_arg6) = m ((c.tc : Thread Cert.DxIdeal.nD Cert.DxIdeal.τ).loc Cert.DxIdeal.main_arg6))
      ∧ θ_run (Cert.DxReferenceIdeal.defs (F := Ideal)) (onTc (τ := Cert.DxReferenceIdeal.τ) (Cert.DxReferenceIdeal.main (F := Ideal))) ⟨m', fun _ => 0, g'⟩ (fun r => ∀ c : Dev Cert.DxReferenceIdeal.nD,
          r.2.mem ((c.tc : Thread Cert.DxReferenceIdeal.nD Cert.DxReferenceIdeal.τ).loc Cert.DxReferenceIdeal.main_v40) = v0 c
          ∧ r.2.mem ((c.tc : Thread Cert.DxReferenceIdeal.nD Cert.DxReferenceIdeal.τ).loc Cert.DxReferenceIdeal.main_v23) = v1 c
          ∧ r.2.mem ((c.tc : Thread Cert.DxReferenceIdeal.nD Cert.DxReferenceIdeal.τ).loc Cert.DxReferenceIdeal.main_v75) = v2 c
          ∧ r.2.mem ((c.tc : Thread Cert.DxReferenceIdeal.nD Cert.DxReferenceIdeal.τ).loc Cert.DxReferenceIdeal.main_v58) = v3 c
          ∧ r.2.mem ((c.tc : Thread Cert.DxReferenceIdeal.nD Cert.DxReferenceIdeal.τ).loc Cert.DxReferenceIdeal.main_arg0) = m' ((c.tc : Thread Cert.DxReferenceIdeal.nD Cert.DxReferenceIdeal.τ).loc Cert.DxReferenceIdeal.main_arg0)
          ∧ r.2.mem ((c.tc : Thread Cert.DxReferenceIdeal.nD Cert.DxReferenceIdeal.τ).loc Cert.DxReferenceIdeal.main_arg1) = m' ((c.tc : Thread Cert.DxReferenceIdeal.nD Cert.DxReferenceIdeal.τ).loc Cert.DxReferenceIdeal.main_arg1)
          ∧ r.2.mem ((c.tc : Thread Cert.DxReferenceIdeal.nD Cert.DxReferenceIdeal.τ).loc Cert.DxReferenceIdeal.main_arg2) = m' ((c.tc : Thread Cert.DxReferenceIdeal.nD Cert.DxReferenceIdeal.τ).loc Cert.DxReferenceIdeal.main_arg2)
          ∧ r.2.mem ((c.tc : Thread Cert.DxReferenceIdeal.nD Cert.DxReferenceIdeal.τ).loc Cert.DxReferenceIdeal.main_arg3) = m' ((c.tc : Thread Cert.DxReferenceIdeal.nD Cert.DxReferenceIdeal.τ).loc Cert.DxReferenceIdeal.main_arg3)
          ∧ r.2.mem ((c.tc : Thread Cert.DxReferenceIdeal.nD Cert.DxReferenceIdeal.τ).loc Cert.DxReferenceIdeal.main_arg4) = m' ((c.tc : Thread Cert.DxReferenceIdeal.nD Cert.DxReferenceIdeal.τ).loc Cert.DxReferenceIdeal.main_arg4)
          ∧ r.2.mem ((c.tc : Thread Cert.DxReferenceIdeal.nD Cert.DxReferenceIdeal.τ).loc Cert.DxReferenceIdeal.main_arg5) = m' ((c.tc : Thread Cert.DxReferenceIdeal.nD Cert.DxReferenceIdeal.τ).loc Cert.DxReferenceIdeal.main_arg5)
          ∧ r.2.mem ((c.tc : Thread Cert.DxReferenceIdeal.nD Cert.DxReferenceIdeal.τ).loc Cert.DxReferenceIdeal.main_arg6) = m' ((c.tc : Thread Cert.DxReferenceIdeal.nD Cert.DxReferenceIdeal.τ).loc Cert.DxReferenceIdeal.main_arg6))

def preserves_DxEven_DxEvenIdeal : Prop :=
  True

def algebraic_DxEvenIdeal_DxEvenReferenceIdeal [hDxEvenIdeal : Cert.DxEvenIdeal.Facts] [hDxEvenReferenceIdeal : Cert.DxEvenReferenceIdeal.Facts] : Prop :=
  ∀ (m : (ℓ : Loc Cert.DxEvenIdeal.nD Cert.DxEvenIdeal.τ Cert.DxEvenIdeal.sig) → Buf (Elt Ideal) ℓ) (g : Dev Cert.DxEvenIdeal.nD → PrngReg)
    (m' : (ℓ : Loc Cert.DxEvenReferenceIdeal.nD Cert.DxEvenReferenceIdeal.τ Cert.DxEvenReferenceIdeal.sig) → Buf (Elt Ideal) ℓ) (g' : Dev Cert.DxEvenReferenceIdeal.nD → PrngReg), Pre_DxEvenIdeal m →
    (∀ c : Dev Cert.DxEvenIdeal.nD,
      m' ((c.tc : Thread Cert.DxEvenReferenceIdeal.nD Cert.DxEvenReferenceIdeal.τ).loc Cert.DxEvenReferenceIdeal.main_arg0) = m ((c.tc : Thread Cert.DxEvenIdeal.nD Cert.DxEvenIdeal.τ).loc Cert.DxEvenIdeal.main_arg0)
      ∧ m' ((c.tc : Thread Cert.DxEvenReferenceIdeal.nD Cert.DxEvenReferenceIdeal.τ).loc Cert.DxEvenReferenceIdeal.main_arg1) = m ((c.tc : Thread Cert.DxEvenIdeal.nD Cert.DxEvenIdeal.τ).loc Cert.DxEvenIdeal.main_arg1)
      ∧ m' ((c.tc : Thread Cert.DxEvenReferenceIdeal.nD Cert.DxEvenReferenceIdeal.τ).loc Cert.DxEvenReferenceIdeal.main_arg2) = m ((c.tc : Thread Cert.DxEvenIdeal.nD Cert.DxEvenIdeal.τ).loc Cert.DxEvenIdeal.main_arg2)
      ∧ m' ((c.tc : Thread Cert.DxEvenReferenceIdeal.nD Cert.DxEvenReferenceIdeal.τ).loc Cert.DxEvenReferenceIdeal.main_arg3) = m ((c.tc : Thread Cert.DxEvenIdeal.nD Cert.DxEvenIdeal.τ).loc Cert.DxEvenIdeal.main_arg3)
      ∧ m' ((c.tc : Thread Cert.DxEvenReferenceIdeal.nD Cert.DxEvenReferenceIdeal.τ).loc Cert.DxEvenReferenceIdeal.main_arg4) = m ((c.tc : Thread Cert.DxEvenIdeal.nD Cert.DxEvenIdeal.τ).loc Cert.DxEvenIdeal.main_arg4)) →
    ∃ (v0 : (c : Dev Cert.DxEvenIdeal.nD) → Buf (Elt Ideal) ((c.tc : Thread Cert.DxEvenIdeal.nD Cert.DxEvenIdeal.τ).loc Cert.DxEvenIdeal.main_v0_0)) (v1 : (c : Dev Cert.DxEvenIdeal.nD) → Buf (Elt Ideal) ((c.tc : Thread Cert.DxEvenIdeal.nD Cert.DxEvenIdeal.τ).loc Cert.DxEvenIdeal.main_v0_1)),
      θ_run (Cert.DxEvenIdeal.defs (F := Ideal)) (onTc (τ := Cert.DxEvenIdeal.τ) (Cert.DxEvenIdeal.main (F := Ideal))) ⟨m, fun _ => 0, g⟩ (fun r => ∀ c : Dev Cert.DxEvenIdeal.nD,
          r.2.mem ((c.tc : Thread Cert.DxEvenIdeal.nD Cert.DxEvenIdeal.τ).loc Cert.DxEvenIdeal.main_v0_0) = v0 c
          ∧ r.2.mem ((c.tc : Thread Cert.DxEvenIdeal.nD Cert.DxEvenIdeal.τ).loc Cert.DxEvenIdeal.main_v0_1) = v1 c
          ∧ r.2.mem ((c.tc : Thread Cert.DxEvenIdeal.nD Cert.DxEvenIdeal.τ).loc Cert.DxEvenIdeal.main_arg0) = m ((c.tc : Thread Cert.DxEvenIdeal.nD Cert.DxEvenIdeal.τ).loc Cert.DxEvenIdeal.main_arg0)
          ∧ r.2.mem ((c.tc : Thread Cert.DxEvenIdeal.nD Cert.DxEvenIdeal.τ).loc Cert.DxEvenIdeal.main_arg1) = m ((c.tc : Thread Cert.DxEvenIdeal.nD Cert.DxEvenIdeal.τ).loc Cert.DxEvenIdeal.main_arg1)
          ∧ r.2.mem ((c.tc : Thread Cert.DxEvenIdeal.nD Cert.DxEvenIdeal.τ).loc Cert.DxEvenIdeal.main_arg2) = m ((c.tc : Thread Cert.DxEvenIdeal.nD Cert.DxEvenIdeal.τ).loc Cert.DxEvenIdeal.main_arg2)
          ∧ r.2.mem ((c.tc : Thread Cert.DxEvenIdeal.nD Cert.DxEvenIdeal.τ).loc Cert.DxEvenIdeal.main_arg3) = m ((c.tc : Thread Cert.DxEvenIdeal.nD Cert.DxEvenIdeal.τ).loc Cert.DxEvenIdeal.main_arg3)
          ∧ r.2.mem ((c.tc : Thread Cert.DxEvenIdeal.nD Cert.DxEvenIdeal.τ).loc Cert.DxEvenIdeal.main_arg4) = m ((c.tc : Thread Cert.DxEvenIdeal.nD Cert.DxEvenIdeal.τ).loc Cert.DxEvenIdeal.main_arg4))
      ∧ θ_run (Cert.DxEvenReferenceIdeal.defs (F := Ideal)) (onTc (τ := Cert.DxEvenReferenceIdeal.τ) (Cert.DxEvenReferenceIdeal.main (F := Ideal))) ⟨m', fun _ => 0, g'⟩ (fun r => ∀ c : Dev Cert.DxEvenReferenceIdeal.nD,
          r.2.mem ((c.tc : Thread Cert.DxEvenReferenceIdeal.nD Cert.DxEvenReferenceIdeal.τ).loc Cert.DxEvenReferenceIdeal.main_v40) = v0 c
          ∧ r.2.mem ((c.tc : Thread Cert.DxEvenReferenceIdeal.nD Cert.DxEvenReferenceIdeal.τ).loc Cert.DxEvenReferenceIdeal.main_v23) = v1 c
          ∧ r.2.mem ((c.tc : Thread Cert.DxEvenReferenceIdeal.nD Cert.DxEvenReferenceIdeal.τ).loc Cert.DxEvenReferenceIdeal.main_arg0) = m' ((c.tc : Thread Cert.DxEvenReferenceIdeal.nD Cert.DxEvenReferenceIdeal.τ).loc Cert.DxEvenReferenceIdeal.main_arg0)
          ∧ r.2.mem ((c.tc : Thread Cert.DxEvenReferenceIdeal.nD Cert.DxEvenReferenceIdeal.τ).loc Cert.DxEvenReferenceIdeal.main_arg1) = m' ((c.tc : Thread Cert.DxEvenReferenceIdeal.nD Cert.DxEvenReferenceIdeal.τ).loc Cert.DxEvenReferenceIdeal.main_arg1)
          ∧ r.2.mem ((c.tc : Thread Cert.DxEvenReferenceIdeal.nD Cert.DxEvenReferenceIdeal.τ).loc Cert.DxEvenReferenceIdeal.main_arg2) = m' ((c.tc : Thread Cert.DxEvenReferenceIdeal.nD Cert.DxEvenReferenceIdeal.τ).loc Cert.DxEvenReferenceIdeal.main_arg2)
          ∧ r.2.mem ((c.tc : Thread Cert.DxEvenReferenceIdeal.nD Cert.DxEvenReferenceIdeal.τ).loc Cert.DxEvenReferenceIdeal.main_arg3) = m' ((c.tc : Thread Cert.DxEvenReferenceIdeal.nD Cert.DxEvenReferenceIdeal.τ).loc Cert.DxEvenReferenceIdeal.main_arg3)
          ∧ r.2.mem ((c.tc : Thread Cert.DxEvenReferenceIdeal.nD Cert.DxEvenReferenceIdeal.τ).loc Cert.DxEvenReferenceIdeal.main_arg4) = m' ((c.tc : Thread Cert.DxEvenReferenceIdeal.nD Cert.DxEvenReferenceIdeal.τ).loc Cert.DxEvenReferenceIdeal.main_arg4))

def preserves_DwOdd_DwOddIdeal : Prop :=
  True

def algebraic_DwOddIdeal_DwOddReferenceIdeal [hDwOddIdeal : Cert.DwOddIdeal.Facts] [hDwOddReferenceIdeal : Cert.DwOddReferenceIdeal.Facts] : Prop :=
  ∀ (m : (ℓ : Loc Cert.DwOddIdeal.nD Cert.DwOddIdeal.τ Cert.DwOddIdeal.sig) → Buf (Elt Ideal) ℓ) (g : Dev Cert.DwOddIdeal.nD → PrngReg)
    (m' : (ℓ : Loc Cert.DwOddReferenceIdeal.nD Cert.DwOddReferenceIdeal.τ Cert.DwOddReferenceIdeal.sig) → Buf (Elt Ideal) ℓ) (g' : Dev Cert.DwOddReferenceIdeal.nD → PrngReg), Pre_DwOddIdeal m →
    (∀ c : Dev Cert.DwOddIdeal.nD,
      m' ((c.tc : Thread Cert.DwOddReferenceIdeal.nD Cert.DwOddReferenceIdeal.τ).loc Cert.DwOddReferenceIdeal.main_arg0) = m ((c.tc : Thread Cert.DwOddIdeal.nD Cert.DwOddIdeal.τ).loc Cert.DwOddIdeal.main_arg0)
      ∧ m' ((c.tc : Thread Cert.DwOddReferenceIdeal.nD Cert.DwOddReferenceIdeal.τ).loc Cert.DwOddReferenceIdeal.main_arg1) = m ((c.tc : Thread Cert.DwOddIdeal.nD Cert.DwOddIdeal.τ).loc Cert.DwOddIdeal.main_arg1)) →
    ∃ (v0 : (c : Dev Cert.DwOddIdeal.nD) → Buf (Elt Ideal) ((c.tc : Thread Cert.DwOddIdeal.nD Cert.DwOddIdeal.τ).loc Cert.DwOddIdeal.main_v0)),
      θ_run (Cert.DwOddIdeal.defs (F := Ideal)) (onTc (τ := Cert.DwOddIdeal.τ) (Cert.DwOddIdeal.main (F := Ideal))) ⟨m, fun _ => 0, g⟩ (fun r => ∀ c : Dev Cert.DwOddIdeal.nD,
          r.2.mem ((c.tc : Thread Cert.DwOddIdeal.nD Cert.DwOddIdeal.τ).loc Cert.DwOddIdeal.main_v0) = v0 c
          ∧ r.2.mem ((c.tc : Thread Cert.DwOddIdeal.nD Cert.DwOddIdeal.τ).loc Cert.DwOddIdeal.main_arg0) = m ((c.tc : Thread Cert.DwOddIdeal.nD Cert.DwOddIdeal.τ).loc Cert.DwOddIdeal.main_arg0)
          ∧ r.2.mem ((c.tc : Thread Cert.DwOddIdeal.nD Cert.DwOddIdeal.τ).loc Cert.DwOddIdeal.main_arg1) = m ((c.tc : Thread Cert.DwOddIdeal.nD Cert.DwOddIdeal.τ).loc Cert.DwOddIdeal.main_arg1))
      ∧ θ_run (Cert.DwOddReferenceIdeal.defs (F := Ideal)) (onTc (τ := Cert.DwOddReferenceIdeal.τ) (Cert.DwOddReferenceIdeal.main (F := Ideal))) ⟨m', fun _ => 0, g'⟩ (fun r => ∀ c : Dev Cert.DwOddReferenceIdeal.nD,
          r.2.mem ((c.tc : Thread Cert.DwOddReferenceIdeal.nD Cert.DwOddReferenceIdeal.τ).loc Cert.DwOddReferenceIdeal.main_v10) = v0 c
          ∧ r.2.mem ((c.tc : Thread Cert.DwOddReferenceIdeal.nD Cert.DwOddReferenceIdeal.τ).loc Cert.DwOddReferenceIdeal.main_arg0) = m' ((c.tc : Thread Cert.DwOddReferenceIdeal.nD Cert.DwOddReferenceIdeal.τ).loc Cert.DwOddReferenceIdeal.main_arg0)
          ∧ r.2.mem ((c.tc : Thread Cert.DwOddReferenceIdeal.nD Cert.DwOddReferenceIdeal.τ).loc Cert.DwOddReferenceIdeal.main_arg1) = m' ((c.tc : Thread Cert.DwOddReferenceIdeal.nD Cert.DwOddReferenceIdeal.τ).loc Cert.DwOddReferenceIdeal.main_arg1))

def preserves_DwEven_DwEvenIdeal : Prop :=
  True

def algebraic_DwEvenIdeal_DwEvenReferenceIdeal [hDwEvenIdeal : Cert.DwEvenIdeal.Facts] [hDwEvenReferenceIdeal : Cert.DwEvenReferenceIdeal.Facts] : Prop :=
  ∀ (m : (ℓ : Loc Cert.DwEvenIdeal.nD Cert.DwEvenIdeal.τ Cert.DwEvenIdeal.sig) → Buf (Elt Ideal) ℓ) (g : Dev Cert.DwEvenIdeal.nD → PrngReg)
    (m' : (ℓ : Loc Cert.DwEvenReferenceIdeal.nD Cert.DwEvenReferenceIdeal.τ Cert.DwEvenReferenceIdeal.sig) → Buf (Elt Ideal) ℓ) (g' : Dev Cert.DwEvenReferenceIdeal.nD → PrngReg), Pre_DwEvenIdeal m →
    (∀ c : Dev Cert.DwEvenIdeal.nD,
      m' ((c.tc : Thread Cert.DwEvenReferenceIdeal.nD Cert.DwEvenReferenceIdeal.τ).loc Cert.DwEvenReferenceIdeal.main_arg0) = m ((c.tc : Thread Cert.DwEvenIdeal.nD Cert.DwEvenIdeal.τ).loc Cert.DwEvenIdeal.main_arg0)
      ∧ m' ((c.tc : Thread Cert.DwEvenReferenceIdeal.nD Cert.DwEvenReferenceIdeal.τ).loc Cert.DwEvenReferenceIdeal.main_arg1) = m ((c.tc : Thread Cert.DwEvenIdeal.nD Cert.DwEvenIdeal.τ).loc Cert.DwEvenIdeal.main_arg1)) →
    ∃ (v0 : (c : Dev Cert.DwEvenIdeal.nD) → Buf (Elt Ideal) ((c.tc : Thread Cert.DwEvenIdeal.nD Cert.DwEvenIdeal.τ).loc Cert.DwEvenIdeal.main_v0)),
      θ_run (Cert.DwEvenIdeal.defs (F := Ideal)) (onTc (τ := Cert.DwEvenIdeal.τ) (Cert.DwEvenIdeal.main (F := Ideal))) ⟨m, fun _ => 0, g⟩ (fun r => ∀ c : Dev Cert.DwEvenIdeal.nD,
          r.2.mem ((c.tc : Thread Cert.DwEvenIdeal.nD Cert.DwEvenIdeal.τ).loc Cert.DwEvenIdeal.main_v0) = v0 c
          ∧ r.2.mem ((c.tc : Thread Cert.DwEvenIdeal.nD Cert.DwEvenIdeal.τ).loc Cert.DwEvenIdeal.main_arg0) = m ((c.tc : Thread Cert.DwEvenIdeal.nD Cert.DwEvenIdeal.τ).loc Cert.DwEvenIdeal.main_arg0)
          ∧ r.2.mem ((c.tc : Thread Cert.DwEvenIdeal.nD Cert.DwEvenIdeal.τ).loc Cert.DwEvenIdeal.main_arg1) = m ((c.tc : Thread Cert.DwEvenIdeal.nD Cert.DwEvenIdeal.τ).loc Cert.DwEvenIdeal.main_arg1))
      ∧ θ_run (Cert.DwEvenReferenceIdeal.defs (F := Ideal)) (onTc (τ := Cert.DwEvenReferenceIdeal.τ) (Cert.DwEvenReferenceIdeal.main (F := Ideal))) ⟨m', fun _ => 0, g'⟩ (fun r => ∀ c : Dev Cert.DwEvenReferenceIdeal.nD,
          r.2.mem ((c.tc : Thread Cert.DwEvenReferenceIdeal.nD Cert.DwEvenReferenceIdeal.τ).loc Cert.DwEvenReferenceIdeal.main_v10) = v0 c
          ∧ r.2.mem ((c.tc : Thread Cert.DwEvenReferenceIdeal.nD Cert.DwEvenReferenceIdeal.τ).loc Cert.DwEvenReferenceIdeal.main_arg0) = m' ((c.tc : Thread Cert.DwEvenReferenceIdeal.nD Cert.DwEvenReferenceIdeal.τ).loc Cert.DwEvenReferenceIdeal.main_arg0)
          ∧ r.2.mem ((c.tc : Thread Cert.DwEvenReferenceIdeal.nD Cert.DwEvenReferenceIdeal.τ).loc Cert.DwEvenReferenceIdeal.main_arg1) = m' ((c.tc : Thread Cert.DwEvenReferenceIdeal.nD Cert.DwEvenReferenceIdeal.τ).loc Cert.DwEvenReferenceIdeal.main_arg1))

def preserves_DwOut_DwOutIdeal : Prop :=
  True

def algebraic_DwOutIdeal_DwOutReferenceIdeal [hDwOutIdeal : Cert.DwOutIdeal.Facts] [hDwOutReferenceIdeal : Cert.DwOutReferenceIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutReferenceIdeal.nD Cert.DwOutReferenceIdeal.τ Cert.DwOutReferenceIdeal.sig) → Buf (Elt Ideal) ℓ) (g' : Dev Cert.DwOutReferenceIdeal.nD → PrngReg), Pre_DwOutIdeal m →
    (∀ c : Dev Cert.DwOutIdeal.nD,
      m' ((c.tc : Thread Cert.DwOutReferenceIdeal.nD Cert.DwOutReferenceIdeal.τ).loc Cert.DwOutReferenceIdeal.main_arg0) = m ((c.tc : Thread Cert.DwOutIdeal.nD Cert.DwOutIdeal.τ).loc Cert.DwOutIdeal.main_arg0)
      ∧ m' ((c.tc : Thread Cert.DwOutReferenceIdeal.nD Cert.DwOutReferenceIdeal.τ).loc Cert.DwOutReferenceIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutReferenceIdeal.defs (F := Ideal)) (onTc (τ := Cert.DwOutReferenceIdeal.τ) (Cert.DwOutReferenceIdeal.main (F := Ideal))) ⟨m', fun _ => 0, g'⟩ (fun r => ∀ c : Dev Cert.DwOutReferenceIdeal.nD,
          r.2.mem ((c.tc : Thread Cert.DwOutReferenceIdeal.nD Cert.DwOutReferenceIdeal.τ).loc Cert.DwOutReferenceIdeal.main_v7) = v0 c
          ∧ r.2.mem ((c.tc : Thread Cert.DwOutReferenceIdeal.nD Cert.DwOutReferenceIdeal.τ).loc Cert.DwOutReferenceIdeal.main_arg0) = m' ((c.tc : Thread Cert.DwOutReferenceIdeal.nD Cert.DwOutReferenceIdeal.τ).loc Cert.DwOutReferenceIdeal.main_arg0)
          ∧ r.2.mem ((c.tc : Thread Cert.DwOutReferenceIdeal.nD Cert.DwOutReferenceIdeal.τ).loc Cert.DwOutReferenceIdeal.main_arg1) = m' ((c.tc : Thread Cert.DwOutReferenceIdeal.nD Cert.DwOutReferenceIdeal.τ).loc Cert.DwOutReferenceIdeal.main_arg1))

def preserves_Dy_DyIdeal : Prop :=
  True

def algebraic_DyIdeal_DyReferenceIdeal [hDyIdeal : Cert.DyIdeal.Facts] [hDyReferenceIdeal : Cert.DyReferenceIdeal.Facts] : Prop :=
  ∀ (m : (ℓ : Loc Cert.DyIdeal.nD Cert.DyIdeal.τ Cert.DyIdeal.sig) → Buf (Elt Ideal) ℓ) (g : Dev Cert.DyIdeal.nD → PrngReg)
    (m' : (ℓ : Loc Cert.DyReferenceIdeal.nD Cert.DyReferenceIdeal.τ Cert.DyReferenceIdeal.sig) → Buf (Elt Ideal) ℓ) (g' : Dev Cert.DyReferenceIdeal.nD → PrngReg), Pre_DyIdeal m →
    (∀ c : Dev Cert.DyIdeal.nD,
      m' ((c.tc : Thread Cert.DyReferenceIdeal.nD Cert.DyReferenceIdeal.τ).loc Cert.DyReferenceIdeal.main_arg0) = m ((c.tc : Thread Cert.DyIdeal.nD Cert.DyIdeal.τ).loc Cert.DyIdeal.main_arg0)
      ∧ m' ((c.tc : Thread Cert.DyReferenceIdeal.nD Cert.DyReferenceIdeal.τ).loc Cert.DyReferenceIdeal.main_arg1) = m ((c.tc : Thread Cert.DyIdeal.nD Cert.DyIdeal.τ).loc Cert.DyIdeal.main_arg1)) →
    ∃ (v0 : (c : Dev Cert.DyIdeal.nD) → Buf (Elt Ideal) ((c.tc : Thread Cert.DyIdeal.nD Cert.DyIdeal.τ).loc Cert.DyIdeal.main_v0)),
      θ_run (Cert.DyIdeal.defs (F := Ideal)) (onTc (τ := Cert.DyIdeal.τ) (Cert.DyIdeal.main (F := Ideal))) ⟨m, fun _ => 0, g⟩ (fun r => ∀ c : Dev Cert.DyIdeal.nD,
          r.2.mem ((c.tc : Thread Cert.DyIdeal.nD Cert.DyIdeal.τ).loc Cert.DyIdeal.main_v0) = v0 c
          ∧ r.2.mem ((c.tc : Thread Cert.DyIdeal.nD Cert.DyIdeal.τ).loc Cert.DyIdeal.main_arg0) = m ((c.tc : Thread Cert.DyIdeal.nD Cert.DyIdeal.τ).loc Cert.DyIdeal.main_arg0)
          ∧ r.2.mem ((c.tc : Thread Cert.DyIdeal.nD Cert.DyIdeal.τ).loc Cert.DyIdeal.main_arg1) = m ((c.tc : Thread Cert.DyIdeal.nD Cert.DyIdeal.τ).loc Cert.DyIdeal.main_arg1))
      ∧ θ_run (Cert.DyReferenceIdeal.defs (F := Ideal)) (onTc (τ := Cert.DyReferenceIdeal.τ) (Cert.DyReferenceIdeal.main (F := Ideal))) ⟨m', fun _ => 0, g'⟩ (fun r => ∀ c : Dev Cert.DyReferenceIdeal.nD,
          r.2.mem ((c.tc : Thread Cert.DyReferenceIdeal.nD Cert.DyReferenceIdeal.τ).loc Cert.DyReferenceIdeal.main_v4) = v0 c
          ∧ r.2.mem ((c.tc : Thread Cert.DyReferenceIdeal.nD Cert.DyReferenceIdeal.τ).loc Cert.DyReferenceIdeal.main_arg0) = m' ((c.tc : Thread Cert.DyReferenceIdeal.nD Cert.DyReferenceIdeal.τ).loc Cert.DyReferenceIdeal.main_arg0)
          ∧ r.2.mem ((c.tc : Thread Cert.DyReferenceIdeal.nD Cert.DyReferenceIdeal.τ).loc Cert.DyReferenceIdeal.main_arg1) = m' ((c.tc : Thread Cert.DyReferenceIdeal.nD Cert.DyReferenceIdeal.τ).loc Cert.DyReferenceIdeal.main_arg1))

def preserves_InOdd_InOddIdeal : Prop :=
  True

def algebraic_InOddIdeal_InOddReferenceIdeal [hInOddIdeal : Cert.InOddIdeal.Facts] [hInOddReferenceIdeal : Cert.InOddReferenceIdeal.Facts] : Prop :=
  ∀ (m : (ℓ : Loc Cert.InOddIdeal.nD Cert.InOddIdeal.τ Cert.InOddIdeal.sig) → Buf (Elt Ideal) ℓ) (g : Dev Cert.InOddIdeal.nD → PrngReg)
    (m' : (ℓ : Loc Cert.InOddReferenceIdeal.nD Cert.InOddReferenceIdeal.τ Cert.InOddReferenceIdeal.sig) → Buf (Elt Ideal) ℓ) (g' : Dev Cert.InOddReferenceIdeal.nD → PrngReg), Pre_InOddIdeal m →
    (∀ c : Dev Cert.InOddIdeal.nD,
      m' ((c.tc : Thread Cert.InOddReferenceIdeal.nD Cert.InOddReferenceIdeal.τ).loc Cert.InOddReferenceIdeal.main_arg0) = m ((c.tc : Thread Cert.InOddIdeal.nD Cert.InOddIdeal.τ).loc Cert.InOddIdeal.main_arg0)
      ∧ m' ((c.tc : Thread Cert.InOddReferenceIdeal.nD Cert.InOddReferenceIdeal.τ).loc Cert.InOddReferenceIdeal.main_arg1) = m ((c.tc : Thread Cert.InOddIdeal.nD Cert.InOddIdeal.τ).loc Cert.InOddIdeal.main_arg1)) →
    ∃ (v0 : (c : Dev Cert.InOddIdeal.nD) → Buf (Elt Ideal) ((c.tc : Thread Cert.InOddIdeal.nD Cert.InOddIdeal.τ).loc Cert.InOddIdeal.main_v0)),
      θ_run (Cert.InOddIdeal.defs (F := Ideal)) (onTc (τ := Cert.InOddIdeal.τ) (Cert.InOddIdeal.main (F := Ideal))) ⟨m, fun _ => 0, g⟩ (fun r => ∀ c : Dev Cert.InOddIdeal.nD,
          r.2.mem ((c.tc : Thread Cert.InOddIdeal.nD Cert.InOddIdeal.τ).loc Cert.InOddIdeal.main_v0) = v0 c
          ∧ r.2.mem ((c.tc : Thread Cert.InOddIdeal.nD Cert.InOddIdeal.τ).loc Cert.InOddIdeal.main_arg0) = m ((c.tc : Thread Cert.InOddIdeal.nD Cert.InOddIdeal.τ).loc Cert.InOddIdeal.main_arg0)
          ∧ r.2.mem ((c.tc : Thread Cert.InOddIdeal.nD Cert.InOddIdeal.τ).loc Cert.InOddIdeal.main_arg1) = m ((c.tc : Thread Cert.InOddIdeal.nD Cert.InOddIdeal.τ).loc Cert.InOddIdeal.main_arg1))
      ∧ θ_run (Cert.InOddReferenceIdeal.defs (F := Ideal)) (onTc (τ := Cert.InOddReferenceIdeal.τ) (Cert.InOddReferenceIdeal.main (F := Ideal))) ⟨m', fun _ => 0, g'⟩ (fun r => ∀ c : Dev Cert.InOddReferenceIdeal.nD,
          r.2.mem ((c.tc : Thread Cert.InOddReferenceIdeal.nD Cert.InOddReferenceIdeal.τ).loc Cert.InOddReferenceIdeal.main_v4) = v0 c
          ∧ r.2.mem ((c.tc : Thread Cert.InOddReferenceIdeal.nD Cert.InOddReferenceIdeal.τ).loc Cert.InOddReferenceIdeal.main_arg0) = m' ((c.tc : Thread Cert.InOddReferenceIdeal.nD Cert.InOddReferenceIdeal.τ).loc Cert.InOddReferenceIdeal.main_arg0)
          ∧ r.2.mem ((c.tc : Thread Cert.InOddReferenceIdeal.nD Cert.InOddReferenceIdeal.τ).loc Cert.InOddReferenceIdeal.main_arg1) = m' ((c.tc : Thread Cert.InOddReferenceIdeal.nD Cert.InOddReferenceIdeal.τ).loc Cert.InOddReferenceIdeal.main_arg1))

def preserves_InEven_InEvenIdeal : Prop :=
  True

def algebraic_InEvenIdeal_InEvenReferenceIdeal [hInEvenIdeal : Cert.InEvenIdeal.Facts] [hInEvenReferenceIdeal : Cert.InEvenReferenceIdeal.Facts] : Prop :=
  ∀ (m : (ℓ : Loc Cert.InEvenIdeal.nD Cert.InEvenIdeal.τ Cert.InEvenIdeal.sig) → Buf (Elt Ideal) ℓ) (g : Dev Cert.InEvenIdeal.nD → PrngReg)
    (m' : (ℓ : Loc Cert.InEvenReferenceIdeal.nD Cert.InEvenReferenceIdeal.τ Cert.InEvenReferenceIdeal.sig) → Buf (Elt Ideal) ℓ) (g' : Dev Cert.InEvenReferenceIdeal.nD → PrngReg), Pre_InEvenIdeal m →
    (∀ c : Dev Cert.InEvenIdeal.nD,
      m' ((c.tc : Thread Cert.InEvenReferenceIdeal.nD Cert.InEvenReferenceIdeal.τ).loc Cert.InEvenReferenceIdeal.main_arg0) = m ((c.tc : Thread Cert.InEvenIdeal.nD Cert.InEvenIdeal.τ).loc Cert.InEvenIdeal.main_arg0)
      ∧ m' ((c.tc : Thread Cert.InEvenReferenceIdeal.nD Cert.InEvenReferenceIdeal.τ).loc Cert.InEvenReferenceIdeal.main_arg1) = m ((c.tc : Thread Cert.InEvenIdeal.nD Cert.InEvenIdeal.τ).loc Cert.InEvenIdeal.main_arg1)) →
    ∃ (v0 : (c : Dev Cert.InEvenIdeal.nD) → Buf (Elt Ideal) ((c.tc : Thread Cert.InEvenIdeal.nD Cert.InEvenIdeal.τ).loc Cert.InEvenIdeal.main_v0)),
      θ_run (Cert.InEvenIdeal.defs (F := Ideal)) (onTc (τ := Cert.InEvenIdeal.τ) (Cert.InEvenIdeal.main (F := Ideal))) ⟨m, fun _ => 0, g⟩ (fun r => ∀ c : Dev Cert.InEvenIdeal.nD,
          r.2.mem ((c.tc : Thread Cert.InEvenIdeal.nD Cert.InEvenIdeal.τ).loc Cert.InEvenIdeal.main_v0) = v0 c
          ∧ r.2.mem ((c.tc : Thread Cert.InEvenIdeal.nD Cert.InEvenIdeal.τ).loc Cert.InEvenIdeal.main_arg0) = m ((c.tc : Thread Cert.InEvenIdeal.nD Cert.InEvenIdeal.τ).loc Cert.InEvenIdeal.main_arg0)
          ∧ r.2.mem ((c.tc : Thread Cert.InEvenIdeal.nD Cert.InEvenIdeal.τ).loc Cert.InEvenIdeal.main_arg1) = m ((c.tc : Thread Cert.InEvenIdeal.nD Cert.InEvenIdeal.τ).loc Cert.InEvenIdeal.main_arg1))
      ∧ θ_run (Cert.InEvenReferenceIdeal.defs (F := Ideal)) (onTc (τ := Cert.InEvenReferenceIdeal.τ) (Cert.InEvenReferenceIdeal.main (F := Ideal))) ⟨m', fun _ => 0, g'⟩ (fun r => ∀ c : Dev Cert.InEvenReferenceIdeal.nD,
          r.2.mem ((c.tc : Thread Cert.InEvenReferenceIdeal.nD Cert.InEvenReferenceIdeal.τ).loc Cert.InEvenReferenceIdeal.main_v4) = v0 c
          ∧ r.2.mem ((c.tc : Thread Cert.InEvenReferenceIdeal.nD Cert.InEvenReferenceIdeal.τ).loc Cert.InEvenReferenceIdeal.main_arg0) = m' ((c.tc : Thread Cert.InEvenReferenceIdeal.nD Cert.InEvenReferenceIdeal.τ).loc Cert.InEvenReferenceIdeal.main_arg0)
          ∧ r.2.mem ((c.tc : Thread Cert.InEvenReferenceIdeal.nD Cert.InEvenReferenceIdeal.τ).loc Cert.InEvenReferenceIdeal.main_arg1) = m' ((c.tc : Thread Cert.InEvenReferenceIdeal.nD Cert.InEvenReferenceIdeal.τ).loc Cert.InEvenReferenceIdeal.main_arg1))

def preserves_OutEven_OutEvenIdeal : Prop :=
  True

def algebraic_OutEvenIdeal_OutEvenReferenceIdeal [hOutEvenIdeal : Cert.OutEvenIdeal.Facts] [hOutEvenReferenceIdeal : Cert.OutEvenReferenceIdeal.Facts] : Prop :=
  ∀ (m : (ℓ : Loc Cert.OutEvenIdeal.nD Cert.OutEvenIdeal.τ Cert.OutEvenIdeal.sig) → Buf (Elt Ideal) ℓ) (g : Dev Cert.OutEvenIdeal.nD → PrngReg)
    (m' : (ℓ : Loc Cert.OutEvenReferenceIdeal.nD Cert.OutEvenReferenceIdeal.τ Cert.OutEvenReferenceIdeal.sig) → Buf (Elt Ideal) ℓ) (g' : Dev Cert.OutEvenReferenceIdeal.nD → PrngReg), Pre_OutEvenIdeal m →
    (∀ c : Dev Cert.OutEvenIdeal.nD,
      m' ((c.tc : Thread Cert.OutEvenReferenceIdeal.nD Cert.OutEvenReferenceIdeal.τ).loc Cert.OutEvenReferenceIdeal.main_arg0) = m ((c.tc : Thread Cert.OutEvenIdeal.nD Cert.OutEvenIdeal.τ).loc Cert.OutEvenIdeal.main_arg0)
      ∧ m' ((c.tc : Thread Cert.OutEvenReferenceIdeal.nD Cert.OutEvenReferenceIdeal.τ).loc Cert.OutEvenReferenceIdeal.main_arg1) = m ((c.tc : Thread Cert.OutEvenIdeal.nD Cert.OutEvenIdeal.τ).loc Cert.OutEvenIdeal.main_arg1)
      ∧ m' ((c.tc : Thread Cert.OutEvenReferenceIdeal.nD Cert.OutEvenReferenceIdeal.τ).loc Cert.OutEvenReferenceIdeal.main_arg2) = m ((c.tc : Thread Cert.OutEvenIdeal.nD Cert.OutEvenIdeal.τ).loc Cert.OutEvenIdeal.main_arg2)
      ∧ m' ((c.tc : Thread Cert.OutEvenReferenceIdeal.nD Cert.OutEvenReferenceIdeal.τ).loc Cert.OutEvenReferenceIdeal.main_arg3) = m ((c.tc : Thread Cert.OutEvenIdeal.nD Cert.OutEvenIdeal.τ).loc Cert.OutEvenIdeal.main_arg3)
      ∧ m' ((c.tc : Thread Cert.OutEvenReferenceIdeal.nD Cert.OutEvenReferenceIdeal.τ).loc Cert.OutEvenReferenceIdeal.main_arg4) = m ((c.tc : Thread Cert.OutEvenIdeal.nD Cert.OutEvenIdeal.τ).loc Cert.OutEvenIdeal.main_arg4)) →
    ∃ (v0 : (c : Dev Cert.OutEvenIdeal.nD) → Buf (Elt Ideal) ((c.tc : Thread Cert.OutEvenIdeal.nD Cert.OutEvenIdeal.τ).loc Cert.OutEvenIdeal.main_v0_0)) (v1 : (c : Dev Cert.OutEvenIdeal.nD) → Buf (Elt Ideal) ((c.tc : Thread Cert.OutEvenIdeal.nD Cert.OutEvenIdeal.τ).loc Cert.OutEvenIdeal.main_v0_1)) (v2 : (c : Dev Cert.OutEvenIdeal.nD) → Buf (Elt Ideal) ((c.tc : Thread Cert.OutEvenIdeal.nD Cert.OutEvenIdeal.τ).loc Cert.OutEvenIdeal.main_v0_2)),
      θ_run (Cert.OutEvenIdeal.defs (F := Ideal)) (onTc (τ := Cert.OutEvenIdeal.τ) (Cert.OutEvenIdeal.main (F := Ideal))) ⟨m, fun _ => 0, g⟩ (fun r => ∀ c : Dev Cert.OutEvenIdeal.nD,
          r.2.mem ((c.tc : Thread Cert.OutEvenIdeal.nD Cert.OutEvenIdeal.τ).loc Cert.OutEvenIdeal.main_v0_0) = v0 c
          ∧ r.2.mem ((c.tc : Thread Cert.OutEvenIdeal.nD Cert.OutEvenIdeal.τ).loc Cert.OutEvenIdeal.main_v0_1) = v1 c
          ∧ r.2.mem ((c.tc : Thread Cert.OutEvenIdeal.nD Cert.OutEvenIdeal.τ).loc Cert.OutEvenIdeal.main_v0_2) = v2 c
          ∧ r.2.mem ((c.tc : Thread Cert.OutEvenIdeal.nD Cert.OutEvenIdeal.τ).loc Cert.OutEvenIdeal.main_arg0) = m ((c.tc : Thread Cert.OutEvenIdeal.nD Cert.OutEvenIdeal.τ).loc Cert.OutEvenIdeal.main_arg0)
          ∧ r.2.mem ((c.tc : Thread Cert.OutEvenIdeal.nD Cert.OutEvenIdeal.τ).loc Cert.OutEvenIdeal.main_arg1) = m ((c.tc : Thread Cert.OutEvenIdeal.nD Cert.OutEvenIdeal.τ).loc Cert.OutEvenIdeal.main_arg1)
          ∧ r.2.mem ((c.tc : Thread Cert.OutEvenIdeal.nD Cert.OutEvenIdeal.τ).loc Cert.OutEvenIdeal.main_arg2) = m ((c.tc : Thread Cert.OutEvenIdeal.nD Cert.OutEvenIdeal.τ).loc Cert.OutEvenIdeal.main_arg2)
          ∧ r.2.mem ((c.tc : Thread Cert.OutEvenIdeal.nD Cert.OutEvenIdeal.τ).loc Cert.OutEvenIdeal.main_arg3) = m ((c.tc : Thread Cert.OutEvenIdeal.nD Cert.OutEvenIdeal.τ).loc Cert.OutEvenIdeal.main_arg3)
          ∧ r.2.mem ((c.tc : Thread Cert.OutEvenIdeal.nD Cert.OutEvenIdeal.τ).loc Cert.OutEvenIdeal.main_arg4) = m ((c.tc : Thread Cert.OutEvenIdeal.nD Cert.OutEvenIdeal.τ).loc Cert.OutEvenIdeal.main_arg4))
      ∧ θ_run (Cert.OutEvenReferenceIdeal.defs (F := Ideal)) (onTc (τ := Cert.OutEvenReferenceIdeal.τ) (Cert.OutEvenReferenceIdeal.main (F := Ideal))) ⟨m', fun _ => 0, g'⟩ (fun r => ∀ c : Dev Cert.OutEvenReferenceIdeal.nD,
          r.2.mem ((c.tc : Thread Cert.OutEvenReferenceIdeal.nD Cert.OutEvenReferenceIdeal.τ).loc Cert.OutEvenReferenceIdeal.main_v2) = v0 c
          ∧ r.2.mem ((c.tc : Thread Cert.OutEvenReferenceIdeal.nD Cert.OutEvenReferenceIdeal.τ).loc Cert.OutEvenReferenceIdeal.main_v15) = v1 c
          ∧ r.2.mem ((c.tc : Thread Cert.OutEvenReferenceIdeal.nD Cert.OutEvenReferenceIdeal.τ).loc Cert.OutEvenReferenceIdeal.main_v28) = v2 c
          ∧ r.2.mem ((c.tc : Thread Cert.OutEvenReferenceIdeal.nD Cert.OutEvenReferenceIdeal.τ).loc Cert.OutEvenReferenceIdeal.main_arg0) = m' ((c.tc : Thread Cert.OutEvenReferenceIdeal.nD Cert.OutEvenReferenceIdeal.τ).loc Cert.OutEvenReferenceIdeal.main_arg0)
          ∧ r.2.mem ((c.tc : Thread Cert.OutEvenReferenceIdeal.nD Cert.OutEvenReferenceIdeal.τ).loc Cert.OutEvenReferenceIdeal.main_arg1) = m' ((c.tc : Thread Cert.OutEvenReferenceIdeal.nD Cert.OutEvenReferenceIdeal.τ).loc Cert.OutEvenReferenceIdeal.main_arg1)
          ∧ r.2.mem ((c.tc : Thread Cert.OutEvenReferenceIdeal.nD Cert.OutEvenReferenceIdeal.τ).loc Cert.OutEvenReferenceIdeal.main_arg2) = m' ((c.tc : Thread Cert.OutEvenReferenceIdeal.nD Cert.OutEvenReferenceIdeal.τ).loc Cert.OutEvenReferenceIdeal.main_arg2)
          ∧ r.2.mem ((c.tc : Thread Cert.OutEvenReferenceIdeal.nD Cert.OutEvenReferenceIdeal.τ).loc Cert.OutEvenReferenceIdeal.main_arg3) = m' ((c.tc : Thread Cert.OutEvenReferenceIdeal.nD Cert.OutEvenReferenceIdeal.τ).loc Cert.OutEvenReferenceIdeal.main_arg3)
          ∧ r.2.mem ((c.tc : Thread Cert.OutEvenReferenceIdeal.nD Cert.OutEvenReferenceIdeal.τ).loc Cert.OutEvenReferenceIdeal.main_arg4) = m' ((c.tc : Thread Cert.OutEvenReferenceIdeal.nD Cert.OutEvenReferenceIdeal.τ).loc Cert.OutEvenReferenceIdeal.main_arg4))

def preserves_OutOdd_OutOddIdeal : Prop :=
  True

def algebraic_OutOddIdeal_OutOddReferenceIdeal [hOutOddIdeal : Cert.OutOddIdeal.Facts] [hOutOddReferenceIdeal : Cert.OutOddReferenceIdeal.Facts] : Prop :=
  ∀ (m : (ℓ : Loc Cert.OutOddIdeal.nD Cert.OutOddIdeal.τ Cert.OutOddIdeal.sig) → Buf (Elt Ideal) ℓ) (g : Dev Cert.OutOddIdeal.nD → PrngReg)
    (m' : (ℓ : Loc Cert.OutOddReferenceIdeal.nD Cert.OutOddReferenceIdeal.τ Cert.OutOddReferenceIdeal.sig) → Buf (Elt Ideal) ℓ) (g' : Dev Cert.OutOddReferenceIdeal.nD → PrngReg), Pre_OutOddIdeal m →
    (∀ c : Dev Cert.OutOddIdeal.nD,
      m' ((c.tc : Thread Cert.OutOddReferenceIdeal.nD Cert.OutOddReferenceIdeal.τ).loc Cert.OutOddReferenceIdeal.main_arg0) = m ((c.tc : Thread Cert.OutOddIdeal.nD Cert.OutOddIdeal.τ).loc Cert.OutOddIdeal.main_arg0)
      ∧ m' ((c.tc : Thread Cert.OutOddReferenceIdeal.nD Cert.OutOddReferenceIdeal.τ).loc Cert.OutOddReferenceIdeal.main_arg1) = m ((c.tc : Thread Cert.OutOddIdeal.nD Cert.OutOddIdeal.τ).loc Cert.OutOddIdeal.main_arg1)
      ∧ m' ((c.tc : Thread Cert.OutOddReferenceIdeal.nD Cert.OutOddReferenceIdeal.τ).loc Cert.OutOddReferenceIdeal.main_arg2) = m ((c.tc : Thread Cert.OutOddIdeal.nD Cert.OutOddIdeal.τ).loc Cert.OutOddIdeal.main_arg2)
      ∧ m' ((c.tc : Thread Cert.OutOddReferenceIdeal.nD Cert.OutOddReferenceIdeal.τ).loc Cert.OutOddReferenceIdeal.main_arg3) = m ((c.tc : Thread Cert.OutOddIdeal.nD Cert.OutOddIdeal.τ).loc Cert.OutOddIdeal.main_arg3)
      ∧ m' ((c.tc : Thread Cert.OutOddReferenceIdeal.nD Cert.OutOddReferenceIdeal.τ).loc Cert.OutOddReferenceIdeal.main_arg4) = m ((c.tc : Thread Cert.OutOddIdeal.nD Cert.OutOddIdeal.τ).loc Cert.OutOddIdeal.main_arg4)) →
    ∃ (v0 : (c : Dev Cert.OutOddIdeal.nD) → Buf (Elt Ideal) ((c.tc : Thread Cert.OutOddIdeal.nD Cert.OutOddIdeal.τ).loc Cert.OutOddIdeal.main_v0_0)) (v1 : (c : Dev Cert.OutOddIdeal.nD) → Buf (Elt Ideal) ((c.tc : Thread Cert.OutOddIdeal.nD Cert.OutOddIdeal.τ).loc Cert.OutOddIdeal.main_v0_1)) (v2 : (c : Dev Cert.OutOddIdeal.nD) → Buf (Elt Ideal) ((c.tc : Thread Cert.OutOddIdeal.nD Cert.OutOddIdeal.τ).loc Cert.OutOddIdeal.main_v0_2)) (v3 : (c : Dev Cert.OutOddIdeal.nD) → Buf (Elt Ideal) ((c.tc : Thread Cert.OutOddIdeal.nD Cert.OutOddIdeal.τ).loc Cert.OutOddIdeal.main_v0_3)),
      θ_run (Cert.OutOddIdeal.defs (F := Ideal)) (onTc (τ := Cert.OutOddIdeal.τ) (Cert.OutOddIdeal.main (F := Ideal))) ⟨m, fun _ => 0, g⟩ (fun r => ∀ c : Dev Cert.OutOddIdeal.nD,
          r.2.mem ((c.tc : Thread Cert.OutOddIdeal.nD Cert.OutOddIdeal.τ).loc Cert.OutOddIdeal.main_v0_0) = v0 c
          ∧ r.2.mem ((c.tc : Thread Cert.OutOddIdeal.nD Cert.OutOddIdeal.τ).loc Cert.OutOddIdeal.main_v0_1) = v1 c
          ∧ r.2.mem ((c.tc : Thread Cert.OutOddIdeal.nD Cert.OutOddIdeal.τ).loc Cert.OutOddIdeal.main_v0_2) = v2 c
          ∧ r.2.mem ((c.tc : Thread Cert.OutOddIdeal.nD Cert.OutOddIdeal.τ).loc Cert.OutOddIdeal.main_v0_3) = v3 c
          ∧ r.2.mem ((c.tc : Thread Cert.OutOddIdeal.nD Cert.OutOddIdeal.τ).loc Cert.OutOddIdeal.main_arg0) = m ((c.tc : Thread Cert.OutOddIdeal.nD Cert.OutOddIdeal.τ).loc Cert.OutOddIdeal.main_arg0)
          ∧ r.2.mem ((c.tc : Thread Cert.OutOddIdeal.nD Cert.OutOddIdeal.τ).loc Cert.OutOddIdeal.main_arg1) = m ((c.tc : Thread Cert.OutOddIdeal.nD Cert.OutOddIdeal.τ).loc Cert.OutOddIdeal.main_arg1)
          ∧ r.2.mem ((c.tc : Thread Cert.OutOddIdeal.nD Cert.OutOddIdeal.τ).loc Cert.OutOddIdeal.main_arg2) = m ((c.tc : Thread Cert.OutOddIdeal.nD Cert.OutOddIdeal.τ).loc Cert.OutOddIdeal.main_arg2)
          ∧ r.2.mem ((c.tc : Thread Cert.OutOddIdeal.nD Cert.OutOddIdeal.τ).loc Cert.OutOddIdeal.main_arg3) = m ((c.tc : Thread Cert.OutOddIdeal.nD Cert.OutOddIdeal.τ).loc Cert.OutOddIdeal.main_arg3)
          ∧ r.2.mem ((c.tc : Thread Cert.OutOddIdeal.nD Cert.OutOddIdeal.τ).loc Cert.OutOddIdeal.main_arg4) = m ((c.tc : Thread Cert.OutOddIdeal.nD Cert.OutOddIdeal.τ).loc Cert.OutOddIdeal.main_arg4))
      ∧ θ_run (Cert.OutOddReferenceIdeal.defs (F := Ideal)) (onTc (τ := Cert.OutOddReferenceIdeal.τ) (Cert.OutOddReferenceIdeal.main (F := Ideal))) ⟨m', fun _ => 0, g'⟩ (fun r => ∀ c : Dev Cert.OutOddReferenceIdeal.nD,
          r.2.mem ((c.tc : Thread Cert.OutOddReferenceIdeal.nD Cert.OutOddReferenceIdeal.τ).loc Cert.OutOddReferenceIdeal.main_v53) = v0 c
          ∧ r.2.mem ((c.tc : Thread Cert.OutOddReferenceIdeal.nD Cert.OutOddReferenceIdeal.τ).loc Cert.OutOddReferenceIdeal.main_v33) = v1 c
          ∧ r.2.mem ((c.tc : Thread Cert.OutOddReferenceIdeal.nD Cert.OutOddReferenceIdeal.τ).loc Cert.OutOddReferenceIdeal.main_v54) = v2 c
          ∧ r.2.mem ((c.tc : Thread Cert.OutOddReferenceIdeal.nD Cert.OutOddReferenceIdeal.τ).loc Cert.OutOddReferenceIdeal.main_v36) = v3 c
          ∧ r.2.mem ((c.tc : Thread Cert.OutOddReferenceIdeal.nD Cert.OutOddReferenceIdeal.τ).loc Cert.OutOddReferenceIdeal.main_arg0) = m' ((c.tc : Thread Cert.OutOddReferenceIdeal.nD Cert.OutOddReferenceIdeal.τ).loc Cert.OutOddReferenceIdeal.main_arg0)
          ∧ r.2.mem ((c.tc : Thread Cert.OutOddReferenceIdeal.nD Cert.OutOddReferenceIdeal.τ).loc Cert.OutOddReferenceIdeal.main_arg1) = m' ((c.tc : Thread Cert.OutOddReferenceIdeal.nD Cert.OutOddReferenceIdeal.τ).loc Cert.OutOddReferenceIdeal.main_arg1)
          ∧ r.2.mem ((c.tc : Thread Cert.OutOddReferenceIdeal.nD Cert.OutOddReferenceIdeal.τ).loc Cert.OutOddReferenceIdeal.main_arg2) = m' ((c.tc : Thread Cert.OutOddReferenceIdeal.nD Cert.OutOddReferenceIdeal.τ).loc Cert.OutOddReferenceIdeal.main_arg2)
          ∧ r.2.mem ((c.tc : Thread Cert.OutOddReferenceIdeal.nD Cert.OutOddReferenceIdeal.τ).loc Cert.OutOddReferenceIdeal.main_arg3) = m' ((c.tc : Thread Cert.OutOddReferenceIdeal.nD Cert.OutOddReferenceIdeal.τ).loc Cert.OutOddReferenceIdeal.main_arg3)
          ∧ r.2.mem ((c.tc : Thread Cert.OutOddReferenceIdeal.nD Cert.OutOddReferenceIdeal.τ).loc Cert.OutOddReferenceIdeal.main_arg4) = m' ((c.tc : Thread Cert.OutOddReferenceIdeal.nD Cert.OutOddReferenceIdeal.τ).loc Cert.OutOddReferenceIdeal.main_arg4))

def preserves_AdamInEven_AdamInEvenIdeal : Prop :=
  IdealRules.named_const.Statement Cert.AdamInEvenIdeal.κ "unbias_m" .f32 0x3FC48605#32 (((5463681 / 8388608)⁻¹ : ℝ) : EReal)
  ∧ IdealRules.named_const.Statement Cert.AdamInEvenIdeal.κ "unbias_v" .f32 0x42C8E6D3#32 (((2672307 / 268435456)⁻¹ : ℝ) : EReal)

def algebraic_AdamInEvenIdeal_AdamInEvenReferenceIdeal [hAdamInEvenIdeal : Cert.AdamInEvenIdeal.Facts] [hAdamInEvenReferenceIdeal : Cert.AdamInEvenReferenceIdeal.Facts] : Prop :=
  ∀ (m : (ℓ : Loc Cert.AdamInEvenIdeal.nD Cert.AdamInEvenIdeal.τ Cert.AdamInEvenIdeal.sig) → Buf (Elt Ideal) ℓ) (g : Dev Cert.AdamInEvenIdeal.nD → PrngReg)
    (m' : (ℓ : Loc Cert.AdamInEvenReferenceIdeal.nD Cert.AdamInEvenReferenceIdeal.τ Cert.AdamInEvenReferenceIdeal.sig) → Buf (Elt Ideal) ℓ) (g' : Dev Cert.AdamInEvenReferenceIdeal.nD → PrngReg), Pre_AdamInEvenIdeal m →
    (∀ c : Dev Cert.AdamInEvenIdeal.nD,
      m' ((c.tc : Thread Cert.AdamInEvenReferenceIdeal.nD Cert.AdamInEvenReferenceIdeal.τ).loc Cert.AdamInEvenReferenceIdeal.main_arg0) = m ((c.tc : Thread Cert.AdamInEvenIdeal.nD Cert.AdamInEvenIdeal.τ).loc Cert.AdamInEvenIdeal.main_arg0)
      ∧ m' ((c.tc : Thread Cert.AdamInEvenReferenceIdeal.nD Cert.AdamInEvenReferenceIdeal.τ).loc Cert.AdamInEvenReferenceIdeal.main_arg1) = m ((c.tc : Thread Cert.AdamInEvenIdeal.nD Cert.AdamInEvenIdeal.τ).loc Cert.AdamInEvenIdeal.main_arg1)
      ∧ m' ((c.tc : Thread Cert.AdamInEvenReferenceIdeal.nD Cert.AdamInEvenReferenceIdeal.τ).loc Cert.AdamInEvenReferenceIdeal.main_arg2) = m ((c.tc : Thread Cert.AdamInEvenIdeal.nD Cert.AdamInEvenIdeal.τ).loc Cert.AdamInEvenIdeal.main_arg2)
      ∧ m' ((c.tc : Thread Cert.AdamInEvenReferenceIdeal.nD Cert.AdamInEvenReferenceIdeal.τ).loc Cert.AdamInEvenReferenceIdeal.main_arg3) = m ((c.tc : Thread Cert.AdamInEvenIdeal.nD Cert.AdamInEvenIdeal.τ).loc Cert.AdamInEvenIdeal.main_arg3)) →
    ∃ (v0 : (c : Dev Cert.AdamInEvenIdeal.nD) → Buf (Elt Ideal) ((c.tc : Thread Cert.AdamInEvenIdeal.nD Cert.AdamInEvenIdeal.τ).loc Cert.AdamInEvenIdeal.main_v0_0)) (v1 : (c : Dev Cert.AdamInEvenIdeal.nD) → Buf (Elt Ideal) ((c.tc : Thread Cert.AdamInEvenIdeal.nD Cert.AdamInEvenIdeal.τ).loc Cert.AdamInEvenIdeal.main_v0_1)) (v2 : (c : Dev Cert.AdamInEvenIdeal.nD) → Buf (Elt Ideal) ((c.tc : Thread Cert.AdamInEvenIdeal.nD Cert.AdamInEvenIdeal.τ).loc Cert.AdamInEvenIdeal.main_v0_2)),
      θ_run (Cert.AdamInEvenIdeal.defs (F := Ideal)) (onTc (τ := Cert.AdamInEvenIdeal.τ) (Cert.AdamInEvenIdeal.main (F := Ideal))) ⟨m, fun _ => 0, g⟩ (fun r => ∀ c : Dev Cert.AdamInEvenIdeal.nD,
          r.2.mem ((c.tc : Thread Cert.AdamInEvenIdeal.nD Cert.AdamInEvenIdeal.τ).loc Cert.AdamInEvenIdeal.main_v0_0) = v0 c
          ∧ r.2.mem ((c.tc : Thread Cert.AdamInEvenIdeal.nD Cert.AdamInEvenIdeal.τ).loc Cert.AdamInEvenIdeal.main_v0_1) = v1 c
          ∧ r.2.mem ((c.tc : Thread Cert.AdamInEvenIdeal.nD Cert.AdamInEvenIdeal.τ).loc Cert.AdamInEvenIdeal.main_v0_2) = v2 c
          ∧ r.2.mem ((c.tc : Thread Cert.AdamInEvenIdeal.nD Cert.AdamInEvenIdeal.τ).loc Cert.AdamInEvenIdeal.main_arg0) = m ((c.tc : Thread Cert.AdamInEvenIdeal.nD Cert.AdamInEvenIdeal.τ).loc Cert.AdamInEvenIdeal.main_arg0)
          ∧ r.2.mem ((c.tc : Thread Cert.AdamInEvenIdeal.nD Cert.AdamInEvenIdeal.τ).loc Cert.AdamInEvenIdeal.main_arg1) = m ((c.tc : Thread Cert.AdamInEvenIdeal.nD Cert.AdamInEvenIdeal.τ).loc Cert.AdamInEvenIdeal.main_arg1)
          ∧ r.2.mem ((c.tc : Thread Cert.AdamInEvenIdeal.nD Cert.AdamInEvenIdeal.τ).loc Cert.AdamInEvenIdeal.main_arg2) = m ((c.tc : Thread Cert.AdamInEvenIdeal.nD Cert.AdamInEvenIdeal.τ).loc Cert.AdamInEvenIdeal.main_arg2)
          ∧ r.2.mem ((c.tc : Thread Cert.AdamInEvenIdeal.nD Cert.AdamInEvenIdeal.τ).loc Cert.AdamInEvenIdeal.main_arg3) = m ((c.tc : Thread Cert.AdamInEvenIdeal.nD Cert.AdamInEvenIdeal.τ).loc Cert.AdamInEvenIdeal.main_arg3))
      ∧ θ_run (Cert.AdamInEvenReferenceIdeal.defs (F := Ideal)) (onTc (τ := Cert.AdamInEvenReferenceIdeal.τ) (Cert.AdamInEvenReferenceIdeal.main (F := Ideal))) ⟨m', fun _ => 0, g'⟩ (fun r => ∀ c : Dev Cert.AdamInEvenReferenceIdeal.nD,
          r.2.mem ((c.tc : Thread Cert.AdamInEvenReferenceIdeal.nD Cert.AdamInEvenReferenceIdeal.τ).loc Cert.AdamInEvenReferenceIdeal.main_v23) = v0 c
          ∧ r.2.mem ((c.tc : Thread Cert.AdamInEvenReferenceIdeal.nD Cert.AdamInEvenReferenceIdeal.τ).loc Cert.AdamInEvenReferenceIdeal.main_v4) = v1 c
          ∧ r.2.mem ((c.tc : Thread Cert.AdamInEvenReferenceIdeal.nD Cert.AdamInEvenReferenceIdeal.τ).loc Cert.AdamInEvenReferenceIdeal.main_v10) = v2 c
          ∧ r.2.mem ((c.tc : Thread Cert.AdamInEvenReferenceIdeal.nD Cert.AdamInEvenReferenceIdeal.τ).loc Cert.AdamInEvenReferenceIdeal.main_arg0) = m' ((c.tc : Thread Cert.AdamInEvenReferenceIdeal.nD Cert.AdamInEvenReferenceIdeal.τ).loc Cert.AdamInEvenReferenceIdeal.main_arg0)
          ∧ r.2.mem ((c.tc : Thread Cert.AdamInEvenReferenceIdeal.nD Cert.AdamInEvenReferenceIdeal.τ).loc Cert.AdamInEvenReferenceIdeal.main_arg1) = m' ((c.tc : Thread Cert.AdamInEvenReferenceIdeal.nD Cert.AdamInEvenReferenceIdeal.τ).loc Cert.AdamInEvenReferenceIdeal.main_arg1)
          ∧ r.2.mem ((c.tc : Thread Cert.AdamInEvenReferenceIdeal.nD Cert.AdamInEvenReferenceIdeal.τ).loc Cert.AdamInEvenReferenceIdeal.main_arg2) = m' ((c.tc : Thread Cert.AdamInEvenReferenceIdeal.nD Cert.AdamInEvenReferenceIdeal.τ).loc Cert.AdamInEvenReferenceIdeal.main_arg2)
          ∧ r.2.mem ((c.tc : Thread Cert.AdamInEvenReferenceIdeal.nD Cert.AdamInEvenReferenceIdeal.τ).loc Cert.AdamInEvenReferenceIdeal.main_arg3) = m' ((c.tc : Thread Cert.AdamInEvenReferenceIdeal.nD Cert.AdamInEvenReferenceIdeal.τ).loc Cert.AdamInEvenReferenceIdeal.main_arg3))

def preserves_AdamPool_AdamPoolIdeal : Prop :=
  IdealRules.named_const.Statement Cert.AdamPoolIdeal.κ "unbias_m" .f32 0x3FC48605#32 (((5463681 / 8388608)⁻¹ : ℝ) : EReal)
  ∧ IdealRules.named_const.Statement Cert.AdamPoolIdeal.κ "unbias_v" .f32 0x42C8E6D3#32 (((2672307 / 268435456)⁻¹ : ℝ) : EReal)

def algebraic_AdamPoolIdeal_AdamPoolReferenceIdeal [hAdamPoolIdeal : Cert.AdamPoolIdeal.Facts] [hAdamPoolReferenceIdeal : Cert.AdamPoolReferenceIdeal.Facts] : Prop :=
  ∀ (m : (ℓ : Loc Cert.AdamPoolIdeal.nD Cert.AdamPoolIdeal.τ Cert.AdamPoolIdeal.sig) → Buf (Elt Ideal) ℓ) (g : Dev Cert.AdamPoolIdeal.nD → PrngReg)
    (m' : (ℓ : Loc Cert.AdamPoolReferenceIdeal.nD Cert.AdamPoolReferenceIdeal.τ Cert.AdamPoolReferenceIdeal.sig) → Buf (Elt Ideal) ℓ) (g' : Dev Cert.AdamPoolReferenceIdeal.nD → PrngReg), Pre_AdamPoolIdeal m →
    (∀ c : Dev Cert.AdamPoolIdeal.nD,
      m' ((c.tc : Thread Cert.AdamPoolReferenceIdeal.nD Cert.AdamPoolReferenceIdeal.τ).loc Cert.AdamPoolReferenceIdeal.main_arg0) = m ((c.tc : Thread Cert.AdamPoolIdeal.nD Cert.AdamPoolIdeal.τ).loc Cert.AdamPoolIdeal.main_arg0)
      ∧ m' ((c.tc : Thread Cert.AdamPoolReferenceIdeal.nD Cert.AdamPoolReferenceIdeal.τ).loc Cert.AdamPoolReferenceIdeal.main_arg1) = m ((c.tc : Thread Cert.AdamPoolIdeal.nD Cert.AdamPoolIdeal.τ).loc Cert.AdamPoolIdeal.main_arg1)
      ∧ m' ((c.tc : Thread Cert.AdamPoolReferenceIdeal.nD Cert.AdamPoolReferenceIdeal.τ).loc Cert.AdamPoolReferenceIdeal.main_arg2) = m ((c.tc : Thread Cert.AdamPoolIdeal.nD Cert.AdamPoolIdeal.τ).loc Cert.AdamPoolIdeal.main_arg2)
      ∧ m' ((c.tc : Thread Cert.AdamPoolReferenceIdeal.nD Cert.AdamPoolReferenceIdeal.τ).loc Cert.AdamPoolReferenceIdeal.main_arg3) = m ((c.tc : Thread Cert.AdamPoolIdeal.nD Cert.AdamPoolIdeal.τ).loc Cert.AdamPoolIdeal.main_arg3)) →
    ∃ (v0 : (c : Dev Cert.AdamPoolIdeal.nD) → Buf (Elt Ideal) ((c.tc : Thread Cert.AdamPoolIdeal.nD Cert.AdamPoolIdeal.τ).loc Cert.AdamPoolIdeal.main_v0_0)) (v1 : (c : Dev Cert.AdamPoolIdeal.nD) → Buf (Elt Ideal) ((c.tc : Thread Cert.AdamPoolIdeal.nD Cert.AdamPoolIdeal.τ).loc Cert.AdamPoolIdeal.main_v0_1)) (v2 : (c : Dev Cert.AdamPoolIdeal.nD) → Buf (Elt Ideal) ((c.tc : Thread Cert.AdamPoolIdeal.nD Cert.AdamPoolIdeal.τ).loc Cert.AdamPoolIdeal.main_v0_2)),
      θ_run (Cert.AdamPoolIdeal.defs (F := Ideal)) (onTc (τ := Cert.AdamPoolIdeal.τ) (Cert.AdamPoolIdeal.main (F := Ideal))) ⟨m, fun _ => 0, g⟩ (fun r => ∀ c : Dev Cert.AdamPoolIdeal.nD,
          r.2.mem ((c.tc : Thread Cert.AdamPoolIdeal.nD Cert.AdamPoolIdeal.τ).loc Cert.AdamPoolIdeal.main_v0_0) = v0 c
          ∧ r.2.mem ((c.tc : Thread Cert.AdamPoolIdeal.nD Cert.AdamPoolIdeal.τ).loc Cert.AdamPoolIdeal.main_v0_1) = v1 c
          ∧ r.2.mem ((c.tc : Thread Cert.AdamPoolIdeal.nD Cert.AdamPoolIdeal.τ).loc Cert.AdamPoolIdeal.main_v0_2) = v2 c
          ∧ r.2.mem ((c.tc : Thread Cert.AdamPoolIdeal.nD Cert.AdamPoolIdeal.τ).loc Cert.AdamPoolIdeal.main_arg0) = m ((c.tc : Thread Cert.AdamPoolIdeal.nD Cert.AdamPoolIdeal.τ).loc Cert.AdamPoolIdeal.main_arg0)
          ∧ r.2.mem ((c.tc : Thread Cert.AdamPoolIdeal.nD Cert.AdamPoolIdeal.τ).loc Cert.AdamPoolIdeal.main_arg1) = m ((c.tc : Thread Cert.AdamPoolIdeal.nD Cert.AdamPoolIdeal.τ).loc Cert.AdamPoolIdeal.main_arg1)
          ∧ r.2.mem ((c.tc : Thread Cert.AdamPoolIdeal.nD Cert.AdamPoolIdeal.τ).loc Cert.AdamPoolIdeal.main_arg2) = m ((c.tc : Thread Cert.AdamPoolIdeal.nD Cert.AdamPoolIdeal.τ).loc Cert.AdamPoolIdeal.main_arg2)
          ∧ r.2.mem ((c.tc : Thread Cert.AdamPoolIdeal.nD Cert.AdamPoolIdeal.τ).loc Cert.AdamPoolIdeal.main_arg3) = m ((c.tc : Thread Cert.AdamPoolIdeal.nD Cert.AdamPoolIdeal.τ).loc Cert.AdamPoolIdeal.main_arg3))
      ∧ θ_run (Cert.AdamPoolReferenceIdeal.defs (F := Ideal)) (onTc (τ := Cert.AdamPoolReferenceIdeal.τ) (Cert.AdamPoolReferenceIdeal.main (F := Ideal))) ⟨m', fun _ => 0, g'⟩ (fun r => ∀ c : Dev Cert.AdamPoolReferenceIdeal.nD,
          r.2.mem ((c.tc : Thread Cert.AdamPoolReferenceIdeal.nD Cert.AdamPoolReferenceIdeal.τ).loc Cert.AdamPoolReferenceIdeal.main_v23) = v0 c
          ∧ r.2.mem ((c.tc : Thread Cert.AdamPoolReferenceIdeal.nD Cert.AdamPoolReferenceIdeal.τ).loc Cert.AdamPoolReferenceIdeal.main_v4) = v1 c
          ∧ r.2.mem ((c.tc : Thread Cert.AdamPoolReferenceIdeal.nD Cert.AdamPoolReferenceIdeal.τ).loc Cert.AdamPoolReferenceIdeal.main_v10) = v2 c
          ∧ r.2.mem ((c.tc : Thread Cert.AdamPoolReferenceIdeal.nD Cert.AdamPoolReferenceIdeal.τ).loc Cert.AdamPoolReferenceIdeal.main_arg0) = m' ((c.tc : Thread Cert.AdamPoolReferenceIdeal.nD Cert.AdamPoolReferenceIdeal.τ).loc Cert.AdamPoolReferenceIdeal.main_arg0)
          ∧ r.2.mem ((c.tc : Thread Cert.AdamPoolReferenceIdeal.nD Cert.AdamPoolReferenceIdeal.τ).loc Cert.AdamPoolReferenceIdeal.main_arg1) = m' ((c.tc : Thread Cert.AdamPoolReferenceIdeal.nD Cert.AdamPoolReferenceIdeal.τ).loc Cert.AdamPoolReferenceIdeal.main_arg1)
          ∧ r.2.mem ((c.tc : Thread Cert.AdamPoolReferenceIdeal.nD Cert.AdamPoolReferenceIdeal.τ).loc Cert.AdamPoolReferenceIdeal.main_arg2) = m' ((c.tc : Thread Cert.AdamPoolReferenceIdeal.nD Cert.AdamPoolReferenceIdeal.τ).loc Cert.AdamPoolReferenceIdeal.main_arg2)
          ∧ r.2.mem ((c.tc : Thread Cert.AdamPoolReferenceIdeal.nD Cert.AdamPoolReferenceIdeal.τ).loc Cert.AdamPoolReferenceIdeal.main_arg3) = m' ((c.tc : Thread Cert.AdamPoolReferenceIdeal.nD Cert.AdamPoolReferenceIdeal.τ).loc Cert.AdamPoolReferenceIdeal.main_arg3))

def preserves_AdamPoolScale_AdamPoolScaleIdeal : Prop :=
  IdealRules.named_const.Statement Cert.AdamPoolScaleIdeal.κ "unbias_m" .f32 0x3FC48605#32 (((5463681 / 8388608)⁻¹ : ℝ) : EReal)
  ∧ IdealRules.named_const.Statement Cert.AdamPoolScaleIdeal.κ "unbias_v" .f32 0x42C8E6D3#32 (((2672307 / 268435456)⁻¹ : ℝ) : EReal)

def algebraic_AdamPoolScaleIdeal_AdamPoolScaleReferenceIdeal [hAdamPoolScaleIdeal : Cert.AdamPoolScaleIdeal.Facts] [hAdamPoolScaleReferenceIdeal : Cert.AdamPoolScaleReferenceIdeal.Facts] : Prop :=
  ∀ (m : (ℓ : Loc Cert.AdamPoolScaleIdeal.nD Cert.AdamPoolScaleIdeal.τ Cert.AdamPoolScaleIdeal.sig) → Buf (Elt Ideal) ℓ) (g : Dev Cert.AdamPoolScaleIdeal.nD → PrngReg)
    (m' : (ℓ : Loc Cert.AdamPoolScaleReferenceIdeal.nD Cert.AdamPoolScaleReferenceIdeal.τ Cert.AdamPoolScaleReferenceIdeal.sig) → Buf (Elt Ideal) ℓ) (g' : Dev Cert.AdamPoolScaleReferenceIdeal.nD → PrngReg), Pre_AdamPoolScaleIdeal m →
    (∀ c : Dev Cert.AdamPoolScaleIdeal.nD,
      m' ((c.tc : Thread Cert.AdamPoolScaleReferenceIdeal.nD Cert.AdamPoolScaleReferenceIdeal.τ).loc Cert.AdamPoolScaleReferenceIdeal.main_arg0) = m ((c.tc : Thread Cert.AdamPoolScaleIdeal.nD Cert.AdamPoolScaleIdeal.τ).loc Cert.AdamPoolScaleIdeal.main_arg0)
      ∧ m' ((c.tc : Thread Cert.AdamPoolScaleReferenceIdeal.nD Cert.AdamPoolScaleReferenceIdeal.τ).loc Cert.AdamPoolScaleReferenceIdeal.main_arg1) = m ((c.tc : Thread Cert.AdamPoolScaleIdeal.nD Cert.AdamPoolScaleIdeal.τ).loc Cert.AdamPoolScaleIdeal.main_arg1)
      ∧ m' ((c.tc : Thread Cert.AdamPoolScaleReferenceIdeal.nD Cert.AdamPoolScaleReferenceIdeal.τ).loc Cert.AdamPoolScaleReferenceIdeal.main_arg2) = m ((c.tc : Thread Cert.AdamPoolScaleIdeal.nD Cert.AdamPoolScaleIdeal.τ).loc Cert.AdamPoolScaleIdeal.main_arg2)
      ∧ m' ((c.tc : Thread Cert.AdamPoolScaleReferenceIdeal.nD Cert.AdamPoolScaleReferenceIdeal.τ).loc Cert.AdamPoolScaleReferenceIdeal.main_arg3) = m ((c.tc : Thread Cert.AdamPoolScaleIdeal.nD Cert.AdamPoolScaleIdeal.τ).loc Cert.AdamPoolScaleIdeal.main_arg3)) →
    ∃ (v0 : (c : Dev Cert.AdamPoolScaleIdeal.nD) → Buf (Elt Ideal) ((c.tc : Thread Cert.AdamPoolScaleIdeal.nD Cert.AdamPoolScaleIdeal.τ).loc Cert.AdamPoolScaleIdeal.main_v0_0)) (v1 : (c : Dev Cert.AdamPoolScaleIdeal.nD) → Buf (Elt Ideal) ((c.tc : Thread Cert.AdamPoolScaleIdeal.nD Cert.AdamPoolScaleIdeal.τ).loc Cert.AdamPoolScaleIdeal.main_v0_1)) (v2 : (c : Dev Cert.AdamPoolScaleIdeal.nD) → Buf (Elt Ideal) ((c.tc : Thread Cert.AdamPoolScaleIdeal.nD Cert.AdamPoolScaleIdeal.τ).loc Cert.AdamPoolScaleIdeal.main_v0_2)),
      θ_run (Cert.AdamPoolScaleIdeal.defs (F := Ideal)) (onTc (τ := Cert.AdamPoolScaleIdeal.τ) (Cert.AdamPoolScaleIdeal.main (F := Ideal))) ⟨m, fun _ => 0, g⟩ (fun r => ∀ c : Dev Cert.AdamPoolScaleIdeal.nD,
          r.2.mem ((c.tc : Thread Cert.AdamPoolScaleIdeal.nD Cert.AdamPoolScaleIdeal.τ).loc Cert.AdamPoolScaleIdeal.main_v0_0) = v0 c
          ∧ r.2.mem ((c.tc : Thread Cert.AdamPoolScaleIdeal.nD Cert.AdamPoolScaleIdeal.τ).loc Cert.AdamPoolScaleIdeal.main_v0_1) = v1 c
          ∧ r.2.mem ((c.tc : Thread Cert.AdamPoolScaleIdeal.nD Cert.AdamPoolScaleIdeal.τ).loc Cert.AdamPoolScaleIdeal.main_v0_2) = v2 c
          ∧ r.2.mem ((c.tc : Thread Cert.AdamPoolScaleIdeal.nD Cert.AdamPoolScaleIdeal.τ).loc Cert.AdamPoolScaleIdeal.main_arg0) = m ((c.tc : Thread Cert.AdamPoolScaleIdeal.nD Cert.AdamPoolScaleIdeal.τ).loc Cert.AdamPoolScaleIdeal.main_arg0)
          ∧ r.2.mem ((c.tc : Thread Cert.AdamPoolScaleIdeal.nD Cert.AdamPoolScaleIdeal.τ).loc Cert.AdamPoolScaleIdeal.main_arg1) = m ((c.tc : Thread Cert.AdamPoolScaleIdeal.nD Cert.AdamPoolScaleIdeal.τ).loc Cert.AdamPoolScaleIdeal.main_arg1)
          ∧ r.2.mem ((c.tc : Thread Cert.AdamPoolScaleIdeal.nD Cert.AdamPoolScaleIdeal.τ).loc Cert.AdamPoolScaleIdeal.main_arg2) = m ((c.tc : Thread Cert.AdamPoolScaleIdeal.nD Cert.AdamPoolScaleIdeal.τ).loc Cert.AdamPoolScaleIdeal.main_arg2)
          ∧ r.2.mem ((c.tc : Thread Cert.AdamPoolScaleIdeal.nD Cert.AdamPoolScaleIdeal.τ).loc Cert.AdamPoolScaleIdeal.main_arg3) = m ((c.tc : Thread Cert.AdamPoolScaleIdeal.nD Cert.AdamPoolScaleIdeal.τ).loc Cert.AdamPoolScaleIdeal.main_arg3))
      ∧ θ_run (Cert.AdamPoolScaleReferenceIdeal.defs (F := Ideal)) (onTc (τ := Cert.AdamPoolScaleReferenceIdeal.τ) (Cert.AdamPoolScaleReferenceIdeal.main (F := Ideal))) ⟨m', fun _ => 0, g'⟩ (fun r => ∀ c : Dev Cert.AdamPoolScaleReferenceIdeal.nD,
          r.2.mem ((c.tc : Thread Cert.AdamPoolScaleReferenceIdeal.nD Cert.AdamPoolScaleReferenceIdeal.τ).loc Cert.AdamPoolScaleReferenceIdeal.main_v23) = v0 c
          ∧ r.2.mem ((c.tc : Thread Cert.AdamPoolScaleReferenceIdeal.nD Cert.AdamPoolScaleReferenceIdeal.τ).loc Cert.AdamPoolScaleReferenceIdeal.main_v4) = v1 c
          ∧ r.2.mem ((c.tc : Thread Cert.AdamPoolScaleReferenceIdeal.nD Cert.AdamPoolScaleReferenceIdeal.τ).loc Cert.AdamPoolScaleReferenceIdeal.main_v10) = v2 c
          ∧ r.2.mem ((c.tc : Thread Cert.AdamPoolScaleReferenceIdeal.nD Cert.AdamPoolScaleReferenceIdeal.τ).loc Cert.AdamPoolScaleReferenceIdeal.main_arg0) = m' ((c.tc : Thread Cert.AdamPoolScaleReferenceIdeal.nD Cert.AdamPoolScaleReferenceIdeal.τ).loc Cert.AdamPoolScaleReferenceIdeal.main_arg0)
          ∧ r.2.mem ((c.tc : Thread Cert.AdamPoolScaleReferenceIdeal.nD Cert.AdamPoolScaleReferenceIdeal.τ).loc Cert.AdamPoolScaleReferenceIdeal.main_arg1) = m' ((c.tc : Thread Cert.AdamPoolScaleReferenceIdeal.nD Cert.AdamPoolScaleReferenceIdeal.τ).loc Cert.AdamPoolScaleReferenceIdeal.main_arg1)
          ∧ r.2.mem ((c.tc : Thread Cert.AdamPoolScaleReferenceIdeal.nD Cert.AdamPoolScaleReferenceIdeal.τ).loc Cert.AdamPoolScaleReferenceIdeal.main_arg2) = m' ((c.tc : Thread Cert.AdamPoolScaleReferenceIdeal.nD Cert.AdamPoolScaleReferenceIdeal.τ).loc Cert.AdamPoolScaleReferenceIdeal.main_arg2)
          ∧ r.2.mem ((c.tc : Thread Cert.AdamPoolScaleReferenceIdeal.nD Cert.AdamPoolScaleReferenceIdeal.τ).loc Cert.AdamPoolScaleReferenceIdeal.main_arg3) = m' ((c.tc : Thread Cert.AdamPoolScaleReferenceIdeal.nD Cert.AdamPoolScaleReferenceIdeal.τ).loc Cert.AdamPoolScaleReferenceIdeal.main_arg3))

def preserves_AdamOut_AdamOutIdeal : Prop :=
  IdealRules.named_const.Statement Cert.AdamOutIdeal.κ "unbias_m" .f32 0x3FC48605#32 (((5463681 / 8388608)⁻¹ : ℝ) : EReal)
  ∧ IdealRules.named_const.Statement Cert.AdamOutIdeal.κ "unbias_v" .f32 0x42C8E6D3#32 (((2672307 / 268435456)⁻¹ : ℝ) : EReal)

def algebraic_AdamOutIdeal_AdamOutReferenceIdeal [hAdamOutIdeal : Cert.AdamOutIdeal.Facts] [hAdamOutReferenceIdeal : Cert.AdamOutReferenceIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutReferenceIdeal.nD Cert.AdamOutReferenceIdeal.τ Cert.AdamOutReferenceIdeal.sig) → Buf (Elt Ideal) ℓ) (g' : Dev Cert.AdamOutReferenceIdeal.nD → PrngReg), Pre_AdamOutIdeal m →
    (∀ c : Dev Cert.AdamOutIdeal.nD,
      m' ((c.tc : Thread Cert.AdamOutReferenceIdeal.nD Cert.AdamOutReferenceIdeal.τ).loc Cert.AdamOutReferenceIdeal.main_arg0) = m ((c.tc : Thread Cert.AdamOutIdeal.nD Cert.AdamOutIdeal.τ).loc Cert.AdamOutIdeal.main_arg0)
      ∧ m' ((c.tc : Thread Cert.AdamOutReferenceIdeal.nD Cert.AdamOutReferenceIdeal.τ).loc Cert.AdamOutReferenceIdeal.main_arg1) = m ((c.tc : Thread Cert.AdamOutIdeal.nD Cert.AdamOutIdeal.τ).loc Cert.AdamOutIdeal.main_arg1)
      ∧ m' ((c.tc : Thread Cert.AdamOutReferenceIdeal.nD Cert.AdamOutReferenceIdeal.τ).loc Cert.AdamOutReferenceIdeal.main_arg2) = m ((c.tc : Thread Cert.AdamOutIdeal.nD Cert.AdamOutIdeal.τ).loc Cert.AdamOutIdeal.main_arg2)
      ∧ m' ((c.tc : Thread Cert.AdamOutReferenceIdeal.nD Cert.AdamOutReferenceIdeal.τ).loc Cert.AdamOutReferenceIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutReferenceIdeal.defs (F := Ideal)) (onTc (τ := Cert.AdamOutReferenceIdeal.τ) (Cert.AdamOutReferenceIdeal.main (F := Ideal))) ⟨m', fun _ => 0, g'⟩ (fun r => ∀ c : Dev Cert.AdamOutReferenceIdeal.nD,
          r.2.mem ((c.tc : Thread Cert.AdamOutReferenceIdeal.nD Cert.AdamOutReferenceIdeal.τ).loc Cert.AdamOutReferenceIdeal.main_v23) = v0 c
          ∧ r.2.mem ((c.tc : Thread Cert.AdamOutReferenceIdeal.nD Cert.AdamOutReferenceIdeal.τ).loc Cert.AdamOutReferenceIdeal.main_v4) = v1 c
          ∧ r.2.mem ((c.tc : Thread Cert.AdamOutReferenceIdeal.nD Cert.AdamOutReferenceIdeal.τ).loc Cert.AdamOutReferenceIdeal.main_v10) = v2 c
          ∧ r.2.mem ((c.tc : Thread Cert.AdamOutReferenceIdeal.nD Cert.AdamOutReferenceIdeal.τ).loc Cert.AdamOutReferenceIdeal.main_arg0) = m' ((c.tc : Thread Cert.AdamOutReferenceIdeal.nD Cert.AdamOutReferenceIdeal.τ).loc Cert.AdamOutReferenceIdeal.main_arg0)
          ∧ r.2.mem ((c.tc : Thread Cert.AdamOutReferenceIdeal.nD Cert.AdamOutReferenceIdeal.τ).loc Cert.AdamOutReferenceIdeal.main_arg1) = m' ((c.tc : Thread Cert.AdamOutReferenceIdeal.nD Cert.AdamOutReferenceIdeal.τ).loc Cert.AdamOutReferenceIdeal.main_arg1)
          ∧ r.2.mem ((c.tc : Thread Cert.AdamOutReferenceIdeal.nD Cert.AdamOutReferenceIdeal.τ).loc Cert.AdamOutReferenceIdeal.main_arg2) = m' ((c.tc : Thread Cert.AdamOutReferenceIdeal.nD Cert.AdamOutReferenceIdeal.τ).loc Cert.AdamOutReferenceIdeal.main_arg2)
          ∧ r.2.mem ((c.tc : Thread Cert.AdamOutReferenceIdeal.nD Cert.AdamOutReferenceIdeal.τ).loc Cert.AdamOutReferenceIdeal.main_arg3) = m' ((c.tc : Thread Cert.AdamOutReferenceIdeal.nD Cert.AdamOutReferenceIdeal.τ).loc Cert.AdamOutReferenceIdeal.main_arg3))

def preserves_AdamNorm_AdamNormIdeal : Prop :=
  IdealRules.named_const.Statement Cert.AdamNormIdeal.κ "unbias_m" .f32 0x3FC48605#32 (((5463681 / 8388608)⁻¹ : ℝ) : EReal)
  ∧ IdealRules.named_const.Statement Cert.AdamNormIdeal.κ "unbias_v" .f32 0x42C8E6D3#32 (((2672307 / 268435456)⁻¹ : ℝ) : EReal)

def algebraic_AdamNormIdeal_AdamNormReferenceIdeal [hAdamNormIdeal : Cert.AdamNormIdeal.Facts] [hAdamNormReferenceIdeal : Cert.AdamNormReferenceIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg)
    (m' : (ℓ : Loc Cert.AdamNormReferenceIdeal.nD Cert.AdamNormReferenceIdeal.τ Cert.AdamNormReferenceIdeal.sig) → Buf (Elt Ideal) ℓ) (g' : Dev Cert.AdamNormReferenceIdeal.nD → PrngReg), Pre_AdamNormIdeal m →
    (∀ c : Dev Cert.AdamNormIdeal.nD,
      m' ((c.tc : Thread Cert.AdamNormReferenceIdeal.nD Cert.AdamNormReferenceIdeal.τ).loc Cert.AdamNormReferenceIdeal.main_arg0) = m ((c.tc : Thread Cert.AdamNormIdeal.nD Cert.AdamNormIdeal.τ).loc Cert.AdamNormIdeal.main_arg0)
      ∧ m' ((c.tc : Thread Cert.AdamNormReferenceIdeal.nD Cert.AdamNormReferenceIdeal.τ).loc Cert.AdamNormReferenceIdeal.main_arg1) = m ((c.tc : Thread Cert.AdamNormIdeal.nD Cert.AdamNormIdeal.τ).loc Cert.AdamNormIdeal.main_arg1)
      ∧ m' ((c.tc : Thread Cert.AdamNormReferenceIdeal.nD Cert.AdamNormReferenceIdeal.τ).loc Cert.AdamNormReferenceIdeal.main_arg2) = m ((c.tc : Thread Cert.AdamNormIdeal.nD Cert.AdamNormIdeal.τ).loc Cert.AdamNormIdeal.main_arg2)
      ∧ m' ((c.tc : Thread Cert.AdamNormReferenceIdeal.nD Cert.AdamNormReferenceIdeal.τ).loc Cert.AdamNormReferenceIdeal.main_arg3) = m ((c.tc : Thread Cert.AdamNormIdeal.nD Cert.AdamNormIdeal.τ).loc Cert.AdamNormIdeal.main_arg3)) →
    ∃ (v0 : (c : Dev Cert.AdamNormIdeal.nD) → Buf (Elt Ideal) ((c.tc : Thread Cert.AdamNormIdeal.nD Cert.AdamNormIdeal.τ).loc Cert.AdamNormIdeal.main_v0_0)) (v1 : (c : Dev Cert.AdamNormIdeal.nD) → Buf (Elt Ideal) ((c.tc : Thread Cert.AdamNormIdeal.nD Cert.AdamNormIdeal.τ).loc Cert.AdamNormIdeal.main_v0_1)) (v2 : (c : Dev Cert.AdamNormIdeal.nD) → Buf (Elt Ideal) ((c.tc : Thread Cert.AdamNormIdeal.nD Cert.AdamNormIdeal.τ).loc Cert.AdamNormIdeal.main_v0_2)),
      θ_run (Cert.AdamNormIdeal.defs (F := Ideal)) (onTc (τ := Cert.AdamNormIdeal.τ) (Cert.AdamNormIdeal.main (F := Ideal))) ⟨m, fun _ => 0, g⟩ (fun r => ∀ c : Dev Cert.AdamNormIdeal.nD,
          r.2.mem ((c.tc : Thread Cert.AdamNormIdeal.nD Cert.AdamNormIdeal.τ).loc Cert.AdamNormIdeal.main_v0_0) = v0 c
          ∧ r.2.mem ((c.tc : Thread Cert.AdamNormIdeal.nD Cert.AdamNormIdeal.τ).loc Cert.AdamNormIdeal.main_v0_1) = v1 c
          ∧ r.2.mem ((c.tc : Thread Cert.AdamNormIdeal.nD Cert.AdamNormIdeal.τ).loc Cert.AdamNormIdeal.main_v0_2) = v2 c
          ∧ r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
          ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
          ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
          ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ θ_run (Cert.AdamNormReferenceIdeal.defs (F := Ideal)) (onTc (τ := Cert.AdamNormReferenceIdeal.τ) (Cert.AdamNormReferenceIdeal.main (F := Ideal))) ⟨m', fun _ => 0, g'⟩ (fun r => ∀ c : Dev Cert.AdamNormReferenceIdeal.nD,
          r.2.mem ((c.tc : Thread Cert.AdamNormReferenceIdeal.nD Cert.AdamNormReferenceIdeal.τ).loc Cert.AdamNormReferenceIdeal.main_v23) = v0 c
          ∧ r.2.mem ((c.tc : Thread Cert.AdamNormReferenceIdeal.nD Cert.AdamNormReferenceIdeal.τ).loc Cert.AdamNormReferenceIdeal.main_v4) = v1 c
          ∧ r.2.mem ((c.tc : Thread Cert.AdamNormReferenceIdeal.nD Cert.AdamNormReferenceIdeal.τ).loc Cert.AdamNormReferenceIdeal.main_v10) = v2 c
          ∧ r.2.mem ((c.tc : Thread Cert.AdamNormReferenceIdeal.nD Cert.AdamNormReferenceIdeal.τ).loc Cert.AdamNormReferenceIdeal.main_arg0) = m' ((c.tc : Thread Cert.AdamNormReferenceIdeal.nD Cert.AdamNormReferenceIdeal.τ).loc Cert.AdamNormReferenceIdeal.main_arg0)
          ∧ r.2.mem ((c.tc : Thread Cert.AdamNormReferenceIdeal.nD Cert.AdamNormReferenceIdeal.τ).loc Cert.AdamNormReferenceIdeal.main_arg1) = m' ((c.tc : Thread Cert.AdamNormReferenceIdeal.nD Cert.AdamNormReferenceIdeal.τ).loc Cert.AdamNormReferenceIdeal.main_arg1)
          ∧ r.2.mem ((c.tc : Thread Cert.AdamNormReferenceIdeal.nD Cert.AdamNormReferenceIdeal.τ).loc Cert.AdamNormReferenceIdeal.main_arg2) = m' ((c.tc : Thread Cert.AdamNormReferenceIdeal.nD Cert.AdamNormReferenceIdeal.τ).loc Cert.AdamNormReferenceIdeal.main_arg2)
          ∧ r.2.mem ((c.tc : Thread Cert.AdamNormReferenceIdeal.nD Cert.AdamNormReferenceIdeal.τ).loc Cert.AdamNormReferenceIdeal.main_arg3) = m' ((c.tc : Thread Cert.AdamNormReferenceIdeal.nD Cert.AdamNormReferenceIdeal.τ).loc Cert.AdamNormReferenceIdeal.main_arg3))

def preserves_AdamNormOdd_AdamNormOddIdeal : Prop :=
  IdealRules.named_const.Statement Cert.AdamNormOddIdeal.κ "unbias_m" .f32 0x3FC48605#32 (((5463681 / 8388608)⁻¹ : ℝ) : EReal)
  ∧ IdealRules.named_const.Statement Cert.AdamNormOddIdeal.κ "unbias_v" .f32 0x42C8E6D3#32 (((2672307 / 268435456)⁻¹ : ℝ) : EReal)

def algebraic_AdamNormOddIdeal_AdamNormOddReferenceIdeal [hAdamNormOddIdeal : Cert.AdamNormOddIdeal.Facts] [hAdamNormOddReferenceIdeal : Cert.AdamNormOddReferenceIdeal.Facts] : Prop :=
  ∀ (m : (ℓ : Loc Cert.AdamNormOddIdeal.nD Cert.AdamNormOddIdeal.τ Cert.AdamNormOddIdeal.sig) → Buf (Elt Ideal) ℓ) (g : Dev Cert.AdamNormOddIdeal.nD → PrngReg)
    (m' : (ℓ : Loc Cert.AdamNormOddReferenceIdeal.nD Cert.AdamNormOddReferenceIdeal.τ Cert.AdamNormOddReferenceIdeal.sig) → Buf (Elt Ideal) ℓ) (g' : Dev Cert.AdamNormOddReferenceIdeal.nD → PrngReg), Pre_AdamNormOddIdeal m →
    (∀ c : Dev Cert.AdamNormOddIdeal.nD,
      m' ((c.tc : Thread Cert.AdamNormOddReferenceIdeal.nD Cert.AdamNormOddReferenceIdeal.τ).loc Cert.AdamNormOddReferenceIdeal.main_arg0) = m ((c.tc : Thread Cert.AdamNormOddIdeal.nD Cert.AdamNormOddIdeal.τ).loc Cert.AdamNormOddIdeal.main_arg0)
      ∧ m' ((c.tc : Thread Cert.AdamNormOddReferenceIdeal.nD Cert.AdamNormOddReferenceIdeal.τ).loc Cert.AdamNormOddReferenceIdeal.main_arg1) = m ((c.tc : Thread Cert.AdamNormOddIdeal.nD Cert.AdamNormOddIdeal.τ).loc Cert.AdamNormOddIdeal.main_arg1)
      ∧ m' ((c.tc : Thread Cert.AdamNormOddReferenceIdeal.nD Cert.AdamNormOddReferenceIdeal.τ).loc Cert.AdamNormOddReferenceIdeal.main_arg2) = m ((c.tc : Thread Cert.AdamNormOddIdeal.nD Cert.AdamNormOddIdeal.τ).loc Cert.AdamNormOddIdeal.main_arg2)
      ∧ m' ((c.tc : Thread Cert.AdamNormOddReferenceIdeal.nD Cert.AdamNormOddReferenceIdeal.τ).loc Cert.AdamNormOddReferenceIdeal.main_arg3) = m ((c.tc : Thread Cert.AdamNormOddIdeal.nD Cert.AdamNormOddIdeal.τ).loc Cert.AdamNormOddIdeal.main_arg3)) →
    ∃ (v0 : (c : Dev Cert.AdamNormOddIdeal.nD) → Buf (Elt Ideal) ((c.tc : Thread Cert.AdamNormOddIdeal.nD Cert.AdamNormOddIdeal.τ).loc Cert.AdamNormOddIdeal.main_v0_0)) (v1 : (c : Dev Cert.AdamNormOddIdeal.nD) → Buf (Elt Ideal) ((c.tc : Thread Cert.AdamNormOddIdeal.nD Cert.AdamNormOddIdeal.τ).loc Cert.AdamNormOddIdeal.main_v0_1)) (v2 : (c : Dev Cert.AdamNormOddIdeal.nD) → Buf (Elt Ideal) ((c.tc : Thread Cert.AdamNormOddIdeal.nD Cert.AdamNormOddIdeal.τ).loc Cert.AdamNormOddIdeal.main_v0_2)),
      θ_run (Cert.AdamNormOddIdeal.defs (F := Ideal)) (onTc (τ := Cert.AdamNormOddIdeal.τ) (Cert.AdamNormOddIdeal.main (F := Ideal))) ⟨m, fun _ => 0, g⟩ (fun r => ∀ c : Dev Cert.AdamNormOddIdeal.nD,
          r.2.mem ((c.tc : Thread Cert.AdamNormOddIdeal.nD Cert.AdamNormOddIdeal.τ).loc Cert.AdamNormOddIdeal.main_v0_0) = v0 c
          ∧ r.2.mem ((c.tc : Thread Cert.AdamNormOddIdeal.nD Cert.AdamNormOddIdeal.τ).loc Cert.AdamNormOddIdeal.main_v0_1) = v1 c
          ∧ r.2.mem ((c.tc : Thread Cert.AdamNormOddIdeal.nD Cert.AdamNormOddIdeal.τ).loc Cert.AdamNormOddIdeal.main_v0_2) = v2 c
          ∧ r.2.mem ((c.tc : Thread Cert.AdamNormOddIdeal.nD Cert.AdamNormOddIdeal.τ).loc Cert.AdamNormOddIdeal.main_arg0) = m ((c.tc : Thread Cert.AdamNormOddIdeal.nD Cert.AdamNormOddIdeal.τ).loc Cert.AdamNormOddIdeal.main_arg0)
          ∧ r.2.mem ((c.tc : Thread Cert.AdamNormOddIdeal.nD Cert.AdamNormOddIdeal.τ).loc Cert.AdamNormOddIdeal.main_arg1) = m ((c.tc : Thread Cert.AdamNormOddIdeal.nD Cert.AdamNormOddIdeal.τ).loc Cert.AdamNormOddIdeal.main_arg1)
          ∧ r.2.mem ((c.tc : Thread Cert.AdamNormOddIdeal.nD Cert.AdamNormOddIdeal.τ).loc Cert.AdamNormOddIdeal.main_arg2) = m ((c.tc : Thread Cert.AdamNormOddIdeal.nD Cert.AdamNormOddIdeal.τ).loc Cert.AdamNormOddIdeal.main_arg2)
          ∧ r.2.mem ((c.tc : Thread Cert.AdamNormOddIdeal.nD Cert.AdamNormOddIdeal.τ).loc Cert.AdamNormOddIdeal.main_arg3) = m ((c.tc : Thread Cert.AdamNormOddIdeal.nD Cert.AdamNormOddIdeal.τ).loc Cert.AdamNormOddIdeal.main_arg3))
      ∧ θ_run (Cert.AdamNormOddReferenceIdeal.defs (F := Ideal)) (onTc (τ := Cert.AdamNormOddReferenceIdeal.τ) (Cert.AdamNormOddReferenceIdeal.main (F := Ideal))) ⟨m', fun _ => 0, g'⟩ (fun r => ∀ c : Dev Cert.AdamNormOddReferenceIdeal.nD,
          r.2.mem ((c.tc : Thread Cert.AdamNormOddReferenceIdeal.nD Cert.AdamNormOddReferenceIdeal.τ).loc Cert.AdamNormOddReferenceIdeal.main_v23) = v0 c
          ∧ r.2.mem ((c.tc : Thread Cert.AdamNormOddReferenceIdeal.nD Cert.AdamNormOddReferenceIdeal.τ).loc Cert.AdamNormOddReferenceIdeal.main_v4) = v1 c
          ∧ r.2.mem ((c.tc : Thread Cert.AdamNormOddReferenceIdeal.nD Cert.AdamNormOddReferenceIdeal.τ).loc Cert.AdamNormOddReferenceIdeal.main_v10) = v2 c
          ∧ r.2.mem ((c.tc : Thread Cert.AdamNormOddReferenceIdeal.nD Cert.AdamNormOddReferenceIdeal.τ).loc Cert.AdamNormOddReferenceIdeal.main_arg0) = m' ((c.tc : Thread Cert.AdamNormOddReferenceIdeal.nD Cert.AdamNormOddReferenceIdeal.τ).loc Cert.AdamNormOddReferenceIdeal.main_arg0)
          ∧ r.2.mem ((c.tc : Thread Cert.AdamNormOddReferenceIdeal.nD Cert.AdamNormOddReferenceIdeal.τ).loc Cert.AdamNormOddReferenceIdeal.main_arg1) = m' ((c.tc : Thread Cert.AdamNormOddReferenceIdeal.nD Cert.AdamNormOddReferenceIdeal.τ).loc Cert.AdamNormOddReferenceIdeal.main_arg1)
          ∧ r.2.mem ((c.tc : Thread Cert.AdamNormOddReferenceIdeal.nD Cert.AdamNormOddReferenceIdeal.τ).loc Cert.AdamNormOddReferenceIdeal.main_arg2) = m' ((c.tc : Thread Cert.AdamNormOddReferenceIdeal.nD Cert.AdamNormOddReferenceIdeal.τ).loc Cert.AdamNormOddReferenceIdeal.main_arg2)
          ∧ r.2.mem ((c.tc : Thread Cert.AdamNormOddReferenceIdeal.nD Cert.AdamNormOddReferenceIdeal.τ).loc Cert.AdamNormOddReferenceIdeal.main_arg3) = m' ((c.tc : Thread Cert.AdamNormOddReferenceIdeal.nD Cert.AdamNormOddReferenceIdeal.τ).loc Cert.AdamNormOddReferenceIdeal.main_arg3))

def preserves_AdamInOdd_AdamInOddIdeal : Prop :=
  IdealRules.named_const.Statement Cert.AdamInOddIdeal.κ "unbias_m" .f32 0x3FC48605#32 (((5463681 / 8388608)⁻¹ : ℝ) : EReal)
  ∧ IdealRules.named_const.Statement Cert.AdamInOddIdeal.κ "unbias_v" .f32 0x42C8E6D3#32 (((2672307 / 268435456)⁻¹ : ℝ) : EReal)

def algebraic_AdamInOddIdeal_AdamInOddReferenceIdeal [hAdamInOddIdeal : Cert.AdamInOddIdeal.Facts] [hAdamInOddReferenceIdeal : Cert.AdamInOddReferenceIdeal.Facts] : Prop :=
  ∀ (m : (ℓ : Loc Cert.AdamInOddIdeal.nD Cert.AdamInOddIdeal.τ Cert.AdamInOddIdeal.sig) → Buf (Elt Ideal) ℓ) (g : Dev Cert.AdamInOddIdeal.nD → PrngReg)
    (m' : (ℓ : Loc Cert.AdamInOddReferenceIdeal.nD Cert.AdamInOddReferenceIdeal.τ Cert.AdamInOddReferenceIdeal.sig) → Buf (Elt Ideal) ℓ) (g' : Dev Cert.AdamInOddReferenceIdeal.nD → PrngReg), Pre_AdamInOddIdeal m →
    (∀ c : Dev Cert.AdamInOddIdeal.nD,
      m' ((c.tc : Thread Cert.AdamInOddReferenceIdeal.nD Cert.AdamInOddReferenceIdeal.τ).loc Cert.AdamInOddReferenceIdeal.main_arg0) = m ((c.tc : Thread Cert.AdamInOddIdeal.nD Cert.AdamInOddIdeal.τ).loc Cert.AdamInOddIdeal.main_arg0)
      ∧ m' ((c.tc : Thread Cert.AdamInOddReferenceIdeal.nD Cert.AdamInOddReferenceIdeal.τ).loc Cert.AdamInOddReferenceIdeal.main_arg1) = m ((c.tc : Thread Cert.AdamInOddIdeal.nD Cert.AdamInOddIdeal.τ).loc Cert.AdamInOddIdeal.main_arg1)
      ∧ m' ((c.tc : Thread Cert.AdamInOddReferenceIdeal.nD Cert.AdamInOddReferenceIdeal.τ).loc Cert.AdamInOddReferenceIdeal.main_arg2) = m ((c.tc : Thread Cert.AdamInOddIdeal.nD Cert.AdamInOddIdeal.τ).loc Cert.AdamInOddIdeal.main_arg2)
      ∧ m' ((c.tc : Thread Cert.AdamInOddReferenceIdeal.nD Cert.AdamInOddReferenceIdeal.τ).loc Cert.AdamInOddReferenceIdeal.main_arg3) = m ((c.tc : Thread Cert.AdamInOddIdeal.nD Cert.AdamInOddIdeal.τ).loc Cert.AdamInOddIdeal.main_arg3)) →
    ∃ (v0 : (c : Dev Cert.AdamInOddIdeal.nD) → Buf (Elt Ideal) ((c.tc : Thread Cert.AdamInOddIdeal.nD Cert.AdamInOddIdeal.τ).loc Cert.AdamInOddIdeal.main_v0_0)) (v1 : (c : Dev Cert.AdamInOddIdeal.nD) → Buf (Elt Ideal) ((c.tc : Thread Cert.AdamInOddIdeal.nD Cert.AdamInOddIdeal.τ).loc Cert.AdamInOddIdeal.main_v0_1)) (v2 : (c : Dev Cert.AdamInOddIdeal.nD) → Buf (Elt Ideal) ((c.tc : Thread Cert.AdamInOddIdeal.nD Cert.AdamInOddIdeal.τ).loc Cert.AdamInOddIdeal.main_v0_2)),
      θ_run (Cert.AdamInOddIdeal.defs (F := Ideal)) (onTc (τ := Cert.AdamInOddIdeal.τ) (Cert.AdamInOddIdeal.main (F := Ideal))) ⟨m, fun _ => 0, g⟩ (fun r => ∀ c : Dev Cert.AdamInOddIdeal.nD,
          r.2.mem ((c.tc : Thread Cert.AdamInOddIdeal.nD Cert.AdamInOddIdeal.τ).loc Cert.AdamInOddIdeal.main_v0_0) = v0 c
          ∧ r.2.mem ((c.tc : Thread Cert.AdamInOddIdeal.nD Cert.AdamInOddIdeal.τ).loc Cert.AdamInOddIdeal.main_v0_1) = v1 c
          ∧ r.2.mem ((c.tc : Thread Cert.AdamInOddIdeal.nD Cert.AdamInOddIdeal.τ).loc Cert.AdamInOddIdeal.main_v0_2) = v2 c
          ∧ r.2.mem ((c.tc : Thread Cert.AdamInOddIdeal.nD Cert.AdamInOddIdeal.τ).loc Cert.AdamInOddIdeal.main_arg0) = m ((c.tc : Thread Cert.AdamInOddIdeal.nD Cert.AdamInOddIdeal.τ).loc Cert.AdamInOddIdeal.main_arg0)
          ∧ r.2.mem ((c.tc : Thread Cert.AdamInOddIdeal.nD Cert.AdamInOddIdeal.τ).loc Cert.AdamInOddIdeal.main_arg1) = m ((c.tc : Thread Cert.AdamInOddIdeal.nD Cert.AdamInOddIdeal.τ).loc Cert.AdamInOddIdeal.main_arg1)
          ∧ r.2.mem ((c.tc : Thread Cert.AdamInOddIdeal.nD Cert.AdamInOddIdeal.τ).loc Cert.AdamInOddIdeal.main_arg2) = m ((c.tc : Thread Cert.AdamInOddIdeal.nD Cert.AdamInOddIdeal.τ).loc Cert.AdamInOddIdeal.main_arg2)
          ∧ r.2.mem ((c.tc : Thread Cert.AdamInOddIdeal.nD Cert.AdamInOddIdeal.τ).loc Cert.AdamInOddIdeal.main_arg3) = m ((c.tc : Thread Cert.AdamInOddIdeal.nD Cert.AdamInOddIdeal.τ).loc Cert.AdamInOddIdeal.main_arg3))
      ∧ θ_run (Cert.AdamInOddReferenceIdeal.defs (F := Ideal)) (onTc (τ := Cert.AdamInOddReferenceIdeal.τ) (Cert.AdamInOddReferenceIdeal.main (F := Ideal))) ⟨m', fun _ => 0, g'⟩ (fun r => ∀ c : Dev Cert.AdamInOddReferenceIdeal.nD,
          r.2.mem ((c.tc : Thread Cert.AdamInOddReferenceIdeal.nD Cert.AdamInOddReferenceIdeal.τ).loc Cert.AdamInOddReferenceIdeal.main_v23) = v0 c
          ∧ r.2.mem ((c.tc : Thread Cert.AdamInOddReferenceIdeal.nD Cert.AdamInOddReferenceIdeal.τ).loc Cert.AdamInOddReferenceIdeal.main_v4) = v1 c
          ∧ r.2.mem ((c.tc : Thread Cert.AdamInOddReferenceIdeal.nD Cert.AdamInOddReferenceIdeal.τ).loc Cert.AdamInOddReferenceIdeal.main_v10) = v2 c
          ∧ r.2.mem ((c.tc : Thread Cert.AdamInOddReferenceIdeal.nD Cert.AdamInOddReferenceIdeal.τ).loc Cert.AdamInOddReferenceIdeal.main_arg0) = m' ((c.tc : Thread Cert.AdamInOddReferenceIdeal.nD Cert.AdamInOddReferenceIdeal.τ).loc Cert.AdamInOddReferenceIdeal.main_arg0)
          ∧ r.2.mem ((c.tc : Thread Cert.AdamInOddReferenceIdeal.nD Cert.AdamInOddReferenceIdeal.τ).loc Cert.AdamInOddReferenceIdeal.main_arg1) = m' ((c.tc : Thread Cert.AdamInOddReferenceIdeal.nD Cert.AdamInOddReferenceIdeal.τ).loc Cert.AdamInOddReferenceIdeal.main_arg1)
          ∧ r.2.mem ((c.tc : Thread Cert.AdamInOddReferenceIdeal.nD Cert.AdamInOddReferenceIdeal.τ).loc Cert.AdamInOddReferenceIdeal.main_arg2) = m' ((c.tc : Thread Cert.AdamInOddReferenceIdeal.nD Cert.AdamInOddReferenceIdeal.τ).loc Cert.AdamInOddReferenceIdeal.main_arg2)
          ∧ r.2.mem ((c.tc : Thread Cert.AdamInOddReferenceIdeal.nD Cert.AdamInOddReferenceIdeal.τ).loc Cert.AdamInOddReferenceIdeal.main_arg3) = m' ((c.tc : Thread Cert.AdamInOddReferenceIdeal.nD Cert.AdamInOddReferenceIdeal.τ).loc Cert.AdamInOddReferenceIdeal.main_arg3))

def preserves_AdamShort_AdamShortIdeal : Prop :=
  IdealRules.named_const.Statement Cert.AdamShortIdeal.κ "unbias_m" .f32 0x3FC48605#32 (((5463681 / 8388608)⁻¹ : ℝ) : EReal)
  ∧ IdealRules.named_const.Statement Cert.AdamShortIdeal.κ "unbias_v" .f32 0x42C8E6D3#32 (((2672307 / 268435456)⁻¹ : ℝ) : EReal)

def algebraic_AdamShortIdeal_AdamShortReferenceIdeal [hAdamShortIdeal : Cert.AdamShortIdeal.Facts] [hAdamShortReferenceIdeal : Cert.AdamShortReferenceIdeal.Facts] : Prop :=
  ∀ (m : (ℓ : Loc Cert.AdamShortIdeal.nD Cert.AdamShortIdeal.τ Cert.AdamShortIdeal.sig) → Buf (Elt Ideal) ℓ) (g : Dev Cert.AdamShortIdeal.nD → PrngReg)
    (m' : (ℓ : Loc Cert.AdamShortReferenceIdeal.nD Cert.AdamShortReferenceIdeal.τ Cert.AdamShortReferenceIdeal.sig) → Buf (Elt Ideal) ℓ) (g' : Dev Cert.AdamShortReferenceIdeal.nD → PrngReg), Pre_AdamShortIdeal m →
    (∀ c : Dev Cert.AdamShortIdeal.nD,
      m' ((c.tc : Thread Cert.AdamShortReferenceIdeal.nD Cert.AdamShortReferenceIdeal.τ).loc Cert.AdamShortReferenceIdeal.main_arg0) = m ((c.tc : Thread Cert.AdamShortIdeal.nD Cert.AdamShortIdeal.τ).loc Cert.AdamShortIdeal.main_arg0)
      ∧ m' ((c.tc : Thread Cert.AdamShortReferenceIdeal.nD Cert.AdamShortReferenceIdeal.τ).loc Cert.AdamShortReferenceIdeal.main_arg1) = m ((c.tc : Thread Cert.AdamShortIdeal.nD Cert.AdamShortIdeal.τ).loc Cert.AdamShortIdeal.main_arg1)
      ∧ m' ((c.tc : Thread Cert.AdamShortReferenceIdeal.nD Cert.AdamShortReferenceIdeal.τ).loc Cert.AdamShortReferenceIdeal.main_arg2) = m ((c.tc : Thread Cert.AdamShortIdeal.nD Cert.AdamShortIdeal.τ).loc Cert.AdamShortIdeal.main_arg2)
      ∧ m' ((c.tc : Thread Cert.AdamShortReferenceIdeal.nD Cert.AdamShortReferenceIdeal.τ).loc Cert.AdamShortReferenceIdeal.main_arg3) = m ((c.tc : Thread Cert.AdamShortIdeal.nD Cert.AdamShortIdeal.τ).loc Cert.AdamShortIdeal.main_arg3)) →
    ∃ (v0 : (c : Dev Cert.AdamShortIdeal.nD) → Buf (Elt Ideal) ((c.tc : Thread Cert.AdamShortIdeal.nD Cert.AdamShortIdeal.τ).loc Cert.AdamShortIdeal.main_v0_0)) (v1 : (c : Dev Cert.AdamShortIdeal.nD) → Buf (Elt Ideal) ((c.tc : Thread Cert.AdamShortIdeal.nD Cert.AdamShortIdeal.τ).loc Cert.AdamShortIdeal.main_v0_1)) (v2 : (c : Dev Cert.AdamShortIdeal.nD) → Buf (Elt Ideal) ((c.tc : Thread Cert.AdamShortIdeal.nD Cert.AdamShortIdeal.τ).loc Cert.AdamShortIdeal.main_v0_2)),
      θ_run (Cert.AdamShortIdeal.defs (F := Ideal)) (onTc (τ := Cert.AdamShortIdeal.τ) (Cert.AdamShortIdeal.main (F := Ideal))) ⟨m, fun _ => 0, g⟩ (fun r => ∀ c : Dev Cert.AdamShortIdeal.nD,
          r.2.mem ((c.tc : Thread Cert.AdamShortIdeal.nD Cert.AdamShortIdeal.τ).loc Cert.AdamShortIdeal.main_v0_0) = v0 c
          ∧ r.2.mem ((c.tc : Thread Cert.AdamShortIdeal.nD Cert.AdamShortIdeal.τ).loc Cert.AdamShortIdeal.main_v0_1) = v1 c
          ∧ r.2.mem ((c.tc : Thread Cert.AdamShortIdeal.nD Cert.AdamShortIdeal.τ).loc Cert.AdamShortIdeal.main_v0_2) = v2 c
          ∧ r.2.mem ((c.tc : Thread Cert.AdamShortIdeal.nD Cert.AdamShortIdeal.τ).loc Cert.AdamShortIdeal.main_arg0) = m ((c.tc : Thread Cert.AdamShortIdeal.nD Cert.AdamShortIdeal.τ).loc Cert.AdamShortIdeal.main_arg0)
          ∧ r.2.mem ((c.tc : Thread Cert.AdamShortIdeal.nD Cert.AdamShortIdeal.τ).loc Cert.AdamShortIdeal.main_arg1) = m ((c.tc : Thread Cert.AdamShortIdeal.nD Cert.AdamShortIdeal.τ).loc Cert.AdamShortIdeal.main_arg1)
          ∧ r.2.mem ((c.tc : Thread Cert.AdamShortIdeal.nD Cert.AdamShortIdeal.τ).loc Cert.AdamShortIdeal.main_arg2) = m ((c.tc : Thread Cert.AdamShortIdeal.nD Cert.AdamShortIdeal.τ).loc Cert.AdamShortIdeal.main_arg2)
          ∧ r.2.mem ((c.tc : Thread Cert.AdamShortIdeal.nD Cert.AdamShortIdeal.τ).loc Cert.AdamShortIdeal.main_arg3) = m ((c.tc : Thread Cert.AdamShortIdeal.nD Cert.AdamShortIdeal.τ).loc Cert.AdamShortIdeal.main_arg3))
      ∧ θ_run (Cert.AdamShortReferenceIdeal.defs (F := Ideal)) (onTc (τ := Cert.AdamShortReferenceIdeal.τ) (Cert.AdamShortReferenceIdeal.main (F := Ideal))) ⟨m', fun _ => 0, g'⟩ (fun r => ∀ c : Dev Cert.AdamShortReferenceIdeal.nD,
          r.2.mem ((c.tc : Thread Cert.AdamShortReferenceIdeal.nD Cert.AdamShortReferenceIdeal.τ).loc Cert.AdamShortReferenceIdeal.main_v23) = v0 c
          ∧ r.2.mem ((c.tc : Thread Cert.AdamShortReferenceIdeal.nD Cert.AdamShortReferenceIdeal.τ).loc Cert.AdamShortReferenceIdeal.main_v4) = v1 c
          ∧ r.2.mem ((c.tc : Thread Cert.AdamShortReferenceIdeal.nD Cert.AdamShortReferenceIdeal.τ).loc Cert.AdamShortReferenceIdeal.main_v10) = v2 c
          ∧ r.2.mem ((c.tc : Thread Cert.AdamShortReferenceIdeal.nD Cert.AdamShortReferenceIdeal.τ).loc Cert.AdamShortReferenceIdeal.main_arg0) = m' ((c.tc : Thread Cert.AdamShortReferenceIdeal.nD Cert.AdamShortReferenceIdeal.τ).loc Cert.AdamShortReferenceIdeal.main_arg0)
          ∧ r.2.mem ((c.tc : Thread Cert.AdamShortReferenceIdeal.nD Cert.AdamShortReferenceIdeal.τ).loc Cert.AdamShortReferenceIdeal.main_arg1) = m' ((c.tc : Thread Cert.AdamShortReferenceIdeal.nD Cert.AdamShortReferenceIdeal.τ).loc Cert.AdamShortReferenceIdeal.main_arg1)
          ∧ r.2.mem ((c.tc : Thread Cert.AdamShortReferenceIdeal.nD Cert.AdamShortReferenceIdeal.τ).loc Cert.AdamShortReferenceIdeal.main_arg2) = m' ((c.tc : Thread Cert.AdamShortReferenceIdeal.nD Cert.AdamShortReferenceIdeal.τ).loc Cert.AdamShortReferenceIdeal.main_arg2)
          ∧ r.2.mem ((c.tc : Thread Cert.AdamShortReferenceIdeal.nD Cert.AdamShortReferenceIdeal.τ).loc Cert.AdamShortReferenceIdeal.main_arg3) = m' ((c.tc : Thread Cert.AdamShortReferenceIdeal.nD Cert.AdamShortReferenceIdeal.τ).loc Cert.AdamShortReferenceIdeal.main_arg3))

def preserves_AdamLong_AdamLongIdeal : Prop :=
  IdealRules.named_const.Statement Cert.AdamLongIdeal.κ "unbias_m" .f32 0x3FC48605#32 (((5463681 / 8388608)⁻¹ : ℝ) : EReal)
  ∧ IdealRules.named_const.Statement Cert.AdamLongIdeal.κ "unbias_v" .f32 0x42C8E6D3#32 (((2672307 / 268435456)⁻¹ : ℝ) : EReal)

def algebraic_AdamLongIdeal_AdamLongReferenceIdeal [hAdamLongIdeal : Cert.AdamLongIdeal.Facts] [hAdamLongReferenceIdeal : Cert.AdamLongReferenceIdeal.Facts] : Prop :=
  ∀ (m : (ℓ : Loc Cert.AdamLongIdeal.nD Cert.AdamLongIdeal.τ Cert.AdamLongIdeal.sig) → Buf (Elt Ideal) ℓ) (g : Dev Cert.AdamLongIdeal.nD → PrngReg)
    (m' : (ℓ : Loc Cert.AdamLongReferenceIdeal.nD Cert.AdamLongReferenceIdeal.τ Cert.AdamLongReferenceIdeal.sig) → Buf (Elt Ideal) ℓ) (g' : Dev Cert.AdamLongReferenceIdeal.nD → PrngReg), Pre_AdamLongIdeal m →
    (∀ c : Dev Cert.AdamLongIdeal.nD,
      m' ((c.tc : Thread Cert.AdamLongReferenceIdeal.nD Cert.AdamLongReferenceIdeal.τ).loc Cert.AdamLongReferenceIdeal.main_arg0) = m ((c.tc : Thread Cert.AdamLongIdeal.nD Cert.AdamLongIdeal.τ).loc Cert.AdamLongIdeal.main_arg0)
      ∧ m' ((c.tc : Thread Cert.AdamLongReferenceIdeal.nD Cert.AdamLongReferenceIdeal.τ).loc Cert.AdamLongReferenceIdeal.main_arg1) = m ((c.tc : Thread Cert.AdamLongIdeal.nD Cert.AdamLongIdeal.τ).loc Cert.AdamLongIdeal.main_arg1)
      ∧ m' ((c.tc : Thread Cert.AdamLongReferenceIdeal.nD Cert.AdamLongReferenceIdeal.τ).loc Cert.AdamLongReferenceIdeal.main_arg2) = m ((c.tc : Thread Cert.AdamLongIdeal.nD Cert.AdamLongIdeal.τ).loc Cert.AdamLongIdeal.main_arg2)
      ∧ m' ((c.tc : Thread Cert.AdamLongReferenceIdeal.nD Cert.AdamLongReferenceIdeal.τ).loc Cert.AdamLongReferenceIdeal.main_arg3) = m ((c.tc : Thread Cert.AdamLongIdeal.nD Cert.AdamLongIdeal.τ).loc Cert.AdamLongIdeal.main_arg3)) →
    ∃ (v0 : (c : Dev Cert.AdamLongIdeal.nD) → Buf (Elt Ideal) ((c.tc : Thread Cert.AdamLongIdeal.nD Cert.AdamLongIdeal.τ).loc Cert.AdamLongIdeal.main_v0_0)) (v1 : (c : Dev Cert.AdamLongIdeal.nD) → Buf (Elt Ideal) ((c.tc : Thread Cert.AdamLongIdeal.nD Cert.AdamLongIdeal.τ).loc Cert.AdamLongIdeal.main_v0_1)) (v2 : (c : Dev Cert.AdamLongIdeal.nD) → Buf (Elt Ideal) ((c.tc : Thread Cert.AdamLongIdeal.nD Cert.AdamLongIdeal.τ).loc Cert.AdamLongIdeal.main_v0_2)),
      θ_run (Cert.AdamLongIdeal.defs (F := Ideal)) (onTc (τ := Cert.AdamLongIdeal.τ) (Cert.AdamLongIdeal.main (F := Ideal))) ⟨m, fun _ => 0, g⟩ (fun r => ∀ c : Dev Cert.AdamLongIdeal.nD,
          r.2.mem ((c.tc : Thread Cert.AdamLongIdeal.nD Cert.AdamLongIdeal.τ).loc Cert.AdamLongIdeal.main_v0_0) = v0 c
          ∧ r.2.mem ((c.tc : Thread Cert.AdamLongIdeal.nD Cert.AdamLongIdeal.τ).loc Cert.AdamLongIdeal.main_v0_1) = v1 c
          ∧ r.2.mem ((c.tc : Thread Cert.AdamLongIdeal.nD Cert.AdamLongIdeal.τ).loc Cert.AdamLongIdeal.main_v0_2) = v2 c
          ∧ r.2.mem ((c.tc : Thread Cert.AdamLongIdeal.nD Cert.AdamLongIdeal.τ).loc Cert.AdamLongIdeal.main_arg0) = m ((c.tc : Thread Cert.AdamLongIdeal.nD Cert.AdamLongIdeal.τ).loc Cert.AdamLongIdeal.main_arg0)
          ∧ r.2.mem ((c.tc : Thread Cert.AdamLongIdeal.nD Cert.AdamLongIdeal.τ).loc Cert.AdamLongIdeal.main_arg1) = m ((c.tc : Thread Cert.AdamLongIdeal.nD Cert.AdamLongIdeal.τ).loc Cert.AdamLongIdeal.main_arg1)
          ∧ r.2.mem ((c.tc : Thread Cert.AdamLongIdeal.nD Cert.AdamLongIdeal.τ).loc Cert.AdamLongIdeal.main_arg2) = m ((c.tc : Thread Cert.AdamLongIdeal.nD Cert.AdamLongIdeal.τ).loc Cert.AdamLongIdeal.main_arg2)
          ∧ r.2.mem ((c.tc : Thread Cert.AdamLongIdeal.nD Cert.AdamLongIdeal.τ).loc Cert.AdamLongIdeal.main_arg3) = m ((c.tc : Thread Cert.AdamLongIdeal.nD Cert.AdamLongIdeal.τ).loc Cert.AdamLongIdeal.main_arg3))
      ∧ θ_run (Cert.AdamLongReferenceIdeal.defs (F := Ideal)) (onTc (τ := Cert.AdamLongReferenceIdeal.τ) (Cert.AdamLongReferenceIdeal.main (F := Ideal))) ⟨m', fun _ => 0, g'⟩ (fun r => ∀ c : Dev Cert.AdamLongReferenceIdeal.nD,
          r.2.mem ((c.tc : Thread Cert.AdamLongReferenceIdeal.nD Cert.AdamLongReferenceIdeal.τ).loc Cert.AdamLongReferenceIdeal.main_v23) = v0 c
          ∧ r.2.mem ((c.tc : Thread Cert.AdamLongReferenceIdeal.nD Cert.AdamLongReferenceIdeal.τ).loc Cert.AdamLongReferenceIdeal.main_v4) = v1 c
          ∧ r.2.mem ((c.tc : Thread Cert.AdamLongReferenceIdeal.nD Cert.AdamLongReferenceIdeal.τ).loc Cert.AdamLongReferenceIdeal.main_v10) = v2 c
          ∧ r.2.mem ((c.tc : Thread Cert.AdamLongReferenceIdeal.nD Cert.AdamLongReferenceIdeal.τ).loc Cert.AdamLongReferenceIdeal.main_arg0) = m' ((c.tc : Thread Cert.AdamLongReferenceIdeal.nD Cert.AdamLongReferenceIdeal.τ).loc Cert.AdamLongReferenceIdeal.main_arg0)
          ∧ r.2.mem ((c.tc : Thread Cert.AdamLongReferenceIdeal.nD Cert.AdamLongReferenceIdeal.τ).loc Cert.AdamLongReferenceIdeal.main_arg1) = m' ((c.tc : Thread Cert.AdamLongReferenceIdeal.nD Cert.AdamLongReferenceIdeal.τ).loc Cert.AdamLongReferenceIdeal.main_arg1)
          ∧ r.2.mem ((c.tc : Thread Cert.AdamLongReferenceIdeal.nD Cert.AdamLongReferenceIdeal.τ).loc Cert.AdamLongReferenceIdeal.main_arg2) = m' ((c.tc : Thread Cert.AdamLongReferenceIdeal.nD Cert.AdamLongReferenceIdeal.τ).loc Cert.AdamLongReferenceIdeal.main_arg2)
          ∧ r.2.mem ((c.tc : Thread Cert.AdamLongReferenceIdeal.nD Cert.AdamLongReferenceIdeal.τ).loc Cert.AdamLongReferenceIdeal.main_arg3) = m' ((c.tc : Thread Cert.AdamLongReferenceIdeal.nD Cert.AdamLongReferenceIdeal.τ).loc Cert.AdamLongReferenceIdeal.main_arg3))

def preserves_AdamBias_AdamBiasIdeal : Prop :=
  IdealRules.named_const.Statement Cert.AdamBiasIdeal.κ "unbias_m" .f32 0x3FC48605#32 (((5463681 / 8388608)⁻¹ : ℝ) : EReal)
  ∧ IdealRules.named_const.Statement Cert.AdamBiasIdeal.κ "unbias_v" .f32 0x42C8E6D3#32 (((2672307 / 268435456)⁻¹ : ℝ) : EReal)

def algebraic_AdamBiasIdeal_AdamBiasReferenceIdeal [hAdamBiasIdeal : Cert.AdamBiasIdeal.Facts] [hAdamBiasReferenceIdeal : Cert.AdamBiasReferenceIdeal.Facts] : Prop :=
  ∀ (m : (ℓ : Loc Cert.AdamBiasIdeal.nD Cert.AdamBiasIdeal.τ Cert.AdamBiasIdeal.sig) → Buf (Elt Ideal) ℓ) (g : Dev Cert.AdamBiasIdeal.nD → PrngReg)
    (m' : (ℓ : Loc Cert.AdamBiasReferenceIdeal.nD Cert.AdamBiasReferenceIdeal.τ Cert.AdamBiasReferenceIdeal.sig) → Buf (Elt Ideal) ℓ) (g' : Dev Cert.AdamBiasReferenceIdeal.nD → PrngReg), Pre_AdamBiasIdeal m →
    (∀ c : Dev Cert.AdamBiasIdeal.nD,
      m' ((c.tc : Thread Cert.AdamBiasReferenceIdeal.nD Cert.AdamBiasReferenceIdeal.τ).loc Cert.AdamBiasReferenceIdeal.main_arg0) = m ((c.tc : Thread Cert.AdamBiasIdeal.nD Cert.AdamBiasIdeal.τ).loc Cert.AdamBiasIdeal.main_arg0)
      ∧ m' ((c.tc : Thread Cert.AdamBiasReferenceIdeal.nD Cert.AdamBiasReferenceIdeal.τ).loc Cert.AdamBiasReferenceIdeal.main_arg1) = m ((c.tc : Thread Cert.AdamBiasIdeal.nD Cert.AdamBiasIdeal.τ).loc Cert.AdamBiasIdeal.main_arg1)
      ∧ m' ((c.tc : Thread Cert.AdamBiasReferenceIdeal.nD Cert.AdamBiasReferenceIdeal.τ).loc Cert.AdamBiasReferenceIdeal.main_arg2) = m ((c.tc : Thread Cert.AdamBiasIdeal.nD Cert.AdamBiasIdeal.τ).loc Cert.AdamBiasIdeal.main_arg2)
      ∧ m' ((c.tc : Thread Cert.AdamBiasReferenceIdeal.nD Cert.AdamBiasReferenceIdeal.τ).loc Cert.AdamBiasReferenceIdeal.main_arg3) = m ((c.tc : Thread Cert.AdamBiasIdeal.nD Cert.AdamBiasIdeal.τ).loc Cert.AdamBiasIdeal.main_arg3)) →
    ∃ (v0 : (c : Dev Cert.AdamBiasIdeal.nD) → Buf (Elt Ideal) ((c.tc : Thread Cert.AdamBiasIdeal.nD Cert.AdamBiasIdeal.τ).loc Cert.AdamBiasIdeal.main_v0_0)) (v1 : (c : Dev Cert.AdamBiasIdeal.nD) → Buf (Elt Ideal) ((c.tc : Thread Cert.AdamBiasIdeal.nD Cert.AdamBiasIdeal.τ).loc Cert.AdamBiasIdeal.main_v0_1)) (v2 : (c : Dev Cert.AdamBiasIdeal.nD) → Buf (Elt Ideal) ((c.tc : Thread Cert.AdamBiasIdeal.nD Cert.AdamBiasIdeal.τ).loc Cert.AdamBiasIdeal.main_v0_2)),
      θ_run (Cert.AdamBiasIdeal.defs (F := Ideal)) (onTc (τ := Cert.AdamBiasIdeal.τ) (Cert.AdamBiasIdeal.main (F := Ideal))) ⟨m, fun _ => 0, g⟩ (fun r => ∀ c : Dev Cert.AdamBiasIdeal.nD,
          r.2.mem ((c.tc : Thread Cert.AdamBiasIdeal.nD Cert.AdamBiasIdeal.τ).loc Cert.AdamBiasIdeal.main_v0_0) = v0 c
          ∧ r.2.mem ((c.tc : Thread Cert.AdamBiasIdeal.nD Cert.AdamBiasIdeal.τ).loc Cert.AdamBiasIdeal.main_v0_1) = v1 c
          ∧ r.2.mem ((c.tc : Thread Cert.AdamBiasIdeal.nD Cert.AdamBiasIdeal.τ).loc Cert.AdamBiasIdeal.main_v0_2) = v2 c
          ∧ r.2.mem ((c.tc : Thread Cert.AdamBiasIdeal.nD Cert.AdamBiasIdeal.τ).loc Cert.AdamBiasIdeal.main_arg0) = m ((c.tc : Thread Cert.AdamBiasIdeal.nD Cert.AdamBiasIdeal.τ).loc Cert.AdamBiasIdeal.main_arg0)
          ∧ r.2.mem ((c.tc : Thread Cert.AdamBiasIdeal.nD Cert.AdamBiasIdeal.τ).loc Cert.AdamBiasIdeal.main_arg1) = m ((c.tc : Thread Cert.AdamBiasIdeal.nD Cert.AdamBiasIdeal.τ).loc Cert.AdamBiasIdeal.main_arg1)
          ∧ r.2.mem ((c.tc : Thread Cert.AdamBiasIdeal.nD Cert.AdamBiasIdeal.τ).loc Cert.AdamBiasIdeal.main_arg2) = m ((c.tc : Thread Cert.AdamBiasIdeal.nD Cert.AdamBiasIdeal.τ).loc Cert.AdamBiasIdeal.main_arg2)
          ∧ r.2.mem ((c.tc : Thread Cert.AdamBiasIdeal.nD Cert.AdamBiasIdeal.τ).loc Cert.AdamBiasIdeal.main_arg3) = m ((c.tc : Thread Cert.AdamBiasIdeal.nD Cert.AdamBiasIdeal.τ).loc Cert.AdamBiasIdeal.main_arg3))
      ∧ θ_run (Cert.AdamBiasReferenceIdeal.defs (F := Ideal)) (onTc (τ := Cert.AdamBiasReferenceIdeal.τ) (Cert.AdamBiasReferenceIdeal.main (F := Ideal))) ⟨m', fun _ => 0, g'⟩ (fun r => ∀ c : Dev Cert.AdamBiasReferenceIdeal.nD,
          r.2.mem ((c.tc : Thread Cert.AdamBiasReferenceIdeal.nD Cert.AdamBiasReferenceIdeal.τ).loc Cert.AdamBiasReferenceIdeal.main_v23) = v0 c
          ∧ r.2.mem ((c.tc : Thread Cert.AdamBiasReferenceIdeal.nD Cert.AdamBiasReferenceIdeal.τ).loc Cert.AdamBiasReferenceIdeal.main_v4) = v1 c
          ∧ r.2.mem ((c.tc : Thread Cert.AdamBiasReferenceIdeal.nD Cert.AdamBiasReferenceIdeal.τ).loc Cert.AdamBiasReferenceIdeal.main_v10) = v2 c
          ∧ r.2.mem ((c.tc : Thread Cert.AdamBiasReferenceIdeal.nD Cert.AdamBiasReferenceIdeal.τ).loc Cert.AdamBiasReferenceIdeal.main_arg0) = m' ((c.tc : Thread Cert.AdamBiasReferenceIdeal.nD Cert.AdamBiasReferenceIdeal.τ).loc Cert.AdamBiasReferenceIdeal.main_arg0)
          ∧ r.2.mem ((c.tc : Thread Cert.AdamBiasReferenceIdeal.nD Cert.AdamBiasReferenceIdeal.τ).loc Cert.AdamBiasReferenceIdeal.main_arg1) = m' ((c.tc : Thread Cert.AdamBiasReferenceIdeal.nD Cert.AdamBiasReferenceIdeal.τ).loc Cert.AdamBiasReferenceIdeal.main_arg1)
          ∧ r.2.mem ((c.tc : Thread Cert.AdamBiasReferenceIdeal.nD Cert.AdamBiasReferenceIdeal.τ).loc Cert.AdamBiasReferenceIdeal.main_arg2) = m' ((c.tc : Thread Cert.AdamBiasReferenceIdeal.nD Cert.AdamBiasReferenceIdeal.τ).loc Cert.AdamBiasReferenceIdeal.main_arg2)
          ∧ r.2.mem ((c.tc : Thread Cert.AdamBiasReferenceIdeal.nD Cert.AdamBiasReferenceIdeal.τ).loc Cert.AdamBiasReferenceIdeal.main_arg3) = m' ((c.tc : Thread Cert.AdamBiasReferenceIdeal.nD Cert.AdamBiasReferenceIdeal.τ).loc Cert.AdamBiasReferenceIdeal.main_arg3))

def preserves_Att_AttIdeal : Prop :=
  True

def algebraic_AttIdeal_AttReferenceIdeal_pre_finite_qk [hAttIdeal : Cert.AttIdeal.Facts] [hAttReferenceIdeal : Cert.AttReferenceIdeal.Facts] [hPre_finite_qk : Cert.Pre_finite_qk.Facts] : Prop :=
  ∀ (m : (ℓ : Loc Cert.AttIdeal.nD Cert.AttIdeal.τ Cert.AttIdeal.sig) → Buf (Elt Ideal) ℓ) (g : Dev Cert.AttIdeal.nD → PrngReg)
    (m' : (ℓ : Loc Cert.AttReferenceIdeal.nD Cert.AttReferenceIdeal.τ Cert.AttReferenceIdeal.sig) → Buf (Elt Ideal) ℓ) (g' : Dev Cert.AttReferenceIdeal.nD → PrngReg), Pre_AttIdeal_finite_qk m →
    (∀ c : Dev Cert.AttIdeal.nD,
      m' ((c.tc : Thread Cert.AttReferenceIdeal.nD Cert.AttReferenceIdeal.τ).loc Cert.AttReferenceIdeal.main_arg0) = m ((c.tc : Thread Cert.AttIdeal.nD Cert.AttIdeal.τ).loc Cert.AttIdeal.main_arg0)) →
    ∃ (v0 : (c : Dev Cert.AttIdeal.nD) → Buf (Elt Ideal) ((c.tc : Thread Cert.AttIdeal.nD Cert.AttIdeal.τ).loc Cert.AttIdeal.main_v0_0)) (v1 : (c : Dev Cert.AttIdeal.nD) → Buf (Elt Ideal) ((c.tc : Thread Cert.AttIdeal.nD Cert.AttIdeal.τ).loc Cert.AttIdeal.main_v0_1)),
      θ_run (Cert.AttIdeal.defs (F := Ideal)) (onTc (τ := Cert.AttIdeal.τ) (Cert.AttIdeal.main (F := Ideal))) ⟨m, fun _ => 0, g⟩ (fun r => ∀ c : Dev Cert.AttIdeal.nD,
          r.2.mem ((c.tc : Thread Cert.AttIdeal.nD Cert.AttIdeal.τ).loc Cert.AttIdeal.main_v0_0) = v0 c
          ∧ r.2.mem ((c.tc : Thread Cert.AttIdeal.nD Cert.AttIdeal.τ).loc Cert.AttIdeal.main_v0_1) = v1 c
          ∧ r.2.mem ((c.tc : Thread Cert.AttIdeal.nD Cert.AttIdeal.τ).loc Cert.AttIdeal.main_arg0) = m ((c.tc : Thread Cert.AttIdeal.nD Cert.AttIdeal.τ).loc Cert.AttIdeal.main_arg0))
      ∧ θ_run (Cert.AttReferenceIdeal.defs (F := Ideal)) (onTc (τ := Cert.AttReferenceIdeal.τ) (Cert.AttReferenceIdeal.main (F := Ideal))) ⟨m', fun _ => 0, g'⟩ (fun r => ∀ c : Dev Cert.AttReferenceIdeal.nD,
          r.2.mem ((c.tc : Thread Cert.AttReferenceIdeal.nD Cert.AttReferenceIdeal.τ).loc Cert.AttReferenceIdeal.main_v27) = v0 c
          ∧ r.2.mem ((c.tc : Thread Cert.AttReferenceIdeal.nD Cert.AttReferenceIdeal.τ).loc Cert.AttReferenceIdeal.main_v32) = v1 c
          ∧ r.2.mem ((c.tc : Thread Cert.AttReferenceIdeal.nD Cert.AttReferenceIdeal.τ).loc Cert.AttReferenceIdeal.main_arg0) = m' ((c.tc : Thread Cert.AttReferenceIdeal.nD Cert.AttReferenceIdeal.τ).loc Cert.AttReferenceIdeal.main_arg0))

def preserves_Rms_RmsIdeal : Prop :=
  True

def algebraic_RmsIdeal_RmsReferenceIdeal [hRmsIdeal : Cert.RmsIdeal.Facts] [hRmsReferenceIdeal : Cert.RmsReferenceIdeal.Facts] : Prop :=
  ∀ (m : (ℓ : Loc Cert.RmsIdeal.nD Cert.RmsIdeal.τ Cert.RmsIdeal.sig) → Buf (Elt Ideal) ℓ) (g : Dev Cert.RmsIdeal.nD → PrngReg)
    (m' : (ℓ : Loc Cert.RmsReferenceIdeal.nD Cert.RmsReferenceIdeal.τ Cert.RmsReferenceIdeal.sig) → Buf (Elt Ideal) ℓ) (g' : Dev Cert.RmsReferenceIdeal.nD → PrngReg), Pre_RmsIdeal m →
    (∀ c : Dev Cert.RmsIdeal.nD,
      m' ((c.tc : Thread Cert.RmsReferenceIdeal.nD Cert.RmsReferenceIdeal.τ).loc Cert.RmsReferenceIdeal.main_arg0) = m ((c.tc : Thread Cert.RmsIdeal.nD Cert.RmsIdeal.τ).loc Cert.RmsIdeal.main_arg0)
      ∧ m' ((c.tc : Thread Cert.RmsReferenceIdeal.nD Cert.RmsReferenceIdeal.τ).loc Cert.RmsReferenceIdeal.main_arg1) = m ((c.tc : Thread Cert.RmsIdeal.nD Cert.RmsIdeal.τ).loc Cert.RmsIdeal.main_arg1)) →
    ∃ (v0 : (c : Dev Cert.RmsIdeal.nD) → Buf (Elt Ideal) ((c.tc : Thread Cert.RmsIdeal.nD Cert.RmsIdeal.τ).loc Cert.RmsIdeal.main_v0)),
      θ_run (Cert.RmsIdeal.defs (F := Ideal)) (onTc (τ := Cert.RmsIdeal.τ) (Cert.RmsIdeal.main (F := Ideal))) ⟨m, fun _ => 0, g⟩ (fun r => ∀ c : Dev Cert.RmsIdeal.nD,
          r.2.mem ((c.tc : Thread Cert.RmsIdeal.nD Cert.RmsIdeal.τ).loc Cert.RmsIdeal.main_v0) = v0 c
          ∧ r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
          ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1))
      ∧ θ_run (Cert.RmsReferenceIdeal.defs (F := Ideal)) (onTc (τ := Cert.RmsReferenceIdeal.τ) (Cert.RmsReferenceIdeal.main (F := Ideal))) ⟨m', fun _ => 0, g'⟩ (fun r => ∀ c : Dev Cert.RmsReferenceIdeal.nD,
          r.2.mem ((c.tc : Thread Cert.RmsReferenceIdeal.nD Cert.RmsReferenceIdeal.τ).loc Cert.RmsReferenceIdeal.main_v12) = v0 c
          ∧ r.2.mem ((c.tc : Thread Cert.RmsReferenceIdeal.nD Cert.RmsReferenceIdeal.τ).loc Cert.RmsReferenceIdeal.main_arg0) = m' ((c.tc : Thread Cert.RmsReferenceIdeal.nD Cert.RmsReferenceIdeal.τ).loc Cert.RmsReferenceIdeal.main_arg0)
          ∧ r.2.mem ((c.tc : Thread Cert.RmsReferenceIdeal.nD Cert.RmsReferenceIdeal.τ).loc Cert.RmsReferenceIdeal.main_arg1) = m' ((c.tc : Thread Cert.RmsReferenceIdeal.nD Cert.RmsReferenceIdeal.τ).loc Cert.RmsReferenceIdeal.main_arg1))

def preserves_OddRows_OddRowsIdeal : Prop :=
  True

def algebraic_OddRowsIdeal_OddRowsReferenceIdeal_pre_finite_rows [hOddRowsIdeal : Cert.OddRowsIdeal.Facts] [hOddRowsReferenceIdeal : Cert.OddRowsReferenceIdeal.Facts] [hPre_finite_rows : Cert.Pre_finite_rows.Facts] : Prop :=
  ∀ (m : (ℓ : Loc Cert.OddRowsIdeal.nD Cert.OddRowsIdeal.τ Cert.OddRowsIdeal.sig) → Buf (Elt Ideal) ℓ) (g : Dev Cert.OddRowsIdeal.nD → PrngReg)
    (m' : (ℓ : Loc Cert.OddRowsReferenceIdeal.nD Cert.OddRowsReferenceIdeal.τ Cert.OddRowsReferenceIdeal.sig) → Buf (Elt Ideal) ℓ) (g' : Dev Cert.OddRowsReferenceIdeal.nD → PrngReg), Pre_OddRowsIdeal_finite_rows m →
    (∀ c : Dev Cert.OddRowsIdeal.nD,
      m' ((c.tc : Thread Cert.OddRowsReferenceIdeal.nD Cert.OddRowsReferenceIdeal.τ).loc Cert.OddRowsReferenceIdeal.main_arg0) = m ((c.tc : Thread Cert.OddRowsIdeal.nD Cert.OddRowsIdeal.τ).loc Cert.OddRowsIdeal.main_arg0)
      ∧ m' ((c.tc : Thread Cert.OddRowsReferenceIdeal.nD Cert.OddRowsReferenceIdeal.τ).loc Cert.OddRowsReferenceIdeal.main_arg1) = m ((c.tc : Thread Cert.OddRowsIdeal.nD Cert.OddRowsIdeal.τ).loc Cert.OddRowsIdeal.main_arg1)
      ∧ m' ((c.tc : Thread Cert.OddRowsReferenceIdeal.nD Cert.OddRowsReferenceIdeal.τ).loc Cert.OddRowsReferenceIdeal.main_arg2) = m ((c.tc : Thread Cert.OddRowsIdeal.nD Cert.OddRowsIdeal.τ).loc Cert.OddRowsIdeal.main_arg2)
      ∧ m' ((c.tc : Thread Cert.OddRowsReferenceIdeal.nD Cert.OddRowsReferenceIdeal.τ).loc Cert.OddRowsReferenceIdeal.main_arg3) = m ((c.tc : Thread Cert.OddRowsIdeal.nD Cert.OddRowsIdeal.τ).loc Cert.OddRowsIdeal.main_arg3)
      ∧ m' ((c.tc : Thread Cert.OddRowsReferenceIdeal.nD Cert.OddRowsReferenceIdeal.τ).loc Cert.OddRowsReferenceIdeal.main_arg4) = m ((c.tc : Thread Cert.OddRowsIdeal.nD Cert.OddRowsIdeal.τ).loc Cert.OddRowsIdeal.main_arg4)
      ∧ m' ((c.tc : Thread Cert.OddRowsReferenceIdeal.nD Cert.OddRowsReferenceIdeal.τ).loc Cert.OddRowsReferenceIdeal.main_arg5) = m ((c.tc : Thread Cert.OddRowsIdeal.nD Cert.OddRowsIdeal.τ).loc Cert.OddRowsIdeal.main_arg5)) →
    ∃ (v0 : (c : Dev Cert.OddRowsIdeal.nD) → Buf (Elt Ideal) ((c.tc : Thread Cert.OddRowsIdeal.nD Cert.OddRowsIdeal.τ).loc Cert.OddRowsIdeal.main_v0_0)) (v1 : (c : Dev Cert.OddRowsIdeal.nD) → Buf (Elt Ideal) ((c.tc : Thread Cert.OddRowsIdeal.nD Cert.OddRowsIdeal.τ).loc Cert.OddRowsIdeal.main_v0_1)) (v2 : (c : Dev Cert.OddRowsIdeal.nD) → Buf (Elt Ideal) ((c.tc : Thread Cert.OddRowsIdeal.nD Cert.OddRowsIdeal.τ).loc Cert.OddRowsIdeal.main_v0_2)) (v3 : (c : Dev Cert.OddRowsIdeal.nD) → Buf (Elt Ideal) ((c.tc : Thread Cert.OddRowsIdeal.nD Cert.OddRowsIdeal.τ).loc Cert.OddRowsIdeal.main_v0_3)) (v4 : (c : Dev Cert.OddRowsIdeal.nD) → Buf (Elt Ideal) ((c.tc : Thread Cert.OddRowsIdeal.nD Cert.OddRowsIdeal.τ).loc Cert.OddRowsIdeal.main_v0_4)) (v5 : (c : Dev Cert.OddRowsIdeal.nD) → Buf (Elt Ideal) ((c.tc : Thread Cert.OddRowsIdeal.nD Cert.OddRowsIdeal.τ).loc Cert.OddRowsIdeal.main_v0_5)) (v6 : (c : Dev Cert.OddRowsIdeal.nD) → Buf (Elt Ideal) ((c.tc : Thread Cert.OddRowsIdeal.nD Cert.OddRowsIdeal.τ).loc Cert.OddRowsIdeal.main_v0_6)),
      θ_run (Cert.OddRowsIdeal.defs (F := Ideal)) (onTc (τ := Cert.OddRowsIdeal.τ) (Cert.OddRowsIdeal.main (F := Ideal))) ⟨m, fun _ => 0, g⟩ (fun r => ∀ c : Dev Cert.OddRowsIdeal.nD,
          r.2.mem ((c.tc : Thread Cert.OddRowsIdeal.nD Cert.OddRowsIdeal.τ).loc Cert.OddRowsIdeal.main_v0_0) = v0 c
          ∧ r.2.mem ((c.tc : Thread Cert.OddRowsIdeal.nD Cert.OddRowsIdeal.τ).loc Cert.OddRowsIdeal.main_v0_1) = v1 c
          ∧ r.2.mem ((c.tc : Thread Cert.OddRowsIdeal.nD Cert.OddRowsIdeal.τ).loc Cert.OddRowsIdeal.main_v0_2) = v2 c
          ∧ r.2.mem ((c.tc : Thread Cert.OddRowsIdeal.nD Cert.OddRowsIdeal.τ).loc Cert.OddRowsIdeal.main_v0_3) = v3 c
          ∧ r.2.mem ((c.tc : Thread Cert.OddRowsIdeal.nD Cert.OddRowsIdeal.τ).loc Cert.OddRowsIdeal.main_v0_4) = v4 c
          ∧ r.2.mem ((c.tc : Thread Cert.OddRowsIdeal.nD Cert.OddRowsIdeal.τ).loc Cert.OddRowsIdeal.main_v0_5) = v5 c
          ∧ r.2.mem ((c.tc : Thread Cert.OddRowsIdeal.nD Cert.OddRowsIdeal.τ).loc Cert.OddRowsIdeal.main_v0_6) = v6 c
          ∧ r.2.mem ((c.tc : Thread Cert.OddRowsIdeal.nD Cert.OddRowsIdeal.τ).loc Cert.OddRowsIdeal.main_arg0) = m ((c.tc : Thread Cert.OddRowsIdeal.nD Cert.OddRowsIdeal.τ).loc Cert.OddRowsIdeal.main_arg0)
          ∧ r.2.mem ((c.tc : Thread Cert.OddRowsIdeal.nD Cert.OddRowsIdeal.τ).loc Cert.OddRowsIdeal.main_arg1) = m ((c.tc : Thread Cert.OddRowsIdeal.nD Cert.OddRowsIdeal.τ).loc Cert.OddRowsIdeal.main_arg1)
          ∧ r.2.mem ((c.tc : Thread Cert.OddRowsIdeal.nD Cert.OddRowsIdeal.τ).loc Cert.OddRowsIdeal.main_arg2) = m ((c.tc : Thread Cert.OddRowsIdeal.nD Cert.OddRowsIdeal.τ).loc Cert.OddRowsIdeal.main_arg2)
          ∧ r.2.mem ((c.tc : Thread Cert.OddRowsIdeal.nD Cert.OddRowsIdeal.τ).loc Cert.OddRowsIdeal.main_arg3) = m ((c.tc : Thread Cert.OddRowsIdeal.nD Cert.OddRowsIdeal.τ).loc Cert.OddRowsIdeal.main_arg3)
          ∧ r.2.mem ((c.tc : Thread Cert.OddRowsIdeal.nD Cert.OddRowsIdeal.τ).loc Cert.OddRowsIdeal.main_arg4) = m ((c.tc : Thread Cert.OddRowsIdeal.nD Cert.OddRowsIdeal.τ).loc Cert.OddRowsIdeal.main_arg4)
          ∧ r.2.mem ((c.tc : Thread Cert.OddRowsIdeal.nD Cert.OddRowsIdeal.τ).loc Cert.OddRowsIdeal.main_arg5) = m ((c.tc : Thread Cert.OddRowsIdeal.nD Cert.OddRowsIdeal.τ).loc Cert.OddRowsIdeal.main_arg5))
      ∧ θ_run (Cert.OddRowsReferenceIdeal.defs (F := Ideal)) (onTc (τ := Cert.OddRowsReferenceIdeal.τ) (Cert.OddRowsReferenceIdeal.main (F := Ideal))) ⟨m', fun _ => 0, g'⟩ (fun r => ∀ c : Dev Cert.OddRowsReferenceIdeal.nD,
          r.2.mem ((c.tc : Thread Cert.OddRowsReferenceIdeal.nD Cert.OddRowsReferenceIdeal.τ).loc Cert.OddRowsReferenceIdeal.main_v73) = v0 c
          ∧ r.2.mem ((c.tc : Thread Cert.OddRowsReferenceIdeal.nD Cert.OddRowsReferenceIdeal.τ).loc Cert.OddRowsReferenceIdeal.main_v74) = v1 c
          ∧ r.2.mem ((c.tc : Thread Cert.OddRowsReferenceIdeal.nD Cert.OddRowsReferenceIdeal.τ).loc Cert.OddRowsReferenceIdeal.main_v71) = v2 c
          ∧ r.2.mem ((c.tc : Thread Cert.OddRowsReferenceIdeal.nD Cert.OddRowsReferenceIdeal.τ).loc Cert.OddRowsReferenceIdeal.main_v70) = v3 c
          ∧ r.2.mem ((c.tc : Thread Cert.OddRowsReferenceIdeal.nD Cert.OddRowsReferenceIdeal.τ).loc Cert.OddRowsReferenceIdeal.main_v44) = v4 c
          ∧ r.2.mem ((c.tc : Thread Cert.OddRowsReferenceIdeal.nD Cert.OddRowsReferenceIdeal.τ).loc Cert.OddRowsReferenceIdeal.main_v41) = v5 c
          ∧ r.2.mem ((c.tc : Thread Cert.OddRowsReferenceIdeal.nD Cert.OddRowsReferenceIdeal.τ).loc Cert.OddRowsReferenceIdeal.main_v76) = v6 c
          ∧ r.2.mem ((c.tc : Thread Cert.OddRowsReferenceIdeal.nD Cert.OddRowsReferenceIdeal.τ).loc Cert.OddRowsReferenceIdeal.main_arg0) = m' ((c.tc : Thread Cert.OddRowsReferenceIdeal.nD Cert.OddRowsReferenceIdeal.τ).loc Cert.OddRowsReferenceIdeal.main_arg0)
          ∧ r.2.mem ((c.tc : Thread Cert.OddRowsReferenceIdeal.nD Cert.OddRowsReferenceIdeal.τ).loc Cert.OddRowsReferenceIdeal.main_arg1) = m' ((c.tc : Thread Cert.OddRowsReferenceIdeal.nD Cert.OddRowsReferenceIdeal.τ).loc Cert.OddRowsReferenceIdeal.main_arg1)
          ∧ r.2.mem ((c.tc : Thread Cert.OddRowsReferenceIdeal.nD Cert.OddRowsReferenceIdeal.τ).loc Cert.OddRowsReferenceIdeal.main_arg2) = m' ((c.tc : Thread Cert.OddRowsReferenceIdeal.nD Cert.OddRowsReferenceIdeal.τ).loc Cert.OddRowsReferenceIdeal.main_arg2)
          ∧ r.2.mem ((c.tc : Thread Cert.OddRowsReferenceIdeal.nD Cert.OddRowsReferenceIdeal.τ).loc Cert.OddRowsReferenceIdeal.main_arg3) = m' ((c.tc : Thread Cert.OddRowsReferenceIdeal.nD Cert.OddRowsReferenceIdeal.τ).loc Cert.OddRowsReferenceIdeal.main_arg3)
          ∧ r.2.mem ((c.tc : Thread Cert.OddRowsReferenceIdeal.nD Cert.OddRowsReferenceIdeal.τ).loc Cert.OddRowsReferenceIdeal.main_arg4) = m' ((c.tc : Thread Cert.OddRowsReferenceIdeal.nD Cert.OddRowsReferenceIdeal.τ).loc Cert.OddRowsReferenceIdeal.main_arg4)
          ∧ r.2.mem ((c.tc : Thread Cert.OddRowsReferenceIdeal.nD Cert.OddRowsReferenceIdeal.τ).loc Cert.OddRowsReferenceIdeal.main_arg5) = m' ((c.tc : Thread Cert.OddRowsReferenceIdeal.nD Cert.OddRowsReferenceIdeal.τ).loc Cert.OddRowsReferenceIdeal.main_arg5))

def preserves_EvenMix_EvenMixIdeal : Prop :=
  True

def algebraic_EvenMixIdeal_EvenMixReferenceIdeal [hEvenMixIdeal : Cert.EvenMixIdeal.Facts] [hEvenMixReferenceIdeal : Cert.EvenMixReferenceIdeal.Facts] : Prop :=
  ∀ (m : (ℓ : Loc Cert.EvenMixIdeal.nD Cert.EvenMixIdeal.τ Cert.EvenMixIdeal.sig) → Buf (Elt Ideal) ℓ) (g : Dev Cert.EvenMixIdeal.nD → PrngReg)
    (m' : (ℓ : Loc Cert.EvenMixReferenceIdeal.nD Cert.EvenMixReferenceIdeal.τ Cert.EvenMixReferenceIdeal.sig) → Buf (Elt Ideal) ℓ) (g' : Dev Cert.EvenMixReferenceIdeal.nD → PrngReg), Pre_EvenMixIdeal m →
    (∀ c : Dev Cert.EvenMixIdeal.nD,
      m' ((c.tc : Thread Cert.EvenMixReferenceIdeal.nD Cert.EvenMixReferenceIdeal.τ).loc Cert.EvenMixReferenceIdeal.main_arg0) = m ((c.tc : Thread Cert.EvenMixIdeal.nD Cert.EvenMixIdeal.τ).loc Cert.EvenMixIdeal.main_arg0)
      ∧ m' ((c.tc : Thread Cert.EvenMixReferenceIdeal.nD Cert.EvenMixReferenceIdeal.τ).loc Cert.EvenMixReferenceIdeal.main_arg1) = m ((c.tc : Thread Cert.EvenMixIdeal.nD Cert.EvenMixIdeal.τ).loc Cert.EvenMixIdeal.main_arg1)
      ∧ m' ((c.tc : Thread Cert.EvenMixReferenceIdeal.nD Cert.EvenMixReferenceIdeal.τ).loc Cert.EvenMixReferenceIdeal.main_arg2) = m ((c.tc : Thread Cert.EvenMixIdeal.nD Cert.EvenMixIdeal.τ).loc Cert.EvenMixIdeal.main_arg2)
      ∧ m' ((c.tc : Thread Cert.EvenMixReferenceIdeal.nD Cert.EvenMixReferenceIdeal.τ).loc Cert.EvenMixReferenceIdeal.main_arg3) = m ((c.tc : Thread Cert.EvenMixIdeal.nD Cert.EvenMixIdeal.τ).loc Cert.EvenMixIdeal.main_arg3)) →
    ∃ (v0 : (c : Dev Cert.EvenMixIdeal.nD) → Buf (Elt Ideal) ((c.tc : Thread Cert.EvenMixIdeal.nD Cert.EvenMixIdeal.τ).loc Cert.EvenMixIdeal.main_v0)),
      θ_run (Cert.EvenMixIdeal.defs (F := Ideal)) (onTc (τ := Cert.EvenMixIdeal.τ) (Cert.EvenMixIdeal.main (F := Ideal))) ⟨m, fun _ => 0, g⟩ (fun r => ∀ c : Dev Cert.EvenMixIdeal.nD,
          r.2.mem ((c.tc : Thread Cert.EvenMixIdeal.nD Cert.EvenMixIdeal.τ).loc Cert.EvenMixIdeal.main_v0) = v0 c
          ∧ r.2.mem ((c.tc : Thread Cert.EvenMixIdeal.nD Cert.EvenMixIdeal.τ).loc Cert.EvenMixIdeal.main_arg0) = m ((c.tc : Thread Cert.EvenMixIdeal.nD Cert.EvenMixIdeal.τ).loc Cert.EvenMixIdeal.main_arg0)
          ∧ r.2.mem ((c.tc : Thread Cert.EvenMixIdeal.nD Cert.EvenMixIdeal.τ).loc Cert.EvenMixIdeal.main_arg1) = m ((c.tc : Thread Cert.EvenMixIdeal.nD Cert.EvenMixIdeal.τ).loc Cert.EvenMixIdeal.main_arg1)
          ∧ r.2.mem ((c.tc : Thread Cert.EvenMixIdeal.nD Cert.EvenMixIdeal.τ).loc Cert.EvenMixIdeal.main_arg2) = m ((c.tc : Thread Cert.EvenMixIdeal.nD Cert.EvenMixIdeal.τ).loc Cert.EvenMixIdeal.main_arg2)
          ∧ r.2.mem ((c.tc : Thread Cert.EvenMixIdeal.nD Cert.EvenMixIdeal.τ).loc Cert.EvenMixIdeal.main_arg3) = m ((c.tc : Thread Cert.EvenMixIdeal.nD Cert.EvenMixIdeal.τ).loc Cert.EvenMixIdeal.main_arg3))
      ∧ θ_run (Cert.EvenMixReferenceIdeal.defs (F := Ideal)) (onTc (τ := Cert.EvenMixReferenceIdeal.τ) (Cert.EvenMixReferenceIdeal.main (F := Ideal))) ⟨m', fun _ => 0, g'⟩ (fun r => ∀ c : Dev Cert.EvenMixReferenceIdeal.nD,
          r.2.mem ((c.tc : Thread Cert.EvenMixReferenceIdeal.nD Cert.EvenMixReferenceIdeal.τ).loc Cert.EvenMixReferenceIdeal.main_v67) = v0 c
          ∧ r.2.mem ((c.tc : Thread Cert.EvenMixReferenceIdeal.nD Cert.EvenMixReferenceIdeal.τ).loc Cert.EvenMixReferenceIdeal.main_arg0) = m' ((c.tc : Thread Cert.EvenMixReferenceIdeal.nD Cert.EvenMixReferenceIdeal.τ).loc Cert.EvenMixReferenceIdeal.main_arg0)
          ∧ r.2.mem ((c.tc : Thread Cert.EvenMixReferenceIdeal.nD Cert.EvenMixReferenceIdeal.τ).loc Cert.EvenMixReferenceIdeal.main_arg1) = m' ((c.tc : Thread Cert.EvenMixReferenceIdeal.nD Cert.EvenMixReferenceIdeal.τ).loc Cert.EvenMixReferenceIdeal.main_arg1)
          ∧ r.2.mem ((c.tc : Thread Cert.EvenMixReferenceIdeal.nD Cert.EvenMixReferenceIdeal.τ).loc Cert.EvenMixReferenceIdeal.main_arg2) = m' ((c.tc : Thread Cert.EvenMixReferenceIdeal.nD Cert.EvenMixReferenceIdeal.τ).loc Cert.EvenMixReferenceIdeal.main_arg2)
          ∧ r.2.mem ((c.tc : Thread Cert.EvenMixReferenceIdeal.nD Cert.EvenMixReferenceIdeal.τ).loc Cert.EvenMixReferenceIdeal.main_arg3) = m' ((c.tc : Thread Cert.EvenMixReferenceIdeal.nD Cert.EvenMixReferenceIdeal.τ).loc Cert.EvenMixReferenceIdeal.main_arg3))

def Claim : Prop :=
  ∃ (hKernel : Cert.Kernel.Facts) (hKernelIdeal : Cert.KernelIdeal.Facts) (hReferenceIdeal : Cert.ReferenceIdeal.Facts) (hDx : Cert.Dx.Facts) (hDxIdeal : Cert.DxIdeal.Facts) (hDxReferenceIdeal : Cert.DxReferenceIdeal.Facts) (hDxEven : Cert.DxEven.Facts) (hDxEvenIdeal : Cert.DxEvenIdeal.Facts) (hDxEvenReferenceIdeal : Cert.DxEvenReferenceIdeal.Facts) (hDwOdd : Cert.DwOdd.Facts) (hDwOddIdeal : Cert.DwOddIdeal.Facts) (hDwOddReferenceIdeal : Cert.DwOddReferenceIdeal.Facts) (hDwEven : Cert.DwEven.Facts) (hDwEvenIdeal : Cert.DwEvenIdeal.Facts) (hDwEvenReferenceIdeal : Cert.DwEvenReferenceIdeal.Facts) (hDwOut : Cert.DwOut.Facts) (hDwOutIdeal : Cert.DwOutIdeal.Facts) (hDwOutReferenceIdeal : Cert.DwOutReferenceIdeal.Facts) (hDy : Cert.Dy.Facts) (hDyIdeal : Cert.DyIdeal.Facts) (hDyReferenceIdeal : Cert.DyReferenceIdeal.Facts) (hInOdd : Cert.InOdd.Facts) (hInOddIdeal : Cert.InOddIdeal.Facts) (hInOddReferenceIdeal : Cert.InOddReferenceIdeal.Facts) (hInEven : Cert.InEven.Facts) (hInEvenIdeal : Cert.InEvenIdeal.Facts) (hInEvenReferenceIdeal : Cert.InEvenReferenceIdeal.Facts) (hOutEven : Cert.OutEven.Facts) (hOutEvenIdeal : Cert.OutEvenIdeal.Facts) (hOutEvenReferenceIdeal : Cert.OutEvenReferenceIdeal.Facts) (hOutOdd : Cert.OutOdd.Facts) (hOutOddIdeal : Cert.OutOddIdeal.Facts) (hOutOddReferenceIdeal : Cert.OutOddReferenceIdeal.Facts) (hAdamInEven : Cert.AdamInEven.Facts) (hAdamInEvenIdeal : Cert.AdamInEvenIdeal.Facts) (hAdamInEvenReferenceIdeal : Cert.AdamInEvenReferenceIdeal.Facts) (hAdamPool : Cert.AdamPool.Facts) (hAdamPoolIdeal : Cert.AdamPoolIdeal.Facts) (hAdamPoolReferenceIdeal : Cert.AdamPoolReferenceIdeal.Facts) (hAdamPoolScale : Cert.AdamPoolScale.Facts) (hAdamPoolScaleIdeal : Cert.AdamPoolScaleIdeal.Facts) (hAdamPoolScaleReferenceIdeal : Cert.AdamPoolScaleReferenceIdeal.Facts) (hAdamOut : Cert.AdamOut.Facts) (hAdamOutIdeal : Cert.AdamOutIdeal.Facts) (hAdamOutReferenceIdeal : Cert.AdamOutReferenceIdeal.Facts) (hAdamNorm : Cert.AdamNorm.Facts) (hAdamNormIdeal : Cert.AdamNormIdeal.Facts) (hAdamNormReferenceIdeal : Cert.AdamNormReferenceIdeal.Facts) (hAdamNormOdd : Cert.AdamNormOdd.Facts) (hAdamNormOddIdeal : Cert.AdamNormOddIdeal.Facts) (hAdamNormOddReferenceIdeal : Cert.AdamNormOddReferenceIdeal.Facts) (hAdamInOdd : Cert.AdamInOdd.Facts) (hAdamInOddIdeal : Cert.AdamInOddIdeal.Facts) (hAdamInOddReferenceIdeal : Cert.AdamInOddReferenceIdeal.Facts) (hAdamShort : Cert.AdamShort.Facts) (hAdamShortIdeal : Cert.AdamShortIdeal.Facts) (hAdamShortReferenceIdeal : Cert.AdamShortReferenceIdeal.Facts) (hAdamLong : Cert.AdamLong.Facts) (hAdamLongIdeal : Cert.AdamLongIdeal.Facts) (hAdamLongReferenceIdeal : Cert.AdamLongReferenceIdeal.Facts) (hAdamBias : Cert.AdamBias.Facts) (hAdamBiasIdeal : Cert.AdamBiasIdeal.Facts) (hAdamBiasReferenceIdeal : Cert.AdamBiasReferenceIdeal.Facts) (hAtt : Cert.Att.Facts) (hAttIdeal : Cert.AttIdeal.Facts) (hAttReferenceIdeal : Cert.AttReferenceIdeal.Facts) (hRms : Cert.Rms.Facts) (hRmsIdeal : Cert.RmsIdeal.Facts) (hRmsReferenceIdeal : Cert.RmsReferenceIdeal.Facts) (hOddRows : Cert.OddRows.Facts) (hOddRowsIdeal : Cert.OddRowsIdeal.Facts) (hOddRowsReferenceIdeal : Cert.OddRowsReferenceIdeal.Facts) (hEvenMix : Cert.EvenMix.Facts) (hEvenMixIdeal : Cert.EvenMixIdeal.Facts) (hEvenMixReferenceIdeal : Cert.EvenMixReferenceIdeal.Facts) (hPre_finite : Cert.Pre_finite.Facts) (hPre_finite_qk : Cert.Pre_finite_qk.Facts) (hPre_finite_rows : Cert.Pre_finite_rows.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Dx (hDx := hDx)
    ∧ quiescent_DxIdeal (hDxIdeal := hDxIdeal)
    ∧ quiescent_DxReferenceIdeal (hDxReferenceIdeal := hDxReferenceIdeal)
    ∧ quiescent_DxEven (hDxEven := hDxEven)
    ∧ quiescent_DxEvenIdeal (hDxEvenIdeal := hDxEvenIdeal)
    ∧ quiescent_DxEvenReferenceIdeal (hDxEvenReferenceIdeal := hDxEvenReferenceIdeal)
    ∧ quiescent_DwOdd (hDwOdd := hDwOdd)
    ∧ quiescent_DwOddIdeal (hDwOddIdeal := hDwOddIdeal)
    ∧ quiescent_DwOddReferenceIdeal (hDwOddReferenceIdeal := hDwOddReferenceIdeal)
    ∧ quiescent_DwEven (hDwEven := hDwEven)
    ∧ quiescent_DwEvenIdeal (hDwEvenIdeal := hDwEvenIdeal)
    ∧ quiescent_DwEvenReferenceIdeal (hDwEvenReferenceIdeal := hDwEvenReferenceIdeal)
    ∧ quiescent_DwOut (hDwOut := hDwOut)
    ∧ quiescent_DwOutIdeal (hDwOutIdeal := hDwOutIdeal)
    ∧ quiescent_DwOutReferenceIdeal (hDwOutReferenceIdeal := hDwOutReferenceIdeal)
    ∧ quiescent_Dy (hDy := hDy)
    ∧ quiescent_DyIdeal (hDyIdeal := hDyIdeal)
    ∧ quiescent_DyReferenceIdeal (hDyReferenceIdeal := hDyReferenceIdeal)
    ∧ quiescent_InOdd (hInOdd := hInOdd)
    ∧ quiescent_InOddIdeal (hInOddIdeal := hInOddIdeal)
    ∧ quiescent_InOddReferenceIdeal (hInOddReferenceIdeal := hInOddReferenceIdeal)
    ∧ quiescent_InEven (hInEven := hInEven)
    ∧ quiescent_InEvenIdeal (hInEvenIdeal := hInEvenIdeal)
    ∧ quiescent_InEvenReferenceIdeal (hInEvenReferenceIdeal := hInEvenReferenceIdeal)
    ∧ quiescent_OutEven (hOutEven := hOutEven)
    ∧ quiescent_OutEvenIdeal (hOutEvenIdeal := hOutEvenIdeal)
    ∧ quiescent_OutEvenReferenceIdeal (hOutEvenReferenceIdeal := hOutEvenReferenceIdeal)
    ∧ quiescent_OutOdd (hOutOdd := hOutOdd)
    ∧ quiescent_OutOddIdeal (hOutOddIdeal := hOutOddIdeal)
    ∧ quiescent_OutOddReferenceIdeal (hOutOddReferenceIdeal := hOutOddReferenceIdeal)
    ∧ quiescent_AdamInEven (hAdamInEven := hAdamInEven)
    ∧ quiescent_AdamInEvenIdeal (hAdamInEvenIdeal := hAdamInEvenIdeal)
    ∧ quiescent_AdamInEvenReferenceIdeal (hAdamInEvenReferenceIdeal := hAdamInEvenReferenceIdeal)
    ∧ quiescent_AdamPool (hAdamPool := hAdamPool)
    ∧ quiescent_AdamPoolIdeal (hAdamPoolIdeal := hAdamPoolIdeal)
    ∧ quiescent_AdamPoolReferenceIdeal (hAdamPoolReferenceIdeal := hAdamPoolReferenceIdeal)
    ∧ quiescent_AdamPoolScale (hAdamPoolScale := hAdamPoolScale)
    ∧ quiescent_AdamPoolScaleIdeal (hAdamPoolScaleIdeal := hAdamPoolScaleIdeal)
    ∧ quiescent_AdamPoolScaleReferenceIdeal (hAdamPoolScaleReferenceIdeal := hAdamPoolScaleReferenceIdeal)
    ∧ quiescent_AdamOut (hAdamOut := hAdamOut)
    ∧ quiescent_AdamOutIdeal (hAdamOutIdeal := hAdamOutIdeal)
    ∧ quiescent_AdamOutReferenceIdeal (hAdamOutReferenceIdeal := hAdamOutReferenceIdeal)
    ∧ quiescent_AdamNorm (hAdamNorm := hAdamNorm)
    ∧ quiescent_AdamNormIdeal (hAdamNormIdeal := hAdamNormIdeal)
    ∧ quiescent_AdamNormReferenceIdeal (hAdamNormReferenceIdeal := hAdamNormReferenceIdeal)
    ∧ quiescent_AdamNormOdd (hAdamNormOdd := hAdamNormOdd)
    ∧ quiescent_AdamNormOddIdeal (hAdamNormOddIdeal := hAdamNormOddIdeal)
    ∧ quiescent_AdamNormOddReferenceIdeal (hAdamNormOddReferenceIdeal := hAdamNormOddReferenceIdeal)
    ∧ quiescent_AdamInOdd (hAdamInOdd := hAdamInOdd)
    ∧ quiescent_AdamInOddIdeal (hAdamInOddIdeal := hAdamInOddIdeal)
    ∧ quiescent_AdamInOddReferenceIdeal (hAdamInOddReferenceIdeal := hAdamInOddReferenceIdeal)
    ∧ quiescent_AdamShort (hAdamShort := hAdamShort)
    ∧ quiescent_AdamShortIdeal (hAdamShortIdeal := hAdamShortIdeal)
    ∧ quiescent_AdamShortReferenceIdeal (hAdamShortReferenceIdeal := hAdamShortReferenceIdeal)
    ∧ quiescent_AdamLong (hAdamLong := hAdamLong)
    ∧ quiescent_AdamLongIdeal (hAdamLongIdeal := hAdamLongIdeal)
    ∧ quiescent_AdamLongReferenceIdeal (hAdamLongReferenceIdeal := hAdamLongReferenceIdeal)
    ∧ quiescent_AdamBias (hAdamBias := hAdamBias)
    ∧ quiescent_AdamBiasIdeal (hAdamBiasIdeal := hAdamBiasIdeal)
    ∧ quiescent_AdamBiasReferenceIdeal (hAdamBiasReferenceIdeal := hAdamBiasReferenceIdeal)
    ∧ quiescent_Att (hAtt := hAtt)
    ∧ quiescent_AttIdeal (hAttIdeal := hAttIdeal)
    ∧ quiescent_AttIdeal_pre_finite_qk (hAttIdeal := hAttIdeal) (hPre_finite_qk := hPre_finite_qk)
    ∧ quiescent_AttReferenceIdeal (hAttReferenceIdeal := hAttReferenceIdeal)
    ∧ quiescent_AttReferenceIdeal_pre_finite_qk (hAttReferenceIdeal := hAttReferenceIdeal) (hPre_finite_qk := hPre_finite_qk)
    ∧ quiescent_Rms (hRms := hRms)
    ∧ quiescent_RmsIdeal (hRmsIdeal := hRmsIdeal)
    ∧ quiescent_RmsReferenceIdeal (hRmsReferenceIdeal := hRmsReferenceIdeal)
    ∧ quiescent_OddRows (hOddRows := hOddRows)
    ∧ quiescent_OddRowsIdeal (hOddRowsIdeal := hOddRowsIdeal)
    ∧ quiescent_OddRowsIdeal_pre_finite_rows (hOddRowsIdeal := hOddRowsIdeal) (hPre_finite_rows := hPre_finite_rows)
    ∧ quiescent_OddRowsReferenceIdeal (hOddRowsReferenceIdeal := hOddRowsReferenceIdeal)
    ∧ quiescent_OddRowsReferenceIdeal_pre_finite_rows (hOddRowsReferenceIdeal := hOddRowsReferenceIdeal) (hPre_finite_rows := hPre_finite_rows)
    ∧ quiescent_EvenMix (hEvenMix := hEvenMix)
    ∧ quiescent_EvenMixIdeal (hEvenMixIdeal := hEvenMixIdeal)
    ∧ quiescent_EvenMixReferenceIdeal (hEvenMixReferenceIdeal := hEvenMixReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Dx_DxIdeal
    ∧ algebraic_DxIdeal_DxReferenceIdeal (hDxIdeal := hDxIdeal) (hDxReferenceIdeal := hDxReferenceIdeal)
    ∧ preserves_DxEven_DxEvenIdeal
    ∧ algebraic_DxEvenIdeal_DxEvenReferenceIdeal (hDxEvenIdeal := hDxEvenIdeal) (hDxEvenReferenceIdeal := hDxEvenReferenceIdeal)
    ∧ preserves_DwOdd_DwOddIdeal
    ∧ algebraic_DwOddIdeal_DwOddReferenceIdeal (hDwOddIdeal := hDwOddIdeal) (hDwOddReferenceIdeal := hDwOddReferenceIdeal)
    ∧ preserves_DwEven_DwEvenIdeal
    ∧ algebraic_DwEvenIdeal_DwEvenReferenceIdeal (hDwEvenIdeal := hDwEvenIdeal) (hDwEvenReferenceIdeal := hDwEvenReferenceIdeal)
    ∧ preserves_DwOut_DwOutIdeal
    ∧ algebraic_DwOutIdeal_DwOutReferenceIdeal (hDwOutIdeal := hDwOutIdeal) (hDwOutReferenceIdeal := hDwOutReferenceIdeal)
    ∧ preserves_Dy_DyIdeal
    ∧ algebraic_DyIdeal_DyReferenceIdeal (hDyIdeal := hDyIdeal) (hDyReferenceIdeal := hDyReferenceIdeal)
    ∧ preserves_InOdd_InOddIdeal
    ∧ algebraic_InOddIdeal_InOddReferenceIdeal (hInOddIdeal := hInOddIdeal) (hInOddReferenceIdeal := hInOddReferenceIdeal)
    ∧ preserves_InEven_InEvenIdeal
    ∧ algebraic_InEvenIdeal_InEvenReferenceIdeal (hInEvenIdeal := hInEvenIdeal) (hInEvenReferenceIdeal := hInEvenReferenceIdeal)
    ∧ preserves_OutEven_OutEvenIdeal
    ∧ algebraic_OutEvenIdeal_OutEvenReferenceIdeal (hOutEvenIdeal := hOutEvenIdeal) (hOutEvenReferenceIdeal := hOutEvenReferenceIdeal)
    ∧ preserves_OutOdd_OutOddIdeal
    ∧ algebraic_OutOddIdeal_OutOddReferenceIdeal (hOutOddIdeal := hOutOddIdeal) (hOutOddReferenceIdeal := hOutOddReferenceIdeal)
    ∧ preserves_AdamInEven_AdamInEvenIdeal
    ∧ algebraic_AdamInEvenIdeal_AdamInEvenReferenceIdeal (hAdamInEvenIdeal := hAdamInEvenIdeal) (hAdamInEvenReferenceIdeal := hAdamInEvenReferenceIdeal)
    ∧ preserves_AdamPool_AdamPoolIdeal
    ∧ algebraic_AdamPoolIdeal_AdamPoolReferenceIdeal (hAdamPoolIdeal := hAdamPoolIdeal) (hAdamPoolReferenceIdeal := hAdamPoolReferenceIdeal)
    ∧ preserves_AdamPoolScale_AdamPoolScaleIdeal
    ∧ algebraic_AdamPoolScaleIdeal_AdamPoolScaleReferenceIdeal (hAdamPoolScaleIdeal := hAdamPoolScaleIdeal) (hAdamPoolScaleReferenceIdeal := hAdamPoolScaleReferenceIdeal)
    ∧ preserves_AdamOut_AdamOutIdeal
    ∧ algebraic_AdamOutIdeal_AdamOutReferenceIdeal (hAdamOutIdeal := hAdamOutIdeal) (hAdamOutReferenceIdeal := hAdamOutReferenceIdeal)
    ∧ preserves_AdamNorm_AdamNormIdeal
    ∧ algebraic_AdamNormIdeal_AdamNormReferenceIdeal (hAdamNormIdeal := hAdamNormIdeal) (hAdamNormReferenceIdeal := hAdamNormReferenceIdeal)
    ∧ preserves_AdamNormOdd_AdamNormOddIdeal
    ∧ algebraic_AdamNormOddIdeal_AdamNormOddReferenceIdeal (hAdamNormOddIdeal := hAdamNormOddIdeal) (hAdamNormOddReferenceIdeal := hAdamNormOddReferenceIdeal)
    ∧ preserves_AdamInOdd_AdamInOddIdeal
    ∧ algebraic_AdamInOddIdeal_AdamInOddReferenceIdeal (hAdamInOddIdeal := hAdamInOddIdeal) (hAdamInOddReferenceIdeal := hAdamInOddReferenceIdeal)
    ∧ preserves_AdamShort_AdamShortIdeal
    ∧ algebraic_AdamShortIdeal_AdamShortReferenceIdeal (hAdamShortIdeal := hAdamShortIdeal) (hAdamShortReferenceIdeal := hAdamShortReferenceIdeal)
    ∧ preserves_AdamLong_AdamLongIdeal
    ∧ algebraic_AdamLongIdeal_AdamLongReferenceIdeal (hAdamLongIdeal := hAdamLongIdeal) (hAdamLongReferenceIdeal := hAdamLongReferenceIdeal)
    ∧ preserves_AdamBias_AdamBiasIdeal
    ∧ algebraic_AdamBiasIdeal_AdamBiasReferenceIdeal (hAdamBiasIdeal := hAdamBiasIdeal) (hAdamBiasReferenceIdeal := hAdamBiasReferenceIdeal)
    ∧ preserves_Att_AttIdeal
    ∧ algebraic_AttIdeal_AttReferenceIdeal_pre_finite_qk (hAttIdeal := hAttIdeal) (hAttReferenceIdeal := hAttReferenceIdeal) (hPre_finite_qk := hPre_finite_qk)
    ∧ preserves_Rms_RmsIdeal
    ∧ algebraic_RmsIdeal_RmsReferenceIdeal (hRmsIdeal := hRmsIdeal) (hRmsReferenceIdeal := hRmsReferenceIdeal)
    ∧ preserves_OddRows_OddRowsIdeal
    ∧ algebraic_OddRowsIdeal_OddRowsReferenceIdeal_pre_finite_rows (hOddRowsIdeal := hOddRowsIdeal) (hOddRowsReferenceIdeal := hOddRowsReferenceIdeal) (hPre_finite_rows := hPre_finite_rows)
    ∧ preserves_EvenMix_EvenMixIdeal
    ∧ algebraic_EvenMixIdeal_EvenMixReferenceIdeal (hEvenMixIdeal := hEvenMixIdeal) (hEvenMixReferenceIdeal := hEvenMixReferenceIdeal)
-- ==== Pre_finite.lean ====
abbrev S2048x6144 : Shape := ⟨2, ![2048, 6144]⟩
abbrev S2048x1024 : Shape := ⟨2, ![2048, 1024]⟩
abbrev S2048x3072 : Shape := ⟨2, ![2048, 3072]⟩
abbrev S_ : Shape := ⟨0, ![]⟩

class Facts : Prop where
  slices_S2048x6144_S2048x3072_0_0 : S2048x6144.Slices ![0, 0] S2048x3072
  bcast_S_S2048x3072 : S_.BroadcastsInDim S2048x3072 (![] : Fin 0 → Fin S2048x3072.rank)
  reducesTo_S2048x3072_S_d0_1 : S2048x3072.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_

variable [Facts]

def fn {F : FTy → Type} [FloatOps F] (main_arg0 : FVec F S2048x6144 .f32) (main_arg1 : FVec F S2048x1024 .f32) : IVec S_ 1 :=
  let main_v0 : FVec F S2048x3072 .f32 := (extractStridedSlice S2048x3072 ![0, 0] · slices_S2048x6144_S2048x3072_0_0) main_arg0
  let main_v1 : FVec F S2048x3072 .f32 := Host.absf main_v0
  let main_cst : FVec F S_ .f32 := constant S_ .f32 0x7F800000#32
  let main_v2 : FVec F S2048x3072 .f32 := broadcastInDim S2048x3072 ![] bcast_S_S2048x3072 main_cst
  let main_v3 : IVec S2048x3072 1 := cmpf .olt main_v1 main_v2
  let main_c : IVec S_ 1 := constantI S_ 1 1#1
  let main_v4 : IVec S_ 1 := (fun x v => Host.reduce IntOp.andi x v reducesTo_S2048x3072_S_d0_1 h_S_) main_v3 main_c
  let main_v5 : FVec F S2048x1024 .f32 := Host.absf main_arg1
  let main_cst_0 : FVec F S_ .f32 := constant S_ .f32 0x7F800000#32
  let main_v6 : FVec F S2048x1024 .f32 := broadcastInDim S2048x1024 ![] bcast_S_S2048x1024 main_cst_0
  let main_v7 : IVec S2048x1024 1 := cmpf .olt main_v5 main_v6
  let main_c_1 : IVec S_ 1 := constantI S_ 1 1#1
  let main_v8 : IVec S_ 1 := (fun x v => Host.reduce IntOp.andi x v reducesTo_S2048x1024_S_d0_1 h_S_) main_v7 main_c_1
  let main_v9 : IVec S_ 1 := andi main_v4 main_v8
  main_v9
-- ==== Pre_finite_qk.lean ====
abbrev S2048x6144 : Shape := ⟨2, ![2048, 6144]⟩
abbrev S2048x2048 : Shape := ⟨2, ![2048, 2048]⟩
abbrev S_ : Shape := ⟨0, ![]⟩

class Facts : Prop where
  slices_S2048x6144_S2048x2048_0_0 : S2048x6144.Slices ![0, 0] S2048x2048
  bcast_S_S2048x2048 : S_.BroadcastsInDim S2048x2048 (![] : Fin 0 → Fin S2048x2048.rank)
  reducesTo_S2048x2048_S_d0_1 : S2048x2048.ReducesTo [0, 1] S_
  h_S_ : 0 < S_.numel

variable [Facts]

def fn {F : FTy → Type} [FloatOps F] (main_arg0 : FVec F S2048x6144 .f32) : IVec S_ 1 :=
  let main_v0 : FVec F S2048x2048 .f32 := (extractStridedSlice S2048x2048 ![0, 0] · slices_S2048x6144_S2048x2048_0_0) main_arg0
  let main_v1 : FVec F S2048x2048 .f32 := Host.absf main_v0
  let main_cst : FVec F S_ .f32 := constant S_ .f32 0x7F800000#32
  let main_v2 : FVec F S2048x2048 .f32 := broadcastInDim S2048x2048 ![] bcast_S_S2048x2048 main_cst
  let main_v3 : IVec S2048x2048 1 := cmpf .olt main_v1 main_v2
  let main_c : IVec S_ 1 := constantI S_ 1 1#1
  let main_v4 : IVec S_ 1 := (fun x v => Host.reduce IntOp.andi x v reducesTo_S2048x2048_S_d0_1 h_S_) main_v3 main_c
  main_v4
-- ==== Pre_finite_rows.lean ====
abbrev S2048x7168 : Shape := ⟨2, ![2048, 7168]⟩
abbrev S2048x1024 : Shape := ⟨2, ![2048, 1024]⟩
abbrev S2048x2048 : Shape := ⟨2, ![2048, 2048]⟩
abbrev S1x1024 : Shape := ⟨2, ![1, 1024]⟩
abbrev S_ : Shape := ⟨0, ![]⟩

class Facts : Prop where
  slices_S2048x7168_S2048x1024_0_1024 : S2048x7168.Slices ![0, 1024] S2048x1024
  bcast_S_S2048x1024 : S_.BroadcastsInDim S2048x1024 (![] : Fin 0 → Fin S2048x1024.rank)
  reducesTo_S2048x1024_S_d0_1 : S2048x1024.ReducesTo [0, 1] S_
  h_S_ : 0 < S_.numel
  slices_S2048x7168_S2048x1024_0_6144 : S2048x7168.Slices ![0, 6144] S2048x1024
  bcast_S_S2048x2048 : S_.BroadcastsInDim S2048x2048 (![] : Fin 0 → Fin S2048x2048.rank)
  reducesTo_S2048x2048_S_d0_1 : S2048x2048.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_arg5 : FVec F S1x1024 .f32) (main_v15 : IVec S_ 1) (main_v16 : FVec F S2048x2048 .f32) (main_cst_4 : FVec F S_ .f32) : IVec S_ 1 :=
  let main_v17 : FVec F S2048x2048 .f32 := broadcastInDim S2048x2048 ![] bcast_S_S2048x2048 main_cst_4
  let main_v18 : IVec S2048x2048 1 := cmpf .olt main_v16 main_v17
  let main_c_5 : IVec S_ 1 := constantI S_ 1 1#1
  let main_v19 : IVec S_ 1 := (fun x v => Host.reduce IntOp.andi x v reducesTo_S2048x2048_S_d0_1 h_S_) main_v18 main_c_5
  let main_v20 : IVec S_ 1 := andi main_v15 main_v19
  let main_v21 : FVec F S1x1024 .f32 := Host.absf main_arg4
  let main_cst_6 : FVec F S_ .f32 := constant S_ .f32 0x7F800000#32
  let main_v22 : FVec F S1x1024 .f32 := broadcastInDim S1x1024 ![] bcast_S_S1x1024 main_cst_6
  let main_v23 : IVec S1x1024 1 := cmpf .olt main_v21 main_v22
  let main_c_7 : IVec S_ 1 := constantI S_ 1 1#1
  let main_v24 : IVec S_ 1 := (fun x v => Host.reduce IntOp.andi x v reducesTo_S1x1024_S_d0_1 h_S_) main_v23 main_c_7
  let main_v25 : IVec S_ 1 := andi main_v20 main_v24
  let main_v26 : FVec F S1x1024 .f32 := Host.absf main_arg5
  let main_cst_8 : FVec F S_ .f32 := constant S_ .f32 0x7F800000#32
  let main_v27 : FVec F S1x1024 .f32 := broadcastInDim S1x1024 ![] bcast_S_S1x1024 main_cst_8
  let main_v28 : IVec S1x1024 1 := cmpf .olt main_v26 main_v27
  let main_c_9 : IVec S_ 1 := constantI S_ 1 1#1
  let main_v29 : IVec S_ 1 := (fun x v => Host.reduce IntOp.andi x v reducesTo_S1x1024_S_d0_1 h_S_) main_v28 main_c_9
  let main_v30 : IVec S_ 1 := andi main_v25 main_v29
  main_v30

def fn {F : FTy → Type} [FloatOps F] (main_arg0 : FVec F S2048x7168 .f32) (main_arg1 : FVec F S2048x1024 .f32) (main_arg2 : FVec F S2048x1024 .f32) (main_arg3 : FVec F S2048x2048 .f32) (main_arg4 : FVec F S1x1024 .f32) (main_arg5 : FVec F S1x1024 .f32) : IVec S_ 1 :=
  let main_v0 : FVec F S2048x1024 .f32 := (extractStridedSlice S2048x1024 ![0, 1024] · slices_S2048x7168_S2048x1024_0_1024) main_arg0
  let main_v1 : FVec F S2048x1024 .f32 := Host.absf main_v0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  let main_c : IVec S_ 1 := constantI S_ 1 1#1
  let main_v4 : IVec S_ 1 := (fun x v => Host.reduce IntOp.andi x v reducesTo_S2048x1024_S_d0_1 h_S_) main_v3 main_c
  let main_v5 : FVec F S2048x1024 .f32 := (extractStridedSlice S2048x1024 ![0, 6144] · slices_S2048x7168_S2048x1024_0_6144) main_arg0
  let main_v6 : FVec F S2048x1024 .f32 := Host.absf main_v5
  let main_cst_0 : FVec F S_ .f32 := constant S_ .f32 0x7F800000#32
  let main_v7 : FVec F S2048x1024 .f32 := broadcastInDim S2048x1024 ![] bcast_S_S2048x1024 main_cst_0
  let main_v8 : IVec S2048x1024 1 := cmpf .olt main_v6 main_v7
  let main_c_1 : IVec S_ 1 := constantI S_ 1 1#1
  let main_v9 : IVec S_ 1 := (fun x v => Host.reduce IntOp.andi x v reducesTo_S2048x1024_S_d0_1 h_S_) main_v8 main_c_1
  let main_v10 : IVec S_ 1 := andi main_v4 main_v9
  let main_v11 : FVec F S2048x1024 .f32 := Host.absf main_arg1
  let main_cst_2 : FVec F S_ .f32 := constant S_ .f32 0x7F800000#32
  let main_v12 : FVec F S2048x1024 .f32 := broadcastInDim S2048x1024 ![] bcast_S_S2048x1024 main_cst_2
  let main_v13 : IVec S2048x1024 1 := cmpf .olt main_v11 main_v12
  let main_c_3 : IVec S_ 1 := constantI S_ 1 1#1
  let main_v14 : IVec S_ 1 := (fun x v => Host.reduce IntOp.andi x v reducesTo_S2048x1024_S_d0_1 h_S_) main_v13 main_c_3
  let main_v15 : IVec S_ 1 := andi main_v10 main_v14
  let main_v16 : FVec F S2048x2048 .f32 := Host.absf main_arg3
  let main_cst_4 : FVec F S_ .f32 := constant S_ .f32 0x7F800000#32
  fn_part1 (F := F) main_arg4 main_arg5 main_v15 main_v16 main_cst_4
-- ==== Kernel.lean ====
abbrev S2048x6144 : Shape := ⟨2, ![2048, 6144]⟩
abbrev S2048x1024 : Shape := ⟨2, ![2048, 1024]⟩
abbrev S2048x8x128 : Shape := ⟨3, ![2048, 8, 128]⟩
abbrev S8x2048x2048 : Shape := ⟨3, ![8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x2048 : Shape := ⟨2, ![8, 2048]⟩
abbrev S2048x8 : Shape := ⟨2, ![2048, 8]⟩
abbrev S2048x8x1 : Shape := ⟨3, ![2048, 8, 1]⟩
abbrev S256x128 : Shape := ⟨2, ![256, 128]⟩
abbrev S2048x128 : Shape := ⟨2, ![2048, 128]⟩
abbrev S256x1 : Shape := ⟨2, ![256, 1]⟩
abbrev S256x256 : Shape := ⟨2, ![256, 256]⟩
abbrev S256 : Shape := ⟨1, ![256]⟩

abbrev nBuf : Space → Nat
  | .hbm => 48
  | .vmem => 20
  | .smem => 0
  | _ => 0

abbrev bufTy : (tb : Table) → Fin (tcTables nBuf tb) → BufTy
  | .hbm, ⟨0, _⟩ => ⟨S2048x6144, .f32⟩
  | .hbm, ⟨1, _⟩ => ⟨S2048x1024, .f32⟩
  | .hbm, ⟨2, _⟩ => ⟨S2048x1024, .f32⟩
  | .hbm, ⟨3, _⟩ => ⟨S2048x8x128, .f32⟩
  | .hbm, ⟨4, _⟩ => ⟨S2048x1024, .f32⟩
  | .hbm, ⟨5, _⟩ => ⟨S2048x8x128, .f32⟩
  | .hbm, ⟨6, _⟩ => ⟨S8x2048x2048, .f32⟩
  | .hbm, ⟨7, _⟩ => ⟨S_, .f32⟩
  | .hbm, ⟨8, _⟩ => ⟨S8x2048x2048, .f32⟩
  | .hbm, ⟨9, _⟩ => ⟨S8x2048x2048, .f32⟩
  | .hbm, ⟨10, _⟩ => ⟨S2048, .i32⟩
  | .hbm, ⟨11, _⟩ => ⟨S1x2048, .i32⟩
  | .hbm, ⟨12, _⟩ => ⟨S2048, .i32⟩
  | .hbm, ⟨13, _⟩ => ⟨S2048x1, .i32⟩
  | .hbm, ⟨14, _⟩ => ⟨S2048x2048, .i32⟩
  | .hbm, ⟨15, _⟩ => ⟨S2048x2048, .i32⟩
  | .hbm, ⟨16, _⟩ => ⟨S2048x2048, .i1⟩
  | .hbm, ⟨17, _⟩ => ⟨S8x2048x2048, .f32⟩
  | .hbm, ⟨18, _⟩ => ⟨S8x2048x2048, .f32⟩
  | .hbm, ⟨19, _⟩ => ⟨S_, .f32⟩
  | .hbm, ⟨20, _⟩ => ⟨S8x2048x2048, .f32⟩
  | .hbm, ⟨21, _⟩ => ⟨S8x2048x2048, .f32⟩
  | .hbm, ⟨22, _⟩ => ⟨S8x2048x2048, .f32⟩
  | .hbm, ⟨23, _⟩ => ⟨S8x2048x2048, .f32⟩
  | .hbm, ⟨24, _⟩ => ⟨S8x2048x2048, .i1⟩
  | .hbm, ⟨25, _⟩ => ⟨S8x2048x2048, .f32⟩
  | .hbm, ⟨26, _⟩ => ⟨S8x2048x2048, .f32⟩
  | .hbm, ⟨27, _⟩ => ⟨S8x2048x2048, .f32⟩
  | .hbm, ⟨28, _⟩ => ⟨S8x2048x2048, .f32⟩
  | .hbm, ⟨29, _⟩ => ⟨S8x2048x2048, .f32⟩
  | .hbm, ⟨30, _⟩ => ⟨S8x2048x2048, .f32⟩
  | .hbm, ⟨31, _⟩ => ⟨S8x2048x2048, .f32⟩
  | .hbm, ⟨32, _⟩ => ⟨S8x2048x2048, .f32⟩
  | .hbm, ⟨33, _⟩ => ⟨S8x2048x2048, .f32⟩
  | .hbm, ⟨34, _⟩ => ⟨S_, .f32⟩
  | .hbm, ⟨35, _⟩ => ⟨S_, .f32⟩
  | .hbm, ⟨36, _⟩ => ⟨S8x2048x2048, .i1⟩
  | .hbm, ⟨37, _⟩ => ⟨S8x2048x2048, .f32⟩
  | .hbm, ⟨38, _⟩ => ⟨S8x2048x2048, .f32⟩
  | .hbm, ⟨39, _⟩ => ⟨S_, .f32⟩
  | .hbm, ⟨40, _⟩ => ⟨S8x2048, .f32⟩
  | .hbm, ⟨41, _⟩ => ⟨S2048x8, .f32⟩
  | .hbm, ⟨42, _⟩ => ⟨S2048x8x1, .f32⟩
  | .hbm, ⟨43, _⟩ => ⟨S2048x8x128, .f32⟩
  | .hbm, ⟨44, _⟩ => ⟨S2048x1024, .f32⟩
  | .hbm, ⟨45, _⟩ => ⟨S2048x1024, .bf16⟩
  | .hbm, ⟨46, _⟩ => ⟨S2048x1024, .bf16⟩
  | .hbm, ⟨47, _⟩ => ⟨S2048x1024, .bf16⟩
  | .local _ .vmem, ⟨0, _⟩ => ⟨S256x128, .f32⟩
  | .local _ .vmem, ⟨1, _⟩ => ⟨S256x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .bf16⟩
  | .local _ .vmem, ⟨11, _⟩ => ⟨S256x128, .bf16⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S2048x128, .bf16⟩
  | .local _ .vmem, ⟨17, _⟩ => ⟨S2048x128, .bf16⟩
  | .local _ .vmem, ⟨18, _⟩ => ⟨S2048x128, .f32⟩
  | .local _ .vmem, ⟨19, _⟩ => ⟨S2048x128, .f32⟩
  | _, _ => ⟨S2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v15 : Ref sig .tc := ⟨.hbm, 33, rfl⟩
abbrev main_cst_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v16 : Ref sig .tc := ⟨.hbm, 38, rfl⟩
abbrev main_cst_1 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22_0 : Ref sig .tc := ⟨.hbm, 45, rfl⟩
abbrev main_v22_1 : Ref sig .tc := ⟨.hbm, 46, rfl⟩
abbrev main_v22_2 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 8], ![false, false]⟩

@[reducible] def k0_t1_loop (i : grid0.Coords) : Scf.Loop 32 :=
  let c0_i32_11 : BitVec 32 := 0#32
  let arg1 : BitVec 32 := BitVec.ofNat 32 (i 1).val
  let c1_i32 : BitVec 32 := 1#32
  let v29 : BitVec 32 := Scalar.addi arg1 c1_i32
  let v31 : BitVec 32 := Scalar.subi v29 c0_i32_11
  let c1_i32_12 : BitVec 32 := 1#32
  let v33 : BitVec 32 := Scalar.divsi v31 c1_i32_12
  let v34 : BitVec 32 := Scalar.muli v33 c1_i32_12
  let v35 : BitVec 32 := Scalar.addi c0_i32_11 v34
  let c1_i32_13 : BitVec 32 := 1#32
  ⟨c0_i32_11, v35, c1_i32_13⟩
def k0_mult1 (i : grid0.Coords) (k0_t1 : Fin (k0_t1_loop i).trips) : BitVec 32 :=
  let c0_i32_11 : BitVec 32 := 0#32
  let c1_i32_13 : BitVec 32 := 1#32
  let arg14 : BitVec 32 := Scf.iv c0_i32_11 c1_i32_13 k0_t1
  let c256_i32_18 : BitVec 32 := 256#32
  let v43 : BitVec 32 := Scalar.muli arg14 c256_i32_18
  v43
def k0_off1 (i : grid0.Coords) (k0_t1 : Fin (k0_t1_loop i).trips) : Fin 2 → Nat :=
  let c0_i32_11 : BitVec 32 := 0#32
  let c1_i32_13 : BitVec 32 := 1#32
  let arg14 : BitVec 32 := Scf.iv c0_i32_11 c1_i32_13 k0_t1
  let c256_i32_18 : BitVec 32 := 256#32
  let v43 : BitVec 32 := Scalar.muli arg14 c256_i32_18
  let v44 : BitVec 32 := v43
  let v49 : Index := Scalar.indexCast v44
  let c0_20 : Index := 0#32
  ![v49.toNat, 0]
@[reducible] def k0_t2_loop (i : grid0.Coords) : Scf.Loop 32 :=
  let c0_i32_11 : BitVec 32 := 0#32
  let arg1 : BitVec 32 := BitVec.ofNat 32 (i 1).val
  let c1_i32 : BitVec 32 := 1#32
  let v29 : BitVec 32 := Scalar.addi arg1 c1_i32
  let v31 : BitVec 32 := Scalar.subi v29 c0_i32_11
  let c1_i32_12 : BitVec 32 := 1#32
  let v33 : BitVec 32 := Scalar.divsi v31 c1_i32_12
  let v34 : BitVec 32 := Scalar.muli v33 c1_i32_12
  let v35 : BitVec 32 := Scalar.addi c0_i32_11 v34
  let v32 : BitVec 32 := Scalar.addi c0_i32_11 v31
  let c1_i32_14 : BitVec 32 := 1#32
  ⟨v35, v32, c1_i32_14⟩
def k0_mult2 (i : grid0.Coords) (k0_t2 : Fin (k0_t2_loop i).trips) : BitVec 32 :=
  let c0_i32_11 : BitVec 32 := 0#32
  let arg1 : BitVec 32 := BitVec.ofNat 32 (i 1).val
  let c1_i32 : BitVec 32 := 1#32
  let v29 : BitVec 32 := Scalar.addi arg1 c1_i32
  let v31 : BitVec 32 := Scalar.subi v29 c0_i32_11
  let c1_i32_12 : BitVec 32 := 1#32
  let v33 : BitVec 32 := Scalar.divsi v31 c1_i32_12
  let v34 : BitVec 32 := Scalar.muli v33 c1_i32_12
  let v35 : BitVec 32 := Scalar.addi c0_i32_11 v34
  let c1_i32_14 : BitVec 32 := 1#32
  let arg14 : BitVec 32 := Scf.iv v35 c1_i32_14 k0_t2
  let c256_i32_18 : BitVec 32 := 256#32
  let v43 : BitVec 32 := Scalar.muli arg14 c256_i32_18
  v43
def k0_off2 (i : grid0.Coords) (k0_t2 : Fin (k0_t2_loop i).trips) : Fin 2 → Nat :=
  let c0_i32_11 : BitVec 32 := 0#32
  let arg1 : BitVec 32 := BitVec.ofNat 32 (i 1).val
  let c1_i32 : BitVec 32 := 1#32
  let v29 : BitVec 32 := Scalar.addi arg1 c1_i32
  let v31 : BitVec 32 := Scalar.subi v29 c0_i32_11
  let c1_i32_12 : BitVec 32 := 1#32
  let v33 : BitVec 32 := Scalar.divsi v31 c1_i32_12
  let v34 : BitVec 32 := Scalar.muli v33 c1_i32_12
  let v35 : BitVec 32 := Scalar.addi c0_i32_11 v34
  let c1_i32_14 : BitVec 32 := 1#32
  let arg14 : BitVec 32 := Scf.iv v35 c1_i32_14 k0_t2
  let c256_i32_18 : BitVec 32 := 256#32
  let v43 : BitVec 32 := Scalar.muli arg14 c256_i32_18
  let v44 : BitVec 32 := v43
  let v49 : Index := Scalar.indexCast v44
  let c0_20 : Index := 0#32
  ![v49.toNat, 0]
def k0_cond2 (i : grid0.Coords) : BitVec 1 :=
  let arg1 : BitVec 32 := BitVec.ofNat 32 (i 1).val
  let c7_i32 : BitVec 32 := 7#32
  let v40 : BitVec 1 := Scalar.cmpi .eq arg1 c7_i32
  let v41 : BitVec 32 := Scalar.extui v40
  let c0_i32_17 : BitVec 32 := 0#32
  let v42 : BitVec 1 := Scalar.cmpi .ne v41 c0_i32_17
  v42

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S2048x6144 : Shape := ⟨2, ![2048, 6144]⟩
abbrev S2048x1024 : Shape := ⟨2, ![2048, 1024]⟩
abbrev S2048x8x128 : Shape := ⟨3, ![2048, 8, 128]⟩
abbrev S8x2048x2048 : Shape := ⟨3, ![8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x128x2048 : Shape := ⟨3, ![8, 128, 2048]⟩
abbrev S8x2048x128 : Shape := ⟨3, ![8, 2048, 128]⟩

abbrev nBuf : Space → Nat
  | .hbm => 177
  | .vmem => 0
  | .smem => 0
  | _ => 0

abbrev hbmTy0_0 (i : Nat) : BufTy := match i % 128 with
  | 0 => ⟨S2048x6144, .f32⟩
  | 1 => ⟨S2048x1024, .f32⟩
  | 2 => ⟨S2048x1024, .f32⟩
  | 3 => ⟨S2048x1024, .f32⟩
  | 4 => ⟨S2048x1024, .f32⟩
  | 5 => ⟨S2048x8x128, .f32⟩
  | 6 => ⟨S2048x8x128, .f32⟩
  | 7 => ⟨S2048x8x128, .f32⟩
  | 8 => ⟨S8x2048x2048, .f32⟩
  | 9 => ⟨S_, .f32⟩
  | 10 => ⟨S8x2048x2048, .f32⟩
  | 11 => ⟨S8x2048x2048, .f32⟩
  | 12 => ⟨S2048, .i32⟩
  | 13 => ⟨S1x2048, .i32⟩
  | 14 => ⟨S2048, .i32⟩
  | 15 => ⟨S2048x1, .i32⟩
  | 16 => ⟨S2048x2048, .i32⟩
  | 17 => ⟨S2048x2048, .i32⟩
  | 18 => ⟨S2048x2048, .i1⟩
  | 19 => ⟨S8x2048x2048, .f32⟩
  | 20 => ⟨S_, .f32⟩
  | 21 => ⟨S8x2048x2048, .f32⟩
  | 22 => ⟨S8x2048x2048, .f32⟩
  | 23 => ⟨S8x2048x2048, .f32⟩
  | 24 => ⟨S8x2048x2048, .f32⟩
  | 25 => ⟨S8x2048x2048, .i1⟩
  | 26 => ⟨S8x2048x2048, .f32⟩
  | 27 => ⟨S8x2048x2048, .f32⟩
  | 28 => ⟨S8x2048x2048, .f32⟩
  | 29 => ⟨S8x2048x2048, .f32⟩
  | 30 => ⟨S8x2048x2048, .f32⟩
  | 31 => ⟨S8x2048x2048, .f32⟩
  | 32 => ⟨S8x2048x2048, .f32⟩
  | 33 => ⟨S8x2048x2048, .f32⟩
  | 34 => ⟨S_, .f32⟩
  | 35 => ⟨S8x2048x2048, .f32⟩
  | 36 => ⟨S8x2048x2048, .i1⟩
  | 37 => ⟨S_, .f32⟩
  | 38 => ⟨S8x2048x2048, .f32⟩
  | 39 => ⟨S8x2048x2048, .f32⟩
  | 40 => ⟨S_, .f32⟩
  | 41 => ⟨S8x2048x2048, .f32⟩
  | 42 => ⟨S8x2048x2048, .i1⟩
  | 43 => ⟨S_, .f32⟩
  | 44 => ⟨S8x2048x2048, .f32⟩
  | 45 => ⟨S8x2048x2048, .f32⟩
  | 46 => ⟨S8x2048x2048, .f32⟩
  | 47 => ⟨S8x2048x2048, .f32⟩
  | 48 => ⟨S_, .f32⟩
  | 49 => ⟨S_, .f32⟩
  | 50 => ⟨S_, .i1⟩
  | 51 => ⟨S_, .f32⟩
  | 52 => ⟨S_, .f32⟩
  | 53 => ⟨S_, .f32⟩
  | 54 => ⟨S_, .f32⟩
  | 55 => ⟨S8x2048x2048, .f32⟩
  | 56 => ⟨S8x2048x2048, .i1⟩
  | 57 => ⟨S_, .f32⟩
  | 58 => ⟨S8x2048x2048, .f32⟩
  | 59 => ⟨S8x2048x2048, .f32⟩
  | 60 => ⟨S8x2048x2048, .f32⟩
  | 61 => ⟨S8x2048x2048, .f32⟩
  | 62 => ⟨S8x2048x2048, .f32⟩
  | 63 => ⟨S_, .f32⟩
  | 64 => ⟨S8x2048x2048, .f32⟩
  | 65 => ⟨S8x2048x2048, .f32⟩
  | 66 => ⟨S8x2048x2048, .f32⟩
  | 67 => ⟨S8x2048x2048, .f32⟩
  | 68 => ⟨S8x2048x2048, .f32⟩
  | 69 => ⟨S_, .f32⟩
  | 70 => ⟨S8x2048x2048, .f32⟩
  | 71 => ⟨S8x2048x2048, .f32⟩
  | 72 => ⟨S8x2048x2048, .f32⟩
  | 73 => ⟨S8x2048x2048, .f32⟩
  | 74 => ⟨S8x2048x2048, .i1⟩
  | 75 => ⟨S8x2048x2048, .f32⟩
  | 76 => ⟨S8x2048x2048, .f32⟩
  | 77 => ⟨S8x2048x2048, .f32⟩
  | 78 => ⟨S8x2048x2048, .f32⟩
  | 79 => ⟨S8x2048x2048, .f32⟩
  | 80 => ⟨S8x2048x2048, .f32⟩
  | 81 => ⟨S8x2048x2048, .f32⟩
  | 82 => ⟨S8x2048x2048, .f32⟩
  | 83 => ⟨S_, .f32⟩
  | 84 => ⟨S8x2048x2048, .f32⟩
  | 85 => ⟨S8x2048x2048, .i1⟩
  | 86 => ⟨S_, .f32⟩
  | 87 => ⟨S8x2048x2048, .f32⟩
  | 88 => ⟨S8x2048x2048, .f32⟩
  | 89 => ⟨S_, .f32⟩
  | 90 => ⟨S8x2048x2048, .f32⟩
  | 91 => ⟨S8x2048x2048, .i1⟩
  | 92 => ⟨S_, .f32⟩
  | 93 => ⟨S8x2048x2048, .f32⟩
  | 94 => ⟨S8x2048x2048, .f32⟩
  | 95 => ⟨S8x2048x2048, .f32⟩
  | 96 => ⟨S8x2048x2048, .f32⟩
  | 97 => ⟨S_, .f32⟩
  | 98 => ⟨S_, .f32⟩
  | 99 => ⟨S_, .i1⟩
  | 100 => ⟨S_, .f32⟩
  | 101 => ⟨S_, .f32⟩
  | 102 => ⟨S_, .f32⟩
  | 103 => ⟨S_, .f32⟩
  | 104 => ⟨S8x2048x2048, .f32⟩
  | 105 => ⟨S8x2048x2048, .i1⟩
  | 106 => ⟨S_, .f32⟩
  | 107 => ⟨S8x2048x2048, .f32⟩
  | 108 => ⟨S8x2048x2048, .f32⟩
  | 109 => ⟨S8x2048x2048, .f32⟩
  | 110 => ⟨S8x2048x2048, .f32⟩
  | 111 => ⟨S8x2048x2048, .f32⟩
  | 112 => ⟨S_, .f32⟩
  | 113 => ⟨S8x2048x2048, .f32⟩
  | 114 => ⟨S8x2048x2048, .f32⟩
  | 115 => ⟨S8x2048x2048, .f32⟩
  | 116 => ⟨S_, .f32⟩
  | 117 => ⟨S_, .f32⟩
  | 118 => ⟨S8x2048x2048, .i1⟩
  | 119 => ⟨S8x2048x2048, .f32⟩
  | 120 => ⟨S8x2048x2048, .f32⟩
  | 121 => ⟨S_, .f32⟩
  | 122 => ⟨S8x2048x2048, .f32⟩
  | 123 => ⟨S_, .f32⟩
  | 124 => ⟨S_, .f32⟩
  | 125 => ⟨S8x2048x2048, .f32⟩
  | 126 => ⟨S8x2048x2048, .f32⟩
  | 127 => ⟨S8x2048x2048, .f32⟩
  | _ => ⟨S2048x6144, .f32⟩

abbrev hbmTy0_1 (i : Nat) : BufTy := match i % 128 with
  | 0 => ⟨S8x2048x2048, .f32⟩
  | 1 => ⟨S_, .f32⟩
  | 2 => ⟨S_, .f32⟩
  | 3 => ⟨S8x2048x2048, .i1⟩
  | 4 => ⟨S8x2048x2048, .f32⟩
  | 5 => ⟨S8x2048x2048, .f32⟩
  | 6 => ⟨S_, .f32⟩
  | 7 => ⟨S8x2048x2048, .f32⟩
  | 8 => ⟨S8x128x2048, .f32⟩
  | 9 => ⟨S2048x8x128, .f32⟩
  | 10 => ⟨S2048x1024, .f32⟩
  | 11 => ⟨S2048x8x128, .f32⟩
  | 12 => ⟨S8x128x2048, .f32⟩
  | 13 => ⟨S8x2048x2048, .f32⟩
  | 14 => ⟨S8x128x2048, .f32⟩
  | 15 => ⟨S2048x8x128, .f32⟩
  | 16 => ⟨S_, .f32⟩
  | 17 => ⟨S8x2048x2048, .f32⟩
  | 18 => ⟨S8x2048x2048, .f32⟩
  | 19 => ⟨S8x2048x2048, .f32⟩
  | 20 => ⟨S8x2048x2048, .f32⟩
  | 21 => ⟨S_, .f32⟩
  | 22 => ⟨S_, .f32⟩
  | 23 => ⟨S8x2048x2048, .f32⟩
  | 24 => ⟨S8x2048x2048, .f32⟩
  | 25 => ⟨S_, .f32⟩
  | 26 => ⟨S8x2048x2048, .f32⟩
  | 27 => ⟨S8x2048x2048, .f32⟩
  | 28 => ⟨S8x2048x2048, .f32⟩
  | 29 => ⟨S8x2048x2048, .f32⟩
  | 30 => ⟨S8x2048x2048, .f32⟩
  | 31 => ⟨S8x2048x2048, .f32⟩
  | 32 => ⟨S8x2048x2048, .f32⟩
  | 33 => ⟨S8x2048x2048, .f32⟩
  | 34 => ⟨S8x2048x2048, .f32⟩
  | 35 => ⟨S8x2048x2048, .f32⟩
  | 36 => ⟨S_, .f32⟩
  | 37 => ⟨S8x2048x2048, .f32⟩
  | 38 => ⟨S8x2048x2048, .f32⟩
  | 39 => ⟨S8x2048x128, .f32⟩
  | 40 => ⟨S2048x8x128, .f32⟩
  | 41 => ⟨S8x2048x128, .f32⟩
  | 42 => ⟨S2048x8x128, .f32⟩
  | 43 => ⟨S2048x1024, .f32⟩
  | 44 => ⟨S2048x1024, .f32⟩
  | 45 => ⟨S2048x1024, .f32⟩
  | 46 => ⟨S2048x1024, .bf16⟩
  | 47 => ⟨S2048x1024, .bf16⟩
  | 48 => ⟨S2048x1024, .bf16⟩
  | _ => ⟨S2048x6144, .f32⟩

abbrev hbmTy (i : Nat) : BufTy := match i / 128 with
  | 0 => hbmTy0_0 i
  | 1 => hbmTy0_1 i
  | _ => ⟨S2048x6144, .f32⟩

abbrev bufTy : (tb : Table) → Fin (tcTables nBuf tb) → BufTy
  | .hbm, ⟨i, _⟩ => hbmTy i
  | _, _ => ⟨S2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1_0 : Ref sig .tc := ⟨.hbm, 33, rfl⟩
abbrev main_call0_call0_cst_0 : Ref sig .tc := ⟨.hbm, 34, rfl⟩
abbrev main_call0_call0_v13 : Ref sig .tc := ⟨.hbm, 35, rfl⟩
abbrev main_call0_call0_v14 : Ref sig .tc := ⟨.hbm, 36, rfl⟩
abbrev main_call0_call0_cst_1 : Ref sig .tc := ⟨.hbm, 37, rfl⟩
abbrev main_call0_call0_v15 : Ref sig .tc := ⟨.hbm, 38, rfl⟩
abbrev main_call0_call0_v16 : Ref sig .tc := ⟨.hbm, 39, rfl⟩
abbrev main_call0_call0_cst_2 : Ref sig .tc := ⟨.hbm, 40, rfl⟩
abbrev main_call0_call0_v17 : Ref sig .tc := ⟨.hbm, 41, rfl⟩
abbrev main_call0_call0_v18 : Ref sig .tc := ⟨.hbm, 42, rfl⟩
abbrev main_call0_call0_cst_3 : Ref sig .tc := ⟨.hbm, 43, rfl⟩
abbrev main_call0_call0_v19 : Ref sig .tc := ⟨.hbm, 44, rfl⟩
abbrev main_call0_call0_v20 : Ref sig .tc := ⟨.hbm, 45, rfl⟩
abbrev main_call0_call0_v21 : Ref sig .tc := ⟨.hbm, 46, rfl⟩
abbrev main_v16_1 : Ref sig .tc := ⟨.hbm, 47, rfl⟩
abbrev main_call0_call0_cst_4 : Ref sig .tc := ⟨.hbm, 48, rfl⟩
abbrev main_call0_call0_cst_5 : Ref sig .tc := ⟨.hbm, 49, rfl⟩
abbrev main_call0_call0_v23 : Ref sig .tc := ⟨.hbm, 50, rfl⟩
abbrev main_call0_call0_cst_6 : Ref sig .tc := ⟨.hbm, 51, rfl⟩
abbrev main_call0_call0_cst_7 : Ref sig .tc := ⟨.hbm, 52, rfl⟩
abbrev main_call0_call0_v24 : Ref sig .tc := ⟨.hbm, 53, rfl⟩
abbrev main_call0_call0_cst_8 : Ref sig .tc := ⟨.hbm, 54, rfl⟩
abbrev main_call0_call0_v25 : Ref sig .tc := ⟨.hbm, 55, rfl⟩
abbrev main_call0_call0_v26 : Ref sig .tc := ⟨.hbm, 56, rfl⟩
abbrev main_call0_call0_cst_9 : Ref sig .tc := ⟨.hbm, 57, rfl⟩
abbrev main_call0_call0_v27 : Ref sig .tc := ⟨.hbm, 58, rfl⟩
abbrev main_call0_call0_v28 : Ref sig .tc := ⟨.hbm, 59, rfl⟩
abbrev main_call0_call0_v29 : Ref sig .tc := ⟨.hbm, 60, rfl⟩
abbrev main_call0_call0_v30 : Ref sig .tc := ⟨.hbm, 61, rfl⟩
abbrev main_call0_call0_v31 : Ref sig .tc := ⟨.hbm, 62, rfl⟩
abbrev main_call0_call0_cst_10 : Ref sig .tc := ⟨.hbm, 63, rfl⟩
abbrev main_call0_call0_v32 : Ref sig .tc := ⟨.hbm, 64, rfl⟩
abbrev main_v16_2 : Ref sig .tc := ⟨.hbm, 65, rfl⟩
abbrev main_v16_0 : Ref sig .tc := ⟨.hbm, 66, rfl⟩
abbrev main_v17 : Ref sig .tc := ⟨.hbm, 67, rfl⟩
abbrev main_call1_v0 : Ref sig .tc := ⟨.hbm, 68, rfl⟩
abbrev main_call1_call0_cst : Ref sig .tc := ⟨.hbm, 69, rfl⟩
abbrev main_call1_call0_v0 : Ref sig .tc := ⟨.hbm, 70, rfl⟩
abbrev main_call1_call0_v1 : Ref sig .tc := ⟨.hbm, 71, rfl⟩
abbrev main_call1_call0_v2 : Ref sig .tc := ⟨.hbm, 72, rfl⟩
abbrev main_call1_call0_v3 : Ref sig .tc := ⟨.hbm, 73, rfl⟩
abbrev main_call1_call0_v4 : Ref sig .tc := ⟨.hbm, 74, rfl⟩
abbrev main_call1_call0_v5 : Ref sig .tc := ⟨.hbm, 75, rfl⟩
abbrev main_call1_call0_v6 : Ref sig .tc := ⟨.hbm, 76, rfl⟩
abbrev main_call1_call0_v7 : Ref sig .tc := ⟨.hbm, 77, rfl⟩
abbrev main_call1_call0_v8 : Ref sig .tc := ⟨.hbm, 78, rfl⟩
abbrev main_call1_call0_v9 : Ref sig .tc := ⟨.hbm, 79, rfl⟩
abbrev main_call1_call0_v10 : Ref sig .tc := ⟨.hbm, 80, rfl⟩
abbrev main_call1_call0_v11 : Ref sig .tc := ⟨.hbm, 81, rfl⟩
abbrev main_call1_v1_0 : Ref sig .tc := ⟨.hbm, 82, rfl⟩
abbrev main_call1_call0_cst_0 : Ref sig .tc := ⟨.hbm, 83, rfl⟩
abbrev main_call1_call0_v13 : Ref sig .tc := ⟨.hbm, 84, rfl⟩
abbrev main_call1_call0_v14 : Ref sig .tc := ⟨.hbm, 85, rfl⟩
abbrev main_call1_call0_cst_1 : Ref sig .tc := ⟨.hbm, 86, rfl⟩
abbrev main_call1_call0_v15 : Ref sig .tc := ⟨.hbm, 87, rfl⟩
abbrev main_call1_call0_v16 : Ref sig .tc := ⟨.hbm, 88, rfl⟩
abbrev main_call1_call0_cst_2 : Ref sig .tc := ⟨.hbm, 89, rfl⟩
abbrev main_call1_call0_v17 : Ref sig .tc := ⟨.hbm, 90, rfl⟩
abbrev main_call1_call0_v18 : Ref sig .tc := ⟨.hbm, 91, rfl⟩
abbrev main_call1_call0_cst_3 : Ref sig .tc := ⟨.hbm, 92, rfl⟩
abbrev main_call1_call0_v19 : Ref sig .tc := ⟨.hbm, 93, rfl⟩
abbrev main_call1_call0_v20 : Ref sig .tc := ⟨.hbm, 94, rfl⟩
abbrev main_call1_call0_v21 : Ref sig .tc := ⟨.hbm, 95, rfl⟩
abbrev main_v18_1 : Ref sig .tc := ⟨.hbm, 96, rfl⟩
abbrev main_call1_call0_cst_4 : Ref sig .tc := ⟨.hbm, 97, rfl⟩
abbrev main_call1_call0_cst_5 : Ref sig .tc := ⟨.hbm, 98, rfl⟩
abbrev main_call1_call0_v23 : Ref sig .tc := ⟨.hbm, 99, rfl⟩
abbrev main_call1_call0_cst_6 : Ref sig .tc := ⟨.hbm, 100, rfl⟩
abbrev main_call1_call0_cst_7 : Ref sig .tc := ⟨.hbm, 101, rfl⟩
abbrev main_call1_call0_v24 : Ref sig .tc := ⟨.hbm, 102, rfl⟩
abbrev main_call1_call0_cst_8 : Ref sig .tc := ⟨.hbm, 103, rfl⟩
abbrev main_call1_call0_v25 : Ref sig .tc := ⟨.hbm, 104, rfl⟩
abbrev main_call1_call0_v26 : Ref sig .tc := ⟨.hbm, 105, rfl⟩
abbrev main_call1_call0_cst_9 : Ref sig .tc := ⟨.hbm, 106, rfl⟩
abbrev main_call1_call0_v27 : Ref sig .tc := ⟨.hbm, 107, rfl⟩
abbrev main_call1_call0_v28 : Ref sig .tc := ⟨.hbm, 108, rfl⟩
abbrev main_call1_call0_v29 : Ref sig .tc := ⟨.hbm, 109, rfl⟩
abbrev main_call1_call0_v30 : Ref sig .tc := ⟨.hbm, 110, rfl⟩
abbrev main_call1_call0_v31 : Ref sig .tc := ⟨.hbm, 111, rfl⟩
abbrev main_call1_call0_cst_10 : Ref sig .tc := ⟨.hbm, 112, rfl⟩
abbrev main_call1_call0_v32 : Ref sig .tc := ⟨.hbm, 113, rfl⟩
abbrev main_v18_2 : Ref sig .tc := ⟨.hbm, 114, rfl⟩
abbrev main_v18_0 : Ref sig .tc := ⟨.hbm, 115, rfl⟩
abbrev main_cst_0 : Ref sig .tc := ⟨.hbm, 116, rfl⟩
abbrev main_call2_v0 : Ref sig .tc := ⟨.hbm, 117, rfl⟩
abbrev main_v19_1 : Ref sig .tc := ⟨.hbm, 118, rfl⟩
abbrev main_call2_v2 : Ref sig .tc := ⟨.hbm, 119, rfl⟩
abbrev main_v19_0 : Ref sig .tc := ⟨.hbm, 120, rfl⟩
abbrev main_call2_cst : Ref sig .tc := ⟨.hbm, 121, rfl⟩
abbrev main_v19_2 : Ref sig .tc := ⟨.hbm, 122, rfl⟩
abbrev main_call3_cst : Ref sig .tc := ⟨.hbm, 123, rfl⟩
abbrev main_call3_v0 : Ref sig .tc := ⟨.hbm, 124, rfl⟩
abbrev main_v20 : Ref sig .tc := ⟨.hbm, 125, rfl⟩
abbrev main_v21 : Ref sig .tc := ⟨.hbm, 126, rfl⟩
abbrev main_v22 : Ref sig .tc := ⟨.hbm, 127, rfl⟩
abbrev main_v23 : Ref sig .tc := ⟨.hbm, 128, rfl⟩
abbrev main_cst_1 : Ref sig .tc := ⟨.hbm, 129, rfl⟩
abbrev main_call4_v0 : Ref sig .tc := ⟨.hbm, 130, rfl⟩
abbrev main_v24_1 : Ref sig .tc := ⟨.hbm, 131, rfl⟩
abbrev main_call4_v2 : Ref sig .tc := ⟨.hbm, 132, rfl⟩
abbrev main_v24_0 : Ref sig .tc := ⟨.hbm, 133, rfl⟩
abbrev main_call4_cst : Ref sig .tc := ⟨.hbm, 134, rfl⟩
abbrev main_v24_2 : Ref sig .tc := ⟨.hbm, 135, rfl⟩
abbrev main_v25 : Ref sig .tc := ⟨.hbm, 136, rfl⟩
abbrev main_v26 : Ref sig .tc := ⟨.hbm, 137, rfl⟩
abbrev main_v27 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_call5_cst : Ref sig .tc := ⟨.hbm, 144, rfl⟩
abbrev main_call5_v0 : Ref sig .tc := ⟨.hbm, 145, rfl⟩
abbrev main_v33 : Ref sig .tc := ⟨.hbm, 146, rfl⟩
abbrev main_v34 : Ref sig .tc := ⟨.hbm, 147, rfl⟩
abbrev main_v35 : Ref sig .tc := ⟨.hbm, 148, rfl⟩
abbrev main_call6_cst : Ref sig .tc := ⟨.hbm, 149, rfl⟩
abbrev main_call6_v0 : Ref sig .tc := ⟨.hbm, 150, rfl⟩
abbrev main_v36 : Ref sig .tc := ⟨.hbm, 151, rfl⟩
abbrev main_v37 : Ref sig .tc := ⟨.hbm, 152, rfl⟩
abbrev main_call7_cst : Ref sig .tc := ⟨.hbm, 153, rfl⟩
abbrev main_call7_v0 : Ref sig .tc := ⟨.hbm, 154, rfl⟩
abbrev main_v38 : Ref sig .tc := ⟨.hbm, 155, rfl⟩
abbrev main_call8_v0 : Ref sig .tc := ⟨.hbm, 156, rfl⟩
abbrev main_call8_v1 : Ref sig .tc := ⟨.hbm, 157, rfl⟩
abbrev main_v39 : Ref sig .tc := ⟨.hbm, 158, rfl⟩
abbrev main_v40 : Ref sig .tc := ⟨.hbm, 159, rfl⟩
abbrev main_call9_v0 : Ref sig .tc := ⟨.hbm, 160, rfl⟩
abbrev main_call9_v1 : Ref sig .tc := ⟨.hbm, 161, rfl⟩
abbrev main_v41 : Ref sig .tc := ⟨.hbm, 162, rfl⟩
abbrev main_v42 : Ref sig .tc := ⟨.hbm, 163, rfl⟩
abbrev main_cst_2 : Ref sig .tc := ⟨.hbm, 164, rfl⟩
abbrev main_v43 : Ref sig .tc := ⟨.hbm, 165, rfl⟩
abbrev main_v44 : Ref sig .tc := ⟨.hbm, 166, rfl⟩
abbrev main_v45 : Ref sig .tc := ⟨.hbm, 167, rfl⟩
abbrev main_v46 : Ref sig .tc := ⟨.hbm, 168, rfl⟩
abbrev main_v47 : Ref sig .tc := ⟨.hbm, 169, rfl⟩
abbrev main_v48 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩
abbrev main_v53 : Ref sig .tc := ⟨.hbm, 175, rfl⟩
abbrev main_v54 : Ref sig .tc := ⟨.hbm, 176, rfl⟩

abbrev nD : Nat := 1
abbrev τ : Topo := Topo.v7x

variable {F : FTy → Type} [FloatOps F]
-- ==== Dx.lean ====
abbrev S2048x7168 : Shape := ⟨2, ![2048, 7168]⟩
abbrev S4x2048x1792 : Shape := ⟨3, ![4, 2048, 1792]⟩
abbrev S2048x2048 : Shape := ⟨2, ![2048, 2048]⟩
abbrev S1x2048 : Shape := ⟨2, ![1, 2048]⟩
abbrev S256x1792 : Shape := ⟨2, ![256, 1792]⟩
abbrev S1x2048x1792 : Shape := ⟨3, ![1, 2048, 1792]⟩
abbrev S256x2048 : Shape := ⟨2, ![256, 2048]⟩
abbrev S2048x1792 : Shape := ⟨2, ![2048, 1792]⟩
abbrev S256 : Shape := ⟨1, ![256]⟩
abbrev S256x1 : Shape := ⟨2, ![256, 1]⟩
abbrev S2048 : Shape := ⟨1, ![2048]⟩

abbrev nBuf : Space → Nat
  | .hbm => 11
  | .vmem => 19
  | .smem => 0
  | _ => 0

abbrev bufTy : (tb : Table) → Fin (tcTables nBuf tb) → BufTy
  | .hbm, ⟨0, _⟩ => ⟨S2048x7168, .bf16⟩
  | .hbm, ⟨1, _⟩ => ⟨S4x2048x1792, .bf16⟩
  | .hbm, ⟨2, _⟩ => ⟨S2048x2048, .f32⟩
  | .hbm, ⟨3, _⟩ => ⟨S1x2048, .f32⟩
  | .hbm, ⟨4, _⟩ => ⟨S2048x2048, .f32⟩
  | .hbm, ⟨5, _⟩ => ⟨S2048x2048, .f32⟩
  | .hbm, ⟨6, _⟩ => ⟨S1x2048, .f32⟩
  | .hbm, ⟨7, _⟩ => ⟨S2048x2048, .f32⟩
  | .hbm, ⟨8, _⟩ => ⟨S1x2048, .f32⟩
  | .hbm, ⟨9, _⟩ => ⟨S2048x2048, .bf16⟩
  | .hbm, ⟨10, _⟩ => ⟨S1x2048, .f32⟩
  | .local _ .vmem, ⟨0, _⟩ => ⟨S256x1792, .bf16⟩
  | .local _ .vmem, ⟨1, _⟩ => ⟨S256x1792, .bf16⟩
  | .local _ .vmem, ⟨2, _⟩ => ⟨S1x2048x1792, .bf16⟩
  | .local _ .vmem, ⟨3, _⟩ => ⟨S1x2048x1792, .bf16⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S1x2048, .f32⟩
  | .local _ .vmem, ⟨12, _⟩ => ⟨S256x2048, .f32⟩
  | .local _ .vmem, ⟨13, _⟩ => ⟨S256x2048, .f32⟩
  | .local _ .vmem, ⟨14, _⟩ => ⟨S1x2048, .f32⟩
  | .local _ .vmem, ⟨15, _⟩ => ⟨S256x2048, .bf16⟩
  | .local _ .vmem, ⟨16, _⟩ => ⟨S256x2048, .bf16⟩
  | .local _ .vmem, ⟨17, _⟩ => ⟨S1x2048, .f32⟩
  | .local _ .vmem, ⟨18, _⟩ => ⟨S256x2048, .f32⟩
  | _, _ => ⟨S2048x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let v45 : BitVec 32 := Scalar.extui v0
  let c0_i32_25 : BitVec 32 := 0#32
  let v46 : BitVec 1 := Scalar.cmpi .ne v45 c0_i32_25
  v46

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v47 : BitVec 1 := Scalar.xori v0 v_true
  let v48 : BitVec 32 := Scalar.extui v47
  let c0_i32_26 : BitVec 32 := 0#32
  let v49 : BitVec 1 := Scalar.cmpi .ne v48 c0_i32_26
  v49

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let v79 : BitVec 32 := Scalar.extui v0
  let c0_i32_39 : BitVec 32 := 0#32
  let v80 : BitVec 1 := Scalar.cmpi .ne v79 c0_i32_39
  v80

def k0_cond7 (i : grid0.Coords) : BitVec 1 :=
  let arg0 : BitVec 32 := BitVec.ofNat 32 (i 0).val
  let c0_i32 : BitVec 32 := 0#32
  let v0 : BitVec 1 := Scalar.cmpi .eq arg0 c0_i32
  let true_40 : BitVec 1 := 1#1
  let v81 : BitVec 1 := Scalar.xori v0 true_40
  let v82 : BitVec 32 := Scalar.extui v81
  let c0_i32_41 : BitVec 32 := 0#32
  let v83 : BitVec 1 := Scalar.cmpi .ne v82 c0_i32_41
  v83

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== DxReferenceIdeal.lean ====
abbrev S2048x7168 : Shape := ⟨2, ![2048, 7168]⟩
abbrev S4x2048x1792 : Shape := ⟨3, ![4, 2048, 1792]⟩
abbrev S2048x2048 : Shape := ⟨2, ![2048, 2048]⟩
abbrev S1x2048 : Shape := ⟨2, ![1, 2048]⟩
abbrev S2048x4x1792 : Shape := ⟨3, ![2048, 4, 1792]⟩
abbrev S_ : Shape := ⟨0, ![]⟩
abbrev S2048 : Shape := ⟨1, ![2048]⟩
abbrev S2048x1 : Shape := ⟨2, ![2048, 1]⟩

abbrev nBuf : Space → Nat
  | .hbm => 99
  | .vmem => 0
  | .smem => 0
  | _ => 0

abbrev bufTy : (tb : Table) → Fin (tcTables nBuf tb) → BufTy
  | .hbm, ⟨0, _⟩ => ⟨S2048x7168, .bf16⟩
  | .hbm, ⟨1, _⟩ => ⟨S4x2048x1792, .bf16⟩
  | .hbm, ⟨2, _⟩ => ⟨S2048x2048, .f32⟩
  | .hbm, ⟨3, _⟩ => ⟨S1x2048, .f32⟩
  | .hbm, ⟨4, _⟩ => ⟨S2048x2048, .f32⟩
  | .hbm, ⟨5, _⟩ => ⟨S2048x2048, .f32⟩
  | .hbm, ⟨6, _⟩ => ⟨S1x2048, .f32⟩
  | .hbm, ⟨7, _⟩ => ⟨S2048x4x1792, .bf16⟩
  | .hbm, ⟨8, _⟩ => ⟨S2048x7168, .bf16⟩
  | .hbm, ⟨9, _⟩ => ⟨S2048x7168, .f32⟩
  | .hbm, ⟨10, _⟩ => ⟨S2048x2048, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S2048x7168, .f32⟩
  | .hbm, ⟨30, _⟩ => ⟨S2048x7168, .f32⟩
  | .hbm, ⟨31, _⟩ => ⟨S2048x2048, .f32⟩
  | .hbm, ⟨32, _⟩ => ⟨S2048x2048, .f32⟩
  | .hbm, ⟨33, _⟩ => ⟨S_, .f32⟩
  | .hbm, ⟨34, _⟩ => ⟨S2048, .f32⟩
  | .hbm, ⟨35, _⟩ => ⟨S1x2048, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S_, .f32⟩
  | .hbm, ⟨40, _⟩ => ⟨S2048, .f32⟩
  | .hbm, ⟨41, _⟩ => ⟨S2048x1, .f32⟩
  | .hbm, ⟨42, _⟩ => ⟨S2048x2048, .f32⟩
  | .hbm, ⟨43, _⟩ => ⟨S2048x2048, .f32⟩
  | .hbm, ⟨44, _⟩ => ⟨S2048x1, .f32⟩
  | .hbm, ⟨45, _⟩ => ⟨S_, .f32⟩
  | .hbm, ⟨46, _⟩ => ⟨S2048x1, .f32⟩
  | .hbm, ⟨47, _⟩ => ⟨S2048x1, .f32⟩
  | .hbm, ⟨48, _⟩ => ⟨S_, .f32⟩
  | .hbm, ⟨49, _⟩ => ⟨S2048, .f32⟩
  | .hbm, ⟨50, _⟩ => ⟨S2048x2048, .f32⟩
  | .hbm, ⟨51, _⟩ => ⟨S2048x2048, .f32⟩
  | .hbm, ⟨52, _⟩ => ⟨S2048x2048, .f32⟩
  | .hbm, ⟨53, _⟩ => ⟨S2048x2048, .f32⟩
  | .hbm, ⟨54, _⟩ => ⟨S2048x2048, .f32⟩
  | .hbm, ⟨55, _⟩ => ⟨S2048x2048, .f32⟩
  | .hbm, ⟨56, _⟩ => ⟨S2048x2048, .f32⟩
  | .hbm, ⟨57, _⟩ => ⟨S_, .f32⟩
  | .hbm, ⟨58, _⟩ => ⟨S2048, .f32⟩
  | .hbm, ⟨59, _⟩ => ⟨S2048x1, .f32⟩
  | .hbm, ⟨60, _⟩ => ⟨S_, .f32⟩
  | .hbm, ⟨61, _⟩ => ⟨S2048x1, .f32⟩
  | .hbm, ⟨62, _⟩ => ⟨S2048x1, .f32⟩
  | .hbm, ⟨63, _⟩ => ⟨S_, .f32⟩
  | .hbm, ⟨64, _⟩ => ⟨S2048x1, .f32⟩
  | .hbm, ⟨65, _⟩ => ⟨S2048x1, .f32⟩
  | .hbm, ⟨66, _⟩ => ⟨S2048x1, .f32⟩
  | .hbm, ⟨67, _⟩ => ⟨S2048x1, .f32⟩
  | .hbm, ⟨68, _⟩ => ⟨S_, .f32⟩
  | .hbm, ⟨69, _⟩ => ⟨S2048x1, .f32⟩
  | .hbm, ⟨70, _⟩ => ⟨S2048x1, .f32⟩
  | .hbm, ⟨71, _⟩ => ⟨S2048x2048, .f32⟩
  | .hbm, ⟨72, _⟩ => ⟨S2048x2048, .f32⟩
  | .hbm, ⟨73, _⟩ => ⟨S2048x2048, .f32⟩
  | .hbm, ⟨74, _⟩ => ⟨S2048x2048, .f32⟩
  | .hbm, ⟨75, _⟩ => ⟨S2048x2048, .f32⟩
  | .hbm, ⟨76, _⟩ => ⟨S_, .f32⟩
  | .hbm, ⟨77, _⟩ => ⟨S2048, .f32⟩
  | .hbm, ⟨78, _⟩ => ⟨S1x2048, .f32⟩
  | .hbm, ⟨79, _⟩ => ⟨S2048x2048, .f32⟩
  | .hbm, ⟨80, _⟩ => ⟨S2048x2048, .f32⟩
  | .hbm, ⟨81, _⟩ => ⟨S2048x2048, .f32⟩
  | .hbm, ⟨82, _⟩ => ⟨S_, .f32⟩
  | .hbm, ⟨83, _⟩ => ⟨S2048, .f32⟩
  | .hbm, ⟨84, _⟩ => ⟨S2048x1, .f32⟩
  | .hbm, ⟨85, _⟩ => ⟨S2048x2048, .f32⟩
  | .hbm, ⟨86, _⟩ => ⟨S2048x2048, .f32⟩
  | .hbm, ⟨87, _⟩ => ⟨S2048x1, .f32⟩
  | .hbm, ⟨88, _⟩ => ⟨S_, .f32⟩
  | .hbm, ⟨89, _⟩ => ⟨S2048x1, .f32⟩
  | .hbm, ⟨90, _⟩ => ⟨S2048x1, .f32⟩
  | .hbm, ⟨91, _⟩ => ⟨S_, .f32⟩
  | .hbm, ⟨92, _⟩ => ⟨S2048, .f32⟩
  | .hbm, ⟨93, _⟩ => ⟨S2048x2048, .f32⟩
  | .hbm, ⟨94, _⟩ => ⟨S2048x2048, .f32⟩
  | .hbm, ⟨95, _⟩ => ⟨S2048x2048, .f32⟩
  | .hbm, ⟨96, _⟩ => ⟨S2048x2048, .f32⟩
  | .hbm, ⟨97, _⟩ => ⟨S2048x2048, .f32⟩
  | .hbm, ⟨98, _⟩ => ⟨S2048x2048, .bf16⟩
  | _, _ => ⟨S2048x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_10 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_11 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_12 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_13 : Ref sig .tc := ⟨.hbm, 88, rfl⟩
abbrev main_v67 : Ref sig .tc := ⟨.hbm, 89, rfl⟩
abbrev main_v68 : Ref sig .tc := ⟨.hbm, 90, rfl⟩
abbrev main_cst_14 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩

abbrev nD : Nat := 1
abbrev τ : Topo := Topo.v7x

variable {F : FTy → Type} [FloatOps F]
-- ==== DxEven.lean ====
abbrev S2048x6144 : Shape := ⟨2, ![2048, 6144]⟩
abbrev S4x2048x1536 : Shape := ⟨3, ![4, 2048, 1536]⟩
abbrev S2048x2048 : Shape := ⟨2, ![2048, 2048]⟩
abbrev S1x2048 : Shape := ⟨2, ![1, 2048]⟩
abbrev S256x1536 : Shape := ⟨2, ![256, 1536]⟩
abbrev S1x2048x1536 : Shape := ⟨3, ![1, 2048, 1536]⟩
abbrev S256x2048 : Shape := ⟨2, ![256, 2048]⟩
abbrev S2048x1536 : Shape := ⟨2, ![2048, 1536]⟩
abbrev S256 : Shape := ⟨1, ![256]⟩
abbrev S256x1 : Shape := ⟨2, ![256, 1]⟩
abbrev S2048 : Shape := ⟨1, ![2048]⟩

abbrev nBuf : Space → Nat
  | .hbm => 7
  | .vmem => 13
  | .smem => 0
  | _ => 0

abbrev bufTy : (tb : Table) → Fin (tcTables nBuf tb) → BufTy
  | .hbm, ⟨0, _⟩ => ⟨S2048x6144, .bf16⟩
  | .hbm, ⟨1, _⟩ => ⟨S4x2048x1536, .bf16⟩
  | .hbm, ⟨2, _⟩ => ⟨S2048x2048, .f32⟩
  | .hbm, ⟨3, _⟩ => ⟨S1x2048, .f32⟩
  | .hbm, ⟨4, _⟩ => ⟨S2048x2048, .f32⟩
  | .hbm, ⟨5, _⟩ => ⟨S2048x2048, .f32⟩
  | .hbm, ⟨6, _⟩ => ⟨S1x2048, .f32⟩
  | .local _ .vmem, ⟨0, _⟩ => ⟨S256x1536, .bf16⟩
  | .local _ .vmem, ⟨1, _⟩ => ⟨S256x1536, .bf16⟩
  | .local _ .vmem, ⟨2, _⟩ => ⟨S1x2048x1536, .bf16⟩
  | .local _ .vmem, ⟨3, _⟩ => ⟨S1x2048x1536, .bf16⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S1x2048, .f32⟩
  | .local _ .vmem, ⟨12, _⟩ => ⟨S256x2048, .f32⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let v45 : BitVec 32 := Scalar.extui v0
  let c0_i32_25 : BitVec 32 := 0#32
  let v46 : BitVec 1 := Scalar.cmpi .ne v45 c0_i32_25
  v46

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v47 : BitVec 1 := Scalar.xori v0 v_true
  let v48 : BitVec 32 := Scalar.extui v47
  let c0_i32_26 : BitVec 32 := 0#32
  let v49 : BitVec 1 := Scalar.cmpi .ne v48 c0_i32_26
  v49

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== DxEvenReferenceIdeal.lean ====
abbrev S2048x6144 : Shape := ⟨2, ![2048, 6144]⟩
abbrev S4x2048x1536 : Shape := ⟨3, ![4, 2048, 1536]⟩
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩
abbrev S2048x4x1536 : Shape := ⟨3, ![2048, 4, 1536]⟩

abbrev nBuf : Space → Nat
  | .hbm => 54
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S4x2048x1536, .bf16⟩
  | .hbm, ⟨2, _⟩ => ⟨S2048x2048, .f32⟩
  | .hbm, ⟨3, _⟩ => ⟨S1x2048, .f32⟩
  | .hbm, ⟨4, _⟩ => ⟨S2048x2048, .f32⟩
  | .hbm, ⟨5, _⟩ => ⟨S2048x2048, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x4x1536, .bf16⟩
  | .hbm, ⟨25, _⟩ => ⟨S2048x6144, .bf16⟩
  | .hbm, ⟨26, _⟩ => ⟨S2048x6144, .f32⟩
  | .hbm, ⟨27, _⟩ => ⟨S2048x6144, .f32⟩
  | .hbm, ⟨28, _⟩ => ⟨S2048x6144, .f32⟩
  | .hbm, ⟨29, _⟩ => ⟨S2048x2048, .f32⟩
  | .hbm, ⟨30, _⟩ => ⟨S2048x2048, .f32⟩
  | .hbm, ⟨31, _⟩ => ⟨S_, .f32⟩
  | .hbm, ⟨32, _⟩ => ⟨S2048, .f32⟩
  | .hbm, ⟨33, _⟩ => ⟨S1x2048, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S_, .f32⟩
  | .hbm, ⟨38, _⟩ => ⟨S2048, .f32⟩
  | .hbm, ⟨39, _⟩ => ⟨S2048x1, .f32⟩
  | .hbm, ⟨40, _⟩ => ⟨S2048x2048, .f32⟩
  | .hbm, ⟨41, _⟩ => ⟨S2048x2048, .f32⟩
  | .hbm, ⟨42, _⟩ => ⟨S2048x1, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S_, .f32⟩
  | .hbm, ⟨47, _⟩ => ⟨S2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S2048x2048, .f32⟩
  | .hbm, ⟨53, _⟩ => ⟨S2048x2048, .f32⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== DwOdd.lean ====
abbrev S2048x2048 : Shape := ⟨2, ![2048, 2048]⟩
abbrev S2048x7168 : Shape := ⟨2, ![2048, 7168]⟩
abbrev S4x2048x1792 : Shape := ⟨3, ![4, 2048, 1792]⟩
abbrev S2048x512 : Shape := ⟨2, ![2048, 512]⟩
abbrev S2048x896 : Shape := ⟨2, ![2048, 896]⟩
abbrev S1x512x896 : Shape := ⟨3, ![1, 512, 896]⟩
abbrev S512x896 : Shape := ⟨2, ![512, 896]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x7168, .bf16⟩
  | .hbm, ⟨2, _⟩ => ⟨S4x2048x1792, .bf16⟩
  | .local _ .vmem, ⟨0, _⟩ => ⟨S2048x512, .bf16⟩
  | .local _ .vmem, ⟨1, _⟩ => ⟨S2048x512, .bf16⟩
  | .local _ .vmem, ⟨2, _⟩ => ⟨S2048x896, .bf16⟩
  | .local _ .vmem, ⟨3, _⟩ => ⟨S2048x896, .bf16⟩
  | .local _ .vmem, ⟨4, _⟩ => ⟨S1x512x896, .bf16⟩
  | .local _ .vmem, ⟨5, _⟩ => ⟨S1x512x896, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwOddReferenceIdeal.lean ====
abbrev S2048x2048 : Shape := ⟨2, ![2048, 2048]⟩
abbrev S2048x7168 : Shape := ⟨2, ![2048, 7168]⟩
abbrev S_ : Shape := ⟨0, ![]⟩
abbrev S4x2048x1792 : Shape := ⟨3, ![4, 2048, 1792]⟩
abbrev S2048x4x1792 : Shape := ⟨3, ![2048, 4, 1792]⟩
abbrev S7168x2048 : Shape := ⟨2, ![7168, 2048]⟩

abbrev nBuf : Space → Nat
  | .hbm => 14
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x7168, .bf16⟩
  | .hbm, ⟨2, _⟩ => ⟨S_, .f32⟩
  | .hbm, ⟨3, _⟩ => ⟨S4x2048x1792, .f32⟩
  | .hbm, ⟨4, _⟩ => ⟨S2048x2048, .f32⟩
  | .hbm, ⟨5, _⟩ => ⟨S2048x4x1792, .f32⟩
  | .hbm, ⟨6, _⟩ => ⟨S2048x7168, .f32⟩
  | .hbm, ⟨7, _⟩ => ⟨S2048x7168, .f32⟩
  | .hbm, ⟨8, _⟩ => ⟨S2048x7168, .f32⟩
  | .hbm, ⟨9, _⟩ => ⟨S7168x2048, .f32⟩
  | .hbm, ⟨10, _⟩ => ⟨S2048x7168, .f32⟩
  | .hbm, ⟨11, _⟩ => ⟨S2048x4x1792, .f32⟩
  | .hbm, ⟨12, _⟩ => ⟨S4x2048x1792, .f32⟩
  | .hbm, ⟨13, _⟩ => ⟨S4x2048x1792, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== DwEven.lean ====
abbrev S2048x2048 : Shape := ⟨2, ![2048, 2048]⟩
abbrev S2048x6144 : Shape := ⟨2, ![2048, 6144]⟩
abbrev S4x2048x1536 : Shape := ⟨3, ![4, 2048, 1536]⟩
abbrev S2048x512 : Shape := ⟨2, ![2048, 512]⟩
abbrev S2048x768 : Shape := ⟨2, ![2048, 768]⟩
abbrev S1x512x768 : Shape := ⟨3, ![1, 512, 768]⟩
abbrev S512x768 : Shape := ⟨2, ![512, 768]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x6144, .bf16⟩
  | .hbm, ⟨2, _⟩ => ⟨S4x2048x1536, .bf16⟩
  | .local _ .vmem, ⟨0, _⟩ => ⟨S2048x512, .bf16⟩
  | .local _ .vmem, ⟨1, _⟩ => ⟨S2048x512, .bf16⟩
  | .local _ .vmem, ⟨2, _⟩ => ⟨S2048x768, .bf16⟩
  | .local _ .vmem, ⟨3, _⟩ => ⟨S2048x768, .bf16⟩
  | .local _ .vmem, ⟨4, _⟩ => ⟨S1x512x768, .bf16⟩
  | .local _ .vmem, ⟨5, _⟩ => ⟨S1x512x768, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwEvenReferenceIdeal.lean ====
abbrev S2048x2048 : Shape := ⟨2, ![2048, 2048]⟩
abbrev S2048x6144 : Shape := ⟨2, ![2048, 6144]⟩
abbrev S_ : Shape := ⟨0, ![]⟩
abbrev S4x2048x1536 : Shape := ⟨3, ![4, 2048, 1536]⟩
abbrev S2048x4x1536 : Shape := ⟨3, ![2048, 4, 1536]⟩
abbrev S6144x2048 : Shape := ⟨2, ![6144, 2048]⟩

abbrev nBuf : Space → Nat
  | .hbm => 14
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x6144, .bf16⟩
  | .hbm, ⟨2, _⟩ => ⟨S_, .f32⟩
  | .hbm, ⟨3, _⟩ => ⟨S4x2048x1536, .f32⟩
  | .hbm, ⟨4, _⟩ => ⟨S2048x2048, .f32⟩
  | .hbm, ⟨5, _⟩ => ⟨S2048x4x1536, .f32⟩
  | .hbm, ⟨6, _⟩ => ⟨S2048x6144, .f32⟩
  | .hbm, ⟨7, _⟩ => ⟨S2048x6144, .f32⟩
  | .hbm, ⟨8, _⟩ => ⟨S2048x6144, .f32⟩
  | .hbm, ⟨9, _⟩ => ⟨S6144x2048, .f32⟩
  | .hbm, ⟨10, _⟩ => ⟨S2048x6144, .f32⟩
  | .hbm, ⟨11, _⟩ => ⟨S2048x4x1536, .f32⟩
  | .hbm, ⟨12, _⟩ => ⟨S4x2048x1536, .f32⟩
  | .hbm, ⟨13, _⟩ => ⟨S4x2048x1536, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== DwOut.lean ====
abbrev S2048x2048 : Shape := ⟨2, ![2048, 2048]⟩
abbrev S1x2048x2048 : Shape := ⟨3, ![1, 2048, 2048]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S1x2048x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S1x512x1024, .bf16⟩
  | .local _ .vmem, ⟨5, _⟩ => ⟨S1x512x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwOutReferenceIdeal.lean ====
abbrev S2048x2048 : Shape := ⟨2, ![2048, 2048]⟩
abbrev S_ : Shape := ⟨0, ![]⟩
abbrev S1x2048x2048 : Shape := ⟨3, ![1, 2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | .hbm, ⟨10, _⟩ => ⟨S1x2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Dy.lean ====
abbrev S2048x2048 : Shape := ⟨2, ![2048, 2048]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DyReferenceIdeal.lean ====
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InOdd.lean ====
abbrev S2048x2048 : Shape := ⟨2, ![2048, 2048]⟩
abbrev S4x2048x1792 : Shape := ⟨3, ![4, 2048, 1792]⟩
abbrev S2048x7168 : Shape := ⟨2, ![2048, 7168]⟩
abbrev S512x2048 : Shape := ⟨2, ![512, 2048]⟩
abbrev S1x2048x896 : Shape := ⟨3, ![1, 2048, 896]⟩
abbrev S512x896 : Shape := ⟨2, ![512, 896]⟩
abbrev S2048x896 : Shape := ⟨2, ![2048, 896]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S4x2048x1792, .bf16⟩
  | .hbm, ⟨2, _⟩ => ⟨S2048x7168, .f32⟩
  | .local _ .vmem, ⟨0, _⟩ => ⟨S512x2048, .bf16⟩
  | .local _ .vmem, ⟨1, _⟩ => ⟨S512x2048, .bf16⟩
  | .local _ .vmem, ⟨2, _⟩ => ⟨S1x2048x896, .bf16⟩
  | .local _ .vmem, ⟨3, _⟩ => ⟨S1x2048x896, .bf16⟩
  | .local _ .vmem, ⟨4, _⟩ => ⟨S512x896, .f32⟩
  | .local _ .vmem, ⟨5, _⟩ => ⟨S512x896, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InOddReferenceIdeal.lean ====
abbrev S2048x2048 : Shape := ⟨2, ![2048, 2048]⟩
abbrev S4x2048x1792 : Shape := ⟨3, ![4, 2048, 1792]⟩
abbrev S2048x4x1792 : Shape := ⟨3, ![2048, 4, 1792]⟩
abbrev S2048x7168 : Shape := ⟨2, ![2048, 7168]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x2048x1792, .bf16⟩
  | .hbm, ⟨2, _⟩ => ⟨S2048x2048, .f32⟩
  | .hbm, ⟨3, _⟩ => ⟨S2048x4x1792, .bf16⟩
  | .hbm, ⟨4, _⟩ => ⟨S2048x7168, .bf16⟩
  | .hbm, ⟨5, _⟩ => ⟨S2048x7168, .f32⟩
  | .hbm, ⟨6, _⟩ => ⟨S2048x7168, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== InEven.lean ====
abbrev S2048x2048 : Shape := ⟨2, ![2048, 2048]⟩
abbrev S4x2048x1536 : Shape := ⟨3, ![4, 2048, 1536]⟩
abbrev S2048x6144 : Shape := ⟨2, ![2048, 6144]⟩
abbrev S512x2048 : Shape := ⟨2, ![512, 2048]⟩
abbrev S1x2048x768 : Shape := ⟨3, ![1, 2048, 768]⟩
abbrev S512x768 : Shape := ⟨2, ![512, 768]⟩
abbrev S2048x768 : Shape := ⟨2, ![2048, 768]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S4x2048x1536, .bf16⟩
  | .hbm, ⟨2, _⟩ => ⟨S2048x6144, .f32⟩
  | .local _ .vmem, ⟨0, _⟩ => ⟨S512x2048, .bf16⟩
  | .local _ .vmem, ⟨1, _⟩ => ⟨S512x2048, .bf16⟩
  | .local _ .vmem, ⟨2, _⟩ => ⟨S1x2048x768, .bf16⟩
  | .local _ .vmem, ⟨3, _⟩ => ⟨S1x2048x768, .bf16⟩
  | .local _ .vmem, ⟨4, _⟩ => ⟨S512x768, .f32⟩
  | .local _ .vmem, ⟨5, _⟩ => ⟨S512x768, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InEvenReferenceIdeal.lean ====
abbrev S2048x2048 : Shape := ⟨2, ![2048, 2048]⟩
abbrev S4x2048x1536 : Shape := ⟨3, ![4, 2048, 1536]⟩
abbrev S2048x4x1536 : Shape := ⟨3, ![2048, 4, 1536]⟩
abbrev S2048x6144 : Shape := ⟨2, ![2048, 6144]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x2048x1536, .bf16⟩
  | .hbm, ⟨2, _⟩ => ⟨S2048x2048, .f32⟩
  | .hbm, ⟨3, _⟩ => ⟨S2048x4x1536, .bf16⟩
  | .hbm, ⟨4, _⟩ => ⟨S2048x6144, .bf16⟩
  | .hbm, ⟨5, _⟩ => ⟨S2048x6144, .f32⟩
  | .hbm, ⟨6, _⟩ => ⟨S2048x6144, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== OutEven.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 13
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutEvenReferenceIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 40
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048, .f32⟩
  | .hbm, ⟨27, _⟩ => ⟨S2048x1, .f32⟩
  | .hbm, ⟨28, _⟩ => ⟨S_, .f32⟩
  | .hbm, ⟨29, _⟩ => ⟨S2048x1, .f32⟩
  | .hbm, ⟨30, _⟩ => ⟨S2048x1, .f32⟩
  | .hbm, ⟨31, _⟩ => ⟨S_, .f32⟩
  | .hbm, ⟨32, _⟩ => ⟨S2048x1, .f32⟩
  | .hbm, ⟨33, _⟩ => ⟨S2048x1, .f32⟩
  | .hbm, ⟨34, _⟩ => ⟨S2048x1, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== OutOdd.lean ====
abbrev S2048x2048 : Shape := ⟨2, ![2048, 2048]⟩
abbrev S1x2048 : Shape := ⟨2, ![1, 2048]⟩
abbrev S8x128 : Shape := ⟨2, ![8, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩
abbrev S2048 : Shape := ⟨1, ![2048]⟩

abbrev nBuf : Space → Nat
  | .hbm => 9
  | .vmem => 14
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S1x2048, .f32⟩
  | .hbm, ⟨4, _⟩ => ⟨S2048x2048, .f32⟩
  | .hbm, ⟨5, _⟩ => ⟨S2048x2048, .bf16⟩
  | .hbm, ⟨6, _⟩ => ⟨S2048x2048, .f32⟩
  | .hbm, ⟨7, _⟩ => ⟨S8x128, .f32⟩
  | .hbm, ⟨8, _⟩ => ⟨S1x2048, .f32⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | .local _ .vmem, ⟨10, _⟩ => ⟨S256x2048, .f32⟩
  | .local _ .vmem, ⟨11, _⟩ => ⟨S256x2048, .f32⟩
  | .local _ .vmem, ⟨12, _⟩ => ⟨S8x128, .f32⟩
  | .local _ .vmem, ⟨13, _⟩ => ⟨S1x2048, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v32 : BitVec 32 := Scalar.extui v0
  let c0_i32_16 : BitVec 32 := 0#32
  let v33 : BitVec 1 := Scalar.cmpi .ne v32 c0_i32_16
  v33

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v34 : BitVec 1 := Scalar.xori v0 v_true
  let v35 : BitVec 32 := Scalar.extui v34
  let c0_i32_17 : BitVec 32 := 0#32
  let v36 : BitVec 1 := Scalar.cmpi .ne v35 c0_i32_17
  v36

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v57 : BitVec 32 := Scalar.extui v0
  let c0_i32_26 : BitVec 32 := 0#32
  let v58 : BitVec 1 := Scalar.cmpi .ne v57 c0_i32_26
  v58

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_27 : BitVec 1 := 1#1
  let v59 : BitVec 1 := Scalar.xori v0 true_27
  let v60 : BitVec 32 := Scalar.extui v59
  let c0_i32_28 : BitVec 32 := 0#32
  let v61 : BitVec 1 := Scalar.cmpi .ne v60 c0_i32_28
  v61

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== OutOddReferenceIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩
abbrev S8x128 : Shape := ⟨2, ![8, 128]⟩

abbrev nBuf : Space → Nat
  | .hbm => 76
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S1x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048x2048, .f32⟩
  | .hbm, ⟨32, _⟩ => ⟨S2048x2048, .f32⟩
  | .hbm, ⟨33, _⟩ => ⟨S_, .f32⟩
  | .hbm, ⟨34, _⟩ => ⟨S2048, .f32⟩
  | .hbm, ⟨35, _⟩ => ⟨S_, .f32⟩
  | .hbm, ⟨36, _⟩ => ⟨S2048, .f32⟩
  | .hbm, ⟨37, _⟩ => ⟨S2048, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S2048, .f32⟩
  | .hbm, ⟨46, _⟩ => ⟨S_, .f32⟩
  | .hbm, ⟨47, _⟩ => ⟨S2048, .f32⟩
  | .hbm, ⟨48, _⟩ => ⟨S2048, .f32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S_, .f32⟩
  | .hbm, ⟨53, _⟩ => ⟨S2048, .f32⟩
  | .hbm, ⟨54, _⟩ => ⟨S1x2048, .f32⟩
  | .hbm, ⟨55, _⟩ => ⟨S2048x2048, .f32⟩
  | .hbm, ⟨56, _⟩ => ⟨S2048x2048, .f32⟩
  | .hbm, ⟨57, _⟩ => ⟨S2048x2048, .f32⟩
  | .hbm, ⟨58, _⟩ => ⟨S_, .f32⟩
  | .hbm, ⟨59, _⟩ => ⟨S2048, .f32⟩
  | .hbm, ⟨60, _⟩ => ⟨S2048x1, .f32⟩
  | .hbm, ⟨61, _⟩ => ⟨S2048x2048, .f32⟩
  | .hbm, ⟨62, _⟩ => ⟨S2048x2048, .f32⟩
  | .hbm, ⟨63, _⟩ => ⟨S2048x1, .f32⟩
  | .hbm, ⟨64, _⟩ => ⟨S_, .f32⟩
  | .hbm, ⟨65, _⟩ => ⟨S2048x1, .f32⟩
  | .hbm, ⟨66, _⟩ => ⟨S2048x1, .f32⟩
  | .hbm, ⟨67, _⟩ => ⟨S_, .f32⟩
  | .hbm, ⟨68, _⟩ => ⟨S2048, .f32⟩
  | .hbm, ⟨69, _⟩ => ⟨S2048x2048, .f32⟩
  | .hbm, ⟨70, _⟩ => ⟨S2048x2048, .f32⟩
  | .hbm, ⟨71, _⟩ => ⟨S2048x2048, .f32⟩
  | .hbm, ⟨72, _⟩ => ⟨S2048x2048, .f32⟩
  | .hbm, ⟨73, _⟩ => ⟨S2048x2048, .f32⟩
  | .hbm, ⟨74, _⟩ => ⟨S2048x2048, .bf16⟩
  | .hbm, ⟨75, _⟩ => ⟨S8x128, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_cst_8 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_13 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]
-- ==== AdamInEven.lean ====
abbrev S2048x1536 : Shape := ⟨2, ![2048, 1536]⟩
abbrev S256x1536 : Shape := ⟨2, ![256, 1536]⟩

abbrev nBuf : Space → Nat
  | .hbm => 7
  | .vmem => 14
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S2048x1536, .f32⟩
  | .hbm, ⟨5, _⟩ => ⟨S2048x1536, .f32⟩
  | .hbm, ⟨6, _⟩ => ⟨S2048x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInEvenIdeal.lean ====
abbrev S2048x1536 : Shape := ⟨2, ![2048, 1536]⟩
abbrev S256x1536 : Shape := ⟨2, ![256, 1536]⟩

abbrev nBuf : Space → Nat
  | .hbm => 7
  | .vmem => 14
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S2048x1536, .f32⟩
  | .hbm, ⟨5, _⟩ => ⟨S2048x1536, .f32⟩
  | .hbm, ⟨6, _⟩ => ⟨S2048x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "unbias_m" => some (((5463681 / 8388608)⁻¹ : ℝ) : EReal)
  | "unbias_v" => some (((2672307 / 268435456)⁻¹ : ℝ) : EReal)
  | _ => none

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInEvenReferenceIdeal.lean ====
abbrev S2048x1536 : Shape := ⟨2, ![2048, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S_, .f32⟩
  | .hbm, ⟨5, _⟩ => ⟨S2048x1536, .f32⟩
  | .hbm, ⟨6, _⟩ => ⟨S2048x1536, .f32⟩
  | .hbm, ⟨7, _⟩ => ⟨S_, .f32⟩
  | .hbm, ⟨8, _⟩ => ⟨S2048x1536, .f32⟩
  | .hbm, ⟨9, _⟩ => ⟨S2048x1536, .f32⟩
  | .hbm, ⟨10, _⟩ => ⟨S2048x1536, .f32⟩
  | .hbm, ⟨11, _⟩ => ⟨S_, .f32⟩
  | .hbm, ⟨12, _⟩ => ⟨S2048x1536, .f32⟩
  | .hbm, ⟨13, _⟩ => ⟨S2048x1536, .f32⟩
  | .hbm, ⟨14, _⟩ => ⟨S2048x1536, .f32⟩
  | .hbm, ⟨15, _⟩ => ⟨S_, .f32⟩
  | .hbm, ⟨16, _⟩ => ⟨S2048x1536, .f32⟩
  | .hbm, ⟨17, _⟩ => ⟨S2048x1536, .f32⟩
  | .hbm, ⟨18, _⟩ => ⟨S2048x1536, .f32⟩
  | .hbm, ⟨19, _⟩ => ⟨S_, .f32⟩
  | .hbm, ⟨20, _⟩ => ⟨S2048x1536, .f32⟩
  | .hbm, ⟨21, _⟩ => ⟨S2048x1536, .f32⟩
  | .hbm, ⟨22, _⟩ => ⟨S_, .f32⟩
  | .hbm, ⟨23, _⟩ => ⟨S2048x1536, .f32⟩
  | .hbm, ⟨24, _⟩ => ⟨S2048x1536, .f32⟩
  | .hbm, ⟨25, _⟩ => ⟨S2048x1536, .f32⟩
  | .hbm, ⟨26, _⟩ => ⟨S_, .f32⟩
  | .hbm, ⟨27, _⟩ => ⟨S2048x1536, .f32⟩
  | .hbm, ⟨28, _⟩ => ⟨S2048x1536, .f32⟩
  | .hbm, ⟨29, _⟩ => ⟨S2048x1536, .f32⟩
  | .hbm, ⟨30, _⟩ => ⟨S_, .f32⟩
  | .hbm, ⟨31, _⟩ => ⟨S2048x1536, .f32⟩
  | .hbm, ⟨32, _⟩ => ⟨S2048x1536, .f32⟩
  | .hbm, ⟨33, _⟩ => ⟨S2048x1536, .f32⟩
  | .hbm, ⟨34, _⟩ => ⟨S_, .f32⟩
  | .hbm, ⟨35, _⟩ => ⟨S2048x1536, .f32⟩
  | .hbm, ⟨36, _⟩ => ⟨S2048x1536, .f32⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamPool.lean ====
abbrev S256x256 : Shape := ⟨2, ![256, 256]⟩

abbrev nBuf : Space → Nat
  | .hbm => 7
  | .vmem => 7
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamPoolIdeal.lean ====
abbrev S256x256 : Shape := ⟨2, ![256, 256]⟩

abbrev nBuf : Space → Nat
  | .hbm => 7
  | .vmem => 7
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "unbias_m" => some (((5463681 / 8388608)⁻¹ : ℝ) : EReal)
  | "unbias_v" => some (((2672307 / 268435456)⁻¹ : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamPoolReferenceIdeal.lean ====
abbrev S256x256 : Shape := ⟨2, ![256, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S_, .f32⟩
  | .hbm, ⟨5, _⟩ => ⟨S256x256, .f32⟩
  | .hbm, ⟨6, _⟩ => ⟨S256x256, .f32⟩
  | .hbm, ⟨7, _⟩ => ⟨S_, .f32⟩
  | .hbm, ⟨8, _⟩ => ⟨S256x256, .f32⟩
  | .hbm, ⟨9, _⟩ => ⟨S256x256, .f32⟩
  | .hbm, ⟨10, _⟩ => ⟨S256x256, .f32⟩
  | .hbm, ⟨11, _⟩ => ⟨S_, .f32⟩
  | .hbm, ⟨12, _⟩ => ⟨S256x256, .f32⟩
  | .hbm, ⟨13, _⟩ => ⟨S256x256, .f32⟩
  | .hbm, ⟨14, _⟩ => ⟨S256x256, .f32⟩
  | .hbm, ⟨15, _⟩ => ⟨S_, .f32⟩
  | .hbm, ⟨16, _⟩ => ⟨S256x256, .f32⟩
  | .hbm, ⟨17, _⟩ => ⟨S256x256, .f32⟩
  | .hbm, ⟨18, _⟩ => ⟨S256x256, .f32⟩
  | .hbm, ⟨19, _⟩ => ⟨S_, .f32⟩
  | .hbm, ⟨20, _⟩ => ⟨S256x256, .f32⟩
  | .hbm, ⟨21, _⟩ => ⟨S256x256, .f32⟩
  | .hbm, ⟨22, _⟩ => ⟨S_, .f32⟩
  | .hbm, ⟨23, _⟩ => ⟨S256x256, .f32⟩
  | .hbm, ⟨24, _⟩ => ⟨S256x256, .f32⟩
  | .hbm, ⟨25, _⟩ => ⟨S256x256, .f32⟩
  | .hbm, ⟨26, _⟩ => ⟨S_, .f32⟩
  | .hbm, ⟨27, _⟩ => ⟨S256x256, .f32⟩
  | .hbm, ⟨28, _⟩ => ⟨S256x256, .f32⟩
  | .hbm, ⟨29, _⟩ => ⟨S256x256, .f32⟩
  | .hbm, ⟨30, _⟩ => ⟨S_, .f32⟩
  | .hbm, ⟨31, _⟩ => ⟨S256x256, .f32⟩
  | .hbm, ⟨32, _⟩ => ⟨S256x256, .f32⟩
  | .hbm, ⟨33, _⟩ => ⟨S256x256, .f32⟩
  | .hbm, ⟨34, _⟩ => ⟨S_, .f32⟩
  | .hbm, ⟨35, _⟩ => ⟨S256x256, .f32⟩
  | .hbm, ⟨36, _⟩ => ⟨S256x256, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamPoolScale.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamPoolScaleIdeal.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "unbias_m" => some (((5463681 / 8388608)⁻¹ : ℝ) : EReal)
  | "unbias_v" => some (((2672307 / 268435456)⁻¹ : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamPoolScaleReferenceIdeal.lean ====
abbrev S1x1024 : Shape := ⟨2, ![1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S512x2048 : Shape := ⟨2, ![512, 2048]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamOutIdeal.lean ====
abbrev S512x2048 : Shape := ⟨2, ![512, 2048]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "unbias_m" => some (((5463681 / 8388608)⁻¹ : ℝ) : EReal)
  | "unbias_v" => some (((2672307 / 268435456)⁻¹ : ℝ) : EReal)
  | _ => none

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamOutReferenceIdeal.lean ====
abbrev S512x2048 : Shape := ⟨2, ![512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S512x2048, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamNorm.lean ====
abbrev S1x2048 : Shape := ⟨2, ![1, 2048]⟩

abbrev nBuf : Space → Nat
  | .hbm => 7
  | .vmem => 7
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamNormIdeal.lean ====
abbrev S1x2048 : Shape := ⟨2, ![1, 2048]⟩

abbrev nBuf : Space → Nat
  | .hbm => 7
  | .vmem => 7
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "unbias_m" => some (((5463681 / 8388608)⁻¹ : ℝ) : EReal)
  | "unbias_v" => some (((2672307 / 268435456)⁻¹ : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamNormReferenceIdeal.lean ====
abbrev S1x2048 : Shape := ⟨2, ![1, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S1x2048, .f32⟩
  | .hbm, ⟨6, _⟩ => ⟨S1x2048, .f32⟩
  | .hbm, ⟨7, _⟩ => ⟨S_, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S_, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S_, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S_, .f32⟩
  | .hbm, ⟨23, _⟩ => ⟨S1x2048, .f32⟩
  | .hbm, ⟨24, _⟩ => ⟨S1x2048, .f32⟩
  | .hbm, ⟨25, _⟩ => ⟨S1x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S1x2048, .f32⟩
  | .hbm, ⟨30, _⟩ => ⟨S_, .f32⟩
  | .hbm, ⟨31, _⟩ => ⟨S1x2048, .f32⟩
  | .hbm, ⟨32, _⟩ => ⟨S1x2048, .f32⟩
  | .hbm, ⟨33, _⟩ => ⟨S1x2048, .f32⟩
  | .hbm, ⟨34, _⟩ => ⟨S_, .f32⟩
  | .hbm, ⟨35, _⟩ => ⟨S1x2048, .f32⟩
  | .hbm, ⟨36, _⟩ => ⟨S1x2048, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamNormOdd.lean ====
abbrev S1x512 : Shape := ⟨2, ![1, 512]⟩

abbrev nBuf : Space → Nat
  | .hbm => 7
  | .vmem => 7
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .local _ .vmem, ⟨0, _⟩ => ⟨S1x512, .f32⟩
  | .local _ .vmem, ⟨1, _⟩ => ⟨S1x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | _, _ => ⟨S1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamNormOddIdeal.lean ====
abbrev S1x512 : Shape := ⟨2, ![1, 512]⟩

abbrev nBuf : Space → Nat
  | .hbm => 7
  | .vmem => 7
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .local _ .vmem, ⟨0, _⟩ => ⟨S1x512, .f32⟩
  | .local _ .vmem, ⟨1, _⟩ => ⟨S1x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | _, _ => ⟨S1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "unbias_m" => some (((5463681 / 8388608)⁻¹ : ℝ) : EReal)
  | "unbias_v" => some (((2672307 / 268435456)⁻¹ : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamNormOddReferenceIdeal.lean ====
abbrev S1x512 : Shape := ⟨2, ![1, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S_, .f32⟩
  | .hbm, ⟨5, _⟩ => ⟨S1x512, .f32⟩
  | .hbm, ⟨6, _⟩ => ⟨S1x512, .f32⟩
  | .hbm, ⟨7, _⟩ => ⟨S_, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S_, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S_, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S_, .f32⟩
  | .hbm, ⟨20, _⟩ => ⟨S1x512, .f32⟩
  | .hbm, ⟨21, _⟩ => ⟨S1x512, .f32⟩
  | .hbm, ⟨22, _⟩ => ⟨S_, .f32⟩
  | .hbm, ⟨23, _⟩ => ⟨S1x512, .f32⟩
  | .hbm, ⟨24, _⟩ => ⟨S1x512, .f32⟩
  | .hbm, ⟨25, _⟩ => ⟨S1x512, .f32⟩
  | .hbm, ⟨26, _⟩ => ⟨S_, .f32⟩
  | .hbm, ⟨27, _⟩ => ⟨S1x512, .f32⟩
  | .hbm, ⟨28, _⟩ => ⟨S1x512, .f32⟩
  | .hbm, ⟨29, _⟩ => ⟨S1x512, .f32⟩
  | .hbm, ⟨30, _⟩ => ⟨S_, .f32⟩
  | .hbm, ⟨31, _⟩ => ⟨S1x512, .f32⟩
  | .hbm, ⟨32, _⟩ => ⟨S1x512, .f32⟩
  | .hbm, ⟨33, _⟩ => ⟨S1x512, .f32⟩
  | .hbm, ⟨34, _⟩ => ⟨S_, .f32⟩
  | .hbm, ⟨35, _⟩ => ⟨S1x512, .f32⟩
  | .hbm, ⟨36, _⟩ => ⟨S1x512, .f32⟩
  | _, _ => ⟨S1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamInOdd.lean ====
abbrev S2048x1792 : Shape := ⟨2, ![2048, 1792]⟩
abbrev S256x1792 : Shape := ⟨2, ![256, 1792]⟩

abbrev nBuf : Space → Nat
  | .hbm => 7
  | .vmem => 14
  | .smem => 0
  | _ => 0

abbrev bufTy : (tb : Table) → Fin (tcTables nBuf tb) → BufTy
  | .hbm, ⟨0, _⟩ => ⟨S2048x1792, .f32⟩
  | .hbm, ⟨1, _⟩ => ⟨S2048x1792, .f32⟩
  | .hbm, ⟨2, _⟩ => ⟨S2048x1792, .f32⟩
  | .hbm, ⟨3, _⟩ => ⟨S2048x1792, .f32⟩
  | .hbm, ⟨4, _⟩ => ⟨S2048x1792, .f32⟩
  | .hbm, ⟨5, _⟩ => ⟨S2048x1792, .f32⟩
  | .hbm, ⟨6, _⟩ => ⟨S2048x1792, .f32⟩
  | .local _ .vmem, ⟨0, _⟩ => ⟨S256x1792, .f32⟩
  | .local _ .vmem, ⟨1, _⟩ => ⟨S256x1792, .f32⟩
  | .local _ .vmem, ⟨2, _⟩ => ⟨S256x1792, .f32⟩
  | .local _ .vmem, ⟨3, _⟩ => ⟨S256x1792, .f32⟩
  | .local _ .vmem, ⟨4, _⟩ => ⟨S256x1792, .f32⟩
  | .local _ .vmem, ⟨5, _⟩ => ⟨S256x1792, .f32⟩
  | .local _ .vmem, ⟨6, _⟩ => ⟨S256x1792, .f32⟩
  | .local _ .vmem, ⟨7, _⟩ => ⟨S256x1792, .f32⟩
  | .local _ .vmem, ⟨8, _⟩ => ⟨S256x1792, .f32⟩
  | .local _ .vmem, ⟨9, _⟩ => ⟨S256x1792, .f32⟩
  | .local _ .vmem, ⟨10, _⟩ => ⟨S256x1792, .f32⟩
  | .local _ .vmem, ⟨11, _⟩ => ⟨S256x1792, .f32⟩
  | .local _ .vmem, ⟨12, _⟩ => ⟨S256x1792, .f32⟩
  | .local _ .vmem, ⟨13, _⟩ => ⟨S256x1792, .f32⟩
  | _, _ => ⟨S2048x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1792 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInOddIdeal.lean ====
abbrev S2048x1792 : Shape := ⟨2, ![2048, 1792]⟩
abbrev S256x1792 : Shape := ⟨2, ![256, 1792]⟩

abbrev nBuf : Space → Nat
  | .hbm => 7
  | .vmem => 14
  | .smem => 0
  | _ => 0

abbrev bufTy : (tb : Table) → Fin (tcTables nBuf tb) → BufTy
  | .hbm, ⟨0, _⟩ => ⟨S2048x1792, .f32⟩
  | .hbm, ⟨1, _⟩ => ⟨S2048x1792, .f32⟩
  | .hbm, ⟨2, _⟩ => ⟨S2048x1792, .f32⟩
  | .hbm, ⟨3, _⟩ => ⟨S2048x1792, .f32⟩
  | .hbm, ⟨4, _⟩ => ⟨S2048x1792, .f32⟩
  | .hbm, ⟨5, _⟩ => ⟨S2048x1792, .f32⟩
  | .hbm, ⟨6, _⟩ => ⟨S2048x1792, .f32⟩
  | .local _ .vmem, ⟨0, _⟩ => ⟨S256x1792, .f32⟩
  | .local _ .vmem, ⟨1, _⟩ => ⟨S256x1792, .f32⟩
  | .local _ .vmem, ⟨2, _⟩ => ⟨S256x1792, .f32⟩
  | .local _ .vmem, ⟨3, _⟩ => ⟨S256x1792, .f32⟩
  | .local _ .vmem, ⟨4, _⟩ => ⟨S256x1792, .f32⟩
  | .local _ .vmem, ⟨5, _⟩ => ⟨S256x1792, .f32⟩
  | .local _ .vmem, ⟨6, _⟩ => ⟨S256x1792, .f32⟩
  | .local _ .vmem, ⟨7, _⟩ => ⟨S256x1792, .f32⟩
  | .local _ .vmem, ⟨8, _⟩ => ⟨S256x1792, .f32⟩
  | .local _ .vmem, ⟨9, _⟩ => ⟨S256x1792, .f32⟩
  | .local _ .vmem, ⟨10, _⟩ => ⟨S256x1792, .f32⟩
  | .local _ .vmem, ⟨11, _⟩ => ⟨S256x1792, .f32⟩
  | .local _ .vmem, ⟨12, _⟩ => ⟨S256x1792, .f32⟩
  | .local _ .vmem, ⟨13, _⟩ => ⟨S256x1792, .f32⟩
  | _, _ => ⟨S2048x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "unbias_m" => some (((5463681 / 8388608)⁻¹ : ℝ) : EReal)
  | "unbias_v" => some (((2672307 / 268435456)⁻¹ : ℝ) : EReal)
  | _ => none

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1792 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInOddReferenceIdeal.lean ====
abbrev S2048x1792 : Shape := ⟨2, ![2048, 1792]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1792, .f32⟩
  | .hbm, ⟨1, _⟩ => ⟨S2048x1792, .f32⟩
  | .hbm, ⟨2, _⟩ => ⟨S2048x1792, .f32⟩
  | .hbm, ⟨3, _⟩ => ⟨S2048x1792, .f32⟩
  | .hbm, ⟨4, _⟩ => ⟨S_, .f32⟩
  | .hbm, ⟨5, _⟩ => ⟨S2048x1792, .f32⟩
  | .hbm, ⟨6, _⟩ => ⟨S2048x1792, .f32⟩
  | .hbm, ⟨7, _⟩ => ⟨S_, .f32⟩
  | .hbm, ⟨8, _⟩ => ⟨S2048x1792, .f32⟩
  | .hbm, ⟨9, _⟩ => ⟨S2048x1792, .f32⟩
  | .hbm, ⟨10, _⟩ => ⟨S2048x1792, .f32⟩
  | .hbm, ⟨11, _⟩ => ⟨S_, .f32⟩
  | .hbm, ⟨12, _⟩ => ⟨S2048x1792, .f32⟩
  | .hbm, ⟨13, _⟩ => ⟨S2048x1792, .f32⟩
  | .hbm, ⟨14, _⟩ => ⟨S2048x1792, .f32⟩
  | .hbm, ⟨15, _⟩ => ⟨S_, .f32⟩
  | .hbm, ⟨16, _⟩ => ⟨S2048x1792, .f32⟩
  | .hbm, ⟨17, _⟩ => ⟨S2048x1792, .f32⟩
  | .hbm, ⟨18, _⟩ => ⟨S2048x1792, .f32⟩
  | .hbm, ⟨19, _⟩ => ⟨S_, .f32⟩
  | .hbm, ⟨20, _⟩ => ⟨S2048x1792, .f32⟩
  | .hbm, ⟨21, _⟩ => ⟨S2048x1792, .f32⟩
  | .hbm, ⟨22, _⟩ => ⟨S_, .f32⟩
  | .hbm, ⟨23, _⟩ => ⟨S2048x1792, .f32⟩
  | .hbm, ⟨24, _⟩ => ⟨S2048x1792, .f32⟩
  | .hbm, ⟨25, _⟩ => ⟨S2048x1792, .f32⟩
  | .hbm, ⟨26, _⟩ => ⟨S_, .f32⟩
  | .hbm, ⟨27, _⟩ => ⟨S2048x1792, .f32⟩
  | .hbm, ⟨28, _⟩ => ⟨S2048x1792, .f32⟩
  | .hbm, ⟨29, _⟩ => ⟨S2048x1792, .f32⟩
  | .hbm, ⟨30, _⟩ => ⟨S_, .f32⟩
  | .hbm, ⟨31, _⟩ => ⟨S2048x1792, .f32⟩
  | .hbm, ⟨32, _⟩ => ⟨S2048x1792, .f32⟩
  | .hbm, ⟨33, _⟩ => ⟨S2048x1792, .f32⟩
  | .hbm, ⟨34, _⟩ => ⟨S_, .f32⟩
  | .hbm, ⟨35, _⟩ => ⟨S2048x1792, .f32⟩
  | .hbm, ⟨36, _⟩ => ⟨S2048x1792, .f32⟩
  | _, _ => ⟨S2048x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamShort.lean ====
abbrev S3x256 : Shape := ⟨2, ![3, 256]⟩

abbrev nBuf : Space → Nat
  | .hbm => 7
  | .vmem => 7
  | .smem => 0
  | _ => 0

abbrev bufTy : (tb : Table) → Fin (tcTables nBuf tb) → BufTy
  | .hbm, ⟨0, _⟩ => ⟨S3x256, .f32⟩
  | .hbm, ⟨1, _⟩ => ⟨S3x256, .f32⟩
  | .hbm, ⟨2, _⟩ => ⟨S3x256, .f32⟩
  | .hbm, ⟨3, _⟩ => ⟨S3x256, .f32⟩
  | .hbm, ⟨4, _⟩ => ⟨S3x256, .f32⟩
  | .hbm, ⟨5, _⟩ => ⟨S3x256, .f32⟩
  | .hbm, ⟨6, _⟩ => ⟨S3x256, .f32⟩
  | .local _ .vmem, ⟨0, _⟩ => ⟨S3x256, .f32⟩
  | .local _ .vmem, ⟨1, _⟩ => ⟨S3x256, .f32⟩
  | .local _ .vmem, ⟨2, _⟩ => ⟨S3x256, .f32⟩
  | .local _ .vmem, ⟨3, _⟩ => ⟨S3x256, .f32⟩
  | .local _ .vmem, ⟨4, _⟩ => ⟨S3x256, .f32⟩
  | .local _ .vmem, ⟨5, _⟩ => ⟨S3x256, .f32⟩
  | .local _ .vmem, ⟨6, _⟩ => ⟨S3x256, .f32⟩
  | _, _ => ⟨S3x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S3x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamShortIdeal.lean ====
abbrev S3x256 : Shape := ⟨2, ![3, 256]⟩

abbrev nBuf : Space → Nat
  | .hbm => 7
  | .vmem => 7
  | .smem => 0
  | _ => 0

abbrev bufTy : (tb : Table) → Fin (tcTables nBuf tb) → BufTy
  | .hbm, ⟨0, _⟩ => ⟨S3x256, .f32⟩
  | .hbm, ⟨1, _⟩ => ⟨S3x256, .f32⟩
  | .hbm, ⟨2, _⟩ => ⟨S3x256, .f32⟩
  | .hbm, ⟨3, _⟩ => ⟨S3x256, .f32⟩
  | .hbm, ⟨4, _⟩ => ⟨S3x256, .f32⟩
  | .hbm, ⟨5, _⟩ => ⟨S3x256, .f32⟩
  | .hbm, ⟨6, _⟩ => ⟨S3x256, .f32⟩
  | .local _ .vmem, ⟨0, _⟩ => ⟨S3x256, .f32⟩
  | .local _ .vmem, ⟨1, _⟩ => ⟨S3x256, .f32⟩
  | .local _ .vmem, ⟨2, _⟩ => ⟨S3x256, .f32⟩
  | .local _ .vmem, ⟨3, _⟩ => ⟨S3x256, .f32⟩
  | .local _ .vmem, ⟨4, _⟩ => ⟨S3x256, .f32⟩
  | .local _ .vmem, ⟨5, _⟩ => ⟨S3x256, .f32⟩
  | .local _ .vmem, ⟨6, _⟩ => ⟨S3x256, .f32⟩
  | _, _ => ⟨S3x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "unbias_m" => some (((5463681 / 8388608)⁻¹ : ℝ) : EReal)
  | "unbias_v" => some (((2672307 / 268435456)⁻¹ : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S3x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamShortReferenceIdeal.lean ====
abbrev S3x256 : Shape := ⟨2, ![3, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S3x256, .f32⟩
  | .hbm, ⟨1, _⟩ => ⟨S3x256, .f32⟩
  | .hbm, ⟨2, _⟩ => ⟨S3x256, .f32⟩
  | .hbm, ⟨3, _⟩ => ⟨S3x256, .f32⟩
  | .hbm, ⟨4, _⟩ => ⟨S_, .f32⟩
  | .hbm, ⟨5, _⟩ => ⟨S3x256, .f32⟩
  | .hbm, ⟨6, _⟩ => ⟨S3x256, .f32⟩
  | .hbm, ⟨7, _⟩ => ⟨S_, .f32⟩
  | .hbm, ⟨8, _⟩ => ⟨S3x256, .f32⟩
  | .hbm, ⟨9, _⟩ => ⟨S3x256, .f32⟩
  | .hbm, ⟨10, _⟩ => ⟨S3x256, .f32⟩
  | .hbm, ⟨11, _⟩ => ⟨S_, .f32⟩
  | .hbm, ⟨12, _⟩ => ⟨S3x256, .f32⟩
  | .hbm, ⟨13, _⟩ => ⟨S3x256, .f32⟩
  | .hbm, ⟨14, _⟩ => ⟨S3x256, .f32⟩
  | .hbm, ⟨15, _⟩ => ⟨S_, .f32⟩
  | .hbm, ⟨16, _⟩ => ⟨S3x256, .f32⟩
  | .hbm, ⟨17, _⟩ => ⟨S3x256, .f32⟩
  | .hbm, ⟨18, _⟩ => ⟨S3x256, .f32⟩
  | .hbm, ⟨19, _⟩ => ⟨S_, .f32⟩
  | .hbm, ⟨20, _⟩ => ⟨S3x256, .f32⟩
  | .hbm, ⟨21, _⟩ => ⟨S3x256, .f32⟩
  | .hbm, ⟨22, _⟩ => ⟨S_, .f32⟩
  | .hbm, ⟨23, _⟩ => ⟨S3x256, .f32⟩
  | .hbm, ⟨24, _⟩ => ⟨S3x256, .f32⟩
  | .hbm, ⟨25, _⟩ => ⟨S3x256, .f32⟩
  | .hbm, ⟨26, _⟩ => ⟨S_, .f32⟩
  | .hbm, ⟨27, _⟩ => ⟨S3x256, .f32⟩
  | .hbm, ⟨28, _⟩ => ⟨S3x256, .f32⟩
  | .hbm, ⟨29, _⟩ => ⟨S3x256, .f32⟩
  | .hbm, ⟨30, _⟩ => ⟨S_, .f32⟩
  | .hbm, ⟨31, _⟩ => ⟨S3x256, .f32⟩
  | .hbm, ⟨32, _⟩ => ⟨S3x256, .f32⟩
  | .hbm, ⟨33, _⟩ => ⟨S3x256, .f32⟩
  | .hbm, ⟨34, _⟩ => ⟨S_, .f32⟩
  | .hbm, ⟨35, _⟩ => ⟨S3x256, .f32⟩
  | .hbm, ⟨36, _⟩ => ⟨S3x256, .f32⟩
  | _, _ => ⟨S3x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamLong.lean ====
abbrev S31x256 : Shape := ⟨2, ![31, 256]⟩

abbrev nBuf : Space → Nat
  | .hbm => 7
  | .vmem => 7
  | .smem => 0
  | _ => 0

abbrev bufTy : (tb : Table) → Fin (tcTables nBuf tb) → BufTy
  | .hbm, ⟨0, _⟩ => ⟨S31x256, .f32⟩
  | .hbm, ⟨1, _⟩ => ⟨S31x256, .f32⟩
  | .hbm, ⟨2, _⟩ => ⟨S31x256, .f32⟩
  | .hbm, ⟨3, _⟩ => ⟨S31x256, .f32⟩
  | .hbm, ⟨4, _⟩ => ⟨S31x256, .f32⟩
  | .hbm, ⟨5, _⟩ => ⟨S31x256, .f32⟩
  | .hbm, ⟨6, _⟩ => ⟨S31x256, .f32⟩
  | .local _ .vmem, ⟨0, _⟩ => ⟨S31x256, .f32⟩
  | .local _ .vmem, ⟨1, _⟩ => ⟨S31x256, .f32⟩
  | .local _ .vmem, ⟨2, _⟩ => ⟨S31x256, .f32⟩
  | .local _ .vmem, ⟨3, _⟩ => ⟨S31x256, .f32⟩
  | .local _ .vmem, ⟨4, _⟩ => ⟨S31x256, .f32⟩
  | .local _ .vmem, ⟨5, _⟩ => ⟨S31x256, .f32⟩
  | .local _ .vmem, ⟨6, _⟩ => ⟨S31x256, .f32⟩
  | _, _ => ⟨S31x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S31x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S31x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S31x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S31x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S31x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S31x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S31x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamLongIdeal.lean ====
abbrev S31x256 : Shape := ⟨2, ![31, 256]⟩

abbrev nBuf : Space → Nat
  | .hbm => 7
  | .vmem => 7
  | .smem => 0
  | _ => 0

abbrev bufTy : (tb : Table) → Fin (tcTables nBuf tb) → BufTy
  | .hbm, ⟨0, _⟩ => ⟨S31x256, .f32⟩
  | .hbm, ⟨1, _⟩ => ⟨S31x256, .f32⟩
  | .hbm, ⟨2, _⟩ => ⟨S31x256, .f32⟩
  | .hbm, ⟨3, _⟩ => ⟨S31x256, .f32⟩
  | .hbm, ⟨4, _⟩ => ⟨S31x256, .f32⟩
  | .hbm, ⟨5, _⟩ => ⟨S31x256, .f32⟩
  | .hbm, ⟨6, _⟩ => ⟨S31x256, .f32⟩
  | .local _ .vmem, ⟨0, _⟩ => ⟨S31x256, .f32⟩
  | .local _ .vmem, ⟨1, _⟩ => ⟨S31x256, .f32⟩
  | .local _ .vmem, ⟨2, _⟩ => ⟨S31x256, .f32⟩
  | .local _ .vmem, ⟨3, _⟩ => ⟨S31x256, .f32⟩
  | .local _ .vmem, ⟨4, _⟩ => ⟨S31x256, .f32⟩
  | .local _ .vmem, ⟨5, _⟩ => ⟨S31x256, .f32⟩
  | .local _ .vmem, ⟨6, _⟩ => ⟨S31x256, .f32⟩
  | _, _ => ⟨S31x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "unbias_m" => some (((5463681 / 8388608)⁻¹ : ℝ) : EReal)
  | "unbias_v" => some (((2672307 / 268435456)⁻¹ : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S31x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S31x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S31x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S31x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S31x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S31x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S31x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamLongReferenceIdeal.lean ====
abbrev S31x256 : Shape := ⟨2, ![31, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S31x256, .f32⟩
  | .hbm, ⟨1, _⟩ => ⟨S31x256, .f32⟩
  | .hbm, ⟨2, _⟩ => ⟨S31x256, .f32⟩
  | .hbm, ⟨3, _⟩ => ⟨S31x256, .f32⟩
  | .hbm, ⟨4, _⟩ => ⟨S_, .f32⟩
  | .hbm, ⟨5, _⟩ => ⟨S31x256, .f32⟩
  | .hbm, ⟨6, _⟩ => ⟨S31x256, .f32⟩
  | .hbm, ⟨7, _⟩ => ⟨S_, .f32⟩
  | .hbm, ⟨8, _⟩ => ⟨S31x256, .f32⟩
  | .hbm, ⟨9, _⟩ => ⟨S31x256, .f32⟩
  | .hbm, ⟨10, _⟩ => ⟨S31x256, .f32⟩
  | .hbm, ⟨11, _⟩ => ⟨S_, .f32⟩
  | .hbm, ⟨12, _⟩ => ⟨S31x256, .f32⟩
  | .hbm, ⟨13, _⟩ => ⟨S31x256, .f32⟩
  | .hbm, ⟨14, _⟩ => ⟨S31x256, .f32⟩
  | .hbm, ⟨15, _⟩ => ⟨S_, .f32⟩
  | .hbm, ⟨16, _⟩ => ⟨S31x256, .f32⟩
  | .hbm, ⟨17, _⟩ => ⟨S31x256, .f32⟩
  | .hbm, ⟨18, _⟩ => ⟨S31x256, .f32⟩
  | .hbm, ⟨19, _⟩ => ⟨S_, .f32⟩
  | .hbm, ⟨20, _⟩ => ⟨S31x256, .f32⟩
  | .hbm, ⟨21, _⟩ => ⟨S31x256, .f32⟩
  | .hbm, ⟨22, _⟩ => ⟨S_, .f32⟩
  | .hbm, ⟨23, _⟩ => ⟨S31x256, .f32⟩
  | .hbm, ⟨24, _⟩ => ⟨S31x256, .f32⟩
  | .hbm, ⟨25, _⟩ => ⟨S31x256, .f32⟩
  | .hbm, ⟨26, _⟩ => ⟨S_, .f32⟩
  | .hbm, ⟨27, _⟩ => ⟨S31x256, .f32⟩
  | .hbm, ⟨28, _⟩ => ⟨S31x256, .f32⟩
  | .hbm, ⟨29, _⟩ => ⟨S31x256, .f32⟩
  | .hbm, ⟨30, _⟩ => ⟨S_, .f32⟩
  | .hbm, ⟨31, _⟩ => ⟨S31x256, .f32⟩
  | .hbm, ⟨32, _⟩ => ⟨S31x256, .f32⟩
  | .hbm, ⟨33, _⟩ => ⟨S31x256, .f32⟩
  | .hbm, ⟨34, _⟩ => ⟨S_, .f32⟩
  | .hbm, ⟨35, _⟩ => ⟨S31x256, .f32⟩
  | .hbm, ⟨36, _⟩ => ⟨S31x256, .f32⟩
  | _, _ => ⟨S31x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamBias.lean ====
abbrev S1x256 : Shape := ⟨2, ![1, 256]⟩

abbrev nBuf : Space → Nat
  | .hbm => 7
  | .vmem => 7
  | .smem => 0
  | _ => 0

abbrev bufTy : (tb : Table) → Fin (tcTables nBuf tb) → BufTy
  | .hbm, ⟨0, _⟩ => ⟨S1x256, .f32⟩
  | .hbm, ⟨1, _⟩ => ⟨S1x256, .f32⟩
  | .hbm, ⟨2, _⟩ => ⟨S1x256, .f32⟩
  | .hbm, ⟨3, _⟩ => ⟨S1x256, .f32⟩
  | .hbm, ⟨4, _⟩ => ⟨S1x256, .f32⟩
  | .hbm, ⟨5, _⟩ => ⟨S1x256, .f32⟩
  | .hbm, ⟨6, _⟩ => ⟨S1x256, .f32⟩
  | .local _ .vmem, ⟨0, _⟩ => ⟨S1x256, .f32⟩
  | .local _ .vmem, ⟨1, _⟩ => ⟨S1x256, .f32⟩
  | .local _ .vmem, ⟨2, _⟩ => ⟨S1x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | _, _ => ⟨S1x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamBiasIdeal.lean ====
variable {F : FTy → Type} [FloatOps F] [Named F]
def κ : String → Option EReal := fun
  | "unbias_m" => some (((5463681 / 8388608)⁻¹ : ℝ) : EReal)
  | "unbias_v" => some (((2672307 / 268435456)⁻¹ : ℝ) : EReal)
  | _ => none
-- ==== AdamBiasReferenceIdeal.lean ====
abbrev S1x256 : Shape := ⟨2, ![1, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x256, .f32⟩
  | .hbm, ⟨1, _⟩ => ⟨S1x256, .f32⟩
  | .hbm, ⟨2, _⟩ => ⟨S1x256, .f32⟩
  | .hbm, ⟨3, _⟩ => ⟨S1x256, .f32⟩
  | .hbm, ⟨4, _⟩ => ⟨S_, .f32⟩
  | .hbm, ⟨5, _⟩ => ⟨S1x256, .f32⟩
  | .hbm, ⟨6, _⟩ => ⟨S1x256, .f32⟩
  | .hbm, ⟨7, _⟩ => ⟨S_, .f32⟩
  | .hbm, ⟨8, _⟩ => ⟨S1x256, .f32⟩
  | .hbm, ⟨9, _⟩ => ⟨S1x256, .f32⟩
  | .hbm, ⟨10, _⟩ => ⟨S1x256, .f32⟩
  | .hbm, ⟨11, _⟩ => ⟨S_, .f32⟩
  | .hbm, ⟨12, _⟩ => ⟨S1x256, .f32⟩
  | .hbm, ⟨13, _⟩ => ⟨S1x256, .f32⟩
  | .hbm, ⟨14, _⟩ => ⟨S1x256, .f32⟩
  | .hbm, ⟨15, _⟩ => ⟨S_, .f32⟩
  | .hbm, ⟨16, _⟩ => ⟨S1x256, .f32⟩
  | .hbm, ⟨17, _⟩ => ⟨S1x256, .f32⟩
  | .hbm, ⟨18, _⟩ => ⟨S1x256, .f32⟩
  | .hbm, ⟨19, _⟩ => ⟨S_, .f32⟩
  | .hbm, ⟨20, _⟩ => ⟨S1x256, .f32⟩
  | .hbm, ⟨21, _⟩ => ⟨S1x256, .f32⟩
  | .hbm, ⟨22, _⟩ => ⟨S_, .f32⟩
  | .hbm, ⟨23, _⟩ => ⟨S1x256, .f32⟩
  | .hbm, ⟨24, _⟩ => ⟨S1x256, .f32⟩
  | .hbm, ⟨25, _⟩ => ⟨S1x256, .f32⟩
  | .hbm, ⟨26, _⟩ => ⟨S_, .f32⟩
  | .hbm, ⟨27, _⟩ => ⟨S1x256, .f32⟩
  | .hbm, ⟨28, _⟩ => ⟨S1x256, .f32⟩
  | .hbm, ⟨29, _⟩ => ⟨S1x256, .f32⟩
  | .hbm, ⟨30, _⟩ => ⟨S_, .f32⟩
  | .hbm, ⟨31, _⟩ => ⟨S1x256, .f32⟩
  | .hbm, ⟨32, _⟩ => ⟨S1x256, .f32⟩
  | .hbm, ⟨33, _⟩ => ⟨S1x256, .f32⟩
  | .hbm, ⟨34, _⟩ => ⟨S_, .f32⟩
  | .hbm, ⟨35, _⟩ => ⟨S1x256, .f32⟩
  | .hbm, ⟨36, _⟩ => ⟨S1x256, .f32⟩
  | _, _ => ⟨S1x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Att.lean ====
abbrev S2048x6144 : Shape := ⟨2, ![2048, 6144]⟩
abbrev S2048x1024 : Shape := ⟨2, ![2048, 1024]⟩
abbrev S256x128 : Shape := ⟨2, ![256, 128]⟩
abbrev S2048x128 : Shape := ⟨2, ![2048, 128]⟩
abbrev S256x256 : Shape := ⟨2, ![256, 256]⟩
abbrev S256x1 : Shape := ⟨2, ![256, 1]⟩
abbrev S256 : Shape := ⟨1, ![256]⟩

abbrev nBuf : Space → Nat
  | .hbm => 3
  | .vmem => 12
  | .smem => 0
  | _ => 0

abbrev bufTy : (tb : Table) → Fin (tcTables nBuf tb) → BufTy
  | .hbm, ⟨0, _⟩ => ⟨S2048x6144, .f32⟩
  | .hbm, ⟨1, _⟩ => ⟨S2048x1024, .f32⟩
  | .hbm, ⟨2, _⟩ => ⟨S2048x1024, .f32⟩
  | .local _ .vmem, ⟨0, _⟩ => ⟨S256x128, .f32⟩
  | .local _ .vmem, ⟨1, _⟩ => ⟨S256x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S2048x128, .bf16⟩
  | .local _ .vmem, ⟨11, _⟩ => ⟨S2048x128, .bf16⟩
  | _, _ => ⟨S2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

@[reducible] def k0_t1_loop (i : grid0.Coords) : Scf.Loop 32 :=
  let c0_i32_5 : BitVec 32 := 0#32
  let arg1 : BitVec 32 := BitVec.ofNat 32 (i 1).val
  let c1_i32 : BitVec 32 := 1#32
  let v17 : BitVec 32 := Scalar.addi arg1 c1_i32
  let v20 : BitVec 32 := Scalar.subi v17 c0_i32_5
  let c1_i32_6 : BitVec 32 := 1#32
  let v22 : BitVec 32 := Scalar.divsi v20 c1_i32_6
  let v23 : BitVec 32 := Scalar.muli v22 c1_i32_6
  let v24 : BitVec 32 := Scalar.addi c0_i32_5 v23
  let c1_i32_7 : BitVec 32 := 1#32
  ⟨c0_i32_5, v24, c1_i32_7⟩
def k0_mult1 (i : grid0.Coords) (k0_t1 : Fin (k0_t1_loop i).trips) : BitVec 32 :=
  let arg1 : BitVec 32 := BitVec.ofNat 32 (i 1).val
  let c0_i32_5 : BitVec 32 := 0#32
  let c1_i32_7 : BitVec 32 := 1#32
  let arg9 : BitVec 32 := Scf.iv c0_i32_5 c1_i32_7 k0_t1
  let v31 : BitVec 32 := Scalar.subi arg1 arg9
  let c256_i32_13 : BitVec 32 := 256#32
  let v32 : BitVec 32 := Scalar.muli v31 c256_i32_13
  v32
def k0_off1 (i : grid0.Coords) (k0_t1 : Fin (k0_t1_loop i).trips) : Fin 2 → Nat :=
  let arg1 : BitVec 32 := BitVec.ofNat 32 (i 1).val
  let c0_i32_5 : BitVec 32 := 0#32
  let c1_i32_7 : BitVec 32 := 1#32
  let arg9 : BitVec 32 := Scf.iv c0_i32_5 c1_i32_7 k0_t1
  let v31 : BitVec 32 := Scalar.subi arg1 arg9
  let c256_i32_13 : BitVec 32 := 256#32
  let v32 : BitVec 32 := Scalar.muli v31 c256_i32_13
  let v33 : BitVec 32 := v32
  let v38 : Index := Scalar.indexCast v33
  let c0_15 : Index := 0#32
  ![v38.toNat, 0]
@[reducible] def k0_t2_loop (i : grid0.Coords) : Scf.Loop 32 :=
  let c0_i32_5 : BitVec 32 := 0#32
  let arg1 : BitVec 32 := BitVec.ofNat 32 (i 1).val
  let c1_i32 : BitVec 32 := 1#32
  let v17 : BitVec 32 := Scalar.addi arg1 c1_i32
  let v20 : BitVec 32 := Scalar.subi v17 c0_i32_5
  let c1_i32_6 : BitVec 32 := 1#32
  let v22 : BitVec 32 := Scalar.divsi v20 c1_i32_6
  let v23 : BitVec 32 := Scalar.muli v22 c1_i32_6
  let v24 : BitVec 32 := Scalar.addi c0_i32_5 v23
  let v21 : BitVec 32 := Scalar.addi c0_i32_5 v20
  let c1_i32_8 : BitVec 32 := 1#32
  ⟨v24, v21, c1_i32_8⟩
def k0_mult2 (i : grid0.Coords) (k0_t2 : Fin (k0_t2_loop i).trips) : BitVec 32 :=
  let arg1 : BitVec 32 := BitVec.ofNat 32 (i 1).val
  let c0_i32_5 : BitVec 32 := 0#32
  let c1_i32 : BitVec 32 := 1#32
  let v17 : BitVec 32 := Scalar.addi arg1 c1_i32
  let v20 : BitVec 32 := Scalar.subi v17 c0_i32_5
  let c1_i32_6 : BitVec 32 := 1#32
  let v22 : BitVec 32 := Scalar.divsi v20 c1_i32_6
  let v23 : BitVec 32 := Scalar.muli v22 c1_i32_6
  let v24 : BitVec 32 := Scalar.addi c0_i32_5 v23
  let c1_i32_8 : BitVec 32 := 1#32
  let arg9 : BitVec 32 := Scf.iv v24 c1_i32_8 k0_t2
  let v31 : BitVec 32 := Scalar.subi arg1 arg9
  let c256_i32_13 : BitVec 32 := 256#32
  let v32 : BitVec 32 := Scalar.muli v31 c256_i32_13
  v32
def k0_off2 (i : grid0.Coords) (k0_t2 : Fin (k0_t2_loop i).trips) : Fin 2 → Nat :=
  let arg1 : BitVec 32 := BitVec.ofNat 32 (i 1).val
  let c0_i32_5 : BitVec 32 := 0#32
  let c1_i32 : BitVec 32 := 1#32
  let v17 : BitVec 32 := Scalar.addi arg1 c1_i32
  let v20 : BitVec 32 := Scalar.subi v17 c0_i32_5
  let c1_i32_6 : BitVec 32 := 1#32
  let v22 : BitVec 32 := Scalar.divsi v20 c1_i32_6
  let v23 : BitVec 32 := Scalar.muli v22 c1_i32_6
  let v24 : BitVec 32 := Scalar.addi c0_i32_5 v23
  let c1_i32_8 : BitVec 32 := 1#32
  let arg9 : BitVec 32 := Scf.iv v24 c1_i32_8 k0_t2
  let v31 : BitVec 32 := Scalar.subi arg1 arg9
  let c256_i32_13 : BitVec 32 := 256#32
  let v32 : BitVec 32 := Scalar.muli v31 c256_i32_13
  let v33 : BitVec 32 := v32
  let v38 : Index := Scalar.indexCast v33
  let c0_15 : Index := 0#32
  ![v38.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttReferenceIdeal.lean ====
abbrev S2048x6144 : Shape := ⟨2, ![2048, 6144]⟩
abbrev S2048x1024 : Shape := ⟨2, ![2048, 1024]⟩
abbrev S2048x8x128 : Shape := ⟨3, ![2048, 8, 128]⟩
abbrev S8x2048x2048 : Shape := ⟨3, ![8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x128x2048 : Shape := ⟨3, ![8, 128, 2048]⟩
abbrev S8x2048 : Shape := ⟨2, ![8, 2048]⟩
abbrev S2048x8 : Shape := ⟨2, ![2048, 8]⟩
abbrev S2048x8x1 : Shape := ⟨3, ![2048, 8, 1]⟩

abbrev nBuf : Space → Nat
  | .hbm => 76
  | .vmem => 0
  | .smem => 0
  | _ => 0

abbrev bufTy : (tb : Table) → Fin (tcTables nBuf tb) → BufTy
  | .hbm, ⟨0, _⟩ => ⟨S2048x6144, .f32⟩
  | .hbm, ⟨1, _⟩ => ⟨S2048x1024, .f32⟩
  | .hbm, ⟨2, _⟩ => ⟨S2048x8x128, .f32⟩
  | .hbm, ⟨3, _⟩ => ⟨S2048x1024, .f32⟩
  | .hbm, ⟨4, _⟩ => ⟨S2048x8x128, .f32⟩
  | .hbm, ⟨5, _⟩ => ⟨S2048x1024, .f32⟩
  | .hbm, ⟨6, _⟩ => ⟨S2048x8x128, .f32⟩
  | .hbm, ⟨7, _⟩ => ⟨S8x2048x2048, .f32⟩
  | .hbm, ⟨8, _⟩ => ⟨S_, .f32⟩
  | .hbm, ⟨9, _⟩ => ⟨S8x2048x2048, .f32⟩
  | .hbm, ⟨10, _⟩ => ⟨S8x2048x2048, .f32⟩
  | .hbm, ⟨11, _⟩ => ⟨S2048, .i32⟩
  | .hbm, ⟨12, _⟩ => ⟨S1x2048, .i32⟩
  | .hbm, ⟨13, _⟩ => ⟨S2048, .i32⟩
  | .hbm, ⟨14, _⟩ => ⟨S2048x1, .i32⟩
  | .hbm, ⟨15, _⟩ => ⟨S2048x2048, .i32⟩
  | .hbm, ⟨16, _⟩ => ⟨S2048x2048, .i32⟩
  | .hbm, ⟨17, _⟩ => ⟨S2048x2048, .i1⟩
  | .hbm, ⟨18, _⟩ => ⟨S8x2048x2048, .f32⟩
  | .hbm, ⟨19, _⟩ => ⟨S_, .f32⟩
  | .hbm, ⟨20, _⟩ => ⟨S8x2048x2048, .f32⟩
  | .hbm, ⟨21, _⟩ => ⟨S8x2048x2048, .f32⟩
  | .hbm, ⟨22, _⟩ => ⟨S8x2048x2048, .f32⟩
  | .hbm, ⟨23, _⟩ => ⟨S8x2048x2048, .f32⟩
  | .hbm, ⟨24, _⟩ => ⟨S8x2048x2048, .i1⟩
  | .hbm, ⟨25, _⟩ => ⟨S8x2048x2048, .f32⟩
  | .hbm, ⟨26, _⟩ => ⟨S8x2048x2048, .f32⟩
  | .hbm, ⟨27, _⟩ => ⟨S8x2048x2048, .f32⟩
  | .hbm, ⟨28, _⟩ => ⟨S8x2048x2048, .f32⟩
  | .hbm, ⟨29, _⟩ => ⟨S8x2048x2048, .f32⟩
  | .hbm, ⟨30, _⟩ => ⟨S8x2048x2048, .f32⟩
  | .hbm, ⟨31, _⟩ => ⟨S8x2048x2048, .f32⟩
  | .hbm, ⟨32, _⟩ => ⟨S8x2048x2048, .f32⟩
  | .hbm, ⟨33, _⟩ => ⟨S8x2048x2048, .f32⟩
  | .hbm, ⟨34, _⟩ => ⟨S8x2048x2048, .f32⟩
  | .hbm, ⟨35, _⟩ => ⟨S8x2048x2048, .f32⟩
  | .hbm, ⟨36, _⟩ => ⟨S_, .f32⟩
  | .hbm, ⟨37, _⟩ => ⟨S8x2048x2048, .f32⟩
  | .hbm, ⟨38, _⟩ => ⟨S8x2048x2048, .f32⟩
  | .hbm, ⟨39, _⟩ => ⟨S8x2048x2048, .f32⟩
  | .hbm, ⟨40, _⟩ => ⟨S8x2048x2048, .f32⟩
  | .hbm, ⟨41, _⟩ => ⟨S8x2048x2048, .i1⟩
  | .hbm, ⟨42, _⟩ => ⟨S8x2048x2048, .f32⟩
  | .hbm, ⟨43, _⟩ => ⟨S8x2048x2048, .f32⟩
  | .hbm, ⟨44, _⟩ => ⟨S8x2048x2048, .f32⟩
  | .hbm, ⟨45, _⟩ => ⟨S8x2048x2048, .f32⟩
  | .hbm, ⟨46, _⟩ => ⟨S8x2048x2048, .f32⟩
  | .hbm, ⟨47, _⟩ => ⟨S8x2048x2048, .f32⟩
  | .hbm, ⟨48, _⟩ => ⟨S8x2048x2048, .f32⟩
  | .hbm, ⟨49, _⟩ => ⟨S8x2048x2048, .f32⟩
  | .hbm, ⟨50, _⟩ => ⟨S8x2048x2048, .f32⟩
  | .hbm, ⟨51, _⟩ => ⟨S_, .f32⟩
  | .hbm, ⟨52, _⟩ => ⟨S_, .f32⟩
  | .hbm, ⟨53, _⟩ => ⟨S8x2048x2048, .i1⟩
  | .hbm, ⟨54, _⟩ => ⟨S8x2048x2048, .f32⟩
  | .hbm, ⟨55, _⟩ => ⟨S8x2048x2048, .f32⟩
  | .hbm, ⟨56, _⟩ => ⟨S_, .f32⟩
  | .hbm, ⟨57, _⟩ => ⟨S_, .f32⟩
  | .hbm, ⟨58, _⟩ => ⟨S8x2048x2048, .f32⟩
  | .hbm, ⟨59, _⟩ => ⟨S8x2048x2048, .f32⟩
  | .hbm, ⟨60, _⟩ => ⟨S8x2048x2048, .f32⟩
  | .hbm, ⟨61, _⟩ => ⟨S8x2048x2048, .f32⟩
  | .hbm, ⟨62, _⟩ => ⟨S_, .f32⟩
  | .hbm, ⟨63, _⟩ => ⟨S_, .f32⟩
  | .hbm, ⟨64, _⟩ => ⟨S8x2048x2048, .i1⟩
  | .hbm, ⟨65, _⟩ => ⟨S8x2048x2048, .f32⟩
  | .hbm, ⟨66, _⟩ => ⟨S8x2048x2048, .f32⟩
  | .hbm, ⟨67, _⟩ => ⟨S8x128x2048, .f32⟩
  | .hbm, ⟨68, _⟩ => ⟨S2048x8x128, .f32⟩
  | .hbm, ⟨69, _⟩ => ⟨S2048x1024, .f32⟩
  | .hbm, ⟨70, _⟩ => ⟨S_, .f32⟩
  | .hbm, ⟨71, _⟩ => ⟨S8x2048, .f32⟩
  | .hbm, ⟨72, _⟩ => ⟨S2048x8, .f32⟩
  | .hbm, ⟨73, _⟩ => ⟨S2048x8x1, .f32⟩
  | .hbm, ⟨74, _⟩ => ⟨S2048x8x128, .f32⟩
  | .hbm, ⟨75, _⟩ => ⟨S2048x1024, .f32⟩
  | _, _ => ⟨S2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v16 : Ref sig .tc := ⟨.hbm, 33, rfl⟩
abbrev main_v17 : Ref sig .tc := ⟨.hbm, 34, rfl⟩
abbrev main_call1_v0 : Ref sig .tc := ⟨.hbm, 35, rfl⟩
abbrev main_call1_call0_cst : Ref sig .tc := ⟨.hbm, 36, rfl⟩
abbrev main_call1_call0_v0 : Ref sig .tc := ⟨.hbm, 37, rfl⟩
abbrev main_call1_call0_v1 : Ref sig .tc := ⟨.hbm, 38, rfl⟩
abbrev main_call1_call0_v2 : Ref sig .tc := ⟨.hbm, 39, rfl⟩
abbrev main_call1_call0_v3 : Ref sig .tc := ⟨.hbm, 40, rfl⟩
abbrev main_call1_call0_v4 : Ref sig .tc := ⟨.hbm, 41, rfl⟩
abbrev main_call1_call0_v5 : Ref sig .tc := ⟨.hbm, 42, rfl⟩
abbrev main_call1_call0_v6 : Ref sig .tc := ⟨.hbm, 43, rfl⟩
abbrev main_call1_call0_v7 : Ref sig .tc := ⟨.hbm, 44, rfl⟩
abbrev main_call1_call0_v8 : Ref sig .tc := ⟨.hbm, 45, rfl⟩
abbrev main_call1_call0_v9 : Ref sig .tc := ⟨.hbm, 46, rfl⟩
abbrev main_call1_call0_v10 : Ref sig .tc := ⟨.hbm, 47, rfl⟩
abbrev main_call1_call0_v11 : Ref sig .tc := ⟨.hbm, 48, rfl⟩
abbrev main_call1_v1 : Ref sig .tc := ⟨.hbm, 49, rfl⟩
abbrev main_v18 : Ref sig .tc := ⟨.hbm, 50, rfl⟩
abbrev main_cst_0 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_v19 : Ref sig .tc := ⟨.hbm, 55, rfl⟩
abbrev main_call3_cst : Ref sig .tc := ⟨.hbm, 56, rfl⟩
abbrev main_call3_v0 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_cst_1 : Ref sig .tc := ⟨.hbm, 62, rfl⟩
abbrev main_call4_v0 : Ref sig .tc := ⟨.hbm, 63, rfl⟩
abbrev main_call4_v1 : Ref sig .tc := ⟨.hbm, 64, rfl⟩
abbrev main_call4_v2 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_cst_2 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩

abbrev nD : Nat := 1
abbrev τ : Topo := Topo.v7x

variable {F : FTy → Type} [FloatOps F]
-- ==== Rms.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsReferenceIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 18
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== OddRows.lean ====
abbrev S2048x7168 : Shape := ⟨2, ![2048, 7168]⟩
abbrev S2048x1024 : Shape := ⟨2, ![2048, 1024]⟩
abbrev S2048x2048 : Shape := ⟨2, ![2048, 2048]⟩
abbrev S1x1024 : Shape := ⟨2, ![1, 1024]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S1024 : Shape := ⟨1, ![1024]⟩

abbrev nBuf : Space → Nat
  | .hbm => 13
  | .vmem => 25
  | .smem => 0
  | _ => 0

abbrev bufTy : (tb : Table) → Fin (tcTables nBuf tb) → BufTy
  | .hbm, ⟨0, _⟩ => ⟨S2048x7168, .f32⟩
  | .hbm, ⟨1, _⟩ => ⟨S2048x1024, .f32⟩
  | .hbm, ⟨2, _⟩ => ⟨S2048x1024, .f32⟩
  | .hbm, ⟨3, _⟩ => ⟨S2048x2048, .f32⟩
  | .hbm, ⟨4, _⟩ => ⟨S1x1024, .f32⟩
  | .hbm, ⟨5, _⟩ => ⟨S1x1024, .f32⟩
  | .hbm, ⟨6, _⟩ => ⟨S2048x1024, .bf16⟩
  | .hbm, ⟨7, _⟩ => ⟨S2048x2048, .bf16⟩
  | .hbm, ⟨8, _⟩ => ⟨S2048x1024, .f32⟩
  | .hbm, ⟨9, _⟩ => ⟨S2048x1024, .f32⟩
  | .hbm, ⟨10, _⟩ => ⟨S1x1024, .f32⟩
  | .hbm, ⟨11, _⟩ => ⟨S1x1024, .f32⟩
  | .hbm, ⟨12, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x2048, .f32⟩
  | .local _ .vmem, ⟨11, _⟩ => ⟨S256x2048, .f32⟩
  | .local _ .vmem, ⟨12, _⟩ => ⟨S1x1024, .f32⟩
  | .local _ .vmem, ⟨13, _⟩ => ⟨S1x1024, .f32⟩
  | .local _ .vmem, ⟨14, _⟩ => ⟨S256x1024, .bf16⟩
  | .local _ .vmem, ⟨15, _⟩ => ⟨S256x1024, .bf16⟩
  | .local _ .vmem, ⟨16, _⟩ => ⟨S256x2048, .bf16⟩
  | .local _ .vmem, ⟨17, _⟩ => ⟨S256x2048, .bf16⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S1x1024, .f32⟩
  | .local _ .vmem, ⟨23, _⟩ => ⟨S1x1024, .f32⟩
  | .local _ .vmem, ⟨24, _⟩ => ⟨S1x1024, .f32⟩
  | _, _ => ⟨S2048x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev main_v0_6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem13_0 : DmaSem sig := 23
abbrev cc0_sem14_0 : DmaSem sig := 24

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v120 : BitVec 32 := Scalar.extui v0
  let c0_i32_56 : BitVec 32 := 0#32
  let v121 : BitVec 1 := Scalar.cmpi .ne v120 c0_i32_56
  v121

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_57 : BitVec 1 := 1#1
  let v122 : BitVec 1 := Scalar.xori v0 true_57
  let v123 : BitVec 32 := Scalar.extui v122
  let c0_i32_58 : BitVec 32 := 0#32
  let v124 : BitVec 1 := Scalar.cmpi .ne v123 c0_i32_58
  v124

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v112 : BitVec 32 := Scalar.extui v0
  let c0_i32_53 : BitVec 32 := 0#32
  let v113 : BitVec 1 := Scalar.cmpi .ne v112 c0_i32_53
  v113

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v114 : BitVec 1 := Scalar.xori v0 v_true
  let v115 : BitVec 32 := Scalar.extui v114
  let c0_i32_54 : BitVec 32 := 0#32
  let v116 : BitVec 1 := Scalar.cmpi .ne v115 c0_i32_54
  v116

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v147 : BitVec 32 := Scalar.extui v0
  let c0_i32_68 : BitVec 32 := 0#32
  let v148 : BitVec 1 := Scalar.cmpi .ne v147 c0_i32_68
  v148

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let true_69 : BitVec 1 := 1#1
  let v149 : BitVec 1 := Scalar.xori v0 true_69
  let v150 : BitVec 32 := Scalar.extui v149
  let c0_i32_70 : BitVec 32 := 0#32
  let v151 : BitVec 1 := Scalar.cmpi .ne v150 c0_i32_70
  v151

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== OddRowsReferenceIdeal.lean ====
abbrev S2048x7168 : Shape := ⟨2, ![2048, 7168]⟩
abbrev S2048x1024 : Shape := ⟨2, ![2048, 1024]⟩
abbrev S2048x2048 : Shape := ⟨2, ![2048, 2048]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 130
  | .vmem => 0
  | .smem => 0
  | _ => 0

abbrev hbmTy0_0 (i : Nat) : BufTy := match i % 128 with
  | 0 => ⟨S2048x7168, .f32⟩
  | 1 => ⟨S2048x1024, .f32⟩
  | 2 => ⟨S2048x1024, .f32⟩
  | 3 => ⟨S2048x2048, .f32⟩
  | 4 => ⟨S1x1024, .f32⟩
  | 5 => ⟨S1x1024, .f32⟩
  | 6 => ⟨S2048x1024, .f32⟩
  | 7 => ⟨S2048x2048, .f32⟩
  | 8 => ⟨S2048x1024, .f32⟩
  | 9 => ⟨S_, .f32⟩
  | 10 => ⟨S2048, .f32⟩
  | 11 => ⟨S2048x1, .f32⟩
  | 12 => ⟨S_, .f32⟩
  | 13 => ⟨S2048x1, .f32⟩
  | 14 => ⟨S2048x1, .f32⟩
  | 15 => ⟨S2048x1024, .f32⟩
  | 16 => ⟨S2048x1024, .f32⟩
  | 17 => ⟨S2048x1024, .f32⟩
  | 18 => ⟨S_, .f32⟩
  | 19 => ⟨S2048x1024, .f32⟩
  | 20 => ⟨S2048x1024, .f32⟩
  | 21 => ⟨S_, .f32⟩
  | 22 => ⟨S2048, .f32⟩
  | 23 => ⟨S2048x1, .f32⟩
  | 24 => ⟨S_, .f32⟩
  | 25 => ⟨S2048x1, .f32⟩
  | 26 => ⟨S2048x1, .f32⟩
  | 27 => ⟨S2048x1024, .f32⟩
  | 28 => ⟨S2048x1024, .f32⟩
  | 29 => ⟨S_, .f32⟩
  | 30 => ⟨S2048x1, .f32⟩
  | 31 => ⟨S2048x1, .f32⟩
  | 32 => ⟨S2048x1, .f32⟩
  | 33 => ⟨S2048x1, .f32⟩
  | 34 => ⟨S_, .f32⟩
  | 35 => ⟨S2048x1, .f32⟩
  | 36 => ⟨S2048x1, .f32⟩
  | 37 => ⟨S2048x1024, .f32⟩
  | 38 => ⟨S2048x1024, .f32⟩
  | 39 => ⟨S2048x1024, .f32⟩
  | 40 => ⟨S2048x1024, .f32⟩
  | 41 => ⟨S2048x1024, .f32⟩
  | 42 => ⟨S2048x1024, .f32⟩
  | 43 => ⟨S2048x1024, .f32⟩
  | 44 => ⟨S2048x1024, .f32⟩
  | 45 => ⟨S_, .f32⟩
  | 46 => ⟨S2048x1024, .f32⟩
  | 47 => ⟨S2048x1024, .f32⟩
  | 48 => ⟨S_, .f32⟩
  | 49 => ⟨S2048x1024, .f32⟩
  | 50 => ⟨S2048x1024, .f32⟩
  | 51 => ⟨S_, .f32⟩
  | 52 => ⟨S2048x1024, .f32⟩
  | 53 => ⟨S2048x1024, .f32⟩
  | 54 => ⟨S2048x1024, .f32⟩
  | 55 => ⟨S2048x1024, .f32⟩
  | 56 => ⟨S2048x2048, .f32⟩
  | 57 => ⟨S2048x2048, .f32⟩
  | 58 => ⟨S2048x2048, .f32⟩
  | 59 => ⟨S_, .f32⟩
  | 60 => ⟨S2048x2048, .f32⟩
  | 61 => ⟨S2048x2048, .f32⟩
  | 62 => ⟨S_, .f32⟩
  | 63 => ⟨S2048x2048, .f32⟩
  | 64 => ⟨S2048x2048, .f32⟩
  | 65 => ⟨S_, .f32⟩
  | 66 => ⟨S2048x2048, .f32⟩
  | 67 => ⟨S2048x2048, .f32⟩
  | 68 => ⟨S2048x2048, .f32⟩
  | 69 => ⟨S2048x2048, .f32⟩
  | 70 => ⟨S2048x2048, .f32⟩
  | 71 => ⟨S2048x2048, .f32⟩
  | 72 => ⟨S2048x2048, .f32⟩
  | 73 => ⟨S2048x2048, .f32⟩
  | 74 => ⟨S2048x2048, .f32⟩
  | 75 => ⟨S2048x2048, .f32⟩
  | 76 => ⟨S2048x2048, .f32⟩
  | 77 => ⟨S2048x1024, .f32⟩
  | 78 => ⟨S2048x1024, .f32⟩
  | 79 => ⟨S2048x1024, .f32⟩
  | 80 => ⟨S2048x1024, .f32⟩
  | 81 => ⟨S2048x1024, .f32⟩
  | 82 => ⟨S2048x1024, .f32⟩
  | 83 => ⟨S_, .f32⟩
  | 84 => ⟨S1024, .f32⟩
  | 85 => ⟨S1x1024, .f32⟩
  | 86 => ⟨S2048x1024, .f32⟩
  | 87 => ⟨S_, .f32⟩
  | 88 => ⟨S1024, .f32⟩
  | 89 => ⟨S1x1024, .f32⟩
  | 90 => ⟨S2048x1024, .f32⟩
  | 91 => ⟨S2048x1024, .f32⟩
  | 92 => ⟨S2048x1024, .f32⟩
  | 93 => ⟨S_, .f32⟩
  | 94 => ⟨S2048, .f32⟩
  | 95 => ⟨S2048x1, .f32⟩
  | 96 => ⟨S2048x1024, .f32⟩
  | 97 => ⟨S2048x1024, .f32⟩
  | 98 => ⟨S2048x1, .f32⟩
  | 99 => ⟨S2048x1024, .f32⟩
  | 100 => ⟨S_, .f32⟩
  | 101 => ⟨S2048, .f32⟩
  | 102 => ⟨S2048x1, .f32⟩
  | 103 => ⟨S_, .f32⟩
  | 104 => ⟨S2048x1, .f32⟩
  | 105 => ⟨S2048x1, .f32⟩
  | 106 => ⟨S_, .f32⟩
  | 107 => ⟨S2048, .f32⟩
  | 108 => ⟨S2048x1024, .f32⟩
  | 109 => ⟨S2048x1024, .f32⟩
  | 110 => ⟨S2048x1024, .f32⟩
  | 111 => ⟨S_, .f32⟩
  | 112 => ⟨S2048, .f32⟩
  | 113 => ⟨S2048x1, .f32⟩
  | 114 => ⟨S2048x1024, .f32⟩
  | 115 => ⟨S2048x1, .f32⟩
  | 116 => ⟨S_, .f32⟩
  | 117 => ⟨S2048x1, .f32⟩
  | 118 => ⟨S2048x1, .f32⟩
  | 119 => ⟨S_, .f32⟩
  | 120 => ⟨S2048, .f32⟩
  | 121 => ⟨S2048x1024, .f32⟩
  | 122 => ⟨S2048x1024, .f32⟩
  | 123 => ⟨S2048x1024, .f32⟩
  | 124 => ⟨S2048x1024, .f32⟩
  | 125 => ⟨S2048x1024, .bf16⟩
  | 126 => ⟨S2048x2048, .bf16⟩
  | 127 => ⟨S_, .f32⟩
  | _ => ⟨S2048x7168, .f32⟩

abbrev hbmTy0_1 (i : Nat) : BufTy := match i % 128 with
  | 0 => ⟨S1024, .f32⟩
  | 1 => ⟨S1x1024, .f32⟩
  | _ => ⟨S2048x7168, .f32⟩

abbrev hbmTy (i : Nat) : BufTy := match i / 128 with
  | 0 => hbmTy0_0 i
  | 1 => hbmTy0_1 i
  | _ => ⟨S2048x7168, .f32⟩

abbrev bufTy : (tb : Table) → Fin (tcTables nBuf tb) → BufTy
  | .hbm, ⟨i, _⟩ => hbmTy i
  | _, _ => ⟨S2048x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_v30_2 : Ref sig .tc := ⟨.hbm, 50, rfl⟩
abbrev main_call0_cst_1 : Ref sig .tc := ⟨.hbm, 51, rfl⟩
abbrev main_call0_v6 : Ref sig .tc := ⟨.hbm, 52, rfl⟩
abbrev main_call0_v7 : Ref sig .tc := ⟨.hbm, 53, rfl⟩
abbrev main_v30_1 : Ref sig .tc := ⟨.hbm, 54, rfl⟩
abbrev main_v30_0 : Ref sig .tc := ⟨.hbm, 55, rfl⟩
abbrev main_v31 : Ref sig .tc := ⟨.hbm, 56, rfl⟩
abbrev main_call1_v0 : Ref sig .tc := ⟨.hbm, 57, rfl⟩
abbrev main_call1_v1 : Ref sig .tc := ⟨.hbm, 58, rfl⟩
abbrev main_call1_cst : Ref sig .tc := ⟨.hbm, 59, rfl⟩
abbrev main_call1_v2 : Ref sig .tc := ⟨.hbm, 60, rfl⟩
abbrev main_call1_v3 : Ref sig .tc := ⟨.hbm, 61, rfl⟩
abbrev main_call1_cst_0 : Ref sig .tc := ⟨.hbm, 62, rfl⟩
abbrev main_call1_v4 : Ref sig .tc := ⟨.hbm, 63, rfl⟩
abbrev main_v32_2 : Ref sig .tc := ⟨.hbm, 64, rfl⟩
abbrev main_call1_cst_1 : Ref sig .tc := ⟨.hbm, 65, rfl⟩
abbrev main_call1_v6 : Ref sig .tc := ⟨.hbm, 66, rfl⟩
abbrev main_call1_v7 : Ref sig .tc := ⟨.hbm, 67, rfl⟩
abbrev main_v32_1 : Ref sig .tc := ⟨.hbm, 68, rfl⟩
abbrev main_v32_0 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_call2_v0 : Ref sig .tc := ⟨.hbm, 73, rfl⟩
abbrev main_call2_v1 : Ref sig .tc := ⟨.hbm, 74, rfl⟩
abbrev main_call2_v2 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_call3_v0 : Ref sig .tc := ⟨.hbm, 79, rfl⟩
abbrev main_call3_v1 : Ref sig .tc := ⟨.hbm, 80, rfl⟩
abbrev main_call3_v2 : Ref sig .tc := ⟨.hbm, 81, rfl⟩
abbrev main_v39 : Ref sig .tc := ⟨.hbm, 82, rfl⟩
abbrev main_cst_6 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_cst_7 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_cst_8 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_cst_9 : Ref sig .tc := ⟨.hbm, 100, rfl⟩
abbrev main_v54 : Ref sig .tc := ⟨.hbm, 101, rfl⟩
abbrev main_v55 : Ref sig .tc := ⟨.hbm, 102, rfl⟩
abbrev main_cst_10 : Ref sig .tc := ⟨.hbm, 103, rfl⟩
abbrev main_v56 : Ref sig .tc := ⟨.hbm, 104, rfl⟩
abbrev main_v57 : Ref sig .tc := ⟨.hbm, 105, rfl⟩
abbrev main_cst_11 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_cst_12 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_cst_13 : Ref sig .tc := ⟨.hbm, 116, rfl⟩
abbrev main_v66 : Ref sig .tc := ⟨.hbm, 117, rfl⟩
abbrev main_v67 : Ref sig .tc := ⟨.hbm, 118, rfl⟩
abbrev main_cst_14 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_cst_15 : Ref sig .tc := ⟨.hbm, 127, rfl⟩
abbrev main_v75 : Ref sig .tc := ⟨.hbm, 128, rfl⟩
abbrev main_v76 : Ref sig .tc := ⟨.hbm, 129, rfl⟩

abbrev nD : Nat := 1
abbrev τ : Topo := Topo.v7x

variable {F : FTy → Type} [FloatOps F]
-- ==== EvenMix.lean ====
abbrev S2048x6144 : Shape := ⟨2, ![2048, 6144]⟩
abbrev S2048x1024 : Shape := ⟨2, ![2048, 1024]⟩
abbrev S4x256x256 : Shape := ⟨3, ![4, 256, 256]⟩
abbrev S1x1024 : Shape := ⟨2, ![1, 1024]⟩
abbrev S2048x2048 : Shape := ⟨2, ![2048, 2048]⟩
abbrev S256x1024 : Shape := ⟨2, ![256, 1024]⟩
abbrev S16x1024 : Shape := ⟨2, ![16, 1024]⟩
abbrev S256x2048 : Shape := ⟨2, ![256, 2048]⟩
abbrev S272x1024 : Shape := ⟨2, ![272, 1024]⟩
abbrev S256x1 : Shape := ⟨2, ![256, 1]⟩
abbrev S256x256 : Shape := ⟨2, ![256, 256]⟩
abbrev S1x256x256 : Shape := ⟨3, ![1, 256, 256]⟩
abbrev S1x256 : Shape := ⟨2, ![1, 256]⟩

abbrev nBuf : Space → Nat
  | .hbm => 5
  | .vmem => 13
  | .smem => 0
  | _ => 0

abbrev bufTy : (tb : Table) → Fin (tcTables nBuf tb) → BufTy
  | .hbm, ⟨0, _⟩ => ⟨S2048x6144, .f32⟩
  | .hbm, ⟨1, _⟩ => ⟨S2048x1024, .f32⟩
  | .hbm, ⟨2, _⟩ => ⟨S4x256x256, .bf16⟩
  | .hbm, ⟨3, _⟩ => ⟨S1x1024, .f32⟩
  | .hbm, ⟨4, _⟩ => ⟨S2048x2048, .bf16⟩
  | .local _ .vmem, ⟨0, _⟩ => ⟨S256x1024, .f32⟩
  | .local _ .vmem, ⟨1, _⟩ => ⟨S256x1024, .f32⟩
  | .local _ .vmem, ⟨2, _⟩ => ⟨S16x1024, .f32⟩
  | .local _ .vmem, ⟨3, _⟩ => ⟨S16x1024, .f32⟩
  | .local _ .vmem, ⟨4, _⟩ => ⟨S256x2048, .f32⟩
  | .local _ .vmem, ⟨5, _⟩ => ⟨S256x2048, .f32⟩
  | .local _ .vmem, ⟨6, _⟩ => ⟨S256x1024, .f32⟩
  | .local _ .vmem, ⟨7, _⟩ => ⟨S256x1024, .f32⟩
  | .local _ .vmem, ⟨8, _⟩ => ⟨S4x256x256, .bf16⟩
  | .local _ .vmem, ⟨9, _⟩ => ⟨S1x1024, .f32⟩
  | .local _ .vmem, ⟨10, _⟩ => ⟨S256x2048, .bf16⟩
  | .local _ .vmem, ⟨11, _⟩ => ⟨S256x2048, .bf16⟩
  | .local _ .vmem, ⟨12, _⟩ => ⟨S272x1024, .f32⟩
  | _, _ => ⟨S2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![v2.toNat, c3_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== EvenMixReferenceIdeal.lean ====
abbrev S2048x6144 : Shape := ⟨2, ![2048, 6144]⟩
abbrev S2048x1024 : Shape := ⟨2, ![2048, 1024]⟩
abbrev S4x256x256 : Shape := ⟨3, ![4, 256, 256]⟩
abbrev S1x1024 : Shape := ⟨2, ![1, 1024]⟩
abbrev S2048x2048 : Shape := ⟨2, ![2048, 2048]⟩
abbrev S2048 : Shape := ⟨1, ![2048]⟩
abbrev S_ : Shape := ⟨0, ![]⟩
abbrev S2048x256 : Shape := ⟨2, ![2048, 256]⟩
abbrev S2048x1 : Shape := ⟨2, ![2048, 1]⟩
abbrev S1x256x256 : Shape := ⟨3, ![1, 256, 256]⟩
abbrev S256x256 : Shape := ⟨2, ![256, 256]⟩

abbrev nBuf : Space → Nat
  | .hbm => 89
  | .vmem => 0
  | .smem => 0
  | _ => 0

abbrev bufTy : (tb : Table) → Fin (tcTables nBuf tb) → BufTy
  | .hbm, ⟨0, _⟩ => ⟨S2048x6144, .f32⟩
  | .hbm, ⟨1, _⟩ => ⟨S2048x1024, .f32⟩
  | .hbm, ⟨2, _⟩ => ⟨S4x256x256, .bf16⟩
  | .hbm, ⟨3, _⟩ => ⟨S1x1024, .f32⟩
  | .hbm, ⟨4, _⟩ => ⟨S2048x1024, .f32⟩
  | .hbm, ⟨5, _⟩ => ⟨S2048x2048, .f32⟩
  | .hbm, ⟨6, _⟩ => ⟨S2048, .i32⟩
  | .hbm, ⟨7, _⟩ => ⟨S_, .i32⟩
  | .hbm, ⟨8, _⟩ => ⟨S2048, .i32⟩
  | .hbm, ⟨9, _⟩ => ⟨S2048, .i32⟩
  | .hbm, ⟨10, _⟩ => ⟨S2048x256, .f32⟩
  | .hbm, ⟨11, _⟩ => ⟨S_, .f32⟩
  | .hbm, ⟨12, _⟩ => ⟨S_, .f32⟩
  | .hbm, ⟨13, _⟩ => ⟨S2048x256, .f32⟩
  | .hbm, ⟨14, _⟩ => ⟨S_, .i32⟩
  | .hbm, ⟨15, _⟩ => ⟨S2048, .i32⟩
  | .hbm, ⟨16, _⟩ => ⟨S2048, .i32⟩
  | .hbm, ⟨17, _⟩ => ⟨S2048, .f32⟩
  | .hbm, ⟨18, _⟩ => ⟨S2048x1, .f32⟩
  | .hbm, ⟨19, _⟩ => ⟨S2048x256, .f32⟩
  | .hbm, ⟨20, _⟩ => ⟨S2048x256, .f32⟩
  | .hbm, ⟨21, _⟩ => ⟨S2048x256, .f32⟩
  | .hbm, ⟨22, _⟩ => ⟨S1x256x256, .bf16⟩
  | .hbm, ⟨23, _⟩ => ⟨S256x256, .bf16⟩
  | .hbm, ⟨24, _⟩ => ⟨S256x256, .f32⟩
  | .hbm, ⟨25, _⟩ => ⟨S2048x256, .f32⟩
  | .hbm, ⟨26, _⟩ => ⟨S2048x256, .f32⟩
  | .hbm, ⟨27, _⟩ => ⟨S_, .f32⟩
  | .hbm, ⟨28, _⟩ => ⟨S_, .f32⟩
  | .hbm, ⟨29, _⟩ => ⟨S2048x256, .f32⟩
  | .hbm, ⟨30, _⟩ => ⟨S_, .i32⟩
  | .hbm, ⟨31, _⟩ => ⟨S2048, .i32⟩
  | .hbm, ⟨32, _⟩ => ⟨S2048, .i32⟩
  | .hbm, ⟨33, _⟩ => ⟨S2048, .f32⟩
  | .hbm, ⟨34, _⟩ => ⟨S2048x1, .f32⟩
  | .hbm, ⟨35, _⟩ => ⟨S2048x256, .f32⟩
  | .hbm, ⟨36, _⟩ => ⟨S2048x256, .f32⟩
  | .hbm, ⟨37, _⟩ => ⟨S2048x256, .f32⟩
  | .hbm, ⟨38, _⟩ => ⟨S1x256x256, .bf16⟩
  | .hbm, ⟨39, _⟩ => ⟨S256x256, .bf16⟩
  | .hbm, ⟨40, _⟩ => ⟨S256x256, .f32⟩
  | .hbm, ⟨41, _⟩ => ⟨S2048x256, .f32⟩
  | .hbm, ⟨42, _⟩ => ⟨S2048x256, .f32⟩
  | .hbm, ⟨43, _⟩ => ⟨S_, .f32⟩
  | .hbm, ⟨44, _⟩ => ⟨S_, .f32⟩
  | .hbm, ⟨45, _⟩ => ⟨S2048x256, .f32⟩
  | .hbm, ⟨46, _⟩ => ⟨S_, .i32⟩
  | .hbm, ⟨47, _⟩ => ⟨S2048, .i32⟩
  | .hbm, ⟨48, _⟩ => ⟨S2048, .i32⟩
  | .hbm, ⟨49, _⟩ => ⟨S2048, .f32⟩
  | .hbm, ⟨50, _⟩ => ⟨S2048x1, .f32⟩
  | .hbm, ⟨51, _⟩ => ⟨S2048x256, .f32⟩
  | .hbm, ⟨52, _⟩ => ⟨S2048x256, .f32⟩
  | .hbm, ⟨53, _⟩ => ⟨S2048x256, .f32⟩
  | .hbm, ⟨54, _⟩ => ⟨S1x256x256, .bf16⟩
  | .hbm, ⟨55, _⟩ => ⟨S256x256, .bf16⟩
  | .hbm, ⟨56, _⟩ => ⟨S256x256, .f32⟩
  | .hbm, ⟨57, _⟩ => ⟨S2048x256, .f32⟩
  | .hbm, ⟨58, _⟩ => ⟨S2048x256, .f32⟩
  | .hbm, ⟨59, _⟩ => ⟨S_, .f32⟩
  | .hbm, ⟨60, _⟩ => ⟨S_, .f32⟩
  | .hbm, ⟨61, _⟩ => ⟨S2048x256, .f32⟩
  | .hbm, ⟨62, _⟩ => ⟨S_, .i32⟩
  | .hbm, ⟨63, _⟩ => ⟨S2048, .i32⟩
  | .hbm, ⟨64, _⟩ => ⟨S2048, .i32⟩
  | .hbm, ⟨65, _⟩ => ⟨S2048, .f32⟩
  | .hbm, ⟨66, _⟩ => ⟨S2048x1, .f32⟩
  | .hbm, ⟨67, _⟩ => ⟨S2048x256, .f32⟩
  | .hbm, ⟨68, _⟩ => ⟨S2048x256, .f32⟩
  | .hbm, ⟨69, _⟩ => ⟨S2048x256, .f32⟩
  | .hbm, ⟨70, _⟩ => ⟨S1x256x256, .bf16⟩
  | .hbm, ⟨71, _⟩ => ⟨S256x256, .bf16⟩
  | .hbm, ⟨72, _⟩ => ⟨S256x256, .f32⟩
  | .hbm, ⟨73, _⟩ => ⟨S2048x256, .f32⟩
  | .hbm, ⟨74, _⟩ => ⟨S2048x1024, .f32⟩
  | .hbm, ⟨75, _⟩ => ⟨S2048x1024, .f32⟩
  | .hbm, ⟨76, _⟩ => ⟨S2048x1024, .f32⟩
  | .hbm, ⟨77, _⟩ => ⟨S2048x2048, .f32⟩
  | .hbm, ⟨78, _⟩ => ⟨S2048x2048, .f32⟩
  | .hbm, ⟨79, _⟩ => ⟨S2048x2048, .f32⟩
  | .hbm, ⟨80, _⟩ => ⟨S_, .f32⟩
  | .hbm, ⟨81, _⟩ => ⟨S2048x2048, .f32⟩
  | .hbm, ⟨82, _⟩ => ⟨S2048x2048, .f32⟩
  | .hbm, ⟨83, _⟩ => ⟨S_, .f32⟩
  | .hbm, ⟨84, _⟩ => ⟨S2048x2048, .f32⟩
  | .hbm, ⟨85, _⟩ => ⟨S2048x2048, .f32⟩
  | .hbm, ⟨86, _⟩ => ⟨S2048x2048, .f32⟩
  | .hbm, ⟨87, _⟩ => ⟨S2048x2048, .f32⟩
  | .hbm, ⟨88, _⟩ => ⟨S2048x2048, .bf16⟩
  | _, _ => ⟨S2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_c_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_c_4 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_5 : Ref sig .tc := ⟨.hbm, 59, rfl⟩
abbrev main_v48 : Ref sig .tc := ⟨.hbm, 60, rfl⟩
abbrev main_v49 : Ref sig .tc := ⟨.hbm, 61, rfl⟩
abbrev main_c_6 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_call0_v0 : Ref sig .tc := ⟨.hbm, 78, rfl⟩
abbrev main_call0_v1 : Ref sig .tc := ⟨.hbm, 79, rfl⟩
abbrev main_call0_cst : Ref sig .tc := ⟨.hbm, 80, rfl⟩
abbrev main_call0_v2 : Ref sig .tc := ⟨.hbm, 81, rfl⟩
abbrev main_call0_v3 : Ref sig .tc := ⟨.hbm, 82, rfl⟩
abbrev main_call0_cst_0 : Ref sig .tc := ⟨.hbm, 83, rfl⟩
abbrev main_call0_v4 : Ref sig .tc := ⟨.hbm, 84, rfl⟩
abbrev main_call0_v5 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩

abbrev nD : Nat := 1
abbrev τ : Topo := Topo.v7x

variable {F : FTy → Type} [FloatOps F]
-- ==== Proof.Scalars.lean ====
module
public import Idealize.ShloMosaic.PureOps.Ideal.Laws
public import Idealize.ShloMosaic.Lib.ValueIdx
public import Mathlib.Analysis.SpecialFunctions.Log.Basic

/-! Extended reals that are images of reals: each operation of the two programs, taken at real operands, is the image of
   the real operation; and the few facts about the logarithm of the logistic function that the two sides share. -/

@[expose] public section

noncomputable section

namespace Cert.Sba

open Idealize.ShloMosaic

/-- The factor `1 / √128` as the programs write it: the rational of its float word. -/
def sc : ℝ := 11863283 / 2 ^ 27

/-- The logarithm of the logistic function, as the kernel computes it. -/
def lsg (x : ℝ) : ℝ := min x 0 - Real.log (1 + Real.exp (-|x|))

theorem ofBits_zero : Ideal.ofBits .f32 0x00000000#32 = ((0 : ℝ) : EReal) := by
  simp [Ideal.ofBits, Ideal.ieee, -EReal.coe_mul]

theorem ofBits_one : Ideal.ofBits .f32 0x3F800000#32 = ((1 : ℝ) : EReal) := by
  simp [Ideal.ofBits, Ideal.ieee, -EReal.coe_mul]; norm_num

theorem ofBits_sc : Ideal.ofBits .f32 0x3DB504F3#32 = ((sc : ℝ) : EReal) := by
  simp [Ideal.ofBits, Ideal.ieee, sc, -EReal.coe_mul]; norm_num

theorem ofBits_top : Ideal.ofBits .f32 0x7F800000#32 = ⊤ := by
  simp [Ideal.ofBits, Ideal.ieee, -EReal.coe_mul]

/-- `1 - 0.9 ^ 10` in f32. -/
theorem ofBits_mean : Ideal.ofBits .f32 0x3F26BD02#32 = ((5463681 / 8388608 : ℝ) : EReal) := by
  simp [Ideal.ofBits, Ideal.ieee, -EReal.coe_mul]; norm_num

/-- `1 - 0.999 ^ 10` in f32. -/
theorem ofBits_square : Ideal.ofBits .f32 0x3C231ACC#32 = ((2672307 / 268435456 : ℝ) : EReal) := by
  simp [Ideal.ofBits, Ideal.ieee, -EReal.coe_mul]; norm_num

theorem exp_coe (x : ℝ) : Ideal.exp (x : EReal) = ((Real.exp x : ℝ) : EReal) := rfl

theorem log_coe {x : ℝ} (h : 0 < x) : Ideal.log (x : EReal) = ((Real.log x : ℝ) : EReal) := by
  show (if x ≤ 0 then (⊥ : EReal) else (Real.log x : EReal)) = _
  rw [if_neg (not_le.mpr h)]

theorem log1p_coe {x : ℝ} (h : 0 < x) : Ideal.log1p (x : EReal) = ((Real.log (1 + x) : ℝ) : EReal) := by
  unfold Ideal.log1p
  rw [← EReal.coe_one, ← EReal.coe_add, log_coe (by linarith)]

theorem min_coe (x y : ℝ) : min (x : EReal) (y : EReal) = ((min x y : ℝ) : EReal) :=
  (EReal.coe_strictMono.monotone.map_min).symm

theorem max_coe (x y : ℝ) : max (x : EReal) (y : EReal) = ((max x y : ℝ) : EReal) :=
  (EReal.coe_strictMono.monotone.map_max).symm

theorem abs_coe (x : ℝ) : max (x : EReal) (-(x : EReal)) = ((|x| : ℝ) : EReal) := by
  rw [← EReal.coe_neg, max_coe]; rfl

theorem select_coe (b : Bool) (x y : ℝ) :
    Scalar.select (BitVec.ofBool b) (x : EReal) (y : EReal) = ((if b then x else y : ℝ) : EReal) := by
  cases b <;> rfl

theorem sum_coe {ι : Type} (s : Finset ι) (f : ι → ℝ) :
    (∑ i ∈ s, ((f i : ℝ) : EReal)) = ((∑ i ∈ s, f i : ℝ) : EReal) := by
  classical
  induction s using Finset.induction with
  | empty => simp
  | insert a s h ih => rw [Finset.sum_insert h, Finset.sum_insert h, ih, EReal.coe_add]

/-- The kernel's logarithm of the logistic function at a real. -/
theorem lsg_coe (z : ℝ) :
    min (z : EReal) 0 - Ideal.log (1 + Ideal.exp (0 - max (z : EReal) (-(z : EReal)))) = ((lsg z : ℝ) : EReal) := by
  rw [← EReal.coe_zero, ← EReal.coe_one, min_coe, abs_coe, ← EReal.coe_sub, exp_coe, ← EReal.coe_add,
    log_coe (by positivity), ← EReal.coe_sub, zero_sub]
  rfl

/-- `min x 0 − x = min (−x) 0`: the logarithm of `1 − σ(x)` is that of `σ(x)` less `x`. -/
theorem lsg_sub (x : ℝ) : lsg x - x = lsg (-x) := by
  unfold lsg
  rw [abs_neg]
  rcases le_total x 0 with h | h
  · rw [min_eq_left h, min_eq_right (by linarith)]; ring
  · rw [min_eq_right h, min_eq_left (by linarith)]; ring

/-- `σ(x) + σ(−x) = 1`. -/
theorem exp_lsg_add (x : ℝ) : Real.exp (lsg x) + Real.exp (lsg (-x)) = 1 := by
  have key : ∀ y : ℝ, 0 ≤ y → Real.exp (lsg y) + Real.exp (lsg (-y)) = 1 := by
    intro y hy
    unfold lsg
    rw [abs_neg, abs_of_nonneg hy, min_eq_right hy, min_eq_left (by linarith : -y ≤ 0), Real.exp_sub, Real.exp_sub,
      Real.exp_log (by positivity), Real.exp_zero, ← add_div]
    exact div_self (by positivity)
  rcases le_total 0 x with h | h
  · exact key x h
  · have := key (-x) (by linarith)
    rw [neg_neg] at this
    linarith

/-- The softplus of the reference, `max x 0 + log (1 + exp (−|x|))`, is the negated logarithm of `σ(−x)`. -/
theorem softplus_eq (x : ℝ) : max x 0 + Real.log (1 + Real.exp (-|x|)) = -lsg (-x) := by
  unfold lsg
  rw [abs_neg]
  rcases le_total x 0 with h | h
  · rw [max_eq_right h, min_eq_right (by linarith)]; ring
  · rw [max_eq_left h, min_eq_left (by linarith)]; ring

end Cert.Sba
-- ==== Proof.Stick.lean ====
module
public import proofs.«01_k».proof.Proof.Scalars
public import Mathlib.Algebra.BigOperators.Intervals

/-! Stick-breaking attention and its gradients over the reals, for one head: rows `t`, keys `s`, features `d`, each a
   natural number; and the sums over the blocks of 256 keys or rows in which the kernel visits them. -/

@[expose] public section

noncomputable section

namespace Cert.Sba

open Finset

variable (Q K V D : ℕ → ℕ → ℝ)

/-- The logit of key `s` for row `t`. -/
def Z (t s : ℕ) : ℝ := (∑ d ∈ range 128, Q t d * K s d) * sc

/-- What row `t` loses to key `s`: the logarithm of `1 − σ(z)`, for the keys before the row. -/
def LM (t s : ℕ) : ℝ := if s < t then lsg (-(Z Q K t s)) else 0

/-- The whole of what row `t` loses. -/
def LT (t : ℕ) : ℝ := ∑ s ∈ range 2048, LM Q K t s

/-- The weight of key `s` for row `t`: `σ(z)` times what the later keys leave of the stick. -/
def W (t s : ℕ) : ℝ :=
  if s < t then Real.exp (lsg (Z Q K t s) + (LT Q K t - ∑ j ∈ range (s + 1), LM Q K t j)) else 0

/-- The gradient at the weight, times the weight. -/
def DA (t s : ℕ) : ℝ := (∑ d ∈ range 128, D t d * V s d) * W Q K t s

/-- The gradient at the product of row `t` of `q` and row `s` of `k`. -/
def DZ (t s : ℕ) : ℝ :=
  (DA Q K V D t s * (1 - Real.exp (lsg (Z Q K t s)))
    - if s < t then Real.exp (lsg (Z Q K t s)) * ∑ j ∈ range s, DA Q K V D t j else 0) * sc

/-- The gradient at `q`. -/
def DQ (t d : ℕ) : ℝ := ∑ s ∈ range 2048, DZ Q K V D t s * K s d

/-- The gradient at `k`. -/
def DK (s d : ℕ) : ℝ := ∑ t ∈ range 2048, DZ Q K V D t s * Q t d

/-- The gradient at `v`. -/
def DV (s d : ℕ) : ℝ := ∑ t ∈ range 2048, W Q K t s * D t d

/-- The attention's output. -/
def AT (t d : ℕ) : ℝ := ∑ s ∈ range 2048, W Q K t s * V s d

theorem LM_of_le {t s : ℕ} (h : t ≤ s) : LM Q K t s = 0 := if_neg (not_lt.mpr h)
theorem W_of_le {t s : ℕ} (h : t ≤ s) : W Q K t s = 0 := if_neg (not_lt.mpr h)
theorem DA_of_le {t s : ℕ} (h : t ≤ s) : DA Q K V D t s = 0 := by
  unfold DA; rw [W_of_le Q K h, mul_zero]
theorem DZ_of_le {t s : ℕ} (h : t ≤ s) : DZ Q K V D t s = 0 := by
  unfold DZ; rw [DA_of_le Q K V D h, if_neg (not_lt.mpr h)]; ring

/-- A sum over the first `n + 1` blocks of 256 is the one over the first `n` and the block's. -/
theorem sum_block (f : ℕ → ℝ) (n : ℕ) :
    ∑ s ∈ range (256 * (n + 1)), f s = ∑ s ∈ range (256 * n), f s + ∑ b ∈ range 256, f (256 * n + b) := by
  rw [Nat.mul_succ, sum_range_add]

/-- A sum over the keys up to and with `256 n + b` is the one over the first `n` blocks and, in the block, up to `b`. -/
theorem sum_upto (f : ℕ → ℝ) (n b : ℕ) (hb : b < 256) :
    ∑ s ∈ range (256 * n + b + 1), f s
      = ∑ s ∈ range (256 * n), f s + ∑ x ∈ range 256, f (256 * n + x) * (if x ≤ b then 1 else 0) := by
  rw [add_assoc, sum_range_add]
  congr 1
  simp only [mul_ite, mul_one, mul_zero]
  rw [← sum_filter]
  refine sum_congr ?_ fun _ _ => rfl
  ext x; simp only [mem_range, mem_filter]; omega

/-- The same for the keys before `256 n + b`. -/
theorem sum_before (f : ℕ → ℝ) (n b : ℕ) (hb : b < 256) :
    ∑ s ∈ range (256 * n + b), f s
      = ∑ s ∈ range (256 * n), f s + ∑ x ∈ range 256, f (256 * n + x) * (if x < b then 1 else 0) := by
  rw [sum_range_add]
  congr 1
  simp only [mul_ite, mul_one, mul_zero]
  rw [← sum_filter]
  refine sum_congr ?_ fun _ _ => rfl
  ext x; simp only [mem_range, mem_filter]; omega

/-- A sum whose terms vanish from `m` on is the sum of the first `m` terms. -/
theorem sum_cut (f : ℕ → ℝ) {m n : ℕ} (h : m ≤ n) (hf : ∀ s, m ≤ s → f s = 0) :
    ∑ s ∈ range n, f s = ∑ s ∈ range m, f s := by
  symm
  refine sum_subset (range_mono h) fun s _ hs => hf s ?_
  simpa using hs

end Cert.Sba
-- ==== Proof.Block.lean ====
module
public import proofs.«01_k».proof.Proof.Stick
public import proofs.«01_k».proof.Proof.Gen.KernelIdeal.Skeleton
public import Idealize.ShloMosaic.Lib.Pointwise
public import Idealize.ShloMosaic.Lib.WordCmp

/-! What one trip of the kernel's loop computes from real operands: a block of 256 rows against a block of 256 keys. -/

@[expose] public section

set_option maxRecDepth 16384

noncomputable section

namespace Cert.Sba

open Idealize.ShloMosaic Idealize.SL.Sem Cert.KernelIdeal Cert.KernelIdeal.Gen Finset

/-- The rank-two array of the images of the reals `f r c`. -/
def up (n m : ℕ) (f : ℕ → ℕ → ℝ) : (⟨2, ![n, m]⟩ : Shape).Idx → EReal := fun j => ((f (j 0).val (j 1).val : ℝ) : EReal)

theorem up_ix2 {n m : ℕ} (f : ℕ → ℕ → ℝ) (a : Fin n) (b : Fin m) : up n m f (ix2 a b) = ((f a.val b.val : ℝ) : EReal) := rfl

theorem up_congr {n m : ℕ} {f g : ℕ → ℕ → ℝ} (h : ∀ a < n, ∀ b < m, f a b = g a b) : up n m f = up n m g :=
  funext fun j => congrArg _ (h _ (ValueIdx.idx2_lt0 j) _ (ValueIdx.idx2_lt1 j))

theorem sum_up (n : ℕ) (f : ℕ → ℝ) : (∑ x : Fin n, ((f x.val : ℝ) : EReal)) = ((∑ x ∈ range n, f x : ℝ) : EReal) := by
  rw [sum_coe, Finset.sum_range]

/-- The product of a block of rows with a block of keys along the features. -/
theorem matmul_nt (a b : ℕ → ℕ → ℝ) :
    matmul (F := Ideal) (φ₁ := .bf16) (φ₂ := .bf16) dot_S256x128_S256x128_S256x256_1_1_0_0_n_n none (up 256 128 a) (up 256 128 b)
        (constant S256x256 .f32 0x00000000#32)
      = up 256 256 fun r c => ∑ d ∈ range 128, a r d * b c d := by
  funext j
  idx_vars j
  pointwise
  simp only [up_ix2, ← EReal.coe_mul]
  exact sum_up 128 fun d => a _ d * b _ d

/-- The product of two blocks of 256 by 256. -/
theorem matmul_nn (a b : ℕ → ℕ → ℝ) :
    matmul (F := Ideal) (φ₁ := .bf16) (φ₂ := .bf16) dot_S256x256_S256x256_S256x256_1_0_0_1_n_n none (up 256 256 a) (up 256 256 b)
        (constant S256x256 .f32 0x00000000#32)
      = up 256 256 fun r c => ∑ x ∈ range 256, a r x * b x c := by
  funext j
  idx_vars j
  pointwise
  simp only [up_ix2, ← EReal.coe_mul]
  exact sum_up 256 fun x => a _ x * b x _

/-- The product of a block of 256 by 256 with a block of 256 rows of features. -/
theorem matmul_nf (a b : ℕ → ℕ → ℝ) :
    matmul (F := Ideal) (φ₁ := .bf16) (φ₂ := .bf16) dot_S256x256_S256x128_S256x128_1_0_0_1_n_n none (up 256 256 a) (up 256 128 b)
        (constant S256x128 .f32 0x00000000#32)
      = up 256 128 fun r d => ∑ x ∈ range 256, a r x * b x d := by
  funext j
  idx_vars j
  pointwise
  simp only [up_ix2, ← EReal.coe_mul]
  exact sum_up 256 fun x => a _ x * b x _

/-- The product of the transpose of a block of 256 by 256 with a block of 256 rows of features. -/
theorem matmul_tf (a b : ℕ → ℕ → ℝ) :
    matmul (F := Ideal) (φ₁ := .bf16) (φ₂ := .bf16) dot_S256x256_S256x128_S256x128_0_0_1_1_n_n none (up 256 256 a) (up 256 128 b)
        (constant S256x128 .f32 0x00000000#32)
      = up 256 128 fun c d => ∑ x ∈ range 256, a x c * b x d := by
  funext j
  idx_vars j
  pointwise
  simp only [up_ix2, ← EReal.coe_mul]
  exact sum_up 256 fun x => a x _ * b x _

/-- The product in two halves: the rounded block and what the rounding left, which is zero here. -/
theorem matmul_split (a b : ℕ → ℕ → ℝ) :
    addf (matmul (F := Ideal) (φ₁ := .bf16) (φ₂ := .bf16) dot_S256x256_S256x256_S256x256_1_0_0_1_n_n none
          (truncf (F := Ideal) (φ := .f32) .bf16 (up 256 256 a) bitsLt_bf16_f32) (up 256 256 b) (constant S256x256 .f32 0x00000000#32))
        (matmul (F := Ideal) (φ₁ := .bf16) (φ₂ := .bf16) dot_S256x256_S256x256_S256x256_1_0_0_1_n_n none
          (truncf (F := Ideal) (φ := .f32) .bf16
            (subf (up 256 256 a) (extf (F := Ideal) .f32 (truncf (F := Ideal) (φ := .f32) .bf16 (up 256 256 a) bitsLt_bf16_f32) bitsLt_bf16_f32))
            bitsLt_bf16_f32)
          (up 256 256 b) (constant S256x256 .f32 0x00000000#32))
      = up 256 256 fun r c => ∑ x ∈ range 256, a r x * b x c := by
  have h0 : (truncf (F := Ideal) (φ := .f32) .bf16
      (subf (up 256 256 a) (extf (F := Ideal) .f32 (truncf (F := Ideal) (φ := .f32) .bf16 (up 256 256 a) bitsLt_bf16_f32) bitsLt_bf16_f32))
      bitsLt_bf16_f32) = up 256 256 fun _ _ => 0 := by
    funext j
    show ((a _ _ : ℝ) : EReal) - ((a _ _ : ℝ) : EReal) = ((0 : ℝ) : EReal)
    rw [← EReal.coe_sub, sub_self]
  have h1 : (truncf (F := Ideal) (φ := .f32) .bf16 (up 256 256 a) bitsLt_bf16_f32) = up 256 256 a := rfl
  rw [h0, h1, matmul_nn, matmul_nn]
  funext j
  show ((_ : ℝ) : EReal) + ((_ : ℝ) : EReal) = _
  rw [← EReal.coe_add]
  simp only [zero_mul, sum_const_zero, add_zero]
  rfl

/-- The loop of query block `i` has `i + 1` trips. -/
theorem trips_eq : ∀ i : grid0.Coords, (k0_t1_loop i).trips = (i 1).val + 1 := by decide +kernel

/-- Whether key `256 n + b` is before row `256 i + a`. -/
theorem pay10_eq (i : grid0.Coords) (k : Fin (k0_t1_loop i).trips) :
    k0_pay10 i (k0_pay35 i) (iota .tc S256x256 32 [1] iota_S256x256_d1_w32) 0#32 1#32 k
      = fun j => BitVec.ofBool (decide (256 * k.val + (j 1).val < 256 * (i 1).val + (j 0).val)) := by
  funext j
  have hk : k.val < 8 := lt_of_lt_of_le k.isLt (k0_t1_abs i).2.1
  have hi : (i 1).val < 8 := (i 1).isLt
  have h0 : (j 0).val < 256 := (j 0).isLt
  have h1 : (j 1).val < 256 := (j 1).isLt
  unfold k0_pay10 k0_pay35
  pointwise
  have e1 : IntOp.addi (Scalar.muli (Scf.iv 0#32 1#32 k.val) 256#32) (BitVec.ofNat 32 (j 1).val) = BitVec.ofNat 32 (256 * k.val + (j 1).val) := by
    show (0#32 + BitVec.ofNat 32 k.val * 1#32) * 256#32 + BitVec.ofNat 32 (j 1).val = _
    apply BitVec.eq_of_toNat_eq
    simp only [BitVec.toNat_add, BitVec.toNat_mul, BitVec.toNat_ofNat]
    omega
  have e2 : IntOp.addi (Scalar.muli (BitVec.ofNat 32 (i 1).val) 256#32) (BitVec.ofNat 32 (j 0).val) = BitVec.ofNat 32 (256 * (i 1).val + (j 0).val) := by
    show BitVec.ofNat 32 (i 1).val * 256#32 + BitVec.ofNat 32 (j 0).val = _
    apply BitVec.eq_of_toNat_eq
    simp only [BitVec.toNat_add, BitVec.toNat_mul, BitVec.toNat_ofNat]
    omega
  rw [e1, e2, WordCmp.cmpi_slt_ofNat (by omega) (by omega)]

/-- The table of ones and zeros with `1` where row `x` is at most column `b`. -/
theorem pay33_eq : k0_pay33 (F := Ideal) = up 256 256 fun x b => if x ≤ b then 1 else 0 := by
  unfold k0_pay33
  funext j
  idx_vars j
  pointwise
  rw [WordCmp.cmpi_sle_ofNat (by omega) (by omega), ← EReal.coe_zero, ← EReal.coe_one, select_coe, up_ix2]
  simp only [decide_eq_true_eq]

/-- The table of ones and zeros with `1` where row `x` is less than column `b`. -/
theorem pay34_eq : k0_pay34 (F := Ideal) = up 256 256 fun x b => if x < b then 1 else 0 := by
  unfold k0_pay34
  funext j
  idx_vars j
  pointwise
  rw [WordCmp.cmpi_slt_ofNat (by omega) (by omega), ← EReal.coe_zero, ← EReal.coe_one, select_coe, up_ix2]
  simp only [decide_eq_true_eq]

section

variable (i : grid0.Coords) (k : Fin (k0_t1_loop i).trips) {q kk dd vv z lm w da : ℕ → ℕ → ℝ}

theorem pay11_eq :
    k0_pay11 (F := Ideal) (up 256 128 q) (up 256 128 kk) = up 256 256 fun a b => (∑ d ∈ range 128, q a d * kk b d) * sc := by
  unfold k0_pay11
  dsimp only
  rw [matmul_nt]
  funext j
  idx_vars j
  pointwise
  rw [ofBits_sc]
  exact (EReal.coe_mul _ _).symm

theorem pay12_eq (h : k0_pay11 (F := Ideal) (up 256 128 q) (up 256 128 kk) = up 256 256 z) :
    k0_pay12 (F := Ideal) (up 256 128 q) (up 256 128 kk) = up 256 256 fun a b => lsg (z a b) := by
  unfold k0_pay12
  dsimp only
  rw [h]
  funext j
  idx_vars j
  pointwise
  exact lsg_coe _

theorem pay13_eq (h : k0_pay11 (F := Ideal) (up 256 128 q) (up 256 128 kk) = up 256 256 z) :
    k0_pay13 (F := Ideal) i (up 256 128 q) (k0_pay35 i) (iota .tc S256x256 32 [1] iota_S256x256_d1_w32) 0#32 1#32 k (up 256 128 kk)
      = up 256 256 fun a b => if 256 * k.val + b < 256 * (i 1).val + a then lsg (-(z a b)) else 0 := by
  unfold k0_pay13
  dsimp only
  rw [pay12_eq h, h, pay10_eq]
  funext j
  idx_vars j
  pointwise
  rw [← EReal.coe_zero, up_ix2, up_ix2, ← EReal.coe_sub, lsg_sub]
  exact (apply_ite _ _ _ _).symm

theorem pay14_eq (lt ls : ℕ → ℝ) (h11 : k0_pay11 (F := Ideal) (up 256 128 q) (up 256 128 kk) = up 256 256 z)
    (h13 : k0_pay13 (F := Ideal) i (up 256 128 q) (k0_pay35 i) (iota .tc S256x256 32 [1] iota_S256x256_d1_w32) 0#32 1#32 k (up 256 128 kk) = up 256 256 lm) :
    k0_pay14 (F := Ideal) i (up 256 128 q) (up 256 1 fun a _ => lt a) k0_pay33 (k0_pay35 i) (iota .tc S256x256 32 [1] iota_S256x256_d1_w32) 0#32 1#32 k
        (up 256 1 fun a _ => ls a) (up 256 128 kk)
      = up 256 256 fun a b => if 256 * k.val + b < 256 * (i 1).val + a then
          Real.exp (lsg (z a b) + (lt a - ls a - ∑ x ∈ range 256, lm a x * (if x ≤ b then 1 else 0))) else 0 := by
  unfold k0_pay14
  dsimp only
  rw [h13, pay12_eq h11, pay10_eq, pay33_eq, matmul_split]
  funext j
  idx_vars j
  pointwise
  simp only [up_ix2, ← EReal.coe_sub, ← EReal.coe_add, exp_coe, ← EReal.coe_zero]
  exact (apply_ite _ _ _ _).symm

theorem pay15_eq (lt ls : ℕ → ℝ)
    (h14 : k0_pay14 (F := Ideal) i (up 256 128 q) (up 256 1 fun a _ => lt a) k0_pay33 (k0_pay35 i) (iota .tc S256x256 32 [1] iota_S256x256_d1_w32) 0#32 1#32 k
        (up 256 1 fun a _ => ls a) (up 256 128 kk) = up 256 256 w) :
    k0_pay15 (F := Ideal) i (up 256 128 q) (up 256 128 dd) (up 256 1 fun a _ => lt a) k0_pay33 (k0_pay35 i) (iota .tc S256x256 32 [1] iota_S256x256_d1_w32) 0#32 1#32 k
        (up 256 1 fun a _ => ls a) (up 256 128 kk) (up 256 128 vv)
      = up 256 256 fun a b => (∑ d ∈ range 128, dd a d * vv b d) * w a b := by
  unfold k0_pay15
  dsimp only
  rw [h14, matmul_nt]
  funext j
  exact (EReal.coe_mul _ _).symm

/-- The gradient of the logits of a block, from the gradient of the weights and the running sum before the block. -/
theorem pay38_eq (s : ℕ → ℝ) (n r : ℕ) (l : ℕ → ℕ → ℝ) :
    k0_pay38 (F := Ideal) (up 256 1 fun a _ => s a) (fun j => BitVec.ofBool (decide (256 * n + (j 1).val < 256 * r + (j 0).val))) (up 256 256 l) (up 256 256 da)
        (truncf (F := Ideal) (φ := .f32) .bf16 (up 256 256 da) bitsLt_bf16_f32)
        (subf (up 256 256 da) (extf (F := Ideal) .f32 (truncf (F := Ideal) (φ := .f32) .bf16 (up 256 256 da) bitsLt_bf16_f32) bitsLt_bf16_f32))
      = up 256 256 fun a b => (da a b * (1 - Real.exp (l a b)) - (if 256 * n + b < 256 * r + a then
          Real.exp (l a b) * (s a + ∑ x ∈ range 256, da a x * (if x < b then 1 else 0)) else 0)) * sc := by
  unfold k0_pay38
  dsimp only
  rw [pay34_eq, matmul_split]
  funext j
  idx_vars j
  pointwise
  rw [ofBits_sc]
  simp only [up_ix2, exp_coe]
  rw [← EReal.coe_zero, ← EReal.coe_one]
  simp only [← EReal.coe_sub, ← EReal.coe_add, ← EReal.coe_mul]
  change (_ - @ite EReal (256 * n + j1.val < 256 * r + j0.val) (Nat.decLt _ _) _ _) * _ = _
  by_cases h : 256 * n + j1.val < 256 * r + j0.val
  · rw [if_pos h, if_pos h, ← EReal.coe_sub, ← EReal.coe_mul]
  · rw [if_neg h, if_neg h, ← EReal.coe_sub, ← EReal.coe_mul]

/-- A row's running sum after a block: what it was and the sum of the block's row. -/
theorem pay42_eq (s : ℕ → ℝ) :
    k0_pay42 (F := Ideal) (up 256 1 fun a _ => s a) (up 256 256 lm) = up 256 1 fun a _ => s a + ∑ x ∈ range 256, lm a x := by
  unfold k0_pay42
  funext j
  idx_vars j
  pointwise
  simp only [up_ix2]
  rw [sum_up 256 fun x => lm _ x, ← EReal.coe_add]

theorem pay43_eq (s : ℕ → ℝ) :
    k0_pay43 (F := Ideal) (up 256 1 fun a _ => s a) (up 256 256 da) = up 256 1 fun a _ => s a + ∑ x ∈ range 256, da a x :=
  pay42_eq s

/-- The sum of two arrays of reals. -/
theorem addf_up (n m : ℕ) (f g : ℕ → ℕ → ℝ) :
    addf (F := Ideal) (φ := .f32) (up n m f) (up n m g) = up n m fun a b => f a b + g a b := by
  funext j
  exact (EReal.coe_add _ _).symm

end
end Cert.Sba
-- ==== Proof.Trip.lean ====
module
public import proofs.«01_k».proof.Proof.Block
public import proofs.«01_k».proof.Proof.Gen.KernelIdeal.Loops
public import Idealize.ShloMosaic.Lib.WritesUnit
public import Idealize.ShloMosaic.Lib.Pipeline.ValueKit

/-! One trip of the backward kernel's loop over key blocks: the carried values it yields and the blocks it stores into the
   two accumulators, as the body's own expressions of the blocks it loads. -/

@[expose] public section

set_option maxRecDepth 16384

noncomputable section

namespace Cert.Sba

open Idealize.ShloMosaic Idealize.SL Idealize.SL.Sem Cert.KernelIdeal Cert.KernelIdeal.Gen

/-- The buffers the body runs over. -/
structure Refs where
  (arg2 : Memref sig .tc .vmem S256x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .f32) (harg12 : arg12.IsWhole) (arg13 : Memref sig .tc .vmem S2048x128 .f32) (harg13 : arg13.IsWhole)

section

variable {F : FTy → Type} [FloatOps F]
variable (𝒱 : Variants) (c : Dev nD) (bd : Option 𝒱.V) (i : grid0.Coords) (r : Refs) (v3 v5 : Vec F S256x128 .f32) (v7 : Vec F S256x1 .f32) (v27 : IVec S256x256 32) (X10 : BufTy.Contents (Elt F) r.arg10.view.ty) (X11 : BufTy.Contents (Elt F) r.arg11.view.ty) (k : Fin (k0_t1_loop i).trips)

/-- Rows `256 k …` of an array of 2048 rows. -/
abbrev rowsAt {e : EltTy} (X : Vec F S2048x128 e) : Vec F S256x128 e :=
  View.ld X (Rect.unit (k0_off1 i k) ![256, 128] (k0_off1_inb i k))

/-- The mask of the trip. -/
abbrev mk := k0_pay10 i (k0_pay35 i) v27 0#32 1#32 k

abbrev tR := tripR_k0_t1 (F := F) 𝒱 c bd i r.arg2 r.harg2 r.arg3 r.harg3 r.arg4 r.harg4 r.arg5 r.harg5 r.arg6 r.harg6 r.arg7 r.harg7 r.arg8 r.harg8 r.arg9 r.harg9 r.arg10 r.harg10 r.arg11 r.harg11 r.arg12 r.harg12 r.arg13 r.harg13 v3 v5 v7 v27 X10 X11 k
abbrev tL := tripL_k0_t1 (F := F) 𝒱 c bd i r.arg2 r.harg2 r.arg3 r.harg3 r.arg4 r.harg4 r.arg5 r.harg5 r.arg6 r.harg6 r.arg7 r.harg7 r.arg8 r.harg8 r.arg9 r.harg9 r.arg10 r.harg10 r.arg11 r.harg11 r.arg12 r.harg12 r.arg13 r.harg13 v3 v5 v7 v27 X10 X11 k

/-- The trip's logarithms of the logistic function. -/
abbrev tLS (kk : Vec F S256x128 .bf16) := k0_pay12 (k0_pay30 v3) kk
abbrev tLM (kk : Vec F S256x128 .bf16) := k0_pay13 i (k0_pay30 v3) (k0_pay35 i) v27 0#32 1#32 k kk
abbrev tW (ls : FVec F S256x1 .f32) (kk : Vec F S256x128 .bf16) := k0_pay14 i (k0_pay30 v3) (k0_pay32 v7) (k0_pay33 (F := F)) (k0_pay35 i) v27 0#32 1#32 k ls kk
abbrev tDA (ls : FVec F S256x1 .f32) (kk vv : Vec F S256x128 .bf16) := k0_pay15 i (k0_pay30 v3) (k0_pay31 v5) (k0_pay32 v7) (k0_pay33 (F := F)) (k0_pay35 i) v27 0#32 1#32 k ls kk vv
abbrev tDAh (ls : FVec F S256x1 .f32) (kk vv : Vec F S256x128 .bf16) := k0_pay16 i (k0_pay30 v3) (k0_pay31 v5) (k0_pay32 v7) (k0_pay33 (F := F)) (k0_pay35 i) v27 0#32 1#32 k ls kk vv
abbrev tDAl (ls : FVec F S256x1 .f32) (kk vv : Vec F S256x128 .bf16) := k0_pay17 i (k0_pay30 v3) (k0_pay31 v5) (k0_pay32 v7) (k0_pay33 (F := F)) (k0_pay35 i) v27 0#32 1#32 k ls kk vv

/-- What the trip yields. -/
theorem tR_eq (acc f12 f13) :
    tR 𝒱 c bd i r v3 v5 v7 v27 X10 X11 k acc f12 f13
      = (have kk := rowsAt i k (r.arg10.view.read (Elt F) X10)
         have vv := rowsAt i k (r.arg11.view.read (Elt F) X11)
         (k0_pay39 acc.1 acc.2.2 (mk i v27 k) kk (tLS v3 kk) (tDA i v3 v5 v7 v27 k acc.2.1 kk vv) (tDAh i v3 v5 v7 v27 k acc.2.1 kk vv) (tDAl i v3 v5 v7 v27 k acc.2.1 kk vv),
          k0_pay42 acc.2.1 (tLM i v3 v27 k kk), k0_pay43 acc.2.2 (tDA i v3 v5 v7 v27 k acc.2.1 kk vv))) := by
  unfold tR tripR_k0_t1 trip_k0_t1
  dsimp only
  sl_unfold_words
  rfl

/-- What the trip stores into the accumulators of `dk` and `dv`: the block of rows `256 k …` it loads, updated. -/
theorem tL_eq (acc f12 f13) :
    tL 𝒱 c bd i r v3 v5 v7 v27 X10 X11 k acc f12 f13
      = (have kk := rowsAt i k (r.arg10.view.read (Elt F) X10)
         have vv := rowsAt i k (r.arg11.view.read (Elt F) X11)
         ([⟨Rect.unit (k0_off1 i k) ![256, 128] (k0_off1_inb i k),
            k0_pay40 v3 acc.2.2 (mk i v27 k) (tLS v3 kk) (tDA i v3 v5 v7 v27 k acc.2.1 kk vv) (tDAh i v3 v5 v7 v27 k acc.2.1 kk vv) (tDAl i v3 v5 v7 v27 k acc.2.1 kk vv)
              (rowsAt i k (r.arg12.view.read (Elt F) f12))⟩],
          [⟨Rect.unit (k0_off1 i k) ![256, 128] (k0_off1_inb i k),
            k0_pay41 v5 (tW i v3 v7 v27 k acc.2.1 kk) (rowsAt i k (r.arg13.view.read (Elt F) f13))⟩])) := by
  unfold tL tripL_k0_t1 trip_k0_t1
  dsimp only
  sl_unfold_words
  rfl

end

end Cert.Sba
-- ==== Proof.Step.lean ====
module
public import proofs.«01_k».proof.Proof.Trip

/-! One trip of the backward kernel's loop at real operands: what it yields and what it leaves in the accumulators, in the
   terms of the attention and its gradients. -/

@[expose] public section

set_option maxRecDepth 16384

noncomputable section

namespace Cert.Sba

open Idealize.ShloMosaic Idealize.SL Idealize.SL.Sem Cert.KernelIdeal Cert.KernelIdeal.Gen Finset

variable (Q K V D : ℕ → ℕ → ℝ) (i : grid0.Coords) (k : Fin (k0_t1_loop i).trips)

/-- Rows `256 n …` of a table. -/
abbrev rows (f : ℕ → ℕ → ℝ) (n : ℕ) : ℕ → ℕ → ℝ := fun a d => f (256 * n + a) d
/-- Rows `256 n …` of a table at columns `256 m …`. -/
abbrev tile (f : ℕ → ℕ → ℝ) (n m : ℕ) : ℕ → ℕ → ℝ := fun a b => f (256 * n + a) (256 * m + b)

/-- Loading rows `256 k …` of an array of reals. -/
theorem rowsAt_up (f : ℕ → ℕ → ℝ) : rowsAt (F := Ideal) (e := .f32) i k (up 2048 128 f) = up 256 128 (rows f k.val) := by
  funext j
  have h : ∀ a, ((Rect.unit (s := S2048x128) (k0_off1 i k) ![256, 128] (k0_off1_inb i k)).idx j a).val = k0_off1 i k a + (j a).val := fun a =>
    Rect.idx_unit_val (s := S2048x128) (k0_off1 i k) ![256, 128] (k0_off1_inb i k) j a
  have h0 := (h 0).trans (congrArg (· + (j 0).val) (congrFun (k0_off1_eq i k) 0))
  have h1 := (h 1).trans (congrArg (· + (j 1).val) (congrFun (k0_off1_eq i k) 1))
  exact congrArg (fun x : ℝ => (x : EReal)) (congrArg₂ f h0 (h1.trans (Nat.zero_add _)))

/-- An array of reals with rows `256 k …` stored anew. -/
theorem store_up (m : Memref sig .tc .vmem S2048x128 .f32) (f : BufTy.Contents (Elt Ideal) m.view.ty) (A g : ℕ → ℕ → ℝ) (L : List (View.Piece (Elt Ideal) S2048x128 .f32))
    (hA : m.view.read (Elt Ideal) (m.view.writes (Elt Ideal) f L) = up 2048 128 A) :
    m.view.read (Elt Ideal) (m.view.writes (Elt Ideal) f
        ([⟨Rect.unit (k0_off1 i k) ![256, 128] (k0_off1_inb i k), up 256 128 g⟩] ++ L))
      = up 2048 128 fun r d => if 256 * k.val ≤ r ∧ r < 256 * k.val + 256 then g (r - 256 * k.val) d else A r d := by
  funext y
  show _ = ((ite _ _ _ : ℝ) : EReal)
  have hy : (y 1).val < 128 := ValueIdx.idx2_lt1 y
  by_cases h : 256 * k.val ≤ (y 0).val ∧ (y 0).val < 256 * k.val + 256
  · rw [if_pos h]
    exact View.read_writes_cons_rows_of_mem m.view f (k0_off1_inb i k) _ L y
      (ix2 (⟨(y 0).val - 256 * k.val, by omega⟩ : Fin 256) (⟨(y 1).val, hy⟩ : Fin 128)) (k0_off1_eq i k)
      (show (y 0).val = 256 * k.val + ((y 0).val - 256 * k.val) by omega) rfl
  · rw [if_neg h]
    exact (View.read_writes_cons_rows_of_not_mem m.view f (k0_off1_inb i k) _ L y (W := 256) (k0_off1_eq i k) rfl (by omega)).trans
      (congrFun hA y)

/-- The indices of a block's columns. -/
abbrev cols : IVec S256x256 32 := iota .tc S256x256 32 [1] iota_S256x256_d1_w32

theorem z_eq : k0_pay11 (F := Ideal) (up 256 128 (rows Q (i 1).val)) (up 256 128 (rows K k.val)) = up 256 256 (tile (Z Q K) (i 1).val k.val) :=
  pay11_eq

theorem lm_eq : tLM (F := Ideal) i (up 256 128 (rows Q (i 1).val)) cols k (up 256 128 (rows K k.val)) = up 256 256 (tile (LM Q K) (i 1).val k.val) :=
  pay13_eq i k (z_eq Q K i k)

/-- A row's sum over the keys of the blocks before block `n`. -/
abbrev before (f : ℕ → ℕ → ℝ) (r n : ℕ) : ℕ → ℕ → ℝ := fun a _ => ∑ s ∈ range (256 * n), f (256 * r + a) s
/-- What the rows of block `r` lose. -/
abbrev lose (r : ℕ) : ℕ → ℕ → ℝ := fun a _ => LT Q K (256 * r + a)

theorem w_eq : tW (F := Ideal) i (up 256 128 (rows Q (i 1).val)) (up 256 1 (lose Q K (i 1).val)) cols k
    (up 256 1 (before (LM Q K) (i 1).val k.val)) (up 256 128 (rows K k.val)) = up 256 256 (tile (W Q K) (i 1).val k.val) := by
  have h32 : k0_pay32 (F := Ideal) (up 256 1 (lose Q K (i 1).val)) = up 256 1 (lose Q K (i 1).val) := shapeCast_self _ _
  unfold tW
  rw [h32]
  refine (pay14_eq i k (fun a => LT Q K (256 * (i 1).val + a)) (fun a => ∑ s ∈ range (256 * k.val), LM Q K (256 * (i 1).val + a) s) (z_eq Q K i k) (lm_eq Q K i k)).trans (up_congr fun a ha b hb => ?_)
  unfold tile W
  rw [sum_upto (fun s => LM Q K (256 * (i 1).val + a) s) k.val b hb, sub_sub]

theorem da_eq : tDA (F := Ideal) i (up 256 128 (rows Q (i 1).val)) (up 256 128 (rows D (i 1).val)) (up 256 1 (lose Q K (i 1).val)) cols k
    (up 256 1 (before (LM Q K) (i 1).val k.val)) (up 256 128 (rows K k.val)) (up 256 128 (rows V k.val))
      = up 256 256 (tile (DA Q K V D) (i 1).val k.val) := by
  have h32 : k0_pay32 (F := Ideal) (up 256 1 (lose Q K (i 1).val)) = up 256 1 (lose Q K (i 1).val) := shapeCast_self _ _
  have hw := w_eq Q K i k
  unfold tW at hw
  unfold tDA
  rw [h32] at hw ⊢
  exact pay15_eq i k (fun a => LT Q K (256 * (i 1).val + a)) (fun a => ∑ s ∈ range (256 * k.val), LM Q K (256 * (i 1).val + a) s) hw

/-- The gradient at the logits of the trip's block. -/
theorem dz_eq : k0_pay38 (F := Ideal) (up 256 1 (before (DA Q K V D) (i 1).val k.val)) (mk i cols k)
    (tLS (up 256 128 (rows Q (i 1).val)) (up 256 128 (rows K k.val)))
    (tDA (F := Ideal) i (up 256 128 (rows Q (i 1).val)) (up 256 128 (rows D (i 1).val)) (up 256 1 (lose Q K (i 1).val)) cols k
      (up 256 1 (before (LM Q K) (i 1).val k.val)) (up 256 128 (rows K k.val)) (up 256 128 (rows V k.val)))
    (tDAh (F := Ideal) i (up 256 128 (rows Q (i 1).val)) (up 256 128 (rows D (i 1).val)) (up 256 1 (lose Q K (i 1).val)) cols k
      (up 256 1 (before (LM Q K) (i 1).val k.val)) (up 256 128 (rows K k.val)) (up 256 128 (rows V k.val)))
    (tDAl (F := Ideal) i (up 256 128 (rows Q (i 1).val)) (up 256 128 (rows D (i 1).val)) (up 256 1 (lose Q K (i 1).val)) cols k
      (up 256 1 (before (LM Q K) (i 1).val k.val)) (up 256 128 (rows K k.val)) (up 256 128 (rows V k.val)))
      = up 256 256 (tile (DZ Q K V D) (i 1).val k.val) := by
  have h := da_eq Q K V D i k
  unfold tDAl tDAh k0_pay17 k0_pay16
  unfold tDA at h ⊢
  dsimp only
  rw [h, show mk i cols k = _ from pay10_eq i k, show tLS (F := Ideal) (up 256 128 (rows Q (i 1).val)) (up 256 128 (rows K k.val)) = _ from pay12_eq (z_eq Q K i k)]
  refine (pay38_eq (fun a => ∑ s ∈ range (256 * k.val), DA Q K V D (256 * (i 1).val + a) s) k.val (i 1).val _).trans (up_congr fun a ha b hb => ?_)
  unfold tile DZ
  rw [sum_before (fun s => DA Q K V D (256 * (i 1).val + a) s) k.val b hb]

/-- What the loop carries before trip `n`: the block's rows of the gradient at `q` so far and the two running sums. -/
abbrev carry (r n : ℕ) : FVec Ideal S256x128 .f32 × FVec Ideal S256x1 .f32 × FVec Ideal S256x1 .f32 :=
  (up 256 128 fun a d => ∑ s ∈ range (256 * n), DZ Q K V D (256 * r + a) s * K s d,
   up 256 1 (before (LM Q K) r n), up 256 1 (before (DA Q K V D) r n))

variable (𝒱 : Variants) (c : Dev nD) (bd : Option 𝒱.V) (r : Refs) (X10 : BufTy.Contents (Elt Ideal) r.arg10.view.ty) (X11 : BufTy.Contents (Elt Ideal) r.arg11.view.ty)

/-- A trip takes what the loop carries one block further. -/
theorem tR_up (h10 : r.arg10.view.read (Elt Ideal) X10 = up 2048 128 K) (h11 : r.arg11.view.read (Elt Ideal) X11 = up 2048 128 V) (f12 f13) :
    tR (F := Ideal) 𝒱 c bd i r (up 256 128 (rows Q (i 1).val)) (up 256 128 (rows D (i 1).val)) (up 256 1 (lose Q K (i 1).val)) cols X10 X11 k
        (carry Q K V D (i 1).val k.val) f12 f13
      = carry Q K V D (i 1).val (k.val + 1) := by
  rw [tR_eq]
  dsimp only
  rw [h10, h11, show rowsAt (F := Ideal) (e := .bf16) i k (up 2048 128 K) = _ from rowsAt_up i k K,
    show rowsAt (F := Ideal) (e := .bf16) i k (up 2048 128 V) = _ from rowsAt_up i k V]
  refine Prod.ext ?_ (Prod.ext ?_ ?_)
  · show k0_pay39 _ _ _ _ _ _ _ _ = _
    unfold k0_pay39
    dsimp only
    rw [dz_eq Q K V D i k, matmul_nf, addf_up]
    refine up_congr fun a _ d _ => ?_
    rw [sum_block]
  · show k0_pay42 _ _ = _
    rw [lm_eq Q K i k]
    exact (pay42_eq fun a => ∑ s ∈ range (256 * k.val), LM Q K (256 * (i 1).val + a) s).trans
      (up_congr fun a _ d _ => (sum_block (fun s => LM Q K (256 * (i 1).val + a) s) k.val).symm)
  · show k0_pay43 _ _ = _
    rw [da_eq Q K V D i k]
    exact (pay43_eq fun a => ∑ s ∈ range (256 * k.val), DA Q K V D (256 * (i 1).val + a) s).trans
      (up_congr fun a _ d _ => (sum_block (fun s => DA Q K V D (256 * (i 1).val + a) s) k.val).symm)

/-- What a trip stores into the accumulator of the gradient at `k`. -/
theorem tL12_up (h10 : r.arg10.view.read (Elt Ideal) X10 = up 2048 128 K) (h11 : r.arg11.view.read (Elt Ideal) X11 = up 2048 128 V) (f12 f13)
    (A : ℕ → ℕ → ℝ) (hA : r.arg12.view.read (Elt Ideal) f12 = up 2048 128 A) :
    (tL (F := Ideal) 𝒱 c bd i r (up 256 128 (rows Q (i 1).val)) (up 256 128 (rows D (i 1).val)) (up 256 1 (lose Q K (i 1).val)) cols X10 X11 k
        (carry Q K V D (i 1).val k.val) f12 f13).1
      = [⟨Rect.unit (k0_off1 i k) ![256, 128] (k0_off1_inb i k),
          up 256 128 fun b d => A (256 * k.val + b) d + ∑ a ∈ range 256, DZ Q K V D (256 * (i 1).val + a) (256 * k.val + b) * Q (256 * (i 1).val + a) d⟩] := by
  rw [tL_eq]
  dsimp only
  rw [h10, h11, hA, show rowsAt (F := Ideal) (e := .bf16) i k (up 2048 128 K) = _ from rowsAt_up i k K,
    show rowsAt (F := Ideal) (e := .bf16) i k (up 2048 128 V) = _ from rowsAt_up i k V, rowsAt_up i k A]
  unfold k0_pay40
  dsimp only
  rw [dz_eq Q K V D i k, show k0_pay30 (F := Ideal) (up 256 128 (rows Q (i 1).val)) = up 256 128 (rows Q (i 1).val) from rfl, matmul_tf, addf_up,
    shapeCast_self]

/-- What a trip stores into the accumulator of the gradient at `v`. -/
theorem tL13_up (h10 : r.arg10.view.read (Elt Ideal) X10 = up 2048 128 K) (f12 f13)
    (A : ℕ → ℕ → ℝ) (hA : r.arg13.view.read (Elt Ideal) f13 = up 2048 128 A) :
    (tL (F := Ideal) 𝒱 c bd i r (up 256 128 (rows Q (i 1).val)) (up 256 128 (rows D (i 1).val)) (up 256 1 (lose Q K (i 1).val)) cols X10 X11 k
        (carry Q K V D (i 1).val k.val) f12 f13).2
      = [⟨Rect.unit (k0_off1 i k) ![256, 128] (k0_off1_inb i k),
          up 256 128 fun b d => A (256 * k.val + b) d + ∑ a ∈ range 256, W Q K (256 * (i 1).val + a) (256 * k.val + b) * D (256 * (i 1).val + a) d⟩] := by
  rw [tL_eq]
  dsimp only
  rw [h10, hA, show rowsAt (F := Ideal) (e := .bf16) i k (up 2048 128 K) = _ from rowsAt_up i k K, rowsAt_up i k A]
  unfold k0_pay41
  dsimp only
  rw [w_eq Q K i k, show k0_pay31 (F := Ideal) (up 256 128 (rows D (i 1).val)) = up 256 128 (rows D (i 1).val) from rfl]
  rw [show truncf (F := Ideal) (φ := .f32) .bf16 (up 256 256 (tile (W Q K) (i 1).val k.val)) bitsLt_bf16_f32 = up 256 256 (tile (W Q K) (i 1).val k.val) from rfl,
    matmul_tf, addf_up, shapeCast_self]

end Cert.Sba
-- ==== Proof.Loop.lean ====
module
public import proofs.«01_k».proof.Proof.Step

/-! The whole of the backward kernel's loop over key blocks at real operands: by induction over the trips. -/

@[expose] public section

set_option maxRecDepth 16384

noncomputable section

namespace Cert.Sba

open Idealize.ShloMosaic Idealize.SL Idealize.SL.Sem Cert.KernelIdeal Cert.KernelIdeal.Gen Finset

section

variable {F : FTy → Type} [FloatOps F]
variable (𝒱 : Variants) (c : Dev nD) (bd : Option 𝒱.V) (i : grid0.Coords) (r : Refs) (v3 v5 : Vec F S256x128 .f32) (v7 : Vec F S256x1 .f32) (v27 : IVec S256x256 32) (X10 : BufTy.Contents (Elt F) r.arg10.view.ty) (X11 : BufTy.Contents (Elt F) r.arg11.view.ty) (G12 : BufTy.Contents (Elt F) r.arg12.view.ty) (G13 : BufTy.Contents (Elt F) r.arg13.view.ty) (init : FVec F S256x128 .f32 × FVec F S256x1 .f32 × FVec F S256x1 .f32)

/-- The loop's state before trip `n`: what it carries, and the pieces it has stored into the two accumulators. -/
abbrev st := st_k0_t1 (F := F) 𝒱 c bd i r.arg2 r.harg2 r.arg3 r.harg3 r.arg4 r.harg4 r.arg5 r.harg5 r.arg6 r.harg6 r.arg7 r.harg7 r.arg8 r.harg8 r.arg9 r.harg9 r.arg10 r.harg10 r.arg11 r.harg11 r.arg12 r.harg12 r.arg13 r.harg13 v3 v5 v7 v27 X10 X11 G12 G13 init

/-- What a trip stores, by the carried value before it and what it finds in the accumulators. -/
abbrev stT (k : Fin (k0_t1_loop i).trips) (acc : FVec F S256x128 .f32 × FVec F S256x1 .f32 × FVec F S256x1 .f32) (L12 L13 : List (View.Piece (Elt F) S2048x128 .f32)) :=
  tL 𝒱 c bd i r v3 v5 v7 v27 X10 X11 k acc (r.arg12.view.writes (Elt F) G12 L12) (r.arg13.view.writes (Elt F) G13 L13)

theorem st_succ (k : Fin (k0_t1_loop i).trips) (acc : FVec F S256x128 .f32 × FVec F S256x1 .f32 × FVec F S256x1 .f32)
    (h : (st 𝒱 c bd i r v3 v5 v7 v27 X10 X11 G12 G13 init k.val).1 = acc) :
    (st 𝒱 c bd i r v3 v5 v7 v27 X10 X11 G12 G13 init (k.val + 1)).1
      = tR 𝒱 c bd i r v3 v5 v7 v27 X10 X11 k acc (r.arg12.view.writes (Elt F) G12 (st 𝒱 c bd i r v3 v5 v7 v27 X10 X11 G12 G13 init k.val).2.1) (r.arg13.view.writes (Elt F) G13 (st 𝒱 c bd i r v3 v5 v7 v27 X10 X11 G12 G13 init k.val).2.2)
    ∧ (st 𝒱 c bd i r v3 v5 v7 v27 X10 X11 G12 G13 init (k.val + 1)).2.1
      = (stT 𝒱 c bd i r v3 v5 v7 v27 X10 X11 G12 G13 k acc (st 𝒱 c bd i r v3 v5 v7 v27 X10 X11 G12 G13 init k.val).2.1 (st 𝒱 c bd i r v3 v5 v7 v27 X10 X11 G12 G13 init k.val).2.2).1 ++ (st 𝒱 c bd i r v3 v5 v7 v27 X10 X11 G12 G13 init k.val).2.1
    ∧ (st 𝒱 c bd i r v3 v5 v7 v27 X10 X11 G12 G13 init (k.val + 1)).2.2
      = (stT 𝒱 c bd i r v3 v5 v7 v27 X10 X11 G12 G13 k acc (st 𝒱 c bd i r v3 v5 v7 v27 X10 X11 G12 G13 init k.val).2.1 (st 𝒱 c bd i r v3 v5 v7 v27 X10 X11 G12 G13 init k.val).2.2).2 ++ (st 𝒱 c bd i r v3 v5 v7 v27 X10 X11 G12 G13 init k.val).2.2 := by
  subst h
  have e := st_k0_t1_succ (F := F) 𝒱 c bd i r.arg2 r.harg2 r.arg3 r.harg3 r.arg4 r.harg4 r.arg5 r.harg5 r.arg6 r.harg6 r.arg7 r.harg7 r.arg8 r.harg8 r.arg9 r.harg9 r.arg10 r.harg10 r.arg11 r.harg11 r.arg12 r.harg12 r.arg13 r.harg13 v3 v5 v7 v27 X10 X11 G12 G13 init k
  exact ⟨congrArg (·.1) e, congrArg (·.2.1) e, congrArg (·.2.2) e⟩

end

variable (Q K V D : ℕ → ℕ → ℝ) (i : grid0.Coords)
variable (𝒱 : Variants) (c : Dev nD) (bd : Option 𝒱.V) (r : Refs) (X10 : BufTy.Contents (Elt Ideal) r.arg10.view.ty) (X11 : BufTy.Contents (Elt Ideal) r.arg11.view.ty) (G12 : BufTy.Contents (Elt Ideal) r.arg12.view.ty) (G13 : BufTy.Contents (Elt Ideal) r.arg13.view.ty)

/-- What query block `n` adds to the gradient at `k`. -/
def addK (n : ℕ) (s d : ℕ) : ℝ := ∑ a ∈ range 256, DZ Q K V D (256 * n + a) s * Q (256 * n + a) d
/-- What query block `n` adds to the gradient at `v`. -/
def addV (n : ℕ) (s d : ℕ) : ℝ := ∑ a ∈ range 256, W Q K (256 * n + a) s * D (256 * n + a) d

theorem addK_of_le {n s : ℕ} (h : 256 * (n + 1) ≤ s) (d : ℕ) : addK Q K V D n s d = 0 :=
  sum_eq_zero fun a ha => by rw [DZ_of_le Q K V D (by have := mem_range.mp ha; omega), zero_mul]
theorem addV_of_le {n s : ℕ} (h : 256 * (n + 1) ≤ s) (d : ℕ) : addV Q K D n s d = 0 :=
  sum_eq_zero fun a ha => by rw [W_of_le Q K (by have := mem_range.mp ha; omega), zero_mul]

/-- Rows `256 n …` added to, after the rows before them. -/
theorem grow (A f : ℕ → ℕ → ℝ) (n s d : ℕ) :
    (if 256 * n ≤ s ∧ s < 256 * n + 256 then
        (A (256 * n + (s - 256 * n)) d + if 256 * n + (s - 256 * n) < 256 * n then f (256 * n + (s - 256 * n)) d else 0) + f (256 * n + (s - 256 * n)) d
      else A s d + if s < 256 * n then f s d else 0) = A s d + if s < 256 * (n + 1) then f s d else 0 := by
  by_cases hs : 256 * n ≤ s ∧ s < 256 * n + 256
  · rw [if_pos hs, Nat.add_sub_cancel' hs.1, if_neg (not_lt.mpr hs.1), if_pos (show s < 256 * (n + 1) by omega), add_zero]
  · rw [if_neg hs]
    by_cases hs' : s < 256 * n
    · rw [if_pos hs', if_pos (show s < 256 * (n + 1) by omega)]
    · rw [if_neg hs', if_neg (show ¬s < 256 * (n + 1) by omega)]

/-- The carried values before the first trip. -/
theorem carry_zero (n : ℕ) : ((k0_pay37, k0_pay36, k0_pay36) : FVec Ideal S256x128 .f32 × FVec Ideal S256x1 .f32 × FVec Ideal S256x1 .f32) = carry Q K V D n 0 := by
  have e : Ideal.ofBits .f32 0x00000000#32 = ((0 : ℝ) : EReal) := ofBits_zero
  refine Prod.ext ?_ (Prod.ext ?_ ?_) <;> (funext j; exact e)

/-- The loop's state at `q`, `k`, `v` and `dout` of real values. -/
abbrev stU := st (F := Ideal) 𝒱 c bd i r (up 256 128 (rows Q (i 1).val)) (up 256 128 (rows D (i 1).val)) (up 256 1 (lose Q K (i 1).val)) cols X10 X11 G12 G13 (k0_pay37, k0_pay36, k0_pay36)

/-- The accumulators' contents under the first `n` trips. -/
theorem loop_up (h10 : r.arg10.view.read (Elt Ideal) X10 = up 2048 128 K) (h11 : r.arg11.view.read (Elt Ideal) X11 = up 2048 128 V)
    (A B : ℕ → ℕ → ℝ) (hA : r.arg12.view.read (Elt Ideal) G12 = up 2048 128 A) (hB : r.arg13.view.read (Elt Ideal) G13 = up 2048 128 B) :
    ∀ n : ℕ, n ≤ (k0_t1_loop i).trips →
      (stU Q K D i 𝒱 c bd r X10 X11 G12 G13 n).1 = carry Q K V D (i 1).val n
      ∧ r.arg12.view.read (Elt Ideal) (r.arg12.view.writes (Elt Ideal) G12 (stU Q K D i 𝒱 c bd r X10 X11 G12 G13 n).2.1)
          = up 2048 128 (fun s d => A s d + if s < 256 * n then addK Q K V D (i 1).val s d else 0)
      ∧ r.arg13.view.read (Elt Ideal) (r.arg13.view.writes (Elt Ideal) G13 (stU Q K D i 𝒱 c bd r X10 X11 G12 G13 n).2.2)
          = up 2048 128 (fun s d => B s d + if s < 256 * n then addV Q K D (i 1).val s d else 0) := by
  intro n
  induction n with
  | zero =>
    intro _
    refine ⟨carry_zero Q K V D (i 1).val, hA.trans (up_congr fun s _ d _ => ?_), hB.trans (up_congr fun s _ d _ => ?_)⟩
    all_goals rw [if_neg (by omega), add_zero]
  | succ n ih =>
    intro hn
    obtain ⟨h1, h2, h3⟩ := ih (Nat.le_of_succ_le hn)
    obtain ⟨e1, e2, e3⟩ := st_succ (F := Ideal) 𝒱 c bd i r (up 256 128 (rows Q (i 1).val)) (up 256 128 (rows D (i 1).val)) (up 256 1 (lose Q K (i 1).val)) cols X10 X11 G12 G13 (k0_pay37, k0_pay36, k0_pay36) ⟨n, hn⟩ _ h1
    rw [show stU Q K D i 𝒱 c bd r X10 X11 G12 G13 (n + 1) = st _ _ _ _ _ _ _ _ _ _ _ _ _ _ _ from rfl, e1, e2, e3]
    refine ⟨tR_up Q K V D i ⟨n, hn⟩ 𝒱 c bd r X10 X11 h10 h11 _ _, ?_, ?_⟩
    · rw [tL12_up Q K V D i ⟨n, hn⟩ 𝒱 c bd r X10 X11 h10 h11 _ _ _ h2, store_up i ⟨n, hn⟩ r.arg12 G12 _ _ _ h2]
      exact up_congr fun s _ d _ => grow A (addK Q K V D (i 1).val) n s d
    · rw [tL13_up Q K V D i ⟨n, hn⟩ 𝒱 c bd r X10 X11 h10 _ _ _ h3, store_up i ⟨n, hn⟩ r.arg13 G13 _ _ _ h3]
      exact up_congr fun s _ d _ => grow B (addV Q K D (i 1).val) n s d

/-- The accumulators after the loop: each with what the block of rows adds, and the block's rows of the gradient at `q`. -/
theorem loop_end (h10 : r.arg10.view.read (Elt Ideal) X10 = up 2048 128 K) (h11 : r.arg11.view.read (Elt Ideal) X11 = up 2048 128 V)
    (A B : ℕ → ℕ → ℝ) (hA : r.arg12.view.read (Elt Ideal) G12 = up 2048 128 A) (hB : r.arg13.view.read (Elt Ideal) G13 = up 2048 128 B)
    (N : ℕ) (hN : N = (k0_t1_loop i).trips) :
      (stU Q K D i 𝒱 c bd r X10 X11 G12 G13 N).1.1 = up 256 128 (rows (DQ Q K V D) (i 1).val)
      ∧ r.arg12.view.read (Elt Ideal) (r.arg12.view.writes (Elt Ideal) G12 (stU Q K D i 𝒱 c bd r X10 X11 G12 G13 N).2.1)
          = up 2048 128 (fun s d => A s d + addK Q K V D (i 1).val s d)
      ∧ r.arg13.view.read (Elt Ideal) (r.arg13.view.writes (Elt Ideal) G13 (stU Q K D i 𝒱 c bd r X10 X11 G12 G13 N).2.2)
          = up 2048 128 (fun s d => B s d + addV Q K D (i 1).val s d) := by
  obtain ⟨h1, h2, h3⟩ := loop_up Q K V D i 𝒱 c bd r X10 X11 G12 G13 h10 h11 A B hA hB N hN.le
  have hi : (i 1).val < 8 := (i 1).isLt
  have ht := hN.trans (trips_eq i)
  clear hN
  subst ht
  refine ⟨(congrArg Prod.fst h1).trans (up_congr (f := fun a d => ∑ s ∈ range (256 * ((i 1).val + 1)), DZ Q K V D (256 * (i 1).val + a) s * K s d)
    (g := rows (DQ Q K V D) (i 1).val) fun a ha d _ => ?_), h2.trans (up_congr fun s _ d _ => ?_), h3.trans (up_congr fun s _ d _ => ?_)⟩
  · refine (sum_cut (fun s => DZ Q K V D (256 * (i 1).val + a) s * K s d) (by omega) fun s hs => ?_).symm
    rw [DZ_of_le Q K V D (by omega), zero_mul]
  · congr 1
    refine ite_eq_left_iff.mpr fun h => ?_
    rw [addK_of_le Q K V D (by omega)]
  · congr 1
    refine ite_eq_left_iff.mpr fun h => ?_
    rw [addV_of_le Q K D (by omega)]

end Cert.Sba
-- ==== Proof.Point.lean ====
module
public import proofs.«01_k».proof.Proof.Loop
public import proofs.«01_k».proof.Proof.Gen.KernelIdeal.Value

/-! One grid point of the backward kernel, for any contents: what it leaves in its three outputs and its four scratch
   buffers, by the state of the loop over key blocks. The second loop of the body makes no trip. -/

@[expose] public section

set_option maxRecDepth 16384

noncomputable section

namespace Cert.Sba

open Idealize.ShloMosaic Idealize.SL Idealize.SL.Sem Cert.KernelIdeal Cert.KernelIdeal.Gen Finset

variable {F : FTy → Type} [FloatOps F]
variable (c : Dev nD) (i : grid0.Coords) (r : Refs)

/-- The second loop makes no trip. -/
theorem no_trips : ∀ i, (k0_t2_loop i).trips = 0 := by decide +kernel

theorem second_none (v4 v6 v8 v15 v22 v26 v27 v35 c1 X10 X11 G12 G13 init) :
    st_k0_t2 (F := F) Variants.none c none i r.arg2 r.harg2 r.arg3 r.harg3 r.arg4 r.harg4 r.arg5 r.harg5 r.arg6 r.harg6 r.arg7 r.harg7 r.arg8 r.harg8 r.arg9 r.harg9 r.arg10 r.harg10 r.arg11 r.harg11 r.arg12 r.harg12 r.arg13 r.harg13 v4 v6 v8 v15 v22 v26 v27 v35 c1 X10 X11 G12 G13 init (k0_t2_loop i).trips = (init, [], []) := by
  rw [no_trips i]; rfl

/-- A state of the loops: what they carry and the pieces stored into the two accumulators. -/
abbrev St (F : FTy → Type) := (FVec F S256x128 .f32 × FVec F S256x1 .f32 × FVec F S256x1 .f32) × List (View.Piece (Elt F) S2048x128 .f32) × List (View.Piece (Elt F) S2048x128 .f32)

/-- The first loop's last state, by the blocks of `q`, `dout` and the row totals. -/
abbrev stP (x0 x3 x4 : Vec F S256x128 .f32) (X10 X11 G12 G13) :=
  st (F := F) Variants.none c none i r
    (View.readAt (Elt F) r.arg2.view (Rect.unit ![0, 0] S256x128.size inb_S256x128_S256x128_0_0).toLoadRect (r.harg2.unread x0))
    (View.readAt (Elt F) r.arg6.view (Rect.unit ![0, 0] S256x128.size inb_S256x128_S256x128_0_0).toLoadRect (r.harg6.unread x4))
    (View.readAt (Elt F) r.arg5.view (Rect.unit (s := S256x128) ![0, 0] S256x1.size inb_S256x128_S256x1_0_0).toLoadRect (r.harg5.unread x3))
    cols X10 X11 G12 G13 (k0_pay37, k0_pay36, k0_pay36) (k0_t1_loop i).trips

/-- A store of a whole buffer of 2048 rows. -/
abbrev whole {e : EltTy} (w : Vec F S2048x128 e) : View.Piece (Elt F) S2048x128 e := ⟨Rect.unit ![0, 0] S2048x128.size inb_S2048x128_S2048x128_0_0, w⟩

section A
variable (hc0 : cond0_0 i) (hc1 : ¬cond0_1 i) (x0 : Vec F S256x128 .f32) (x1 x2 : Vec F S2048x128 .f32) (x3 x4 : Vec F S256x128 .f32)

/-- The buffers at a head's first point once it has copied `k` and `v` and cleared the accumulators. -/
abbrev ldCol (m : Memref sig .tc .vmem S2048x128 .f32) (h : m.IsWhole) (x : Vec F S2048x128 .f32) : Vec F S2048x128 .f32 :=
  View.readAt (Elt F) m.view (Rect.unit ![0, 0] S2048x128.size inb_S2048x128_S2048x128_0_0).toLoadRect (h.unread x)
abbrev A10 := r.arg10.view.writes (Elt F) r.arg10.view.junk [whole (F := F) (k0_pay26 (ldCol r.arg3 r.harg3 x1))]
abbrev A11 := r.arg11.view.writes (Elt F) r.arg11.view.junk [whole (F := F) (k0_pay27 (ldCol r.arg4 r.harg4 x2))]
abbrev A12 := r.arg12.view.writes (Elt F) r.arg12.view.junk [whole (F := F) k0_pay28]
abbrev A13 := r.arg13.view.writes (Elt F) r.arg13.view.junk [whole (F := F) k0_pay29]

theorem outA_5 : out0_A_5 c i r.arg2 r.harg2 r.arg3 r.harg3 r.arg4 r.harg4 r.arg5 r.harg5 r.arg6 r.harg6 r.arg7 r.harg7 r.arg8 r.harg8 r.arg9 r.harg9 r.arg10 r.harg10 r.arg11 r.harg11 r.arg12 r.harg12 r.arg13 r.harg13 hc0 hc1 x0 x1 x2 x3 x4
    = k0_pay7 (stP c i r x0 x3 x4 (A10 r x1) (A11 r x2) (A12 r) (A13 r)).1.1 := by
  unfold out0_A_5
  rw [View.read_writes_junk_eq_canon]
  unfold kernelRun0_A
  dsimp only
  sl_unfold_words
  refine (View.canon_unit_zero (by decide) _ _).trans ?_
  refine (congrArg (fun s : St F => k0_pay7 s.1.1) (second_none c i r _ _ _ _ _ _ _ _ _ _ _ _ _ _)).trans ?_
  rfl

theorem soutA_2 : sout0_A_2 c i r.arg2 r.harg2 r.arg3 r.harg3 r.arg4 r.harg4 r.arg5 r.harg5 r.arg6 r.harg6 r.arg7 r.harg7 r.arg8 r.harg8 r.arg9 r.harg9 r.arg10 r.harg10 r.arg11 r.harg11 r.arg12 r.harg12 r.arg13 r.harg13 hc0 hc1 x0 x1 x2 x3 x4
    = r.arg12.view.read (Elt F) (r.arg12.view.writes (Elt F) (A12 r) (stP c i r x0 x3 x4 (A10 r x1) (A11 r x2) (A12 r) (A13 r)).2.1) := by
  unfold sout0_A_2
  rw [View.read_writes_junk_eq_canon, ← View.read_writes_junk_eq_canon r.arg12.view]
  unfold kernelRun0_A
  dsimp only
  sl_unfold_words
  refine Eq.trans ?_ (congrArg (r.arg12.view.read (Elt F)) (View.writes_append r.arg12.view _ _ _))
  refine (congrArg (fun s : St F => r.arg12.view.read (Elt F) (r.arg12.view.writes (Elt F) r.arg12.view.junk (s.2.1 ++ ((stP c i r x0 x3 x4 (A10 r x1) (A11 r x2) (A12 r) (A13 r)).2.1 ++ [whole (F := F) k0_pay28])))) (second_none c i r _ _ _ _ _ _ _ _ _ _ _ _ _ _)).trans ?_
  rfl
theorem soutA_3 : sout0_A_3 c i r.arg2 r.harg2 r.arg3 r.harg3 r.arg4 r.harg4 r.arg5 r.harg5 r.arg6 r.harg6 r.arg7 r.harg7 r.arg8 r.harg8 r.arg9 r.harg9 r.arg10 r.harg10 r.arg11 r.harg11 r.arg12 r.harg12 r.arg13 r.harg13 hc0 hc1 x0 x1 x2 x3 x4
    = r.arg13.view.read (Elt F) (r.arg13.view.writes (Elt F) (A13 r) (stP c i r x0 x3 x4 (A10 r x1) (A11 r x2) (A12 r) (A13 r)).2.2) := by
  unfold sout0_A_3
  rw [View.read_writes_junk_eq_canon, ← View.read_writes_junk_eq_canon r.arg13.view]
  unfold kernelRun0_A
  dsimp only
  sl_unfold_words
  refine Eq.trans ?_ (congrArg (r.arg13.view.read (Elt F)) (View.writes_append r.arg13.view _ _ _))
  refine (congrArg (fun s : St F => r.arg13.view.read (Elt F) (r.arg13.view.writes (Elt F) r.arg13.view.junk (s.2.2 ++ ((stP c i r x0 x3 x4 (A10 r x1) (A11 r x2) (A12 r) (A13 r)).2.2 ++ [whole (F := F) k0_pay29])))) (second_none c i r _ _ _ _ _ _ _ _ _ _ _ _ _ _)).trans ?_
  rfl
theorem soutA_0 : sout0_A_0 c i r.arg2 r.harg2 r.arg3 r.harg3 r.arg4 r.harg4 r.arg5 r.harg5 r.arg6 r.harg6 r.arg7 r.harg7 r.arg8 r.harg8 r.arg9 r.harg9 r.arg10 r.harg10 r.arg11 r.harg11 r.arg12 r.harg12 r.arg13 r.harg13 hc0 hc1 x0 x1 x2 x3 x4 = k0_pay26 (ldCol r.arg3 r.harg3 x1) := by
  unfold sout0_A_0
  rw [View.read_writes_junk_eq_canon]
  unfold kernelRun0_A
  dsimp only
  sl_unfold_words
  exact (View.canon_unit_zero (by decide) _ _).trans rfl

theorem soutA_1 : sout0_A_1 c i r.arg2 r.harg2 r.arg3 r.harg3 r.arg4 r.harg4 r.arg5 r.harg5 r.arg6 r.harg6 r.arg7 r.harg7 r.arg8 r.harg8 r.arg9 r.harg9 r.arg10 r.harg10 r.arg11 r.harg11 r.arg12 r.harg12 r.arg13 r.harg13 hc0 hc1 x0 x1 x2 x3 x4 = k0_pay27 (ldCol r.arg4 r.harg4 x2) := by
  unfold sout0_A_1
  rw [View.read_writes_junk_eq_canon]
  unfold kernelRun0_A
  dsimp only
  sl_unfold_words
  exact (View.canon_unit_zero (by decide) _ _).trans rfl

end A

section B
variable (x0 : Vec F S256x128 .f32) (x1 x2 : Vec F S2048x128 .f32) (x3 x4 : Vec F S256x128 .f32) (y0 y1 : Vec F S2048x128 .bf16) (y2 y3 : Vec F S2048x128 .f32)

/-- The loop's last state at a point after a head's first, over what the scratch buffers hold. -/
abbrev stB := stP c i r x0 x3 x4 (r.harg10.unread y0) (r.harg11.unread y1) (r.harg12.unread y2) (r.harg13.unread y3)
/-- The accumulators then. -/
abbrev acc12 := r.arg12.view.read (Elt F) (r.arg12.view.writes (Elt F) (r.harg12.unread y2) (stB c i r x0 x3 x4 y0 y1 y2 y3).2.1)
abbrev acc13 := r.arg13.view.read (Elt F) (r.arg13.view.writes (Elt F) (r.harg13.unread y3) (stB c i r x0 x3 x4 y0 y1 y2 y3).2.2)

theorem outB_5 (hc0 : ¬cond0_0 i) (hc1 : ¬cond0_1 i) : out0_B_5 c i r.arg2 r.harg2 r.arg3 r.harg3 r.arg4 r.harg4 r.arg5 r.harg5 r.arg6 r.harg6 r.arg7 r.harg7 r.arg8 r.harg8 r.arg9 r.harg9 r.arg10 r.harg10 r.arg11 r.harg11 r.arg12 r.harg12 r.arg13 r.harg13 hc0 hc1 x0 x1 x2 x3 x4 y0 y1 y2 y3
    = k0_pay7 (stB c i r x0 x3 x4 y0 y1 y2 y3).1.1 := by
  unfold out0_B_5
  rw [View.read_writes_junk_eq_canon]
  unfold kernelRun0_B
  dsimp only
  sl_unfold_words
  refine (View.canon_unit_zero (by decide) _ _).trans ?_
  refine (congrArg (fun s : St F => k0_pay7 s.1.1) (second_none c i r _ _ _ _ _ _ _ _ _ _ _ _ _ _)).trans ?_
  rfl

theorem soutB_2 (hc0 : ¬cond0_0 i) (hc1 : ¬cond0_1 i) : sout0_B_2 c i r.arg2 r.harg2 r.arg3 r.harg3 r.arg4 r.harg4 r.arg5 r.harg5 r.arg6 r.harg6 r.arg7 r.harg7 r.arg8 r.harg8 r.arg9 r.harg9 r.arg10 r.harg10 r.arg11 r.harg11 r.arg12 r.harg12 r.arg13 r.harg13 hc0 hc1 x0 x1 x2 x3 x4 y0 y1 y2 y3
    = acc12 c i r x0 x3 x4 y0 y1 y2 y3 := by
  unfold sout0_B_2 kernelRun0_B
  dsimp only
  sl_unfold_words
  refine (congrArg (fun s : St F => r.arg12.view.read (Elt F) (r.arg12.view.writes (Elt F) (r.harg12.unread y2) (s.2.1 ++ (stB c i r x0 x3 x4 y0 y1 y2 y3).2.1))) (second_none c i r _ _ _ _ _ _ _ _ _ _ _ _ _ _)).trans ?_
  rfl

theorem soutB_3 (hc0 : ¬cond0_0 i) (hc1 : ¬cond0_1 i) : sout0_B_3 c i r.arg2 r.harg2 r.arg3 r.harg3 r.arg4 r.harg4 r.arg5 r.harg5 r.arg6 r.harg6 r.arg7 r.harg7 r.arg8 r.harg8 r.arg9 r.harg9 r.arg10 r.harg10 r.arg11 r.harg11 r.arg12 r.harg12 r.arg13 r.harg13 hc0 hc1 x0 x1 x2 x3 x4 y0 y1 y2 y3
    = acc13 c i r x0 x3 x4 y0 y1 y2 y3 := by
  unfold sout0_B_3 kernelRun0_B
  dsimp only
  sl_unfold_words
  refine (congrArg (fun s : St F => r.arg13.view.read (Elt F) (r.arg13.view.writes (Elt F) (r.harg13.unread y3) (s.2.2 ++ (stB c i r x0 x3 x4 y0 y1 y2 y3).2.2))) (second_none c i r _ _ _ _ _ _ _ _ _ _ _ _ _ _)).trans ?_
  rfl

theorem outC_5 (hc0 : ¬cond0_0 i) (hc1 : cond0_1 i) : out0_C_5 c i r.arg2 r.harg2 r.arg3 r.harg3 r.arg4 r.harg4 r.arg5 r.harg5 r.arg6 r.harg6 r.arg7 r.harg7 r.arg8 r.harg8 r.arg9 r.harg9 r.arg10 r.harg10 r.arg11 r.harg11 r.arg12 r.harg12 r.arg13 r.harg13 hc0 hc1 x0 x1 x2 x3 x4 y0 y1 y2 y3
    = k0_pay7 (stB c i r x0 x3 x4 y0 y1 y2 y3).1.1 := by
  unfold out0_C_5
  rw [View.read_writes_junk_eq_canon]
  unfold kernelRun0_C
  dsimp only
  sl_unfold_words
  refine (View.canon_unit_zero (by decide) _ _).trans ?_
  refine (congrArg (fun s : St F => k0_pay7 s.1.1) (second_none c i r _ _ _ _ _ _ _ _ _ _ _ _ _ _)).trans ?_
  rfl

theorem outC_6 (hc0 : ¬cond0_0 i) (hc1 : cond0_1 i) : out0_C_6 c i r.arg2 r.harg2 r.arg3 r.harg3 r.arg4 r.harg4 r.arg5 r.harg5 r.arg6 r.harg6 r.arg7 r.harg7 r.arg8 r.harg8 r.arg9 r.harg9 r.arg10 r.harg10 r.arg11 r.harg11 r.arg12 r.harg12 r.arg13 r.harg13 hc0 hc1 x0 x1 x2 x3 x4 y0 y1 y2 y3
    = k0_pay8 (acc12 c i r x0 x3 x4 y0 y1 y2 y3) := by
  unfold out0_C_6
  rw [View.read_writes_junk_eq_canon]
  unfold kernelRun0_C
  dsimp only
  sl_unfold_words
  refine (View.canon_unit_zero (by decide) _ _).trans ?_
  refine (congrArg (fun s : St F => k0_pay8 (View.readAt (Elt F) r.arg12.view (Rect.unit ![0, 0] S2048x128.size inb_S2048x128_S2048x128_0_0).toLoadRect
    (r.arg12.view.writes (Elt F) (r.harg12.unread y2) (s.2.1 ++ (stB c i r x0 x3 x4 y0 y1 y2 y3).2.1)))) (second_none c i r _ _ _ _ _ _ _ _ _ _ _ _ _ _)).trans ?_
  exact congrArg (k0_pay8 (F := F)) ((View.readAt_eq_ld _ _ _).trans (View.ld_unit_zero (by decide) _ _))

theorem outC_7 (hc0 : ¬cond0_0 i) (hc1 : cond0_1 i) : out0_C_7 c i r.arg2 r.harg2 r.arg3 r.harg3 r.arg4 r.harg4 r.arg5 r.harg5 r.arg6 r.harg6 r.arg7 r.harg7 r.arg8 r.harg8 r.arg9 r.harg9 r.arg10 r.harg10 r.arg11 r.harg11 r.arg12 r.harg12 r.arg13 r.harg13 hc0 hc1 x0 x1 x2 x3 x4 y0 y1 y2 y3
    = k0_pay9 (acc13 c i r x0 x3 x4 y0 y1 y2 y3) := by
  unfold out0_C_7
  rw [View.read_writes_junk_eq_canon]
  unfold kernelRun0_C
  dsimp only
  sl_unfold_words
  refine (View.canon_unit_zero (by decide) _ _).trans ?_
  refine (congrArg (fun s : St F => k0_pay9 (View.readAt (Elt F) r.arg13.view (Rect.unit ![0, 0] S2048x128.size inb_S2048x128_S2048x128_0_0).toLoadRect
    (r.arg13.view.writes (Elt F) (r.harg13.unread y3) (s.2.2 ++ (stB c i r x0 x3 x4 y0 y1 y2 y3).2.2)))) (second_none c i r _ _ _ _ _ _ _ _ _ _ _ _ _ _)).trans ?_
  exact congrArg (k0_pay9 (F := F)) ((View.readAt_eq_ld _ _ _).trans (View.ld_unit_zero (by decide) _ _))

end B

end Cert.Sba
-- ==== Proof.Fold.lean ====
module
public import proofs.«01_k».proof.Proof.Point
public import Idealize.ShloMosaic.Lib.VecWindow

/-! The backward kernel's grid points at real operands: what each of the 64 points (8 heads, 8 blocks of rows each) leaves,
   and so what the three result arrays hold. -/

@[expose] public section

set_option maxRecDepth 16384

noncomputable section

namespace Cert.Sba

open Idealize.ShloMosaic Idealize.SL Idealize.SL.Sem Cert.KernelIdeal Cert.KernelIdeal.Gen Cert.KernelIdeal.Value Finset

section point
variable (Q K V D : ℕ → ℕ → ℝ) (c : Dev nD) (i : grid0.Coords) (r : Refs)
variable (x0 : Vec Ideal S256x128 .f32) (x1 x2 : Vec Ideal S2048x128 .f32) (x3 x4 : Vec Ideal S256x128 .f32)

/-- What a point's five input blocks hold: rows `256 n …` of `q` and `dout`, all of `k` and `v`, and the rows' totals. -/
structure Ins (n : ℕ) : Prop where
  q : x0 = up 256 128 (rows Q n)
  k : x1 = up 2048 128 K
  v : x2 = up 2048 128 V
  l : x3 = up 256 128 (fun a _ => LT Q K (256 * n + a))
  d : x4 = up 256 128 (rows D n)

/-- The loop's last state over operands that hold reals. -/
theorem stP_eq (h : Ins Q K V D x0 x1 x2 x3 x4 (i 1).val) (X10 X11 G12 G13) :
    stP c i r x0 x3 x4 X10 X11 G12 G13 = stU Q K D i Variants.none c none r X10 X11 G12 G13 (k0_t1_loop i).trips := by
  have e0 : View.readAt (Elt Ideal) r.arg2.view (Rect.unit ![0, 0] S256x128.size inb_S256x128_S256x128_0_0).toLoadRect (r.harg2.unread x0) = up 256 128 (rows Q (i 1).val) :=
    ((View.readAt_eq_ld _ _ _).trans (View.ld_unit_zero (by decide) _ _)).trans ((r.harg2.read_unread x0).trans h.q)
  have e4 : View.readAt (Elt Ideal) r.arg6.view (Rect.unit ![0, 0] S256x128.size inb_S256x128_S256x128_0_0).toLoadRect (r.harg6.unread x4) = up 256 128 (rows D (i 1).val) :=
    ((View.readAt_eq_ld _ _ _).trans (View.ld_unit_zero (by decide) _ _)).trans ((r.harg6.read_unread x4).trans h.d)
  have e3 : View.readAt (Elt Ideal) r.arg5.view (Rect.unit (s := S256x128) ![0, 0] S256x1.size inb_S256x128_S256x1_0_0).toLoadRect (r.harg5.unread x3) = up 256 1 (lose Q K (i 1).val) := by
    rw [View.readAt_eq_ld, r.harg5.read_unread x3, h.l]
    funext j
    have := (Rect.idx_unit_val (s := S256x128) ![0, 0] S256x1.size inb_S256x128_S256x1_0_0 j 0)
    exact congrArg (fun a : ℕ => ((LT Q K (256 * (i 1).val + a) : ℝ) : EReal)) (this.trans (Nat.zero_add _))
  show st (F := Ideal) _ _ _ _ _ _ _ _ _ _ _ _ _ _ _ = _
  rw [e0, e3, e4]

theorem ldCol_eq (m : Memref sig .tc .vmem S2048x128 .f32) (hm : m.IsWhole) (x : Vec Ideal S2048x128 .f32) : ldCol m hm x = x :=
  ((View.readAt_eq_ld _ _ _).trans (View.ld_unit_zero (by decide) _ _)).trans (hm.read_unread x)

/-- A head's first point. -/
theorem point_A (hc0 : cond0_0 i) (hc1 : ¬cond0_1 i) (h : Ins Q K V D x0 x1 x2 x3 x4 (i 1).val) :
    out0_A_5 c i r.arg2 r.harg2 r.arg3 r.harg3 r.arg4 r.harg4 r.arg5 r.harg5 r.arg6 r.harg6 r.arg7 r.harg7 r.arg8 r.harg8 r.arg9 r.harg9 r.arg10 r.harg10 r.arg11 r.harg11 r.arg12 r.harg12 r.arg13 r.harg13 hc0 hc1 x0 x1 x2 x3 x4 = up 256 128 (rows (DQ Q K V D) (i 1).val)
    ∧ sout0_A_0 c i r.arg2 r.harg2 r.arg3 r.harg3 r.arg4 r.harg4 r.arg5 r.harg5 r.arg6 r.harg6 r.arg7 r.harg7 r.arg8 r.harg8 r.arg9 r.harg9 r.arg10 r.harg10 r.arg11 r.harg11 r.arg12 r.harg12 r.arg13 r.harg13 hc0 hc1 x0 x1 x2 x3 x4 = up 2048 128 K
    ∧ sout0_A_1 c i r.arg2 r.harg2 r.arg3 r.harg3 r.arg4 r.harg4 r.arg5 r.harg5 r.arg6 r.harg6 r.arg7 r.harg7 r.arg8 r.harg8 r.arg9 r.harg9 r.arg10 r.harg10 r.arg11 r.harg11 r.arg12 r.harg12 r.arg13 r.harg13 hc0 hc1 x0 x1 x2 x3 x4 = up 2048 128 V
    ∧ sout0_A_2 c i r.arg2 r.harg2 r.arg3 r.harg3 r.arg4 r.harg4 r.arg5 r.harg5 r.arg6 r.harg6 r.arg7 r.harg7 r.arg8 r.harg8 r.arg9 r.harg9 r.arg10 r.harg10 r.arg11 r.harg11 r.arg12 r.harg12 r.arg13 r.harg13 hc0 hc1 x0 x1 x2 x3 x4 = up 2048 128 (fun s d => 0 + addK Q K V D (i 1).val s d)
    ∧ sout0_A_3 c i r.arg2 r.harg2 r.arg3 r.harg3 r.arg4 r.harg4 r.arg5 r.harg5 r.arg6 r.harg6 r.arg7 r.harg7 r.arg8 r.harg8 r.arg9 r.harg9 r.arg10 r.harg10 r.arg11 r.harg11 r.arg12 r.harg12 r.arg13 r.harg13 hc0 hc1 x0 x1 x2 x3 x4 = up 2048 128 (fun s d => 0 + addV Q K D (i 1).val s d) := by
  have k0 : (k0_pay26 (ldCol r.arg3 r.harg3 x1) : Vec Ideal S2048x128 .bf16) = up 2048 128 K :=
    (shapeCast_self _ _).trans ((ldCol_eq r.arg3 r.harg3 x1).trans h.k)
  have v0 : (k0_pay27 (ldCol r.arg4 r.harg4 x2) : Vec Ideal S2048x128 .bf16) = up 2048 128 V :=
    (shapeCast_self _ _).trans ((ldCol_eq r.arg4 r.harg4 x2).trans h.v)
  have z : ∀ w : Vec Ideal S2048x128 .f32, w = (fun _ => Ideal.ofBits .f32 0x00000000#32) → w = up 2048 128 (fun _ _ => 0) := fun w hw =>
    hw.trans (funext fun _ => ofBits_zero)
  obtain ⟨h1, h2, h3⟩ := loop_end Q K V D i Variants.none c none r (A10 r x1) (A11 r x2) (A12 r) (A13 r)
    ((View.read_writes_full _ _ _ _ _).trans k0) ((View.read_writes_full _ _ _ _ _).trans v0) (fun _ _ => 0) (fun _ _ => 0)
    ((View.read_writes_full _ _ _ _ _).trans (z _ rfl)) ((View.read_writes_full _ _ _ _ _).trans (z _ rfl)) _ rfl
  have e := stP_eq Q K V D c i r x0 x1 x2 x3 x4 h (A10 r x1) (A11 r x2) (A12 r) (A13 r)
  rw [outA_5, soutA_0, soutA_1, soutA_2, soutA_3, e]
  exact ⟨h1, k0, v0, h2, h3⟩

/-- The loop's end at a later point, whose scratch buffers hold `k`, `v` and the two sums so far. -/
theorem stB_eq (h : Ins Q K V D x0 x1 x2 x3 x4 (i 1).val) (A B : ℕ → ℕ → ℝ) :
    k0_pay7 (stB (F := Ideal) c i r x0 x3 x4 (up 2048 128 K) (up 2048 128 V) (up 2048 128 A) (up 2048 128 B)).1.1 = up 256 128 (rows (DQ Q K V D) (i 1).val)
    ∧ acc12 (F := Ideal) c i r x0 x3 x4 (up 2048 128 K) (up 2048 128 V) (up 2048 128 A) (up 2048 128 B) = up 2048 128 (fun s d => A s d + addK Q K V D (i 1).val s d)
    ∧ acc13 (F := Ideal) c i r x0 x3 x4 (up 2048 128 K) (up 2048 128 V) (up 2048 128 A) (up 2048 128 B) = up 2048 128 (fun s d => B s d + addV Q K D (i 1).val s d) := by
  have e := stP_eq Q K V D c i r x0 x1 x2 x3 x4 h (r.harg10.unread (up 2048 128 K)) (r.harg11.unread (up 2048 128 V)) (r.harg12.unread (up 2048 128 A)) (r.harg13.unread (up 2048 128 B))
  show (stP _ _ _ _ _ _ _ _ _ _).1.1 = _ ∧ View.read _ _ (View.writes _ _ _ (stP _ _ _ _ _ _ _ _ _ _).2.1) = _ ∧ View.read _ _ (View.writes _ _ _ (stP _ _ _ _ _ _ _ _ _ _).2.2) = _
  rw [e]
  exact loop_end Q K V D i Variants.none c none r _ _ _ _ (r.harg10.read_unread _) (r.harg11.read_unread _) A B (r.harg12.read_unread _) (r.harg13.read_unread _) _ rfl

end point

/-- The rows' sums of the first `n + 1` blocks. -/
abbrev sumK (Q K V D : ℕ → ℕ → ℝ) (n : ℕ) : ℕ → ℕ → ℝ := fun s d => ∑ t ∈ range (256 * n), DZ Q K V D t s * Q t d
abbrev sumV (Q K D : ℕ → ℕ → ℝ) (n : ℕ) : ℕ → ℕ → ℝ := fun s d => ∑ t ∈ range (256 * n), W Q K t s * D t d

theorem sumK_succ (Q K V D : ℕ → ℕ → ℝ) (n : ℕ) : (fun s d => sumK Q K V D n s d + addK Q K V D n s d) = sumK Q K V D (n + 1) :=
  funext fun s => funext fun d => (sum_block (fun t => DZ Q K V D t s * Q t d) n).symm
theorem sumV_succ (Q K D : ℕ → ℕ → ℝ) (n : ℕ) : (fun s d => sumV Q K D n s d + addV Q K D n s d) = sumV Q K D (n + 1) :=
  funext fun s => funext fun d => (sum_block (fun t => W Q K t s * D t d) n).symm

variable (m : (ℓ : Loc nD τ sig) → Buf (Elt Ideal) ℓ) (c : Dev nD) (Q K V D : ℕ → ℕ → ℕ → ℝ)

/-- Every point's input blocks hold its head's reals. -/
def AllIns : Prop := ∀ t : Fin cfg0.N, Ins (Q (t.val / 8)) (K (t.val / 8)) (V (t.val / 8)) (D (t.val / 8))
  (iblk m c 0 t) (iblk m c 1 t) (iblk m c 2 t) (iblk m c 3 t) (iblk m c 4 t) (t.val % 8)

theorem coord1 (t : Fin cfg0.N) : (grid0.coords t 1).val = t.val % 8 := by
  have e1 : (grid0.coords t 1).val = t.val / 1 % 8 := Pipeline.Grid.coords_val t 1 (by decide) rfl
  rwa [Nat.div_one] at e1

/-- The buffers of a point. -/
abbrev refsAt (t : Fin cfg0.N) : Refs := ⟨ms0_0 t, hs0_0 t, ms0_1 t, hs0_1 t, ms0_2 t, hs0_2 t, ms0_3 t, hs0_3 t, ms0_4 t, hs0_4 t, ms0_5 t, hs0_5 t, ms0_6 t, hs0_6 t, ms0_7 t, hs0_7 t,
  scM0_0, Memref.isWhole_whole _, scM0_1, Memref.isWhole_whole _, scM0_2, Memref.isWhole_whole _, scM0_3, Memref.isWhole_whole _⟩

/-- What a point leaves: its rows of the gradient at `q`; in the scratch buffers the head's `k` and `v` and the sums over the rows
    up to the point's last. -/
structure Left (h n : ℕ) (o : Vec Ideal S256x128 .bf16 × Vec Ideal S2048x128 .bf16 × Vec Ideal S2048x128 .bf16 × Vec Ideal S2048x128 .bf16 × Vec Ideal S2048x128 .bf16 × Vec Ideal S2048x128 .f32 × Vec Ideal S2048x128 .f32) : Prop where
  dq : o.1 = up 256 128 (rows (DQ (Q h) (K h) (V h) (D h)) n)
  k : n < 7 → o.2.2.2.1 = up 2048 128 (K h)
  v : n < 7 → o.2.2.2.2.1 = up 2048 128 (V h)
  dka : n < 7 → o.2.2.2.2.2.1 = up 2048 128 (sumK (Q h) (K h) (V h) (D h) (n + 1))
  dva : n < 7 → o.2.2.2.2.2.2 = up 2048 128 (sumV (Q h) (K h) (D h) (n + 1))
  dk : n = 7 → o.2.1 = up 2048 128 (DK (Q h) (K h) (V h) (D h))
  dv : n = 7 → o.2.2.1 = up 2048 128 (DV (Q h) (K h) (D h))

theorem pay8_id (x : Vec Ideal S2048x128 .f32) : k0_pay8 x = x := rfl
theorem pay9_id (x : Vec Ideal S2048x128 .f32) : k0_pay9 x = x := rfl

variable (hI : AllIns m c Q K V D)
include hI

omit hI in
theorem mk_left {h n : ℕ} {o1 : Vec Ideal S256x128 .bf16} {o2 o3 o4 o5 : Vec Ideal S2048x128 .bf16} {o6 o7 : Vec Ideal S2048x128 .f32}
    (e1 : o1 = up 256 128 (rows (DQ (Q h) (K h) (V h) (D h)) n)) (e2 : n = 7 → o2 = up 2048 128 (DK (Q h) (K h) (V h) (D h)))
    (e3 : n = 7 → o3 = up 2048 128 (DV (Q h) (K h) (D h))) (e4 : n < 7 → o4 = up 2048 128 (K h)) (e5 : n < 7 → o5 = up 2048 128 (V h))
    (e6 : n < 7 → o6 = up 2048 128 (sumK (Q h) (K h) (V h) (D h) (n + 1))) (e7 : n < 7 → o7 = up 2048 128 (sumV (Q h) (K h) (D h) (n + 1))) :
    Left Q K V D h n (o1, o2, o3, o4, o5, o6, o7) := ⟨e1, e4, e5, e6, e7, e2, e3⟩

theorem left_A (t : Fin cfg0.N) (h0 : t.val % 8 = 0) (acc) : Left Q K V D (t.val / 8) (t.val % 8) (stAt0 m c t.val t.isLt acc) := by
  have h1 : ¬t.val % 8 = 7 := by omega
  have hi := hI t
  rw [← coord1 t] at hi
  obtain ⟨e1, e2, e3, e4, e5⟩ := point_A _ _ _ _ c (grid0.coords t) (refsAt t) _ _ _ _ _ ((hcond0_0 t).mpr h0) (fun h => h1 ((hcond0_1 t).mp h)) hi
  rw [coord1 t] at e1 e4 e5
  rw [stAt0_A m c t acc h0 h1]
  dsimp only [refsAt] at e1 e2 e3 e4 e5
  refine mk_left Q K V D e1 (fun h => absurd h h1) (fun h => absurd h h1) (fun _ => e2) (fun _ => e3) (fun _ => e4.trans ?_) (fun _ => e5.trans ?_)
  · rw [← sumK_succ, h0]; rfl
  · rw [← sumV_succ, h0]; rfl

theorem left_B (t : Fin cfg0.N) (h0 : ¬t.val % 8 = 0) (acc) (ha : Left Q K V D (t.val / 8) (t.val % 8 - 1) acc) :
    Left Q K V D (t.val / 8) (t.val % 8) (stAt0 m c t.val t.isLt acc) := by
  have hi := hI t
  have hm : t.val % 8 < 8 := Nat.mod_lt _ (by decide)
  have hp : t.val % 8 - 1 < 7 := by omega
  have hs : t.val % 8 - 1 + 1 = t.val % 8 := by omega
  rw [← coord1 t] at hi
  obtain ⟨e1, e2, e3⟩ := stB_eq _ _ _ _ c (grid0.coords t) (refsAt t) _ _ _ _ _ hi
    (sumK (Q (t.val / 8)) (K (t.val / 8)) (V (t.val / 8)) (D (t.val / 8)) (t.val % 8)) (sumV (Q (t.val / 8)) (K (t.val / 8)) (D (t.val / 8)) (t.val % 8))
  rw [coord1 t] at e1 e2 e3
  rw [sumK_succ] at e2
  rw [sumV_succ] at e3
  have a1 := ha.k hp
  have a2 := ha.v hp
  have a3 := ha.dka hp
  have a4 := ha.dva hp
  rw [hs] at a3 a4
  generalize hA : sumK (Q (t.val / 8)) (K (t.val / 8)) (V (t.val / 8)) (D (t.val / 8)) (t.val % 8) = A at a3 e1 e2 e3
  generalize hB : sumV (Q (t.val / 8)) (K (t.val / 8)) (D (t.val / 8)) (t.val % 8) = B at a4 e1 e2 e3
  have n0 : ¬cond0_0 (grid0.coords t) := fun h => h0 ((hcond0_0 t).mp h)
  by_cases h1 : t.val % 8 = 7
  · have o5 := outC_5 (F := Ideal) c (grid0.coords t) (refsAt t) (iblk m c 0 t) (iblk m c 1 t) (iblk m c 2 t) (iblk m c 3 t) (iblk m c 4 t) (up 2048 128 (K (t.val / 8))) (up 2048 128 (V (t.val / 8))) (up 2048 128 A) (up 2048 128 B) n0 ((hcond0_1 t).mpr h1)
    have o6 := outC_6 (F := Ideal) c (grid0.coords t) (refsAt t) (iblk m c 0 t) (iblk m c 1 t) (iblk m c 2 t) (iblk m c 3 t) (iblk m c 4 t) (up 2048 128 (K (t.val / 8))) (up 2048 128 (V (t.val / 8))) (up 2048 128 A) (up 2048 128 B) n0 ((hcond0_1 t).mpr h1)
    have o7 := outC_7 (F := Ideal) c (grid0.coords t) (refsAt t) (iblk m c 0 t) (iblk m c 1 t) (iblk m c 2 t) (iblk m c 3 t) (iblk m c 4 t) (up 2048 128 (K (t.val / 8))) (up 2048 128 (V (t.val / 8))) (up 2048 128 A) (up 2048 128 B) n0 ((hcond0_1 t).mpr h1)
    have e2' := o6.trans ((pay8_id _).trans (e2.trans (congrArg (fun n => up 2048 128 (sumK (Q (t.val / 8)) (K (t.val / 8)) (V (t.val / 8)) (D (t.val / 8)) (n + 1))) h1)))
    have e3' := o7.trans ((pay9_id _).trans (e3.trans (congrArg (fun n => up 2048 128 (sumV (Q (t.val / 8)) (K (t.val / 8)) (D (t.val / 8)) (n + 1))) h1)))
    rw [stAt0_C m c t acc h0 h1, a1, a2, a3, a4]
    have e1' := o5.trans e1
    dsimp only [refsAt] at e1' e2' e3'
    exact mk_left Q K V D e1' (fun _ => e2') (fun _ => e3') (fun h => absurd h1 h.ne) (fun h => absurd h1 h.ne) (fun h => absurd h1 h.ne) (fun h => absurd h1 h.ne)
  · have n1 : ¬cond0_1 (grid0.coords t) := fun h => h1 ((hcond0_1 t).mp h)
    have o5 := outB_5 (F := Ideal) c (grid0.coords t) (refsAt t) (iblk m c 0 t) (iblk m c 1 t) (iblk m c 2 t) (iblk m c 3 t) (iblk m c 4 t) (up 2048 128 (K (t.val / 8))) (up 2048 128 (V (t.val / 8))) (up 2048 128 A) (up 2048 128 B) n0 n1
    have o6 := soutB_2 (F := Ideal) c (grid0.coords t) (refsAt t) (iblk m c 0 t) (iblk m c 1 t) (iblk m c 2 t) (iblk m c 3 t) (iblk m c 4 t) (up 2048 128 (K (t.val / 8))) (up 2048 128 (V (t.val / 8))) (up 2048 128 A) (up 2048 128 B) n0 n1
    have o7 := soutB_3 (F := Ideal) c (grid0.coords t) (refsAt t) (iblk m c 0 t) (iblk m c 1 t) (iblk m c 2 t) (iblk m c 3 t) (iblk m c 4 t) (up 2048 128 (K (t.val / 8))) (up 2048 128 (V (t.val / 8))) (up 2048 128 A) (up 2048 128 B) n0 n1
    rw [stAt0_B m c t acc h0 h1, a1, a2, a3, a4]
    have e1' := o5.trans e1
    have e2' := o6.trans e2
    have e3' := o7.trans e3
    dsimp only [refsAt] at e1' e2' e3'
    exact mk_left Q K V D e1' (fun h => absurd h h1) (fun h => absurd h h1) (fun _ => rfl) (fun _ => rfl) (fun _ => e2') (fun _ => e3')

/-- What every point leaves. -/
theorem left_all : ∀ (n : ℕ) (hn : n < cfg0.N), Left Q K V D (n / 8) (n % 8) (outsAt0 m c n hn) := by
  intro n
  induction n with
  | zero => intro hn; rw [outsAt0_zero]; exact left_A m c Q K V D hI ⟨0, hn⟩ rfl _
  | succ n ih =>
    intro hn
    rw [outsAt0_succ]
    by_cases h0 : (n + 1) % 8 = 0
    · exact left_A m c Q K V D hI ⟨n + 1, hn⟩ h0 _
    · have := ih (Nat.lt_of_succ_lt hn)
      refine left_B m c Q K V D hI ⟨n + 1, hn⟩ h0 _ ?_
      rwa [show (n + 1) / 8 = n / 8 by omega, show (n + 1) % 8 - 1 = n % 8 by omega]

/-- The gradient at `q`, head `h` in columns `128 h …`. -/
theorem G5_up : G5 m c = up 2048 1024 (fun t e => DQ (Q (e / 128)) (K (e / 128)) (V (e / 128)) (D (e / 128)) t (e % 128)) := by
  funext j
  have h0 : (j 0).val < 2048 := (j 0).isLt
  have h1 : (j 1).val < 1024 := (j 1).isLt
  have hp : pt5Of j = 8 * ((j 1).val / 128) + (j 0).val / 256 := by show 1 * ((j 0).val / 256 - 0) + 8 * ((j 1).val / 128 - 0) = _; omega
  have hN : pt5Of j < cfg0.N := by rw [show cfg0.N = 64 from N_0, hp]; omega
  have hL := (left_all m c Q K V D hI (pt5Of j) hN).dq
  rw [outsAt0_sweep] at hL
  refine (dif_pos hN).trans ((congrFun hL (loc5Of j)).trans ?_)
  show ((DQ (Q (pt5Of j / 8)) (K (pt5Of j / 8)) (V (pt5Of j / 8)) (D (pt5Of j / 8)) (256 * (pt5Of j % 8) + (j 0).val % 256) ((j 1).val % 128) : ℝ) : EReal) = _
  rw [show pt5Of j / 8 = (j 1).val / 128 by omega, show 256 * (pt5Of j % 8) + (j 0).val % 256 = (j 0).val by omega]
  rfl

/-- The gradient at `k`. -/
theorem G6_up : G6 m c = up 2048 1024 (fun t e => DK (Q (e / 128)) (K (e / 128)) (V (e / 128)) (D (e / 128)) t (e % 128)) := by
  funext j
  have h0 : (j 0).val < 2048 := (j 0).isLt
  have h1 : (j 1).val < 1024 := (j 1).isLt
  have hp : pt6Of j = 8 * ((j 1).val / 128) + 7 := by show 8 * (8 * ((j 0).val / 2048 - 0) + 1 * ((j 1).val / 128 - 0)) + 7 = _; omega
  have hN : pt6Of j < cfg0.N := by rw [show cfg0.N = 64 from N_0, hp]; omega
  have hL := (left_all m c Q K V D hI (pt6Of j) hN).dk (by omega)
  rw [outsAt0_sweep] at hL
  refine (dif_pos hN).trans ((congrFun hL (loc6Of j)).trans ?_)
  show ((DK (Q (pt6Of j / 8)) (K (pt6Of j / 8)) (V (pt6Of j / 8)) (D (pt6Of j / 8)) ((j 0).val % 2048) ((j 1).val % 128) : ℝ) : EReal) = _
  rw [show pt6Of j / 8 = (j 1).val / 128 by omega, show (j 0).val % 2048 = (j 0).val by omega]
  rfl

/-- The gradient at `v`. -/
theorem G7_up : G7 m c = up 2048 1024 (fun t e => DV (Q (e / 128)) (K (e / 128)) (D (e / 128)) t (e % 128)) := by
  funext j
  have h0 : (j 0).val < 2048 := (j 0).isLt
  have h1 : (j 1).val < 1024 := (j 1).isLt
  have hp : pt7Of j = 8 * ((j 1).val / 128) + 7 := by show 8 * (8 * ((j 0).val / 2048 - 0) + 1 * ((j 1).val / 128 - 0)) + 7 = _; omega
  have hN : pt7Of j < cfg0.N := by rw [show cfg0.N = 64 from N_0, hp]; omega
  have hL := (left_all m c Q K V D hI (pt7Of j) hN).dv (by omega)
  rw [outsAt0_sweep] at hL
  refine (dif_pos hN).trans ((congrFun hL (loc7Of j)).trans ?_)
  show ((DV (Q (pt7Of j / 8)) (K (pt7Of j / 8)) (D (pt7Of j / 8)) ((j 0).val % 2048) ((j 1).val % 128) : ℝ) : EReal) = _
  rw [show pt7Of j / 8 = (j 1).val / 128 by omega, show (j 0).val % 2048 = (j 0).val by omega]
  rfl

end Cert.Sba
-- ==== Proof.Window.lean ====
module
public import proofs.«01_k».proof.Proof.Block
public import proofs.«01_k».proof.Proof.Gen.ReferenceIdeal.Read

/-! The running sums of the reference: a sum over a window of 2048 along the keys, padded with zeros on one side, is the
   sum over the keys from, or up to, the one at hand. -/

@[expose] public section

set_option maxRecDepth 16384

noncomputable section

namespace Cert.Sba

open Idealize.ShloMosaic Idealize.SL.Sem Cert.ReferenceIdeal Cert.ReferenceIdeal.Gen Finset

theorem foldl_add {ι : Type} (g : ι → EReal) (l : List ι) (v : EReal) :
    l.foldl (fun r n => r + g n) v = v + (l.map g).sum := by
  induction l generalizing v with
  | nil => simp
  | cons a l ih => rw [List.foldl_cons, ih, List.map_cons, List.sum_cons, add_assoc]

/-- The window has 2048 places. -/
theorem window_numel : (⟨3, ![1, 1, 2048]⟩ : Shape).numel = 2048 := by decide +kernel

/-- The place of number `n` in the window lies `n` along the last axis and nowhere along the others. -/
theorem window_coord (n : Fin (⟨3, ![1, 1, 2048]⟩ : Shape).numel) :
    ((⟨3, ![1, 1, 2048]⟩ : Shape).rowMajor.symm n 0).val = 0 ∧ ((⟨3, ![1, 1, 2048]⟩ : Shape).rowMajor.symm n 1).val = 0
      ∧ ((⟨3, ![1, 1, 2048]⟩ : Shape).rowMajor.symm n 2).val = n.val := by
  have h := Shape.rowMajor_val_three ((⟨3, ![1, 1, 2048]⟩ : Shape).rowMajor.symm n)
  rw [Equiv.apply_symm_apply] at h
  have h0 : ((⟨3, ![1, 1, 2048]⟩ : Shape).rowMajor.symm n 0).val < 1 := Fin.isLt _
  have h1 : ((⟨3, ![1, 1, 2048]⟩ : Shape).rowMajor.symm n 1).val < 1 := Fin.isLt _
  refine ⟨by omega, by omega, ?_⟩
  have h2 : n.val = (((⟨3, ![1, 1, 2048]⟩ : Shape).rowMajor.symm n 0).val * 1
    + ((⟨3, ![1, 1, 2048]⟩ : Shape).rowMajor.symm n 1).val) * 2048
    + ((⟨3, ![1, 1, 2048]⟩ : Shape).rowMajor.symm n 2).val := h
  omega

/-- A sum over a list of all numbers below `N`, at reals. -/
theorem sum_finRange (N M : ℕ) (hN : N = M) (g : Fin N → EReal) (r : ℕ → ℝ) (h : ∀ n, g n = ((r n.val : ℝ) : EReal)) :
    ((List.finRange N).map g).sum = ((∑ n ∈ range M, r n : ℝ) : EReal) := by
  subst hN
  rw [← sum_up, funext h, ← List.ofFn_eq_map, List.sum_ofFn]

/-- A window sum along the keys, with `l` places of padding below, at real operands. -/
theorem window_sum (l u : ℕ) (f : ℕ → ℕ → ℕ → ℝ) (x : S8x2048x2048.Idx → EReal)
    (hx : ∀ i, x i = ((f (i 0).val (i 1).val (i 2).val : ℝ) : EReal)) (init : EReal) (hi : init = 0)
    (h : S8x2048x2048.ReduceWindows ![1, 1, 2048] ![1, 1, 1] ![0, 0, l] ![0, 0, u] S8x2048x2048) (j : S8x2048x2048.Idx) :
    Ideal.hostReduceWindowAdd ![1, 1, 2048] ![1, 1, 1] ![0, 0, l] ![0, 0, u] h x init j
      = ((∑ n ∈ range 2048, if l ≤ (j 2).val + n ∧ (j 2).val + n - l < 2048 then f (j 0).val (j 1).val ((j 2).val + n - l) else 0 : ℝ) : EReal) := by
  subst hi
  unfold Ideal.hostReduceWindowAdd Host.reduceWindow
  refine (foldl_add _ _ _).trans ?_
  rw [zero_add]
  refine sum_finRange _ 2048 window_numel _
    (fun n => if l ≤ (j 2).val + n ∧ (j 2).val + n - l < 2048 then f (j 0).val (j 1).val ((j 2).val + n - l) else 0) fun n => ?_
  obtain ⟨e0, e1, e2⟩ := window_coord n
  have j0 : (j 0).val < 8 := (j 0).isLt
  have j1 : (j 1).val < 2048 := (j 1).isLt
  by_cases hc : l ≤ (j 2).val + n.val ∧ (j 2).val + n.val - l < 2048
  · beta_reduce
    rw [if_pos hc]
    refine (dif_pos (fun a => ?_)).trans ?_
    · match a with
      | ⟨0, _⟩ =>
        show 0 ≤ (j 0).val * 1 + ((⟨3, ![1, 1, 2048]⟩ : Shape).rowMajor.symm n 0).val
          ∧ (j 0).val * 1 + ((⟨3, ![1, 1, 2048]⟩ : Shape).rowMajor.symm n 0).val - 0 < 8
        omega
      | ⟨1, _⟩ =>
        show 0 ≤ (j 1).val * 1 + ((⟨3, ![1, 1, 2048]⟩ : Shape).rowMajor.symm n 1).val
          ∧ (j 1).val * 1 + ((⟨3, ![1, 1, 2048]⟩ : Shape).rowMajor.symm n 1).val - 0 < 2048
        omega
      | ⟨2, _⟩ =>
        show l ≤ (j 2).val * 1 + ((⟨3, ![1, 1, 2048]⟩ : Shape).rowMajor.symm n 2).val
          ∧ (j 2).val * 1 + ((⟨3, ![1, 1, 2048]⟩ : Shape).rowMajor.symm n 2).val - l < 2048
        omega
    · refine (hx _).trans ?_
      show ((f ((j 0).val * 1 + ((⟨3, ![1, 1, 2048]⟩ : Shape).rowMajor.symm n 0).val - 0)
        ((j 1).val * 1 + ((⟨3, ![1, 1, 2048]⟩ : Shape).rowMajor.symm n 1).val - 0)
        ((j 2).val * 1 + ((⟨3, ![1, 1, 2048]⟩ : Shape).rowMajor.symm n 2).val - l) : ℝ) : EReal) = _
      rw [e0, e1, e2]
      simp only [mul_one, add_zero, Nat.sub_zero]
  · beta_reduce
    rw [if_neg hc]
    refine dif_neg fun hin => hc ?_
    have h2 : l ≤ (j 2).val * 1 + ((⟨3, ![1, 1, 2048]⟩ : Shape).rowMajor.symm n 2).val
          ∧ (j 2).val * 1 + ((⟨3, ![1, 1, 2048]⟩ : Shape).rowMajor.symm n 2).val - l < 2048 := hin 2
    omega

/-- The same of the program's operation. -/
theorem window_sum_host (l u : ℕ) (f : ℕ → ℕ → ℕ → ℝ) (x : S8x2048x2048.Idx → EReal)
    (hx : ∀ i, x i = ((f (i 0).val (i 1).val (i 2).val : ℝ) : EReal)) (init : S_.Idx → EReal) (hi : ∀ i, init i = 0)
    (h : S8x2048x2048.ReduceWindows ![1, 1, 2048] ![1, 1, 1] ![0, 0, l] ![0, 0, u] S8x2048x2048) (hu : 0 < S_.numel) (j : S8x2048x2048.Idx) :
    Host.reduceWindowAdd (F := Ideal) (φ := .f32) ![1, 1, 2048] ![1, 1, 1] ![0, 0, l] ![0, 0, u] x init h hu j
      = ((∑ n ∈ range 2048, if l ≤ (j 2).val + n ∧ (j 2).val + n - l < 2048 then f (j 0).val (j 1).val ((j 2).val + n - l) else 0 : ℝ) : EReal) :=
  window_sum l u f x hx (init (Shape.Idx.first hu)) (hi _) h j

/-- Padded above: the sum over the keys from the one at hand on. -/
theorem suffix_sum (f : ℕ → ℝ) (s : ℕ) (hs : s < 2048) :
    (∑ n ∈ range 2048, if 0 ≤ s + n ∧ s + n - 0 < 2048 then f (s + n - 0) else 0)
      = ∑ j ∈ range 2048, f j - ∑ j ∈ range s, f j := by
  have e : ∑ j ∈ range 2048, f j = ∑ j ∈ range s, f j + ∑ n ∈ range (2048 - s), f (s + n) := by
    rw [← sum_range_add]; congr 2; omega
  rw [e, add_sub_cancel_left, sum_cut _ (Nat.sub_le 2048 s)]
  · refine sum_congr rfl fun n hn => ?_
    rw [mem_range] at hn
    rw [if_pos (by omega), Nat.sub_zero]
  · intro n hn
    rw [if_neg (by omega)]

/-- Padded below: the sum over the keys up to and with the one at hand. -/
theorem prefix_sum (f : ℕ → ℝ) (s : ℕ) (hs : s < 2048) :
    (∑ n ∈ range 2048, if 2047 ≤ s + n ∧ s + n - 2047 < 2048 then f (s + n - 2047) else 0)
      = ∑ j ∈ range (s + 1), f j := by
  have e := sum_range_add (fun n => if 2047 ≤ s + n ∧ s + n - 2047 < 2048 then f (s + n - 2047) else 0) (2047 - s) (s + 1)
  rw [show 2047 - s + (s + 1) = 2048 by omega] at e
  rw [e, sum_eq_zero, zero_add]
  · refine sum_congr rfl fun n hn => ?_
    rw [mem_range] at hn
    rw [if_pos (by omega)]
    congr 1; omega
  · intro n hn
    rw [mem_range] at hn
    rw [if_neg (by omega)]

end Cert.Sba
-- ==== Proof.Ref.lean ====
module
public import proofs.«01_k».proof.Proof.Window

/-! The reference at real operands: each of its arrays is the array of the images of the reals it stands for. -/

@[expose] public section

set_option maxRecDepth 16384

noncomputable section

namespace Cert.Sba

open Idealize.ShloMosaic Idealize.SL.Sem Cert.ReferenceIdeal Cert.ReferenceIdeal.Gen Cert.ReferenceIdeal.Read Finset

/-- The queries, keys and values of a head, from the fused projection `P`; and its part of the gradient `G` at the output. -/
def hQ (P : ℕ → ℕ → ℝ) (h t d : ℕ) : ℝ := P t (128 * h + d)
def hK (P : ℕ → ℕ → ℝ) (h t d : ℕ) : ℝ := P t (1024 + 128 * h + d)
def hV (P : ℕ → ℕ → ℝ) (h t d : ℕ) : ℝ := P t (2048 + 128 * h + d)
def hD (G : ℕ → ℕ → ℝ) (h t d : ℕ) : ℝ := G t (128 * h + d)

/-- The first 3072 columns of the projection are the images of the reals `P`. -/
def IsP (P : ℕ → ℕ → ℝ) (x0 : S2048x6144.Idx → EReal) : Prop :=
  ∀ i : S2048x6144.Idx, (i 1).val < 3072 → x0 i = ((P (i 0).val (i 1).val : ℝ) : EReal)

/-- The softplus of the programs at a real: its guards against what is not a number do not fire. -/
theorem softplus_host (x : ℝ) :
    Scalar.select (FloatOps.cmpf (F := Ideal) (φ := .f32) .une (FloatOps.subf (F := Ideal) (φ := .f32) (x : EReal) (FloatOps.ofBits .f32 0x00000000#32))
        (FloatOps.subf (F := Ideal) (φ := .f32) (x : EReal) (FloatOps.ofBits .f32 0x00000000#32)))
      (FloatOps.addf (F := Ideal) (φ := .f32) (x : EReal) (FloatOps.ofBits .f32 0x00000000#32))
      (FloatOps.addf (F := Ideal) (φ := .f32) (FloatOps.maximumf (F := Ideal) (φ := .f32) (x : EReal) (FloatOps.ofBits .f32 0x00000000#32))
        (FloatOps.hostUnary (F := Ideal) (φ := .f32) .log1p (FloatOps.hostUnary (F := Ideal) (φ := .f32) .exp (FloatOps.hostNegf (F := Ideal) (φ := .f32) (FloatOps.hostAbsf (F := Ideal) (φ := .f32)
          (FloatOps.subf (F := Ideal) (φ := .f32) (x : EReal) (FloatOps.ofBits .f32 0x00000000#32)))))))
      = ((-lsg (-x) : ℝ) : EReal) := by
  show Scalar.select (BitVec.ofBool (decide ((x : EReal) - Ideal.ofBits .f32 0x00000000#32 ≠ (x : EReal) - Ideal.ofBits .f32 0x00000000#32))) _
    (max (x : EReal) (Ideal.ofBits .f32 0x00000000#32) + Ideal.log1p (Ideal.exp (-(max ((x : EReal) - Ideal.ofBits .f32 0x00000000#32)
      (-((x : EReal) - Ideal.ofBits .f32 0x00000000#32)))))) = _
  rw [decide_eq_false (fun h => h rfl), ofBits_zero, EReal.coe_zero, sub_zero, ← EReal.coe_zero, abs_coe, max_coe, ← EReal.coe_neg, exp_coe,
    log1p_coe (Real.exp_pos _), ← EReal.coe_add, softplus_eq]
  rfl

/-- A guard of the programs against `+∞` does not fire at a real. -/
theorem guard_host (x : ℝ) (y : EReal) :
    Scalar.select (FloatOps.cmpf (F := Ideal) (φ := .f32) .oeq (x : EReal) (FloatOps.ofBits .f32 0x7F800000#32)) y (x : EReal) = (x : EReal) := by
  show Scalar.select (BitVec.ofBool (decide ((x : EReal) = Ideal.ofBits .f32 0x7F800000#32))) _ _ = _
  rw [ofBits_top, decide_eq_false (EReal.coe_ne_top x)]
  rfl

variable (P G : ℕ → ℕ → ℝ) (x0 : S2048x6144.Idx → EReal) (x1 : S2048x1024.Idx → EReal)

section stages
variable (hx : IsP P x0) (hg : x1 = up 2048 1024 G)
include hx

theorem ref_q (i : S2048x8x128.Idx) : val_main_v3 (F := Ideal) x0 i = ((hQ P (i 1).val (i 0).val (i 2).val : ℝ) : EReal) := by
  have h1 : (i 1).val < 8 := (i 1).isLt
  have h2 : (i 2).val < 128 := (i 2).isLt
  rw [val_main_v3_apply, val_main_v0_apply, hx _ (by
    show (((i 0).val * 8 + (i 1).val) * 128 + (i 2).val) % 1024 < 3072; omega)]
  show ((P ((((i 0).val * 8 + (i 1).val) * 128 + (i 2).val) / 1024) ((((i 0).val * 8 + (i 1).val) * 128 + (i 2).val) % 1024) : ℝ) : EReal) = _
  unfold hQ
  congr 2 <;> omega

theorem ref_k (i : S2048x8x128.Idx) : val_main_v4 (F := Ideal) x0 i = ((hK P (i 1).val (i 0).val (i 2).val : ℝ) : EReal) := by
  have h1 : (i 1).val < 8 := (i 1).isLt
  have h2 : (i 2).val < 128 := (i 2).isLt
  rw [val_main_v4_apply, val_main_v1_apply, hx _ (by
    show 1024 + (((i 0).val * 8 + (i 1).val) * 128 + (i 2).val) % 1024 < 3072; omega)]
  show ((P ((((i 0).val * 8 + (i 1).val) * 128 + (i 2).val) / 1024) (1024 + (((i 0).val * 8 + (i 1).val) * 128 + (i 2).val) % 1024) : ℝ) : EReal) = _
  unfold hK
  congr 2 <;> omega

theorem ref_v (i : S2048x8x128.Idx) : val_main_v5 (F := Ideal) x0 i = ((hV P (i 1).val (i 0).val (i 2).val : ℝ) : EReal) := by
  have h1 : (i 1).val < 8 := (i 1).isLt
  have h2 : (i 2).val < 128 := (i 2).isLt
  rw [val_main_v5_apply, val_main_v2_apply, hx _ (by
    show 2048 + (((i 0).val * 8 + (i 1).val) * 128 + (i 2).val) % 1024 < 3072; omega)]
  show ((P ((((i 0).val * 8 + (i 1).val) * 128 + (i 2).val) / 1024) (2048 + (((i 0).val * 8 + (i 1).val) * 128 + (i 2).val) % 1024) : ℝ) : EReal) = _
  unfold hV
  congr 2 <;> omega

/-- The logits. -/
theorem ref_z (i : S8x2048x2048.Idx) :
    val_main_v8 (F := Ideal) x0 i = ((Z (hQ P (i 0).val) (hK P (i 0).val) (i 1).val (i 2).val : ℝ) : EReal) := by
  rw [val_main_v8_apply, val_main_v6_apply, val_main_v7_apply, val_main_cst_apply]
  simp only [ref_q P x0 hx, ref_k P x0 hx, ← EReal.coe_mul]
  show (∑ k : Fin 128, ((hQ P (i 0).val (i 1).val k.val * hK P (i 0).val (i 2).val k.val : ℝ) : EReal)) * Ideal.ofBits .f32 0x3DB504F3#32 = _
  rw [ofBits_sc, sum_up 128 fun k => hQ P (i 0).val (i 1).val k * hK P (i 0).val (i 2).val k, ← EReal.coe_mul]
  rfl

theorem ref_nz (i : S8x2048x2048.Idx) :
    val_main_call0_v0 (F := Ideal) x0 i = ((-Z (hQ P (i 0).val) (hK P (i 0).val) (i 1).val (i 2).val : ℝ) : EReal) := by
  rw [val_main_call0_v0_apply, ref_z P x0 hx]; rfl

theorem ref_nnz (i : S8x2048x2048.Idx) :
    val_main_call1_v0 (F := Ideal) x0 i = ((Z (hQ P (i 0).val) (hK P (i 0).val) (i 1).val (i 2).val : ℝ) : EReal) := by
  rw [val_main_call1_v0_apply, val_main_v17_apply, ref_z P x0 hx]
  show - -((_ : ℝ) : EReal) = _
  rw [neg_neg]

theorem ref_sp_nz (i : S8x2048x2048.Idx) :
    val_main_call0_v1_0 (F := Ideal) x0 i = ((-lsg (Z (hQ P (i 0).val) (hK P (i 0).val) (i 1).val (i 2).val) : ℝ) : EReal) := by
  rw [val_main_call0_v1_0_apply, val_main_call0_call0_v4_apply, val_main_call0_call0_v6_apply, val_main_call0_call0_v11_apply,
    val_main_call0_call0_v10_apply, val_main_call0_call0_v9_apply, val_main_call0_call0_v8_apply, val_main_call0_call0_v7_apply,
    val_main_call0_call0_v3_apply, val_main_call0_call0_v1_apply, ref_nz P x0 hx]
  refine (softplus_host _).trans ?_
  rw [neg_neg]

theorem ref_sp_z (i : S8x2048x2048.Idx) :
    val_main_call1_v1_0 (F := Ideal) x0 i = ((-lsg (-Z (hQ P (i 0).val) (hK P (i 0).val) (i 1).val (i 2).val) : ℝ) : EReal) := by
  rw [val_main_call1_v1_0_apply, val_main_call1_call0_v4_apply, val_main_call1_call0_v6_apply, val_main_call1_call0_v11_apply,
    val_main_call1_call0_v10_apply, val_main_call1_call0_v9_apply, val_main_call1_call0_v8_apply, val_main_call1_call0_v7_apply,
    val_main_call1_call0_v3_apply, val_main_call1_call0_v1_apply, ref_nnz P x0 hx]
  exact softplus_host _

/-- `log σ(z)`. -/
theorem ref_lb (i : S8x2048x2048.Idx) :
    val_main_v16_0 (F := Ideal) x0 i = ((lsg (Z (hQ P (i 0).val) (hK P (i 0).val) (i 1).val (i 2).val) : ℝ) : EReal) := by
  rw [val_main_v16_0_apply, ref_sp_nz P x0 hx]
  show -((_ : ℝ) : EReal) = _
  rw [← EReal.coe_neg, neg_neg]

/-- `log (1 − σ(z))`. -/
theorem ref_lm (i : S8x2048x2048.Idx) :
    val_main_v18_0 (F := Ideal) x0 i = ((lsg (-Z (hQ P (i 0).val) (hK P (i 0).val) (i 1).val (i 2).val) : ℝ) : EReal) := by
  rw [val_main_v18_0_apply, ref_sp_z P x0 hx]
  show -((_ : ℝ) : EReal) = _
  rw [← EReal.coe_neg, neg_neg]

/-- `1 − σ(z)`, the derivative of `log σ(z)`. -/
theorem ref_dlb (i : S8x2048x2048.Idx) :
    val_main_v16_1 (F := Ideal) x0 i = ((1 - Real.exp (lsg (Z (hQ P (i 0).val) (hK P (i 0).val) (i 1).val (i 2).val)) : ℝ) : EReal) := by
  rw [val_main_v16_1_apply, val_main_call0_call0_v21_apply, val_main_call0_call0_v16_apply, val_main_call0_call0_v20_apply,
    val_main_call0_call0_v14_apply, val_main_call0_call0_v18_apply, val_main_call0_call0_v13_apply, val_main_call0_call0_v17_apply,
    val_main_call0_call0_cst_0_apply, val_main_call0_call0_cst_2_apply, ref_nz P x0 hx, ref_sp_nz P x0 hx, guard_host, guard_host]
  show Ideal.exp (((_ : ℝ) : EReal) - ((_ : ℝ) : EReal)) = _
  rw [← EReal.coe_sub, exp_coe, sub_neg_eq_add, neg_add_eq_sub, lsg_sub, ← exp_lsg_add, add_sub_cancel_left]

/-- `σ(z)`, the derivative of `−log (1 − σ(z))`. -/
theorem ref_dlm (i : S8x2048x2048.Idx) :
    val_main_v18_1 (F := Ideal) x0 i = ((Real.exp (lsg (Z (hQ P (i 0).val) (hK P (i 0).val) (i 1).val (i 2).val)) : ℝ) : EReal) := by
  rw [val_main_v18_1_apply, val_main_call1_call0_v21_apply, val_main_call1_call0_v16_apply, val_main_call1_call0_v20_apply,
    val_main_call1_call0_v14_apply, val_main_call1_call0_v18_apply, val_main_call1_call0_v13_apply, val_main_call1_call0_v17_apply,
    val_main_call1_call0_cst_0_apply, val_main_call1_call0_cst_2_apply, ref_nnz P x0 hx, ref_sp_z P x0 hx, guard_host, guard_host]
  show Ideal.exp (((_ : ℝ) : EReal) - ((_ : ℝ) : EReal)) = _
  rw [← EReal.coe_sub, exp_coe, sub_neg_eq_add, ← lsg_sub]
  congr 2; ring

end stages

/-- The mask: the keys before the row. -/
theorem ref_mask (i : S8x2048x2048.Idx) :
    val_main_v19_1 (F := Ideal) i = BitVec.ofBool (decide ((i 2).val < (i 1).val)) := by
  have h1 : (i 1).val < 2048 := (i 1).isLt
  have h2 : (i 2).val < 2048 := (i 2).isLt
  rw [val_main_v19_1_apply, val_main_v15_apply, val_main_v13_apply, val_main_v14_apply, val_main_v10_apply, val_main_v12_apply,
    val_main_v9_apply, val_main_v11_apply]
  show IntOp.cmpi .slt (BitVec.ofNat 32 (i 2).val) (BitVec.ofNat 32 (i 1).val) = _
  exact WordCmp.cmpi_slt_ofNat (by omega) (by omega)

theorem ref_mask' (i : S8x2048x2048.Idx) :
    val_main_v24_1 (F := Ideal) i = BitVec.ofBool (decide ((i 2).val < (i 1).val)) :=
  (val_main_v24_1_apply i).trans ((val_main_v19_1_apply i).symm.trans (ref_mask i))

section stages
variable (hx : IsP P x0) (hg : x1 = up 2048 1024 G)
include hx

theorem ref_LM (i : S8x2048x2048.Idx) :
    val_main_v19_0 (F := Ideal) x0 i = ((LM (hQ P (i 0).val) (hK P (i 0).val) (i 1).val (i 2).val : ℝ) : EReal) := by
  rw [val_main_v19_0_apply, ref_mask, ref_lm P x0 hx, val_main_call2_v2_apply]
  show Scalar.select _ _ (Ideal.ofBits .f32 0x00000000#32) = _
  rw [ofBits_zero, select_coe]
  simp only [decide_eq_true_eq]
  rfl

/-- What the keys from the one at hand on take. -/
theorem ref_suffix (i : S8x2048x2048.Idx) :
    val_main_v20 (F := Ideal) x0 i = ((LT (hQ P (i 0).val) (hK P (i 0).val) (i 1).val
      - ∑ j ∈ range (i 2).val, LM (hQ P (i 0).val) (hK P (i 0).val) (i 1).val j : ℝ) : EReal) := by
  unfold val_main_v20
  refine (window_sum_host 0 2047 (fun h t s => LM (hQ P h) (hK P h) t s) (val_main_v19_0 (F := Ideal) x0) (ref_LM P x0 hx)
    (val_main_call3_v0 (F := Ideal)) ?_ _ _ i).trans ?_
  · intro i; rw [val_main_call3_v0_apply]; exact ofBits_zero.trans EReal.coe_zero
  · rw [suffix_sum (fun s => LM (hQ P (i 0).val) (hK P (i 0).val) (i 1).val s) _ (i 2).isLt]
    rfl

/-- The exponential before the mask. -/
theorem ref_e (i : S8x2048x2048.Idx) :
    val_main_v23 (F := Ideal) x0 i = ((Real.exp (lsg (Z (hQ P (i 0).val) (hK P (i 0).val) (i 1).val (i 2).val)
      + (LT (hQ P (i 0).val) (hK P (i 0).val) (i 1).val
      - ∑ j ∈ range ((i 2).val + 1), LM (hQ P (i 0).val) (hK P (i 0).val) (i 1).val j)) : ℝ) : EReal) := by
  rw [val_main_v23_apply, val_main_v22_apply, val_main_v21_apply, ref_lb P x0 hx, ref_suffix P x0 hx, ref_LM P x0 hx]
  show Ideal.exp (((_ : ℝ) : EReal) + (((_ : ℝ) : EReal) - ((_ : ℝ) : EReal))) = _
  rw [← EReal.coe_sub, ← EReal.coe_add, exp_coe, sum_range_succ, sub_sub]

/-- The weights. -/
theorem ref_W (i : S8x2048x2048.Idx) :
    val_main_v24_0 (F := Ideal) x0 i = ((W (hQ P (i 0).val) (hK P (i 0).val) (i 1).val (i 2).val : ℝ) : EReal) := by
  rw [val_main_v24_0_apply, ref_mask', ref_e P x0 hx, val_main_call4_v2_apply]
  show Scalar.select _ _ (Ideal.ofBits .f32 0x00000000#32) = _
  rw [ofBits_zero, select_coe]
  simp only [decide_eq_true_eq]
  rfl

omit hx in
include hg in
theorem ref_d (i : S8x128x2048.Idx) :
    val_main_v29 (F := Ideal) x1 i = ((hD G (i 0).val (i 2).val (i 1).val : ℝ) : EReal) := by
  have h0 : (i 0).val < 8 := (i 0).isLt
  have h1 : (i 1).val < 128 := (i 1).isLt
  rw [val_main_v29_apply, val_main_v28_apply, hg]
  show ((G ((((i 2).val * 8 + (i 0).val) * 128 + (i 1).val) / 1024) ((((i 2).val * 8 + (i 0).val) * 128 + (i 1).val) % 1024) : ℝ) : EReal) = _
  unfold hD
  congr 2 <;> omega

include hg

/-- The gradient at the weights. -/
theorem ref_dw (i : S8x2048x2048.Idx) :
    val_main_v30 (F := Ideal) x0 x1 i
      = ((∑ d ∈ range 128, hD G (i 0).val (i 1).val d * hV P (i 0).val (i 2).val d : ℝ) : EReal) := by
  rw [val_main_v30_apply]
  simp only [ref_d G x1 hg, ref_v P x0 hx, ← EReal.coe_mul]
  exact sum_up 128 fun d => hD G (i 0).val (i 1).val d * hV P (i 0).val (i 2).val d

/-- The gradient at the weights, times the weights. -/
theorem ref_DA (i : S8x2048x2048.Idx) :
    val_main_v34 (F := Ideal) x0 x1 i
      = ((DA (hQ P (i 0).val) (hK P (i 0).val) (hV P (i 0).val) (hD G (i 0).val) (i 1).val (i 2).val : ℝ) : EReal) := by
  rw [val_main_v34_apply, val_main_v33_apply, ref_mask', ref_dw P G x0 x1 hx hg, ref_e P x0 hx, val_main_call5_v0_apply]
  show Scalar.select _ _ (Ideal.ofBits .f32 0x00000000#32) * _ = _
  rw [ofBits_zero, select_coe, ← EReal.coe_mul]
  simp only [decide_eq_true_eq]
  unfold DA W
  congr 1
  split_ifs <;> simp

/-- The same summed over the keys before the one at hand. -/
theorem ref_before (i : S8x2048x2048.Idx) :
    val_main_v37 (F := Ideal) x0 x1 i
      = ((∑ j ∈ range (i 2).val, DA (hQ P (i 0).val) (hK P (i 0).val) (hV P (i 0).val) (hD G (i 0).val) (i 1).val j : ℝ) : EReal) := by
  have e : val_main_v36 (F := Ideal) x0 x1 i
      = ((∑ j ∈ range ((i 2).val + 1), DA (hQ P (i 0).val) (hK P (i 0).val) (hV P (i 0).val) (hD G (i 0).val) (i 1).val j : ℝ) : EReal) := by
    unfold val_main_v36
    refine (window_sum_host 2047 0 (fun h t s => DA (hQ P h) (hK P h) (hV P h) (hD G h) t s) (val_main_v34 (F := Ideal) x0 x1)
      (ref_DA P G x0 x1 hx hg) (val_main_call6_v0 (F := Ideal)) ?_ _ _ i).trans ?_
    · intro i; rw [val_main_call6_v0_apply]; exact ofBits_zero.trans EReal.coe_zero
    · rw [prefix_sum (fun s => DA (hQ P (i 0).val) (hK P (i 0).val) (hV P (i 0).val) (hD G (i 0).val) (i 1).val s) _ (i 2).isLt]
  rw [val_main_v37_apply, val_main_v35_apply, e, ref_DA P G x0 x1 hx hg, sum_range_succ]
  generalize DA (hQ P (i 0).val) (hK P (i 0).val) (hV P (i 0).val) (hD G (i 0).val) (i 1).val (i 2).val = a
  generalize ∑ j ∈ range (i 2).val, DA (hQ P (i 0).val) (hK P (i 0).val) (hV P (i 0).val) (hD G (i 0).val) (i 1).val j = b
  show -(a : EReal) + ((b + a : ℝ) : EReal) = _
  rw [← EReal.coe_neg, ← EReal.coe_add, neg_add_eq_sub, add_sub_cancel_right]

/-- The gradient at the products of the queries with the keys. -/
theorem ref_DZ (i : S8x2048x2048.Idx) :
    val_main_v44 (F := Ideal) x0 x1 i
      = ((DZ (hQ P (i 0).val) (hK P (i 0).val) (hV P (i 0).val) (hD G (i 0).val) (i 1).val (i 2).val : ℝ) : EReal) := by
  rw [val_main_v44_apply, val_main_v42_apply, val_main_v40_apply, val_main_v39_apply, val_main_call8_v1_apply, val_main_call8_v0_apply,
    val_main_v38_apply, val_main_v41_apply, val_main_call9_v1_apply, val_main_call9_v0_apply, ref_mask, ref_before P G x0 x1 hx hg,
    ref_DA P G x0 x1 hx hg, ref_dlb P x0 hx, ref_dlm P x0 hx, val_main_v43_apply, val_main_call7_v0_apply]
  show (- -(-(Scalar.select _ _ (Ideal.ofBits .f32 0x00000000#32)) * ((_ : ℝ) : EReal)) + -(-((_ : ℝ) : EReal) * ((_ : ℝ) : EReal)))
    * Ideal.ofBits .f32 0x3DB504F3#32 = _
  rw [ofBits_zero, ofBits_sc, select_coe]
  simp only [decide_eq_true_eq, ← EReal.coe_neg, ← EReal.coe_mul, ← EReal.coe_add]
  unfold DZ
  congr 1
  split_ifs <;> ring

theorem ref_DQ (i : S2048x1024.Idx) :
    val_main_v52 (F := Ideal) x0 x1 i
      = ((DQ (hQ P ((i 1).val / 128)) (hK P ((i 1).val / 128)) (hV P ((i 1).val / 128)) (hD G ((i 1).val / 128)) (i 0).val ((i 1).val % 128) : ℝ) : EReal) := by
  have h1 : (i 1).val < 1024 := (i 1).isLt
  rw [val_main_v52_apply, val_main_v51_apply, val_main_v48_apply, val_main_v47_apply]
  simp only [ref_DZ P G x0 x1 hx hg, ref_k P x0 hx, ← EReal.coe_mul]
  refine (sum_up 2048 fun s => DZ (hQ P (((i 0).val * 1024 + (i 1).val) / 128 % 8)) (hK P (((i 0).val * 1024 + (i 1).val) / 128 % 8))
    (hV P (((i 0).val * 1024 + (i 1).val) / 128 % 8)) (hD G (((i 0).val * 1024 + (i 1).val) / 128 % 8)) (((i 0).val * 1024 + (i 1).val) / 1024) s
    * hK P (((i 0).val * 1024 + (i 1).val) / 128 % 8) s (((i 0).val * 1024 + (i 1).val) % 128)).trans ?_
  rw [show ((i 0).val * 1024 + (i 1).val) / 128 % 8 = (i 1).val / 128 by omega, show ((i 0).val * 1024 + (i 1).val) / 1024 = (i 0).val by omega,
    show ((i 0).val * 1024 + (i 1).val) % 128 = (i 1).val % 128 by omega]
  rfl

theorem ref_DK (i : S2048x1024.Idx) :
    val_main_v53 (F := Ideal) x0 x1 i
      = ((DK (hQ P ((i 1).val / 128)) (hK P ((i 1).val / 128)) (hV P ((i 1).val / 128)) (hD G ((i 1).val / 128)) (i 0).val ((i 1).val % 128) : ℝ) : EReal) := by
  have h1 : (i 1).val < 1024 := (i 1).isLt
  rw [val_main_v53_apply, val_main_v50_apply, val_main_v46_apply, val_main_v45_apply]
  simp only [ref_DZ P G x0 x1 hx hg, ref_q P x0 hx, ← EReal.coe_mul]
  refine (sum_up 2048 fun s => DZ (hQ P (((i 0).val * 1024 + (i 1).val) / 128 % 8)) (hK P (((i 0).val * 1024 + (i 1).val) / 128 % 8))
    (hV P (((i 0).val * 1024 + (i 1).val) / 128 % 8)) (hD G (((i 0).val * 1024 + (i 1).val) / 128 % 8)) s (((i 0).val * 1024 + (i 1).val) / 1024)
    * hQ P (((i 0).val * 1024 + (i 1).val) / 128 % 8) s (((i 0).val * 1024 + (i 1).val) % 128)).trans ?_
  rw [show ((i 0).val * 1024 + (i 1).val) / 128 % 8 = (i 1).val / 128 by omega, show ((i 0).val * 1024 + (i 1).val) / 1024 = (i 0).val by omega,
    show ((i 0).val * 1024 + (i 1).val) % 128 = (i 1).val % 128 by omega]
  rfl

theorem ref_DV (i : S2048x1024.Idx) :
    val_main_v54 (F := Ideal) x0 x1 i
      = ((DV (hQ P ((i 1).val / 128)) (hK P ((i 1).val / 128)) (hD G ((i 1).val / 128)) (i 0).val ((i 1).val % 128) : ℝ) : EReal) := by
  have h1 : (i 1).val < 1024 := (i 1).isLt
  rw [val_main_v54_apply, val_main_v49_apply, val_main_v32_apply, val_main_v31_apply]
  simp only [ref_W P x0 hx, ref_d G x1 hg, ← EReal.coe_mul]
  refine (sum_up 2048 fun s => hD G (((i 0).val * 1024 + (i 1).val) / 128 % 8) s (((i 0).val * 1024 + (i 1).val) % 128)
    * W (hQ P (((i 0).val * 1024 + (i 1).val) / 128 % 8)) (hK P (((i 0).val * 1024 + (i 1).val) / 128 % 8)) s
      (((i 0).val * 1024 + (i 1).val) / 1024)).trans ?_
  rw [show ((i 0).val * 1024 + (i 1).val) / 128 % 8 = (i 1).val / 128 by omega, show ((i 0).val * 1024 + (i 1).val) / 1024 = (i 0).val by omega,
    show ((i 0).val * 1024 + (i 1).val) % 128 = (i 1).val % 128 by omega]
  refine congrArg _ (sum_congr rfl fun s _ => mul_comm _ _)

end stages

end Cert.Sba
-- ==== Proof.Host.lean ====
module
public import proofs.«01_k».proof.Proof.Fold
public import proofs.«01_k».proof.Proof.Ref
public import Idealize.ShloMosaic.Lib.StableHlo.RunRead

/-! What the kernel is given: the row totals that the host code prepares, and the blocks of its five operands. -/

@[expose] public section

set_option maxRecDepth 16384

noncomputable section

namespace Cert.Sba

open Idealize.ShloMosaic Idealize.SL Idealize.SL.Sem Cert.KernelIdeal Cert.KernelIdeal.Gen Finset

section any
variable {F : FTy → Type} [FloatOps F]

/-- The row totals of `LM`, each repeated over the 128 columns of its head. -/
def hostTot (x : S8x2048x2048.Idx → Elt F .f32) : S2048x1024.Idx → Elt F .f32 :=
  shapeCast S2048x1024 (broadcastInDim S2048x8x128 ![0, 1, 2] bcast_S2048x8x1_S2048x8x128_0_1_2
    (broadcastInDim S2048x8x1 ![0, 1] bcast_S2048x8_S2048x8x1_0_1
      (transpose S2048x8 [1, 0] (Host.reduceAdd (F := F) (φ := .f32) x (constant S_ .f32 0x00000000#32) reducesTo_S8x2048x2048_S8x2048_d2 h_S_)
        transposes_S8x2048_S2048x8_1_0))) shapeCasts_S2048x8x128_S2048x1024

variable (m : (ℓ : Loc nD τ sig) → Buf (Elt F) ℓ) (c : Dev nD)

/-- The kernel's fourth operand: the host lines compute the same masked logarithms as the reference, and sum them by rows. -/
theorem V21 : V m c main_v21 = hostTot (Cert.ReferenceIdeal.Read.val_main_v19_0 (F := F) (m ((c.tc : Thread nD τ).loc main_arg0))) := by
  show StableHlo.after (List.flatten [hostOps0, hostOps0_1, hostOps0_2, hostOps0_3, hostOps0_4]) (fun b => m (c, b)) (Proc.devRef .tc main_v21) = _
  simp only [hostOps0, hostOps0_1, hostOps0_2, hostOps0_3, hostOps0_4, List.flatten_cons, List.flatten_nil, List.cons_append, List.nil_append]
  after_reads_simp
  rfl

end any

theorem hostTot_up (x : S8x2048x2048.Idx → EReal) (f : ℕ → ℕ → ℕ → ℝ) (hx : ∀ i, x i = ((f (i 0).val (i 1).val (i 2).val : ℝ) : EReal)) :
    hostTot (F := Ideal) x = up 2048 1024 fun t e => ∑ s ∈ range 2048, f (e / 128) t s := by
  funext j
  idx_vars j
  unfold hostTot
  pointwise
  simp only [hx]
  exact sum_up 2048 fun s => f (j1.val / 128) j0.val s

/-! The block numbers of the five operands at a point. -/

theorem index0 : ∀ t : Fin cfg0.N, win0_0.index t (0 : Fin 2) = t.val % 8 ∧ win0_0.index t (1 : Fin 2) = t.val / 8 :=
  (by decide +kernel : ∀ t : Fin grid0.N, _)
theorem index1 : ∀ t : Fin cfg0.N, win0_1.index t (0 : Fin 2) = 0 ∧ win0_1.index t (1 : Fin 2) = 8 + t.val / 8 :=
  (by decide +kernel : ∀ t : Fin grid0.N, _)
theorem index2 : ∀ t : Fin cfg0.N, win0_2.index t (0 : Fin 2) = 0 ∧ win0_2.index t (1 : Fin 2) = 16 + t.val / 8 :=
  (by decide +kernel : ∀ t : Fin grid0.N, _)
theorem index3 : ∀ t : Fin cfg0.N, win0_3.index t (0 : Fin 2) = t.val % 8 ∧ win0_3.index t (1 : Fin 2) = t.val / 8 :=
  (by decide +kernel : ∀ t : Fin grid0.N, _)
theorem index4 : ∀ t : Fin cfg0.N, win0_4.index t (0 : Fin 2) = t.val % 8 ∧ win0_4.index t (1 : Fin 2) = t.val / 8 :=
  (by decide +kernel : ∀ t : Fin grid0.N, _)

/-! Where an element of a block lies in its array. -/

theorem place0 (t : Fin cfg0.N) (y : (⟨2, ![256, 128]⟩ : Shape).Idx) :
    (((cfg0.win 0).blk t).view.emb y 0).val = 256 * (t.val % 8) + (y 0).val ∧ (((cfg0.win 0).blk t).view.emb y 1).val = 128 * (t.val / 8) + (y 1).val := by
  have b0 : (((cfg0.win 0).blk t).view.emb y 0).val = win0_0.index t (0 : Fin 2) * 256 + 1 * (y 0).val := rfl
  have b1 : (((cfg0.win 0).blk t).view.emb y 1).val = win0_0.index t (1 : Fin 2) * 128 + 1 * (y 1).val := rfl
  rw [b0, b1, (index0 t).1, (index0 t).2]
  omega

theorem place1 (t : Fin cfg0.N) (y : (⟨2, ![2048, 128]⟩ : Shape).Idx) :
    (((cfg0.win 1).blk t).view.emb y 0).val = (y 0).val ∧ (((cfg0.win 1).blk t).view.emb y 1).val = 1024 + 128 * (t.val / 8) + (y 1).val := by
  have b0 : (((cfg0.win 1).blk t).view.emb y 0).val = win0_1.index t (0 : Fin 2) * 2048 + 1 * (y 0).val := rfl
  have b1 : (((cfg0.win 1).blk t).view.emb y 1).val = win0_1.index t (1 : Fin 2) * 128 + 1 * (y 1).val := rfl
  rw [b0, b1, (index1 t).1, (index1 t).2]
  omega

theorem place2 (t : Fin cfg0.N) (y : (⟨2, ![2048, 128]⟩ : Shape).Idx) :
    (((cfg0.win 2).blk t).view.emb y 0).val = (y 0).val ∧ (((cfg0.win 2).blk t).view.emb y 1).val = 2048 + 128 * (t.val / 8) + (y 1).val := by
  have b0 : (((cfg0.win 2).blk t).view.emb y 0).val = win0_2.index t (0 : Fin 2) * 2048 + 1 * (y 0).val := rfl
  have b1 : (((cfg0.win 2).blk t).view.emb y 1).val = win0_2.index t (1 : Fin 2) * 128 + 1 * (y 1).val := rfl
  rw [b0, b1, (index2 t).1, (index2 t).2]
  omega

theorem place3 (t : Fin cfg0.N) (y : (⟨2, ![256, 128]⟩ : Shape).Idx) :
    (((cfg0.win 3).blk t).view.emb y 0).val = 256 * (t.val % 8) + (y 0).val ∧ (((cfg0.win 3).blk t).view.emb y 1).val = 128 * (t.val / 8) + (y 1).val := by
  have b0 : (((cfg0.win 3).blk t).view.emb y 0).val = win0_3.index t (0 : Fin 2) * 256 + 1 * (y 0).val := rfl
  have b1 : (((cfg0.win 3).blk t).view.emb y 1).val = win0_3.index t (1 : Fin 2) * 128 + 1 * (y 1).val := rfl
  rw [b0, b1, (index3 t).1, (index3 t).2]
  omega

theorem place4 (t : Fin cfg0.N) (y : (⟨2, ![256, 128]⟩ : Shape).Idx) :
    (((cfg0.win 4).blk t).view.emb y 0).val = 256 * (t.val % 8) + (y 0).val ∧ (((cfg0.win 4).blk t).view.emb y 1).val = 128 * (t.val / 8) + (y 1).val := by
  have b0 : (((cfg0.win 4).blk t).view.emb y 0).val = win0_4.index t (0 : Fin 2) * 256 + 1 * (y 0).val := rfl
  have b1 : (((cfg0.win 4).blk t).view.emb y 1).val = win0_4.index t (1 : Fin 2) * 128 + 1 * (y 1).val := rfl
  rw [b0, b1, (index4 t).1, (index4 t).2]
  omega

theorem isP_at {P : ℕ → ℕ → ℝ} {A : S2048x6144.Idx → EReal} (hp : IsP P A) (i : S2048x6144.Idx) {r c : ℕ}
    (h : (i 0).val = r ∧ (i 1).val = c) (hc : c < 3072) : A i = ((P r c : ℝ) : EReal) := by
  obtain ⟨rfl, rfl⟩ := h
  exact hp i hc

theorem up_at {P : ℕ → ℕ → ℝ} {A : S2048x1024.Idx → EReal} (hp : A = up 2048 1024 P) (i : S2048x1024.Idx) {r c : ℕ}
    (h : (i 0).val = r ∧ (i 1).val = c) : A i = ((P r c : ℝ) : EReal) := by
  obtain ⟨rfl, rfl⟩ := h
  exact congrFun hp i

/-- The block of queries. -/
theorem block0 (P : ℕ → ℕ → ℝ) (A : S2048x6144.Idx → EReal) (hp : IsP P A) (t : Fin cfg0.N) :
    ((cfg0.win 0).blk t).view.read (Elt Ideal) A = up 256 128 (rows (hQ P (t.val / 8)) (t.val % 8)) := by
  have ht : t.val < 64 := lt_of_lt_of_eq t.isLt N_0
  funext y
  have hy1 : (y 1).val < 128 := (y 1).isLt
  exact isP_at hp (((cfg0.win 0).blk t).view.emb y) (place0 t y) (by omega)

/-- The head's keys. -/
theorem block1 (P : ℕ → ℕ → ℝ) (A : S2048x6144.Idx → EReal) (hp : IsP P A) (t : Fin cfg0.N) :
    ((cfg0.win 1).blk t).view.read (Elt Ideal) A = up 2048 128 (hK P (t.val / 8)) := by
  have ht : t.val < 64 := lt_of_lt_of_eq t.isLt N_0
  funext y
  have hy1 : (y 1).val < 128 := (y 1).isLt
  exact isP_at hp (((cfg0.win 1).blk t).view.emb y) (place1 t y) (by omega)

/-- The head's values. -/
theorem block2 (P : ℕ → ℕ → ℝ) (A : S2048x6144.Idx → EReal) (hp : IsP P A) (t : Fin cfg0.N) :
    ((cfg0.win 2).blk t).view.read (Elt Ideal) A = up 2048 128 (hV P (t.val / 8)) := by
  have ht : t.val < 64 := lt_of_lt_of_eq t.isLt N_0
  funext y
  have hy1 : (y 1).val < 128 := (y 1).isLt
  exact isP_at hp (((cfg0.win 2).blk t).view.emb y) (place2 t y) (by omega)

/-- The block of row totals. -/
theorem block3 (P : ℕ → ℕ → ℝ) (A : S2048x1024.Idx → EReal) (hp : A = up 2048 1024 P) (t : Fin cfg0.N) :
    ((cfg0.win 3).blk t).view.read (Elt Ideal) A = up 256 128 (fun a e => P (256 * (t.val % 8) + a) (128 * (t.val / 8) + e)) := by
  funext y
  exact up_at hp (((cfg0.win 3).blk t).view.emb y) (place3 t y)

/-- The block of the gradient at the output. -/
theorem block4 (P : ℕ → ℕ → ℝ) (A : S2048x1024.Idx → EReal) (hp : A = up 2048 1024 P) (t : Fin cfg0.N) :
    ((cfg0.win 4).blk t).view.read (Elt Ideal) A = up 256 128 (rows (hD P (t.val / 8)) (t.val % 8)) := by
  funext y
  exact up_at hp (((cfg0.win 4).blk t).view.emb y) (place4 t y)

variable (m : (ℓ : Loc nD τ sig) → Buf (Elt Ideal) ℓ) (c : Dev nD) (P G : ℕ → ℕ → ℝ)

/-- Where the projection and the gradient at the output hold reals, every block the kernel reads holds the reals it should. -/
theorem all_ins (hp : IsP P (m ((c.tc : Thread nD τ).loc main_arg0))) (hg : m ((c.tc : Thread nD τ).loc main_arg1) = up 2048 1024 G) :
    AllIns m c (hQ P) (hK P) (hV P) (hD G) := by
  have hpV : IsP P (V m c main_arg0) := by rw [V_main_arg0]; exact hp
  have hgV : V m c main_arg1 = up 2048 1024 G := (V_main_arg1 m c).trans hg
  have hl : V m c main_v21 = up 2048 1024 (fun t e => LT (hQ P (e / 128)) (hK P (e / 128)) t) :=
    (V21 m c).trans (hostTot_up _ (fun h t s => LM (hQ P h) (hK P h) t s) (ref_LM P _ hp))
  intro t
  refine ⟨block0 P _ hpV t, block1 P _ hpV t, block2 P _ hpV t, (block3 _ _ hl t).trans (up_congr fun a ha e he => ?_), block4 G _ hgV t⟩
  have h : (128 * (t.val / 8) + e) / 128 = t.val / 8 := by omega
  beta_reduce
  rw [h]

end Cert.Sba
-- ==== Proof.Pre.lean ====
module
public import proofs.«01_k».proof.Proof.Ref
public import proofs.«01_k».proof.Proof.Gen.Pre_finite
public import Idealize.ShloMosaic.Lib.ReduceAll

/-! The precondition: every logit's factor, every value and every gradient at the output is finite, so each is the image
   of a real. -/

@[expose] public section

set_option maxRecDepth 16384

noncomputable section

namespace Cert.Sba

open Idealize.ShloMosaic Idealize.SL.Sem

instance : Subsingleton Cert.Pre_finite.S_.Idx := ⟨fun _ _ => funext fun a => a.elim0⟩

/-- The absolute value is below `+∞` only at a real. -/
theorem real_of_lt (x : EReal) (h : FloatOps.cmpf (F := Ideal) (φ := .f32) .olt (FloatOps.hostAbsf (F := Ideal) (φ := .f32) x)
    (FloatOps.ofBits .f32 0x7F800000#32) = 1#1) : x = ((x.toReal : ℝ) : EReal) := by
  have h' : BitVec.ofBool (decide (max x (-x) < Ideal.ofBits .f32 0x7F800000#32)) = 1#1 := h
  rw [ofBits_top] at h'
  have h2 : max x (-x) < ⊤ := by
    by_contra hn
    rw [decide_eq_false hn] at h'
    exact absurd h' (by decide)
  obtain ⟨ha, hb⟩ := max_lt_iff.mp h2
  refine (EReal.coe_toReal ha.ne fun e => ?_).symm
  rw [e] at hb
  exact absurd hb (by simp)

/-- The reals of a rank-two array, where its elements are reals. -/
def reals {n m : ℕ} (x : (⟨2, ![n, m]⟩ : Shape).Idx → EReal) (r c : ℕ) : ℝ :=
  if h : r < n ∧ c < m then (x (ix2 ⟨r, h.1⟩ ⟨c, h.2⟩)).toReal else 0

theorem reals_at {n m : ℕ} (x : (⟨2, ![n, m]⟩ : Shape).Idx → EReal) (i : (⟨2, ![n, m]⟩ : Shape).Idx)
    (h : x i = (((x i).toReal : ℝ) : EReal)) : x i = ((reals x (i 0).val (i 1).val : ℝ) : EReal) := by
  have e : reals x (i 0).val (i 1).val = (x i).toReal := by
    unfold reals
    rw [dif_pos ⟨ValueIdx.idx2_lt0 i, ValueIdx.idx2_lt1 i⟩]
    congr 2
    funext a
    match a with
    | ⟨0, _⟩ => rfl
    | ⟨1, _⟩ => rfl
  rw [e]; exact h

theorem pre_reals (x0 : Cert.Pre_finite.S2048x6144.Idx → EReal) (x1 : Cert.Pre_finite.S2048x1024.Idx → EReal)
    (h : Cert.Pre_finite.fn (F := Ideal) x0 x1 = fun _ => 1#1) : IsP (reals x0) x0 ∧ x1 = up 2048 1024 (reals x1) := by
  have h0 := congrFun h ix0
  obtain ⟨ha, hb⟩ := IntOp.andi_eq_one.1 h0
  refine ⟨fun i hi => reals_at x0 i ?_, funext fun i => reals_at x1 i ?_⟩
  · have hr := ValueIdx.idx2_lt0 i
    have e := Host.reduce_andi_all _ _ _ _ _ ha (ix2 ⟨(i 0).val, hr⟩ ⟨(i 1).val, hi⟩)
    have e2 : extractStridedSlice Cert.Pre_finite.S2048x3072 ![0, 0] x0 Cert.Pre_finite.Gen.slices_S2048x6144_S2048x3072_0_0
        (ix2 ⟨(i 0).val, hr⟩ ⟨(i 1).val, hi⟩) = x0 i :=
      extractStridedSlice_apply ![0, 0] x0 _ _ i (fun a => match a with
        | ⟨0, _⟩ => by show (i 0).val = 0 + (i 0).val; omega
        | ⟨1, _⟩ => by show (i 1).val = 0 + (i 1).val; omega)
    rw [← e2]
    exact real_of_lt _ e
  · exact real_of_lt _ (Host.reduce_andi_all _ _ _ _ _ hb i)

end Cert.Sba
-- ==== Proof.Equation.lean ====
module
public import proofs.«01_k».proof.Defs
public import proofs.«01_k».proof.Proof.Host
public import proofs.«01_k».proof.Proof.Pre

/-! The kernel's three results are the reference's, under the precondition; and the reference's frame. -/

@[expose] public section

set_option maxRecDepth 16384

noncomputable section

namespace Cert.Sba

open Idealize.ShloMosaic Idealize.SL Idealize.SL.Sem Cert.KernelIdeal.Value

/-- The reference declares no semaphore, and its run leaves its arguments. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono (fun r h => ⟨fun c => ⟨(h c).2.2.2.1, (h c).2.2.2.2⟩, sem_eq_zero_of_no_sems (by decide) r.2⟩)
    (Cert.ReferenceIdeal.Value.run (F := Ideal) m g)

variable (m : (ℓ : Loc Cert.KernelIdeal.nD Cert.KernelIdeal.τ Cert.KernelIdeal.sig) → Buf (Elt Ideal) ℓ) (c : Dev Cert.KernelIdeal.nD)

/-- The gradient at `q`, the gradient at `k` and the gradient at `v`: the kernel's arrays hold what the reference computes. -/
theorem results (x0 : Cert.ReferenceIdeal.S2048x6144.Idx → EReal) (x1 : Cert.ReferenceIdeal.S2048x1024.Idx → EReal)
    (e0 : m ((c.tc : Thread Cert.KernelIdeal.nD Cert.KernelIdeal.τ).loc Cert.KernelIdeal.main_arg0) = x0)
    (e1 : m ((c.tc : Thread Cert.KernelIdeal.nD Cert.KernelIdeal.τ).loc Cert.KernelIdeal.main_arg1) = x1)
    (h : Cert.Pre_finite.fn (F := Ideal) x0 x1 = fun _ => 1#1) :
    G5 m c = Cert.ReferenceIdeal.Read.val_main_v52 (F := Ideal) x0 x1
      ∧ G6 m c = Cert.ReferenceIdeal.Read.val_main_v53 (F := Ideal) x0 x1
      ∧ G7 m c = Cert.ReferenceIdeal.Read.val_main_v54 (F := Ideal) x0 x1 := by
  obtain ⟨hp, hg⟩ := pre_reals x0 x1 h
  have hI := all_ins m c (reals x0) (reals x1) (by rw [e0]; exact hp) (e1.trans hg)
  refine ⟨?_, ?_, ?_⟩
  · rw [G5_up m c _ _ _ _ hI]
    exact funext fun i => (ref_DQ (reals x0) (reals x1) x0 x1 hp hg i).symm
  · rw [G6_up m c _ _ _ _ hI]
    exact funext fun i => (ref_DK (reals x0) (reals x1) x0 x1 hp hg i).symm
  · rw [G7_up m c _ _ _ _ hI]
    exact funext fun i => (ref_DV (reals x0) (reals x1) x0 x1 hp hg i).symm

end Cert.Sba
-- ==== Proof.Norm.lean ====
module
public import proofs.«01_k».proof.Proof.Scalars

/-! The gradient of a row's normalisation `x / √(mean x² + ε)`, over the extended reals: the form with the normalised row
   and the mean of its product with the cotangent, and the form that differentiates each step, are the same — whatever the
   contents, infinite ones too. -/

@[expose] public section

noncomputable section

namespace Cert.Norm

open Idealize.ShloMosaic Finset

/-- The row's length, the small constant and the factor `−1/2`, as the programs write them. -/
abbrev len : EReal := Ideal.ofBits .f32 0x45000000#32
abbrev eps : EReal := Ideal.ofBits .f32 0x358637BD#32
abbrev mhalf : EReal := Ideal.ofBits .f32 0xBF000000#32

theorem len_eq : len = ((2048 : ℝ) : EReal) := by
  simp [Ideal.ofBits, Ideal.ieee, -EReal.coe_mul]; norm_num
theorem eps_eq : eps = ((8796093 / 2 ^ 43 : ℝ) : EReal) := by
  simp [Ideal.ofBits, Ideal.ieee, -EReal.coe_mul]; norm_num
theorem mhalf_eq : mhalf = ((-(1 / 2) : ℝ) : EReal) := by
  simp [Ideal.ofBits, Ideal.ieee, -EReal.coe_mul]; norm_num

variable (x h : ℕ → EReal) (d : ℕ)

/-- The row's mean square plus the small constant, and its inverse root. -/
def ms : EReal := Ideal.div (∑ e ∈ range 2048, x e * x e) len + eps
def rs : EReal := Ideal.rsqrt (ms x)

/-- The normalised row. -/
def hat : EReal := x d * rs x

/-- The gradient at the row, from the cotangent `h` of the normalised row: by the normalised row. -/
def back : EReal := rs x * (h d - hat x d * Ideal.div (∑ e ∈ range 2048, h e * hat x e) len)

/-- What reaches every entry through the mean square. -/
def thru : EReal := Ideal.div ((∑ e ∈ range 2048, x e * h e) * (mhalf * Ideal.div (rs x) (ms x))) len

/-- The gradient at the row, step by step. -/
def steps : EReal := h d * rs x + x d * thru x h + thru x h * x d

theorem div_len (y : EReal) : Ideal.div y len = y * ((1 / 2048 : ℝ) : EReal) := by
  rw [len_eq]; exact Ideal.div_coe (by norm_num) y

/-- A positive real factor goes through a sum. -/
theorem mul_add_coe {r : ℝ} (hr : 0 ≤ r) (a b : EReal) : (r : EReal) * (a + b) = r * a + r * b :=
  EReal.left_distrib_of_nonneg_of_ne_top (EReal.coe_nonneg.mpr hr) (EReal.coe_ne_top r) a b

theorem mul_sum_coe {r : ℝ} (hr : 0 ≤ r) (s : Finset ℕ) (f : ℕ → EReal) : (r : EReal) * ∑ e ∈ s, f e = ∑ e ∈ s, r * f e := by
  classical
  induction s using Finset.induction with
  | empty => simp
  | insert a s ha ih => rw [sum_insert ha, sum_insert ha, mul_add_coe hr, ih]

theorem mul_sub_coe {r : ℝ} (hr : 0 ≤ r) (a b : EReal) : (r : EReal) * (a - b) = r * a - r * b := by
  rw [sub_eq_add_neg, mul_add_coe hr, mul_neg, sub_eq_add_neg]

theorem neg_add_self (a : EReal) : -a + -a = -(a + a) := by
  induction a using EReal.rec with
  | bot => rfl
  | top => rfl
  | coe a => norm_cast; ring_nf

theorem sq_nonneg' (a : EReal) : 0 ≤ a * a := by
  induction a using EReal.rec with
  | bot => simp
  | top => simp
  | coe a => exact_mod_cast mul_self_nonneg a

/-- The mean square plus the constant is a positive real or infinite. -/
theorem ms_cases : ms x = ⊤ ∨ ∃ v : ℝ, 0 < v ∧ ms x = (v : EReal) := by
  have h0 : 0 ≤ ∑ e ∈ range 2048, x e * x e := sum_nonneg fun e _ => sq_nonneg' (x e)
  unfold ms
  rw [div_len, eps_eq]
  generalize ∑ e ∈ range 2048, x e * x e = s at h0
  induction s using EReal.rec with
  | bot => exact absurd h0 (by simp)
  | top => left; rw [EReal.top_mul_coe_of_pos (by norm_num)]; rfl
  | coe s =>
    right
    refine ⟨s * (1 / 2048) + 8796093 / 2 ^ 43, ?_, by push_cast; rfl⟩
    have : 0 ≤ s := by exact_mod_cast h0
    positivity

/-- The two forms of the gradient agree. -/
theorem back_eq_steps : back x h d = steps x h d := by
  rcases ms_cases x with hm | ⟨v, hv, hm⟩
  · have hr : rs x = 0 := by unfold rs; rw [hm]; rfl
    have ht : thru x h = 0 := by
      unfold thru
      rw [hr, hm, div_len]
      simp [Ideal.div]
    unfold back steps
    rw [hr, ht]
    simp
  · obtain ⟨r, hr, hrv, hre⟩ : ∃ r : ℝ, 0 < r ∧ 1 / v = r * r ∧ rs x = (r : EReal) := by
      refine ⟨(Real.sqrt v)⁻¹, by positivity, ?_, ?_⟩
      · rw [← mul_inv, Real.mul_self_sqrt hv.le, one_div]
      · unfold rs
        rw [hm, Ideal.rsqrt_coe, if_neg (not_lt.mpr hv.le), if_neg hv.ne']
    have hS : ∑ e ∈ range 2048, h e * hat x e = (r : EReal) * ∑ e ∈ range 2048, x e * h e := by
      rw [mul_sum_coe hr.le]
      refine sum_congr rfl fun e _ => ?_
      unfold hat
      rw [hre, mul_comm (h e), mul_right_comm, mul_comm]
    have hT : thru x h = -((∑ e ∈ range 2048, x e * h e) * ((r * r * r / 4096 : ℝ) : EReal)) := by
      unfold thru
      rw [hre, hm, Ideal.div_coe hv.ne', hrv, mhalf_eq, div_len, ← EReal.coe_mul, ← EReal.coe_mul, mul_assoc, ← EReal.coe_mul, ← mul_neg, ← EReal.coe_neg]
      congr 2
      ring
    unfold back steps
    rw [hT, hS, div_len]
    unfold hat
    rw [hre]
    generalize ∑ e ∈ range 2048, x e * h e = T
    rw [mul_sub_coe hr.le, mul_comm (-_) (x d), mul_neg, add_assoc, neg_add_self, mul_comm (h d), sub_eq_add_neg]
    congr 2
    have hk : (0 : EReal) ≤ ((r * r * r / 4096 : ℝ) : EReal) := EReal.coe_nonneg.mpr (by positivity)
    have e1 : (r : EReal) * (x d * r * (r * T * ((1 / 2048 : ℝ) : EReal))) = x d * T * ((r : EReal) * r * r * ((1 / 2048 : ℝ) : EReal)) := by ac_rfl
    rw [e1, ← mul_assoc (x d) T, ← EReal.left_distrib_of_nonneg hk hk, ← EReal.coe_mul, ← EReal.coe_mul, ← EReal.coe_mul, ← EReal.coe_add]
    congr 2
    ring

end Cert.Norm
-- ==== Proof.Arrays.lean ====
module
public import proofs.«01_k».proof.Proof.Scalars
public import Idealize.ShloMosaic.Lib.Pointwise

/-! Arrays given by the numbers of their rows and columns: a matrix, a row vector, and a matrix whose columns lie in four shards.
   Every array is such a one. -/

@[expose] public section

noncomputable section

namespace Cert.Arrays

open Idealize.ShloMosaic

theorem zero2 : (![0, 0] : Fin 2 → ℕ) = fun _ => 0 := by decide
theorem zero3 : (![0, 0, 0] : Fin 3 → ℕ) = fun _ => 0 := by decide

/-- The rank-two array of the entries `f r c`. -/
def up (n m : ℕ) (f : ℕ → ℕ → EReal) : (⟨2, ![n, m]⟩ : Shape).Idx → EReal := fun j => f (j 0).val (j 1).val

/-- The array of four shards side by side: column `e` of shard `s` is column `m * s + e` of the matrix. -/
def sh (n m : ℕ) (f : ℕ → ℕ → EReal) : (⟨3, ![4, n, m]⟩ : Shape).Idx → EReal := fun j => f (j 1).val (m * (j 0).val + (j 2).val)

/-- One block of a shard. -/
def up1 (n m : ℕ) (f : ℕ → ℕ → EReal) : (⟨3, ![1, n, m]⟩ : Shape).Idx → EReal := fun j => f (j 1).val (j 2).val

theorem up_ix2 {n m : ℕ} (f : ℕ → ℕ → EReal) (a : Fin n) (b : Fin m) : up n m f (ix2 a b) = f a.val b.val := rfl
theorem up1_ix3 {n m : ℕ} (f : ℕ → ℕ → EReal) (z : Fin 1) (a : Fin n) (b : Fin m) : up1 n m f (ix3 z a b) = f a.val b.val := rfl

theorem up_congr {n m : ℕ} {f g : ℕ → ℕ → EReal} (h : ∀ a < n, ∀ b < m, f a b = g a b) : up n m f = up n m g :=
  funext fun j => h _ (ValueIdx.idx2_lt0 j) _ (ValueIdx.idx2_lt1 j)

theorem up_at {n m : ℕ} {f : ℕ → ℕ → EReal} {A : (⟨2, ![n, m]⟩ : Shape).Idx → EReal} (h : A = up n m f) (i : (⟨2, ![n, m]⟩ : Shape).Idx) {r c : ℕ}
    (hi : (i 0).val = r ∧ (i 1).val = c) : A i = f r c := by
  obtain ⟨rfl, rfl⟩ := hi
  exact congrFun h i

theorem sh_at {n m : ℕ} {f : ℕ → ℕ → EReal} {A : (⟨3, ![4, n, m]⟩ : Shape).Idx → EReal} (h : A = sh n m f) (i : (⟨3, ![4, n, m]⟩ : Shape).Idx) {r c : ℕ}
    (hi : (i 1).val = r ∧ m * (i 0).val + (i 2).val = c) : A i = f r c := by
  obtain ⟨rfl, rfl⟩ := hi
  exact congrFun h i

/-- Every matrix is given by the numbers of its rows and columns. -/
theorem exists_up {n m : ℕ} (hn : 0 < n) (hm : 0 < m) (A : (⟨2, ![n, m]⟩ : Shape).Idx → EReal) : ∃ f, A = up n m f := by
  refine ⟨fun a b => A (ix2 ⟨a % n, Nat.mod_lt a hn⟩ ⟨b % m, Nat.mod_lt b hm⟩), funext fun j => congrArg A (funext fun d => ?_)⟩
  match d with
  | 0 => exact Fin.ext (Nat.mod_eq_of_lt (j 0).isLt).symm
  | 1 => exact Fin.ext (Nat.mod_eq_of_lt (j 1).isLt).symm

/-- Every row vector is given by the numbers of its columns. -/
theorem exists_row {m : ℕ} (hm : 0 < m) (A : (⟨2, ![1, m]⟩ : Shape).Idx → EReal) : ∃ f : ℕ → EReal, A = up 1 m fun _ d => f d := by
  obtain ⟨f, rfl⟩ := exists_up Nat.one_pos hm A
  exact ⟨f 0, up_congr fun a ha b _ => by rw [Nat.lt_one_iff.mp ha]⟩

/-- Every array of four shards is given by the numbers of the rows and columns of the whole. -/
theorem exists_sh {n m : ℕ} (hn : 0 < n) (hm : 0 < m) (A : (⟨3, ![4, n, m]⟩ : Shape).Idx → EReal) : ∃ f, A = sh n m f := by
  refine ⟨fun d e => A (ix3 ⟨e / m % 4, Nat.mod_lt _ (by decide)⟩ ⟨d % n, Nat.mod_lt _ hn⟩ ⟨e % m, Nat.mod_lt _ hm⟩),
    funext fun j => congrArg A (funext fun d => ?_)⟩
  have h0 : (j 0).val < 4 := (j 0).isLt
  have h2 : (j 2).val < m := (j 2).isLt
  match d with
  | 0 => exact Fin.ext (by
      show (j 0).val = (m * (j 0).val + (j 2).val) / m % 4
      rw [Nat.mul_add_div hm, Nat.div_eq_of_lt h2, Nat.add_zero, Nat.mod_eq_of_lt h0])
  | 1 => exact Fin.ext (Nat.mod_eq_of_lt (j 1).isLt).symm
  | 2 => exact Fin.ext (by
      show (j 2).val = (m * (j 0).val + (j 2).val) % m
      rw [Nat.mul_add_mod, Nat.mod_eq_of_lt h2])

end Cert.Arrays
-- ==== Proof.Loads.lean ====
module
public import proofs.«01_k».proof.Proof.Arrays
public import Idealize.ShloMosaic.Lib.Pipeline.Value

/-! Loads of a whole buffer, for any program: they read what the buffer holds, or what a store of the whole has just put there. -/

@[expose] public section

set_option maxRecDepth 16384

noncomputable section

namespace Cert.Loads

open Idealize.ShloMosaic Cert.Arrays

variable {F : FTy → Type} [FloatOps F] {sig : RefSig}

/-- A load of a whole buffer reads its contents. -/
theorem ld2 {n k : ℕ} {e : EltTy} (m : Memref sig .tc .vmem ⟨2, ![n, k]⟩ e) (hm : m.IsWhole) (inb) (x : Vec F ⟨2, ![n, k]⟩ e) :
    View.readAt (Elt F) m.view (Rect.unit (s := ⟨2, ![n, k]⟩) ![0, 0] ![n, k] inb).toLoadRect (hm.unread x) = x :=
  ((View.readAt_eq_ld _ _ _).trans (View.ld_unit_zero zero2 _ _)).trans (hm.read_unread x)
theorem ld3 {l n k : ℕ} {e : EltTy} (m : Memref sig .tc .vmem ⟨3, ![l, n, k]⟩ e) (hm : m.IsWhole) (inb) (x : Vec F ⟨3, ![l, n, k]⟩ e) :
    View.readAt (Elt F) m.view (Rect.unit (s := ⟨3, ![l, n, k]⟩) ![0, 0, 0] ![l, n, k] inb).toLoadRect (hm.unread x) = x :=
  ((View.readAt_eq_ld _ _ _).trans (View.ld_unit_zero zero3 _ _)).trans (hm.read_unread x)

/-- A load of a whole buffer that a store of the whole has just filled reads what was stored. -/
theorem rc2 {n k : ℕ} {e : EltTy} (v : View sig .tc .vmem ⟨2, ![n, k]⟩ e) (inb) (w : Vec F ⟨2, ![n, k]⟩ e) :
    v.readCov (Val := Elt F) [⟨Rect.unit (s := ⟨2, ![n, k]⟩) ![0, 0] ![n, k] inb, w⟩] (Rect.unit (s := ⟨2, ![n, k]⟩) ![0, 0] ![n, k] inb).toLoadRect = w :=
  View.readCov_unit_zero v zero2 inb w

end Cert.Loads
-- ==== Proof.DxPoint.lean ====
module
public import proofs.«01_k».proof.Proof.Loads
public import proofs.«01_k».proof.Proof.Gen.DxIdeal.Value

/-! One grid point of the input projection's backward call, for any contents: what it leaves in its four outputs and in the
   accumulator, by the body's own arithmetic over the blocks. -/

@[expose] public section

set_option maxRecDepth 16384

noncomputable section

namespace Cert.DxOdd

open Idealize.ShloMosaic Idealize.SL Idealize.SL.Sem Cert.DxIdeal Cert.DxIdeal.Gen Cert.Arrays Cert.Loads

variable {F : FTy → Type} [FloatOps F]

/-- The buffers of a point: whole ones. -/
structure Refs where
  arg2 : Memref sig .tc .vmem S256x1792 .bf16
  harg2 : arg2.IsWhole
  arg3 : Memref sig .tc .vmem S1x2048x1792 .bf16
  harg3 : arg3.IsWhole
  arg4 : Memref sig .tc .vmem S256x2048 .f32
  harg4 : arg4.IsWhole
  arg5 : Memref sig .tc .vmem S1x2048 .f32
  harg5 : arg5.IsWhole
  arg6 : Memref sig .tc .vmem S256x2048 .f32
  harg6 : arg6.IsWhole
  arg7 : Memref sig .tc .vmem S256x2048 .f32
  harg7 : arg7.IsWhole
  arg8 : Memref sig .tc .vmem S1x2048 .f32
  harg8 : arg8.IsWhole
  arg9 : Memref sig .tc .vmem S256x2048 .f32
  harg9 : arg9.IsWhole
  arg10 : Memref sig .tc .vmem S1x2048 .f32
  harg10 : arg10.IsWhole
  arg11 : Memref sig .tc .vmem S256x2048 .bf16
  harg11 : arg11.IsWhole
  arg12 : Memref sig .tc .vmem S1x2048 .f32
  harg12 : arg12.IsWhole
  arg13 : Memref sig .tc .vmem S256x2048 .f32
  harg13 : arg13.IsWhole

variable (c : Dev nD) (i : grid0.Coords) (r : Refs)
variable (x0 : Vec F S256x1792 .bf16) (x1 : Vec F S1x2048x1792 .bf16) (x2 : Vec F S256x2048 .f32) (x3 : Vec F S1x2048 .f32) (x4 : Vec F S256x2048 .f32) (x5 : Vec F S256x2048 .f32) (x6 : Vec F S1x2048 .f32) (xo8 : Vec F S1x2048 .f32) (xo10 : Vec F S1x2048 .f32) (xs0 : Vec F S256x2048 .f32)

/-- The first block of columns: the accumulator is the block's product. -/
theorem point_A (hc0 : cond0_0 i) (hc1 : ¬cond0_1 i) (hc2 : ¬cond0_2 i) :
    sout0_A_0 c i r.arg2 r.harg2 r.arg3 r.harg3 r.arg4 r.harg4 r.arg5 r.harg5 r.arg6 r.harg6 r.arg7 r.harg7 r.arg8 r.harg8 r.arg9 r.harg9 r.arg10 r.harg10 r.arg11 r.harg11 r.arg12 r.harg12 r.arg13 r.harg13 hc0 hc1 hc2 x0 x1 x2 x3 x4 x5 x6 = k0_pay2 x0 x1 := by
  unfold sout0_A_0
  simp only [View.read_writes_junk_eq_canon]
  unfold kernelRun0_A
  dsimp only
  sl_unfold_words
  refine (View.canon_unit_zero (by decide) _ _).trans ?_ <;> simp only [ld2, ld3, rc2]

/-- A middle block: its product is added. -/
theorem point_B (hc0 : ¬cond0_0 i) (hc1 : cond0_1 i) (hc2 : ¬cond0_2 i) :
    sout0_B_0 c i r.arg2 r.harg2 r.arg3 r.harg3 r.arg4 r.harg4 r.arg5 r.harg5 r.arg6 r.harg6 r.arg7 r.harg7 r.arg8 r.harg8 r.arg9 r.harg9 r.arg10 r.harg10 r.arg11 r.harg11 r.arg12 r.harg12 r.arg13 r.harg13 hc0 hc1 hc2 x0 x1 x2 x3 x4 x5 x6 xs0 = k0_pay3 x0 x1 xs0 := by
  unfold sout0_B_0
  simp only [View.read_writes_junk_eq_canon]
  unfold kernelRun0_B
  dsimp only
  sl_unfold_words
  refine (View.canon_unit_zero (by decide) _ _).trans ?_ <;> simp only [ld2, ld3, rc2]

/-- The last block of columns of the first block of rows: the four results from the whole product, the two sums over rows begun. -/
theorem point_C (hc0 : ¬cond0_0 i) (hc1 : cond0_1 i) (hc2 : cond0_2 i) (hc3 : cond0_3 i) (hc4 : ¬cond0_4 i) (hc5 : cond0_5 i) (hc6 : ¬cond0_6 i) :
    out0_C_7 c i r.arg2 r.harg2 r.arg3 r.harg3 r.arg4 r.harg4 r.arg5 r.harg5 r.arg6 r.harg6 r.arg7 r.harg7 r.arg8 r.harg8 r.arg9 r.harg9 r.arg10 r.harg10 r.arg11 r.harg11 r.arg12 r.harg12 r.arg13 r.harg13 hc0 hc1 hc2 hc3 hc4 hc5 hc6 x0 x1 x2 x3 x4 x5 x6 xs0 = k0_pay12 x2 (k0_pay3 x0 x1 xs0) x3 x4
    ∧ out0_C_8 c i r.arg2 r.harg2 r.arg3 r.harg3 r.arg4 r.harg4 r.arg5 r.harg5 r.arg6 r.harg6 r.arg7 r.harg7 r.arg8 r.harg8 r.arg9 r.harg9 r.arg10 r.harg10 r.arg11 r.harg11 r.arg12 r.harg12 r.arg13 r.harg13 hc0 hc1 hc2 hc3 hc4 hc5 hc6 x0 x1 x2 x3 x4 x5 x6 xs0 = k0_pay11 x2 (k0_pay3 x0 x1 xs0)
    ∧ out0_C_9 c i r.arg2 r.harg2 r.arg3 r.harg3 r.arg4 r.harg4 r.arg5 r.harg5 r.arg6 r.harg6 r.arg7 r.harg7 r.arg8 r.harg8 r.arg9 r.harg9 r.arg10 r.harg10 r.arg11 r.harg11 r.arg12 r.harg12 r.arg13 r.harg13 hc0 hc1 hc2 hc3 hc4 hc5 hc6 x0 x1 x2 x3 x4 x5 x6 xs0 = k0_pay7 (k0_pay12 x2 (k0_pay3 x0 x1 xs0) x3 x4) x5 x6
    ∧ out0_C_10 c i r.arg2 r.harg2 r.arg3 r.harg3 r.arg4 r.harg4 r.arg5 r.harg5 r.arg6 r.harg6 r.arg7 r.harg7 r.arg8 r.harg8 r.arg9 r.harg9 r.arg10 r.harg10 r.arg11 r.harg11 r.arg12 r.harg12 r.arg13 r.harg13 hc0 hc1 hc2 hc3 hc4 hc5 hc6 x0 x1 x2 x3 x4 x5 x6 xs0 = k0_pay6 (k0_pay12 x2 (k0_pay3 x0 x1 xs0) x3 x4) x5 := by
  unfold out0_C_7 out0_C_8 out0_C_9 out0_C_10
  simp only [View.read_writes_junk_eq_canon]
  unfold kernelRun0_C
  dsimp only
  sl_unfold_words
  refine ⟨(View.canon_unit_zero (by decide) _ _).trans ?_, (View.canon_unit_zero (by decide) _ _).trans ?_, (View.canon_unit_zero (by decide) _ _).trans ?_, (View.canon_unit_zero (by decide) _ _).trans ?_⟩ <;> simp only [ld2, ld3, rc2]

/-- The last block of columns of a later block of rows: the two sums over rows go on. -/
theorem point_D (hc0 : ¬cond0_0 i) (hc1 : cond0_1 i) (hc2 : cond0_2 i) (hc3 : ¬cond0_3 i) (hc4 : cond0_4 i) (hc5 : ¬cond0_5 i) (hc6 : cond0_6 i) :
    out0_D_7 c i r.arg2 r.harg2 r.arg3 r.harg3 r.arg4 r.harg4 r.arg5 r.harg5 r.arg6 r.harg6 r.arg7 r.harg7 r.arg8 r.harg8 r.arg9 r.harg9 r.arg10 r.harg10 r.arg11 r.harg11 r.arg12 r.harg12 r.arg13 r.harg13 hc0 hc1 hc2 hc3 hc4 hc5 hc6 x0 x1 x2 x3 x4 x5 x6 xo8 xo10 xs0 = k0_pay12 x2 (k0_pay3 x0 x1 xs0) x3 x4
    ∧ out0_D_8 c i r.arg2 r.harg2 r.arg3 r.harg3 r.arg4 r.harg4 r.arg5 r.harg5 r.arg6 r.harg6 r.arg7 r.harg7 r.arg8 r.harg8 r.arg9 r.harg9 r.arg10 r.harg10 r.arg11 r.harg11 r.arg12 r.harg12 r.arg13 r.harg13 hc0 hc1 hc2 hc3 hc4 hc5 hc6 x0 x1 x2 x3 x4 x5 x6 xo8 xo10 xs0 = k0_pay13 x2 (k0_pay3 x0 x1 xs0) xo8
    ∧ out0_D_9 c i r.arg2 r.harg2 r.arg3 r.harg3 r.arg4 r.harg4 r.arg5 r.harg5 r.arg6 r.harg6 r.arg7 r.harg7 r.arg8 r.harg8 r.arg9 r.harg9 r.arg10 r.harg10 r.arg11 r.harg11 r.arg12 r.harg12 r.arg13 r.harg13 hc0 hc1 hc2 hc3 hc4 hc5 hc6 x0 x1 x2 x3 x4 x5 x6 xo8 xo10 xs0 = k0_pay7 (k0_pay12 x2 (k0_pay3 x0 x1 xs0) x3 x4) x5 x6
    ∧ out0_D_10 c i r.arg2 r.harg2 r.arg3 r.harg3 r.arg4 r.harg4 r.arg5 r.harg5 r.arg6 r.harg6 r.arg7 r.harg7 r.arg8 r.harg8 r.arg9 r.harg9 r.arg10 r.harg10 r.arg11 r.harg11 r.arg12 r.harg12 r.arg13 r.harg13 hc0 hc1 hc2 hc3 hc4 hc5 hc6 x0 x1 x2 x3 x4 x5 x6 xo8 xo10 xs0 = k0_pay8 (k0_pay12 x2 (k0_pay3 x0 x1 xs0) x3 x4) x5 xo10 := by
  unfold out0_D_7 out0_D_8 out0_D_9 out0_D_10
  simp only [View.read_writes_junk_eq_canon]
  unfold kernelRun0_D
  dsimp only
  sl_unfold_words
  refine ⟨(View.canon_unit_zero (by decide) _ _).trans ?_, (View.canon_unit_zero (by decide) _ _).trans ?_, (View.canon_unit_zero (by decide) _ _).trans ?_, (View.canon_unit_zero (by decide) _ _).trans ?_⟩ <;> simp only [ld2, ld3, rc2]

end Cert.DxOdd
-- ==== Proof.DxBlock.lean ====
module
public import proofs.«01_k».proof.Proof.Norm
public import proofs.«01_k».proof.Proof.DxPoint
public import Idealize.ShloMosaic.Lib.Pointwise

/-! The arithmetic of the input projection's backward body over a block of 256 rows, at any contents: products, normalised
   rows, the gradient through the normalisation, and the sums over the block's rows. -/

@[expose] public section

set_option maxRecDepth 16384

noncomputable section

namespace Cert.DxOdd

open Idealize.ShloMosaic Idealize.SL.Sem Cert.DxIdeal Cert.DxIdeal.Gen Cert.Arrays Cert.Norm Finset

variable (p w x a res : ℕ → ℕ → EReal) (g : ℕ → EReal)

/-- A block of columns of the product with the transposed weights. -/
theorem pay1_eq (x1 : Vec Ideal S1x2048x1792 .bf16) (h1 : ∀ i : S1x2048x1792.Idx, x1 i = w (i 1).val (i 2).val) :
    k0_pay1 (F := Ideal) (up 256 1792 p) x1 = up 256 2048 fun t d => ∑ e ∈ range 1792, p t e * w d e := by
  unfold k0_pay1
  funext j
  idx_vars j
  pointwise
  simp only [up_ix2]
  refine Eq.trans ?_ (sum_range (fun e => p _ e * w _ e)).symm
  exact sum_congr rfl fun k _ => congrArg _ (h1 _)

theorem pay9_eq : k0_pay9 (F := Ideal) (up 256 2048 x) = up 256 1 fun t _ => rs (x t) := by
  unfold k0_pay9
  funext j
  idx_vars j
  pointwise
  simp only [up_ix2]
  rw [← sum_range (fun e => x _ e * x _ e)]
  rfl

theorem pay10_eq : k0_pay10 (F := Ideal) (up 256 2048 x) = up 256 2048 fun t d => hat (x t) d := by
  unfold k0_pay10
  rw [pay9_eq]
  funext j
  idx_vars j
  pointwise
  simp only [up_ix2]
  rfl

theorem pay11_eq : k0_pay11 (F := Ideal) (up 256 2048 x) (up 256 2048 a) = up 1 2048 fun _ d => ∑ t ∈ range 256, a t d * hat (x t) d := by
  unfold k0_pay11
  rw [pay10_eq]
  funext j
  idx_vars j
  pointwise
  simp only [up_ix2]
  exact (sum_range (fun t => a t _ * hat (x t) _)).symm

theorem pay12_eq : k0_pay12 (F := Ideal) (up 256 2048 x) (up 256 2048 a) (up 1 2048 fun _ d => g d) (up 256 2048 res)
    = up 256 2048 fun t d => res t d + back (x t) (fun e => a t e * g e) d := by
  unfold k0_pay12
  rw [pay9_eq, pay10_eq]
  funext j
  idx_vars j
  pointwise
  simp only [up_ix2]
  rw [← sum_range (fun e => a _ e * g e * hat (x _) e)]
  rfl

/-- The same arithmetic for the second normalisation. -/
theorem pay6_eq : k0_pay6 (F := Ideal) (up 256 2048 a) (up 256 2048 x) = up 1 2048 fun _ d => ∑ t ∈ range 256, a t d * hat (x t) d :=
  pay11_eq x a

theorem pay7_eq : k0_pay7 (F := Ideal) (up 256 2048 a) (up 256 2048 x) (up 1 2048 fun _ d => g d)
    = up 256 2048 fun t d => back (x t) (fun e => a t e * g e) d := by
  have e4 : k0_pay4 (F := Ideal) (up 256 2048 x) = _ := pay9_eq x
  have e5 : k0_pay5 (F := Ideal) (up 256 2048 x) = _ := pay10_eq x
  unfold k0_pay7
  rw [e4, e5]
  funext j
  idx_vars j
  pointwise
  simp only [up_ix2]
  rw [← sum_range (fun e => a _ e * g e * hat (x _) e)]
  rfl

/-- The products over the first `n` blocks of columns, of the rows of block `i`. -/
def part (p w : ℕ → ℕ → EReal) (i n : ℕ) (t d : ℕ) : EReal := ∑ e ∈ range (1792 * n), p (256 * i + t) e * w d e

/-- The sums over the first `n` blocks of rows. -/
def colsum (a x : ℕ → ℕ → EReal) (n : ℕ) (d : ℕ) : EReal := ∑ t ∈ range (256 * n), a t d * hat (x t) d

theorem pay2_eq (i : ℕ) (x1 : Vec Ideal S1x2048x1792 .bf16) (h1 : ∀ j : S1x2048x1792.Idx, x1 j = w (j 1).val (j 2).val) :
    k0_pay2 (F := Ideal) (up 256 1792 fun t e => p (256 * i + t) e) x1 = up 256 2048 (part p w i 1) :=
  (shapeCast_self _ _).trans (pay1_eq _ _ _ h1)

theorem pay3_eq (i n : ℕ) (x1 : Vec Ideal S1x2048x1792 .bf16) (h1 : ∀ j : S1x2048x1792.Idx, x1 j = w (j 1).val (1792 * n + (j 2).val)) :
    k0_pay3 (F := Ideal) (up 256 1792 fun t e => p (256 * i + t) (1792 * n + e)) x1 (up 256 2048 (part p w i n))
      = up 256 2048 (part p w i (n + 1)) := by
  unfold k0_pay3
  rw [pay1_eq _ (fun d e => w d (1792 * n + e)) _ h1]
  refine (shapeCast_self _ _).trans ?_
  funext j
  show part p w i n (j 0).val (j 1).val + (∑ e ∈ range 1792, p (256 * i + (j 0).val) (1792 * n + e) * w (j 1).val (1792 * n + e))
    = part p w i (n + 1) (j 0).val (j 1).val
  unfold part
  rw [Nat.mul_succ, sum_range_add]

theorem colsum_succ (n d : ℕ) : colsum a x n d + ∑ t ∈ range 256, a (256 * n + t) d * hat (x (256 * n + t)) d = colsum a x (n + 1) d := by
  unfold colsum
  rw [Nat.mul_succ, sum_range_add]

theorem colsum_one (d : ℕ) : ∑ t ∈ range 256, a t d * hat (x t) d = colsum a x 1 d := rfl

theorem pay13_eq (n : ℕ) : k0_pay13 (F := Ideal) (up 256 2048 fun t => x (256 * n + t)) (up 256 2048 fun t => a (256 * n + t)) (up 1 2048 fun _ => colsum a x n)
    = up 1 2048 fun _ => colsum a x (n + 1) := by
  unfold k0_pay13
  rw [pay11_eq, shapeCast_self]
  funext j
  exact colsum_succ x a n _

theorem pay8_eq (n : ℕ) : k0_pay8 (F := Ideal) (up 256 2048 fun t => a (256 * n + t)) (up 256 2048 fun t => x (256 * n + t)) (up 1 2048 fun _ => colsum a x n)
    = up 1 2048 fun _ => colsum a x (n + 1) := pay13_eq x a n

end Cert.DxOdd
-- ==== Proof.DxFold.lean ====
module
public import proofs.«01_k».proof.Proof.DxBlock

/-! The 32 grid points of the input projection's backward call (8 blocks of rows, 4 blocks of columns of the cotangent
   each): what is held between them, and so what the four result arrays hold. -/

@[expose] public section

set_option maxRecDepth 16384

noncomputable section

namespace Cert.DxOdd

open Idealize.ShloMosaic Idealize.SL Idealize.SL.Sem Cert.DxIdeal Cert.DxIdeal.Gen Cert.DxIdeal.Value Cert.Arrays Cert.Norm Finset

variable (P W X R O : ℕ → ℕ → EReal) (G H : ℕ → EReal)

/-- The cotangent of the scaled normalised row: the product with the transposed weights. -/
def DH (t d : ℕ) : EReal := ∑ e ∈ range 7168, P t e * W d e
/-- The gradient at the first normalisation's row, added to what the residual stream brings. -/
def DX (t d : ℕ) : EReal := R t d + back (X t) (fun e => DH P W t e * G e) d
/-- The gradient at the first scale. -/
def DG (d : ℕ) : EReal := ∑ t ∈ range 2048, DH P W t d * hat (X t) d
/-- The gradient at the second normalisation's row. -/
def DO (t d : ℕ) : EReal := back (O t) (fun e => DX P W X R G t e * H e) d
/-- The gradient at the second scale. -/
def DGP (d : ℕ) : EReal := ∑ t ∈ range 2048, DX P W X R G t d * hat (O t) d

/-- What a point's seven input blocks hold: block `i` of rows and block `k` of columns. -/
structure Ins (i k : ℕ) (x0 : Vec Ideal S256x1792 .bf16) (x1 : Vec Ideal S1x2048x1792 .bf16) (x2 : Vec Ideal S256x2048 .f32) (x3 : Vec Ideal S1x2048 .f32)
    (x4 x5 : Vec Ideal S256x2048 .f32) (x6 : Vec Ideal S1x2048 .f32) : Prop where
  p : x0 = up 256 1792 fun t e => P (256 * i + t) (1792 * k + e)
  w : ∀ j : S1x2048x1792.Idx, x1 j = W (j 1).val (1792 * k + (j 2).val)
  x : x2 = up 256 2048 fun t => X (256 * i + t)
  g : x3 = up 1 2048 fun _ d => G d
  r : x4 = up 256 2048 fun t => R (256 * i + t)
  o : x5 = up 256 2048 fun t => O (256 * i + t)
  h : x6 = up 1 2048 fun _ d => H d

/-- The five arrays a point leaves. -/
abbrev State := Vec Ideal S256x2048 .f32 × Vec Ideal S1x2048 .f32 × Vec Ideal S256x2048 .bf16 × Vec Ideal S1x2048 .f32 × Vec Ideal S256x2048 .f32

/-- What is held when `n` points are done: the product so far of the block of rows under way; the two sums over the blocks of rows done;
    and, when a block of rows is just done, its gradients. -/
structure Held (n : ℕ) (s : State) : Prop where
  acc : n % 4 ≠ 0 → s.2.2.2.2 = up 256 2048 (part P W (n / 4) (n % 4))
  dg : 0 < n / 4 → s.2.1 = up 1 2048 fun _ => colsum (DH P W) X (n / 4)
  dgp : 0 < n / 4 → s.2.2.2.1 = up 1 2048 fun _ => colsum (DX P W X R G) O (n / 4)
  dx : n % 4 = 0 → s.1 = up 256 2048 fun t => DX P W X R G (256 * (n / 4 - 1) + t)
  dO : n % 4 = 0 → s.2.2.1 = up 256 2048 fun t => DO P W X R O G H (256 * (n / 4 - 1) + t)

variable (m : (ℓ : Loc nD τ sig) → Buf (Elt Ideal) ℓ) (c : Dev nD)

/-- Every point's input blocks hold their parts of the operands. -/
def AllIns : Prop := ∀ t : Fin cfg0.N, Ins P W X R O G H (t.val / 4) (t.val % 4)
  (iblk m c 0 t) (iblk m c 1 t) (iblk m c 2 t) (iblk m c 3 t) (iblk m c 4 t) (iblk m c 5 t) (iblk m c 6 t)

/-- The buffers of a point. -/
abbrev refsAt (t : Fin cfg0.N) : Refs := ⟨ms0_0 t, hs0_0 t, ms0_1 t, hs0_1 t, ms0_2 t, hs0_2 t, ms0_3 t, hs0_3 t, ms0_4 t, hs0_4 t, ms0_5 t, hs0_5 t, ms0_6 t, hs0_6 t,
  ms0_7 t, hs0_7 t, ms0_8 t, hs0_8 t, ms0_9 t, hs0_9 t, ms0_10 t, hs0_10 t, scM0_0, Memref.isWhole_whole _⟩

section steps
variable (hI : AllIns P W X R O G H m c)
include hI

omit hI in
theorem mk_held {n : ℕ} {o7 : Vec Ideal S256x2048 .f32} {o8 : Vec Ideal S1x2048 .f32} {o9 : Vec Ideal S256x2048 .bf16} {o10 : Vec Ideal S1x2048 .f32} {a : Vec Ideal S256x2048 .f32}
    (e1 : n % 4 ≠ 0 → a = up 256 2048 (part P W (n / 4) (n % 4))) (e2 : 0 < n / 4 → o8 = up 1 2048 fun _ => colsum (DH P W) X (n / 4))
    (e3 : 0 < n / 4 → o10 = up 1 2048 fun _ => colsum (DX P W X R G) O (n / 4)) (e4 : n % 4 = 0 → o7 = up 256 2048 fun t => DX P W X R G (256 * (n / 4 - 1) + t))
    (e5 : n % 4 = 0 → o9 = up 256 2048 fun t => DO P W X R O G H (256 * (n / 4 - 1) + t)) : Held P W X R O G H n (o7, o8, o9, o10, a) := ⟨e1, e2, e3, e4, e5⟩

/-- A block of rows begins. -/
theorem step_A (t : Fin cfg0.N) (h0 : t.val % 4 = 0) (s : State) (hs : 0 < t.val → Held P W X R O G H t.val s) :
    Held P W X R O G H (t.val + 1) (stAt0 m c t.val t.isLt s) := by
  have h1 : ¬1 ≤ t.val % 4 := by omega
  have h2 : ¬t.val % 4 = 3 := by omega
  have hd : (t.val + 1) / 4 = t.val / 4 := by omega
  have hm : (t.val + 1) % 4 = 1 := by omega
  have hi := hI t
  have ea : k0_pay2 (F := Ideal) (iblk m c 0 t) (iblk m c 1 t) = up 256 2048 (part P W ((t.val + 1) / 4) ((t.val + 1) % 4)) := by
    rw [hi.p, hd, hm]
    refine (congrArg (fun x => k0_pay2 (F := Ideal) x (iblk m c 1 t)) ?_).trans (pay2_eq P W (t.val / 4) _ fun j => ?_)
    · exact up_congr fun a _ b _ => by rw [h0, Nat.mul_zero, Nat.zero_add]
    · rw [hi.w, h0, Nat.mul_zero, Nat.zero_add]
  have e := (point_A (F := Ideal) c (grid0.coords t) (refsAt t) (iblk m c 0 t) (iblk m c 1 t) (iblk m c 2 t) (iblk m c 3 t) (iblk m c 4 t) (iblk m c 5 t) (iblk m c 6 t)
    ((hcond0_0 t).mpr h0) (fun h => h1 ((hcond0_1 t).mp h)) (fun h => h2 ((hcond0_2 t).mp h))).trans ea
  have e2 : 0 < (t.val + 1) / 4 → s.2.1 = up 1 2048 fun _ => colsum (DH P W) X ((t.val + 1) / 4) := fun h => by
    rw [hd] at h ⊢; exact (hs (by omega)).dg h
  have e3 : 0 < (t.val + 1) / 4 → s.2.2.2.1 = up 1 2048 fun _ => colsum (DX P W X R G) O ((t.val + 1) / 4) := fun h => by
    rw [hd] at h ⊢; exact (hs (by omega)).dgp h
  rw [stAt0_A m c t s h0 h1 h2]
  dsimp only [refsAt] at e
  exact mk_held P W X R O G H (fun _ => e) e2 e3 (fun h => by omega) (fun h => by omega)

/-- A middle block of columns. -/
theorem step_B (t : Fin cfg0.N) (h0 : ¬t.val % 4 = 0) (h2 : ¬t.val % 4 = 3) (s : State) (hs : Held P W X R O G H t.val s) :
    Held P W X R O G H (t.val + 1) (stAt0 m c t.val t.isLt s) := by
  have h1 : 1 ≤ t.val % 4 := by omega
  have hd : (t.val + 1) / 4 = t.val / 4 := by omega
  have hm : (t.val + 1) % 4 = t.val % 4 + 1 := by omega
  have hi := hI t
  have ea : k0_pay3 (F := Ideal) (iblk m c 0 t) (iblk m c 1 t) s.2.2.2.2 = up 256 2048 (part P W ((t.val + 1) / 4) ((t.val + 1) % 4)) := by
    rw [hi.p, hd, hm, hs.acc h0]
    exact pay3_eq P W (t.val / 4) (t.val % 4) _ hi.w
  have e := (point_B (F := Ideal) c (grid0.coords t) (refsAt t) (iblk m c 0 t) (iblk m c 1 t) (iblk m c 2 t) (iblk m c 3 t) (iblk m c 4 t) (iblk m c 5 t) (iblk m c 6 t) s.2.2.2.2
    (fun h => h0 ((hcond0_0 t).mp h)) ((hcond0_1 t).mpr h1) (fun h => h2 ((hcond0_2 t).mp h))).trans ea
  have e2 : 0 < (t.val + 1) / 4 → s.2.1 = up 1 2048 fun _ => colsum (DH P W) X ((t.val + 1) / 4) := fun h => by
    rw [hd] at h ⊢; exact hs.dg h
  have e3 : 0 < (t.val + 1) / 4 → s.2.2.2.1 = up 1 2048 fun _ => colsum (DX P W X R G) O ((t.val + 1) / 4) := fun h => by
    rw [hd] at h ⊢; exact hs.dgp h
  rw [stAt0_B m c t s h0 h1 h2]
  dsimp only [refsAt] at e
  exact mk_held P W X R O G H (fun _ => e) e2 e3 (fun h => by omega) (fun h => by omega)

omit hI in
/-- The whole product of a block of rows. -/
theorem part_all (i : ℕ) : up 256 2048 (part P W i (3 + 1)) = up 256 2048 fun t => DH P W (256 * i + t) := rfl

/-- A block of rows ends. -/
theorem step_CD (t : Fin cfg0.N) (h2 : t.val % 4 = 3) (s : State) (hs : Held P W X R O G H t.val s) :
    Held P W X R O G H (t.val + 1) (stAt0 m c t.val t.isLt s) := by
  have h0 : ¬t.val % 4 = 0 := by omega
  have h1 : 1 ≤ t.val % 4 := by omega
  have hi := hI t
  have hd : (t.val + 1) / 4 = t.val / 4 + 1 := by omega
  have hm : (t.val + 1) % 4 = 0 := by omega
  have ea : k0_pay3 (F := Ideal) (iblk m c 0 t) (iblk m c 1 t) s.2.2.2.2 = up 256 2048 fun a => DH P W (256 * (t.val / 4) + a) := by
    rw [hi.p, hs.acc h0, ← part_all P W]
    have := pay3_eq P W (t.val / 4) (t.val % 4) _ hi.w
    rwa [show part P W (t.val / 4) (t.val % 4 + 1) = part P W (t.val / 4) (3 + 1) by rw [h2]] at this
  have ex : k0_pay12 (F := Ideal) (iblk m c 2 t) (k0_pay3 (F := Ideal) (iblk m c 0 t) (iblk m c 1 t) s.2.2.2.2) (iblk m c 3 t) (iblk m c 4 t)
      = up 256 2048 fun a => DX P W X R G (256 * (t.val / 4) + a) := by
    rw [ea, hi.x, hi.g, hi.r]
    exact pay12_eq (fun a => X (256 * (t.val / 4) + a)) (fun a => DH P W (256 * (t.val / 4) + a)) (fun a => R (256 * (t.val / 4) + a)) G
  have eo : k0_pay7 (F := Ideal) (k0_pay12 (F := Ideal) (iblk m c 2 t) (k0_pay3 (F := Ideal) (iblk m c 0 t) (iblk m c 1 t) s.2.2.2.2) (iblk m c 3 t) (iblk m c 4 t)) (iblk m c 5 t) (iblk m c 6 t)
      = up 256 2048 fun a => DO P W X R O G H (256 * (t.val / 4) + a) := by
    rw [ex, hi.o, hi.h]
    exact pay7_eq (fun a => O (256 * (t.val / 4) + a)) (fun a => DX P W X R G (256 * (t.val / 4) + a)) H
  have f7 : ∀ o : Vec Ideal S256x2048 .f32, o = up 256 2048 (fun a => DX P W X R G (256 * (t.val / 4) + a)) →
      (t.val + 1) % 4 = 0 → o = up 256 2048 fun a => DX P W X R G (256 * ((t.val + 1) / 4 - 1) + a) := fun o ho _ => by rw [ho, hd]; rfl
  have f9 : ∀ o : Vec Ideal S256x2048 .bf16, o = up 256 2048 (fun a => DO P W X R O G H (256 * (t.val / 4) + a)) →
      (t.val + 1) % 4 = 0 → o = up 256 2048 fun a => DO P W X R O G H (256 * ((t.val + 1) / 4 - 1) + a) := fun o ho _ => by rw [ho, hd]; rfl
  by_cases h3 : t.val < 4
  · have h4 : ¬4 ≤ t.val := by omega
    have hz : t.val / 4 = 0 := by omega
    obtain ⟨e7, e8, e9, e10⟩ := point_C (F := Ideal) c (grid0.coords t) (refsAt t) (iblk m c 0 t) (iblk m c 1 t) (iblk m c 2 t) (iblk m c 3 t) (iblk m c 4 t) (iblk m c 5 t) (iblk m c 6 t) s.2.2.2.2
      (fun h => h0 ((hcond0_0 t).mp h)) ((hcond0_1 t).mpr h1) ((hcond0_2 t).mpr h2) ((hcond0_3 t).mpr h3) (fun h => h4 ((hcond0_4 t).mp h)) ((hcond0_5 t).mpr h3) (fun h => h4 ((hcond0_6 t).mp h))
    have k8 : k0_pay11 (F := Ideal) (iblk m c 2 t) (k0_pay3 (F := Ideal) (iblk m c 0 t) (iblk m c 1 t) s.2.2.2.2) = up 1 2048 fun _ => colsum (DH P W) X 1 := by
      rw [ea, hi.x, pay11_eq, hz]; simp only [Nat.mul_zero, Nat.zero_add]; rfl
    have k10 : k0_pay6 (F := Ideal) (k0_pay12 (F := Ideal) (iblk m c 2 t) (k0_pay3 (F := Ideal) (iblk m c 0 t) (iblk m c 1 t) s.2.2.2.2) (iblk m c 3 t) (iblk m c 4 t)) (iblk m c 5 t)
        = up 1 2048 fun _ => colsum (DX P W X R G) O 1 := by
      rw [ex, hi.o, pay6_eq, hz]; simp only [Nat.mul_zero, Nat.zero_add]; rfl
    have e7' := f7 _ (e7.trans ex)
    have e9' := f9 _ (e9.trans eo)
    have e8' := fun _ : 0 < (t.val + 1) / 4 => (e8.trans k8).trans (congrArg (fun n => up 1 2048 fun _ => colsum (DH P W) X n) (show 1 = (t.val + 1) / 4 by omega))
    have e10' := fun _ : 0 < (t.val + 1) / 4 => (e10.trans k10).trans (congrArg (fun n => up 1 2048 fun _ => colsum (DX P W X R G) O n) (show 1 = (t.val + 1) / 4 by omega))
    rw [stAt0_C m c t s h0 h1 h2 h3 h4 h3 h4]
    dsimp only [refsAt] at e7' e8' e9' e10'
    exact mk_held P W X R O G H (fun h => absurd hm h) e8' e10' e7' e9'
  · have h4 : 4 ≤ t.val := by omega
    have hz : 0 < t.val / 4 := by omega
    obtain ⟨e7, e8, e9, e10⟩ := point_D (F := Ideal) c (grid0.coords t) (refsAt t) (iblk m c 0 t) (iblk m c 1 t) (iblk m c 2 t) (iblk m c 3 t) (iblk m c 4 t) (iblk m c 5 t) (iblk m c 6 t) s.2.1 s.2.2.2.1 s.2.2.2.2
      (fun h => h0 ((hcond0_0 t).mp h)) ((hcond0_1 t).mpr h1) ((hcond0_2 t).mpr h2) (fun h => h3 ((hcond0_3 t).mp h)) ((hcond0_4 t).mpr h4) (fun h => h3 ((hcond0_5 t).mp h)) ((hcond0_6 t).mpr h4)
    rw [hs.dg hz, hs.dgp hz] at e7 e8 e9 e10
    have k8 : k0_pay13 (F := Ideal) (iblk m c 2 t) (k0_pay3 (F := Ideal) (iblk m c 0 t) (iblk m c 1 t) s.2.2.2.2) (up 1 2048 fun _ => colsum (DH P W) X (t.val / 4))
        = up 1 2048 fun _ => colsum (DH P W) X (t.val / 4 + 1) := by
      rw [ea, hi.x]; exact pay13_eq X (DH P W) (t.val / 4)
    have k10 : k0_pay8 (F := Ideal) (k0_pay12 (F := Ideal) (iblk m c 2 t) (k0_pay3 (F := Ideal) (iblk m c 0 t) (iblk m c 1 t) s.2.2.2.2) (iblk m c 3 t) (iblk m c 4 t)) (iblk m c 5 t)
        (up 1 2048 fun _ => colsum (DX P W X R G) O (t.val / 4)) = up 1 2048 fun _ => colsum (DX P W X R G) O (t.val / 4 + 1) := by
      rw [ex, hi.o]; exact pay8_eq O (DX P W X R G) (t.val / 4)
    have e7' := f7 _ (e7.trans ex)
    have e9' := f9 _ (e9.trans eo)
    have e8' := fun _ : 0 < (t.val + 1) / 4 => (e8.trans k8).trans (congrArg (fun n => up 1 2048 fun _ => colsum (DH P W) X n) hd.symm)
    have e10' := fun _ : 0 < (t.val + 1) / 4 => (e10.trans k10).trans (congrArg (fun n => up 1 2048 fun _ => colsum (DX P W X R G) O n) hd.symm)
    rw [stAt0_D m c t s h0 h1 h2 h3 h4 h3 h4]
    rw [hs.dg hz, hs.dgp hz]
    dsimp only [refsAt] at e7' e8' e9' e10'
    exact mk_held P W X R O G H (fun h => absurd hm h) e8' e10' e7' e9'

/-- What is held after each point. -/
theorem held_all : ∀ (n : ℕ) (hn : n < cfg0.N), Held P W X R O G H (n + 1) (outsAt0 m c n hn) := by
  intro n
  induction n with
  | zero => intro hn; rw [outsAt0_zero]; exact step_A P W X R O G H m c hI ⟨0, hn⟩ rfl _ fun h => absurd h (lt_irrefl 0)
  | succ n ih =>
    intro hn
    have := ih (Nat.lt_of_succ_lt hn)
    rw [outsAt0_succ]
    by_cases h0 : (n + 1) % 4 = 0
    · exact step_A P W X R O G H m c hI ⟨n + 1, hn⟩ h0 _ fun _ => this
    · by_cases h2 : (n + 1) % 4 = 3
      · exact step_CD P W X R O G H m c hI ⟨n + 1, hn⟩ h2 _ this
      · exact step_B P W X R O G H m c hI ⟨n + 1, hn⟩ h0 h2 _ this

/-- The gradient at the first normalisation's rows. -/
theorem G7_eq : G7 m c = up 2048 2048 (DX P W X R G) := by
  funext j
  have h0 : (j 0).val < 2048 := (j 0).isLt
  have h1 : (j 1).val < 2048 := (j 1).isLt
  have hp : pt7Of j = 4 * ((j 0).val / 256) + 3 := by show 4 * (1 * ((j 0).val / 256 - 0) + 1 * ((j 1).val / 2048 - 0)) + 3 = _; omega
  have hN : pt7Of j < cfg0.N := by rw [show cfg0.N = 32 from N_0, hp]; omega
  have hL := (held_all P W X R O G H m c hI (pt7Of j) hN).dx (by omega)
  rw [outsAt0_sweep] at hL
  refine (dif_pos hN).trans ((congrFun hL (loc7Of j)).trans ?_)
  show DX P W X R G (256 * ((pt7Of j + 1) / 4 - 1) + (j 0).val % 256) ((j 1).val % 2048) = DX P W X R G (j 0).val (j 1).val
  rw [show 256 * ((pt7Of j + 1) / 4 - 1) + (j 0).val % 256 = (j 0).val by omega, show (j 1).val % 2048 = (j 1).val by omega]

/-- The gradient at the second normalisation's rows. -/
theorem G9_eq : G9 m c = up 2048 2048 (DO P W X R O G H) := by
  funext j
  have h0 : (j 0).val < 2048 := (j 0).isLt
  have h1 : (j 1).val < 2048 := (j 1).isLt
  have hp : pt9Of j = 4 * ((j 0).val / 256) + 3 := by show 4 * (1 * ((j 0).val / 256 - 0) + 1 * ((j 1).val / 2048 - 0)) + 3 = _; omega
  have hN : pt9Of j < cfg0.N := by rw [show cfg0.N = 32 from N_0, hp]; omega
  have hL := (held_all P W X R O G H m c hI (pt9Of j) hN).dO (by omega)
  rw [outsAt0_sweep] at hL
  refine (dif_pos hN).trans ((congrFun hL (loc9Of j)).trans ?_)
  show DO P W X R O G H (256 * ((pt9Of j + 1) / 4 - 1) + (j 0).val % 256) ((j 1).val % 2048) = DO P W X R O G H (j 0).val (j 1).val
  rw [show 256 * ((pt9Of j + 1) / 4 - 1) + (j 0).val % 256 = (j 0).val by omega, show (j 1).val % 2048 = (j 1).val by omega]

/-- The gradients at the two scales. -/
theorem G8_eq : G8 m c = up 1 2048 fun _ => DG P W X := by
  have hL := (held_all P W X R O G H m c hI 31 (lt_of_lt_of_eq (by decide) N_0.symm)).dg (by decide)
  rw [outsAt0_sweep] at hL
  exact (G8_last m c).trans hL
theorem G10_eq : G10 m c = up 1 2048 fun _ => DGP P W X R O G := by
  have hL := (held_all P W X R O G H m c hI 31 (lt_of_lt_of_eq (by decide) N_0.symm)).dgp (by decide)
  rw [outsAt0_sweep] at hL
  exact (G10_last m c).trans hL

end steps

end Cert.DxOdd
-- ==== Proof.DxHost.lean ====
module
public import proofs.«01_k».proof.Proof.DxFold

/-! What each grid point of the input projection's backward call is given: the blocks of its seven operands. -/

@[expose] public section

set_option maxRecDepth 16384

noncomputable section

namespace Cert.DxOdd

open Idealize.ShloMosaic Idealize.SL Idealize.SL.Sem Cert.DxIdeal Cert.DxIdeal.Gen Cert.DxIdeal.Value Cert.Arrays

/-! The block numbers of the seven operands at a point. -/

theorem index0 : ∀ t : Fin cfg0.N, win0_0.index t (0 : Fin 2) = t.val / 4 ∧ win0_0.index t (1 : Fin 2) = t.val % 4 :=
  (by decide +kernel : ∀ t : Fin grid0.N, _)
theorem index1 : ∀ t : Fin cfg0.N, win0_1.index t (0 : Fin 3) = t.val % 4 ∧ win0_1.index t (1 : Fin 3) = 0 ∧ win0_1.index t (2 : Fin 3) = 0 :=
  (by decide +kernel : ∀ t : Fin grid0.N, _)
theorem index2 : ∀ t : Fin cfg0.N, win0_2.index t (0 : Fin 2) = t.val / 4 ∧ win0_2.index t (1 : Fin 2) = 0 :=
  (by decide +kernel : ∀ t : Fin grid0.N, _)
theorem index3 : ∀ t : Fin cfg0.N, win0_3.index t (0 : Fin 2) = 0 ∧ win0_3.index t (1 : Fin 2) = 0 :=
  (by decide +kernel : ∀ t : Fin grid0.N, _)
theorem index4 : ∀ t : Fin cfg0.N, win0_4.index t (0 : Fin 2) = t.val / 4 ∧ win0_4.index t (1 : Fin 2) = 0 :=
  (by decide +kernel : ∀ t : Fin grid0.N, _)
theorem index5 : ∀ t : Fin cfg0.N, win0_5.index t (0 : Fin 2) = t.val / 4 ∧ win0_5.index t (1 : Fin 2) = 0 :=
  (by decide +kernel : ∀ t : Fin grid0.N, _)
theorem index6 : ∀ t : Fin cfg0.N, win0_6.index t (0 : Fin 2) = 0 ∧ win0_6.index t (1 : Fin 2) = 0 :=
  (by decide +kernel : ∀ t : Fin grid0.N, _)

/-! Where an element of a block lies in its array. -/

theorem place0 (t : Fin cfg0.N) (y : (⟨2, ![256, 1792]⟩ : Shape).Idx) :
    (((cfg0.win 0).blk t).view.emb y 0).val = 256 * (t.val / 4) + (y 0).val ∧ (((cfg0.win 0).blk t).view.emb y 1).val = 1792 * (t.val % 4) + (y 1).val := by
  have b0 : (((cfg0.win 0).blk t).view.emb y 0).val = win0_0.index t (0 : Fin 2) * 256 + 1 * (y 0).val := rfl
  have b1 : (((cfg0.win 0).blk t).view.emb y 1).val = win0_0.index t (1 : Fin 2) * 1792 + 1 * (y 1).val := rfl
  rw [b0, b1, (index0 t).1, (index0 t).2]
  omega

theorem place1 (t : Fin cfg0.N) (y : (⟨3, ![1, 2048, 1792]⟩ : Shape).Idx) :
    (((cfg0.win 1).blk t).view.emb y 0).val = t.val % 4 ∧ (((cfg0.win 1).blk t).view.emb y 1).val = (y 1).val
      ∧ (((cfg0.win 1).blk t).view.emb y 2).val = (y 2).val := by
  have b0 : (((cfg0.win 1).blk t).view.emb y 0).val = win0_1.index t (0 : Fin 3) * 1 + 1 * (y 0).val := rfl
  have b1 : (((cfg0.win 1).blk t).view.emb y 1).val = win0_1.index t (1 : Fin 3) * 2048 + 1 * (y 1).val := rfl
  have b2 : (((cfg0.win 1).blk t).view.emb y 2).val = win0_1.index t (2 : Fin 3) * 1792 + 1 * (y 2).val := rfl
  have y0 : (y 0).val < 1 := (y 0).isLt
  rw [b0, b1, b2, (index1 t).1, (index1 t).2.1, (index1 t).2.2]
  omega

theorem place2 (t : Fin cfg0.N) (y : (⟨2, ![256, 2048]⟩ : Shape).Idx) :
    (((cfg0.win 2).blk t).view.emb y 0).val = 256 * (t.val / 4) + (y 0).val ∧ (((cfg0.win 2).blk t).view.emb y 1).val = (y 1).val := by
  have b0 : (((cfg0.win 2).blk t).view.emb y 0).val = win0_2.index t (0 : Fin 2) * 256 + 1 * (y 0).val := rfl
  have b1 : (((cfg0.win 2).blk t).view.emb y 1).val = win0_2.index t (1 : Fin 2) * 2048 + 1 * (y 1).val := rfl
  rw [b0, b1, (index2 t).1, (index2 t).2]
  omega

theorem place4 (t : Fin cfg0.N) (y : (⟨2, ![256, 2048]⟩ : Shape).Idx) :
    (((cfg0.win 4).blk t).view.emb y 0).val = 256 * (t.val / 4) + (y 0).val ∧ (((cfg0.win 4).blk t).view.emb y 1).val = (y 1).val := by
  have b0 : (((cfg0.win 4).blk t).view.emb y 0).val = win0_4.index t (0 : Fin 2) * 256 + 1 * (y 0).val := rfl
  have b1 : (((cfg0.win 4).blk t).view.emb y 1).val = win0_4.index t (1 : Fin 2) * 2048 + 1 * (y 1).val := rfl
  rw [b0, b1, (index4 t).1, (index4 t).2]
  omega

theorem place5 (t : Fin cfg0.N) (y : (⟨2, ![256, 2048]⟩ : Shape).Idx) :
    (((cfg0.win 5).blk t).view.emb y 0).val = 256 * (t.val / 4) + (y 0).val ∧ (((cfg0.win 5).blk t).view.emb y 1).val = (y 1).val := by
  have b0 : (((cfg0.win 5).blk t).view.emb y 0).val = win0_5.index t (0 : Fin 2) * 256 + 1 * (y 0).val := rfl
  have b1 : (((cfg0.win 5).blk t).view.emb y 1).val = win0_5.index t (1 : Fin 2) * 2048 + 1 * (y 1).val := rfl
  rw [b0, b1, (index5 t).1, (index5 t).2]
  omega

theorem place3 (t : Fin cfg0.N) (y : (⟨2, ![1, 2048]⟩ : Shape).Idx) :
    (((cfg0.win 3).blk t).view.emb y 0).val = (y 0).val ∧ (((cfg0.win 3).blk t).view.emb y 1).val = (y 1).val := by
  have b0 : (((cfg0.win 3).blk t).view.emb y 0).val = win0_3.index t (0 : Fin 2) * 1 + 1 * (y 0).val := rfl
  have b1 : (((cfg0.win 3).blk t).view.emb y 1).val = win0_3.index t (1 : Fin 2) * 2048 + 1 * (y 1).val := rfl
  rw [b0, b1, (index3 t).1, (index3 t).2]
  omega

theorem place6 (t : Fin cfg0.N) (y : (⟨2, ![1, 2048]⟩ : Shape).Idx) :
    (((cfg0.win 6).blk t).view.emb y 0).val = (y 0).val ∧ (((cfg0.win 6).blk t).view.emb y 1).val = (y 1).val := by
  have b0 : (((cfg0.win 6).blk t).view.emb y 0).val = win0_6.index t (0 : Fin 2) * 1 + 1 * (y 0).val := rfl
  have b1 : (((cfg0.win 6).blk t).view.emb y 1).val = win0_6.index t (1 : Fin 2) * 2048 + 1 * (y 1).val := rfl
  rw [b0, b1, (index6 t).1, (index6 t).2]
  omega

variable (P W X R O : ℕ → ℕ → EReal) (G H : ℕ → EReal) (t : Fin cfg0.N)

/-- The block of the cotangent. -/
theorem block0 (A : S2048x7168.Idx → EReal) (h : A = up 2048 7168 P) :
    ((cfg0.win 0).blk t).view.read (Elt Ideal) A = up 256 1792 fun a e => P (256 * (t.val / 4) + a) (1792 * (t.val % 4) + e) :=
  funext fun y => up_at h (((cfg0.win 0).blk t).view.emb y) (place0 t y)

/-- The block of the weights. -/
theorem block1 (A : S4x2048x1792.Idx → EReal) (h : ∀ j : S4x2048x1792.Idx, A j = W (j 1).val (1792 * (j 0).val + (j 2).val)) (y : S1x2048x1792.Idx) :
    ((cfg0.win 1).blk t).view.read (Elt Ideal) A y = W (y 1).val (1792 * (t.val % 4) + (y 2).val) := by
  refine (h (((cfg0.win 1).blk t).view.emb y)).trans ?_
  obtain ⟨p0, p1, p2⟩ := place1 t y
  rw [p0, p1, p2]

/-- The block of the first normalised rows. -/
theorem block2 (A : S2048x2048.Idx → EReal) (h : A = up 2048 2048 P) :
    ((cfg0.win 2).blk t).view.read (Elt Ideal) A = up 256 2048 fun a => P (256 * (t.val / 4) + a) :=
  funext fun y => up_at h (((cfg0.win 2).blk t).view.emb y) (place2 t y)

/-- The block of what the residual stream brings. -/
theorem block4 (A : S2048x2048.Idx → EReal) (h : A = up 2048 2048 P) :
    ((cfg0.win 4).blk t).view.read (Elt Ideal) A = up 256 2048 fun a => P (256 * (t.val / 4) + a) :=
  funext fun y => up_at h (((cfg0.win 4).blk t).view.emb y) (place4 t y)

/-- The block of the second normalised rows. -/
theorem block5 (A : S2048x2048.Idx → EReal) (h : A = up 2048 2048 P) :
    ((cfg0.win 5).blk t).view.read (Elt Ideal) A = up 256 2048 fun a => P (256 * (t.val / 4) + a) :=
  funext fun y => up_at h (((cfg0.win 5).blk t).view.emb y) (place5 t y)

/-- The first scale, whole. -/
theorem block3 (A : S1x2048.Idx → EReal) (h : A = up 1 2048 fun _ d => G d) :
    ((cfg0.win 3).blk t).view.read (Elt Ideal) A = up 1 2048 fun _ d => G d :=
  funext fun y => up_at h (((cfg0.win 3).blk t).view.emb y) (place3 t y)

/-- The second scale, whole. -/
theorem block6 (A : S1x2048.Idx → EReal) (h : A = up 1 2048 fun _ d => G d) :
    ((cfg0.win 6).blk t).view.read (Elt Ideal) A = up 1 2048 fun _ d => G d :=
  funext fun y => up_at h (((cfg0.win 6).blk t).view.emb y) (place6 t y)

variable (m : (ℓ : Loc nD τ sig) → Buf (Elt Ideal) ℓ) (c : Dev nD)

/-- Every block that a point reads holds its part of the operand. -/
theorem all_ins (h0 : m ((c.tc : Thread nD τ).loc main_arg0) = up 2048 7168 P)
    (h1 : ∀ j : S4x2048x1792.Idx, m ((c.tc : Thread nD τ).loc main_arg1) j = W (j 1).val (1792 * (j 0).val + (j 2).val))
    (h2 : m ((c.tc : Thread nD τ).loc main_arg2) = up 2048 2048 X) (h3 : m ((c.tc : Thread nD τ).loc main_arg3) = up 1 2048 fun _ d => G d)
    (h4 : m ((c.tc : Thread nD τ).loc main_arg4) = up 2048 2048 R) (h5 : m ((c.tc : Thread nD τ).loc main_arg5) = up 2048 2048 O)
    (h6 : m ((c.tc : Thread nD τ).loc main_arg6) = up 1 2048 fun _ d => H d) : AllIns P W X R O G H m c := fun t =>
  ⟨block0 P t _ ((V_main_arg0 m c).trans h0), block1 W t _ h1, block2 X t _ ((V_main_arg2 m c).trans h2), block3 G t _ ((V_main_arg3 m c).trans h3),
    block4 R t _ ((V_main_arg4 m c).trans h4), block5 O t _ ((V_main_arg5 m c).trans h5), block6 H t _ ((V_main_arg6 m c).trans h6)⟩

end Cert.DxOdd
-- ==== Proof.DxRef.lean ====
module
public import proofs.«01_k».proof.Proof.DxFold
public import proofs.«01_k».proof.Proof.Gen.DxReferenceIdeal.Read

/-! The reference of the input projection's backward call at any operands: its four results. -/

@[expose] public section

set_option maxRecDepth 16384

noncomputable section

namespace Cert.DxOdd

open Idealize.ShloMosaic Idealize.SL.Sem Cert.DxReferenceIdeal Cert.DxReferenceIdeal.Gen Cert.DxReferenceIdeal.Read Cert.Arrays Cert.Norm Finset

/-! The lines that the reference has for each of its two normalisations, over a whole array. -/

abbrev Arr := S2048x2048.Idx → EReal

def hostMs (x : Arr) : S2048x1.Idx → EReal :=
  addf (F := Ideal) (φ := .f32) (Host.divf (F := Ideal) (φ := .f32) (broadcastInDim S2048x1 ![0] bcast_S2048_S2048x1_0
      (Host.reduceAdd (F := Ideal) (φ := .f32) (mulf (F := Ideal) (φ := .f32) x x) (constant S_ .f32 0x00000000#32) reducesTo_S2048x2048_S2048_d1 h_S_))
    (broadcastInDim S2048x1 ![] bcast_S_S2048x1 (constant (F := Ideal) S_ .f32 0x45000000#32)))
    (broadcastInDim S2048x1 ![] bcast_S_S2048x1 (constant (F := Ideal) S_ .f32 0x358637BD#32))

def hostRs (x : Arr) : S2048x1.Idx → EReal := Host.rsqrt (F := Ideal) (φ := .f32) (hostMs x)

def hostHat (x : Arr) : Arr := mulf (F := Ideal) (φ := .f32) x (broadcastInDim S2048x2048 ![0, 1] bcast_S2048x1_S2048x2048_0_1 (hostRs x))

def hostThru (x h : Arr) : S2048.Idx → EReal :=
  Host.reduceAdd (F := Ideal) (φ := .f32) (Host.divf (F := Ideal) (φ := .f32) (mulf (F := Ideal) (φ := .f32)
      (shapeCast S2048x1 (Host.reduceAdd (F := Ideal) (φ := .f32) (mulf (F := Ideal) (φ := .f32) x h) (constant S_ .f32 0x00000000#32) reducesTo_S2048x2048_S2048_d1 h_S_) shapeCasts_S2048_S2048x1)
      (mulf (F := Ideal) (φ := .f32) (broadcastInDim S2048x1 ![] bcast_S_S2048x1 (constant (F := Ideal) S_ .f32 0xBF000000#32))
        (Host.divf (F := Ideal) (φ := .f32) (hostRs x) (hostMs x))))
    (broadcastInDim S2048x1 ![] bcast_S_S2048x1 (constant (F := Ideal) S_ .f32 0x45000000#32)))
    (constant S_ .f32 0x00000000#32) reducesTo_S2048x1_S2048_d1 h_S_

def hostSteps (x h : Arr) : Arr :=
  addf (F := Ideal) (φ := .f32) (addf (F := Ideal) (φ := .f32)
      (mulf (F := Ideal) (φ := .f32) h (broadcastInDim S2048x2048 ![0, 1] bcast_S2048x1_S2048x2048_0_1 (hostRs x)))
      (mulf (F := Ideal) (φ := .f32) x (broadcastInDim S2048x2048 ![0] bcast_S2048_S2048x2048_0 (hostThru x h))))
    (mulf (F := Ideal) (φ := .f32) (broadcastInDim S2048x2048 ![0] bcast_S2048_S2048x2048_0 (hostThru x h)) x)

def hostCol (x a : Arr) : S1x2048.Idx → EReal :=
  shapeCast S1x2048 (Host.reduceAdd (F := Ideal) (φ := .f32) (mulf (F := Ideal) (φ := .f32) (hostHat x) a) (constant S_ .f32 0x00000000#32) reducesTo_S2048x2048_S2048_d0 h_S_)
    shapeCasts_S2048_S1x2048

variable (x h a : ℕ → ℕ → EReal)

theorem hostMs_eq : hostMs (up 2048 2048 x) = up 2048 1 fun t _ => ms (x t) := by
  unfold hostMs
  funext j
  idx_vars j
  pointwise
  simp only [up_ix2]
  rw [← sum_range (fun e => x _ e * x _ e)]
  rfl

theorem hostRs_eq : hostRs (up 2048 2048 x) = up 2048 1 fun t _ => rs (x t) := by
  unfold hostRs
  rw [hostMs_eq]
  rfl

theorem hostHat_eq : hostHat (up 2048 2048 x) = up 2048 2048 fun t d => hat (x t) d := by
  unfold hostHat
  rw [hostRs_eq]
  funext j
  idx_vars j
  pointwise
  rfl

theorem hostThru_eq (j : S2048.Idx) : hostThru (up 2048 2048 x) (up 2048 2048 h) j = thru (x (j 0).val) (h (j 0).val) := by
  unfold hostThru
  rw [hostRs_eq, hostMs_eq]
  idx_vars j
  pointwise
  simp only [up_ix2]
  rw [Fin.sum_univ_one, ← sum_range (fun e => x _ e * h _ e)]
  rfl

theorem hostSteps_eq : hostSteps (up 2048 2048 x) (up 2048 2048 h) = up 2048 2048 fun t d => back (x t) (h t) d := by
  unfold hostSteps
  rw [hostRs_eq]
  funext j
  idx_vars j
  pointwise
  simp only [up_ix2]
  rw [hostThru_eq, back_eq_steps]
  rfl

theorem hostCol_eq : hostCol (up 2048 2048 x) (up 2048 2048 a) = up 1 2048 fun _ d => ∑ t ∈ range 2048, a t d * hat (x t) d := by
  unfold hostCol
  rw [hostHat_eq]
  funext j
  idx_vars j
  pointwise
  simp only [up_ix2]
  refine Eq.trans ?_ (sum_range (fun t => a t _ * hat (x t) _)).symm
  exact sum_congr rfl fun _ _ => mul_comm _ _

section results
variable (x0 : S2048x7168.Idx → EReal) (x1 : S4x2048x1792.Idx → EReal) (x2 : Arr) (x3 : S1x2048.Idx → EReal) (x4 x5 : Arr) (x6 : S1x2048.Idx → EReal)

theorem v40_host : val_main_v40 (F := Ideal) x0 x1 x2 x3 x4 = addf (F := Ideal) (φ := .f32) x4 (hostSteps x2 (val_main_v25 (F := Ideal) x0 x1 x3)) := rfl
theorem v23_host : val_main_v23 (F := Ideal) x0 x1 x2 = hostCol x2 (val_main_v20 (F := Ideal) x0 x1) := rfl
theorem v75_host : val_main_v75 (F := Ideal) x0 x1 x2 x3 x4 x5 x6 = hostSteps x5 (val_main_v60 (F := Ideal) x0 x1 x2 x3 x4 x6) := rfl
theorem v58_host : val_main_v58 (F := Ideal) x0 x1 x2 x3 x4 x5 = hostCol x5 (val_main_v40 (F := Ideal) x0 x1 x2 x3 x4) := rfl

end results

variable (P W X R O : ℕ → ℕ → EReal) (G H : ℕ → EReal)

theorem ref_dh (x1 : S4x2048x1792.Idx → EReal) (h1 : ∀ j : S4x2048x1792.Idx, x1 j = W (j 1).val (1792 * (j 0).val + (j 2).val)) :
    val_main_v20 (F := Ideal) (up 2048 7168 P) x1 = up 2048 2048 (DH P W) := by
  funext j
  rw [val_main_v20_apply]
  refine Eq.trans ?_ (sum_range (fun e => P (j 0).val e * W (j 1).val e)).symm
  refine sum_congr rfl fun k _ => congrArg (P (j 0).val k.val * ·) ?_
  have hj : (j 1).val < 2048 := (j 1).isLt
  rw [val_main_v2_apply, val_main_v1_apply, val_main_v0_apply]
  refine (h1 _).trans ?_
  show W (((j 1).val * 7168 + k.val) / 7168) (1792 * (((j 1).val * 7168 + k.val) / 1792 % 4) + ((j 1).val * 7168 + k.val) % 1792) = W (j 1).val k.val
  congr 1 <;> omega

section four
variable (x1 : S4x2048x1792.Idx → EReal) (h1 : ∀ j : S4x2048x1792.Idx, x1 j = W (j 1).val (1792 * (j 0).val + (j 2).val))
include h1

/-- The gradient at the first normalisation's rows, with the residual stream's. -/
theorem ref_dx : val_main_v40 (F := Ideal) (up 2048 7168 P) x1 (up 2048 2048 X) (up 1 2048 fun _ d => G d) (up 2048 2048 R) = up 2048 2048 (DX P W X R G) := by
  have e : val_main_v25 (F := Ideal) (up 2048 7168 P) x1 (up 1 2048 fun _ d => G d) = up 2048 2048 fun t e => DH P W t e * G e := by
    funext j
    rw [val_main_v25_apply, ref_dh P W x1 h1, val_main_v24_apply]
    rfl
  rw [v40_host, e, hostSteps_eq]
  rfl

/-- The gradient at the first scale. -/
theorem ref_dg : val_main_v23 (F := Ideal) (up 2048 7168 P) x1 (up 2048 2048 X) = up 1 2048 fun _ => DG P W X := by
  rw [v23_host, ref_dh P W x1 h1, hostCol_eq]
  rfl

/-- The gradient at the second normalisation's rows. -/
theorem ref_do : val_main_v75 (F := Ideal) (up 2048 7168 P) x1 (up 2048 2048 X) (up 1 2048 fun _ d => G d) (up 2048 2048 R) (up 2048 2048 O) (up 1 2048 fun _ d => H d)
    = up 2048 2048 (DO P W X R O G H) := by
  have e : val_main_v60 (F := Ideal) (up 2048 7168 P) x1 (up 2048 2048 X) (up 1 2048 fun _ d => G d) (up 2048 2048 R) (up 1 2048 fun _ d => H d)
      = up 2048 2048 fun t e => DX P W X R G t e * H e := by
    funext j
    rw [val_main_v60_apply, ref_dx P W X R G x1 h1, val_main_v59_apply]
    rfl
  rw [v75_host, e, hostSteps_eq]
  rfl

/-- The gradient at the second scale. -/
theorem ref_dgp : val_main_v58 (F := Ideal) (up 2048 7168 P) x1 (up 2048 2048 X) (up 1 2048 fun _ d => G d) (up 2048 2048 R) (up 2048 2048 O)
    = up 1 2048 fun _ => DGP P W X R O G := by
  rw [v58_host, ref_dx P W X R G x1 h1, hostCol_eq]
  rfl

end four

end Cert.DxOdd
-- ==== Proof.DxEquation.lean ====
module
public import proofs.«01_k».proof.Defs
public import proofs.«01_k».proof.Proof.DxHost
public import proofs.«01_k».proof.Proof.DxRef

/-! The four results of the input projection's backward call are the reference's, whatever the operands hold; and the reference's frame. -/

@[expose] public section

set_option maxRecDepth 16384

noncomputable section

namespace Cert.DxOdd

open Idealize.ShloMosaic Idealize.SL Idealize.SL.Sem Cert.DxIdeal.Value Cert.Arrays

/-- The reference declares no semaphore, and its run leaves its arguments. -/
theorem frame_reference (m : (ℓ : Loc Cert.DxReferenceIdeal.nD Cert.DxReferenceIdeal.τ Cert.DxReferenceIdeal.sig) → Buf (Elt Ideal) ℓ)
    (g : Dev Cert.DxReferenceIdeal.nD → PrngReg) :
    θ_run (Cert.DxReferenceIdeal.defs (F := Ideal)) (onTc (τ := Cert.DxReferenceIdeal.τ) (Cert.DxReferenceIdeal.main (F := Ideal))) ⟨m, fun _ => 0, g⟩ (fun r => (∀ c : Dev Cert.DxReferenceIdeal.nD,
      r.2.mem ((c.tc : Thread Cert.DxReferenceIdeal.nD Cert.DxReferenceIdeal.τ).loc Cert.DxReferenceIdeal.main_arg0) = m ((c.tc : Thread Cert.DxReferenceIdeal.nD Cert.DxReferenceIdeal.τ).loc Cert.DxReferenceIdeal.main_arg0)
      ∧ r.2.mem ((c.tc : Thread Cert.DxReferenceIdeal.nD Cert.DxReferenceIdeal.τ).loc Cert.DxReferenceIdeal.main_arg1) = m ((c.tc : Thread Cert.DxReferenceIdeal.nD Cert.DxReferenceIdeal.τ).loc Cert.DxReferenceIdeal.main_arg1)
      ∧ r.2.mem ((c.tc : Thread Cert.DxReferenceIdeal.nD Cert.DxReferenceIdeal.τ).loc Cert.DxReferenceIdeal.main_arg2) = m ((c.tc : Thread Cert.DxReferenceIdeal.nD Cert.DxReferenceIdeal.τ).loc Cert.DxReferenceIdeal.main_arg2)
      ∧ r.2.mem ((c.tc : Thread Cert.DxReferenceIdeal.nD Cert.DxReferenceIdeal.τ).loc Cert.DxReferenceIdeal.main_arg3) = m ((c.tc : Thread Cert.DxReferenceIdeal.nD Cert.DxReferenceIdeal.τ).loc Cert.DxReferenceIdeal.main_arg3)
      ∧ r.2.mem ((c.tc : Thread Cert.DxReferenceIdeal.nD Cert.DxReferenceIdeal.τ).loc Cert.DxReferenceIdeal.main_arg4) = m ((c.tc : Thread Cert.DxReferenceIdeal.nD Cert.DxReferenceIdeal.τ).loc Cert.DxReferenceIdeal.main_arg4)
      ∧ r.2.mem ((c.tc : Thread Cert.DxReferenceIdeal.nD Cert.DxReferenceIdeal.τ).loc Cert.DxReferenceIdeal.main_arg5) = m ((c.tc : Thread Cert.DxReferenceIdeal.nD Cert.DxReferenceIdeal.τ).loc Cert.DxReferenceIdeal.main_arg5)
      ∧ r.2.mem ((c.tc : Thread Cert.DxReferenceIdeal.nD Cert.DxReferenceIdeal.τ).loc Cert.DxReferenceIdeal.main_arg6) = m ((c.tc : Thread Cert.DxReferenceIdeal.nD Cert.DxReferenceIdeal.τ).loc Cert.DxReferenceIdeal.main_arg6))
      ∧ r.2.sem = fun _ => 0) :=
  (θ_run Cert.DxReferenceIdeal.defs _ _).mono (fun r h => ⟨fun c => (h c).2.2.2.2, sem_eq_zero_of_no_sems (by decide) r.2⟩)
    (Cert.DxReferenceIdeal.Value.run (F := Ideal) m g)

variable (m : (ℓ : Loc Cert.DxIdeal.nD Cert.DxIdeal.τ Cert.DxIdeal.sig) → Buf (Elt Ideal) ℓ) (c : Dev Cert.DxIdeal.nD)

/-- The gradients at the first normalisation's rows and scale, and at the second's: the kernel's arrays hold what the reference computes. -/
theorem results (x0 : Cert.DxReferenceIdeal.S2048x7168.Idx → EReal) (x1 : Cert.DxReferenceIdeal.S4x2048x1792.Idx → EReal)
    (x2 : Cert.DxReferenceIdeal.S2048x2048.Idx → EReal) (x3 : Cert.DxReferenceIdeal.S1x2048.Idx → EReal)
    (x4 x5 : Cert.DxReferenceIdeal.S2048x2048.Idx → EReal) (x6 : Cert.DxReferenceIdeal.S1x2048.Idx → EReal)
    (e0 : m ((c.tc : Thread Cert.DxIdeal.nD Cert.DxIdeal.τ).loc Cert.DxIdeal.main_arg0) = x0)
    (e1 : m ((c.tc : Thread Cert.DxIdeal.nD Cert.DxIdeal.τ).loc Cert.DxIdeal.main_arg1) = x1)
    (e2 : m ((c.tc : Thread Cert.DxIdeal.nD Cert.DxIdeal.τ).loc Cert.DxIdeal.main_arg2) = x2)
    (e3 : m ((c.tc : Thread Cert.DxIdeal.nD Cert.DxIdeal.τ).loc Cert.DxIdeal.main_arg3) = x3)
    (e4 : m ((c.tc : Thread Cert.DxIdeal.nD Cert.DxIdeal.τ).loc Cert.DxIdeal.main_arg4) = x4)
    (e5 : m ((c.tc : Thread Cert.DxIdeal.nD Cert.DxIdeal.τ).loc Cert.DxIdeal.main_arg5) = x5)
    (e6 : m ((c.tc : Thread Cert.DxIdeal.nD Cert.DxIdeal.τ).loc Cert.DxIdeal.main_arg6) = x6) :
    G7 m c = Cert.DxReferenceIdeal.Read.val_main_v40 (F := Ideal) x0 x1 x2 x3 x4
      ∧ G8 m c = Cert.DxReferenceIdeal.Read.val_main_v23 (F := Ideal) x0 x1 x2
      ∧ G9 m c = Cert.DxReferenceIdeal.Read.val_main_v75 (F := Ideal) x0 x1 x2 x3 x4 x5 x6
      ∧ G10 m c = Cert.DxReferenceIdeal.Read.val_main_v58 (F := Ideal) x0 x1 x2 x3 x4 x5 := by
  obtain ⟨P, rfl⟩ := exists_up (by decide) (by decide) x0
  obtain ⟨W, hw⟩ := exists_sh (by decide) (by decide) x1
  have w : ∀ j : Cert.DxIdeal.S4x2048x1792.Idx, x1 j = W (j 1).val (1792 * (j 0).val + (j 2).val) := fun j => congrFun hw j
  obtain ⟨X, rfl⟩ := exists_up (by decide) (by decide) x2
  obtain ⟨G, rfl⟩ := exists_row (by decide) x3
  obtain ⟨R, rfl⟩ := exists_up (by decide) (by decide) x4
  obtain ⟨O, rfl⟩ := exists_up (by decide) (by decide) x5
  obtain ⟨H, rfl⟩ := exists_row (by decide) x6
  have hI := all_ins P W X R O G H m c e0 (fun j => (congrFun e1 j).trans (w j)) e2 e3 e4 e5 e6
  exact ⟨(G7_eq P W X R O G H m c hI).trans (ref_dx P W X R G x1 w).symm, (G8_eq P W X R O G H m c hI).trans (ref_dg P W X x1 w).symm,
    (G9_eq P W X R O G H m c hI).trans (ref_do P W X R O G H x1 w).symm, (G10_eq P W X R O G H m c hI).trans (ref_dgp P W X R O G x1 w).symm⟩

end Cert.DxOdd
-- ==== Proof.DxEvenPoint.lean ====
module
public import proofs.«01_k».proof.Proof.Loads
public import proofs.«01_k».proof.Proof.Gen.DxEvenIdeal.Value

/-! One grid point of the even layer's backward call of the input projection, for any contents: what it leaves in its two outputs
   and in the accumulator, by the body's own arithmetic over the blocks. -/

@[expose] public section

set_option maxRecDepth 16384

noncomputable section

namespace Cert.DxEvenProof

open Idealize.ShloMosaic Idealize.SL Idealize.SL.Sem Cert.DxEvenIdeal Cert.DxEvenIdeal.Gen Cert.Arrays Cert.Loads

variable {F : FTy → Type} [FloatOps F]

/-- The buffers of a point: whole ones. -/
structure Refs where
  arg2 : Memref sig .tc .vmem S256x1536 .bf16
  harg2 : arg2.IsWhole
  arg3 : Memref sig .tc .vmem S1x2048x1536 .bf16
  harg3 : arg3.IsWhole
  arg4 : Memref sig .tc .vmem S256x2048 .f32
  harg4 : arg4.IsWhole
  arg5 : Memref sig .tc .vmem S1x2048 .f32
  harg5 : arg5.IsWhole
  arg6 : Memref sig .tc .vmem S256x2048 .f32
  harg6 : arg6.IsWhole
  arg7 : Memref sig .tc .vmem S256x2048 .f32
  harg7 : arg7.IsWhole
  arg8 : Memref sig .tc .vmem S1x2048 .f32
  harg8 : arg8.IsWhole
  arg9 : Memref sig .tc .vmem S256x2048 .f32
  harg9 : arg9.IsWhole

variable (c : Dev nD) (i : grid0.Coords) (r : Refs)
variable (x0 : Vec F S256x1536 .bf16) (x1 : Vec F S1x2048x1536 .bf16) (x2 : Vec F S256x2048 .f32) (x3 : Vec F S1x2048 .f32) (x4 : Vec F S256x2048 .f32) (xo6 : Vec F S1x2048 .f32) (xs0 : Vec F S256x2048 .f32)

/-- The first block of columns: the accumulator is the block's product. -/
theorem point_A (hc0 : cond0_0 i) (hc1 : ¬cond0_1 i) (hc2 : ¬cond0_2 i) :
    sout0_A_0 c i r.arg2 r.harg2 r.arg3 r.harg3 r.arg4 r.harg4 r.arg5 r.harg5 r.arg6 r.harg6 r.arg7 r.harg7 r.arg8 r.harg8 r.arg9 r.harg9 hc0 hc1 hc2 x0 x1 x2 x3 x4 = k0_pay2 x0 x1 := by
  unfold sout0_A_0
  simp only [View.read_writes_junk_eq_canon]
  unfold kernelRun0_A
  dsimp only
  sl_unfold_words
  refine (View.canon_unit_zero (by decide) _ _).trans ?_ <;> simp only [ld2, ld3, rc2]

/-- A middle block: its product is added. -/
theorem point_B (hc0 : ¬cond0_0 i) (hc1 : cond0_1 i) (hc2 : ¬cond0_2 i) :
    sout0_B_0 c i r.arg2 r.harg2 r.arg3 r.harg3 r.arg4 r.harg4 r.arg5 r.harg5 r.arg6 r.harg6 r.arg7 r.harg7 r.arg8 r.harg8 r.arg9 r.harg9 hc0 hc1 hc2 x0 x1 x2 x3 x4 xs0 = k0_pay3 x0 x1 xs0 := by
  unfold sout0_B_0
  simp only [View.read_writes_junk_eq_canon]
  unfold kernelRun0_B
  dsimp only
  sl_unfold_words
  refine (View.canon_unit_zero (by decide) _ _).trans ?_ <;> simp only [ld2, ld3, rc2]

/-- The last block of columns of the first block of rows: the two results from the whole product, the sum over rows begun. -/
theorem point_C (hc0 : ¬cond0_0 i) (hc1 : cond0_1 i) (hc2 : cond0_2 i) (hc3 : cond0_3 i) (hc4 : ¬cond0_4 i) :
    out0_C_5 c i r.arg2 r.harg2 r.arg3 r.harg3 r.arg4 r.harg4 r.arg5 r.harg5 r.arg6 r.harg6 r.arg7 r.harg7 r.arg8 r.harg8 r.arg9 r.harg9 hc0 hc1 hc2 hc3 hc4 x0 x1 x2 x3 x4 xs0 = k0_pay7 x2 (k0_pay3 x0 x1 xs0) x3 x4
    ∧ out0_C_6 c i r.arg2 r.harg2 r.arg3 r.harg3 r.arg4 r.harg4 r.arg5 r.harg5 r.arg6 r.harg6 r.arg7 r.harg7 r.arg8 r.harg8 r.arg9 r.harg9 hc0 hc1 hc2 hc3 hc4 x0 x1 x2 x3 x4 xs0 = k0_pay6 x2 (k0_pay3 x0 x1 xs0) := by
  unfold out0_C_5 out0_C_6
  simp only [View.read_writes_junk_eq_canon]
  unfold kernelRun0_C
  dsimp only
  sl_unfold_words
  refine ⟨(View.canon_unit_zero (by decide) _ _).trans ?_, (View.canon_unit_zero (by decide) _ _).trans ?_⟩ <;> simp only [ld2, ld3, rc2]

/-- The last block of columns of a later block of rows: the sum over rows goes on. -/
theorem point_D (hc0 : ¬cond0_0 i) (hc1 : cond0_1 i) (hc2 : cond0_2 i) (hc3 : ¬cond0_3 i) (hc4 : cond0_4 i) :
    out0_D_5 c i r.arg2 r.harg2 r.arg3 r.harg3 r.arg4 r.harg4 r.arg5 r.harg5 r.arg6 r.harg6 r.arg7 r.harg7 r.arg8 r.harg8 r.arg9 r.harg9 hc0 hc1 hc2 hc3 hc4 x0 x1 x2 x3 x4 xo6 xs0 = k0_pay7 x2 (k0_pay3 x0 x1 xs0) x3 x4
    ∧ out0_D_6 c i r.arg2 r.harg2 r.arg3 r.harg3 r.arg4 r.harg4 r.arg5 r.harg5 r.arg6 r.harg6 r.arg7 r.harg7 r.arg8 r.harg8 r.arg9 r.harg9 hc0 hc1 hc2 hc3 hc4 x0 x1 x2 x3 x4 xo6 xs0 = k0_pay8 x2 (k0_pay3 x0 x1 xs0) xo6 := by
  unfold out0_D_5 out0_D_6
  simp only [View.read_writes_junk_eq_canon]
  unfold kernelRun0_D
  dsimp only
  sl_unfold_words
  refine ⟨(View.canon_unit_zero (by decide) _ _).trans ?_, (View.canon_unit_zero (by decide) _ _).trans ?_⟩ <;> simp only [ld2, ld3, rc2]

end Cert.DxEvenProof
-- ==== Proof.DxEvenFold.lean ====
module
public import proofs.«01_k».proof.Proof.DxBlock
public import proofs.«01_k».proof.Proof.DxEvenPoint

/-! The 32 grid points of the even layer's backward call of the input projection (8 blocks of rows, 4 blocks of columns of the
   cotangent each): what is held between them, and so what the two result arrays hold. -/

@[expose] public section

set_option maxRecDepth 16384

noncomputable section

namespace Cert.DxEvenProof

open Idealize.ShloMosaic Idealize.SL Idealize.SL.Sem Cert.DxEvenIdeal Cert.DxEvenIdeal.Gen Cert.DxEvenIdeal.Value Cert.Arrays Cert.Norm Finset
open Cert.DxOdd (colsum)

variable (P W X R : ℕ → ℕ → EReal) (G : ℕ → EReal)

/-- A block of columns of the product with the transposed weights. -/
theorem pay1_eq (p w : ℕ → ℕ → EReal) : k0_pay1 (F := Ideal) (up 256 1536 p) (up1 2048 1536 w) = up 256 2048 fun t d => ∑ e ∈ range 1536, p t e * w d e := by
  unfold k0_pay1
  funext j
  idx_vars j
  pointwise
  simp only [up_ix2, up1_ix3]
  exact (sum_range (fun e => p _ e * w _ e)).symm

/-- The products over the first `n` blocks of columns, of the rows of block `i`. -/
def part (i n : ℕ) (t d : ℕ) : EReal := ∑ e ∈ range (1536 * n), P (256 * i + t) e * W d e

theorem pay2_eq (i : ℕ) : k0_pay2 (F := Ideal) (up 256 1536 fun t e => P (256 * i + t) e) (up1 2048 1536 W) = up 256 2048 (part P W i 1) :=
  (shapeCast_self _ _).trans (pay1_eq _ _)

theorem pay3_eq (i n : ℕ) :
    k0_pay3 (F := Ideal) (up 256 1536 fun t e => P (256 * i + t) (1536 * n + e)) (up1 2048 1536 fun d e => W d (1536 * n + e)) (up 256 2048 (part P W i n))
      = up 256 2048 (part P W i (n + 1)) := by
  unfold k0_pay3
  rw [pay1_eq]
  refine (shapeCast_self _ _).trans ?_
  funext j
  show part P W i n (j 0).val (j 1).val + (∑ e ∈ range 1536, P (256 * i + (j 0).val) (1536 * n + e) * W (j 1).val (1536 * n + e))
    = part P W i (n + 1) (j 0).val (j 1).val
  unfold part
  rw [Nat.mul_succ, sum_range_add]

/-! The normalisation's arithmetic is the odd layer's. -/

theorem pay6_eq (x a : ℕ → ℕ → EReal) : k0_pay6 (F := Ideal) (up 256 2048 x) (up 256 2048 a) = up 1 2048 fun _ d => ∑ t ∈ range 256, a t d * hat (x t) d :=
  Cert.DxOdd.pay11_eq x a
theorem pay7_eq (x a res : ℕ → ℕ → EReal) (g : ℕ → EReal) : k0_pay7 (F := Ideal) (up 256 2048 x) (up 256 2048 a) (up 1 2048 fun _ d => g d) (up 256 2048 res)
    = up 256 2048 fun t d => res t d + back (x t) (fun e => a t e * g e) d := Cert.DxOdd.pay12_eq x a res g
theorem pay8_eq (x a : ℕ → ℕ → EReal) (n : ℕ) :
    k0_pay8 (F := Ideal) (up 256 2048 fun t => x (256 * n + t)) (up 256 2048 fun t => a (256 * n + t)) (up 1 2048 fun _ => colsum a x n)
      = up 1 2048 fun _ => colsum a x (n + 1) := Cert.DxOdd.pay13_eq x a n

/-- The cotangent of the scaled normalised row: the product with the transposed weights. -/
def DH (t d : ℕ) : EReal := ∑ e ∈ range 6144, P t e * W d e
/-- The gradient at the normalisation's row, added to what the residual stream brings. -/
def DX (t d : ℕ) : EReal := R t d + back (X t) (fun e => DH P W t e * G e) d
/-- The gradient at the scale. -/
def DG (d : ℕ) : EReal := ∑ t ∈ range 2048, DH P W t d * hat (X t) d

/-- What a point's five input blocks hold: block `i` of rows and block `k` of columns. -/
structure Ins (i k : ℕ) (x0 : Vec Ideal S256x1536 .bf16) (x1 : Vec Ideal S1x2048x1536 .bf16) (x2 : Vec Ideal S256x2048 .f32) (x3 : Vec Ideal S1x2048 .f32)
    (x4 : Vec Ideal S256x2048 .f32) : Prop where
  p : x0 = up 256 1536 fun t e => P (256 * i + t) (1536 * k + e)
  w : x1 = up1 2048 1536 fun d e => W d (1536 * k + e)
  x : x2 = up 256 2048 fun t => X (256 * i + t)
  g : x3 = up 1 2048 fun _ d => G d
  r : x4 = up 256 2048 fun t => R (256 * i + t)

/-- The three arrays a point leaves. -/
abbrev State := Vec Ideal S256x2048 .f32 × Vec Ideal S1x2048 .f32 × Vec Ideal S256x2048 .f32

/-- What is held when `n` points are done: the product so far of the block of rows under way; the sum over the blocks of rows done;
    and, when a block of rows is just done, its gradient. -/
structure Held (n : ℕ) (s : State) : Prop where
  acc : n % 4 ≠ 0 → s.2.2 = up 256 2048 (part P W (n / 4) (n % 4))
  dg : 0 < n / 4 → s.2.1 = up 1 2048 fun _ => colsum (DH P W) X (n / 4)
  dx : n % 4 = 0 → s.1 = up 256 2048 fun t => DX P W X R G (256 * (n / 4 - 1) + t)

variable (m : (ℓ : Loc nD τ sig) → Buf (Elt Ideal) ℓ) (c : Dev nD)

/-- Every point's input blocks hold their parts of the operands. -/
def AllIns : Prop := ∀ t : Fin cfg0.N, Ins P W X R G (t.val / 4) (t.val % 4) (iblk m c 0 t) (iblk m c 1 t) (iblk m c 2 t) (iblk m c 3 t) (iblk m c 4 t)

/-- The buffers of a point. -/
abbrev refsAt (t : Fin cfg0.N) : Refs := ⟨ms0_0 t, hs0_0 t, ms0_1 t, hs0_1 t, ms0_2 t, hs0_2 t, ms0_3 t, hs0_3 t, ms0_4 t, hs0_4 t, ms0_5 t, hs0_5 t, ms0_6 t, hs0_6 t, scM0_0, Memref.isWhole_whole _⟩

section steps
variable (hI : AllIns P W X R G m c)
include hI

omit hI in
theorem mk_held {n : ℕ} {o5 : Vec Ideal S256x2048 .f32} {o6 : Vec Ideal S1x2048 .f32} {a : Vec Ideal S256x2048 .f32}
    (e1 : n % 4 ≠ 0 → a = up 256 2048 (part P W (n / 4) (n % 4))) (e2 : 0 < n / 4 → o6 = up 1 2048 fun _ => colsum (DH P W) X (n / 4))
    (e3 : n % 4 = 0 → o5 = up 256 2048 fun t => DX P W X R G (256 * (n / 4 - 1) + t)) : Held P W X R G n (o5, o6, a) := ⟨e1, e2, e3⟩

/-- A block of rows begins. -/
theorem step_A (t : Fin cfg0.N) (h0 : t.val % 4 = 0) (s : State) (hs : 0 < t.val → Held P W X R G t.val s) :
    Held P W X R G (t.val + 1) (stAt0 m c t.val t.isLt s) := by
  have h1 : ¬1 ≤ t.val % 4 := by omega
  have h2 : ¬t.val % 4 = 3 := by omega
  have hd : (t.val + 1) / 4 = t.val / 4 := by omega
  have hm : (t.val + 1) % 4 = 1 := by omega
  have hi := hI t
  have ea : k0_pay2 (F := Ideal) (iblk m c 0 t) (iblk m c 1 t) = up 256 2048 (part P W ((t.val + 1) / 4) ((t.val + 1) % 4)) := by
    rw [hi.p, hi.w, hd, hm, h0]
    simp only [Nat.mul_zero, Nat.zero_add]
    exact pay2_eq P W (t.val / 4)
  have e := (point_A (F := Ideal) c (grid0.coords t) (refsAt t) (iblk m c 0 t) (iblk m c 1 t) (iblk m c 2 t) (iblk m c 3 t) (iblk m c 4 t)
    ((hcond0_0 t).mpr h0) (fun h => h1 ((hcond0_1 t).mp h)) (fun h => h2 ((hcond0_2 t).mp h))).trans ea
  have e2 : 0 < (t.val + 1) / 4 → s.2.1 = up 1 2048 fun _ => colsum (DH P W) X ((t.val + 1) / 4) := fun h => by
    rw [hd] at h ⊢; exact (hs (by omega)).dg h
  rw [stAt0_A m c t s h0 h1 h2]
  dsimp only [refsAt] at e
  exact mk_held P W X R G (fun _ => e) e2 (fun h => by omega)

/-- A middle block of columns. -/
theorem step_B (t : Fin cfg0.N) (h0 : ¬t.val % 4 = 0) (h2 : ¬t.val % 4 = 3) (s : State) (hs : Held P W X R G t.val s) :
    Held P W X R G (t.val + 1) (stAt0 m c t.val t.isLt s) := by
  have h1 : 1 ≤ t.val % 4 := by omega
  have hd : (t.val + 1) / 4 = t.val / 4 := by omega
  have hm : (t.val + 1) % 4 = t.val % 4 + 1 := by omega
  have hi := hI t
  have ea : k0_pay3 (F := Ideal) (iblk m c 0 t) (iblk m c 1 t) s.2.2 = up 256 2048 (part P W ((t.val + 1) / 4) ((t.val + 1) % 4)) := by
    rw [hi.p, hi.w, hd, hm, hs.acc h0]
    exact pay3_eq P W (t.val / 4) (t.val % 4)
  have e := (point_B (F := Ideal) c (grid0.coords t) (refsAt t) (iblk m c 0 t) (iblk m c 1 t) (iblk m c 2 t) (iblk m c 3 t) (iblk m c 4 t) s.2.2
    (fun h => h0 ((hcond0_0 t).mp h)) ((hcond0_1 t).mpr h1) (fun h => h2 ((hcond0_2 t).mp h))).trans ea
  have e2 : 0 < (t.val + 1) / 4 → s.2.1 = up 1 2048 fun _ => colsum (DH P W) X ((t.val + 1) / 4) := fun h => by
    rw [hd] at h ⊢; exact hs.dg h
  rw [stAt0_B m c t s h0 h1 h2]
  dsimp only [refsAt] at e
  exact mk_held P W X R G (fun _ => e) e2 (fun h => by omega)

/-- A block of rows ends. -/
theorem step_CD (t : Fin cfg0.N) (h2 : t.val % 4 = 3) (s : State) (hs : Held P W X R G t.val s) :
    Held P W X R G (t.val + 1) (stAt0 m c t.val t.isLt s) := by
  have h0 : ¬t.val % 4 = 0 := by omega
  have h1 : 1 ≤ t.val % 4 := by omega
  have hi := hI t
  have hd : (t.val + 1) / 4 = t.val / 4 + 1 := by omega
  have hm : (t.val + 1) % 4 = 0 := by omega
  have ea : k0_pay3 (F := Ideal) (iblk m c 0 t) (iblk m c 1 t) s.2.2 = up 256 2048 fun a => DH P W (256 * (t.val / 4) + a) := by
    rw [hi.p, hi.w, hs.acc h0]
    refine (pay3_eq P W (t.val / 4) (t.val % 4)).trans ?_
    rw [h2]
    rfl
  have ex : k0_pay7 (F := Ideal) (iblk m c 2 t) (k0_pay3 (F := Ideal) (iblk m c 0 t) (iblk m c 1 t) s.2.2) (iblk m c 3 t) (iblk m c 4 t)
      = up 256 2048 fun a => DX P W X R G (256 * (t.val / 4) + a) := by
    rw [ea, hi.x, hi.g, hi.r]
    exact pay7_eq (fun a => X (256 * (t.val / 4) + a)) (fun a => DH P W (256 * (t.val / 4) + a)) (fun a => R (256 * (t.val / 4) + a)) G
  have f5 : ∀ o : Vec Ideal S256x2048 .f32, o = up 256 2048 (fun a => DX P W X R G (256 * (t.val / 4) + a)) →
      (t.val + 1) % 4 = 0 → o = up 256 2048 fun a => DX P W X R G (256 * ((t.val + 1) / 4 - 1) + a) := fun o ho _ => by rw [ho, hd]; rfl
  by_cases h3 : t.val < 4
  · have h4 : ¬4 ≤ t.val := by omega
    have hz : t.val / 4 = 0 := by omega
    obtain ⟨e5, e6⟩ := point_C (F := Ideal) c (grid0.coords t) (refsAt t) (iblk m c 0 t) (iblk m c 1 t) (iblk m c 2 t) (iblk m c 3 t) (iblk m c 4 t) s.2.2
      (fun h => h0 ((hcond0_0 t).mp h)) ((hcond0_1 t).mpr h1) ((hcond0_2 t).mpr h2) ((hcond0_3 t).mpr h3) (fun h => h4 ((hcond0_4 t).mp h))
    have k6 : k0_pay6 (F := Ideal) (iblk m c 2 t) (k0_pay3 (F := Ideal) (iblk m c 0 t) (iblk m c 1 t) s.2.2) = up 1 2048 fun _ => colsum (DH P W) X 1 := by
      rw [ea, hi.x, pay6_eq, hz]; simp only [Nat.mul_zero, Nat.zero_add]; rfl
    have e5' := f5 _ (e5.trans ex)
    have e6' := fun _ : 0 < (t.val + 1) / 4 => (e6.trans k6).trans (congrArg (fun n => up 1 2048 fun _ => colsum (DH P W) X n) (show 1 = (t.val + 1) / 4 by omega))
    rw [stAt0_C m c t s h0 h1 h2 h3 h4]
    dsimp only [refsAt] at e5' e6'
    exact mk_held P W X R G (fun h => absurd hm h) e6' e5'
  · have h4 : 4 ≤ t.val := by omega
    have hz : 0 < t.val / 4 := by omega
    obtain ⟨e5, e6⟩ := point_D (F := Ideal) c (grid0.coords t) (refsAt t) (iblk m c 0 t) (iblk m c 1 t) (iblk m c 2 t) (iblk m c 3 t) (iblk m c 4 t) s.2.1 s.2.2
      (fun h => h0 ((hcond0_0 t).mp h)) ((hcond0_1 t).mpr h1) ((hcond0_2 t).mpr h2) (fun h => h3 ((hcond0_3 t).mp h)) ((hcond0_4 t).mpr h4)
    rw [hs.dg hz] at e5 e6
    have k6 : k0_pay8 (F := Ideal) (iblk m c 2 t) (k0_pay3 (F := Ideal) (iblk m c 0 t) (iblk m c 1 t) s.2.2) (up 1 2048 fun _ => colsum (DH P W) X (t.val / 4))
        = up 1 2048 fun _ => colsum (DH P W) X (t.val / 4 + 1) := by
      rw [ea, hi.x]; exact pay8_eq X (DH P W) (t.val / 4)
    have e5' := f5 _ (e5.trans ex)
    have e6' := fun _ : 0 < (t.val + 1) / 4 => (e6.trans k6).trans (congrArg (fun n => up 1 2048 fun _ => colsum (DH P W) X n) hd.symm)
    rw [stAt0_D m c t s h0 h1 h2 h3 h4]
    rw [hs.dg hz]
    dsimp only [refsAt] at e5' e6'
    exact mk_held P W X R G (fun h => absurd hm h) e6' e5'

/-- What is held after each point. -/
theorem held_all : ∀ (n : ℕ) (hn : n < cfg0.N), Held P W X R G (n + 1) (outsAt0 m c n hn) := by
  intro n
  induction n with
  | zero => intro hn; rw [outsAt0_zero]; exact step_A P W X R G m c hI ⟨0, hn⟩ rfl _ fun h => absurd h (lt_irrefl 0)
  | succ n ih =>
    intro hn
    have := ih (Nat.lt_of_succ_lt hn)
    rw [outsAt0_succ]
    by_cases h0 : (n + 1) % 4 = 0
    · exact step_A P W X R G m c hI ⟨n + 1, hn⟩ h0 _ fun _ => this
    · by_cases h2 : (n + 1) % 4 = 3
      · exact step_CD P W X R G m c hI ⟨n + 1, hn⟩ h2 _ this
      · exact step_B P W X R G m c hI ⟨n + 1, hn⟩ h0 h2 _ this

/-- The gradient at the normalisation's rows. -/
theorem G5_eq : G5 m c = up 2048 2048 (DX P W X R G) := by
  funext j
  have h0 : (j 0).val < 2048 := (j 0).isLt
  have h1 : (j 1).val < 2048 := (j 1).isLt
  have hp : pt5Of j = 4 * ((j 0).val / 256) + 3 := by show 4 * (1 * ((j 0).val / 256 - 0) + 1 * ((j 1).val / 2048 - 0)) + 3 = _; omega
  have hN : pt5Of j < cfg0.N := by rw [show cfg0.N = 32 from N_0, hp]; omega
  have hL := (held_all P W X R G m c hI (pt5Of j) hN).dx (by omega)
  rw [outsAt0_sweep] at hL
  refine (dif_pos hN).trans ((congrFun hL (loc5Of j)).trans ?_)
  show DX P W X R G (256 * ((pt5Of j + 1) / 4 - 1) + (j 0).val % 256) ((j 1).val % 2048) = DX P W X R G (j 0).val (j 1).val
  rw [show 256 * ((pt5Of j + 1) / 4 - 1) + (j 0).val % 256 = (j 0).val by omega, show (j 1).val % 2048 = (j 1).val by omega]

/-- The gradient at the scale. -/
theorem G6_eq : G6 m c = up 1 2048 fun _ => DG P W X := by
  have hL := (held_all P W X R G m c hI 31 (lt_of_lt_of_eq (by decide) N_0.symm)).dg (by decide)
  rw [outsAt0_sweep] at hL
  exact (G6_last m c).trans hL

end steps

end Cert.DxEvenProof
-- ==== Proof.DxEvenEquation.lean ====
module
public import proofs.«01_k».proof.Defs
public import proofs.«01_k».proof.Proof.DxEvenFold
public import proofs.«01_k».proof.Proof.DxRef
public import proofs.«01_k».proof.Proof.Gen.DxEvenReferenceIdeal.Run
public import proofs.«01_k».proof.Proof.Gen.DxEvenReferenceIdeal.Read

/-! The two results of the even layer's backward call of the input projection are the reference's, whatever the operands hold; and
   the reference's frame. -/

@[expose] public section

set_option maxRecDepth 16384

noncomputable section

namespace Cert.DxEvenProof

open Idealize.ShloMosaic Idealize.SL Idealize.SL.Sem Cert.DxEvenIdeal Cert.DxEvenIdeal.Gen Cert.DxEvenIdeal.Value Cert.Arrays Finset

/-! The block numbers of the five operands at a point, and where an element of a block lies in its array. -/

theorem index0 : ∀ t : Fin cfg0.N, win0_0.index t (0 : Fin 2) = t.val / 4 ∧ win0_0.index t (1 : Fin 2) = t.val % 4 :=
  (by decide +kernel : ∀ t : Fin grid0.N, _)
theorem index1 : ∀ t : Fin cfg0.N, win0_1.index t (0 : Fin 3) = t.val % 4 ∧ win0_1.index t (1 : Fin 3) = 0 ∧ win0_1.index t (2 : Fin 3) = 0 :=
  (by decide +kernel : ∀ t : Fin grid0.N, _)
theorem index2 : ∀ t : Fin cfg0.N, win0_2.index t (0 : Fin 2) = t.val / 4 ∧ win0_2.index t (1 : Fin 2) = 0 :=
  (by decide +kernel : ∀ t : Fin grid0.N, _)
theorem index3 : ∀ t : Fin cfg0.N, win0_3.index t (0 : Fin 2) = 0 ∧ win0_3.index t (1 : Fin 2) = 0 :=
  (by decide +kernel : ∀ t : Fin grid0.N, _)
theorem index4 : ∀ t : Fin cfg0.N, win0_4.index t (0 : Fin 2) = t.val / 4 ∧ win0_4.index t (1 : Fin 2) = 0 :=
  (by decide +kernel : ∀ t : Fin grid0.N, _)

theorem place0 (t : Fin cfg0.N) (y : (⟨2, ![256, 1536]⟩ : Shape).Idx) :
    (((cfg0.win 0).blk t).view.emb y 0).val = 256 * (t.val / 4) + (y 0).val ∧ (((cfg0.win 0).blk t).view.emb y 1).val = 1536 * (t.val % 4) + (y 1).val := by
  have b0 : (((cfg0.win 0).blk t).view.emb y 0).val = win0_0.index t (0 : Fin 2) * 256 + 1 * (y 0).val := rfl
  have b1 : (((cfg0.win 0).blk t).view.emb y 1).val = win0_0.index t (1 : Fin 2) * 1536 + 1 * (y 1).val := rfl
  rw [b0, b1, (index0 t).1, (index0 t).2]
  omega

theorem place1 (t : Fin cfg0.N) (y : (⟨3, ![1, 2048, 1536]⟩ : Shape).Idx) :
    (((cfg0.win 1).blk t).view.emb y 1).val = (y 1).val
      ∧ 1536 * (((cfg0.win 1).blk t).view.emb y 0).val + (((cfg0.win 1).blk t).view.emb y 2).val = 1536 * (t.val % 4) + (y 2).val := by
  have b0 : (((cfg0.win 1).blk t).view.emb y 0).val = win0_1.index t (0 : Fin 3) * 1 + 1 * (y 0).val := rfl
  have b1 : (((cfg0.win 1).blk t).view.emb y 1).val = win0_1.index t (1 : Fin 3) * 2048 + 1 * (y 1).val := rfl
  have b2 : (((cfg0.win 1).blk t).view.emb y 2).val = win0_1.index t (2 : Fin 3) * 1536 + 1 * (y 2).val := rfl
  have y0 : (y 0).val < 1 := (y 0).isLt
  rw [b0, b1, b2, (index1 t).1, (index1 t).2.1, (index1 t).2.2]
  omega

theorem place2 (t : Fin cfg0.N) (y : (⟨2, ![256, 2048]⟩ : Shape).Idx) :
    (((cfg0.win 2).blk t).view.emb y 0).val = 256 * (t.val / 4) + (y 0).val ∧ (((cfg0.win 2).blk t).view.emb y 1).val = (y 1).val := by
  have b0 : (((cfg0.win 2).blk t).view.emb y 0).val = win0_2.index t (0 : Fin 2) * 256 + 1 * (y 0).val := rfl
  have b1 : (((cfg0.win 2).blk t).view.emb y 1).val = win0_2.index t (1 : Fin 2) * 2048 + 1 * (y 1).val := rfl
  rw [b0, b1, (index2 t).1, (index2 t).2]
  omega

theorem place3 (t : Fin cfg0.N) (y : (⟨2, ![1, 2048]⟩ : Shape).Idx) :
    (((cfg0.win 3).blk t).view.emb y 0).val = (y 0).val ∧ (((cfg0.win 3).blk t).view.emb y 1).val = (y 1).val := by
  have b0 : (((cfg0.win 3).blk t).view.emb y 0).val = win0_3.index t (0 : Fin 2) * 1 + 1 * (y 0).val := rfl
  have b1 : (((cfg0.win 3).blk t).view.emb y 1).val = win0_3.index t (1 : Fin 2) * 2048 + 1 * (y 1).val := rfl
  rw [b0, b1, (index3 t).1, (index3 t).2]
  omega

theorem place4 (t : Fin cfg0.N) (y : (⟨2, ![256, 2048]⟩ : Shape).Idx) :
    (((cfg0.win 4).blk t).view.emb y 0).val = 256 * (t.val / 4) + (y 0).val ∧ (((cfg0.win 4).blk t).view.emb y 1).val = (y 1).val := by
  have b0 : (((cfg0.win 4).blk t).view.emb y 0).val = win0_4.index t (0 : Fin 2) * 256 + 1 * (y 0).val := rfl
  have b1 : (((cfg0.win 4).blk t).view.emb y 1).val = win0_4.index t (1 : Fin 2) * 2048 + 1 * (y 1).val := rfl
  rw [b0, b1, (index4 t).1, (index4 t).2]
  omega

variable (P W X R : ℕ → ℕ → EReal) (G : ℕ → EReal) (m : (ℓ : Loc nD τ sig) → Buf (Elt Ideal) ℓ) (c : Dev nD)

/-- Every block that a point reads holds its part of the operand. -/
theorem all_ins (h0 : m ((c.tc : Thread nD τ).loc main_arg0) = up 2048 6144 P) (h1 : m ((c.tc : Thread nD τ).loc main_arg1) = sh 2048 1536 W)
    (h2 : m ((c.tc : Thread nD τ).loc main_arg2) = up 2048 2048 X) (h3 : m ((c.tc : Thread nD τ).loc main_arg3) = up 1 2048 fun _ d => G d)
    (h4 : m ((c.tc : Thread nD τ).loc main_arg4) = up 2048 2048 R) : AllIns P W X R G m c := fun t =>
  ⟨funext fun y => up_at ((V_main_arg0 m c).trans h0) (((cfg0.win 0).blk t).view.emb y) (place0 t y),
    funext fun y => sh_at ((V_main_arg1 m c).trans h1) (((cfg0.win 1).blk t).view.emb y) (place1 t y),
    funext fun y => up_at ((V_main_arg2 m c).trans h2) (((cfg0.win 2).blk t).view.emb y) (place2 t y),
    funext fun y => up_at ((V_main_arg3 m c).trans h3) (((cfg0.win 3).blk t).view.emb y) (place3 t y),
    funext fun y => up_at ((V_main_arg4 m c).trans h4) (((cfg0.win 4).blk t).view.emb y) (place4 t y)⟩

/-! The reference's stages, and the two results. -/

theorem ref_dh : Cert.DxEvenReferenceIdeal.Read.val_main_v20 (F := Ideal) (up 2048 6144 P) (sh 2048 1536 W) = up 2048 2048 (DH P W) := by
  funext j
  have j1 : (j 1).val < 2048 := (j 1).isLt
  refine (Cert.DxEvenReferenceIdeal.Read.val_main_v20_apply _ _ j).trans (Eq.trans ?_ (sum_range (fun e => P (j 0).val e * W (j 1).val e)).symm)
  refine sum_congr rfl fun k _ => congrArg (P (j 0).val k.val * ·) ?_
  refine (Cert.DxEvenReferenceIdeal.Read.val_main_v16_apply (F := Ideal) _ _).trans
    ((Cert.DxEvenReferenceIdeal.Read.val_main_v15_apply (F := Ideal) _ _).trans (sh_at rfl _ ⟨?_, ?_⟩))
  · show ((j 1).val * 6144 + k.val) / 6144 = (j 1).val
    omega
  · show 1536 * (((j 1).val * 6144 + k.val) / 1536 % 4) + ((j 1).val * 6144 + k.val) % 1536 = k.val
    omega

theorem v40_host (x0 : Cert.DxEvenReferenceIdeal.S2048x6144.Idx → EReal) (x1 : Cert.DxEvenReferenceIdeal.S4x2048x1536.Idx → EReal)
    (x2 x4 : Cert.DxEvenReferenceIdeal.S2048x2048.Idx → EReal) (x3 : Cert.DxEvenReferenceIdeal.S1x2048.Idx → EReal) :
    Cert.DxEvenReferenceIdeal.Read.val_main_v40 (F := Ideal) x0 x1 x2 x3 x4
      = addf (F := Ideal) (φ := .f32) x4 (Cert.DxOdd.hostSteps x2 (Cert.DxEvenReferenceIdeal.Read.val_main_v25 (F := Ideal) x0 x1 x3)) := rfl

theorem v23_host (x0 : Cert.DxEvenReferenceIdeal.S2048x6144.Idx → EReal) (x1 : Cert.DxEvenReferenceIdeal.S4x2048x1536.Idx → EReal)
    (x2 : Cert.DxEvenReferenceIdeal.S2048x2048.Idx → EReal) :
    Cert.DxEvenReferenceIdeal.Read.val_main_v23 (F := Ideal) x0 x1 x2 = Cert.DxOdd.hostCol x2 (Cert.DxEvenReferenceIdeal.Read.val_main_v20 (F := Ideal) x0 x1) := rfl

/-- The gradient at the normalisation's rows, with the residual stream's. -/
theorem ref_dx : Cert.DxEvenReferenceIdeal.Read.val_main_v40 (F := Ideal) (up 2048 6144 P) (sh 2048 1536 W) (up 2048 2048 X) (up 1 2048 fun _ d => G d) (up 2048 2048 R)
    = up 2048 2048 (DX P W X R G) := by
  have e : Cert.DxEvenReferenceIdeal.Read.val_main_v25 (F := Ideal) (up 2048 6144 P) (sh 2048 1536 W) (up 1 2048 fun _ d => G d) = up 2048 2048 fun t e => DH P W t e * G e := by
    funext j
    rw [Cert.DxEvenReferenceIdeal.Read.val_main_v25_apply, ref_dh, Cert.DxEvenReferenceIdeal.Read.val_main_v24_apply]
    rfl
  rw [v40_host, e, Cert.DxOdd.hostSteps_eq]
  rfl

/-- The gradient at the scale. -/
theorem ref_dg : Cert.DxEvenReferenceIdeal.Read.val_main_v23 (F := Ideal) (up 2048 6144 P) (sh 2048 1536 W) (up 2048 2048 X) = up 1 2048 fun _ => DG P W X := by
  rw [v23_host, ref_dh, Cert.DxOdd.hostCol_eq]
  rfl

/-- The reference declares no semaphore, and its run leaves its arguments. -/
theorem frame_reference (m : (ℓ : Loc Cert.DxEvenReferenceIdeal.nD Cert.DxEvenReferenceIdeal.τ Cert.DxEvenReferenceIdeal.sig) → Buf (Elt Ideal) ℓ)
    (g : Dev Cert.DxEvenReferenceIdeal.nD → PrngReg) :
    θ_run (Cert.DxEvenReferenceIdeal.defs (F := Ideal)) (onTc (τ := Cert.DxEvenReferenceIdeal.τ) (Cert.DxEvenReferenceIdeal.main (F := Ideal))) ⟨m, fun _ => 0, g⟩ (fun r => (∀ c : Dev Cert.DxEvenReferenceIdeal.nD,
r.2.mem ((c.tc : Thread Cert.DxEvenReferenceIdeal.nD Cert.DxEvenReferenceIdeal.τ).loc Cert.DxEvenReferenceIdeal.main_arg0) = m ((c.tc : Thread Cert.DxEvenReferenceIdeal.nD Cert.DxEvenReferenceIdeal.τ).loc Cert.DxEvenReferenceIdeal.main_arg0)
      ∧ r.2.mem ((c.tc : Thread Cert.DxEvenReferenceIdeal.nD Cert.DxEvenReferenceIdeal.τ).loc Cert.DxEvenReferenceIdeal.main_arg1) = m ((c.tc : Thread Cert.DxEvenReferenceIdeal.nD Cert.DxEvenReferenceIdeal.τ).loc Cert.DxEvenReferenceIdeal.main_arg1)
      ∧ r.2.mem ((c.tc : Thread Cert.DxEvenReferenceIdeal.nD Cert.DxEvenReferenceIdeal.τ).loc Cert.DxEvenReferenceIdeal.main_arg2) = m ((c.tc : Thread Cert.DxEvenReferenceIdeal.nD Cert.DxEvenReferenceIdeal.τ).loc Cert.DxEvenReferenceIdeal.main_arg2)
      ∧ r.2.mem ((c.tc : Thread Cert.DxEvenReferenceIdeal.nD Cert.DxEvenReferenceIdeal.τ).loc Cert.DxEvenReferenceIdeal.main_arg3) = m ((c.tc : Thread Cert.DxEvenReferenceIdeal.nD Cert.DxEvenReferenceIdeal.τ).loc Cert.DxEvenReferenceIdeal.main_arg3)
      ∧ r.2.mem ((c.tc : Thread Cert.DxEvenReferenceIdeal.nD Cert.DxEvenReferenceIdeal.τ).loc Cert.DxEvenReferenceIdeal.main_arg4) = m ((c.tc : Thread Cert.DxEvenReferenceIdeal.nD Cert.DxEvenReferenceIdeal.τ).loc Cert.DxEvenReferenceIdeal.main_arg4))
      ∧ r.2.sem = fun _ => 0) :=
  (θ_run Cert.DxEvenReferenceIdeal.defs _ _).mono (fun r h => ⟨fun c => (h c).2.2, sem_eq_zero_of_no_sems (by decide) r.2⟩)
    (Cert.DxEvenReferenceIdeal.Value.run (F := Ideal) m g)

/-- From memories that agree on the five arguments, the kernel and the reference end with the same two arrays: the gradient at the layer's
input and the gradient at its scale. -/
theorem algebraic : Cert.algebraic_DxEvenIdeal_DxEvenReferenceIdeal := by
  intro m g m' g' _ hagree
  refine ⟨fun c => G5 m c, fun c => G6 m c, run m g,
    (θ_run Cert.DxEvenReferenceIdeal.defs _ _).mono (fun r h c => ?_) (Cert.DxEvenReferenceIdeal.Value.run (F := Ideal) m' g')⟩
  obtain ⟨e0, e1, a⟩ := h c
  obtain ⟨q0, q1, q2, q3, q4⟩ := hagree c
  obtain ⟨P, h0⟩ := exists_up (by decide) (by decide) (m ((c.tc : Thread nD τ).loc main_arg0))
  obtain ⟨W, h1⟩ := exists_sh (by decide) (by decide) (m ((c.tc : Thread nD τ).loc main_arg1))
  obtain ⟨X, h2⟩ := exists_up (by decide) (by decide) (m ((c.tc : Thread nD τ).loc main_arg2))
  obtain ⟨G, h3⟩ := exists_row (by decide) (m ((c.tc : Thread nD τ).loc main_arg3))
  obtain ⟨R, h4⟩ := exists_up (by decide) (by decide) (m ((c.tc : Thread nD τ).loc main_arg4))
  have hI := all_ins P W X R G m c h0 h1 h2 h3 h4
  refine ⟨(e0.trans (Cert.DxEvenReferenceIdeal.Read.val_main_v40_eq m' c)).trans ?_, (e1.trans (Cert.DxEvenReferenceIdeal.Read.val_main_v23_eq _ _ _)).trans ?_, a⟩
  · rw [q0.trans h0, q1.trans h1, q2.trans h2, q3.trans h3, q4.trans h4, ref_dx]
    exact (G5_eq P W X R G m c hI).symm
  · rw [q0.trans h0, q1.trans h1, q2.trans h2, ref_dg]
    exact (G6_eq P W X R G m c hI).symm

end Cert.DxEvenProof
-- ==== Proof.DwOdd.lean ====
module
public import proofs.«01_k».proof.Defs
public import proofs.«01_k».proof.Proof.Arrays
public import proofs.«01_k».proof.Proof.Gen.DwOddIdeal.Value
public import proofs.«01_k».proof.Proof.Gen.DwOddReferenceIdeal.Run
public import proofs.«01_k».proof.Proof.Gen.DwOddReferenceIdeal.Read

/-! The gradient of the odd layer's input weights: the kernel's 32 blocks are the blocks of the product of the transposed
   rows with the cotangent, cut into four shards; the reference is that product. -/

@[expose] public section

set_option maxRecDepth 16384

noncomputable section

namespace Cert.DwOddProof

open Idealize.ShloMosaic Idealize.SL Idealize.SL.Sem Cert.DwOddIdeal Cert.DwOddIdeal.Gen Cert.DwOddIdeal.Value Cert.Arrays Finset

variable (A B : ℕ → ℕ → EReal)

/-- One block: the product over the 2048 rows. -/
theorem out_eq : out0_2 (F := Ideal) (up 2048 512 A) (up 2048 896 B) = up1 512 896 fun d e => ∑ s ∈ range 2048, A s d * B s e := by
  refine (View.canon_unit_zero zero3 _ _).trans ?_
  refine (congr (congrArg k0_pay1 (View.ld_unit_zero zero2 _ _)) (View.ld_unit_zero zero2 _ _)).trans ?_
  unfold k0_pay1
  funext j
  idx_vars j
  pointwise
  simp only [up_ix2]
  exact (sum_range (fun s => A s j1.val * B s j2.val)).symm

/-! The block numbers at a point, and where an element of a block lies in its array. -/

theorem index0 : ∀ t : Fin cfg0.N, win0_0.index t (0 : Fin 2) = 0 ∧ win0_0.index t (1 : Fin 2) = t.val % 4 :=
  (by decide +kernel : ∀ t : Fin grid0.N, _)
theorem index1 : ∀ t : Fin cfg0.N, win0_1.index t (0 : Fin 2) = 0 ∧ win0_1.index t (1 : Fin 2) = t.val / 4 :=
  (by decide +kernel : ∀ t : Fin grid0.N, _)
theorem index2 : ∀ t : Fin cfg0.N, win0_2.index t (0 : Fin 3) = t.val / 8 ∧ win0_2.index t (1 : Fin 3) = t.val % 4 ∧ win0_2.index t (2 : Fin 3) = t.val / 4 % 2 :=
  (by decide +kernel : ∀ t : Fin grid0.N, _)
theorem flush2 : ∀ t : Fin cfg0.N, (cfg0.win 2).flush t = true := (by decide +kernel : ∀ t : Fin grid0.N, _)

theorem place0 (t : Fin cfg0.N) (y : (⟨2, ![2048, 512]⟩ : Shape).Idx) :
    (((cfg0.win 0).blk t).view.emb y 0).val = (y 0).val ∧ (((cfg0.win 0).blk t).view.emb y 1).val = 512 * (t.val % 4) + (y 1).val := by
  have b0 : (((cfg0.win 0).blk t).view.emb y 0).val = win0_0.index t (0 : Fin 2) * 2048 + 1 * (y 0).val := rfl
  have b1 : (((cfg0.win 0).blk t).view.emb y 1).val = win0_0.index t (1 : Fin 2) * 512 + 1 * (y 1).val := rfl
  rw [b0, b1, (index0 t).1, (index0 t).2]
  omega

theorem place1 (t : Fin cfg0.N) (y : (⟨2, ![2048, 896]⟩ : Shape).Idx) :
    (((cfg0.win 1).blk t).view.emb y 0).val = (y 0).val ∧ (((cfg0.win 1).blk t).view.emb y 1).val = 896 * (t.val / 4) + (y 1).val := by
  have b0 : (((cfg0.win 1).blk t).view.emb y 0).val = win0_1.index t (0 : Fin 2) * 2048 + 1 * (y 0).val := rfl
  have b1 : (((cfg0.win 1).blk t).view.emb y 1).val = win0_1.index t (1 : Fin 2) * 896 + 1 * (y 1).val := rfl
  rw [b0, b1, (index1 t).1, (index1 t).2]
  omega

theorem place2 (t : Fin cfg0.N) (y : (⟨3, ![1, 512, 896]⟩ : Shape).Idx) :
    (((cfg0.win 2).blk t).view.emb y 0).val = t.val / 8 ∧ (((cfg0.win 2).blk t).view.emb y 1).val = 512 * (t.val % 4) + (y 1).val
      ∧ (((cfg0.win 2).blk t).view.emb y 2).val = 896 * (t.val / 4 % 2) + (y 2).val := by
  have b0 : (((cfg0.win 2).blk t).view.emb y 0).val = win0_2.index t (0 : Fin 3) * 1 + 1 * (y 0).val := rfl
  have b1 : (((cfg0.win 2).blk t).view.emb y 1).val = win0_2.index t (1 : Fin 3) * 512 + 1 * (y 1).val := rfl
  have b2 : (((cfg0.win 2).blk t).view.emb y 2).val = win0_2.index t (2 : Fin 3) * 896 + 1 * (y 2).val := rfl
  have y0 : (y 0).val < 1 := (y 0).isLt
  rw [b0, b1, b2, (index2 t).1, (index2 t).2.1, (index2 t).2.2]
  omega

variable (m : (ℓ : Loc nD τ sig) → Buf (Elt Ideal) ℓ) (c : Dev nD)

/-- What the kernel's array holds. -/
theorem array_eq (h0 : m ((c.tc : Thread nD τ).loc main_arg0) = up 2048 2048 A) (h1 : m ((c.tc : Thread nD τ).loc main_arg1) = up 2048 7168 B) :
    (dats m 0 c).arrAt 2 cfg0.N = sh 2048 1792 fun d e => ∑ s ∈ range 2048, A s d * B s e := by
  have i0 (t : Fin cfg0.N) : iblk m c 0 t = up 2048 512 fun s d => A s (512 * (t.val % 4) + d) :=
    funext fun y => up_at ((V_main_arg0 m c).trans h0) (((cfg0.win 0).blk t).view.emb y) (place0 t y)
  have i1 (t : Fin cfg0.N) : iblk m c 1 t = up 2048 896 fun s e => B s (896 * (t.val / 4) + e) :=
    funext fun y => up_at ((V_main_arg1 m c).trans h1) (((cfg0.win 1).blk t).view.emb y) (place1 t y)
  funext j
  have j0 : (j 0).val < 4 := (j 0).isLt
  have j1 : (j 1).val < 2048 := (j 1).isLt
  have j2 : (j 2).val < 1792 := (j 2).isLt
  have hN : 8 * (j 0).val + 4 * ((j 2).val / 896) + (j 1).val / 512 < cfg0.N := lt_of_lt_of_eq (by omega) N_0.symm
  obtain ⟨t, ht⟩ : ∃ t : Fin cfg0.N, t.val = 8 * (j 0).val + 4 * ((j 2).val / 896) + (j 1).val / 512 := ⟨⟨_, hN⟩, rfl⟩
  obtain ⟨y, hy⟩ : ∃ y : (⟨3, ![1, 512, 896]⟩ : Shape).Idx, (y 1).val = (j 1).val % 512 ∧ (y 2).val = (j 2).val % 896 :=
    ⟨ix3 0 ⟨_, Nat.mod_lt _ (by decide)⟩ ⟨_, Nat.mod_lt _ (by decide)⟩, rfl, rfl⟩
  obtain ⟨p0, p1, p2⟩ := place2 t y
  have hj : ((cfg0.win 2).blk t).view.emb y = j := by
    funext d
    match d with
    | 0 => exact Fin.ext (by rw [p0]; omega)
    | 1 => exact Fin.ext (by rw [p1]; omega)
    | 2 => exact Fin.ext (by rw [p2]; omega)
  have hr := congrFun ((blocks2 m c t (flush2 t)).trans (flushed2 m c t)) y
  rw [i0, i1, out_eq] at hr
  have e : ∑ s ∈ range 2048, A s (512 * (t.val % 4) + (y 1).val) * B s (896 * (t.val / 4) + (y 2).val)
      = ∑ s ∈ range 2048, A s (j 1).val * B s (1792 * (j 0).val + (j 2).val) :=
    sum_congr rfl fun s _ => by congr 2 <;> omega
  exact ((congrArg _ hj).symm.trans hr).trans e

/-- The reference's array: the product, by the numbers of the whole's rows and columns. -/
theorem ref_eq : Cert.DwOddReferenceIdeal.Read.val_main_v10 (F := Ideal) (up 2048 2048 A) (up 2048 7168 B)
    = sh 2048 1792 fun d e => ∑ s ∈ range 2048, A s d * B s e := by
  funext j
  have j1 : (j 1).val < 2048 := (j 1).isLt
  have j2 : (j 2).val < 1792 := (j 2).isLt
  refine (Cert.DwOddReferenceIdeal.Read.val_main_v9_apply (F := Ideal) _ _ j).trans ?_
  rw [Cert.DwOddReferenceIdeal.Read.val_main_v8_apply, Cert.DwOddReferenceIdeal.Read.val_main_v7_apply, Cert.DwOddReferenceIdeal.Read.val_main_v6_apply]
  refine Eq.trans ?_ (sum_range fun s => A s (j 1).val * B s (1792 * (j 0).val + (j 2).val)).symm
  refine sum_congr rfl fun k _ => (mul_comm _ _).trans ?_
  show A k.val ((((j 1).val * 4 + (j 0).val) * 1792 + (j 2).val) / 7168) * B k.val ((((j 1).val * 4 + (j 0).val) * 1792 + (j 2).val) % 7168) = _
  have j0 : (j 0).val < 4 := (j 0).isLt
  congr 2 <;> omega

/-- The reference declares no semaphore, and its run leaves its arguments. -/
theorem frame_reference (m : (ℓ : Loc Cert.DwOddReferenceIdeal.nD Cert.DwOddReferenceIdeal.τ Cert.DwOddReferenceIdeal.sig) → Buf (Elt Ideal) ℓ)
    (g : Dev Cert.DwOddReferenceIdeal.nD → PrngReg) :
    θ_run (Cert.DwOddReferenceIdeal.defs (F := Ideal)) (onTc (τ := Cert.DwOddReferenceIdeal.τ) (Cert.DwOddReferenceIdeal.main (F := Ideal))) ⟨m, fun _ => 0, g⟩ (fun r => (∀ c : Dev Cert.DwOddReferenceIdeal.nD,
      r.2.mem ((c.tc : Thread Cert.DwOddReferenceIdeal.nD Cert.DwOddReferenceIdeal.τ).loc Cert.DwOddReferenceIdeal.main_arg0) = m ((c.tc : Thread Cert.DwOddReferenceIdeal.nD Cert.DwOddReferenceIdeal.τ).loc Cert.DwOddReferenceIdeal.main_arg0)
      ∧ r.2.mem ((c.tc : Thread Cert.DwOddReferenceIdeal.nD Cert.DwOddReferenceIdeal.τ).loc Cert.DwOddReferenceIdeal.main_arg1) = m ((c.tc : Thread Cert.DwOddReferenceIdeal.nD Cert.DwOddReferenceIdeal.τ).loc Cert.DwOddReferenceIdeal.main_arg1))
      ∧ r.2.sem = fun _ => 0) :=
  (θ_run Cert.DwOddReferenceIdeal.defs _ _).mono (fun r h => ⟨fun c => (h c).2, sem_eq_zero_of_no_sems (by decide) r.2⟩)
    (Cert.DwOddReferenceIdeal.Value.run (F := Ideal) m g)

/-- From memories that agree on the two arguments, the kernel and the reference end with the same array. -/
theorem algebraic : Cert.algebraic_DwOddIdeal_DwOddReferenceIdeal := by
  intro m g m' g' _ hagree
  refine ⟨fun c => (dats m 0 c).arrAt 2 cfg0.N, run_blocks m g,
    (θ_run Cert.DwOddReferenceIdeal.defs _ _).mono (fun r h c => ?_) (Cert.DwOddReferenceIdeal.Value.run (F := Ideal) m' g')⟩
  obtain ⟨e, a⟩ := h c
  obtain ⟨q0, q1⟩ := hagree c
  obtain ⟨A, hA⟩ := exists_up (by decide) (by decide) (m ((c.tc : Thread nD τ).loc main_arg0))
  obtain ⟨B, hB⟩ := exists_up (by decide) (by decide) (m ((c.tc : Thread nD τ).loc main_arg1))
  refine ⟨(e.trans (Cert.DwOddReferenceIdeal.Read.val_main_v10_eq _ _)).trans ?_, a⟩
  rw [q0.trans hA, q1.trans hB, ref_eq]
  exact (array_eq A B m c hA hB).symm

end Cert.DwOddProof
-- ==== Proof.DwEven.lean ====
module
public import proofs.«01_k».proof.Defs
public import proofs.«01_k».proof.Proof.Arrays
public import proofs.«01_k».proof.Proof.Gen.DwEvenIdeal.Value
public import proofs.«01_k».proof.Proof.Gen.DwEvenReferenceIdeal.Run
public import proofs.«01_k».proof.Proof.Gen.DwEvenReferenceIdeal.Read

/-! The gradient of the even layer's input weights: the kernel's 32 blocks are the blocks of the product of the transposed
   rows with the cotangent, cut into four shards; the reference is that product. -/

@[expose] public section

set_option maxRecDepth 16384

noncomputable section

namespace Cert.DwEvenProof

open Idealize.ShloMosaic Idealize.SL Idealize.SL.Sem Cert.DwEvenIdeal Cert.DwEvenIdeal.Gen Cert.DwEvenIdeal.Value Cert.Arrays Finset

variable (A B : ℕ → ℕ → EReal)

/-- One block: the product over the 2048 rows. -/
theorem out_eq : out0_2 (F := Ideal) (up 2048 512 A) (up 2048 768 B) = up1 512 768 fun d e => ∑ s ∈ range 2048, A s d * B s e := by
  refine (View.canon_unit_zero zero3 _ _).trans ?_
  refine (congr (congrArg k0_pay1 (View.ld_unit_zero zero2 _ _)) (View.ld_unit_zero zero2 _ _)).trans ?_
  unfold k0_pay1
  funext j
  idx_vars j
  pointwise
  simp only [up_ix2]
  exact (sum_range (fun s => A s j1.val * B s j2.val)).symm

/-! The block numbers at a point, and where an element of a block lies in its array. -/

theorem index0 : ∀ t : Fin cfg0.N, win0_0.index t (0 : Fin 2) = 0 ∧ win0_0.index t (1 : Fin 2) = t.val % 4 :=
  (by decide +kernel : ∀ t : Fin grid0.N, _)
theorem index1 : ∀ t : Fin cfg0.N, win0_1.index t (0 : Fin 2) = 0 ∧ win0_1.index t (1 : Fin 2) = t.val / 4 :=
  (by decide +kernel : ∀ t : Fin grid0.N, _)
theorem index2 : ∀ t : Fin cfg0.N, win0_2.index t (0 : Fin 3) = t.val / 8 ∧ win0_2.index t (1 : Fin 3) = t.val % 4 ∧ win0_2.index t (2 : Fin 3) = t.val / 4 % 2 :=
  (by decide +kernel : ∀ t : Fin grid0.N, _)
theorem flush2 : ∀ t : Fin cfg0.N, (cfg0.win 2).flush t = true := (by decide +kernel : ∀ t : Fin grid0.N, _)

theorem place0 (t : Fin cfg0.N) (y : (⟨2, ![2048, 512]⟩ : Shape).Idx) :
    (((cfg0.win 0).blk t).view.emb y 0).val = (y 0).val ∧ (((cfg0.win 0).blk t).view.emb y 1).val = 512 * (t.val % 4) + (y 1).val := by
  have b0 : (((cfg0.win 0).blk t).view.emb y 0).val = win0_0.index t (0 : Fin 2) * 2048 + 1 * (y 0).val := rfl
  have b1 : (((cfg0.win 0).blk t).view.emb y 1).val = win0_0.index t (1 : Fin 2) * 512 + 1 * (y 1).val := rfl
  rw [b0, b1, (index0 t).1, (index0 t).2]
  omega

theorem place1 (t : Fin cfg0.N) (y : (⟨2, ![2048, 768]⟩ : Shape).Idx) :
    (((cfg0.win 1).blk t).view.emb y 0).val = (y 0).val ∧ (((cfg0.win 1).blk t).view.emb y 1).val = 768 * (t.val / 4) + (y 1).val := by
  have b0 : (((cfg0.win 1).blk t).view.emb y 0).val = win0_1.index t (0 : Fin 2) * 2048 + 1 * (y 0).val := rfl
  have b1 : (((cfg0.win 1).blk t).view.emb y 1).val = win0_1.index t (1 : Fin 2) * 768 + 1 * (y 1).val := rfl
  rw [b0, b1, (index1 t).1, (index1 t).2]
  omega

theorem place2 (t : Fin cfg0.N) (y : (⟨3, ![1, 512, 768]⟩ : Shape).Idx) :
    (((cfg0.win 2).blk t).view.emb y 0).val = t.val / 8 ∧ (((cfg0.win 2).blk t).view.emb y 1).val = 512 * (t.val % 4) + (y 1).val
      ∧ (((cfg0.win 2).blk t).view.emb y 2).val = 768 * (t.val / 4 % 2) + (y 2).val := by
  have b0 : (((cfg0.win 2).blk t).view.emb y 0).val = win0_2.index t (0 : Fin 3) * 1 + 1 * (y 0).val := rfl
  have b1 : (((cfg0.win 2).blk t).view.emb y 1).val = win0_2.index t (1 : Fin 3) * 512 + 1 * (y 1).val := rfl
  have b2 : (((cfg0.win 2).blk t).view.emb y 2).val = win0_2.index t (2 : Fin 3) * 768 + 1 * (y 2).val := rfl
  have y0 : (y 0).val < 1 := (y 0).isLt
  rw [b0, b1, b2, (index2 t).1, (index2 t).2.1, (index2 t).2.2]
  omega

variable (m : (ℓ : Loc nD τ sig) → Buf (Elt Ideal) ℓ) (c : Dev nD)

/-- What the kernel's array holds. -/
theorem array_eq (h0 : m ((c.tc : Thread nD τ).loc main_arg0) = up 2048 2048 A) (h1 : m ((c.tc : Thread nD τ).loc main_arg1) = up 2048 6144 B) :
    (dats m 0 c).arrAt 2 cfg0.N = sh 2048 1536 fun d e => ∑ s ∈ range 2048, A s d * B s e := by
  have i0 (t : Fin cfg0.N) : iblk m c 0 t = up 2048 512 fun s d => A s (512 * (t.val % 4) + d) :=
    funext fun y => up_at ((V_main_arg0 m c).trans h0) (((cfg0.win 0).blk t).view.emb y) (place0 t y)
  have i1 (t : Fin cfg0.N) : iblk m c 1 t = up 2048 768 fun s e => B s (768 * (t.val / 4) + e) :=
    funext fun y => up_at ((V_main_arg1 m c).trans h1) (((cfg0.win 1).blk t).view.emb y) (place1 t y)
  funext j
  have j0 : (j 0).val < 4 := (j 0).isLt
  have j1 : (j 1).val < 2048 := (j 1).isLt
  have j2 : (j 2).val < 1536 := (j 2).isLt
  have hN : 8 * (j 0).val + 4 * ((j 2).val / 768) + (j 1).val / 512 < cfg0.N := lt_of_lt_of_eq (by omega) N_0.symm
  obtain ⟨t, ht⟩ : ∃ t : Fin cfg0.N, t.val = 8 * (j 0).val + 4 * ((j 2).val / 768) + (j 1).val / 512 := ⟨⟨_, hN⟩, rfl⟩
  obtain ⟨y, hy⟩ : ∃ y : (⟨3, ![1, 512, 768]⟩ : Shape).Idx, (y 1).val = (j 1).val % 512 ∧ (y 2).val = (j 2).val % 768 :=
    ⟨ix3 0 ⟨_, Nat.mod_lt _ (by decide)⟩ ⟨_, Nat.mod_lt _ (by decide)⟩, rfl, rfl⟩
  obtain ⟨p0, p1, p2⟩ := place2 t y
  have hj : ((cfg0.win 2).blk t).view.emb y = j := by
    funext d
    match d with
    | 0 => exact Fin.ext (by rw [p0]; omega)
    | 1 => exact Fin.ext (by rw [p1]; omega)
    | 2 => exact Fin.ext (by rw [p2]; omega)
  have hr := congrFun ((blocks2 m c t (flush2 t)).trans (flushed2 m c t)) y
  rw [i0, i1, out_eq] at hr
  have e : ∑ s ∈ range 2048, A s (512 * (t.val % 4) + (y 1).val) * B s (768 * (t.val / 4) + (y 2).val)
      = ∑ s ∈ range 2048, A s (j 1).val * B s (1536 * (j 0).val + (j 2).val) :=
    sum_congr rfl fun s _ => by congr 2 <;> omega
  exact ((congrArg _ hj).symm.trans hr).trans e

/-- The reference's array: the product, by the numbers of the whole's rows and columns. -/
theorem ref_eq : Cert.DwEvenReferenceIdeal.Read.val_main_v10 (F := Ideal) (up 2048 2048 A) (up 2048 6144 B)
    = sh 2048 1536 fun d e => ∑ s ∈ range 2048, A s d * B s e := by
  funext j
  have j1 : (j 1).val < 2048 := (j 1).isLt
  have j2 : (j 2).val < 1536 := (j 2).isLt
  refine (Cert.DwEvenReferenceIdeal.Read.val_main_v9_apply (F := Ideal) _ _ j).trans ?_
  rw [Cert.DwEvenReferenceIdeal.Read.val_main_v8_apply, Cert.DwEvenReferenceIdeal.Read.val_main_v7_apply, Cert.DwEvenReferenceIdeal.Read.val_main_v6_apply]
  refine Eq.trans ?_ (sum_range fun s => A s (j 1).val * B s (1536 * (j 0).val + (j 2).val)).symm
  refine sum_congr rfl fun k _ => (mul_comm _ _).trans ?_
  show A k.val ((((j 1).val * 4 + (j 0).val) * 1536 + (j 2).val) / 6144) * B k.val ((((j 1).val * 4 + (j 0).val) * 1536 + (j 2).val) % 6144) = _
  have j0 : (j 0).val < 4 := (j 0).isLt
  congr 2 <;> omega

/-- The reference declares no semaphore, and its run leaves its arguments. -/
theorem frame_reference (m : (ℓ : Loc Cert.DwEvenReferenceIdeal.nD Cert.DwEvenReferenceIdeal.τ Cert.DwEvenReferenceIdeal.sig) → Buf (Elt Ideal) ℓ)
    (g : Dev Cert.DwEvenReferenceIdeal.nD → PrngReg) :
    θ_run (Cert.DwEvenReferenceIdeal.defs (F := Ideal)) (onTc (τ := Cert.DwEvenReferenceIdeal.τ) (Cert.DwEvenReferenceIdeal.main (F := Ideal))) ⟨m, fun _ => 0, g⟩ (fun r => (∀ c : Dev Cert.DwEvenReferenceIdeal.nD,
      r.2.mem ((c.tc : Thread Cert.DwEvenReferenceIdeal.nD Cert.DwEvenReferenceIdeal.τ).loc Cert.DwEvenReferenceIdeal.main_arg0) = m ((c.tc : Thread Cert.DwEvenReferenceIdeal.nD Cert.DwEvenReferenceIdeal.τ).loc Cert.DwEvenReferenceIdeal.main_arg0)
      ∧ r.2.mem ((c.tc : Thread Cert.DwEvenReferenceIdeal.nD Cert.DwEvenReferenceIdeal.τ).loc Cert.DwEvenReferenceIdeal.main_arg1) = m ((c.tc : Thread Cert.DwEvenReferenceIdeal.nD Cert.DwEvenReferenceIdeal.τ).loc Cert.DwEvenReferenceIdeal.main_arg1))
      ∧ r.2.sem = fun _ => 0) :=
  (θ_run Cert.DwEvenReferenceIdeal.defs _ _).mono (fun r h => ⟨fun c => (h c).2, sem_eq_zero_of_no_sems (by decide) r.2⟩)
    (Cert.DwEvenReferenceIdeal.Value.run (F := Ideal) m g)

/-- From memories that agree on the two arguments, the kernel and the reference end with the same array. -/
theorem algebraic : Cert.algebraic_DwEvenIdeal_DwEvenReferenceIdeal := by
  intro m g m' g' _ hagree
  refine ⟨fun c => (dats m 0 c).arrAt 2 cfg0.N, run_blocks m g,
    (θ_run Cert.DwEvenReferenceIdeal.defs _ _).mono (fun r h c => ?_) (Cert.DwEvenReferenceIdeal.Value.run (F := Ideal) m' g')⟩
  obtain ⟨e, a⟩ := h c
  obtain ⟨q0, q1⟩ := hagree c
  obtain ⟨A, hA⟩ := exists_up (by decide) (by decide) (m ((c.tc : Thread nD τ).loc main_arg0))
  obtain ⟨B, hB⟩ := exists_up (by decide) (by decide) (m ((c.tc : Thread nD τ).loc main_arg1))
  refine ⟨(e.trans (Cert.DwEvenReferenceIdeal.Read.val_main_v10_eq _ _)).trans ?_, a⟩
  rw [q0.trans hA, q1.trans hB, ref_eq]
  exact (array_eq A B m c hA hB).symm

end Cert.DwEvenProof
-- ==== Proof.DwOut.lean ====
module
public import proofs.«01_k».proof.Defs
public import proofs.«01_k».proof.Proof.Arrays
public import proofs.«01_k».proof.Proof.Gen.DwOutIdeal.Value
public import proofs.«01_k».proof.Proof.Gen.DwOutReferenceIdeal.Run
public import proofs.«01_k».proof.Proof.Gen.DwOutReferenceIdeal.Read

/-! The gradient of the output weights: the kernel's eight blocks are the blocks of the product of the transposed rows with
   the cotangent; the reference is that product. -/

@[expose] public section

set_option maxRecDepth 16384

noncomputable section

namespace Cert.DwOutProof

open Idealize.ShloMosaic Idealize.SL Idealize.SL.Sem Cert.DwOutIdeal Cert.DwOutIdeal.Gen Cert.DwOutIdeal.Value Cert.Arrays Finset

variable (A B : ℕ → ℕ → EReal)

/-- One block: the product over the 2048 rows. -/
theorem out_eq : out0_2 (F := Ideal) (up 2048 512 A) (up 2048 1024 B) = up1 512 1024 fun d e => ∑ s ∈ range 2048, A s d * B s e := by
  refine (View.canon_unit_zero zero3 _ _).trans ?_
  refine (congr (congrArg k0_pay1 (View.ld_unit_zero zero2 _ _)) (View.ld_unit_zero zero2 _ _)).trans ?_
  unfold k0_pay1
  funext j
  idx_vars j
  pointwise
  simp only [up_ix2]
  exact (sum_range (fun s => A s j1.val * B s j2.val)).symm

/-! The block numbers at a point, and where an element of a block lies in its array. -/

theorem index0 : ∀ t : Fin cfg0.N, win0_0.index t (0 : Fin 2) = 0 ∧ win0_0.index t (1 : Fin 2) = t.val % 4 :=
  (by decide +kernel : ∀ t : Fin grid0.N, _)
theorem index1 : ∀ t : Fin cfg0.N, win0_1.index t (0 : Fin 2) = 0 ∧ win0_1.index t (1 : Fin 2) = t.val / 4 :=
  (by decide +kernel : ∀ t : Fin grid0.N, _)
theorem index2 : ∀ t : Fin cfg0.N, win0_2.index t (0 : Fin 3) = 0 ∧ win0_2.index t (1 : Fin 3) = t.val % 4 ∧ win0_2.index t (2 : Fin 3) = t.val / 4 :=
  (by decide +kernel : ∀ t : Fin grid0.N, _)
theorem flush2 : ∀ t : Fin cfg0.N, (cfg0.win 2).flush t = true := (by decide +kernel : ∀ t : Fin grid0.N, _)

theorem place0 (t : Fin cfg0.N) (y : (⟨2, ![2048, 512]⟩ : Shape).Idx) :
    (((cfg0.win 0).blk t).view.emb y 0).val = (y 0).val ∧ (((cfg0.win 0).blk t).view.emb y 1).val = 512 * (t.val % 4) + (y 1).val := by
  have b0 : (((cfg0.win 0).blk t).view.emb y 0).val = win0_0.index t (0 : Fin 2) * 2048 + 1 * (y 0).val := rfl
  have b1 : (((cfg0.win 0).blk t).view.emb y 1).val = win0_0.index t (1 : Fin 2) * 512 + 1 * (y 1).val := rfl
  rw [b0, b1, (index0 t).1, (index0 t).2]
  omega

theorem place1 (t : Fin cfg0.N) (y : (⟨2, ![2048, 1024]⟩ : Shape).Idx) :
    (((cfg0.win 1).blk t).view.emb y 0).val = (y 0).val ∧ (((cfg0.win 1).blk t).view.emb y 1).val = 1024 * (t.val / 4) + (y 1).val := by
  have b0 : (((cfg0.win 1).blk t).view.emb y 0).val = win0_1.index t (0 : Fin 2) * 2048 + 1 * (y 0).val := rfl
  have b1 : (((cfg0.win 1).blk t).view.emb y 1).val = win0_1.index t (1 : Fin 2) * 1024 + 1 * (y 1).val := rfl
  rw [b0, b1, (index1 t).1, (index1 t).2]
  omega

theorem place2 (t : Fin cfg0.N) (y : (⟨3, ![1, 512, 1024]⟩ : Shape).Idx) :
    (((cfg0.win 2).blk t).view.emb y 0).val = 0 ∧ (((cfg0.win 2).blk t).view.emb y 1).val = 512 * (t.val % 4) + (y 1).val
      ∧ (((cfg0.win 2).blk t).view.emb y 2).val = 1024 * (t.val / 4) + (y 2).val := by
  have b0 : (((cfg0.win 2).blk t).view.emb y 0).val = win0_2.index t (0 : Fin 3) * 1 + 1 * (y 0).val := rfl
  have b1 : (((cfg0.win 2).blk t).view.emb y 1).val = win0_2.index t (1 : Fin 3) * 512 + 1 * (y 1).val := rfl
  have b2 : (((cfg0.win 2).blk t).view.emb y 2).val = win0_2.index t (2 : Fin 3) * 1024 + 1 * (y 2).val := rfl
  have y0 : (y 0).val < 1 := (y 0).isLt
  rw [b0, b1, b2, (index2 t).1, (index2 t).2.1, (index2 t).2.2]
  omega

variable (m : (ℓ : Loc nD τ sig) → Buf (Elt Ideal) ℓ) (c : Dev nD)

/-- What the kernel's array holds. -/
theorem array_eq (h0 : m ((c.tc : Thread nD τ).loc main_arg0) = up 2048 2048 A) (h1 : m ((c.tc : Thread nD τ).loc main_arg1) = up 2048 2048 B) :
    (dats m 0 c).arrAt 2 cfg0.N = up1 2048 2048 fun d e => ∑ s ∈ range 2048, A s d * B s e := by
  have i0 (t : Fin cfg0.N) : iblk m c 0 t = up 2048 512 fun s d => A s (512 * (t.val % 4) + d) :=
    funext fun y => up_at ((V_main_arg0 m c).trans h0) (((cfg0.win 0).blk t).view.emb y) (place0 t y)
  have i1 (t : Fin cfg0.N) : iblk m c 1 t = up 2048 1024 fun s e => B s (1024 * (t.val / 4) + e) :=
    funext fun y => up_at ((V_main_arg1 m c).trans h1) (((cfg0.win 1).blk t).view.emb y) (place1 t y)
  funext j
  have j0 : (j 0).val < 1 := (j 0).isLt
  have j1 : (j 1).val < 2048 := (j 1).isLt
  have j2 : (j 2).val < 2048 := (j 2).isLt
  have hN : 4 * ((j 2).val / 1024) + (j 1).val / 512 < cfg0.N := lt_of_lt_of_eq (by omega) N_0.symm
  obtain ⟨t, ht⟩ : ∃ t : Fin cfg0.N, t.val = 4 * ((j 2).val / 1024) + (j 1).val / 512 := ⟨⟨_, hN⟩, rfl⟩
  obtain ⟨y, hy⟩ : ∃ y : (⟨3, ![1, 512, 1024]⟩ : Shape).Idx, (y 1).val = (j 1).val % 512 ∧ (y 2).val = (j 2).val % 1024 :=
    ⟨ix3 0 ⟨_, Nat.mod_lt _ (by decide)⟩ ⟨_, Nat.mod_lt _ (by decide)⟩, rfl, rfl⟩
  obtain ⟨p0, p1, p2⟩ := place2 t y
  have hj : ((cfg0.win 2).blk t).view.emb y = j := by
    funext d
    match d with
    | 0 => exact Fin.ext (by rw [p0]; omega)
    | 1 => exact Fin.ext (by rw [p1]; omega)
    | 2 => exact Fin.ext (by rw [p2]; omega)
  have hr := congrFun ((blocks2 m c t (flush2 t)).trans (flushed2 m c t)) y
  rw [i0, i1, out_eq] at hr
  have e : ∑ s ∈ range 2048, A s (512 * (t.val % 4) + (y 1).val) * B s (1024 * (t.val / 4) + (y 2).val)
      = ∑ s ∈ range 2048, A s (j 1).val * B s ((j 2).val) :=
    sum_congr rfl fun s _ => by congr 2 <;> omega
  exact ((congrArg _ hj).symm.trans hr).trans e

/-- The reference's array: the product, by the numbers of its rows and columns. -/
theorem ref_eq : Cert.DwOutReferenceIdeal.Read.val_main_v7 (F := Ideal) (up 2048 2048 A) (up 2048 2048 B)
    = up1 2048 2048 fun d e => ∑ s ∈ range 2048, A s d * B s e := by
  funext j
  have j1 : (j 1).val < 2048 := (j 1).isLt
  have j2 : (j 2).val < 2048 := (j 2).isLt
  refine (Cert.DwOutReferenceIdeal.Read.val_main_v7_apply (F := Ideal) _ _ j).trans ?_
  refine (Cert.DwOutReferenceIdeal.Read.val_main_v5_apply (F := Ideal) _ _ _).trans ?_
  rw [Cert.DwOutReferenceIdeal.Read.val_main_v4_apply]
  refine Eq.trans ?_ (sum_range fun s => A s (j 1).val * B s (j 2).val).symm
  exact sum_congr rfl fun k _ => mul_comm _ _

/-- The reference declares no semaphore, and its run leaves its arguments. -/
theorem frame_reference (m : (ℓ : Loc Cert.DwOutReferenceIdeal.nD Cert.DwOutReferenceIdeal.τ Cert.DwOutReferenceIdeal.sig) → Buf (Elt Ideal) ℓ)
    (g : Dev Cert.DwOutReferenceIdeal.nD → PrngReg) :
    θ_run (Cert.DwOutReferenceIdeal.defs (F := Ideal)) (onTc (τ := Cert.DwOutReferenceIdeal.τ) (Cert.DwOutReferenceIdeal.main (F := Ideal))) ⟨m, fun _ => 0, g⟩ (fun r => (∀ c : Dev Cert.DwOutReferenceIdeal.nD,
      r.2.mem ((c.tc : Thread Cert.DwOutReferenceIdeal.nD Cert.DwOutReferenceIdeal.τ).loc Cert.DwOutReferenceIdeal.main_arg0) = m ((c.tc : Thread Cert.DwOutReferenceIdeal.nD Cert.DwOutReferenceIdeal.τ).loc Cert.DwOutReferenceIdeal.main_arg0)
      ∧ r.2.mem ((c.tc : Thread Cert.DwOutReferenceIdeal.nD Cert.DwOutReferenceIdeal.τ).loc Cert.DwOutReferenceIdeal.main_arg1) = m ((c.tc : Thread Cert.DwOutReferenceIdeal.nD Cert.DwOutReferenceIdeal.τ).loc Cert.DwOutReferenceIdeal.main_arg1))
      ∧ r.2.sem = fun _ => 0) :=
  (θ_run Cert.DwOutReferenceIdeal.defs _ _).mono (fun r h => ⟨fun c => (h c).2, sem_eq_zero_of_no_sems (by decide) r.2⟩)
    (Cert.DwOutReferenceIdeal.Value.run (F := Ideal) m g)

/-- From memories that agree on the two arguments, the kernel and the reference end with the same array. -/
theorem algebraic : Cert.algebraic_DwOutIdeal_DwOutReferenceIdeal := by
  intro m g m' g' _ hagree
  refine ⟨fun c => (dats m 0 c).arrAt 2 cfg0.N, run_blocks m g,
    (θ_run Cert.DwOutReferenceIdeal.defs _ _).mono (fun r h c => ?_) (Cert.DwOutReferenceIdeal.Value.run (F := Ideal) m' g')⟩
  obtain ⟨e, a⟩ := h c
  obtain ⟨q0, q1⟩ := hagree c
  obtain ⟨A, hA⟩ := exists_up (by decide) (by decide) (m ((c.tc : Thread nD τ).loc main_arg0))
  obtain ⟨B, hB⟩ := exists_up (by decide) (by decide) (m ((c.tc : Thread nD τ).loc main_arg1))
  refine ⟨(e.trans (Cert.DwOutReferenceIdeal.Read.val_main_v7_eq _ _)).trans ?_, a⟩
  rw [q0.trans hA, q1.trans hB, ref_eq]
  exact (array_eq A B m c hA hB).symm

end Cert.DwOutProof
-- ==== Proof.Dy.lean ====
module
public import proofs.«01_k».proof.Defs
public import proofs.«01_k».proof.Proof.Arrays
public import proofs.«01_k».proof.Proof.Gen.DyIdeal.Value
public import proofs.«01_k».proof.Proof.Gen.DyReferenceIdeal.Run
public import proofs.«01_k».proof.Proof.Gen.DyReferenceIdeal.Read

/-! The gradient of the attention output: the kernel's four blocks are the blocks of the product of the cotangent with the
   transposed weights; the reference is that product. -/

@[expose] public section

set_option maxRecDepth 16384

noncomputable section

namespace Cert.DyProof

open Idealize.ShloMosaic Idealize.SL Idealize.SL.Sem Cert.DyIdeal Cert.DyIdeal.Gen Cert.DyIdeal.Value Cert.Arrays Finset

variable (A B : ℕ → ℕ → EReal)

/-- One block: the product over the 2048 columns. -/
theorem out_eq : out0_2 (F := Ideal) (up 512 2048 A) (up 2048 2048 B) = up 512 2048 fun s d => ∑ e ∈ range 2048, A s e * B d e := by
  refine (View.canon_unit_zero zero2 _ _).trans ?_
  refine (congr (congrArg k0_pay1 (View.ld_unit_zero zero2 _ _)) (View.ld_unit_zero zero2 _ _)).trans ?_
  unfold k0_pay1
  funext j
  idx_vars j
  pointwise
  simp only [up_ix2]
  exact (sum_range (fun e => A j0.val e * B j1.val e)).symm

/-! The block numbers at a point, and where an element of a block lies in its array. -/

theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 2) = t.val ∧ win0_2.index t (1 : Fin 2) = 0 :=
  (by decide +kernel : ∀ t : Fin grid0.N, _)
theorem flush2 : ∀ t : Fin cfg0.N, (cfg0.win 2).flush t = true := (by decide +kernel : ∀ t : Fin grid0.N, _)

theorem place0 (t : Fin cfg0.N) (y : (⟨2, ![512, 2048]⟩ : Shape).Idx) :
    (((cfg0.win 0).blk t).view.emb y 0).val = 512 * t.val + (y 0).val ∧ (((cfg0.win 0).blk t).view.emb y 1).val = (y 1).val := by
  have b0 : (((cfg0.win 0).blk t).view.emb y 0).val = win0_0.index t (0 : Fin 2) * 512 + 1 * (y 0).val := rfl
  have b1 : (((cfg0.win 0).blk t).view.emb y 1).val = win0_0.index t (1 : Fin 2) * 2048 + 1 * (y 1).val := rfl
  rw [b0, b1, (index0 t).1, (index0 t).2]
  omega

theorem place1 (t : Fin cfg0.N) (y : (⟨2, ![2048, 2048]⟩ : Shape).Idx) :
    (((cfg0.win 1).blk t).view.emb y 0).val = (y 0).val ∧ (((cfg0.win 1).blk t).view.emb y 1).val = (y 1).val := by
  have b0 : (((cfg0.win 1).blk t).view.emb y 0).val = win0_1.index t (0 : Fin 2) * 2048 + 1 * (y 0).val := rfl
  have b1 : (((cfg0.win 1).blk t).view.emb y 1).val = win0_1.index t (1 : Fin 2) * 2048 + 1 * (y 1).val := rfl
  rw [b0, b1, (index1 t).1, (index1 t).2]
  omega

theorem place2 (t : Fin cfg0.N) (y : (⟨2, ![512, 2048]⟩ : Shape).Idx) :
    (((cfg0.win 2).blk t).view.emb y 0).val = 512 * t.val + (y 0).val ∧ (((cfg0.win 2).blk t).view.emb y 1).val = (y 1).val := by
  have b0 : (((cfg0.win 2).blk t).view.emb y 0).val = win0_2.index t (0 : Fin 2) * 512 + 1 * (y 0).val := rfl
  have b1 : (((cfg0.win 2).blk t).view.emb y 1).val = win0_2.index t (1 : Fin 2) * 2048 + 1 * (y 1).val := rfl
  rw [b0, b1, (index2 t).1, (index2 t).2]
  omega

variable (m : (ℓ : Loc nD τ sig) → Buf (Elt Ideal) ℓ) (c : Dev nD)

/-- What the kernel's array holds. -/
theorem array_eq (h0 : m ((c.tc : Thread nD τ).loc main_arg0) = up 2048 2048 A) (h1 : m ((c.tc : Thread nD τ).loc main_arg1) = up 2048 2048 B) :
    (dats m 0 c).arrAt 2 cfg0.N = up 2048 2048 fun s d => ∑ e ∈ range 2048, A s e * B d e := by
  have i0 (t : Fin cfg0.N) : iblk m c 0 t = up 512 2048 fun s e => A (512 * t.val + s) e :=
    funext fun y => up_at ((V_main_arg0 m c).trans h0) (((cfg0.win 0).blk t).view.emb y) (place0 t y)
  have i1 (t : Fin cfg0.N) : iblk m c 1 t = up 2048 2048 B :=
    funext fun y => up_at ((V_main_arg1 m c).trans h1) (((cfg0.win 1).blk t).view.emb y) (place1 t y)
  funext j
  have j0 : (j 0).val < 2048 := (j 0).isLt
  have j1 : (j 1).val < 2048 := (j 1).isLt
  have hN : (j 0).val / 512 < cfg0.N := lt_of_lt_of_eq (by omega) N_0.symm
  obtain ⟨t, ht⟩ : ∃ t : Fin cfg0.N, t.val = (j 0).val / 512 := ⟨⟨_, hN⟩, rfl⟩
  obtain ⟨y, hy⟩ : ∃ y : (⟨2, ![512, 2048]⟩ : Shape).Idx, (y 0).val = (j 0).val % 512 ∧ (y 1).val = (j 1).val :=
    ⟨ix2 ⟨_, Nat.mod_lt _ (by decide)⟩ ⟨_, j1⟩, rfl, rfl⟩
  obtain ⟨p0, p1⟩ := place2 t y
  have hj : ((cfg0.win 2).blk t).view.emb y = j := by
    funext d
    match d with
    | 0 => exact Fin.ext (by rw [p0]; omega)
    | 1 => exact Fin.ext (by rw [p1]; omega)
  have hr := congrFun ((blocks2 m c t (flush2 t)).trans (flushed2 m c t)) y
  rw [i0, i1, out_eq] at hr
  have e0 : 512 * t.val + (y 0).val = (j 0).val := by omega
  have e : ∑ e ∈ range 2048, A (512 * t.val + (y 0).val) e * B (y 1).val e = ∑ e ∈ range 2048, A (j 0).val e * B (j 1).val e := by
    rw [e0, hy.2]
  exact ((congrArg _ hj).symm.trans hr).trans e

/-- The reference's array: the product. -/
theorem ref_eq : Cert.DyReferenceIdeal.Read.val_main_v4 (F := Ideal) (up 2048 2048 A) (up 2048 2048 B)
    = up 2048 2048 fun s d => ∑ e ∈ range 2048, A s e * B d e := by
  funext j
  refine (Cert.DyReferenceIdeal.Read.val_main_v4_apply _ _ j).trans ?_
  exact (sum_range fun e => A (j 0).val e * B (j 1).val e).symm

/-- The reference declares no semaphore, and its run leaves its arguments. -/
theorem frame_reference (m : (ℓ : Loc Cert.DyReferenceIdeal.nD Cert.DyReferenceIdeal.τ Cert.DyReferenceIdeal.sig) → Buf (Elt Ideal) ℓ)
    (g : Dev Cert.DyReferenceIdeal.nD → PrngReg) :
    θ_run (Cert.DyReferenceIdeal.defs (F := Ideal)) (onTc (τ := Cert.DyReferenceIdeal.τ) (Cert.DyReferenceIdeal.main (F := Ideal))) ⟨m, fun _ => 0, g⟩ (fun r => (∀ c : Dev Cert.DyReferenceIdeal.nD,
      r.2.mem ((c.tc : Thread Cert.DyReferenceIdeal.nD Cert.DyReferenceIdeal.τ).loc Cert.DyReferenceIdeal.main_arg0) = m ((c.tc : Thread Cert.DyReferenceIdeal.nD Cert.DyReferenceIdeal.τ).loc Cert.DyReferenceIdeal.main_arg0)
      ∧ r.2.mem ((c.tc : Thread Cert.DyReferenceIdeal.nD Cert.DyReferenceIdeal.τ).loc Cert.DyReferenceIdeal.main_arg1) = m ((c.tc : Thread Cert.DyReferenceIdeal.nD Cert.DyReferenceIdeal.τ).loc Cert.DyReferenceIdeal.main_arg1))
      ∧ r.2.sem = fun _ => 0) :=
  (θ_run Cert.DyReferenceIdeal.defs _ _).mono (fun r h => ⟨fun c => (h c).2, sem_eq_zero_of_no_sems (by decide) r.2⟩)
    (Cert.DyReferenceIdeal.Value.run (F := Ideal) m g)

/-- From memories that agree on the two arguments, the kernel and the reference end with the same array. -/
theorem algebraic : Cert.algebraic_DyIdeal_DyReferenceIdeal := by
  intro m g m' g' _ hagree
  refine ⟨fun c => (dats m 0 c).arrAt 2 cfg0.N, run_blocks m g,
    (θ_run Cert.DyReferenceIdeal.defs _ _).mono (fun r h c => ?_) (Cert.DyReferenceIdeal.Value.run (F := Ideal) m' g')⟩
  obtain ⟨e, a⟩ := h c
  obtain ⟨q0, q1⟩ := hagree c
  obtain ⟨A, hA⟩ := exists_up (by decide) (by decide) (m ((c.tc : Thread nD τ).loc main_arg0))
  obtain ⟨B, hB⟩ := exists_up (by decide) (by decide) (m ((c.tc : Thread nD τ).loc main_arg1))
  refine ⟨(e.trans (Cert.DyReferenceIdeal.Read.val_main_v4_eq _ _)).trans ?_, a⟩
  rw [q0.trans hA, q1.trans hB, ref_eq]
  exact (array_eq A B m c hA hB).symm

end Cert.DyProof
-- ==== Proof.InOdd.lean ====
module
public import proofs.«01_k».proof.Defs
public import proofs.«01_k».proof.Proof.Arrays
public import proofs.«01_k».proof.Proof.Gen.InOddIdeal.Value
public import proofs.«01_k».proof.Proof.Gen.InOddReferenceIdeal.Run
public import proofs.«01_k».proof.Proof.Gen.InOddReferenceIdeal.Read

/-! The odd layer's input product: the kernel's 32 blocks are the blocks of the product of the rows with the whole of the four
   shards of weights; the reference is that product. -/

@[expose] public section

set_option maxRecDepth 16384

noncomputable section

namespace Cert.InOddProof

open Idealize.ShloMosaic Idealize.SL Idealize.SL.Sem Cert.InOddIdeal Cert.InOddIdeal.Gen Cert.InOddIdeal.Value Cert.Arrays Finset

variable (A B : ℕ → ℕ → EReal)

/-- One block: the product over the 2048 columns. -/
theorem out_eq : out0_2 (F := Ideal) (up 512 2048 A) (up1 2048 896 B) = up 512 896 fun s e => ∑ d ∈ range 2048, A s d * B d e := by
  refine (View.canon_unit_zero zero2 _ _).trans ?_
  refine (congr (congrArg k0_pay1 (View.ld_unit_zero zero2 _ _)) (View.ld_unit_zero zero3 _ _)).trans ?_
  unfold k0_pay1
  funext j
  idx_vars j
  pointwise
  simp only [up_ix2, up1_ix3]
  exact (sum_range (fun d => A j0.val d * B d j1.val)).symm

/-! The block numbers at a point, and where an element of a block lies in its array. -/

theorem index0 : ∀ t : Fin cfg0.N, win0_0.index t (0 : Fin 2) = t.val % 4 ∧ win0_0.index t (1 : Fin 2) = 0 :=
  (by decide +kernel : ∀ t : Fin grid0.N, _)
theorem index1 : ∀ t : Fin cfg0.N, win0_1.index t (0 : Fin 3) = t.val / 8 ∧ win0_1.index t (1 : Fin 3) = 0 ∧ win0_1.index t (2 : Fin 3) = t.val / 4 % 2 :=
  (by decide +kernel : ∀ t : Fin grid0.N, _)
theorem index2 : ∀ t : Fin cfg0.N, win0_2.index t (0 : Fin 2) = t.val % 4 ∧ win0_2.index t (1 : Fin 2) = t.val / 4 :=
  (by decide +kernel : ∀ t : Fin grid0.N, _)
theorem flush2 : ∀ t : Fin cfg0.N, (cfg0.win 2).flush t = true := (by decide +kernel : ∀ t : Fin grid0.N, _)

theorem place0 (t : Fin cfg0.N) (y : (⟨2, ![512, 2048]⟩ : Shape).Idx) :
    (((cfg0.win 0).blk t).view.emb y 0).val = 512 * (t.val % 4) + (y 0).val ∧ (((cfg0.win 0).blk t).view.emb y 1).val = (y 1).val := by
  have b0 : (((cfg0.win 0).blk t).view.emb y 0).val = win0_0.index t (0 : Fin 2) * 512 + 1 * (y 0).val := rfl
  have b1 : (((cfg0.win 0).blk t).view.emb y 1).val = win0_0.index t (1 : Fin 2) * 2048 + 1 * (y 1).val := rfl
  rw [b0, b1, (index0 t).1, (index0 t).2]
  omega

theorem place1 (t : Fin cfg0.N) (y : (⟨3, ![1, 2048, 896]⟩ : Shape).Idx) :
    (((cfg0.win 1).blk t).view.emb y 1).val = (y 1).val
      ∧ 1792 * (((cfg0.win 1).blk t).view.emb y 0).val + (((cfg0.win 1).blk t).view.emb y 2).val = 896 * (t.val / 4) + (y 2).val := by
  have b0 : (((cfg0.win 1).blk t).view.emb y 0).val = win0_1.index t (0 : Fin 3) * 1 + 1 * (y 0).val := rfl
  have b1 : (((cfg0.win 1).blk t).view.emb y 1).val = win0_1.index t (1 : Fin 3) * 2048 + 1 * (y 1).val := rfl
  have b2 : (((cfg0.win 1).blk t).view.emb y 2).val = win0_1.index t (2 : Fin 3) * 896 + 1 * (y 2).val := rfl
  have y0 : (y 0).val < 1 := (y 0).isLt
  rw [b0, b1, b2, (index1 t).1, (index1 t).2.1, (index1 t).2.2]
  omega

theorem place2 (t : Fin cfg0.N) (y : (⟨2, ![512, 896]⟩ : Shape).Idx) :
    (((cfg0.win 2).blk t).view.emb y 0).val = 512 * (t.val % 4) + (y 0).val ∧ (((cfg0.win 2).blk t).view.emb y 1).val = 896 * (t.val / 4) + (y 1).val := by
  have b0 : (((cfg0.win 2).blk t).view.emb y 0).val = win0_2.index t (0 : Fin 2) * 512 + 1 * (y 0).val := rfl
  have b1 : (((cfg0.win 2).blk t).view.emb y 1).val = win0_2.index t (1 : Fin 2) * 896 + 1 * (y 1).val := rfl
  rw [b0, b1, (index2 t).1, (index2 t).2]
  omega

variable (m : (ℓ : Loc nD τ sig) → Buf (Elt Ideal) ℓ) (c : Dev nD)

/-- What the kernel's array holds. -/
theorem array_eq (h0 : m ((c.tc : Thread nD τ).loc main_arg0) = up 2048 2048 A) (h1 : m ((c.tc : Thread nD τ).loc main_arg1) = sh 2048 1792 B) :
    (dats m 0 c).arrAt 2 cfg0.N = up 2048 7168 fun s e => ∑ d ∈ range 2048, A s d * B d e := by
  have i0 (t : Fin cfg0.N) : iblk m c 0 t = up 512 2048 fun s d => A (512 * (t.val % 4) + s) d :=
    funext fun y => up_at ((V_main_arg0 m c).trans h0) (((cfg0.win 0).blk t).view.emb y) (place0 t y)
  have i1 (t : Fin cfg0.N) : iblk m c 1 t = up1 2048 896 fun d e => B d (896 * (t.val / 4) + e) :=
    funext fun y => sh_at ((V_main_arg1 m c).trans h1) (((cfg0.win 1).blk t).view.emb y) (place1 t y)
  funext j
  have j0 : (j 0).val < 2048 := (j 0).isLt
  have j1 : (j 1).val < 7168 := (j 1).isLt
  have hN : 4 * ((j 1).val / 896) + (j 0).val / 512 < cfg0.N := lt_of_lt_of_eq (by omega) N_0.symm
  obtain ⟨t, ht⟩ : ∃ t : Fin cfg0.N, t.val = 4 * ((j 1).val / 896) + (j 0).val / 512 := ⟨⟨_, hN⟩, rfl⟩
  obtain ⟨y, hy⟩ : ∃ y : (⟨2, ![512, 896]⟩ : Shape).Idx, (y 0).val = (j 0).val % 512 ∧ (y 1).val = (j 1).val % 896 :=
    ⟨ix2 ⟨_, Nat.mod_lt _ (by decide)⟩ ⟨_, Nat.mod_lt _ (by decide)⟩, rfl, rfl⟩
  obtain ⟨p0, p1⟩ := place2 t y
  have hj : ((cfg0.win 2).blk t).view.emb y = j := by
    funext d
    match d with
    | 0 => exact Fin.ext (by rw [p0]; omega)
    | 1 => exact Fin.ext (by rw [p1]; omega)
  have hr := congrFun ((blocks2 m c t (flush2 t)).trans (flushed2 m c t)) y
  rw [i0, i1, out_eq] at hr
  have e : ∑ d ∈ range 2048, A (512 * (t.val % 4) + (y 0).val) d * B d (896 * (t.val / 4) + (y 1).val)
      = ∑ d ∈ range 2048, A (j 0).val d * B d (j 1).val :=
    sum_congr rfl fun s _ => by congr 2 <;> omega
  exact ((congrArg _ hj).symm.trans hr).trans e

/-- The reference's array: the product. -/
theorem ref_eq : Cert.InOddReferenceIdeal.Read.val_main_v4 (F := Ideal) (up 2048 2048 A) (sh 2048 1792 B)
    = up 2048 7168 fun s e => ∑ d ∈ range 2048, A s d * B d e := by
  funext j
  have j1 : (j 1).val < 7168 := (j 1).isLt
  refine (Cert.InOddReferenceIdeal.Read.val_main_v4_apply _ _ j).trans (Eq.trans ?_ (sum_range fun d => A (j 0).val d * B d (j 1).val).symm)
  refine sum_congr rfl fun k _ => congrArg (A (j 0).val k.val * ·) ?_
  refine (Cert.InOddReferenceIdeal.Read.val_main_v2_apply (F := Ideal) _ _).trans
    ((Cert.InOddReferenceIdeal.Read.val_main_v1_apply (F := Ideal) _ _).trans (sh_at rfl _ ⟨?_, ?_⟩))
  · show (k.val * 7168 + (j 1).val) / 7168 = k.val
    omega
  · show 1792 * ((k.val * 7168 + (j 1).val) / 1792 % 4) + (k.val * 7168 + (j 1).val) % 1792 = (j 1).val
    omega

/-- The reference declares no semaphore, and its run leaves its arguments. -/
theorem frame_reference (m : (ℓ : Loc Cert.InOddReferenceIdeal.nD Cert.InOddReferenceIdeal.τ Cert.InOddReferenceIdeal.sig) → Buf (Elt Ideal) ℓ)
    (g : Dev Cert.InOddReferenceIdeal.nD → PrngReg) :
    θ_run (Cert.InOddReferenceIdeal.defs (F := Ideal)) (onTc (τ := Cert.InOddReferenceIdeal.τ) (Cert.InOddReferenceIdeal.main (F := Ideal))) ⟨m, fun _ => 0, g⟩ (fun r => (∀ c : Dev Cert.InOddReferenceIdeal.nD,
      r.2.mem ((c.tc : Thread Cert.InOddReferenceIdeal.nD Cert.InOddReferenceIdeal.τ).loc Cert.InOddReferenceIdeal.main_arg0) = m ((c.tc : Thread Cert.InOddReferenceIdeal.nD Cert.InOddReferenceIdeal.τ).loc Cert.InOddReferenceIdeal.main_arg0)
      ∧ r.2.mem ((c.tc : Thread Cert.InOddReferenceIdeal.nD Cert.InOddReferenceIdeal.τ).loc Cert.InOddReferenceIdeal.main_arg1) = m ((c.tc : Thread Cert.InOddReferenceIdeal.nD Cert.InOddReferenceIdeal.τ).loc Cert.InOddReferenceIdeal.main_arg1))
      ∧ r.2.sem = fun _ => 0) :=
  (θ_run Cert.InOddReferenceIdeal.defs _ _).mono (fun r h => ⟨fun c => (h c).2, sem_eq_zero_of_no_sems (by decide) r.2⟩)
    (Cert.InOddReferenceIdeal.Value.run (F := Ideal) m g)

/-- From memories that agree on the two arguments, the kernel and the reference end with the same array. -/
theorem algebraic : Cert.algebraic_InOddIdeal_InOddReferenceIdeal := by
  intro m g m' g' _ hagree
  refine ⟨fun c => (dats m 0 c).arrAt 2 cfg0.N, run_blocks m g,
    (θ_run Cert.InOddReferenceIdeal.defs _ _).mono (fun r h c => ?_) (Cert.InOddReferenceIdeal.Value.run (F := Ideal) m' g')⟩
  obtain ⟨e, a⟩ := h c
  obtain ⟨q0, q1⟩ := hagree c
  obtain ⟨A, hA⟩ := exists_up (by decide) (by decide) (m ((c.tc : Thread nD τ).loc main_arg0))
  obtain ⟨B, hB⟩ := exists_sh (by decide) (by decide) (m ((c.tc : Thread nD τ).loc main_arg1))
  refine ⟨(e.trans (Cert.InOddReferenceIdeal.Read.val_main_v4_eq _ _)).trans ?_, a⟩
  rw [q0.trans hA, q1.trans hB, ref_eq]
  exact (array_eq A B m c hA hB).symm

end Cert.InOddProof
-- ==== Proof.InEven.lean ====
module
public import proofs.«01_k».proof.Defs
public import proofs.«01_k».proof.Proof.Arrays
public import proofs.«01_k».proof.Proof.Gen.InEvenIdeal.Value
public import proofs.«01_k».proof.Proof.Gen.InEvenReferenceIdeal.Run
public import proofs.«01_k».proof.Proof.Gen.InEvenReferenceIdeal.Read

/-! The even layer's input product: the kernel's 32 blocks are the blocks of the product of the rows with the whole of the four
   shards of weights; the reference is that product. -/

@[expose] public section

set_option maxRecDepth 16384

noncomputable section

namespace Cert.InEvenProof

open Idealize.ShloMosaic Idealize.SL Idealize.SL.Sem Cert.InEvenIdeal Cert.InEvenIdeal.Gen Cert.InEvenIdeal.Value Cert.Arrays Finset

variable (A B : ℕ → ℕ → EReal)

/-- One block: the product over the 2048 columns. -/
theorem out_eq : out0_2 (F := Ideal) (up 512 2048 A) (up1 2048 768 B) = up 512 768 fun s e => ∑ d ∈ range 2048, A s d * B d e := by
  refine (View.canon_unit_zero zero2 _ _).trans ?_
  refine (congr (congrArg k0_pay1 (View.ld_unit_zero zero2 _ _)) (View.ld_unit_zero zero3 _ _)).trans ?_
  unfold k0_pay1
  funext j
  idx_vars j
  pointwise
  simp only [up_ix2, up1_ix3]
  exact (sum_range (fun d => A j0.val d * B d j1.val)).symm

/-! The block numbers at a point, and where an element of a block lies in its array. -/

theorem index0 : ∀ t : Fin cfg0.N, win0_0.index t (0 : Fin 2) = t.val % 4 ∧ win0_0.index t (1 : Fin 2) = 0 :=
  (by decide +kernel : ∀ t : Fin grid0.N, _)
theorem index1 : ∀ t : Fin cfg0.N, win0_1.index t (0 : Fin 3) = t.val / 8 ∧ win0_1.index t (1 : Fin 3) = 0 ∧ win0_1.index t (2 : Fin 3) = t.val / 4 % 2 :=
  (by decide +kernel : ∀ t : Fin grid0.N, _)
theorem index2 : ∀ t : Fin cfg0.N, win0_2.index t (0 : Fin 2) = t.val % 4 ∧ win0_2.index t (1 : Fin 2) = t.val / 4 :=
  (by decide +kernel : ∀ t : Fin grid0.N, _)
theorem flush2 : ∀ t : Fin cfg0.N, (cfg0.win 2).flush t = true := (by decide +kernel : ∀ t : Fin grid0.N, _)

theorem place0 (t : Fin cfg0.N) (y : (⟨2, ![512, 2048]⟩ : Shape).Idx) :
    (((cfg0.win 0).blk t).view.emb y 0).val = 512 * (t.val % 4) + (y 0).val ∧ (((cfg0.win 0).blk t).view.emb y 1).val = (y 1).val := by
  have b0 : (((cfg0.win 0).blk t).view.emb y 0).val = win0_0.index t (0 : Fin 2) * 512 + 1 * (y 0).val := rfl
  have b1 : (((cfg0.win 0).blk t).view.emb y 1).val = win0_0.index t (1 : Fin 2) * 2048 + 1 * (y 1).val := rfl
  rw [b0, b1, (index0 t).1, (index0 t).2]
  omega

theorem place1 (t : Fin cfg0.N) (y : (⟨3, ![1, 2048, 768]⟩ : Shape).Idx) :
    (((cfg0.win 1).blk t).view.emb y 1).val = (y 1).val
      ∧ 1536 * (((cfg0.win 1).blk t).view.emb y 0).val + (((cfg0.win 1).blk t).view.emb y 2).val = 768 * (t.val / 4) + (y 2).val := by
  have b0 : (((cfg0.win 1).blk t).view.emb y 0).val = win0_1.index t (0 : Fin 3) * 1 + 1 * (y 0).val := rfl
  have b1 : (((cfg0.win 1).blk t).view.emb y 1).val = win0_1.index t (1 : Fin 3) * 2048 + 1 * (y 1).val := rfl
  have b2 : (((cfg0.win 1).blk t).view.emb y 2).val = win0_1.index t (2 : Fin 3) * 768 + 1 * (y 2).val := rfl
  have y0 : (y 0).val < 1 := (y 0).isLt
  rw [b0, b1, b2, (index1 t).1, (index1 t).2.1, (index1 t).2.2]
  omega

theorem place2 (t : Fin cfg0.N) (y : (⟨2, ![512, 768]⟩ : Shape).Idx) :
    (((cfg0.win 2).blk t).view.emb y 0).val = 512 * (t.val % 4) + (y 0).val ∧ (((cfg0.win 2).blk t).view.emb y 1).val = 768 * (t.val / 4) + (y 1).val := by
  have b0 : (((cfg0.win 2).blk t).view.emb y 0).val = win0_2.index t (0 : Fin 2) * 512 + 1 * (y 0).val := rfl
  have b1 : (((cfg0.win 2).blk t).view.emb y 1).val = win0_2.index t (1 : Fin 2) * 768 + 1 * (y 1).val := rfl
  rw [b0, b1, (index2 t).1, (index2 t).2]
  omega

variable (m : (ℓ : Loc nD τ sig) → Buf (Elt Ideal) ℓ) (c : Dev nD)

/-- What the kernel's array holds. -/
theorem array_eq (h0 : m ((c.tc : Thread nD τ).loc main_arg0) = up 2048 2048 A) (h1 : m ((c.tc : Thread nD τ).loc main_arg1) = sh 2048 1536 B) :
    (dats m 0 c).arrAt 2 cfg0.N = up 2048 6144 fun s e => ∑ d ∈ range 2048, A s d * B d e := by
  have i0 (t : Fin cfg0.N) : iblk m c 0 t = up 512 2048 fun s d => A (512 * (t.val % 4) + s) d :=
    funext fun y => up_at ((V_main_arg0 m c).trans h0) (((cfg0.win 0).blk t).view.emb y) (place0 t y)
  have i1 (t : Fin cfg0.N) : iblk m c 1 t = up1 2048 768 fun d e => B d (768 * (t.val / 4) + e) :=
    funext fun y => sh_at ((V_main_arg1 m c).trans h1) (((cfg0.win 1).blk t).view.emb y) (place1 t y)
  funext j
  have j0 : (j 0).val < 2048 := (j 0).isLt
  have j1 : (j 1).val < 6144 := (j 1).isLt
  have hN : 4 * ((j 1).val / 768) + (j 0).val / 512 < cfg0.N := lt_of_lt_of_eq (by omega) N_0.symm
  obtain ⟨t, ht⟩ : ∃ t : Fin cfg0.N, t.val = 4 * ((j 1).val / 768) + (j 0).val / 512 := ⟨⟨_, hN⟩, rfl⟩
  obtain ⟨y, hy⟩ : ∃ y : (⟨2, ![512, 768]⟩ : Shape).Idx, (y 0).val = (j 0).val % 512 ∧ (y 1).val = (j 1).val % 768 :=
    ⟨ix2 ⟨_, Nat.mod_lt _ (by decide)⟩ ⟨_, Nat.mod_lt _ (by decide)⟩, rfl, rfl⟩
  obtain ⟨p0, p1⟩ := place2 t y
  have hj : ((cfg0.win 2).blk t).view.emb y = j := by
    funext d
    match d with
    | 0 => exact Fin.ext (by rw [p0]; omega)
    | 1 => exact Fin.ext (by rw [p1]; omega)
  have hr := congrFun ((blocks2 m c t (flush2 t)).trans (flushed2 m c t)) y
  rw [i0, i1, out_eq] at hr
  have e : ∑ d ∈ range 2048, A (512 * (t.val % 4) + (y 0).val) d * B d (768 * (t.val / 4) + (y 1).val)
      = ∑ d ∈ range 2048, A (j 0).val d * B d (j 1).val :=
    sum_congr rfl fun s _ => by congr 2 <;> omega
  exact ((congrArg _ hj).symm.trans hr).trans e

/-- The reference's array: the product. -/
theorem ref_eq : Cert.InEvenReferenceIdeal.Read.val_main_v4 (F := Ideal) (up 2048 2048 A) (sh 2048 1536 B)
    = up 2048 6144 fun s e => ∑ d ∈ range 2048, A s d * B d e := by
  funext j
  have j1 : (j 1).val < 6144 := (j 1).isLt
  refine (Cert.InEvenReferenceIdeal.Read.val_main_v4_apply _ _ j).trans (Eq.trans ?_ (sum_range fun d => A (j 0).val d * B d (j 1).val).symm)
  refine sum_congr rfl fun k _ => congrArg (A (j 0).val k.val * ·) ?_
  refine (Cert.InEvenReferenceIdeal.Read.val_main_v2_apply (F := Ideal) _ _).trans
    ((Cert.InEvenReferenceIdeal.Read.val_main_v1_apply (F := Ideal) _ _).trans (sh_at rfl _ ⟨?_, ?_⟩))
  · show (k.val * 6144 + (j 1).val) / 6144 = k.val
    omega
  · show 1536 * ((k.val * 6144 + (j 1).val) / 1536 % 4) + (k.val * 6144 + (j 1).val) % 1536 = (j 1).val
    omega

/-- The reference declares no semaphore, and its run leaves its arguments. -/
theorem frame_reference (m : (ℓ : Loc Cert.InEvenReferenceIdeal.nD Cert.InEvenReferenceIdeal.τ Cert.InEvenReferenceIdeal.sig) → Buf (Elt Ideal) ℓ)
    (g : Dev Cert.InEvenReferenceIdeal.nD → PrngReg) :
    θ_run (Cert.InEvenReferenceIdeal.defs (F := Ideal)) (onTc (τ := Cert.InEvenReferenceIdeal.τ) (Cert.InEvenReferenceIdeal.main (F := Ideal))) ⟨m, fun _ => 0, g⟩ (fun r => (∀ c : Dev Cert.InEvenReferenceIdeal.nD,
      r.2.mem ((c.tc : Thread Cert.InEvenReferenceIdeal.nD Cert.InEvenReferenceIdeal.τ).loc Cert.InEvenReferenceIdeal.main_arg0) = m ((c.tc : Thread Cert.InEvenReferenceIdeal.nD Cert.InEvenReferenceIdeal.τ).loc Cert.InEvenReferenceIdeal.main_arg0)
      ∧ r.2.mem ((c.tc : Thread Cert.InEvenReferenceIdeal.nD Cert.InEvenReferenceIdeal.τ).loc Cert.InEvenReferenceIdeal.main_arg1) = m ((c.tc : Thread Cert.InEvenReferenceIdeal.nD Cert.InEvenReferenceIdeal.τ).loc Cert.InEvenReferenceIdeal.main_arg1))
      ∧ r.2.sem = fun _ => 0) :=
  (θ_run Cert.InEvenReferenceIdeal.defs _ _).mono (fun r h => ⟨fun c => (h c).2, sem_eq_zero_of_no_sems (by decide) r.2⟩)
    (Cert.InEvenReferenceIdeal.Value.run (F := Ideal) m g)

/-- From memories that agree on the two arguments, the kernel and the reference end with the same array. -/
theorem algebraic : Cert.algebraic_InEvenIdeal_InEvenReferenceIdeal := by
  intro m g m' g' _ hagree
  refine ⟨fun c => (dats m 0 c).arrAt 2 cfg0.N, run_blocks m g,
    (θ_run Cert.InEvenReferenceIdeal.defs _ _).mono (fun r h c => ?_) (Cert.InEvenReferenceIdeal.Value.run (F := Ideal) m' g')⟩
  obtain ⟨e, a⟩ := h c
  obtain ⟨q0, q1⟩ := hagree c
  obtain ⟨A, hA⟩ := exists_up (by decide) (by decide) (m ((c.tc : Thread nD τ).loc main_arg0))
  obtain ⟨B, hB⟩ := exists_sh (by decide) (by decide) (m ((c.tc : Thread nD τ).loc main_arg1))
  refine ⟨(e.trans (Cert.InEvenReferenceIdeal.Read.val_main_v4_eq _ _)).trans ?_, a⟩
  rw [q0.trans hA, q1.trans hB, ref_eq]
  exact (array_eq A B m c hA hB).symm

end Cert.InEvenProof
-- ==== Proof.OutEven.lean ====
module
public import proofs.«01_k».proof.Defs
public import proofs.«01_k».proof.Proof.DxRef
public import Idealize.ShloMosaic.Lib.Pipeline.ValueKit
public import proofs.«01_k».proof.Proof.Gen.OutEvenIdeal.Value
public import proofs.«01_k».proof.Proof.Gen.OutEvenReferenceIdeal.Run
public import proofs.«01_k».proof.Proof.Gen.OutEvenReferenceIdeal.Read

/-! The even layer's output projection: the product with the weights, the residual stream with the product's normalised and
   scaled rows added, and that stream normalised and scaled again. The kernel does it in eight blocks of 256 rows. -/

@[expose] public section

set_option maxRecDepth 16384

noncomputable section

namespace Cert.OutProof

open Finset Cert.Norm

variable (Y W X : ℕ → ℕ → EReal) (G H : ℕ → EReal)

/-- The product with the weights. -/
def proj (t d : ℕ) : EReal := ∑ e ∈ range 2048, Y t e * W e d

/-- The residual stream with the product's normalised and scaled rows. -/
def stream (t d : ℕ) : EReal := X t d + hat (proj Y W t) d * G d

/-- The stream's normalised and scaled rows. -/
def normed (t d : ℕ) : EReal := hat (stream Y W X G t) d * H d

end Cert.OutProof

namespace Cert.OutEvenProof

open Idealize.ShloMosaic Idealize.SL Idealize.SL.Sem Cert.OutEvenIdeal Cert.OutEvenIdeal.Gen Cert.OutEvenIdeal.Value Cert.Arrays Cert.Norm Cert.OutProof Finset

variable (Y W X : ℕ → ℕ → EReal) (G H : ℕ → EReal)

/-! The body's arithmetic over a block of 256 rows. -/

theorem pay1_eq : k0_pay1 (F := Ideal) (up 256 2048 Y) (up 2048 2048 W) = up 256 2048 (proj Y W) := by
  unfold k0_pay1
  funext j
  idx_vars j
  pointwise
  simp only [up_ix2]
  exact (sum_range (fun e => Y j0.val e * W e j1.val)).symm

theorem pay2_eq : k0_pay2 (F := Ideal) (up 256 2048 Y) (up 2048 2048 W) (up 256 2048 X) (up 1 2048 fun _ d => G d) = up 256 2048 (stream Y W X G) := by
  unfold k0_pay2
  rw [pay1_eq]
  funext j
  idx_vars j
  pointwise
  simp only [up_ix2]
  rw [← sum_range (fun e => proj Y W _ e * proj Y W _ e)]
  rfl

theorem pay3_eq : k0_pay3 (F := Ideal) (up 256 2048 Y) (up 2048 2048 W) (up 256 2048 X) (up 1 2048 fun _ d => G d) (up 1 2048 fun _ d => H d)
    = up 256 2048 (normed Y W X G H) := by
  unfold k0_pay3
  rw [pay2_eq]
  funext j
  idx_vars j
  pointwise
  simp only [up_ix2]
  rw [← sum_range (fun e => stream Y W X G _ e * stream Y W X G _ e)]
  rfl

/-! The block numbers at a point, and where an element of a block lies in its array: the rows go by blocks of 256. -/

theorem index5 : ∀ t : Fin cfg0.N, win0_5.index t (0 : Fin 2) = t.val ∧ win0_5.index t (1 : Fin 2) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index3 : ∀ t : Fin cfg0.N, win0_3.index t (0 : Fin 2) = 0 ∧ win0_3.index t (1 : Fin 2) = 0 :=
  (by decide +kernel : ∀ t : Fin grid0.N, _)

theorem place5 (t : Fin cfg0.N) (y : (⟨2, ![256, 2048]⟩ : Shape).Idx) :
    (((cfg0.win 5).blk t).view.emb y 0).val = 256 * t.val + (y 0).val ∧ (((cfg0.win 5).blk t).view.emb y 1).val = (y 1).val := by
  have b0 : (((cfg0.win 5).blk t).view.emb y 0).val = win0_5.index t (0 : Fin 2) * 256 + 1 * (y 0).val := rfl
  have b1 : (((cfg0.win 5).blk t).view.emb y 1).val = win0_5.index t (1 : Fin 2) * 2048 + 1 * (y 1).val := rfl
  rw [b0, b1, (index5 t).1, (index5 t).2]
  omega

theorem place1 (t : Fin cfg0.N) (y : (⟨2, ![2048, 2048]⟩ : Shape).Idx) :
    (((cfg0.win 1).blk t).view.emb y 0).val = (y 0).val ∧ (((cfg0.win 1).blk t).view.emb y 1).val = (y 1).val := by
  have b0 : (((cfg0.win 1).blk t).view.emb y 0).val = win0_1.index t (0 : Fin 2) * 2048 + 1 * (y 0).val := rfl
  have b1 : (((cfg0.win 1).blk t).view.emb y 1).val = win0_1.index t (1 : Fin 2) * 2048 + 1 * (y 1).val := rfl
  rw [b0, b1, (index1 t).1, (index1 t).2]
  omega

theorem place3 (t : Fin cfg0.N) (y : (⟨2, ![1, 2048]⟩ : Shape).Idx) :
    (((cfg0.win 3).blk t).view.emb y 0).val = (y 0).val ∧ (((cfg0.win 3).blk t).view.emb y 1).val = (y 1).val := by
  have b0 : (((cfg0.win 3).blk t).view.emb y 0).val = win0_3.index t (0 : Fin 2) * 1 + 1 * (y 0).val := rfl
  have b1 : (((cfg0.win 3).blk t).view.emb y 1).val = win0_3.index t (1 : Fin 2) * 2048 + 1 * (y 1).val := rfl
  rw [b0, b1, (index3 t).1, (index3 t).2]
  omega

section arrays
variable (m : (ℓ : Loc nD τ sig) → Buf (Elt Ideal) ℓ) (c : Dev nD)

/-- What a grid point is given. -/
theorem ins (t : Fin cfg0.N) (h0 : m ((c.tc : Thread nD τ).loc main_arg0) = up 2048 2048 Y) (h1 : m ((c.tc : Thread nD τ).loc main_arg1) = up 2048 2048 W)
    (h2 : m ((c.tc : Thread nD τ).loc main_arg2) = up 2048 2048 X) (h3 : m ((c.tc : Thread nD τ).loc main_arg3) = up 1 2048 fun _ d => G d)
    (h4 : m ((c.tc : Thread nD τ).loc main_arg4) = up 1 2048 fun _ d => H d) :
    iblk m c 0 t = up 256 2048 (fun a => Y (256 * t.val + a)) ∧ iblk m c 1 t = up 2048 2048 W ∧ iblk m c 2 t = up 256 2048 (fun a => X (256 * t.val + a))
      ∧ iblk m c 3 t = up 1 2048 (fun _ d => G d) ∧ iblk m c 4 t = up 1 2048 (fun _ d => H d) :=
  ⟨funext fun y => up_at ((V_main_arg0 m c).trans h0) (((cfg0.win 0).blk t).view.emb y) (place5 t y),
    funext fun y => up_at ((V_main_arg1 m c).trans h1) (((cfg0.win 1).blk t).view.emb y) (place1 t y),
    funext fun y => up_at ((V_main_arg2 m c).trans h2) (((cfg0.win 2).blk t).view.emb y) (place5 t y),
    funext fun y => up_at ((V_main_arg3 m c).trans h3) (((cfg0.win 3).blk t).view.emb y) (place3 t y),
    funext fun y => up_at ((V_main_arg4 m c).trans h4) (((cfg0.win 4).blk t).view.emb y) (place3 t y)⟩

variable (h0 : m ((c.tc : Thread nD τ).loc main_arg0) = up 2048 2048 Y) (h1 : m ((c.tc : Thread nD τ).loc main_arg1) = up 2048 2048 W)
  (h2 : m ((c.tc : Thread nD τ).loc main_arg2) = up 2048 2048 X) (h3 : m ((c.tc : Thread nD τ).loc main_arg3) = up 1 2048 fun _ d => G d)
  (h4 : m ((c.tc : Thread nD τ).loc main_arg4) = up 1 2048 fun _ d => H d)
include h0 h1 h2 h3 h4

/-- What the kernel's three arrays hold. -/
theorem arrays_eq : (dats m 0 c).arrAt 5 cfg0.N = up 2048 2048 (proj Y W) ∧ (dats m 0 c).arrAt 6 cfg0.N = up 2048 2048 (stream Y W X G)
    ∧ (dats m 0 c).arrAt 7 cfg0.N = up 2048 2048 (normed Y W X G H) := by
  refine ⟨?_, ?_, ?_⟩
  · refine (dats m 0 c).arrAt_eq_of_covers 5 _ (by decide +kernel) fun t _ y => ?_
    obtain ⟨i0, i1, i2, i3, i4⟩ := ins Y W X G H m c t h0 h1 h2 h3 h4
    blk_simp
    rw [after0_5]
    frame_out
    rw [i0, i1, pay1_eq]
    exact (up_at (f := proj Y W) rfl _ (place5 t y)).symm
  · refine (dats m 0 c).arrAt_eq_of_covers 6 _ (by decide +kernel) fun t _ y => ?_
    obtain ⟨i0, i1, i2, i3, i4⟩ := ins Y W X G H m c t h0 h1 h2 h3 h4
    blk_simp
    rw [after0_6]
    frame_out
    rw [i0, i1, i2, i3, pay2_eq]
    exact (up_at (f := stream Y W X G) rfl _ (place5 t y)).symm
  · refine (dats m 0 c).arrAt_eq_of_covers 7 _ (by decide +kernel) fun t _ y => ?_
    obtain ⟨i0, i1, i2, i3, i4⟩ := ins Y W X G H m c t h0 h1 h2 h3 h4
    blk_simp
    rw [after0_7]
    frame_out
    rw [i0, i1, i2, i3, i4, pay3_eq]
    exact (up_at (f := normed Y W X G H) rfl _ (place5 t y)).symm

end arrays

section reference
open Cert.OutEvenReferenceIdeal.Read

theorem ref_proj : val_main_v2 (F := Ideal) (up 2048 2048 Y) (up 2048 2048 W) = up 2048 2048 (proj Y W) := by
  funext j
  rw [val_main_v2_apply]
  exact (sum_range fun e => Y (j 0).val e * W e (j 1).val).symm

theorem ref_stream : val_main_v15 (F := Ideal) (up 2048 2048 Y) (up 2048 2048 W) (up 2048 2048 X) (up 1 2048 fun _ d => G d) = up 2048 2048 (stream Y W X G) := by
  have e : val_main_v12 (F := Ideal) (up 2048 2048 Y) (up 2048 2048 W) = up 2048 2048 fun t d => hat (proj Y W t) d :=
    (congrArg Cert.DxOdd.hostHat (ref_proj Y W)).trans (Cert.DxOdd.hostHat_eq (proj Y W))
  funext j
  rw [val_main_v15_apply, val_main_v14_apply, val_main_v13_apply, e]
  rfl

theorem ref_normed : val_main_v28 (F := Ideal) (up 2048 2048 Y) (up 2048 2048 W) (up 2048 2048 X) (up 1 2048 fun _ d => G d) (up 1 2048 fun _ d => H d)
    = up 2048 2048 (normed Y W X G H) := by
  have e : val_main_v25 (F := Ideal) (up 2048 2048 Y) (up 2048 2048 W) (up 2048 2048 X) (up 1 2048 fun _ d => G d) = up 2048 2048 fun t d => hat (stream Y W X G t) d :=
    (congrArg Cert.DxOdd.hostHat (ref_stream Y W X G)).trans (Cert.DxOdd.hostHat_eq (stream Y W X G))
  funext j
  rw [val_main_v28_apply, val_main_v27_apply, val_main_v26_apply, e]
  rfl

end reference

/-- From memories that agree on the five arguments, the kernel and the reference end with the same three arrays. -/
theorem algebraic : Cert.algebraic_OutEvenIdeal_OutEvenReferenceIdeal := by
  intro m g m' g' _ hagree
  refine ⟨fun c => (dats m 0 c).arrAt 5 cfg0.N, fun c => (dats m 0 c).arrAt 6 cfg0.N, fun c => (dats m 0 c).arrAt 7 cfg0.N, run_blocks m g,
    (θ_run Cert.OutEvenReferenceIdeal.defs _ _).mono (fun r h c => ?_) (Cert.OutEvenReferenceIdeal.Value.run (F := Ideal) m' g')⟩
  obtain ⟨e0, e1, e2, a⟩ := h c
  obtain ⟨q0, q1, q2, q3, q4⟩ := hagree c
  obtain ⟨Y, hY⟩ := exists_up (by decide) (by decide) (m ((c.tc : Thread nD τ).loc main_arg0))
  obtain ⟨W, hW⟩ := exists_up (by decide) (by decide) (m ((c.tc : Thread nD τ).loc main_arg1))
  obtain ⟨X, hX⟩ := exists_up (by decide) (by decide) (m ((c.tc : Thread nD τ).loc main_arg2))
  obtain ⟨G, hG⟩ := exists_row (by decide) (m ((c.tc : Thread nD τ).loc main_arg3))
  obtain ⟨H, hH⟩ := exists_row (by decide) (m ((c.tc : Thread nD τ).loc main_arg4))
  obtain ⟨r0, r1, r2⟩ := arrays_eq Y W X G H m c hY hW hX hG hH
  refine ⟨(e0.trans (Cert.OutEvenReferenceIdeal.Read.val_main_v2_eq _ _)).trans ?_, (e1.trans (Cert.OutEvenReferenceIdeal.Read.val_main_v15_eq _ _ _ _)).trans ?_,
    (e2.trans (Cert.OutEvenReferenceIdeal.Read.val_main_v28_eq m' c)).trans ?_, a⟩
  · rw [q0.trans hY, q1.trans hW, ref_proj]
    exact r0.symm
  · rw [q0.trans hY, q1.trans hW, q2.trans hX, q3.trans hG, ref_stream]
    exact r1.symm
  · rw [q0.trans hY, q1.trans hW, q2.trans hX, q3.trans hG, q4.trans hH, ref_normed]
    exact r2.symm

end Cert.OutEvenProof
-- ==== Proof.OutOddBlock.lean ====
module
public import proofs.«01_k».proof.Proof.OutEven
public import proofs.«01_k».proof.Proof.DxBlock
public import proofs.«01_k».proof.Proof.Gen.OutOddIdeal.Value

/-! The arithmetic of the odd layer's output projection with the loss, over a block of 256 rows: the product, its normalised rows,
   the difference from the target, the loss, and the gradients. -/

@[expose] public section

set_option maxRecDepth 16384

noncomputable section

namespace Cert.OutOddProof

open Idealize.ShloMosaic Idealize.SL Idealize.SL.Sem Cert.OutOddIdeal Cert.OutOddIdeal.Gen Cert.Arrays Cert.Norm Cert.OutProof Finset
open Cert.DxOdd (colsum)

/-- One half, the inverse of the row's length, two and one, as the programs write them. -/
abbrev half : EReal := Ideal.ofBits .f32 0x3F000000#32
abbrev inv : EReal := Ideal.ofBits .f32 0x3A000000#32
abbrev two : EReal := Ideal.ofBits .f32 0x40000000#32
abbrev one : EReal := Ideal.ofBits .f32 0x3F800000#32

theorem half_eq : half = ((1 / 2 : ℝ) : EReal) := by simp [Ideal.ofBits, Ideal.ieee, -EReal.coe_mul]; norm_num
theorem inv_eq : inv = ((1 / 2048 : ℝ) : EReal) := by simp [Ideal.ofBits, Ideal.ieee, -EReal.coe_mul]; norm_num
theorem two_eq : two = ((2 : ℝ) : EReal) := by simp [Ideal.ofBits, Ideal.ieee, -EReal.coe_mul]; norm_num
theorem one_eq : one = ((1 : ℝ) : EReal) := by simp [Ideal.ofBits, Ideal.ieee, -EReal.coe_mul]

/-- The derivative of half the mean square, written as the kernel has it and as the chain rule has it. -/
theorem chain (a : EReal) : Ideal.div (half * one) len * (two * a) = a * inv := by
  rw [div_len, half_eq, one_eq, two_eq, inv_eq, ← mul_assoc, ← EReal.coe_mul, ← EReal.coe_mul, ← EReal.coe_mul, mul_comm]
  congr 2
  norm_num

variable (Y W X T : ℕ → ℕ → EReal) (G : ℕ → EReal)

/-- The difference between the stream and the target. -/
def diff (t d : ℕ) : EReal := stream Y W X G t d - T t d

/-- A row's mean square difference. -/
def rowLoss (t : ℕ) : EReal := Ideal.div (∑ e ∈ range 2048, diff Y W X T G t e * diff Y W X T G t e) len

/-- Half of the first `n` blocks' row losses. -/
def lossUpTo (n : ℕ) : EReal := half * ∑ t ∈ range (256 * n), rowLoss Y W X T G t

/-- The gradient at the stream. -/
def DX (t d : ℕ) : EReal := diff Y W X T G t d * inv

/-- The gradient at the product. -/
def DO (t d : ℕ) : EReal := back (proj Y W t) (fun e => DX Y W X T G t e * G e) d

theorem lossUpTo_succ (n : ℕ) :
    lossUpTo Y W X T G n + half * ∑ t ∈ range 256, rowLoss Y W X T G (256 * n + t) = lossUpTo Y W X T G (n + 1) := by
  unfold lossUpTo
  rw [Nat.mul_succ, sum_range_add, half_eq, mul_add_coe (by norm_num)]

/-! The body's arithmetic. -/

theorem pay6_eq : k0_pay6 (F := Ideal) (up 256 2048 Y) (up 2048 2048 W) = up 256 2048 (proj Y W) := by
  unfold k0_pay6
  funext j
  idx_vars j
  pointwise
  simp only [up_ix2]
  exact (sum_range (fun e => Y j0.val e * W e j1.val)).symm

theorem pay7_eq : k0_pay7 (F := Ideal) (up 256 2048 Y) (up 2048 2048 W) = up 256 1 fun t _ => rs (proj Y W t) := by
  unfold k0_pay7
  rw [pay6_eq]
  exact Cert.DxOdd.pay9_eq (proj Y W)

theorem pay8_eq : k0_pay8 (F := Ideal) (up 256 2048 Y) (up 2048 2048 W) = up 256 2048 fun t d => hat (proj Y W t) d := by
  unfold k0_pay8
  rw [pay6_eq, pay7_eq]
  funext j
  idx_vars j
  pointwise
  simp only [up_ix2]
  rfl

theorem pay9_eq : k0_pay9 (F := Ideal) (up 256 2048 Y) (up 2048 2048 W) (up 1 2048 fun _ d => G d) (up 256 2048 X) (up 256 2048 T)
    = up 256 2048 (diff Y W X T G) := by
  unfold k0_pay9
  rw [pay8_eq]
  funext j
  idx_vars j
  pointwise
  simp only [up_ix2]
  rfl

theorem pay10_eq : k0_pay10 (F := Ideal) (up 256 2048 Y) (up 2048 2048 W) (up 1 2048 fun _ d => G d) (up 256 2048 X) (up 256 2048 T)
    = up 8 128 fun _ _ => half * ∑ t ∈ range 256, rowLoss Y W X T G t := by
  unfold k0_pay10
  rw [pay9_eq]
  funext j
  idx_vars j
  pointwise
  simp only [up_ix2]
  rw [sum_range]
  refine congrArg (half * ·) (sum_congr rfl fun k _ => ?_)
  unfold rowLoss
  rw [sum_range]

theorem pay2_eq : k0_pay2 (F := Ideal) (up 256 2048 (diff Y W X T G)) = up 256 2048 (DX Y W X T G) := rfl

theorem pay3_eq : k0_pay3 (F := Ideal) (up 256 2048 fun t d => hat (proj Y W t) d) (up 256 2048 (diff Y W X T G))
    = up 1 2048 fun _ d => ∑ t ∈ range 256, DX Y W X T G t d * hat (proj Y W t) d := by
  unfold k0_pay3
  rw [pay2_eq]
  funext j
  idx_vars j
  pointwise
  simp only [up_ix2]
  exact (sum_range (fun t => DX Y W X T G t _ * hat (proj Y W t) _)).symm

theorem pay4_eq : k0_pay4 (F := Ideal) (up 256 1 fun t _ => rs (proj Y W t)) (up 256 2048 fun t d => hat (proj Y W t) d) (up 1 2048 fun _ d => G d)
    (up 256 2048 (diff Y W X T G)) = up 256 2048 (DO Y W X T G) := by
  unfold k0_pay4
  rw [pay2_eq]
  funext j
  idx_vars j
  pointwise
  simp only [up_ix2]
  rw [← sum_range (fun e => DX Y W X T G _ e * G e * hat (proj Y W _) e)]
  rfl

end Cert.OutOddProof
-- ==== Proof.OutOdd.lean ====
module
public import proofs.«01_k».proof.Defs
public import proofs.«01_k».proof.Proof.DxRef
public import proofs.«01_k».proof.Proof.OutOddBlock
public import proofs.«01_k».proof.Proof.Loads
public import Idealize.ShloMosaic.Lib.Pipeline.ValueKit
public import proofs.«01_k».proof.Proof.Gen.OutOddReferenceIdeal.Run
public import proofs.«01_k».proof.Proof.Gen.OutOddReferenceIdeal.Read

/-! The odd layer's output projection with the loss: the eight grid points of 256 rows each, what is held between them, and what
   the four result arrays hold. -/

@[expose] public section

set_option maxRecDepth 16384

noncomputable section

namespace Cert.OutOddProof

open Idealize.ShloMosaic Idealize.SL Idealize.SL.Sem Cert.OutOddIdeal Cert.OutOddIdeal.Gen Cert.OutOddIdeal.Value Cert.Arrays Cert.Loads Cert.Norm Cert.OutProof Finset
open Cert.DxOdd (colsum colsum_succ)

variable (Y W X T : ℕ → ℕ → EReal) (G : ℕ → EReal)

/-! The block numbers at a point, and where an element of a block lies in its array: the rows go by blocks of 256. -/

theorem index5 : ∀ t : Fin cfg0.N, win0_5.index t (0 : Fin 2) = t.val ∧ win0_5.index t (1 : Fin 2) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index3 : ∀ t : Fin cfg0.N, win0_3.index t (0 : Fin 2) = 0 ∧ win0_3.index t (1 : Fin 2) = 0 :=
  (by decide +kernel : ∀ t : Fin grid0.N, _)

theorem place5 (t : Fin cfg0.N) (y : (⟨2, ![256, 2048]⟩ : Shape).Idx) :
    (((cfg0.win 5).blk t).view.emb y 0).val = 256 * t.val + (y 0).val ∧ (((cfg0.win 5).blk t).view.emb y 1).val = (y 1).val := by
  have b0 : (((cfg0.win 5).blk t).view.emb y 0).val = win0_5.index t (0 : Fin 2) * 256 + 1 * (y 0).val := rfl
  have b1 : (((cfg0.win 5).blk t).view.emb y 1).val = win0_5.index t (1 : Fin 2) * 2048 + 1 * (y 1).val := rfl
  rw [b0, b1, (index5 t).1, (index5 t).2]
  omega

theorem place1 (t : Fin cfg0.N) (y : (⟨2, ![2048, 2048]⟩ : Shape).Idx) :
    (((cfg0.win 1).blk t).view.emb y 0).val = (y 0).val ∧ (((cfg0.win 1).blk t).view.emb y 1).val = (y 1).val := by
  have b0 : (((cfg0.win 1).blk t).view.emb y 0).val = win0_1.index t (0 : Fin 2) * 2048 + 1 * (y 0).val := rfl
  have b1 : (((cfg0.win 1).blk t).view.emb y 1).val = win0_1.index t (1 : Fin 2) * 2048 + 1 * (y 1).val := rfl
  rw [b0, b1, (index1 t).1, (index1 t).2]
  omega

theorem place3 (t : Fin cfg0.N) (y : (⟨2, ![1, 2048]⟩ : Shape).Idx) :
    (((cfg0.win 3).blk t).view.emb y 0).val = (y 0).val ∧ (((cfg0.win 3).blk t).view.emb y 1).val = (y 1).val := by
  have b0 : (((cfg0.win 3).blk t).view.emb y 0).val = win0_3.index t (0 : Fin 2) * 1 + 1 * (y 0).val := rfl
  have b1 : (((cfg0.win 3).blk t).view.emb y 1).val = win0_3.index t (1 : Fin 2) * 2048 + 1 * (y 1).val := rfl
  rw [b0, b1, (index3 t).1, (index3 t).2]
  omega

/-! What a point's arithmetic gives on its blocks: block `n` of the rows. -/

theorem block_diff (n : ℕ) :
    k0_pay9 (F := Ideal) (up 256 2048 fun a => Y (256 * n + a)) (up 2048 2048 W) (up 1 2048 fun _ d => G d) (up 256 2048 fun a => X (256 * n + a))
      (up 256 2048 fun a => T (256 * n + a)) = up 256 2048 (fun a => diff Y W X T G (256 * n + a)) := pay9_eq _ W _ _ G

theorem block_hat (n : ℕ) :
    k0_pay8 (F := Ideal) (up 256 2048 fun a => Y (256 * n + a)) (up 2048 2048 W) = up 256 2048 (fun a d => hat (proj Y W (256 * n + a)) d) := pay8_eq _ W

theorem block_col (n : ℕ) :
    k0_pay3 (F := Ideal) (up 256 2048 fun a d => hat (proj Y W (256 * n + a)) d) (up 256 2048 fun a => diff Y W X T G (256 * n + a))
      = up 1 2048 fun _ d => ∑ t ∈ range 256, DX Y W X T G (256 * n + t) d * hat (proj Y W (256 * n + t)) d :=
  pay3_eq (fun a => Y (256 * n + a)) W (fun a => X (256 * n + a)) (fun a => T (256 * n + a)) G

theorem block_do (n : ℕ) :
    k0_pay4 (F := Ideal) (k0_pay7 (F := Ideal) (up 256 2048 fun a => Y (256 * n + a)) (up 2048 2048 W)) (up 256 2048 fun a d => hat (proj Y W (256 * n + a)) d)
      (up 1 2048 fun _ d => G d) (up 256 2048 fun a => diff Y W X T G (256 * n + a)) = up 256 2048 (fun a => DO Y W X T G (256 * n + a)) := by
  rw [pay7_eq]
  exact pay4_eq (fun a => Y (256 * n + a)) W (fun a => X (256 * n + a)) (fun a => T (256 * n + a)) G

theorem block_loss (n : ℕ) :
    k0_pay10 (F := Ideal) (up 256 2048 fun a => Y (256 * n + a)) (up 2048 2048 W) (up 1 2048 fun _ d => G d) (up 256 2048 fun a => X (256 * n + a))
      (up 256 2048 fun a => T (256 * n + a)) = up 8 128 (fun _ _ => half * ∑ t ∈ range 256, rowLoss Y W X T G (256 * n + t)) := pay10_eq _ W _ _ G

section arrays
variable (m : (ℓ : Loc nD τ sig) → Buf (Elt Ideal) ℓ) (c : Dev nD)
variable (h0 : m ((c.tc : Thread nD τ).loc main_arg0) = up 2048 2048 Y) (h1 : m ((c.tc : Thread nD τ).loc main_arg1) = up 2048 2048 W)
  (h2 : m ((c.tc : Thread nD τ).loc main_arg2) = up 2048 2048 X) (h3 : m ((c.tc : Thread nD τ).loc main_arg3) = up 1 2048 fun _ d => G d)
  (h4 : m ((c.tc : Thread nD τ).loc main_arg4) = up 2048 2048 T)
include h0 h1 h2 h3 h4

/-- What a grid point is given. -/
theorem ins (t : Fin cfg0.N) :
    iblk m c 0 t = up 256 2048 (fun a => Y (256 * t.val + a)) ∧ iblk m c 1 t = up 2048 2048 W ∧ iblk m c 2 t = up 256 2048 (fun a => X (256 * t.val + a))
      ∧ iblk m c 3 t = up 1 2048 (fun _ d => G d) ∧ iblk m c 4 t = up 256 2048 (fun a => T (256 * t.val + a)) :=
  ⟨funext fun y => up_at ((V_main_arg0 m c).trans h0) (((cfg0.win 0).blk t).view.emb y) (place5 t y),
    funext fun y => up_at ((V_main_arg1 m c).trans h1) (((cfg0.win 1).blk t).view.emb y) (place1 t y),
    funext fun y => up_at ((V_main_arg2 m c).trans h2) (((cfg0.win 2).blk t).view.emb y) (place5 t y),
    funext fun y => up_at ((V_main_arg3 m c).trans h3) (((cfg0.win 3).blk t).view.emb y) (place3 t y),
    funext fun y => up_at ((V_main_arg4 m c).trans h4) (((cfg0.win 4).blk t).view.emb y) (place5 t y)⟩

/-- What a point leaves in the two arrays it writes once: the gradients at its rows. -/
theorem rows (t : Fin cfg0.N) : (outsAt0 m c t.val t.isLt).1 = up 256 2048 (fun a => DO Y W X T G (256 * t.val + a))
    ∧ (outsAt0 m c t.val t.isLt).2.1 = up 256 2048 (fun a => DX Y W X T G (256 * t.val + a)) := by
  obtain ⟨i0, i1, i2, i3, i4⟩ := ins Y W X T G m c h0 h1 h2 h3 h4 t
  have hN : t.val < 8 := lt_of_lt_of_eq t.isLt N_0
  by_cases k0 : t.val % 8 = 0
  · have k1 : ¬1 ≤ t.val := by omega
    rw [outsAt0_A m c t k0 k1 k0 k1]
    constructor
    · frame_out
      rw [i0, i1, i2, i3, i4, block_diff, block_hat, block_do]
    · frame_out
      rw [i0, i1, i2, i3, i4, block_diff]
      rfl
  · have k1 : 1 ≤ t.val := by omega
    rw [outsAt0_B m c t k0 k1 k0 k1]
    constructor
    · frame_out
      rw [i0, i1, i2, i3, i4, block_diff, block_hat, block_do]
    · frame_out
      rw [i0, i1, i2, i3, i4, block_diff]
      rfl

/-- What a point leaves in the two arrays that go on from point to point: the sums over the blocks done. -/
theorem sums : ∀ (n : ℕ) (hn : n < cfg0.N), (outsAt0 m c n hn).2.2.1 = up 8 128 (fun _ _ => lossUpTo Y W X T G (n + 1))
    ∧ (outsAt0 m c n hn).2.2.2 = up 1 2048 (fun _ => colsum (DX Y W X T G) (proj Y W) (n + 1)) := by
  intro n
  induction n with
  | zero =>
    intro hn
    obtain ⟨i0, i1, i2, i3, i4⟩ := ins Y W X T G m c h0 h1 h2 h3 h4 ⟨0, hn⟩
    rw [outsAt0_A m c ⟨0, hn⟩ rfl (Nat.not_succ_le_zero 0) rfl (Nat.not_succ_le_zero 0)]
    constructor
    · frame_out
      rw [i0, i1, i2, i3, i4, block_loss]
      simp only [Nat.mul_zero, Nat.zero_add]
      rfl
    · frame_out
      rw [i0, i1, i2, i3, i4, block_diff, block_hat, block_col]
      simp only [Nat.mul_zero, Nat.zero_add]
      rfl
  | succ n ih =>
    intro hn
    have hN : n + 1 < 8 := lt_of_lt_of_eq hn N_0
    obtain ⟨i0, i1, i2, i3, i4⟩ := ins Y W X T G m c h0 h1 h2 h3 h4 ⟨n + 1, hn⟩
    obtain ⟨s7, s8⟩ := ih (Nat.lt_of_succ_lt hn)
    have k0 : ¬(n + 1) % 8 = 0 := by omega
    have k1 : 1 ≤ n + 1 := by omega
    rw [outsAt0_B m c ⟨n + 1, hn⟩ k0 k1 k0 k1]
    simp only [Nat.add_sub_cancel]
    rw [s7, s8]
    constructor
    · frame_out
      rw [i0, i1, i2, i3, i4, block_loss]
      unfold k0_pay1
      rw [shapeCast_self]
      funext j
      exact lossUpTo_succ Y W X T G (n + 1)
    · frame_out
      rw [i0, i1, i2, i3, i4, block_diff, block_hat]
      unfold k0_pay5
      rw [shapeCast_self, block_col]
      funext j
      exact colsum_succ (proj Y W) (DX Y W X T G) (n + 1) _

/-- What the kernel's four arrays hold. -/
theorem arrays_eq : (dats m 0 c).arrAt 5 cfg0.N = up 2048 2048 (DO Y W X T G) ∧ (dats m 0 c).arrAt 6 cfg0.N = up 2048 2048 (DX Y W X T G)
    ∧ (dats m 0 c).arrAt 7 cfg0.N = up 8 128 (fun _ _ => lossUpTo Y W X T G 8)
    ∧ (dats m 0 c).arrAt 8 cfg0.N = up 1 2048 (fun _ => colsum (DX Y W X T G) (proj Y W) 8) := by
  refine ⟨?_, ?_, ?_, ?_⟩
  · refine (dats m 0 c).arrAt_eq_of_covers 5 _ (by decide +kernel) fun t _ y => ?_
    blk_simp
    rw [after0_5, (rows Y W X T G m c h0 h1 h2 h3 h4 t).1]
    exact (up_at (f := DO Y W X T G) rfl _ (place5 t y)).symm
  · refine (dats m 0 c).arrAt_eq_of_covers 6 _ (by decide +kernel) fun t _ y => ?_
    blk_simp
    rw [after0_6, (rows Y W X T G m c h0 h1 h2 h3 h4 t).2]
    exact (up_at (f := DX Y W X T G) rfl _ (place5 t y)).symm
  · refine (dats m 0 c).arrAt_eq_of_after_last 7 ⟨7, by decide +kernel⟩ (by decide +kernel) _ fun j => ?_
    exact congrFun ((after0_7 m c _).trans (sums Y W X T G m c h0 h1 h2 h3 h4 7 _).1) j
  · refine (dats m 0 c).arrAt_eq_of_after_last 8 ⟨7, by decide +kernel⟩ (by decide +kernel) _ fun j => ?_
    exact congrFun ((after0_8 m c _).trans (sums Y W X T G m c h0 h1 h2 h3 h4 7 _).2) j

end arrays

section reference
open Cert.OutOddReferenceIdeal.Read

theorem ref_proj : val_main_v2 (F := Ideal) (up 2048 2048 Y) (up 2048 2048 W) = up 2048 2048 (proj Y W) := by
  funext j
  rw [val_main_v2_apply]
  exact (sum_range fun e => Y (j 0).val e * W e (j 1).val).symm

theorem ref_diff : val_main_v19 (F := Ideal) (up 2048 2048 Y) (up 2048 2048 W) (up 2048 2048 X) (up 1 2048 fun _ d => G d) (up 2048 2048 T)
    = up 2048 2048 (diff Y W X T G) := by
  have e : val_main_v15 (F := Ideal) (up 2048 2048 Y) (up 2048 2048 W) = up 2048 2048 fun t d => hat (proj Y W t) d :=
    (congrArg Cert.DxOdd.hostHat (ref_proj Y W)).trans (Cert.DxOdd.hostHat_eq (proj Y W))
  funext j
  rw [val_main_v19_apply, val_main_v18_apply, val_main_v17_apply, val_main_v16_apply, e]
  rfl

theorem ref_dx : val_main_v33 (F := Ideal) (up 2048 2048 Y) (up 2048 2048 W) (up 2048 2048 X) (up 1 2048 fun _ d => G d) (up 2048 2048 T)
    = up 2048 2048 (DX Y W X T G) := by
  funext j
  rw [val_main_v33_apply, val_main_v32_apply, val_main_v22_apply, ref_diff]
  exact chain (diff Y W X T G (j 0).val (j 1).val)

theorem ref_do : val_main_v53 (F := Ideal) (up 2048 2048 Y) (up 2048 2048 W) (up 2048 2048 X) (up 1 2048 fun _ d => G d) (up 2048 2048 T)
    = up 2048 2048 (DO Y W X T G) := by
  have e : val_main_v38 (F := Ideal) (up 2048 2048 Y) (up 2048 2048 W) (up 2048 2048 X) (up 1 2048 fun _ d => G d) (up 2048 2048 T)
      = up 2048 2048 fun t d => DX Y W X T G t d * G d := by
    funext j
    rw [val_main_v38_apply, val_main_v37_apply, ref_dx]
    rfl
  exact (congrArg₂ Cert.DxOdd.hostSteps (ref_proj Y W) e).trans (Cert.DxOdd.hostSteps_eq (proj Y W) fun t d => DX Y W X T G t d * G d)

theorem ref_col : val_main_v36 (F := Ideal) (up 2048 2048 Y) (up 2048 2048 W) (up 2048 2048 X) (up 1 2048 fun _ d => G d) (up 2048 2048 T)
    = up 1 2048 fun _ => colsum (DX Y W X T G) (proj Y W) 8 :=
  (congrArg₂ Cert.DxOdd.hostCol (ref_proj Y W) (ref_dx Y W X T G)).trans (Cert.DxOdd.hostCol_eq (proj Y W) (DX Y W X T G))

theorem ref_loss : val_main_v54 (F := Ideal) (up 2048 2048 Y) (up 2048 2048 W) (up 2048 2048 X) (up 1 2048 fun _ d => G d) (up 2048 2048 T)
    = up 8 128 fun _ _ => lossUpTo Y W X T G 8 := by
  funext j
  rw [val_main_v54_apply, val_main_v27_apply, val_main_v26_apply]
  have e : ∀ k : (⟨1, ![2048]⟩ : Shape).Idx, val_main_v25 (F := Ideal) (up 2048 2048 Y) (up 2048 2048 W) (up 2048 2048 X) (up 1 2048 fun _ d => G d) (up 2048 2048 T) k
      = rowLoss Y W X T G (k 0).val := fun k => by
    rw [val_main_v25_apply, val_main_v23_apply]
    simp only [val_main_v20_apply, ref_diff]
    unfold rowLoss
    rw [sum_range]
    exact congrArg (Ideal.div · len) ((congrArg (· + _) Ideal.ofBits_zero_f32).trans (zero_add _))
  rw [Finset.sum_congr rfl fun k _ => e k]
  refine congrArg (half * ·) (((congrArg (· + _) Ideal.ofBits_zero_f32).trans (zero_add _)).trans ?_)
  rw [sum_idx1]
  exact (sum_range fun t => rowLoss Y W X T G t).symm

end reference

/-- From memories that agree on the five arguments, the kernel and the reference end with the same four arrays. -/
theorem algebraic : Cert.algebraic_OutOddIdeal_OutOddReferenceIdeal := by
  intro m g m' g' _ hagree
  refine ⟨fun c => (dats m 0 c).arrAt 5 cfg0.N, fun c => (dats m 0 c).arrAt 6 cfg0.N, fun c => (dats m 0 c).arrAt 7 cfg0.N, fun c => (dats m 0 c).arrAt 8 cfg0.N,
    run_blocks m g, (θ_run Cert.OutOddReferenceIdeal.defs _ _).mono (fun r h c => ?_) (Cert.OutOddReferenceIdeal.Value.run (F := Ideal) m' g')⟩
  obtain ⟨e0, e1, e2, e3, a⟩ := h c
  obtain ⟨q0, q1, q2, q3, q4⟩ := hagree c
  obtain ⟨Y, hY⟩ := exists_up (by decide) (by decide) (m ((c.tc : Thread nD τ).loc main_arg0))
  obtain ⟨W, hW⟩ := exists_up (by decide) (by decide) (m ((c.tc : Thread nD τ).loc main_arg1))
  obtain ⟨X, hX⟩ := exists_up (by decide) (by decide) (m ((c.tc : Thread nD τ).loc main_arg2))
  obtain ⟨G, hG⟩ := exists_row (by decide) (m ((c.tc : Thread nD τ).loc main_arg3))
  obtain ⟨T, hT⟩ := exists_up (by decide) (by decide) (m ((c.tc : Thread nD τ).loc main_arg4))
  obtain ⟨r0, r1, r2, r3⟩ := arrays_eq Y W X T G m c hY hW hX hG hT
  refine ⟨(e0.trans (Cert.OutOddReferenceIdeal.Read.val_main_v53_eq m' c)).trans ?_, (e1.trans (Cert.OutOddReferenceIdeal.Read.val_main_v33_eq _ _ _ _ _)).trans ?_,
    (e2.trans (Cert.OutOddReferenceIdeal.Read.val_main_v54_eq _ _ _ _ _)).trans ?_, (e3.trans (Cert.OutOddReferenceIdeal.Read.val_main_v36_eq _ _ _ _ _)).trans ?_, a⟩
  · rw [q0.trans hY, q1.trans hW, q2.trans hX, q3.trans hG, q4.trans hT, ref_do]
    exact r0.symm
  · rw [q0.trans hY, q1.trans hW, q2.trans hX, q3.trans hG, q4.trans hT, ref_dx]
    exact r1.symm
  · rw [q0.trans hY, q1.trans hW, q2.trans hX, q3.trans hG, q4.trans hT, ref_loss]
    exact r2.symm
  · rw [q0.trans hY, q1.trans hW, q2.trans hX, q3.trans hG, q4.trans hT, ref_col]
    exact r3.symm

end Cert.OutOddProof
-- ==== Proof.Adam.lean ====
module
public import proofs.«01_k».proof.Defs
public import proofs.«01_k».proof.Proof.Scalars
public import proofs.«01_k».proof.Proof.Gen.AdamInEvenIdeal.Value
public import proofs.«01_k».proof.Proof.Gen.AdamInEvenReferenceIdeal.Run
public import proofs.«01_k».proof.Proof.Gen.AdamPoolIdeal.Value
public import proofs.«01_k».proof.Proof.Gen.AdamPoolReferenceIdeal.Run
public import proofs.«01_k».proof.Proof.Gen.AdamPoolScaleIdeal.Value
public import proofs.«01_k».proof.Proof.Gen.AdamPoolScaleReferenceIdeal.Run
public import proofs.«01_k».proof.Proof.Gen.AdamOutIdeal.Value
public import proofs.«01_k».proof.Proof.Gen.AdamOutReferenceIdeal.Run
public import proofs.«01_k».proof.Proof.Gen.AdamNormIdeal.Value
public import proofs.«01_k».proof.Proof.Gen.AdamNormReferenceIdeal.Run
public import proofs.«01_k».proof.Proof.Gen.AdamNormOddIdeal.Value
public import proofs.«01_k».proof.Proof.Gen.AdamNormOddReferenceIdeal.Run
public import proofs.«01_k».proof.Proof.Gen.AdamInOddIdeal.Value
public import proofs.«01_k».proof.Proof.Gen.AdamInOddReferenceIdeal.Run
public import proofs.«01_k».proof.Proof.Gen.AdamShortIdeal.Value
public import proofs.«01_k».proof.Proof.Gen.AdamShortReferenceIdeal.Run
public import proofs.«01_k».proof.Proof.Gen.AdamLongIdeal.Value
public import proofs.«01_k».proof.Proof.Gen.AdamLongReferenceIdeal.Run
public import proofs.«01_k».proof.Proof.Gen.AdamBiasIdeal.Value
public import proofs.«01_k».proof.Proof.Gen.AdamBiasReferenceIdeal.Run

/-! The optimiser's step, at the shape of every weight on its device: the two running means `β₁ m + (1 - β₁) g` and
   `β₂ v + (1 - β₂) g²`, and the change of the weight that they give. The kernel takes an array in blocks of 256 rows or whole;
   its blocks tile the array. Entry by entry the means are the reference's as they stand. In the change the kernel multiplies
   each mean by a named factor, where the reference divides by a float word: the factor is that word's reciprocal. -/

@[expose] public section

set_option maxRecDepth 16384

namespace Cert.AdamProof

open Idealize.ShloMosaic Idealize.SL Idealize.SL.Sem

/-- The change at an entry: a product with the reciprocal of a word is the quotient by it. -/
theorem change {κ : String → Option EReal} (hm : κ "unbias_m" = some (((5463681 / 8388608)⁻¹ : ℝ) : EReal))
    (hv : κ "unbias_v" = some (((2672307 / 268435456)⁻¹ : ℝ) : EReal)) (w m v : Ideal .f32) :
    FloatOps.mulf (Scalar.ofBits .f32 0xBA83126F#32)
      (FloatOps.addf
        (FloatOps.divf (FloatOps.mulf m (Named.named κ "unbias_m" 0x3FC48605#32))
          (FloatOps.addf (FloatOps.sqrt (FloatOps.mulf v (Named.named κ "unbias_v" 0x42C8E6D3#32)))
            (Scalar.ofBits .f32 0x322BCC77#32)))
        (FloatOps.mulf (Scalar.ofBits .f32 0x3C23D70A#32) w))
    = FloatOps.mulf (Scalar.ofBits .f32 0xBA83126F#32)
      (FloatOps.addf
        (FloatOps.hostDivf (FloatOps.hostDivf m (Scalar.ofBits .f32 0x3F26BD02#32))
          (FloatOps.addf (FloatOps.hostUnary .sqrt (FloatOps.hostDivf v (Scalar.ofBits .f32 0x3C231ACC#32)))
            (Scalar.ofBits .f32 0x322BCC77#32)))
        (FloatOps.mulf (Scalar.ofBits .f32 0x3C23D70A#32) w)) := by
  have em : FloatOps.mulf m (Named.named κ "unbias_m" 0x3FC48605#32) = FloatOps.hostDivf m (Scalar.ofBits .f32 0x3F26BD02#32) := by
    rw [IdealRules.named_const.ideal_named_scalar _ _ _ _ hm]
    show _ = Ideal.div m (Ideal.ofBits .f32 0x3F26BD02#32)
    rw [Cert.Sba.ofBits_mean, Ideal.div_coe (by norm_num), one_div]
    rfl
  have ev : FloatOps.mulf v (Named.named κ "unbias_v" 0x42C8E6D3#32) = FloatOps.hostDivf v (Scalar.ofBits .f32 0x3C231ACC#32) := by
    rw [IdealRules.named_const.ideal_named_scalar _ _ _ _ hv]
    show _ = Ideal.div v (Ideal.ofBits .f32 0x3C231ACC#32)
    rw [Cert.Sba.ofBits_square, Ideal.div_coe (by norm_num), one_div]
    rfl
  rw [em, ev]
  rfl

/-- At the even layer's input weights. -/
theorem in_even : Cert.algebraic_AdamInEvenIdeal_AdamInEvenReferenceIdeal := by
  intro m g m' g' _ hagree
  refine ⟨_, _, _, Cert.AdamInEvenIdeal.Value.run m g, (θ_run _ _ _).mono (fun _ h c => ?_) (Cert.AdamInEvenReferenceIdeal.Value.run m' g')⟩
  obtain ⟨e, e0, e1, a⟩ := h c
  obtain ⟨q0, q1, q2, q3⟩ := hagree c
  rw [q0, q1, q2, q3] at e
  rw [q1, q2] at e0
  rw [q1, q3] at e1
  exact ⟨e.trans (funext fun _ => (change rfl rfl _ _ _).symm), e0, e1, a⟩

theorem kept_in_even : Cert.preserves_AdamInEven_AdamInEvenIdeal :=
  ⟨IdealRules.named_const.statement _ _ _ _ _ rfl, IdealRules.named_const.statement _ _ _ _ _ rfl⟩

/-- At the pooling weights. -/
theorem pool : Cert.algebraic_AdamPoolIdeal_AdamPoolReferenceIdeal := by
  intro m g m' g' _ hagree
  refine ⟨_, _, _, Cert.AdamPoolIdeal.Value.run m g, (θ_run _ _ _).mono (fun _ h c => ?_) (Cert.AdamPoolReferenceIdeal.Value.run m' g')⟩
  obtain ⟨e, e0, e1, a⟩ := h c
  obtain ⟨q0, q1, q2, q3⟩ := hagree c
  rw [q0, q1, q2, q3] at e
  rw [q1, q2] at e0
  rw [q1, q3] at e1
  exact ⟨e.trans (funext fun _ => (change rfl rfl _ _ _).symm), e0, e1, a⟩

theorem kept_pool : Cert.preserves_AdamPool_AdamPoolIdeal :=
  ⟨IdealRules.named_const.statement _ _ _ _ _ rfl, IdealRules.named_const.statement _ _ _ _ _ rfl⟩

/-- At the pooling scale. -/
theorem pool_scale : Cert.algebraic_AdamPoolScaleIdeal_AdamPoolScaleReferenceIdeal := by
  intro m g m' g' _ hagree
  refine ⟨_, _, _, Cert.AdamPoolScaleIdeal.Value.run m g, (θ_run _ _ _).mono (fun _ h c => ?_) (Cert.AdamPoolScaleReferenceIdeal.Value.run m' g')⟩
  obtain ⟨e, e0, e1, a⟩ := h c
  obtain ⟨q0, q1, q2, q3⟩ := hagree c
  rw [q0, q1, q2, q3] at e
  rw [q1, q2] at e0
  rw [q1, q3] at e1
  exact ⟨e.trans (funext fun _ => (change rfl rfl _ _ _).symm), e0, e1, a⟩

theorem kept_pool_scale : Cert.preserves_AdamPoolScale_AdamPoolScaleIdeal :=
  ⟨IdealRules.named_const.statement _ _ _ _ _ rfl, IdealRules.named_const.statement _ _ _ _ _ rfl⟩

/-- At either layer's output weights. -/
theorem out : Cert.algebraic_AdamOutIdeal_AdamOutReferenceIdeal := by
  intro m g m' g' _ hagree
  refine ⟨_, _, _, Cert.AdamOutIdeal.Value.run m g, (θ_run _ _ _).mono (fun _ h c => ?_) (Cert.AdamOutReferenceIdeal.Value.run m' g')⟩
  obtain ⟨e, e0, e1, a⟩ := h c
  obtain ⟨q0, q1, q2, q3⟩ := hagree c
  rw [q0, q1, q2, q3] at e
  rw [q1, q2] at e0
  rw [q1, q3] at e1
  exact ⟨e.trans (funext fun _ => (change rfl rfl _ _ _).symm), e0, e1, a⟩

theorem kept_out : Cert.preserves_AdamOut_AdamOutIdeal :=
  ⟨IdealRules.named_const.statement _ _ _ _ _ rfl, IdealRules.named_const.statement _ _ _ _ _ rfl⟩

/-- At the even layer's normalisation scales. -/
theorem norm : Cert.algebraic_AdamNormIdeal_AdamNormReferenceIdeal := by
  intro m g m' g' _ hagree
  refine ⟨_, _, _, Cert.AdamNormIdeal.Value.run m g, (θ_run _ _ _).mono (fun _ h c => ?_) (Cert.AdamNormReferenceIdeal.Value.run m' g')⟩
  obtain ⟨e, e0, e1, a⟩ := h c
  obtain ⟨q0, q1, q2, q3⟩ := hagree c
  rw [q0, q1, q2, q3] at e
  rw [q1, q2] at e0
  rw [q1, q3] at e1
  exact ⟨e.trans (funext fun _ => (change rfl rfl _ _ _).symm), e0, e1, a⟩

theorem kept_norm : Cert.preserves_AdamNorm_AdamNormIdeal :=
  ⟨IdealRules.named_const.statement _ _ _ _ _ rfl, IdealRules.named_const.statement _ _ _ _ _ rfl⟩

/-- At the odd layer's normalisation scales. -/
theorem norm_odd : Cert.algebraic_AdamNormOddIdeal_AdamNormOddReferenceIdeal := by
  intro m g m' g' _ hagree
  refine ⟨_, _, _, Cert.AdamNormOddIdeal.Value.run m g, (θ_run _ _ _).mono (fun _ h c => ?_) (Cert.AdamNormOddReferenceIdeal.Value.run m' g')⟩
  obtain ⟨e, e0, e1, a⟩ := h c
  obtain ⟨q0, q1, q2, q3⟩ := hagree c
  rw [q0, q1, q2, q3] at e
  rw [q1, q2] at e0
  rw [q1, q3] at e1
  exact ⟨e.trans (funext fun _ => (change rfl rfl _ _ _).symm), e0, e1, a⟩

theorem kept_norm_odd : Cert.preserves_AdamNormOdd_AdamNormOddIdeal :=
  ⟨IdealRules.named_const.statement _ _ _ _ _ rfl, IdealRules.named_const.statement _ _ _ _ _ rfl⟩

/-- At the odd layer's input weights. -/
theorem in_odd : Cert.algebraic_AdamInOddIdeal_AdamInOddReferenceIdeal := by
  intro m g m' g' _ hagree
  refine ⟨_, _, _, Cert.AdamInOddIdeal.Value.run m g, (θ_run _ _ _).mono (fun _ h c => ?_) (Cert.AdamInOddReferenceIdeal.Value.run m' g')⟩
  obtain ⟨e, e0, e1, a⟩ := h c
  obtain ⟨q0, q1, q2, q3⟩ := hagree c
  rw [q0, q1, q2, q3] at e
  rw [q1, q2] at e0
  rw [q1, q3] at e1
  exact ⟨e.trans (funext fun _ => (change rfl rfl _ _ _).symm), e0, e1, a⟩

theorem kept_in_odd : Cert.preserves_AdamInOdd_AdamInOddIdeal :=
  ⟨IdealRules.named_const.statement _ _ _ _ _ rfl, IdealRules.named_const.statement _ _ _ _ _ rfl⟩

/-- At the short convolution. -/
theorem short : Cert.algebraic_AdamShortIdeal_AdamShortReferenceIdeal := by
  intro m g m' g' _ hagree
  refine ⟨_, _, _, Cert.AdamShortIdeal.Value.run m g, (θ_run _ _ _).mono (fun _ h c => ?_) (Cert.AdamShortReferenceIdeal.Value.run m' g')⟩
  obtain ⟨e, e0, e1, a⟩ := h c
  obtain ⟨q0, q1, q2, q3⟩ := hagree c
  rw [q0, q1, q2, q3] at e
  rw [q1, q2] at e0
  rw [q1, q3] at e1
  exact ⟨e.trans (funext fun _ => (change rfl rfl _ _ _).symm), e0, e1, a⟩

theorem kept_short : Cert.preserves_AdamShort_AdamShortIdeal :=
  ⟨IdealRules.named_const.statement _ _ _ _ _ rfl, IdealRules.named_const.statement _ _ _ _ _ rfl⟩

/-- At the long convolution. -/
theorem long : Cert.algebraic_AdamLongIdeal_AdamLongReferenceIdeal := by
  intro m g m' g' _ hagree
  refine ⟨_, _, _, Cert.AdamLongIdeal.Value.run m g, (θ_run _ _ _).mono (fun _ h c => ?_) (Cert.AdamLongReferenceIdeal.Value.run m' g')⟩
  obtain ⟨e, e0, e1, a⟩ := h c
  obtain ⟨q0, q1, q2, q3⟩ := hagree c
  rw [q0, q1, q2, q3] at e
  rw [q1, q2] at e0
  rw [q1, q3] at e1
  exact ⟨e.trans (funext fun _ => (change rfl rfl _ _ _).symm), e0, e1, a⟩

theorem kept_long : Cert.preserves_AdamLong_AdamLongIdeal :=
  ⟨IdealRules.named_const.statement _ _ _ _ _ rfl, IdealRules.named_const.statement _ _ _ _ _ rfl⟩

/-- At the convolution's bias and its normalisation's scale and shift. -/
theorem bias : Cert.algebraic_AdamBiasIdeal_AdamBiasReferenceIdeal := by
  intro m g m' g' _ hagree
  refine ⟨_, _, _, Cert.AdamBiasIdeal.Value.run m g, (θ_run _ _ _).mono (fun _ h c => ?_) (Cert.AdamBiasReferenceIdeal.Value.run m' g')⟩
  obtain ⟨e, e0, e1, a⟩ := h c
  obtain ⟨q0, q1, q2, q3⟩ := hagree c
  rw [q0, q1, q2, q3] at e
  rw [q1, q2] at e0
  rw [q1, q3] at e1
  exact ⟨e.trans (funext fun _ => (change rfl rfl _ _ _).symm), e0, e1, a⟩

theorem kept_bias : Cert.preserves_AdamBias_AdamBiasIdeal :=
  ⟨IdealRules.named_const.statement _ _ _ _ _ rfl, IdealRules.named_const.statement _ _ _ _ _ rfl⟩

end Cert.AdamProof
-- ==== Proof.AttLoop.lean ====
module
public import proofs.«01_k».proof.Proof.Step
public import proofs.«01_k».proof.Proof.Arrays
public import proofs.«01_k».proof.Proof.Gen.AttIdeal.Loops

/-! The loop over key blocks of the attention's forward kernel, from the block of the row's own keys down to the first: what one
   trip yields, and what the loop carries before each trip. The queries and the keys are reals; the values may be infinite. -/

@[expose] public section

set_option maxRecDepth 16384

noncomputable section

namespace Cert.AttProof

open Idealize.ShloMosaic Idealize.SL Idealize.SL.Sem Cert.AttIdeal Cert.AttIdeal.Gen Finset
open Cert.Sba (Z LM LT W LM_of_le W_of_le sum_block sum_upto sum_cut sc lsg up up_ix2 up_congr sum_up rows tile lsg_sub select_coe exp_coe ofBits_zero)

/-- The product of a block of real weights with a block of values. -/
theorem matmul_values (w : ℕ → ℕ → ℝ) (v : ℕ → ℕ → EReal) :
    matmul (F := Ideal) (φ₁ := .bf16) (φ₂ := .bf16) dot_S256x256_S256x128_S256x128_1_0_0_1_n_n none (up 256 256 w) (Arrays.up 256 128 v)
        (constant S256x128 .f32 0x00000000#32)
      = Arrays.up 256 128 fun r d => ∑ x ∈ range 256, ((w r x : ℝ) : EReal) * v x d := by
  funext j
  idx_vars j
  pointwise
  simp only [up_ix2, Arrays.up_ix2]
  exact (sum_range fun x => ((w j0.val x : ℝ) : EReal) * v x j1.val).symm

/-- The loop of query block `i` has `i + 1` trips. -/
theorem trips_eq : ∀ i : grid0.Coords, (k0_t1_loop i).trips = (i 1).val + 1 := by decide +kernel

/-- Trip `k` reads the keys and values of block `i − k`. -/
theorem off_eq : ∀ (i : grid0.Coords) (k : Fin (k0_t1_loop i).trips), k0_off1 i k = ![256 * ((i 1).val - k.val), 0] := by decide +kernel

/-- The indices of a block's columns. -/
abbrev cols : IVec S256x256 32 := iota .tc S256x256 32 [1] iota_S256x256_d1_w32
/-- The number of the block of rows, as the body has it. -/
abbrev row (i : grid0.Coords) : BitVec 32 := BitVec.ofNat 32 (i 1).val

/-- Whether key `256 b + y` is before row `256 i + a`, where `b` is the trip's block. -/
theorem mask_eq (i : grid0.Coords) (k : Fin (k0_t1_loop i).trips) :
    k0_pay11 i (row i) (k0_pay5 i) cols 0#32 1#32 k
      = fun j => BitVec.ofBool (decide (256 * ((i 1).val - k.val) + (j 1).val < 256 * (i 1).val + (j 0).val)) := by
  funext j
  have hk : k.val < (i 1).val + 1 := lt_of_lt_of_eq k.isLt (trips_eq i)
  have hi : (i 1).val < 8 := (i 1).isLt
  have h0 : (j 0).val < 256 := (j 0).isLt
  have h1 : (j 1).val < 256 := (j 1).isLt
  unfold k0_pay11 k0_pay5
  pointwise
  have e1 : IntOp.addi (Scalar.muli (Scalar.subi (row i) (Scf.iv 0#32 1#32 k.val)) 256#32) (BitVec.ofNat 32 (j 1).val)
      = BitVec.ofNat 32 (256 * ((i 1).val - k.val) + (j 1).val) := by
    show (BitVec.ofNat 32 (i 1).val - (0#32 + BitVec.ofNat 32 k.val * 1#32)) * 256#32 + BitVec.ofNat 32 (j 1).val = _
    apply BitVec.eq_of_toNat_eq
    simp only [BitVec.toNat_add, BitVec.toNat_mul, BitVec.toNat_sub, BitVec.toNat_ofNat]
    omega
  have e2 : IntOp.addi (Scalar.muli (BitVec.ofNat 32 (i 1).val) 256#32) (BitVec.ofNat 32 (j 0).val) = BitVec.ofNat 32 (256 * (i 1).val + (j 0).val) := by
    show BitVec.ofNat 32 (i 1).val * 256#32 + BitVec.ofNat 32 (j 0).val = _
    apply BitVec.eq_of_toNat_eq
    simp only [BitVec.toNat_add, BitVec.toNat_mul, BitVec.toNat_ofNat]
    omega
  rw [e1, e2, WordCmp.cmpi_slt_ofNat (by omega) (by omega)]

/-- The table of ones and zeros with `1` where row `x` is greater than column `b`. -/
theorem table_eq : k0_pay4 (F := Ideal) = up 256 256 fun x b => if b < x then 1 else 0 := by
  unfold k0_pay4
  funext j
  idx_vars j
  pointwise
  rw [WordCmp.cmpi_sgt_ofNat (by omega) (by omega), ← EReal.coe_zero, ← EReal.coe_one, select_coe, up_ix2]
  simp only [decide_eq_true_eq]

section
variable (i : grid0.Coords) (k : Fin (k0_t1_loop i).trips) {q kk z lm : ℕ → ℕ → ℝ}

theorem pay12_eq : k0_pay12 (F := Ideal) (up 256 128 q) (up 256 128 kk) = up 256 256 fun a b => (∑ d ∈ range 128, q a d * kk b d) * sc :=
  Cert.Sba.pay11_eq

theorem pay13_eq (h : k0_pay12 (F := Ideal) (up 256 128 q) (up 256 128 kk) = up 256 256 z) :
    k0_pay13 (F := Ideal) (up 256 128 q) (up 256 128 kk) = up 256 256 fun a b => lsg (z a b) :=
  Cert.Sba.pay12_eq h

theorem pay14_eq (h : k0_pay12 (F := Ideal) (up 256 128 q) (up 256 128 kk) = up 256 256 z) :
    k0_pay14 (F := Ideal) i (row i) (up 256 128 q) (k0_pay5 i) cols 0#32 1#32 k (up 256 128 kk)
      = up 256 256 fun a b => if 256 * ((i 1).val - k.val) + b < 256 * (i 1).val + a then lsg (-(z a b)) else 0 := by
  unfold k0_pay14
  dsimp only
  rw [pay13_eq h, h, mask_eq]
  funext j
  idx_vars j
  pointwise
  rw [← EReal.coe_zero, up_ix2, up_ix2, ← EReal.coe_sub, lsg_sub]
  exact (apply_ite _ _ _ _).symm

theorem pay15_eq (s : ℕ → ℝ) (acc vv : ℕ → ℕ → EReal) (h12 : k0_pay12 (F := Ideal) (up 256 128 q) (up 256 128 kk) = up 256 256 z)
    (h14 : k0_pay14 (F := Ideal) i (row i) (up 256 128 q) (k0_pay5 i) cols 0#32 1#32 k (up 256 128 kk) = up 256 256 lm) :
    k0_pay15 (F := Ideal) i (row i) (up 256 128 q) k0_pay4 (k0_pay5 i) cols 0#32 1#32 k (Arrays.up 256 128 acc) (up 256 1 fun a _ => s a) (up 256 128 kk)
        (Arrays.up 256 128 vv)
      = Arrays.up 256 128 fun a d => acc a d + ∑ y ∈ range 256, ((if 256 * ((i 1).val - k.val) + y < 256 * (i 1).val + a then
          Real.exp (lsg (z a y) + (∑ x ∈ range 256, lm a x * (if y < x then 1 else 0) + s a)) else 0 : ℝ) : EReal) * vv y d := by
  have e : select (k0_pay11 i (row i) (k0_pay5 i) cols 0#32 1#32 k)
      (exp (addf (F := Ideal) (φ := .f32) (up 256 256 fun a b => lsg (z a b)) (addf (up 256 256 fun a y => ∑ x ∈ range 256, lm a x * (if y < x then 1 else 0))
        (broadcastTo S256x256 (up 256 1 fun a _ => s a) broadcasts_S256x1_S256x256))))
      (broadcast S256x256 (Scalar.ofBits (F := Ideal) .f32 0x00000000#32))
      = up 256 256 fun a y => if 256 * ((i 1).val - k.val) + y < 256 * (i 1).val + a then
          Real.exp (lsg (z a y) + (∑ x ∈ range 256, lm a x * (if y < x then 1 else 0) + s a)) else 0 := by
    rw [mask_eq]
    funext j
    idx_vars j
    pointwise
    simp only [up_ix2, ← EReal.coe_sub, ← EReal.coe_add, exp_coe, ← EReal.coe_zero]
    exact (apply_ite _ _ _ _).symm
  unfold k0_pay15
  dsimp only
  rw [h14, pay13_eq h12, table_eq,
    show addf (matmul (F := Ideal) (φ₁ := .bf16) (φ₂ := .bf16) dot_S256x256_S256x256_S256x256_1_0_0_1_n_n none
          (truncf (F := Ideal) (φ := .f32) .bf16 (up 256 256 lm) bitsLt_bf16_f32) (up 256 256 fun x b => if b < x then 1 else 0) (constant S256x256 .f32 0x00000000#32))
        (matmul (F := Ideal) (φ₁ := .bf16) (φ₂ := .bf16) dot_S256x256_S256x256_S256x256_1_0_0_1_n_n none
          (truncf (F := Ideal) (φ := .f32) .bf16
            (subf (up 256 256 lm) (extf (F := Ideal) .f32 (truncf (F := Ideal) (φ := .f32) .bf16 (up 256 256 lm) bitsLt_bf16_f32) bitsLt_bf16_f32))
            bitsLt_bf16_f32)
          (up 256 256 fun x b => if b < x then 1 else 0) (constant S256x256 .f32 0x00000000#32)) = _ from Cert.Sba.matmul_split lm fun x b => if b < x then 1 else 0,
    e]
  generalize hw : (fun a y => if 256 * ((i 1).val - k.val) + y < 256 * (i 1).val + a then
          Real.exp (lsg (z a y) + (∑ x ∈ range 256, lm a x * (if y < x then 1 else 0) + s a)) else 0 : ℕ → ℕ → ℝ) = w
  rw [show truncf (F := Ideal) (φ := .f32) .bf16 (up 256 256 w) bitsLt_bf16_f32 = up 256 256 w from rfl, matmul_values]
  subst hw
  rfl

/-- A row's running sum after a block: what it was and the sum of the block's row. -/
theorem pay8_eq (s : ℕ → ℝ) (h14 : k0_pay14 (F := Ideal) i (row i) (up 256 128 q) (k0_pay5 i) cols 0#32 1#32 k (up 256 128 kk) = up 256 256 lm) :
    k0_pay8 (F := Ideal) (up 256 1 fun a _ => s a) (k0_pay16 i (row i) (up 256 128 q) (k0_pay5 i) cols 0#32 1#32 k (up 256 128 kk))
      = up 256 1 fun a _ => s a + ∑ x ∈ range 256, lm a x := by
  unfold k0_pay16
  dsimp only
  rw [h14]
  unfold k0_pay8
  funext j
  idx_vars j
  pointwise
  simp only [up_ix2]
  rw [sum_up 256 fun x => lm _ x, ← EReal.coe_add]

end

/-- The buffers the body runs over. -/
structure Refs where
  (arg2 : Memref sig .tc .vmem S256x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S2048x128 .bf16) (harg7 : arg7.IsWhole) (arg8 : Memref sig .tc .vmem S2048x128 .bf16) (harg8 : arg8.IsWhole)

section
variable {F : FTy → Type} [FloatOps F]
variable (𝒱 : Variants) (c : Dev nD) (bd : Option 𝒱.V) (i : grid0.Coords) (r : Refs) (v3 : Vec F S256x128 .f32) (X7 : BufTy.Contents (Elt F) r.arg7.view.ty) (X8 : BufTy.Contents (Elt F) r.arg8.view.ty) (k : Fin (k0_t1_loop i).trips)

/-- The rows of the trip's block, of an array of 2048 rows. -/
abbrev rowsAt {e : EltTy} (X : Vec F S2048x128 e) : Vec F S256x128 e :=
  View.ld X (Rect.unit (k0_off1 i k) ![256, 128] (k0_off1_inb i k))

abbrev tR := tripR_k0_t1 (F := F) 𝒱 c bd i r.arg2 r.harg2 r.arg3 r.harg3 r.arg4 r.harg4 r.arg5 r.harg5 r.arg6 r.harg6 r.arg7 r.harg7 r.arg8 r.harg8 (row i) v3 cols X7 X8 k

/-- What the trip yields. -/
theorem tR_eq (acc) :
    tR 𝒱 c bd i r v3 X7 X8 k acc
      = (have kk := rowsAt i k (r.arg7.view.read (Elt F) X7)
         have vv := rowsAt i k (r.arg8.view.read (Elt F) X8)
         (k0_pay15 i (row i) (k0_pay3 v3) k0_pay4 (k0_pay5 i) cols 0#32 1#32 k acc.1 acc.2 kk vv,
          k0_pay8 acc.2 (k0_pay16 i (row i) (k0_pay3 v3) (k0_pay5 i) cols 0#32 1#32 k kk))) := by
  unfold tR tripR_k0_t1 trip_k0_t1
  dsimp only
  sl_unfold_words
  rfl

end

variable (Q K : ℕ → ℕ → ℝ) (V : ℕ → ℕ → EReal) (i : grid0.Coords) (k : Fin (k0_t1_loop i).trips)

theorem place_rows {e : EltTy} (X : Vec Ideal S2048x128 e) (j : S256x128.Idx) :
    ((Rect.unit (s := S2048x128) (k0_off1 i k) ![256, 128] (k0_off1_inb i k)).idx j 0).val = 256 * ((i 1).val - k.val) + (j 0).val
    ∧ ((Rect.unit (s := S2048x128) (k0_off1 i k) ![256, 128] (k0_off1_inb i k)).idx j 1).val = (j 1).val := by
  have h : ∀ a, ((Rect.unit (s := S2048x128) (k0_off1 i k) ![256, 128] (k0_off1_inb i k)).idx j a).val = k0_off1 i k a + (j a).val := fun a =>
    Rect.idx_unit_val (s := S2048x128) (k0_off1 i k) ![256, 128] (k0_off1_inb i k) j a
  exact ⟨(h 0).trans (congrArg (· + (j 0).val) (congrFun (off_eq i k) 0)), ((h 1).trans (congrArg (· + (j 1).val) (congrFun (off_eq i k) 1))).trans (Nat.zero_add _)⟩

theorem rows_keys (f : ℕ → ℕ → ℝ) : rowsAt (F := Ideal) (e := .bf16) i k (up 2048 128 f) = up 256 128 (rows f ((i 1).val - k.val)) := by
  funext j
  obtain ⟨h0, h1⟩ := place_rows i k (e := .bf16) (up 2048 128 f) j
  exact congrArg (fun x : ℝ => (x : EReal)) (congrArg₂ f h0 h1)

theorem rows_values (f : ℕ → ℕ → EReal) : rowsAt (F := Ideal) (e := .bf16) i k (Arrays.up 2048 128 f)
    = Arrays.up 256 128 (fun y => f (256 * ((i 1).val - k.val) + y)) := by
  funext j
  obtain ⟨h0, h1⟩ := place_rows i k (e := .bf16) (Arrays.up 2048 128 f) j
  exact congrArg₂ f h0 h1

/-- The attention's output. -/
def AT (t d : ℕ) : EReal := ∑ s ∈ range 2048, ((W Q K t s : ℝ) : EReal) * V s d

/-- What the loop carries before trip `n` in block `r` of the rows: the weighted values and the sum of the logarithms over the
    keys from `256 (r + 1 − n)` on, up to the rows' own block. -/
abbrev carry (r n : ℕ) : FVec Ideal S256x128 .f32 × FVec Ideal S256x1 .f32 :=
  (Arrays.up 256 128 fun a d => ∑ s ∈ Ico (256 * (r + 1 - n)) (256 * (r + 1)), ((W Q K (256 * r + a) s : ℝ) : EReal) * V s d,
   up 256 1 fun a _ => LT Q K (256 * r + a) - ∑ s ∈ range (256 * (r + 1 - n)), LM Q K (256 * r + a) s)

/-- A sum over the keys up to and with `256 n + b`, from that over the keys up to the end of the block. -/
theorem sum_after (f : ℕ → ℝ) (n b : ℕ) (hb : b < 256) (T : ℝ) :
    ∑ x ∈ range 256, f (256 * n + x) * (if b < x then 1 else 0) + (T - ∑ s ∈ range (256 * (n + 1)), f s) = T - ∑ s ∈ range (256 * n + b + 1), f s := by
  rw [sum_block, sum_upto f n b hb]
  have e : ∑ x ∈ range 256, f (256 * n + x) = ∑ x ∈ range 256, f (256 * n + x) * (if x ≤ b then 1 else 0) + ∑ x ∈ range 256, f (256 * n + x) * (if b < x then 1 else 0) := by
    rw [← sum_add_distrib]
    refine sum_congr rfl fun x _ => ?_
    by_cases h : x ≤ b
    · rw [if_pos h, if_neg (not_lt.mpr h), mul_one, mul_zero, add_zero]
    · rw [if_neg h, if_pos (not_le.mp h), mul_one, mul_zero, zero_add]
  rw [e]
  ring

variable (𝒱 : Variants) (c : Dev nD) (bd : Option 𝒱.V) (r : Refs) (X7 : BufTy.Contents (Elt Ideal) r.arg7.view.ty) (X8 : BufTy.Contents (Elt Ideal) r.arg8.view.ty)

/-- A trip takes what the loop carries one block further. -/
theorem tR_up (h7 : r.arg7.view.read (Elt Ideal) X7 = up 2048 128 K) (h8 : r.arg8.view.read (Elt Ideal) X8 = Arrays.up 2048 128 V) :
    tR (F := Ideal) 𝒱 c bd i r (up 256 128 (rows Q (i 1).val)) X7 X8 k (carry Q K V (i 1).val k.val) = carry Q K V (i 1).val (k.val + 1) := by
  have hk : k.val < (i 1).val + 1 := lt_of_lt_of_eq k.isLt (trips_eq i)
  obtain ⟨b, hb⟩ : ∃ b, b = (i 1).val - k.val := ⟨_, rfl⟩
  have hb1 : (i 1).val + 1 - k.val = b + 1 := by omega
  have hb2 : (i 1).val + 1 - (k.val + 1) = b := by omega
  rw [tR_eq]
  dsimp only
  have z : k0_pay12 (F := Ideal) (up 256 128 (rows Q (i 1).val)) (up 256 128 (rows K b)) = up 256 256 (tile (Z Q K) (i 1).val b) := pay12_eq
  have lm : k0_pay14 (F := Ideal) i (row i) (up 256 128 (rows Q (i 1).val)) (k0_pay5 i) cols 0#32 1#32 k (up 256 128 (rows K b)) = up 256 256 (tile (LM Q K) (i 1).val b) :=
    (pay14_eq i k z).trans (by rw [← hb]; rfl)
  rw [h7, h8, rows_keys, rows_values, ← hb, hb1]
  unfold carry
  rw [hb2]
  refine congrArg₂ Prod.mk ?_ ?_
  · refine (pay15_eq i k (fun a => LT Q K (256 * (i 1).val + a) - ∑ s ∈ range (256 * (b + 1)), LM Q K (256 * (i 1).val + a) s) _ _ z lm).trans
      (Arrays.up_congr fun a ha d _ => ?_)
    rw [← hb, ← sum_Ico_consecutive _ (show 256 * b ≤ 256 * (b + 1) by omega) (show 256 * (b + 1) ≤ 256 * ((i 1).val + 1) by omega), add_comm]
    congr 1
    rw [sum_Ico_eq_sum_range, show 256 * (b + 1) - 256 * b = 256 by omega]
    refine sum_congr rfl fun y hy => ?_
    rw [sum_after (fun s => LM Q K (256 * (i 1).val + a) s) b y (mem_range.mp hy)]
    rfl
  · refine (pay8_eq i k (fun a => LT Q K (256 * (i 1).val + a) - ∑ s ∈ range (256 * (b + 1)), LM Q K (256 * (i 1).val + a) s) lm).trans (up_congr fun a _ _ _ => ?_)
    rw [sum_block]
    unfold tile
    ring

/-- The loop's state at real queries and keys. -/
abbrev st := st_k0_t1 (F := Ideal) 𝒱 c bd i r.arg2 r.harg2 r.arg3 r.harg3 r.arg4 r.harg4 r.arg5 r.harg5 r.arg6 r.harg6 r.arg7 r.harg7 r.arg8 r.harg8 (row i) (up 256 128 (rows Q (i 1).val)) cols X7 X8 (k0_pay6, k0_pay7)

theorem LT_upto (t n : ℕ) (h : t ≤ n) (hn : n ≤ 2048) : LT Q K t = ∑ s ∈ range n, LM Q K t s :=
  sum_cut (fun s => LM Q K t s) hn fun s hs => LM_of_le Q K (h.trans hs)

theorem loop_up (h7 : r.arg7.view.read (Elt Ideal) X7 = up 2048 128 K) (h8 : r.arg8.view.read (Elt Ideal) X8 = Arrays.up 2048 128 V) :
    ∀ n : ℕ, n ≤ (k0_t1_loop i).trips → st Q i 𝒱 c bd r X7 X8 n = carry Q K V (i 1).val n := by
  intro n
  induction n with
  | zero =>
    intro _
    have hi : (i 1).val < 8 := (i 1).isLt
    refine Prod.ext (funext fun j => ?_) (funext fun j => ?_)
    · refine ofBits_zero.trans ?_
      show _ = ∑ s ∈ Ico (256 * ((i 1).val + 1 - 0)) (256 * ((i 1).val + 1)), ((W Q K (256 * (i 1).val + (j 0).val) s : ℝ) : EReal) * V s (j 1).val
      rw [Nat.sub_zero, Ico_self, sum_empty, EReal.coe_zero]
    · have hj : (j 0).val < 256 := (j 0).isLt
      refine ofBits_zero.trans (congrArg _ ?_)
      show (0 : ℝ) = LT Q K (256 * (i 1).val + (j 0).val) - ∑ s ∈ range (256 * ((i 1).val + 1 - 0)), LM Q K (256 * (i 1).val + (j 0).val) s
      rw [LT_upto Q K (256 * (i 1).val + (j 0).val) (256 * ((i 1).val + 1)) (by omega) (by omega), Nat.sub_zero, sub_self]
  | succ n ih =>
    intro hn
    exact (st_k0_t1_succ (F := Ideal) 𝒱 c bd i r.arg2 r.harg2 r.arg3 r.harg3 r.arg4 r.harg4 r.arg5 r.harg5 r.arg6 r.harg6 r.arg7 r.harg7 r.arg8 r.harg8 (row i) (up 256 128 (rows Q (i 1).val)) cols X7 X8 (k0_pay6, k0_pay7) ⟨n, hn⟩).trans
      ((congrArg (tR (F := Ideal) 𝒱 c bd i r (up 256 128 (rows Q (i 1).val)) X7 X8 ⟨n, hn⟩) (ih (Nat.le_of_succ_le hn))).trans (tR_up Q K V i ⟨n, hn⟩ 𝒱 c bd r X7 X8 h7 h8))

/-- What the loop ends with: the rows of the attention's output, and what the rows lose. -/
theorem loop_end (h7 : r.arg7.view.read (Elt Ideal) X7 = up 2048 128 K) (h8 : r.arg8.view.read (Elt Ideal) X8 = Arrays.up 2048 128 V) :
    st Q i 𝒱 c bd r X7 X8 (k0_t1_loop i).trips
      = (Arrays.up 256 128 fun a => AT Q K V (256 * (i 1).val + a), up 256 1 fun a _ => LT Q K (256 * (i 1).val + a)) := by
  have hi : (i 1).val < 8 := (i 1).isLt
  refine (loop_up Q K V i 𝒱 c bd r X7 X8 h7 h8 _ le_rfl).trans ?_
  rw [trips_eq i]
  unfold carry
  refine congrArg₂ Prod.mk (Arrays.up_congr fun a ha d _ => ?_) (up_congr fun a _ _ _ => ?_)
  · rw [Nat.sub_self, Nat.mul_zero, ← range_eq_Ico]
    refine sum_subset (range_mono (by omega)) fun s _ hs => ?_
    rw [W_of_le Q K (by have := mem_range.not.mp hs; omega), EReal.coe_zero, zero_mul]
  · rw [Nat.sub_self, Nat.mul_zero, range_zero, sum_empty, sub_zero]

end Cert.AttProof
-- ==== Proof.AttPoint.lean ====
module
public import proofs.«01_k».proof.Proof.AttLoop
public import proofs.«01_k».proof.Proof.Gen.AttIdeal.Value
public import Idealize.ShloMosaic.Lib.VecWindow

/-! The grid points of the attention's forward kernel (8 heads, 8 blocks of rows each): what each leaves, and so what its two result
   arrays hold. A head's first point copies the head's keys and values; the later ones find them. -/

@[expose] public section

set_option maxRecDepth 16384

noncomputable section

namespace Cert.AttProof

open Idealize.ShloMosaic Idealize.SL Idealize.SL.Sem Cert.AttIdeal Cert.AttIdeal.Gen Cert.AttIdeal.Value Finset
open Cert.Sba (LT up up_congr rows)

section any
variable {F : FTy → Type} [FloatOps F] (c : Dev nD) (i : grid0.Coords) (r : Refs)

/-- The second loop makes no trip. -/
theorem no_trips : ∀ i, (k0_t2_loop i).trips = 0 := by decide +kernel

theorem second_none (a v3 v16 v24 X7 X8 init) :
    st_k0_t2 (F := F) Variants.none c none i r.arg2 r.harg2 r.arg3 r.harg3 r.arg4 r.harg4 r.arg5 r.harg5 r.arg6 r.harg6 r.arg7 r.harg7 r.arg8 r.harg8 a v3 v16 v24 X7 X8 init (k0_t2_loop i).trips = init := by
  rw [no_trips i]; rfl

/-- What the loops carry. -/
abbrev St (F : FTy → Type) := FVec F S256x128 .f32 × FVec F S256x1 .f32

/-- The first loop's last state, by the block of queries. -/
abbrev stP (x0 : Vec F S256x128 .f32) (X7 : BufTy.Contents (Elt F) r.arg7.view.ty) (X8 : BufTy.Contents (Elt F) r.arg8.view.ty) : St F :=
  st_k0_t1 (F := F) Variants.none c none i r.arg2 r.harg2 r.arg3 r.harg3 r.arg4 r.harg4 r.arg5 r.harg5 r.arg6 r.harg6 r.arg7 r.harg7 r.arg8 r.harg8 (row i)
    (View.readAt (Elt F) r.arg2.view (Rect.unit ![0, 0] S256x128.size inb_S256x128_S256x128_0_0).toLoadRect (r.harg2.unread x0))
    cols X7 X8 (k0_pay6, k0_pay7) (k0_t1_loop i).trips

/-- The whole of a buffer of 2048 rows, loaded. -/
abbrev ldCol (m : Memref sig .tc .vmem S2048x128 .f32) (h : m.IsWhole) (x : Vec F S2048x128 .f32) : Vec F S2048x128 .f32 :=
  View.readAt (Elt F) m.view (Rect.unit ![0, 0] S2048x128.size inb_S2048x128_S2048x128_0_0).toLoadRect (h.unread x)
/-- The scratch buffers at a head's first point once it has copied the keys and the values. -/
abbrev A7 (x1 : Vec F S2048x128 .f32) := r.arg7.view.writes (Elt F) r.arg7.view.junk
  [(⟨Rect.unit ![0, 0] S2048x128.size inb_S2048x128_S2048x128_0_0, k0_pay1 (ldCol r.arg3 r.harg3 x1)⟩ : View.Piece (Elt F) S2048x128 .bf16)]
abbrev A8 (x2 : Vec F S2048x128 .f32) := r.arg8.view.writes (Elt F) r.arg8.view.junk
  [(⟨Rect.unit ![0, 0] S2048x128.size inb_S2048x128_S2048x128_0_0, k0_pay2 (ldCol r.arg4 r.harg4 x2)⟩ : View.Piece (Elt F) S2048x128 .bf16)]

variable (x0 : Vec F S256x128 .f32) (x1 x2 : Vec F S2048x128 .f32)

theorem outA_3 (hc0 : cond0_0 i) : out0_A_3 c i r.arg2 r.harg2 r.arg3 r.harg3 r.arg4 r.harg4 r.arg5 r.harg5 r.arg6 r.harg6 r.arg7 r.harg7 r.arg8 r.harg8 hc0 x0 x1 x2 = (stP c i r x0 (A7 r x1) (A8 r x2)).1 := by
  unfold out0_A_3
  rw [View.read_writes_junk_eq_canon]
  unfold kernelRun0_A
  dsimp only
  sl_unfold_words
  refine (View.canon_unit_zero (by decide) _ _).trans ?_
  refine (congrArg (fun s : St F => s.1) (second_none c i r _ _ _ _ _ _ _)).trans ?_
  rfl

theorem outA_4 (hc0 : cond0_0 i) : out0_A_4 c i r.arg2 r.harg2 r.arg3 r.harg3 r.arg4 r.harg4 r.arg5 r.harg5 r.arg6 r.harg6 r.arg7 r.harg7 r.arg8 r.harg8 hc0 x0 x1 x2 = k0_pay10 (stP c i r x0 (A7 r x1) (A8 r x2)).2 := by
  unfold out0_A_4
  rw [View.read_writes_junk_eq_canon]
  unfold kernelRun0_A
  dsimp only
  sl_unfold_words
  refine (View.canon_unit_zero (by decide) _ _).trans ?_
  refine (congrArg (fun s : St F => k0_pay10 s.2) (second_none c i r _ _ _ _ _ _ _)).trans ?_
  rfl

theorem soutA_0 (hc0 : cond0_0 i) : sout0_A_0 c i r.arg2 r.harg2 r.arg3 r.harg3 r.arg4 r.harg4 r.arg5 r.harg5 r.arg6 r.harg6 r.arg7 r.harg7 r.arg8 r.harg8 hc0 x0 x1 x2 = k0_pay1 (ldCol r.arg3 r.harg3 x1) := by
  unfold sout0_A_0
  rw [View.read_writes_junk_eq_canon]
  unfold kernelRun0_A
  dsimp only
  sl_unfold_words
  exact (View.canon_unit_zero (by decide) _ _).trans rfl

theorem soutA_1 (hc0 : cond0_0 i) : sout0_A_1 c i r.arg2 r.harg2 r.arg3 r.harg3 r.arg4 r.harg4 r.arg5 r.harg5 r.arg6 r.harg6 r.arg7 r.harg7 r.arg8 r.harg8 hc0 x0 x1 x2 = k0_pay2 (ldCol r.arg4 r.harg4 x2) := by
  unfold sout0_A_1
  rw [View.read_writes_junk_eq_canon]
  unfold kernelRun0_A
  dsimp only
  sl_unfold_words
  exact (View.canon_unit_zero (by decide) _ _).trans rfl

variable (y0 y1 : Vec F S2048x128 .bf16)

theorem outB_3 (hc0 : ¬cond0_0 i) : out0_B_3 c i r.arg2 r.harg2 r.arg3 r.harg3 r.arg4 r.harg4 r.arg5 r.harg5 r.arg6 r.harg6 r.arg7 r.harg7 r.arg8 r.harg8 hc0 x0 x1 x2 y0 y1
    = (stP c i r x0 (r.harg7.unread y0) (r.harg8.unread y1)).1 := by
  unfold out0_B_3
  rw [View.read_writes_junk_eq_canon]
  unfold kernelRun0_B
  dsimp only
  sl_unfold_words
  refine (View.canon_unit_zero (by decide) _ _).trans ?_
  refine (congrArg (fun s : St F => s.1) (second_none c i r _ _ _ _ _ _ _)).trans ?_
  rfl

theorem outB_4 (hc0 : ¬cond0_0 i) : out0_B_4 c i r.arg2 r.harg2 r.arg3 r.harg3 r.arg4 r.harg4 r.arg5 r.harg5 r.arg6 r.harg6 r.arg7 r.harg7 r.arg8 r.harg8 hc0 x0 x1 x2 y0 y1
    = k0_pay10 (stP c i r x0 (r.harg7.unread y0) (r.harg8.unread y1)).2 := by
  unfold out0_B_4
  rw [View.read_writes_junk_eq_canon]
  unfold kernelRun0_B
  dsimp only
  sl_unfold_words
  refine (View.canon_unit_zero (by decide) _ _).trans ?_
  refine (congrArg (fun s : St F => k0_pay10 s.2) (second_none c i r _ _ _ _ _ _ _)).trans ?_
  rfl

end any

section point
variable (Q K : ℕ → ℕ → ℝ) (V : ℕ → ℕ → EReal) (c : Dev nD) (i : grid0.Coords) (r : Refs)
variable (x0 : Vec Ideal S256x128 .f32) (x1 x2 : Vec Ideal S2048x128 .f32)

/-- What a point's three input blocks hold: rows `256 n …` of the head's queries, and all its keys and values. -/
structure Ins (n : ℕ) : Prop where
  q : x0 = up 256 128 (rows Q n)
  k : x1 = up 2048 128 K
  v : x2 = Arrays.up 2048 128 V

theorem ldCol_eq (m : Memref sig .tc .vmem S2048x128 .f32) (hm : m.IsWhole) (x : Vec Ideal S2048x128 .f32) : ldCol m hm x = x :=
  ((View.readAt_eq_ld _ _ _).trans (View.ld_unit_zero (by decide) _ _)).trans (hm.read_unread x)

/-- The rows of the output. -/
abbrev attRows (n : ℕ) : Vec Ideal S256x128 .f32 := Arrays.up 256 128 fun a => AT Q K V (256 * n + a)
/-- What the rows lose, in each column. -/
abbrev lossRows (n : ℕ) : Vec Ideal S256x128 .f32 := up 256 128 fun a _ => LT Q K (256 * n + a)

theorem pay10_eq (f : ℕ → ℝ) : k0_pay10 (F := Ideal) (up 256 1 fun a _ => f a) = up 256 128 fun a _ => f a := by
  unfold k0_pay10
  rw [shapeCast_self]
  funext j
  idx_vars j
  pointwise
  rfl

/-- The loop's last state where the scratch buffers hold the head's keys and values. -/
theorem stP_eq (h : x0 = up 256 128 (rows Q (i 1).val)) (X7 X8) (h7 : r.arg7.view.read (Elt Ideal) X7 = up 2048 128 K)
    (h8 : r.arg8.view.read (Elt Ideal) X8 = Arrays.up 2048 128 V) :
    (stP (F := Ideal) c i r x0 X7 X8).1 = attRows Q K V (i 1).val ∧ k0_pay10 (stP (F := Ideal) c i r x0 X7 X8).2 = lossRows Q K (i 1).val := by
  have e0 : View.readAt (Elt Ideal) r.arg2.view (Rect.unit ![0, 0] S256x128.size inb_S256x128_S256x128_0_0).toLoadRect (r.harg2.unread x0) = up 256 128 (rows Q (i 1).val) :=
    ((View.readAt_eq_ld _ _ _).trans (View.ld_unit_zero (by decide) _ _)).trans ((r.harg2.read_unread x0).trans h)
  unfold stP
  rw [e0]
  have e := loop_end Q K V i Variants.none c none r X7 X8 h7 h8
  exact ⟨congrArg Prod.fst e, (congrArg (fun s : St Ideal => k0_pay10 s.2) e).trans (pay10_eq fun a => LT Q K (256 * (i 1).val + a))⟩

/-- A head's first point. -/
theorem point_A (hc0 : cond0_0 i) (h : Ins Q K V x0 x1 x2 (i 1).val) :
    out0_A_3 c i r.arg2 r.harg2 r.arg3 r.harg3 r.arg4 r.harg4 r.arg5 r.harg5 r.arg6 r.harg6 r.arg7 r.harg7 r.arg8 r.harg8 hc0 x0 x1 x2 = attRows Q K V (i 1).val
    ∧ out0_A_4 c i r.arg2 r.harg2 r.arg3 r.harg3 r.arg4 r.harg4 r.arg5 r.harg5 r.arg6 r.harg6 r.arg7 r.harg7 r.arg8 r.harg8 hc0 x0 x1 x2 = lossRows Q K (i 1).val
    ∧ sout0_A_0 c i r.arg2 r.harg2 r.arg3 r.harg3 r.arg4 r.harg4 r.arg5 r.harg5 r.arg6 r.harg6 r.arg7 r.harg7 r.arg8 r.harg8 hc0 x0 x1 x2 = up 2048 128 K
    ∧ sout0_A_1 c i r.arg2 r.harg2 r.arg3 r.harg3 r.arg4 r.harg4 r.arg5 r.harg5 r.arg6 r.harg6 r.arg7 r.harg7 r.arg8 r.harg8 hc0 x0 x1 x2 = Arrays.up 2048 128 V := by
  have k0 : (k0_pay1 (ldCol r.arg3 r.harg3 x1) : Vec Ideal S2048x128 .bf16) = up 2048 128 K :=
    (shapeCast_self _ _).trans ((ldCol_eq r.arg3 r.harg3 x1).trans h.k)
  have v0 : (k0_pay2 (ldCol r.arg4 r.harg4 x2) : Vec Ideal S2048x128 .bf16) = Arrays.up 2048 128 V :=
    (shapeCast_self _ _).trans ((ldCol_eq r.arg4 r.harg4 x2).trans h.v)
  obtain ⟨e1, e2⟩ := stP_eq Q K V c i r x0 h.q (A7 r x1) (A8 r x2) ((View.read_writes_full _ _ _ _ _).trans k0) ((View.read_writes_full _ _ _ _ _).trans v0)
  exact ⟨(outA_3 c i r x0 x1 x2 hc0).trans e1, (outA_4 c i r x0 x1 x2 hc0).trans e2, (soutA_0 c i r x0 x1 x2 hc0).trans k0, (soutA_1 c i r x0 x1 x2 hc0).trans v0⟩

/-- A later point, whose scratch buffers hold the head's keys and values. -/
theorem point_B (hc0 : ¬cond0_0 i) (h : Ins Q K V x0 x1 x2 (i 1).val) :
    out0_B_3 (F := Ideal) c i r.arg2 r.harg2 r.arg3 r.harg3 r.arg4 r.harg4 r.arg5 r.harg5 r.arg6 r.harg6 r.arg7 r.harg7 r.arg8 r.harg8 hc0 x0 x1 x2 (up 2048 128 K) (Arrays.up 2048 128 V) = attRows Q K V (i 1).val
    ∧ out0_B_4 (F := Ideal) c i r.arg2 r.harg2 r.arg3 r.harg3 r.arg4 r.harg4 r.arg5 r.harg5 r.arg6 r.harg6 r.arg7 r.harg7 r.arg8 r.harg8 hc0 x0 x1 x2 (up 2048 128 K) (Arrays.up 2048 128 V) = lossRows Q K (i 1).val := by
  obtain ⟨e1, e2⟩ := stP_eq Q K V c i r x0 h.q (r.harg7.unread (Val := Elt Ideal) (up 2048 128 K)) (r.harg8.unread (Val := Elt Ideal) (Arrays.up 2048 128 V))
    (r.harg7.read_unread _) (r.harg8.read_unread _)
  exact ⟨(outB_3 c i r x0 x1 x2 _ _ hc0).trans e1, (outB_4 c i r x0 x1 x2 _ _ hc0).trans e2⟩

end point

variable (m : (ℓ : Loc nD τ sig) → Buf (Elt Ideal) ℓ) (c : Dev nD) (Q K : ℕ → ℕ → ℕ → ℝ) (V : ℕ → ℕ → ℕ → EReal)

/-- Every point's input blocks hold its head's queries, keys and values. -/
def AllIns : Prop := ∀ t : Fin cfg0.N, Ins (Q (t.val / 8)) (K (t.val / 8)) (V (t.val / 8)) (iblk m c 0 t) (iblk m c 1 t) (iblk m c 2 t) (t.val % 8)

theorem coord1 (t : Fin cfg0.N) : (grid0.coords t 1).val = t.val % 8 := by
  have e1 : (grid0.coords t 1).val = t.val / 1 % 8 := Pipeline.Grid.coords_val t 1 (by decide) rfl
  rwa [Nat.div_one] at e1

/-- The buffers of a point. -/
abbrev refsAt (t : Fin cfg0.N) : Refs := ⟨ms0_0 t, hs0_0 t, ms0_1 t, hs0_1 t, ms0_2 t, hs0_2 t, ms0_3 t, hs0_3 t, ms0_4 t, hs0_4 t,
  scM0_0, Memref.isWhole_whole _, scM0_1, Memref.isWhole_whole _⟩

/-- What a point leaves: its rows of the two results, and in the scratch buffers the head's keys and values. -/
structure Left (h n : ℕ) (o : Vec Ideal S256x128 .f32 × Vec Ideal S256x128 .f32 × Vec Ideal S2048x128 .bf16 × Vec Ideal S2048x128 .bf16) : Prop where
  a : o.1 = attRows (Q h) (K h) (V h) n
  l : o.2.1 = lossRows (Q h) (K h) n
  k : o.2.2.1 = up 2048 128 (K h)
  v : o.2.2.2 = Arrays.up 2048 128 (V h)

variable (hI : AllIns m c Q K V)
include hI

omit hI in
theorem mk_left {h n : ℕ} {o1 o2 : Vec Ideal S256x128 .f32} {o3 o4 : Vec Ideal S2048x128 .bf16} (e1 : o1 = attRows (Q h) (K h) (V h) n)
    (e2 : o2 = lossRows (Q h) (K h) n) (e3 : o3 = up 2048 128 (K h)) (e4 : o4 = Arrays.up 2048 128 (V h)) : Left Q K V h n (o1, o2, o3, o4) := ⟨e1, e2, e3, e4⟩

theorem left_A (t : Fin cfg0.N) (h0 : t.val % 8 = 0) (acc) : Left Q K V (t.val / 8) (t.val % 8) (stAt0 m c t.val t.isLt acc) := by
  have hi := hI t
  rw [← coord1 t] at hi
  obtain ⟨e1, e2, e3, e4⟩ := point_A _ _ _ c (grid0.coords t) (refsAt t) _ _ _ ((hcond0_0 t).mpr h0) hi
  rw [coord1 t] at e1 e2
  rw [stAt0_A m c t acc h0]
  dsimp only [refsAt] at e1 e2 e3 e4
  exact mk_left Q K V e1 e2 e3 e4

theorem left_B (t : Fin cfg0.N) (h0 : ¬t.val % 8 = 0) (acc) (n : ℕ) (ha : Left Q K V (t.val / 8) n acc) :
    Left Q K V (t.val / 8) (t.val % 8) (stAt0 m c t.val t.isLt acc) := by
  have hi := hI t
  rw [← coord1 t] at hi
  obtain ⟨e1, e2⟩ := point_B _ _ _ c (grid0.coords t) (refsAt t) _ _ _ (fun h => h0 ((hcond0_0 t).mp h)) hi
  rw [coord1 t] at e1 e2
  rw [stAt0_B m c t acc h0, ha.k, ha.v]
  dsimp only [refsAt] at e1 e2
  exact mk_left Q K V e1 e2 rfl rfl

/-- What every point leaves. -/
theorem left_all : ∀ (n : ℕ) (hn : n < cfg0.N), Left Q K V (n / 8) (n % 8) (outsAt0 m c n hn) := by
  intro n
  induction n with
  | zero => intro hn; rw [outsAt0_zero]; exact left_A m c Q K V hI ⟨0, hn⟩ rfl _
  | succ n ih =>
    intro hn
    rw [outsAt0_succ]
    by_cases h0 : (n + 1) % 8 = 0
    · exact left_A m c Q K V hI ⟨n + 1, hn⟩ h0 _
    · have := ih (Nat.lt_of_succ_lt hn)
      rw [show n / 8 = (n + 1) / 8 by omega] at this
      exact left_B m c Q K V hI ⟨n + 1, hn⟩ h0 _ _ this

/-- The attention's output, head `h` in columns `128 h …`. -/
theorem G3_up : G3 m c = Arrays.up 2048 1024 (fun t e => AT (Q (e / 128)) (K (e / 128)) (V (e / 128)) t (e % 128)) := by
  funext j
  have h0 : (j 0).val < 2048 := (j 0).isLt
  have h1 : (j 1).val < 1024 := (j 1).isLt
  have hp : pt3Of j = 8 * ((j 1).val / 128) + (j 0).val / 256 := by show 1 * ((j 0).val / 256 - 0) + 8 * ((j 1).val / 128 - 0) = _; omega
  have hN : pt3Of j < cfg0.N := by rw [show cfg0.N = 64 from N_0, hp]; omega
  have hL := (left_all m c Q K V hI (pt3Of j) hN).a
  rw [outsAt0_sweep] at hL
  refine (dif_pos hN).trans ((congrFun hL (loc3Of j)).trans ?_)
  show AT (Q (pt3Of j / 8)) (K (pt3Of j / 8)) (V (pt3Of j / 8)) (256 * (pt3Of j % 8) + (j 0).val % 256) ((j 1).val % 128) = _
  rw [show pt3Of j / 8 = (j 1).val / 128 by omega, show 256 * (pt3Of j % 8) + (j 0).val % 256 = (j 0).val by omega]
  rfl

/-- What each row loses, in each column of a head. -/
theorem G4_up : G4 m c = up 2048 1024 (fun t e => LT (Q (e / 128)) (K (e / 128)) t) := by
  funext j
  have h0 : (j 0).val < 2048 := (j 0).isLt
  have h1 : (j 1).val < 1024 := (j 1).isLt
  have hp : pt4Of j = 8 * ((j 1).val / 128) + (j 0).val / 256 := by show 1 * ((j 0).val / 256 - 0) + 8 * ((j 1).val / 128 - 0) = _; omega
  have hN : pt4Of j < cfg0.N := by rw [show cfg0.N = 64 from N_0, hp]; omega
  have hL := (left_all m c Q K V hI (pt4Of j) hN).l
  rw [outsAt0_sweep] at hL
  refine (dif_pos hN).trans ((congrFun hL (loc4Of j)).trans ?_)
  show ((LT (Q (pt4Of j / 8)) (K (pt4Of j / 8)) (256 * (pt4Of j % 8) + (j 0).val % 256) : ℝ) : EReal) = _
  rw [show pt4Of j / 8 = (j 1).val / 128 by omega, show 256 * (pt4Of j % 8) + (j 0).val % 256 = (j 0).val by omega]
  rfl

end Cert.AttProof
-- ==== Proof.AttRef.lean ====
module
public import proofs.«01_k».proof.Proof.AttPoint
public import proofs.«01_k».proof.Proof.Ref
public import proofs.«01_k».proof.Proof.Host
public import proofs.«01_k».proof.Proof.Gen.AttReferenceIdeal.Read

/-! What the plain attention computes on the fused projection, where the queries and the keys are reals: the weights, the output,
   and what each row loses. -/

@[expose] public section

set_option maxRecDepth 16384

noncomputable section

namespace Cert.AttProof

open Idealize.ShloMosaic Idealize.SL.Sem Cert.AttReferenceIdeal Cert.AttReferenceIdeal.Gen Cert.AttReferenceIdeal.Read Finset
open Cert.Sba (Z LM LT W lsg up sum_up hQ hK ofBits_sc ofBits_zero select_coe exp_coe softplus_host window_sum_host suffix_sum)

/-- The queries and the keys, which lie in the first 2048 columns of the projection, are the images of the reals `P`. -/
def IsQK (P : ℕ → ℕ → ℝ) (x0 : S2048x6144.Idx → EReal) : Prop :=
  ∀ i : S2048x6144.Idx, (i 1).val < 2048 → x0 i = ((P (i 0).val (i 1).val : ℝ) : EReal)

/-- The values of a head, from the projection `f`. -/
def vals (f : ℕ → ℕ → EReal) (h t d : ℕ) : EReal := f t (2048 + 128 * h + d)

variable (P : ℕ → ℕ → ℝ) (f : ℕ → ℕ → EReal) (x0 : S2048x6144.Idx → EReal)

theorem ref_v (hf : x0 = Arrays.up 2048 6144 f) (i : S2048x8x128.Idx) : val_main_v5 (F := Ideal) x0 i = vals f (i 1).val (i 0).val (i 2).val := by
  have h1 : (i 1).val < 8 := (i 1).isLt
  have h2 : (i 2).val < 128 := (i 2).isLt
  rw [val_main_v5_apply, val_main_v4_apply, hf]
  show f ((((i 0).val * 8 + (i 1).val) * 128 + (i 2).val) / 1024) (2048 + (((i 0).val * 8 + (i 1).val) * 128 + (i 2).val) % 1024) = _
  unfold vals
  congr 1 <;> omega

/-- The mask: the keys before the row. -/
theorem ref_mask (i : S8x2048x2048.Idx) :
    val_main_call2_v1 (F := Ideal) i = BitVec.ofBool (decide ((i 2).val < (i 1).val)) := by
  have h1 : (i 1).val < 2048 := (i 1).isLt
  have h2 : (i 2).val < 2048 := (i 2).isLt
  rw [val_main_call2_v1_apply, val_main_v15_apply, val_main_v13_apply, val_main_v14_apply, val_main_v10_apply, val_main_v12_apply,
    val_main_v9_apply, val_main_v11_apply]
  show IntOp.cmpi .slt (BitVec.ofNat 32 (i 2).val) (BitVec.ofNat 32 (i 1).val) = _
  exact WordCmp.cmpi_slt_ofNat (by omega) (by omega)

theorem ref_mask' (i : S8x2048x2048.Idx) :
    val_main_call4_v1 (F := Ideal) i = BitVec.ofBool (decide ((i 2).val < (i 1).val)) :=
  (val_main_call4_v1_apply i).trans ((val_main_call2_v1_apply i).symm.trans (ref_mask i))

section stages
variable (hx : IsQK P x0)
include hx

theorem ref_q (i : S2048x8x128.Idx) : val_main_v1 (F := Ideal) x0 i = ((hQ P (i 1).val (i 0).val (i 2).val : ℝ) : EReal) := by
  have h1 : (i 1).val < 8 := (i 1).isLt
  have h2 : (i 2).val < 128 := (i 2).isLt
  rw [val_main_v1_apply, val_main_v0_apply, hx _ (by
    show (((i 0).val * 8 + (i 1).val) * 128 + (i 2).val) % 1024 < 2048; omega)]
  show ((P ((((i 0).val * 8 + (i 1).val) * 128 + (i 2).val) / 1024) ((((i 0).val * 8 + (i 1).val) * 128 + (i 2).val) % 1024) : ℝ) : EReal) = _
  unfold hQ
  congr 2 <;> omega

theorem ref_k (i : S2048x8x128.Idx) : val_main_v3 (F := Ideal) x0 i = ((hK P (i 1).val (i 0).val (i 2).val : ℝ) : EReal) := by
  have h1 : (i 1).val < 8 := (i 1).isLt
  have h2 : (i 2).val < 128 := (i 2).isLt
  rw [val_main_v3_apply, val_main_v2_apply, hx _ (by
    show 1024 + (((i 0).val * 8 + (i 1).val) * 128 + (i 2).val) % 1024 < 2048; omega)]
  show ((P ((((i 0).val * 8 + (i 1).val) * 128 + (i 2).val) / 1024) (1024 + (((i 0).val * 8 + (i 1).val) * 128 + (i 2).val) % 1024) : ℝ) : EReal) = _
  unfold hK
  congr 2 <;> omega

/-- The logits. -/
theorem ref_z (i : S8x2048x2048.Idx) :
    val_main_v8 (F := Ideal) x0 i = ((Z (hQ P (i 0).val) (hK P (i 0).val) (i 1).val (i 2).val : ℝ) : EReal) := by
  rw [val_main_v8_apply, val_main_v6_apply, val_main_v7_apply, val_main_cst_apply]
  simp only [ref_q P x0 hx, ref_k P x0 hx, ← EReal.coe_mul]
  show (∑ k : Fin 128, ((hQ P (i 0).val (i 1).val k.val * hK P (i 0).val (i 2).val k.val : ℝ) : EReal)) * Ideal.ofBits .f32 0x3DB504F3#32 = _
  rw [ofBits_sc, sum_up 128 fun k => hQ P (i 0).val (i 1).val k * hK P (i 0).val (i 2).val k, ← EReal.coe_mul]
  rfl

theorem ref_nz (i : S8x2048x2048.Idx) :
    val_main_call0_v0 (F := Ideal) x0 i = ((-Z (hQ P (i 0).val) (hK P (i 0).val) (i 1).val (i 2).val : ℝ) : EReal) := by
  rw [val_main_call0_v0_apply, ref_z P x0 hx]; rfl

theorem ref_nnz (i : S8x2048x2048.Idx) :
    val_main_call1_v0 (F := Ideal) x0 i = ((Z (hQ P (i 0).val) (hK P (i 0).val) (i 1).val (i 2).val : ℝ) : EReal) := by
  rw [val_main_call1_v0_apply, val_main_v17_apply, ref_z P x0 hx]
  show - -((_ : ℝ) : EReal) = _
  rw [neg_neg]

/-- `log σ(z)`. -/
theorem ref_lb (i : S8x2048x2048.Idx) :
    val_main_v16 (F := Ideal) x0 i = ((lsg (Z (hQ P (i 0).val) (hK P (i 0).val) (i 1).val (i 2).val) : ℝ) : EReal) := by
  have e : val_main_call0_v1 (F := Ideal) x0 i = ((-lsg (Z (hQ P (i 0).val) (hK P (i 0).val) (i 1).val (i 2).val) : ℝ) : EReal) := by
    rw [val_main_call0_v1_apply, val_main_call0_call0_v4_apply, val_main_call0_call0_v6_apply, val_main_call0_call0_v11_apply,
      val_main_call0_call0_v10_apply, val_main_call0_call0_v9_apply, val_main_call0_call0_v8_apply, val_main_call0_call0_v7_apply,
      val_main_call0_call0_v3_apply, val_main_call0_call0_v1_apply, ref_nz P x0 hx]
    refine (softplus_host _).trans ?_
    rw [neg_neg]
  rw [val_main_v16_apply, e]
  show -((_ : ℝ) : EReal) = _
  rw [← EReal.coe_neg, neg_neg]

/-- `log (1 − σ(z))`. -/
theorem ref_lm (i : S8x2048x2048.Idx) :
    val_main_v18 (F := Ideal) x0 i = ((lsg (-Z (hQ P (i 0).val) (hK P (i 0).val) (i 1).val (i 2).val) : ℝ) : EReal) := by
  have e : val_main_call1_v1 (F := Ideal) x0 i = ((-lsg (-Z (hQ P (i 0).val) (hK P (i 0).val) (i 1).val (i 2).val) : ℝ) : EReal) := by
    rw [val_main_call1_v1_apply, val_main_call1_call0_v4_apply, val_main_call1_call0_v6_apply, val_main_call1_call0_v11_apply,
      val_main_call1_call0_v10_apply, val_main_call1_call0_v9_apply, val_main_call1_call0_v8_apply, val_main_call1_call0_v7_apply,
      val_main_call1_call0_v3_apply, val_main_call1_call0_v1_apply, ref_nnz P x0 hx]
    exact softplus_host _
  rw [val_main_v18_apply, e]
  show -((_ : ℝ) : EReal) = _
  rw [← EReal.coe_neg, neg_neg]

/-- The same of the keys before the row, and zero at the others. -/
theorem ref_LM (i : S8x2048x2048.Idx) :
    val_main_v19 (F := Ideal) x0 i = ((LM (hQ P (i 0).val) (hK P (i 0).val) (i 1).val (i 2).val : ℝ) : EReal) := by
  rw [val_main_v19_apply, ref_mask, ref_lm P x0 hx, val_main_call2_v2_apply]
  show Scalar.select _ _ (Ideal.ofBits .f32 0x00000000#32) = _
  rw [ofBits_zero, select_coe]
  simp only [decide_eq_true_eq]
  rfl

/-- What the keys from the one at hand on take. -/
theorem ref_suffix (i : S8x2048x2048.Idx) :
    val_main_v20 (F := Ideal) x0 i = ((LT (hQ P (i 0).val) (hK P (i 0).val) (i 1).val
      - ∑ j ∈ range (i 2).val, LM (hQ P (i 0).val) (hK P (i 0).val) (i 1).val j : ℝ) : EReal) := by
  unfold val_main_v20
  refine (window_sum_host 0 2047 (fun h t s => LM (hQ P h) (hK P h) t s) (val_main_v19 (F := Ideal) x0) (ref_LM P x0 hx)
    (val_main_call3_v0 (F := Ideal)) ?_ _ _ i).trans ?_
  · intro i; rw [val_main_call3_v0_apply]; exact ofBits_zero.trans EReal.coe_zero
  · rw [suffix_sum (fun s => LM (hQ P (i 0).val) (hK P (i 0).val) (i 1).val s) _ (i 2).isLt]
    rfl

/-- The weights. -/
theorem ref_W (i : S8x2048x2048.Idx) :
    val_main_v24 (F := Ideal) x0 i = ((W (hQ P (i 0).val) (hK P (i 0).val) (i 1).val (i 2).val : ℝ) : EReal) := by
  have e : val_main_v23 (F := Ideal) x0 i = ((Real.exp (lsg (Z (hQ P (i 0).val) (hK P (i 0).val) (i 1).val (i 2).val)
      + (LT (hQ P (i 0).val) (hK P (i 0).val) (i 1).val
      - ∑ j ∈ range ((i 2).val + 1), LM (hQ P (i 0).val) (hK P (i 0).val) (i 1).val j)) : ℝ) : EReal) := by
    rw [val_main_v23_apply, val_main_v22_apply, val_main_v21_apply, ref_lb P x0 hx, ref_suffix P x0 hx, ref_LM P x0 hx]
    show Ideal.exp (((_ : ℝ) : EReal) + (((_ : ℝ) : EReal) - ((_ : ℝ) : EReal))) = _
    rw [← EReal.coe_sub, ← EReal.coe_add, exp_coe, sum_range_succ, sub_sub]
  rw [val_main_v24_apply, ref_mask', e, val_main_call4_v2_apply]
  show Scalar.select _ _ (Ideal.ofBits .f32 0x00000000#32) = _
  rw [ofBits_zero, select_coe]
  simp only [decide_eq_true_eq]
  rfl

/-- The output, head `h` in columns `128 h …`. -/
theorem ref_out (hf : x0 = Arrays.up 2048 6144 f) : val_main_v27 (F := Ideal) x0
    = Arrays.up 2048 1024 (fun t e => AT (hQ P (e / 128)) (hK P (e / 128)) (vals f (e / 128)) t (e % 128)) := by
  funext i
  have h0 : (i 0).val < 2048 := (i 0).isLt
  have h1 : (i 1).val < 1024 := (i 1).isLt
  rw [val_main_v27_apply, val_main_v26_apply, val_main_v25_apply]
  simp only [ref_W P x0 hx, ref_v f x0 hf]
  show (∑ k : Fin 2048, vals f (((i 0).val * 1024 + (i 1).val) / 128 % 8) k.val (((i 0).val * 1024 + (i 1).val) % 128)
    * ((W (hQ P (((i 0).val * 1024 + (i 1).val) / 128 % 8)) (hK P (((i 0).val * 1024 + (i 1).val) / 128 % 8)) (((i 0).val * 1024 + (i 1).val) / 1024) k.val : ℝ) : EReal))
    = AT (hQ P ((i 1).val / 128)) (hK P ((i 1).val / 128)) (vals f ((i 1).val / 128)) (i 0).val ((i 1).val % 128)
  rw [show ((i 0).val * 1024 + (i 1).val) / 128 % 8 = (i 1).val / 128 by omega, show ((i 0).val * 1024 + (i 1).val) % 128 = (i 1).val % 128 by omega,
    show ((i 0).val * 1024 + (i 1).val) / 1024 = (i 0).val by omega]
  unfold AT
  rw [sum_range]
  exact Finset.sum_congr rfl fun k _ => mul_comm _ _

/-- What each row loses, in each column of a head. -/
theorem ref_loss : val_main_v32 (F := Ideal) x0 = up 2048 1024 (fun t e => LT (hQ P (e / 128)) (hK P (e / 128)) t) :=
  Cert.Sba.hostTot_up (val_main_v19 (F := Ideal) x0) (fun h t s => LM (hQ P h) (hK P h) t s) (ref_LM P x0 hx)

end stages

end Cert.AttProof
-- ==== Proof.Att.lean ====
module
public import proofs.«01_k».proof.Defs
public import proofs.«01_k».proof.Proof.AttRef
public import proofs.«01_k».proof.Proof.Pre
public import proofs.«01_k».proof.Proof.Gen.AttReferenceIdeal.Run
public import proofs.«01_k».proof.Proof.Gen.Pre_finite_qk

/-! The attention's forward: the blocks the kernel reads, the precondition, and the two results, which are the reference's. -/

@[expose] public section

set_option maxRecDepth 16384

noncomputable section

namespace Cert.AttProof

open Idealize.ShloMosaic Idealize.SL Idealize.SL.Sem Cert.AttIdeal Cert.AttIdeal.Gen Cert.AttIdeal.Value
open Cert.Sba (up rows hQ hK reals reals_at real_of_lt)

/-! The block numbers of the three operands at a point. -/

theorem index0 : ∀ t : Fin cfg0.N, win0_0.index t (0 : Fin 2) = t.val % 8 ∧ win0_0.index t (1 : Fin 2) = t.val / 8 :=
  (by decide +kernel : ∀ t : Fin grid0.N, _)
theorem index1 : ∀ t : Fin cfg0.N, win0_1.index t (0 : Fin 2) = 0 ∧ win0_1.index t (1 : Fin 2) = 8 + t.val / 8 :=
  (by decide +kernel : ∀ t : Fin grid0.N, _)
theorem index2 : ∀ t : Fin cfg0.N, win0_2.index t (0 : Fin 2) = 0 ∧ win0_2.index t (1 : Fin 2) = 16 + t.val / 8 :=
  (by decide +kernel : ∀ t : Fin grid0.N, _)

/-! Where an element of a block lies in its array. -/

theorem place0 (t : Fin cfg0.N) (y : (⟨2, ![256, 128]⟩ : Shape).Idx) :
    (((cfg0.win 0).blk t).view.emb y 0).val = 256 * (t.val % 8) + (y 0).val ∧ (((cfg0.win 0).blk t).view.emb y 1).val = 128 * (t.val / 8) + (y 1).val := by
  have b0 : (((cfg0.win 0).blk t).view.emb y 0).val = win0_0.index t (0 : Fin 2) * 256 + 1 * (y 0).val := rfl
  have b1 : (((cfg0.win 0).blk t).view.emb y 1).val = win0_0.index t (1 : Fin 2) * 128 + 1 * (y 1).val := rfl
  rw [b0, b1, (index0 t).1, (index0 t).2]
  omega

theorem place1 (t : Fin cfg0.N) (y : (⟨2, ![2048, 128]⟩ : Shape).Idx) :
    (((cfg0.win 1).blk t).view.emb y 0).val = (y 0).val ∧ (((cfg0.win 1).blk t).view.emb y 1).val = 1024 + 128 * (t.val / 8) + (y 1).val := by
  have b0 : (((cfg0.win 1).blk t).view.emb y 0).val = win0_1.index t (0 : Fin 2) * 2048 + 1 * (y 0).val := rfl
  have b1 : (((cfg0.win 1).blk t).view.emb y 1).val = win0_1.index t (1 : Fin 2) * 128 + 1 * (y 1).val := rfl
  rw [b0, b1, (index1 t).1, (index1 t).2]
  omega

theorem place2 (t : Fin cfg0.N) (y : (⟨2, ![2048, 128]⟩ : Shape).Idx) :
    (((cfg0.win 2).blk t).view.emb y 0).val = (y 0).val ∧ (((cfg0.win 2).blk t).view.emb y 1).val = 2048 + 128 * (t.val / 8) + (y 1).val := by
  have b0 : (((cfg0.win 2).blk t).view.emb y 0).val = win0_2.index t (0 : Fin 2) * 2048 + 1 * (y 0).val := rfl
  have b1 : (((cfg0.win 2).blk t).view.emb y 1).val = win0_2.index t (1 : Fin 2) * 128 + 1 * (y 1).val := rfl
  rw [b0, b1, (index2 t).1, (index2 t).2]
  omega

theorem isQK_at {P : ℕ → ℕ → ℝ} {A : S2048x6144.Idx → EReal} (hp : IsQK P A) (i : S2048x6144.Idx) {r c : ℕ}
    (h : (i 0).val = r ∧ (i 1).val = c) (hc : c < 2048) : A i = ((P r c : ℝ) : EReal) := by
  obtain ⟨rfl, rfl⟩ := h
  exact hp i hc

theorem at_of_up {f : ℕ → ℕ → EReal} {A : S2048x6144.Idx → EReal} (hf : A = Arrays.up 2048 6144 f) (i : S2048x6144.Idx) {r c : ℕ}
    (h : (i 0).val = r ∧ (i 1).val = c) : A i = f r c := by
  obtain ⟨rfl, rfl⟩ := h
  exact congrFun hf i

/-- The block of queries. -/
theorem block0 (P : ℕ → ℕ → ℝ) (A : S2048x6144.Idx → EReal) (hp : IsQK P A) (t : Fin cfg0.N) :
    ((cfg0.win 0).blk t).view.read (Elt Ideal) A = up 256 128 (rows (hQ P (t.val / 8)) (t.val % 8)) := by
  have ht : t.val < 64 := lt_of_lt_of_eq t.isLt N_0
  funext y
  have hy1 : (y 1).val < 128 := (y 1).isLt
  exact isQK_at hp (((cfg0.win 0).blk t).view.emb y) (place0 t y) (by omega)

/-- The head's keys. -/
theorem block1 (P : ℕ → ℕ → ℝ) (A : S2048x6144.Idx → EReal) (hp : IsQK P A) (t : Fin cfg0.N) :
    ((cfg0.win 1).blk t).view.read (Elt Ideal) A = up 2048 128 (hK P (t.val / 8)) := by
  have ht : t.val < 64 := lt_of_lt_of_eq t.isLt N_0
  funext y
  have hy1 : (y 1).val < 128 := (y 1).isLt
  exact isQK_at hp (((cfg0.win 1).blk t).view.emb y) (place1 t y) (by omega)

/-- The head's values. -/
theorem block2 (f : ℕ → ℕ → EReal) (A : S2048x6144.Idx → EReal) (hf : A = Arrays.up 2048 6144 f) (t : Fin cfg0.N) :
    ((cfg0.win 2).blk t).view.read (Elt Ideal) A = Arrays.up 2048 128 (vals f (t.val / 8)) := by
  funext y
  exact at_of_up hf (((cfg0.win 2).blk t).view.emb y) (place2 t y)

instance : Subsingleton Cert.Pre_finite_qk.S_.Idx := ⟨fun _ _ => funext fun a => a.elim0⟩

/-- Under the precondition the queries and the keys are reals. -/
theorem pre_reals (x0 : Cert.Pre_finite_qk.S2048x6144.Idx → EReal)
    (h : Cert.Pre_finite_qk.fn (F := Ideal) x0 = fun _ => 1#1) : IsQK (reals x0) x0 := by
  have h0 := congrFun h ix0
  intro i hi
  refine reals_at x0 i ?_
  have hr := ValueIdx.idx2_lt0 i
  have e := Host.reduce_andi_all _ _ _ _ _ h0 (ix2 ⟨(i 0).val, hr⟩ ⟨(i 1).val, hi⟩)
  have e2 : extractStridedSlice Cert.Pre_finite_qk.S2048x2048 ![0, 0] x0 Cert.Pre_finite_qk.Gen.slices_S2048x6144_S2048x2048_0_0
      (ix2 ⟨(i 0).val, hr⟩ ⟨(i 1).val, hi⟩) = x0 i :=
    extractStridedSlice_apply ![0, 0] x0 _ _ i (fun a => match a with
      | ⟨0, _⟩ => by show (i 0).val = 0 + (i 0).val; omega
      | ⟨1, _⟩ => by show (i 1).val = 0 + (i 1).val; omega)
  rw [← e2]
  exact real_of_lt _ e

/-- The reference declares no semaphore, and its run leaves its argument. -/
theorem frame_reference (m : (ℓ : Loc Cert.AttReferenceIdeal.nD Cert.AttReferenceIdeal.τ Cert.AttReferenceIdeal.sig) → Buf (Elt Ideal) ℓ)
    (g : Dev Cert.AttReferenceIdeal.nD → PrngReg) :
    θ_run (Cert.AttReferenceIdeal.defs (F := Ideal)) (onTc (τ := Cert.AttReferenceIdeal.τ) (Cert.AttReferenceIdeal.main (F := Ideal))) ⟨m, fun _ => 0, g⟩
      (fun r => (∀ c : Dev Cert.AttReferenceIdeal.nD, r.2.mem ((c.tc : Thread Cert.AttReferenceIdeal.nD Cert.AttReferenceIdeal.τ).loc Cert.AttReferenceIdeal.main_arg0)
        = m ((c.tc : Thread Cert.AttReferenceIdeal.nD Cert.AttReferenceIdeal.τ).loc Cert.AttReferenceIdeal.main_arg0)) ∧ r.2.sem = fun _ => 0) :=
  (θ_run Cert.AttReferenceIdeal.defs _ _).mono (fun r h => ⟨fun c => (h c).2.2, sem_eq_zero_of_no_sems (by decide) r.2⟩)
    (Cert.AttReferenceIdeal.Value.run (F := Ideal) m g)

variable (m : (ℓ : Loc nD τ sig) → Buf (Elt Ideal) ℓ) (c : Dev nD)

/-- The output and what each row loses: the kernel's arrays hold what the reference computes. -/
theorem results (x0 : Cert.AttReferenceIdeal.S2048x6144.Idx → EReal) (e0 : m ((c.tc : Thread nD τ).loc main_arg0) = x0)
    (h : Cert.Pre_finite_qk.fn (F := Ideal) x0 = fun _ => 1#1) :
    G3 m c = Cert.AttReferenceIdeal.Read.val_main_v27 (F := Ideal) x0 ∧ G4 m c = Cert.AttReferenceIdeal.Read.val_main_v32 (F := Ideal) x0 := by
  have hp := pre_reals x0 h
  obtain ⟨f, hf⟩ := Arrays.exists_up (by decide) (by decide) x0
  have hV : V m c main_arg0 = x0 := (V_main_arg0 m c).trans e0
  have hI : AllIns m c (hQ (reals x0)) (hK (reals x0)) (vals f) := fun t =>
    ⟨block0 (reals x0) (V m c main_arg0) (by rw [hV]; exact hp) t, block1 (reals x0) (V m c main_arg0) (by rw [hV]; exact hp) t,
      block2 f (V m c main_arg0) (hV.trans hf) t⟩
  exact ⟨(G3_up m c _ _ _ hI).trans (ref_out (reals x0) f x0 hp hf).symm, (G4_up m c _ _ _ hI).trans (ref_loss (reals x0) x0 hp).symm⟩

/-- The kernel's results are the reference's. -/
theorem algebraic : Cert.algebraic_AttIdeal_AttReferenceIdeal_pre_finite_qk := by
  intro m g m' g' hpre hagree
  refine ⟨fun c => G3 m c, fun c => G4 m c, Value.run m g,
    (θ_run Cert.AttReferenceIdeal.defs _ _).mono (fun r h c => ?_) (Cert.AttReferenceIdeal.Value.run (F := Ideal) m' g')⟩
  obtain ⟨h0, h1, a⟩ := h c
  obtain ⟨r0, r1⟩ := results m c _ rfl (hpre c)
  refine ⟨(h0.trans (Cert.AttReferenceIdeal.Read.val_main_v27_eq m' c)).trans ?_,
    (h1.trans (Cert.AttReferenceIdeal.Read.val_main_v32_eq _)).trans ?_, a⟩
  · exact (congrArg (Cert.AttReferenceIdeal.Read.val_main_v27 (F := Ideal)) (hagree c)).trans r0.symm
  · exact (congrArg (Cert.AttReferenceIdeal.Read.val_main_v32 (F := Ideal)) (hagree c)).trans r1.symm

end Cert.AttProof
-- ==== Proof.Rms.lean ====
module
public import proofs.«01_k».proof.Defs
public import proofs.«01_k».proof.Proof.DxRef
public import Idealize.ShloMosaic.Lib.Pipeline.ValueKit
public import proofs.«01_k».proof.Proof.Gen.RmsIdeal.Value
public import proofs.«01_k».proof.Proof.Gen.RmsReferenceIdeal.Run
public import proofs.«01_k».proof.Proof.Gen.RmsReferenceIdeal.Read

/-! The first pre-norm: the rows normalised by their mean square and scaled. The kernel does it in eight blocks of 256 rows. -/

@[expose] public section

set_option maxRecDepth 16384

noncomputable section

namespace Cert.RmsProof

open Idealize.ShloMosaic Idealize.SL Idealize.SL.Sem Cert.RmsIdeal Cert.RmsIdeal.Gen Cert.RmsIdeal.Value Cert.Arrays Cert.Norm Finset

variable (X : ℕ → ℕ → EReal) (G : ℕ → EReal)

/-- The normalised and scaled rows. -/
def normed (t d : ℕ) : EReal := hat (X t) d * G d

theorem pay1_eq : k0_pay1 (F := Ideal) (up 256 2048 X) (up 1 2048 fun _ d => G d) = up 256 2048 (normed X G) := by
  unfold k0_pay1
  funext j
  idx_vars j
  pointwise
  simp only [up_ix2]
  rw [← sum_range (fun e => X _ e * X _ e)]
  rfl

theorem index2 : ∀ t : Fin cfg0.N, win0_2.index t (0 : Fin 2) = t.val ∧ win0_2.index t (1 : Fin 2) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)

theorem place2 (t : Fin cfg0.N) (y : (⟨2, ![256, 2048]⟩ : Shape).Idx) :
    (((cfg0.win 2).blk t).view.emb y 0).val = 256 * t.val + (y 0).val ∧ (((cfg0.win 2).blk t).view.emb y 1).val = (y 1).val := by
  have b0 : (((cfg0.win 2).blk t).view.emb y 0).val = win0_2.index t (0 : Fin 2) * 256 + 1 * (y 0).val := rfl
  have b1 : (((cfg0.win 2).blk t).view.emb y 1).val = win0_2.index t (1 : Fin 2) * 2048 + 1 * (y 1).val := rfl
  rw [b0, b1, (index2 t).1, (index2 t).2]
  omega

theorem place1 (t : Fin cfg0.N) (y : (⟨2, ![1, 2048]⟩ : Shape).Idx) :
    (((cfg0.win 1).blk t).view.emb y 0).val = (y 0).val ∧ (((cfg0.win 1).blk t).view.emb y 1).val = (y 1).val := by
  have b0 : (((cfg0.win 1).blk t).view.emb y 0).val = win0_1.index t (0 : Fin 2) * 1 + 1 * (y 0).val := rfl
  have b1 : (((cfg0.win 1).blk t).view.emb y 1).val = win0_1.index t (1 : Fin 2) * 2048 + 1 * (y 1).val := rfl
  rw [b0, b1, (index1 t).1, (index1 t).2]
  omega

section arrays
variable (m : (ℓ : Loc nD τ sig) → Buf (Elt Ideal) ℓ) (c : Dev nD)

/-- What the kernel's array holds. -/
theorem array_eq (h0 : m ((c.tc : Thread nD τ).loc main_arg0) = up 2048 2048 X) (h1 : m ((c.tc : Thread nD τ).loc main_arg1) = up 1 2048 fun _ d => G d) :
    (dats m 0 c).arrAt 2 cfg0.N = up 2048 2048 (normed X G) := by
  refine (dats m 0 c).arrAt_eq_of_covers 2 _ (by decide +kernel) fun t _ y => ?_
  have i0 : iblk m c 0 t = up 256 2048 (fun a => X (256 * t.val + a)) :=
    funext fun y => up_at ((V_main_arg0 m c).trans h0) (((cfg0.win 0).blk t).view.emb y) (place2 t y)
  have i1 : iblk m c 1 t = up 1 2048 (fun _ d => G d) :=
    funext fun y => up_at ((V_main_arg1 m c).trans h1) (((cfg0.win 1).blk t).view.emb y) (place1 t y)
  blk_simp
  rw [after0_2]
  frame_out
  rw [i0, i1, pay1_eq]
  exact (up_at (f := normed X G) rfl _ (place2 t y)).symm

end arrays

section reference
open Cert.RmsReferenceIdeal.Read

theorem ref_normed : val_main_v12 (F := Ideal) (up 2048 2048 X) (up 1 2048 fun _ d => G d) = up 2048 2048 (normed X G) := by
  have e : val_main_v9 (F := Ideal) (up 2048 2048 X) = up 2048 2048 fun t d => hat (X t) d := Cert.DxOdd.hostHat_eq X
  funext j
  rw [val_main_v12_apply, val_main_v11_apply, val_main_v10_apply, e]
  rfl

end reference

/-- From memories that agree on the rows and the scale, the kernel and the reference end with the same array. -/
theorem algebraic : Cert.algebraic_RmsIdeal_RmsReferenceIdeal := by
  intro m g m' g' _ hagree
  refine ⟨fun c => (dats m 0 c).arrAt 2 cfg0.N, run_blocks m g,
    (θ_run Cert.RmsReferenceIdeal.defs _ _).mono (fun r h c => ?_) (Cert.RmsReferenceIdeal.Value.run (F := Ideal) m' g')⟩
  obtain ⟨e, a⟩ := h c
  obtain ⟨q0, q1⟩ := hagree c
  obtain ⟨X, hX⟩ := exists_up (by decide) (by decide) (m ((c.tc : Thread nD τ).loc main_arg0))
  obtain ⟨G, hG⟩ := exists_row (by decide) (m ((c.tc : Thread nD τ).loc main_arg1))
  refine ⟨(e.trans (Cert.RmsReferenceIdeal.Read.val_main_v12_eq _ _)).trans ?_, a⟩
  rw [q0.trans hX, q1.trans hG, ref_normed]
  exact (array_eq X G m c hX hG).symm

end Cert.RmsProof
-- ==== Proof.LayerNorm.lean ====
module
public import proofs.«01_k».proof.Proof.Norm

/-! A gate `x · σ(x)` and a row's layer norm, over the extended reals, and the gradients through them: the short forms are what the
   chain rule gives. A row with an infinite entry has variance `⊤`, and is normalised to zero. -/

@[expose] public section

noncomputable section

namespace Cert.LayerNorm

open Idealize.ShloMosaic Finset Cert.Norm
open Cert.Sba (ofBits_zero ofBits_one sum_coe)

/-- The words of two and of the row's length. -/
abbrev two : EReal := Ideal.ofBits .f32 0x40000000#32
abbrev wide : EReal := Ideal.ofBits .f32 0x44800000#32

theorem one_eq : Ideal.ofBits .f32 0x3F800000#32 = 1 := ofBits_one.trans EReal.coe_one
theorem two_eq : two = ((2 : ℝ) : EReal) := by simp [Ideal.ofBits, Ideal.ieee, -EReal.coe_mul]; norm_num
theorem wide_eq : wide = ((1024 : ℝ) : EReal) := by simp [Ideal.ofBits, Ideal.ieee, -EReal.coe_mul]; norm_num
theorem div_wide (y : EReal) : Ideal.div y wide = y * ((1 / 1024 : ℝ) : EReal) := by
  rw [wide_eq]; exact Ideal.div_coe (by norm_num) y

/-- The logistic function, the gate, and the gate's derivative. -/
def sg (x : EReal) : EReal := Ideal.div 1 (1 + Ideal.exp (0 - x))
def gate (x : EReal) : EReal := x * sg x
def dgate (x : EReal) : EReal := sg x * (1 + x * (1 - sg x))

theorem sg_neg (x : EReal) : Ideal.div 1 (1 + Ideal.exp (-x)) = sg x := by
  unfold sg
  rw [zero_sub]

theorem sg_eq (x : EReal) : sg x = Ideal.logistic x := by
  rw [← sg_neg]
  rfl

theorem gate_real (x : ℝ) : ∃ r : ℝ, gate x = r :=
  ⟨x * (1 + Real.exp (-x))⁻¹, by unfold gate; rw [sg_eq, Ideal.logistic_coe, EReal.coe_mul]⟩

theorem dgate_real (x : ℝ) : ∃ r : ℝ, dgate x = r :=
  ⟨(1 + Real.exp (-x))⁻¹ * (1 + x * (1 - (1 + Real.exp (-x))⁻¹)), by
    unfold dgate; rw [sg_eq, Ideal.logistic_coe]; norm_cast⟩

/-- A real cotangent through a gate, the gate's argument being anything. -/
theorem through_gate (c : ℝ) (x : EReal) :
    (c : EReal) * sg x + (x * (c : EReal)) * (sg x * (1 - sg x)) = (c : EReal) * dgate x := by
  unfold dgate
  rw [sg_eq]
  induction x using EReal.rec with
  | bot => rw [Ideal.logistic_bot]; simp
  | top =>
    rw [Ideal.logistic_top, ← EReal.coe_one, ← EReal.coe_sub, sub_self, EReal.coe_zero]
    simp
  | coe x =>
    rw [Ideal.logistic_coe]
    norm_cast
    ring

variable (d h : ℕ → EReal) (e : ℕ)

/-- A row's mean, its entries less the mean, its variance with the small number added, and the normalised row. -/
def mu : EReal := Ideal.div (∑ e ∈ range 1024, d e) wide
def cen : EReal := d e - mu d
def vr : EReal := Ideal.div (∑ e ∈ range 1024, cen d e * cen d e) wide + eps
def ri : EReal := Ideal.rsqrt (vr d)
def nn : EReal := cen d e * ri d

/-- The gradient at the row from the cotangent of the normalised row, by the normalised row. -/
def down : EReal := ri d * ((h e - Ideal.div (∑ e ∈ range 1024, h e) wide) - nn d e * Ideal.div (∑ e ∈ range 1024, h e * nn d e) wide)

/-- What reaches every entry through the variance. -/
def thruVar : EReal := Ideal.div ((∑ e ∈ range 1024, cen d e * h e) * (mhalf * Ideal.div (ri d) (vr d))) wide

/-- What reaches every entry through the mean. -/
def thruMean : EReal := Ideal.div ((∑ e ∈ range 1024, -(h e * ri d)) + ∑ e ∈ range 1024, -(thruVar d h * (two * cen d e))) wide

/-- The gradient at the row, step by step. -/
def chain : EReal := (h e * ri d + thruVar d h * (two * cen d e)) + thruMean d h

/-- A row of reals. -/
def Reals (f : ℕ → ℝ) : Prop := ∀ e < 1024, d e = ((f e : ℝ) : EReal)

theorem sum_reals {d : ℕ → EReal} {f : ℕ → ℝ} (hd : Reals d f) : ∑ e ∈ range 1024, d e = ((∑ e ∈ range 1024, f e : ℝ) : EReal) := by
  rw [← sum_coe]
  exact sum_congr rfl fun e he => hd e (mem_range.mp he)

section real
variable (f : ℕ → ℝ)

/-- The same of a row of reals. -/
def rmu : ℝ := (∑ e ∈ range 1024, f e) * (1 / 1024)
def rcen : ℝ := f e - rmu f
def rvr : ℝ := (∑ e ∈ range 1024, rcen e f * rcen e f) * (1 / 1024) + 8796093 / 2 ^ 43
def rri : ℝ := (Real.sqrt (rvr f))⁻¹

theorem rvr_pos : 0 < rvr f := by
  have : 0 ≤ ∑ e ∈ range 1024, rcen e f * rcen e f := sum_nonneg fun e _ => mul_self_nonneg _
  unfold rvr
  positivity

theorem rri_sq : rri f * rri f * rvr f = 1 := by
  have hv := rvr_pos f
  unfold rri
  rw [← mul_inv, Real.mul_self_sqrt hv.le, inv_mul_cancel₀ hv.ne']

theorem sum_rcen : ∑ e ∈ range 1024, rcen e f = 0 := by
  unfold rcen rmu
  rw [sum_sub_distrib, sum_const, card_range]
  simp only [nsmul_eq_mul]
  push_cast
  ring

variable {d f} (hd : Reals d f)
include hd

theorem mu_real : mu d = ((rmu f : ℝ) : EReal) := by
  unfold mu rmu
  rw [sum_reals hd, div_wide, EReal.coe_mul]

theorem cen_real : Reals (cen d) (fun e => rcen e f) := fun e he => by
  unfold cen rcen
  rw [hd e he, mu_real hd, EReal.coe_sub]

theorem vr_real : vr d = ((rvr f : ℝ) : EReal) := by
  have hc := cen_real hd
  unfold vr rvr
  rw [sum_reals (f := fun e => rcen e f * rcen e f) fun e he => by rw [hc e he, EReal.coe_mul], div_wide, eps_eq, EReal.coe_add, EReal.coe_mul]

theorem ri_real : ri d = ((rri f : ℝ) : EReal) := by
  unfold ri rri
  rw [vr_real hd, Ideal.rsqrt_coe, if_neg (not_lt.mpr (rvr_pos f).le), if_neg (rvr_pos f).ne']

theorem nn_real : Reals (nn d) (fun e => rcen e f * rri f) := fun e he => by
  unfold nn
  rw [cen_real hd e he, ri_real hd, EReal.coe_mul]

end real

/-- A row is of reals, or it is normalised by zero. -/
theorem cases : (∃ f, Reals d f) ∨ (ri d = 0 ∧ vr d = ⊤) := by
  by_cases hr : ∀ e < 1024, d e ≠ ⊥ ∧ d e ≠ ⊤
  · exact .inl ⟨fun e => (d e).toReal, fun e he => (EReal.coe_toReal (hr e he).2 (hr e he).1).symm⟩
  · right
    have hm : mu d = ⊥ ∨ mu d = ⊤ := by
      by_contra hn
      push Not at hn hr
      obtain ⟨a, ha, hb⟩ := hr
      obtain ⟨s, hs⟩ : ∃ s : ℝ, ∑ e ∈ range 1024, d e = (s : EReal) := by
        unfold mu at hn
        rw [div_wide] at hn
        induction ht : ∑ e ∈ range 1024, d e using EReal.rec with
        | bot => rw [ht] at hn; exact absurd (EReal.bot_mul_coe_of_pos (by norm_num)) hn.1
        | top => rw [ht] at hn; exact absurd (EReal.top_mul_coe_of_pos (by norm_num)) hn.2
        | coe s => exact ⟨s, rfl⟩
      have hi : d a + ∑ e ∈ (range 1024).erase a, d e = (s : EReal) := (add_sum_erase _ _ (mem_range.mpr ha)).trans hs
      by_cases h0 : d a = ⊥
      · rw [h0, EReal.bot_add] at hi
        exact absurd hi (EReal.coe_ne_bot s).symm
      · rw [hb h0] at hi
        by_cases h1 : ∑ e ∈ (range 1024).erase a, d e = ⊥
        · rw [h1, EReal.add_bot] at hi
          exact absurd hi (EReal.coe_ne_bot s).symm
        · rw [EReal.top_add_of_ne_bot h1] at hi
          exact absurd hi (EReal.coe_ne_top s).symm
    have h0 : cen d 0 = ⊥ ∨ cen d 0 = ⊤ := by
      unfold cen
      rcases hm with hm | hm
      · rw [hm, sub_eq_add_neg, EReal.neg_bot]
        by_cases hd : d 0 = ⊥
        · rw [hd]; exact .inl rfl
        · exact .inr (EReal.add_top_of_ne_bot hd)
      · rw [hm, sub_eq_add_neg, EReal.neg_top]
        exact .inl (EReal.add_bot _)
    have hs : ∑ e ∈ range 1024, cen d e * cen d e = ⊤ := by
      rw [← add_sum_erase _ _ (mem_range.mpr (by norm_num : 0 < 1024))]
      have hp : 0 ≤ ∑ e ∈ (range 1024).erase 0, cen d e * cen d e := sum_nonneg fun e _ => sq_nonneg' _
      have h1 : cen d 0 * cen d 0 = ⊤ := by rcases h0 with h0 | h0 <;> rw [h0] <;> rfl
      rw [h1]
      exact EReal.top_add_of_ne_bot (ne_of_gt (lt_of_lt_of_le (EReal.bot_lt_coe 0) hp))
    have hv : vr d = ⊤ := by
      unfold vr
      rw [hs, div_wide, EReal.top_mul_coe_of_pos (by norm_num), eps_eq]
      exact EReal.top_add_coe _
    exact ⟨by unfold ri; rw [hv]; rfl, hv⟩

/-- The normalised row is of reals in any case. -/
theorem nn_reals : ∃ f, Reals (nn d) f := by
  rcases cases d with ⟨f, hf⟩ | ⟨h0, _⟩
  · exact ⟨_, nn_real hf⟩
  · exact ⟨fun _ => 0, fun e _ => by unfold nn; rw [h0, mul_zero]; rfl⟩

/-- From a real cotangent the two forms of the gradient are the same. -/
theorem chain_eq_down (g : ℕ → ℝ) (hg : Reals h g) (he : e < 1024) : chain d h e = down d h e := by
  rcases cases d with ⟨f, hf⟩ | ⟨h0, hv⟩
  · have hc := cen_real hf
    have hn := nn_real hf
    have e1 : thruVar d h = (((∑ e ∈ range 1024, rcen e f * g e) * (-(1 / 2) * (rri f * (1 / rvr f))) * (1 / 1024) : ℝ) : EReal) := by
      unfold thruVar
      rw [sum_reals (f := fun e => rcen e f * g e) fun e he => by rw [hc e he, hg e he, EReal.coe_mul], ri_real hf, vr_real hf,
        Ideal.div_coe (rvr_pos f).ne', mhalf_eq, div_wide]
      norm_cast
    have e2 : thruMean d h = (((∑ e ∈ range 1024, -(g e * rri f)) + ∑ e ∈ range 1024,
        -((∑ e ∈ range 1024, rcen e f * g e) * (-(1 / 2) * (rri f * (1 / rvr f))) * (1 / 1024) * (2 * rcen e f))) * (1 / 1024) : ℝ) := by
      unfold thruMean
      rw [e1, sum_reals (f := fun e => -(g e * rri f)) fun e he => by rw [hg e he, ri_real hf]; norm_cast,
        sum_reals (f := fun e => -((∑ e ∈ range 1024, rcen e f * g e) * (-(1 / 2) * (rri f * (1 / rvr f))) * (1 / 1024) * (2 * rcen e f)))
          fun e he => by rw [hc e he, two_eq]; norm_cast, div_wide]
      norm_cast
    have e3 : chain d h e = (((g e * rri f + (∑ e ∈ range 1024, rcen e f * g e) * (-(1 / 2) * (rri f * (1 / rvr f))) * (1 / 1024) * (2 * rcen e f))
        + ((∑ e ∈ range 1024, -(g e * rri f)) + ∑ e ∈ range 1024,
        -((∑ e ∈ range 1024, rcen e f * g e) * (-(1 / 2) * (rri f * (1 / rvr f))) * (1 / 1024) * (2 * rcen e f))) * (1 / 1024) : ℝ) : EReal) := by
      unfold chain
      rw [e1, e2, hg e he, ri_real hf, hc e he, two_eq]
      norm_cast
    have e4 : down d h e = ((rri f * ((g e - (∑ e ∈ range 1024, g e) * (1 / 1024))
        - rcen e f * rri f * ((∑ e ∈ range 1024, g e * (rcen e f * rri f)) * (1 / 1024))) : ℝ) : EReal) := by
      unfold down
      rw [ri_real hf, sum_reals hg, hg e he, hn e he,
        sum_reals (f := fun e => g e * (rcen e f * rri f)) fun e he => by rw [hg e he, hn e he, EReal.coe_mul, EReal.coe_mul, EReal.coe_mul], div_wide, div_wide]
      norm_cast
    rw [e3, e4]
    congr 1
    have hv := rvr_pos f
    have hq : 1 / rvr f = rri f * rri f := by
      rw [div_eq_iff hv.ne', rri_sq]
    rw [hq]
    have z1 : ∑ e ∈ range 1024, -(g e * rri f) = -((∑ e ∈ range 1024, g e) * rri f) := by rw [sum_neg_distrib, sum_mul]
    have z2 : ∀ T : ℝ, ∑ e ∈ range 1024, -(T * (2 * rcen e f)) = 0 := fun T => by
      rw [sum_neg_distrib, ← mul_sum, ← mul_sum, sum_rcen]; ring
    have z3 : ∑ e ∈ range 1024, g e * (rcen e f * rri f) = (∑ e ∈ range 1024, rcen e f * g e) * rri f := by
      rw [sum_mul]; exact sum_congr rfl fun e _ => by ring
    rw [z1, z2, z3]
    ring
  · have e1 : thruVar d h = 0 := by
      unfold thruVar
      rw [h0, hv]
      have : Ideal.div 0 ⊤ = 0 := by simp [Ideal.div]
      rw [this, mul_zero, mul_zero, div_wide, zero_mul]
    have e2 : thruMean d h = 0 := by
      unfold thruMean
      rw [e1, h0]
      simp only [mul_zero, zero_mul, neg_zero, sum_const_zero, add_zero]
      rw [div_wide, zero_mul]
    unfold chain down
    rw [e1, e2, h0]
    simp

end Cert.LayerNorm
-- ==== Proof.OddRowsBlock.lean ====
module
public import proofs.«01_k».proof.Proof.LayerNorm
public import proofs.«01_k».proof.Proof.Arrays
public import proofs.«01_k».proof.Proof.DxBlock
public import proofs.«01_k».proof.Proof.Gen.OddRowsIdeal.Value

/-! The arithmetic of the backward pass of the odd layer's gates and layer norm, over a block of 256 rows. -/

@[expose] public section

set_option maxRecDepth 16384

noncomputable section

namespace Cert.OddRowsProof

open Idealize.ShloMosaic Idealize.SL Idealize.SL.Sem Cert.OddRowsIdeal Cert.OddRowsIdeal.Gen Cert.Arrays Cert.LayerNorm Finset

variable (B A E S D Y Z : ℕ → ℕ → EReal) (C H : ℕ → EReal)

/-- The rows with their layer norm: the normalised row scaled and shifted. -/
def normed (t e : ℕ) : EReal := nn (D t) e * C e + H e

/-- The gradient at the first gate's argument `A`, at the second's `E`, at the factors `B` and `S`. -/
def dA (t e : ℕ) : EReal := ((Y t e * B t e) * S t e) * dgate (A t e)
def dE (t e : ℕ) : EReal := (Z t e * gate (normed D C H t e)) * dgate (E t e)
def dB (t e : ℕ) : EReal := (Y t e * gate (A t e)) * S t e
def dS (t e : ℕ) : EReal := (Y t e * gate (A t e)) * B t e

/-- The gradient at the layer norm's result, its product with the normalised row, the gradient at the layer norm's argument. -/
def dL (t e : ℕ) : EReal := (Z t e * gate (E t e)) * dgate (normed D C H t e)
def dC (t e : ℕ) : EReal := dL E D Z C H t e * nn (D t) e
def dD (t e : ℕ) : EReal := down (D t) (fun e => dL E D Z C H t e * C e) e

/-- A column's sum over the first `n` blocks of rows. -/
def upTo (f : ℕ → ℕ → EReal) (n e : ℕ) : EReal := ∑ t ∈ range (256 * n), f t e

theorem upTo_succ (f : ℕ → ℕ → EReal) (n e : ℕ) : upTo f n e + ∑ t ∈ range 256, f (256 * n + t) e = upTo f (n + 1) e := by
  unfold upTo
  rw [Nat.mul_succ, Finset.sum_range_add]

theorem pay1_eq : k0_pay1 (F := Ideal) (up 256 1024 D) = up 256 1024 fun t e => cen (D t) e := by
  unfold k0_pay1
  funext j
  idx_vars j
  pointwise
  simp only [up_ix2]
  unfold cen mu
  rw [sum_range]

theorem pay2_eq : k0_pay2 (F := Ideal) (up 256 1024 D) = up 256 1 fun t _ => ri (D t) := by
  unfold k0_pay2
  rw [pay1_eq]
  funext j
  idx_vars j
  pointwise
  simp only [up_ix2]
  unfold ri vr
  rw [sum_range]

theorem pay3_eq : k0_pay3 (F := Ideal) (up 256 1024 D) = up 256 1024 fun t e => nn (D t) e := by
  unfold k0_pay3
  rw [pay1_eq, pay2_eq]
  funext j
  idx_vars j
  pointwise
  simp only [up_ix2]
  rfl

theorem pay4_eq : k0_pay4 (F := Ideal) (up 256 1024 D) (up 1 1024 fun _ e => C e) (up 1 1024 fun _ e => H e) = up 256 1024 (normed D C H) := by
  unfold k0_pay4
  rw [pay3_eq]
  funext j
  idx_vars j
  pointwise
  simp only [up_ix2]
  rfl

theorem pay7_eq : k0_pay7 (F := Ideal) (up 256 1024 A) (k0_pay5 (F := Ideal) (up 256 1024 B) (up 256 1024 S) (up 256 1024 Y)) (k0_pay6 (F := Ideal) (up 256 1024 A))
    = up 256 1024 (dA B A S Y) := by
  unfold k0_pay7 k0_pay5 k0_pay6
  funext j
  idx_vars j
  pointwise
  simp only [up_ix2]
  rfl

theorem pay8_eq : k0_pay8 (F := Ideal) (up 256 1024 E) (up 256 1024 Z) (up 256 1024 (normed D C H)) = up 256 1024 (dE E D Z C H) := by
  unfold k0_pay8
  funext j
  idx_vars j
  pointwise
  simp only [up_ix2]
  rfl

theorem pay11_eq : k0_pay11 (F := Ideal) (up 256 1024 A) (up 256 1024 S) (up 256 1024 Y) (k0_pay9 (F := Ideal) (up 256 1024 A)) = up 256 1024 (dB A S Y) := by
  unfold k0_pay11 k0_pay10 k0_pay9
  funext j
  idx_vars j
  pointwise
  simp only [up_ix2]
  rfl

theorem pay12_eq : k0_pay12 (F := Ideal) (up 256 1024 A) (up 256 1024 B) (up 256 1024 Y) (k0_pay9 (F := Ideal) (up 256 1024 A)) = up 256 1024 (dS B A Y) := by
  unfold k0_pay12 k0_pay10 k0_pay9
  funext j
  idx_vars j
  pointwise
  simp only [up_ix2]
  rfl

theorem pay13_eq : k0_pay13 (F := Ideal) (up 256 1024 E) (up 256 1024 Z) (up 256 1024 (normed D C H)) = up 256 1024 (dL E D Z C H) := by
  unfold k0_pay13
  funext j
  idx_vars j
  pointwise
  simp only [up_ix2]
  rfl

theorem pay14_eq : k0_pay14 (F := Ideal) (up 256 1024 E) (up 256 1024 Z) (up 256 1024 (normed D C H))
    = up 1 1024 fun _ e => ∑ t ∈ range 256, dL E D Z C H t e := by
  unfold k0_pay14
  rw [pay13_eq]
  funext j
  idx_vars j
  pointwise
  simp only [up_ix2]
  exact (sum_range (fun t => dL E D Z C H t _)).symm

theorem pay16_eq : k0_pay16 (F := Ideal) (up 256 1024 fun t e => nn (D t) e) (up 256 1024 (dL E D Z C H))
    = up 1 1024 fun _ e => ∑ t ∈ range 256, dC E D Z C H t e := by
  unfold k0_pay16
  funext j
  idx_vars j
  pointwise
  simp only [up_ix2]
  exact (sum_range (fun t => dC E D Z C H t _)).symm

theorem pay18_eq : k0_pay18 (F := Ideal) (up 256 1 fun t _ => ri (D t)) (up 256 1024 fun t e => nn (D t) e) (up 256 1024 (dL E D Z C H)) (up 1 1024 fun _ e => C e)
    = up 256 1024 (dD E D Z C H) := by
  unfold k0_pay18
  funext j
  idx_vars j
  pointwise
  simp only [up_ix2]
  unfold dD down
  rw [sum_range, sum_range]

theorem pay19_eq : k0_pay19 (F := Ideal) (up 256 1 fun t _ => ri (D t)) (up 256 1024 fun t e => nn (D t) e) (up 256 1024 (dL E D Z C H)) (up 1 1024 fun _ e => C e)
    = up 1 1024 fun _ e => ∑ t ∈ range 256, dD E D Z C H t e := by
  unfold k0_pay19
  rw [pay18_eq]
  funext j
  idx_vars j
  pointwise
  simp only [up_ix2]
  exact (sum_range (fun t => dD E D Z C H t _)).symm

end Cert.OddRowsProof
-- ==== Proof.OddRowsRef.lean ====
module
public import proofs.«01_k».proof.Proof.OddRowsBlock
public import proofs.«01_k».proof.Proof.Gen.OddRowsReferenceIdeal.Run
public import proofs.«01_k».proof.Proof.Gen.OddRowsReferenceIdeal.Read

/-! What the reference computes from the odd layer's gates and layer norm, step by step as the chain rule gives it, and that from
   finite factors this is what the kernel's short forms give. -/

@[expose] public section

set_option maxRecDepth 16384

noncomputable section

namespace Cert.OddRowsProof

open Idealize.ShloMosaic Idealize.SL Idealize.SL.Sem Cert.OddRowsReferenceIdeal Cert.OddRowsReferenceIdeal.Gen Cert.OddRowsReferenceIdeal.Read Cert.Arrays Cert.LayerNorm Finset
open Cert.Norm (mhalf eps)

variable (P V D S : ℕ → ℕ → EReal) (C H : ℕ → EReal)

/-- The parts of the joined product that the layer reads, and the two halves of the cotangent. -/
abbrev pB (t e : ℕ) : EReal := P t (1024 + e)
abbrev pA (t e : ℕ) : EReal := P t (5120 + e)
abbrev pE (t e : ℕ) : EReal := P t (6144 + e)
abbrev vZ (t e : ℕ) : EReal := V t (1024 + e)

theorem ref_mu : val_main_v6 (F := Ideal) (up 2048 1024 D) = up 2048 1 fun t _ => mu (D t) := by
  unfold val_main_v6 val_main_v5 val_main_v4 val_main_v3 val_main_cst val_main_cst_0
  funext j
  idx_vars j
  pointwise
  simp only [up_ix2]
  unfold mu
  rw [sum_range]

theorem ref_cen : val_main_v17 (F := Ideal) (up 2048 1024 D) = up 2048 1024 fun t e => cen (D t) e := by
  unfold val_main_v17 val_main_v16
  rw [ref_mu]
  funext j
  idx_vars j
  pointwise
  simp only [up_ix2]
  rfl

theorem ref_cen' : val_main_v8 (F := Ideal) (up 2048 1024 D) = up 2048 1024 fun t e => cen (D t) e := ref_cen D

theorem ref_vr : val_main_v19 (F := Ideal) (up 2048 1024 D) = up 2048 1 fun t _ => vr (D t) := by
  unfold val_main_v19 val_main_v18 val_main_v15 val_main_v14 val_main_v13 val_main_v12 val_main_v9 val_main_cst_2 val_main_cst_3 val_main_cst_4
  rw [ref_cen']
  funext j
  idx_vars j
  pointwise
  simp only [up_ix2]
  unfold vr
  rw [sum_range]

theorem ref_ri : val_main_v20 (F := Ideal) (up 2048 1024 D) = up 2048 1 fun t _ => ri (D t) := by
  unfold val_main_v20
  rw [ref_vr]
  rfl

theorem ref_nn : val_main_v25 (F := Ideal) (up 2048 1024 D) = up 2048 1024 fun t e => nn (D t) e := by
  unfold val_main_v25 val_main_v24
  rw [ref_ri, ref_cen]
  funext j
  idx_vars j
  pointwise
  simp only [up_ix2]
  rfl

theorem ref_normed : val_main_v29 (F := Ideal) (up 2048 1024 D) (up 1 1024 fun _ e => C e) (up 1 1024 fun _ e => H e) = up 2048 1024 (normed D C H) := by
  unfold val_main_v29 val_main_v28 val_main_v27 val_main_v26
  rw [ref_nn]
  funext j
  idx_vars j
  pointwise
  simp only [up_ix2]
  rfl

theorem ref_sg : val_main_v30_2 (F := Ideal) (up 2048 1024 D) (up 1 1024 fun _ e => C e) (up 1 1024 fun _ e => H e)
    = up 2048 1024 fun t e => sg (normed D C H t e) := by
  unfold val_main_v30_2 val_main_call0_v4 val_main_call0_v3 val_main_call0_v2 val_main_call0_v1 val_main_call0_v0 val_main_call0_cst val_main_call0_cst_0
  rw [ref_normed]
  funext j
  idx_vars j
  pointwise
  simp only [up_ix2]
  exact sg_neg _

theorem ref_sg1 : val_main_v30_1 (F := Ideal) (up 2048 1024 D) (up 1 1024 fun _ e => C e) (up 1 1024 fun _ e => H e)
    = up 2048 1024 fun t e => sg (normed D C H t e) * (1 - sg (normed D C H t e)) := by
  unfold val_main_v30_1 val_main_call0_v7 val_main_call0_v6 val_main_call0_cst_1
  rw [ref_sg]
  funext j
  idx_vars j
  pointwise
  simp only [up_ix2]

theorem ref_gate : val_main_v30_0 (F := Ideal) (up 2048 1024 D) (up 1 1024 fun _ e => C e) (up 1 1024 fun _ e => H e)
    = up 2048 1024 fun t e => gate (normed D C H t e) := by
  unfold val_main_v30_0
  rw [ref_sg, ref_normed]
  rfl

theorem ref_g : val_main_v1 (F := Ideal) (up 2048 7168 P) = up 2048 2048 fun t e => P t (5120 + e) := by
  funext j
  rw [val_main_v1_apply]
  rfl

theorem ref_sgg : val_main_v32_2 (F := Ideal) (up 2048 7168 P) = up 2048 2048 fun t e => sg (P t (5120 + e)) := by
  unfold val_main_v32_2 val_main_call1_v4 val_main_call1_v3 val_main_call1_v2 val_main_call1_v1 val_main_call1_v0 val_main_call1_cst val_main_call1_cst_0
  rw [ref_g]
  funext j
  idx_vars j
  pointwise
  simp only [up_ix2]
  exact sg_neg _

theorem ref_sgg1 : val_main_v32_1 (F := Ideal) (up 2048 7168 P) = up 2048 2048 fun t e => sg (P t (5120 + e)) * (1 - sg (P t (5120 + e))) := by
  unfold val_main_v32_1 val_main_call1_v7 val_main_call1_v6 val_main_call1_cst_1
  rw [ref_sgg]
  funext j
  idx_vars j
  pointwise
  simp only [up_ix2]

theorem ref_gateg : val_main_v32_0 (F := Ideal) (up 2048 7168 P) = up 2048 2048 fun t e => gate (P t (5120 + e)) := by
  unfold val_main_v32_0
  rw [ref_sgg, ref_g]
  rfl

/-- The cotangents at the two halves of what the gates scale. -/
theorem ref_first : val_main_v37 (F := Ideal) (up 2048 7168 P) (up 2048 2048 V) = up 2048 1024 fun t e => V t e * gate (pA P t e) := by
  funext j
  rw [val_main_v37_apply, val_main_v35_apply, ref_gateg]
  rfl

theorem ref_second : val_main_v38 (F := Ideal) (up 2048 7168 P) (up 2048 2048 V) = up 2048 1024 fun t e => vZ V t e * gate (pE P t e) := by
  funext j
  rw [val_main_v38_apply, val_main_v35_apply, ref_gateg]
  show V (j 0).val (1024 + (j 1).val) * gate (P (j 0).val (5120 + (1024 + (j 1).val))) = V (j 0).val (1024 + (j 1).val) * gate (P (j 0).val (6144 + (j 1).val))
  rw [← Nat.add_assoc]

theorem ref_dB : val_main_v73 (F := Ideal) (up 2048 7168 P) (up 2048 1024 S) (up 2048 2048 V) = up 2048 1024 (dB (pA P) S V) := by
  unfold val_main_v73 val_main_v72
  rw [ref_first]
  rfl

theorem ref_dS : val_main_v71 (F := Ideal) (up 2048 7168 P) (up 2048 2048 V) = up 2048 1024 (dS (pB P) (pA P) V) := by
  unfold val_main_v71
  rw [ref_first]
  funext j
  rw [mulf_apply, val_main_v0_apply]
  exact mul_comm _ _

section reals
variable (hZ : ∀ t < 2048, ∀ e < 1024, ∃ r : ℝ, vZ V t e = r) (hE : ∀ t < 2048, ∀ e < 1024, ∃ r : ℝ, pE P t e = r)
  (hC : ∀ e < 1024, ∃ r : ℝ, C e = r) (hH : ∀ e < 1024, ∃ r : ℝ, H e = r)
include hZ hE hC hH

omit hZ hE in
theorem normed_real (t e : ℕ) (he : e < 1024) : ∃ r : ℝ, normed D C H t e = r := by
  obtain ⟨f, hf⟩ := nn_reals (D t)
  obtain ⟨c, hc⟩ := hC e he
  obtain ⟨b, hb⟩ := hH e he
  exact ⟨f e * c + b, by unfold normed; rw [hf e he, hc, hb]; norm_cast⟩

omit hC hH in
theorem cot_real (t e : ℕ) (ht : t < 2048) (he : e < 1024) : ∃ r : ℝ, vZ V t e * gate (pE P t e) = r := by
  obtain ⟨z, hz⟩ := hZ t ht e he
  obtain ⟨x, hx⟩ := hE t ht e he
  obtain ⟨g, hg⟩ := gate_real x
  exact ⟨z * g, by rw [hz, hx, hg]; norm_cast⟩

theorem dL_real (t e : ℕ) (ht : t < 2048) (he : e < 1024) : ∃ r : ℝ, dL (pE P) D (vZ V) C H t e = r := by
  obtain ⟨c, hc⟩ := cot_real P V hZ hE t e ht he
  obtain ⟨x, hx⟩ := normed_real D C H hC hH t e he
  obtain ⟨g, hg⟩ := dgate_real x
  exact ⟨c * g, by unfold dL; rw [hc, hx, hg]; norm_cast⟩

theorem ref_dL : val_main_v39 (F := Ideal) (up 2048 7168 P) (up 2048 1024 D) (up 2048 2048 V) (up 1 1024 fun _ e => C e) (up 1 1024 fun _ e => H e)
    = up 2048 1024 (dL (pE P) D (vZ V) C H) := by
  unfold val_main_v39 val_main_call3_v2 val_main_call3_v1 val_main_call3_v0
  rw [ref_second, ref_sg, ref_sg1, ref_normed]
  funext j
  obtain ⟨c, hc⟩ := cot_real P V hZ hE (j 0).val (j 1).val (ValueIdx.idx2_lt0 j) (ValueIdx.idx2_lt1 j)
  show (vZ V (j 0).val (j 1).val * gate (pE P (j 0).val (j 1).val)) * sg (normed D C H (j 0).val (j 1).val)
    + (normed D C H (j 0).val (j 1).val * (vZ V (j 0).val (j 1).val * gate (pE P (j 0).val (j 1).val)))
      * (sg (normed D C H (j 0).val (j 1).val) * (1 - sg (normed D C H (j 0).val (j 1).val)))
    = (vZ V (j 0).val (j 1).val * gate (pE P (j 0).val (j 1).val)) * dgate (normed D C H (j 0).val (j 1).val)
  rw [hc]
  exact through_gate c _

theorem ref_sumL : val_main_v41 (F := Ideal) (up 2048 7168 P) (up 2048 1024 D) (up 2048 2048 V) (up 1 1024 fun _ e => C e) (up 1 1024 fun _ e => H e)
    = up 1 1024 fun _ => upTo (dL (pE P) D (vZ V) C H) 8 := by
  unfold val_main_v41 val_main_v40 val_main_cst_6
  rw [ref_dL P V D C H hZ hE hC hH]
  funext j
  idx_vars j
  pointwise
  simp only [up_ix2]
  exact (sum_range (fun t => dL (pE P) D (vZ V) C H t _)).symm

theorem ref_sumC : val_main_v44 (F := Ideal) (up 2048 7168 P) (up 2048 1024 D) (up 2048 2048 V) (up 1 1024 fun _ e => C e) (up 1 1024 fun _ e => H e)
    = up 1 1024 fun _ => upTo (dC (pE P) D (vZ V) C H) 8 := by
  unfold val_main_v44 val_main_v43 val_main_v42 val_main_cst_7
  rw [ref_dL P V D C H hZ hE hC hH, ref_nn]
  funext j
  idx_vars j
  pointwise
  simp only [up_ix2]
  refine Eq.trans ?_ (sum_range (fun t => dC (pE P) D (vZ V) C H t _)).symm
  exact sum_congr rfl fun _ _ => mul_comm _ _

theorem ref_h : val_main_v46 (F := Ideal) (up 2048 7168 P) (up 2048 1024 D) (up 2048 2048 V) (up 1 1024 fun _ e => C e) (up 1 1024 fun _ e => H e)
    = up 2048 1024 fun t e => dL (pE P) D (vZ V) C H t e * C e := by
  unfold val_main_v46 val_main_v45
  rw [ref_dL P V D C H hZ hE hC hH]
  funext j
  idx_vars j
  pointwise
  simp only [up_ix2]

theorem ref_direct : val_main_v51 (F := Ideal) (up 2048 7168 P) (up 2048 1024 D) (up 2048 2048 V) (up 1 1024 fun _ e => C e) (up 1 1024 fun _ e => H e)
    = up 2048 1024 fun t e => (dL (pE P) D (vZ V) C H t e * C e) * ri (D t) := by
  unfold val_main_v51 val_main_v50
  rw [ref_h P V D C H hZ hE hC hH, ref_ri]
  funext j
  idx_vars j
  pointwise
  simp only [up_ix2]

theorem ref_thruVar : val_main_v57 (F := Ideal) (up 2048 7168 P) (up 2048 1024 D) (up 2048 2048 V) (up 1 1024 fun _ e => C e) (up 1 1024 fun _ e => H e)
    = up 2048 1 fun t _ => thruVar (D t) fun e => dL (pE P) D (vZ V) C H t e * C e := by
  unfold val_main_v57 val_main_v56 val_main_v52 val_main_v49 val_main_v48 val_main_v47 val_main_v23 val_main_v22 val_main_v21 val_main_cst_5 val_main_cst_8 val_main_cst_10
  rw [ref_h P V D C H hZ hE hC hH, ref_ri, ref_vr, ref_cen]
  funext j
  idx_vars j
  pointwise
  simp only [up_ix2]
  unfold thruVar
  rw [sum_range]

theorem ref_spread : val_main_v60 (F := Ideal) (up 2048 7168 P) (up 2048 1024 D) (up 2048 2048 V) (up 1 1024 fun _ e => C e) (up 1 1024 fun _ e => H e)
    = up 2048 1024 fun t e => (thruVar (D t) fun e => dL (pE P) D (vZ V) C H t e * C e) * (two * cen (D t) e) := by
  unfold val_main_v60 val_main_v59 val_main_v58 val_main_v11 val_main_v10 val_main_cst_1 val_main_cst_11
  rw [ref_thruVar P V D C H hZ hE hC hH, ref_cen']
  funext j
  idx_vars j
  pointwise
  simp only [up_ix2]
  rw [Fin.sum_univ_one]

theorem ref_thruMean : val_main_v67 (F := Ideal) (up 2048 7168 P) (up 2048 1024 D) (up 2048 2048 V) (up 1 1024 fun _ e => C e) (up 1 1024 fun _ e => H e)
    = up 2048 1 fun t _ => thruMean (D t) fun e => dL (pE P) D (vZ V) C H t e * C e := by
  unfold val_main_v67 val_main_v66 val_main_v65 val_main_v63 val_main_v62 val_main_v61 val_main_v55 val_main_v54 val_main_v53 val_main_cst_9 val_main_cst_12 val_main_cst_13
  rw [ref_spread P V D C H hZ hE hC hH, ref_direct P V D C H hZ hE hC hH]
  funext j
  idx_vars j
  pointwise
  simp only [up_ix2]
  unfold thruMean
  rw [sum_range, sum_range]

theorem ref_dD : val_main_v70 (F := Ideal) (up 2048 7168 P) (up 2048 1024 D) (up 2048 2048 V) (up 1 1024 fun _ e => C e) (up 1 1024 fun _ e => H e)
    = up 2048 1024 (dD (pE P) D (vZ V) C H) := by
  unfold val_main_v70 val_main_v69 val_main_v68 val_main_v64 val_main_cst_14
  rw [ref_spread P V D C H hZ hE hC hH, ref_direct P V D C H hZ hE hC hH, ref_thruMean P V D C H hZ hE hC hH]
  funext j
  have ht := ValueIdx.idx2_lt0 j
  have he := ValueIdx.idx2_lt1 j
  have hr : ∀ e < 1024, ∃ r : ℝ, dL (pE P) D (vZ V) C H (j 0).val e * C e = r := fun e he => by
    obtain ⟨l, hl⟩ := dL_real P V D C H hZ hE hC hH (j 0).val e ht he
    obtain ⟨c, hc⟩ := hC e he
    exact ⟨l * c, by rw [hl, hc]; norm_cast⟩
  have hs := chain_eq_down (D (j 0).val) (fun e => dL (pE P) D (vZ V) C H (j 0).val e * C e) (j 1).val
    (fun e => (dL (pE P) D (vZ V) C H (j 0).val e * C e).toReal) (fun e he => by
      obtain ⟨r, hr⟩ := hr e he
      show dL (pE P) D (vZ V) C H (j 0).val e * C e = ((dL (pE P) D (vZ V) C H (j 0).val e * C e).toReal : ℝ)
      rw [hr, EReal.toReal_coe]) he
  refine Eq.trans ?_ hs
  clear hs hr ht he
  idx_vars j
  pointwise
  simp only [up_ix2]
  rw [Fin.sum_univ_one]
  rfl

theorem ref_sumD : val_main_v76 (F := Ideal) (up 2048 7168 P) (up 2048 1024 D) (up 2048 2048 V) (up 1 1024 fun _ e => C e) (up 1 1024 fun _ e => H e)
    = up 1 1024 fun _ => upTo (dD (pE P) D (vZ V) C H) 8 := by
  unfold val_main_v76 val_main_v75 val_main_cst_15
  rw [ref_dD P V D C H hZ hE hC hH]
  funext j
  idx_vars j
  pointwise
  simp only [up_ix2]
  exact (sum_range (fun t => dD (pE P) D (vZ V) C H t _)).symm

variable (hY : ∀ t < 2048, ∀ e < 1024, ∃ r : ℝ, V t e = r) (hB : ∀ t < 2048, ∀ e < 1024, ∃ r : ℝ, pB P t e = r)
  (hS : ∀ t < 2048, ∀ e < 1024, ∃ r : ℝ, S t e = r)

omit hZ hE hC hH in
theorem ref_joined_first (j : S2048x2048.Idx) (hj : (j 1).val < 1024) :
    val_main_v31 (F := Ideal) (up 2048 7168 P) (up 2048 1024 S) (up 2048 1024 D) (up 1 1024 fun _ e => C e) (up 1 1024 fun _ e => H e) j
      = pB P (j 0).val (j 1).val * S (j 0).val (j 1).val := by
  unfold val_main_v31
  refine (concatenate_pair_apply_left (s₁ := S2048x1024) (s₂ := S2048x1024) 1 _ _ _ j rfl (ix2 ⟨(j 0).val, ValueIdx.idx2_lt0 j⟩ ⟨(j 1).val, hj⟩) fun b => ?_).trans ?_
  · match b with
    | 0 => rfl
    | 1 => rfl
  · rw [val_main_v2_apply, val_main_v0_apply]
    rfl

omit hZ hE hC hH in
theorem ref_joined_second (j : S2048x2048.Idx) (hj : 1024 ≤ (j 1).val) :
    val_main_v31 (F := Ideal) (up 2048 7168 P) (up 2048 1024 S) (up 2048 1024 D) (up 1 1024 fun _ e => C e) (up 1 1024 fun _ e => H e) j
      = gate (normed D C H (j 0).val ((j 1).val - 1024)) := by
  unfold val_main_v31
  have h1 := ValueIdx.idx2_lt1 j
  refine (concatenate_pair_apply_right (s₁ := S2048x1024) (s₂ := S2048x1024) 1 _ _ _ j rfl rfl (ix2 ⟨(j 0).val, ValueIdx.idx2_lt0 j⟩ ⟨(j 1).val - 1024, by omega⟩) (fun b hb => ?_) ?_).trans ?_
  · match b with
    | 0 => rfl
    | 1 => exact absurd rfl hb
  · show (j 1).val - 1024 + 1024 = (j 1).val
    omega
  · rw [ref_gate]
    rfl

/-- The gradient at the gates' arguments, the two halves side by side. -/
def dG (t e : ℕ) : EReal := if e < 1024 then dA (pB P) (pA P) S V t e else dE (pE P) D (vZ V) C H t (e - 1024)

include hY hB hS

omit hE in
theorem ref_dG : val_main_v74 (F := Ideal) (up 2048 7168 P) (up 2048 1024 S) (up 2048 1024 D) (up 2048 2048 V) (up 1 1024 fun _ e => C e) (up 1 1024 fun _ e => H e)
    = up 2048 2048 (dG P V D S C H) := by
  funext j
  rw [val_main_v74_apply, val_main_v36_apply, val_main_call2_v2_apply, val_main_call2_v1_apply, val_main_call2_v0_apply, val_main_v34_apply,
    ref_g, ref_sgg, ref_sgg1]
  have h0 := ValueIdx.idx2_lt0 j
  have h1 := ValueIdx.idx2_lt1 j
  by_cases hj : (j 1).val < 1024
  · rw [ref_joined_first P D S C H j hj]
    obtain ⟨b, hb⟩ := hB _ h0 _ hj
    obtain ⟨s, hs⟩ := hS _ h0 _ hj
    obtain ⟨y, hy⟩ := hY _ h0 _ hj
    refine Eq.trans ?_ (if_pos hj).symm
    show ((pB P (j 0).val (j 1).val * S (j 0).val (j 1).val) * V (j 0).val (j 1).val) * sg (P (j 0).val (5120 + (j 1).val))
      + (P (j 0).val (5120 + (j 1).val) * ((pB P (j 0).val (j 1).val * S (j 0).val (j 1).val) * V (j 0).val (j 1).val))
        * (sg (P (j 0).val (5120 + (j 1).val)) * (1 - sg (P (j 0).val (5120 + (j 1).val))))
      = ((V (j 0).val (j 1).val * pB P (j 0).val (j 1).val) * S (j 0).val (j 1).val) * dgate (P (j 0).val (5120 + (j 1).val))
    rw [mul_comm (pB P (j 0).val (j 1).val * S (j 0).val (j 1).val), ← mul_assoc, hb, hs, hy, ← EReal.coe_mul, ← EReal.coe_mul]
    exact through_gate _ _
  · have hk : (j 1).val - 1024 < 1024 := by omega
    obtain ⟨x, hx⟩ := normed_real D C H hC hH (j 0).val _ hk
    obtain ⟨g, hg⟩ := gate_real x
    obtain ⟨z, hz⟩ := hZ _ h0 _ hk
    have e1 : 1024 + ((j 1).val - 1024) = (j 1).val := by omega
    have e2 : 6144 + ((j 1).val - 1024) = 5120 + (j 1).val := by omega
    rw [ref_joined_second P D S C H j (by omega)]
    refine Eq.trans ?_ (if_neg hj).symm
    unfold dE
    rw [hz, hx, hg]
    show ((g : EReal) * V (j 0).val (j 1).val) * sg (P (j 0).val (5120 + (j 1).val))
      + (P (j 0).val (5120 + (j 1).val) * ((g : EReal) * V (j 0).val (j 1).val))
        * (sg (P (j 0).val (5120 + (j 1).val)) * (1 - sg (P (j 0).val (5120 + (j 1).val))))
      = ((z : EReal) * g) * dgate (P (j 0).val (6144 + ((j 1).val - 1024)))
    have hz' : V (j 0).val (j 1).val = z := by rw [← hz]; show _ = V (j 0).val (1024 + ((j 1).val - 1024)); rw [e1]
    rw [hz', e2, mul_comm (g : EReal), ← EReal.coe_mul]
    exact through_gate _ _

end reals

end Cert.OddRowsProof
-- ==== Proof.OddRows.lean ====
module
public import proofs.«01_k».proof.Defs
public import proofs.«01_k».proof.Proof.OddRowsRef
public import proofs.«01_k».proof.Proof.Loads
public import proofs.«01_k».proof.Proof.Pre
public import proofs.«01_k».proof.Proof.Gen.Pre_finite_rows
public import Idealize.ShloMosaic.Lib.Pipeline.ValueKit

/-! The backward pass of the odd layer's gates and layer norm: the eight grid points of 256 rows each, what is held between them, and
   what the seven result arrays hold. -/

@[expose] public section

set_option maxRecDepth 16384

noncomputable section

namespace Cert.OddRowsProof

open Idealize.ShloMosaic Idealize.SL Idealize.SL.Sem Cert.OddRowsIdeal Cert.OddRowsIdeal.Gen Cert.OddRowsIdeal.Value Cert.Arrays Cert.Loads Cert.LayerNorm Finset

variable (P V D S : ℕ → ℕ → EReal) (C H : ℕ → EReal)

/-! The block numbers at a point, and where an element of a block lies in its array: the rows go by blocks of 256. -/

theorem index0 : ∀ t : Fin cfg0.N, win0_0.index t (0 : Fin 2) = t.val ∧ win0_0.index t (1 : Fin 2) = 1 :=
  (by decide +kernel : ∀ t : Fin grid0.N, _)
theorem index1 : ∀ t : Fin cfg0.N, win0_1.index t (0 : Fin 2) = t.val ∧ win0_1.index t (1 : Fin 2) = 5 :=
  (by decide +kernel : ∀ t : Fin grid0.N, _)
theorem index2 : ∀ t : Fin cfg0.N, win0_2.index t (0 : Fin 2) = t.val ∧ win0_2.index t (1 : Fin 2) = 6 :=
  (by decide +kernel : ∀ t : Fin grid0.N, _)
theorem index3 : ∀ t : Fin cfg0.N, win0_3.index t (0 : Fin 2) = t.val ∧ win0_3.index t (1 : Fin 2) = 0 :=
  (by decide +kernel : ∀ t : Fin grid0.N, _)
theorem index5 : ∀ t : Fin cfg0.N, win0_5.index t (0 : Fin 2) = t.val ∧ win0_5.index t (1 : Fin 2) = 0 :=
  (by decide +kernel : ∀ t : Fin grid0.N, _)
theorem index6 : ∀ t : Fin cfg0.N, win0_6.index t (0 : Fin 2) = 0 ∧ win0_6.index t (1 : Fin 2) = 0 :=
  (by decide +kernel : ∀ t : Fin grid0.N, _)

theorem place0 (t : Fin cfg0.N) (y : (⟨2, ![256, 1024]⟩ : Shape).Idx) :
    (((cfg0.win 0).blk t).view.emb y 0).val = 256 * t.val + (y 0).val ∧ (((cfg0.win 0).blk t).view.emb y 1).val = 1024 + (y 1).val := by
  have b0 : (((cfg0.win 0).blk t).view.emb y 0).val = win0_0.index t (0 : Fin 2) * 256 + 1 * (y 0).val := rfl
  have b1 : (((cfg0.win 0).blk t).view.emb y 1).val = win0_0.index t (1 : Fin 2) * 1024 + 1 * (y 1).val := rfl
  rw [b0, b1, (index0 t).1, (index0 t).2]
  omega

theorem place1 (t : Fin cfg0.N) (y : (⟨2, ![256, 1024]⟩ : Shape).Idx) :
    (((cfg0.win 1).blk t).view.emb y 0).val = 256 * t.val + (y 0).val ∧ (((cfg0.win 1).blk t).view.emb y 1).val = 5120 + (y 1).val := by
  have b0 : (((cfg0.win 1).blk t).view.emb y 0).val = win0_1.index t (0 : Fin 2) * 256 + 1 * (y 0).val := rfl
  have b1 : (((cfg0.win 1).blk t).view.emb y 1).val = win0_1.index t (1 : Fin 2) * 1024 + 1 * (y 1).val := rfl
  rw [b0, b1, (index1 t).1, (index1 t).2]
  omega

theorem place2 (t : Fin cfg0.N) (y : (⟨2, ![256, 1024]⟩ : Shape).Idx) :
    (((cfg0.win 2).blk t).view.emb y 0).val = 256 * t.val + (y 0).val ∧ (((cfg0.win 2).blk t).view.emb y 1).val = 6144 + (y 1).val := by
  have b0 : (((cfg0.win 2).blk t).view.emb y 0).val = win0_2.index t (0 : Fin 2) * 256 + 1 * (y 0).val := rfl
  have b1 : (((cfg0.win 2).blk t).view.emb y 1).val = win0_2.index t (1 : Fin 2) * 1024 + 1 * (y 1).val := rfl
  rw [b0, b1, (index2 t).1, (index2 t).2]
  omega

theorem place3 (t : Fin cfg0.N) (y : (⟨2, ![256, 1024]⟩ : Shape).Idx) :
    (((cfg0.win 3).blk t).view.emb y 0).val = 256 * t.val + (y 0).val ∧ (((cfg0.win 3).blk t).view.emb y 1).val = (y 1).val := by
  have b0 : (((cfg0.win 3).blk t).view.emb y 0).val = win0_3.index t (0 : Fin 2) * 256 + 1 * (y 0).val := rfl
  have b1 : (((cfg0.win 3).blk t).view.emb y 1).val = win0_3.index t (1 : Fin 2) * 1024 + 1 * (y 1).val := rfl
  rw [b0, b1, (index3 t).1, (index3 t).2]
  omega

theorem place5 (t : Fin cfg0.N) (y : (⟨2, ![256, 2048]⟩ : Shape).Idx) :
    (((cfg0.win 5).blk t).view.emb y 0).val = 256 * t.val + (y 0).val ∧ (((cfg0.win 5).blk t).view.emb y 1).val = (y 1).val := by
  have b0 : (((cfg0.win 5).blk t).view.emb y 0).val = win0_5.index t (0 : Fin 2) * 256 + 1 * (y 0).val := rfl
  have b1 : (((cfg0.win 5).blk t).view.emb y 1).val = win0_5.index t (1 : Fin 2) * 2048 + 1 * (y 1).val := rfl
  rw [b0, b1, (index5 t).1, (index5 t).2]
  omega

theorem place6 (t : Fin cfg0.N) (y : (⟨2, ![1, 1024]⟩ : Shape).Idx) :
    (((cfg0.win 6).blk t).view.emb y 0).val = (y 0).val ∧ (((cfg0.win 6).blk t).view.emb y 1).val = (y 1).val := by
  have b0 : (((cfg0.win 6).blk t).view.emb y 0).val = win0_6.index t (0 : Fin 2) * 1 + 1 * (y 0).val := rfl
  have b1 : (((cfg0.win 6).blk t).view.emb y 1).val = win0_6.index t (1 : Fin 2) * 1024 + 1 * (y 1).val := rfl
  rw [b0, b1, (index6 t).1, (index6 t).2]
  omega

/-! The loads of the two halves of a block of 2048 columns. -/

theorem half0 (f : ℕ → ℕ → EReal) (inb) :
    View.ld (S := S256x2048) (Val := Elt Ideal) (e' := .f32) (up 256 2048 f) (Rect.unit ![0, 0] ![256, 1024] inb) = up 256 1024 f := by
  funext x
  show f (0 + 1 * (x 0).val) (0 + 1 * (x 1).val) = f (x 0).val (x 1).val
  rw [one_mul, one_mul, zero_add, zero_add]

theorem half1 (f : ℕ → ℕ → EReal) (inb) :
    View.ld (S := S256x2048) (Val := Elt Ideal) (e' := .f32) (up 256 2048 f) (Rect.unit ![0, 1024] ![256, 1024] inb) = up 256 1024 (vZ f) := by
  funext x
  show f (0 + 1 * (x 0).val) (1024 + 1 * (x 1).val) = f (x 0).val (1024 + (x 1).val)
  rw [one_mul, one_mul, zero_add]

/-- The sum over the first block. -/
theorem upTo_first (f : ℕ → ℕ → EReal) (e : ℕ) : ∑ t ∈ range 256, f (256 * 0 + t) e = upTo f (0 + 1) e := by
  rw [← upTo_succ]
  exact (zero_add _).symm

/-- The two halves of the gradient at the gates, at a point's rows. -/
theorem dG_first (n t e e' : ℕ) (h : e' = e) (he : e < 1024) :
    dA (fun a => pB P (256 * n + a)) (fun a => pA P (256 * n + a)) (fun a => S (256 * n + a)) (fun a => V (256 * n + a)) t e = dG P V D S C H (256 * n + t) e' := by
  subst h
  exact (if_pos he).symm

theorem dG_second (n t e e' : ℕ) (h : e' = 1024 + e) :
    dE (fun a => pE P (256 * n + a)) (fun a => D (256 * n + a)) (vZ fun a => V (256 * n + a)) C H t e = dG P V D S C H (256 * n + t) e' := by
  subst h
  refine Eq.trans ?_ (if_neg (by omega)).symm
  rw [Nat.add_sub_cancel_left]
  rfl

section arrays
variable (m : (ℓ : Loc nD τ sig) → Buf (Elt Ideal) ℓ) (c : Dev nD)
variable (h0 : m ((c.tc : Thread nD τ).loc main_arg0) = up 2048 7168 P) (h1 : m ((c.tc : Thread nD τ).loc main_arg1) = up 2048 1024 S)
  (h2 : m ((c.tc : Thread nD τ).loc main_arg2) = up 2048 1024 D) (h3 : m ((c.tc : Thread nD τ).loc main_arg3) = up 2048 2048 V)
  (h4 : m ((c.tc : Thread nD τ).loc main_arg4) = up 1 1024 fun _ e => C e) (h5 : m ((c.tc : Thread nD τ).loc main_arg5) = up 1 1024 fun _ e => H e)

/-- The block `n` of the rows. -/
abbrev bl (f : ℕ → ℕ → EReal) (n : ℕ) : ℕ → ℕ → EReal := fun a => f (256 * n + a)

include h0 h1 h2 h3 h4 h5

/-- What a grid point is given. -/
theorem ins (t : Fin cfg0.N) :
    iblk m c 0 t = up 256 1024 (bl (pB P) t.val) ∧ iblk m c 1 t = up 256 1024 (bl (pA P) t.val) ∧ iblk m c 2 t = up 256 1024 (bl (pE P) t.val)
      ∧ iblk m c 3 t = up 256 1024 (bl S t.val) ∧ iblk m c 4 t = up 256 1024 (bl D t.val) ∧ iblk m c 5 t = up 256 2048 (bl V t.val)
      ∧ iblk m c 6 t = up 1 1024 (fun _ e => C e) ∧ iblk m c 7 t = up 1 1024 (fun _ e => H e) :=
  ⟨funext fun y => up_at ((V_main_arg0 m c).trans h0) (((cfg0.win 0).blk t).view.emb y) (place0 t y),
    funext fun y => up_at ((V_main_arg0 m c).trans h0) (((cfg0.win 1).blk t).view.emb y) (place1 t y),
    funext fun y => up_at ((V_main_arg0 m c).trans h0) (((cfg0.win 2).blk t).view.emb y) (place2 t y),
    funext fun y => up_at ((V_main_arg1 m c).trans h1) (((cfg0.win 3).blk t).view.emb y) (place3 t y),
    funext fun y => up_at ((V_main_arg2 m c).trans h2) (((cfg0.win 4).blk t).view.emb y) (place3 t y),
    funext fun y => up_at ((V_main_arg3 m c).trans h3) (((cfg0.win 5).blk t).view.emb y) (place5 t y),
    funext fun y => up_at ((V_main_arg4 m c).trans h4) (((cfg0.win 6).blk t).view.emb y) (place6 t y),
    funext fun y => up_at ((V_main_arg5 m c).trans h5) (((cfg0.win 7).blk t).view.emb y) (place6 t y)⟩

/-- What a point leaves in the four arrays it writes once: the gradients at its rows. -/
theorem rows (t : Fin cfg0.N) : (outsAt0 m c t.val t.isLt).1 = up 256 1024 (bl (dB (pA P) S V) t.val)
    ∧ (outsAt0 m c t.val t.isLt).2.1 = up 256 2048 (bl (dG P V D S C H) t.val)
    ∧ (outsAt0 m c t.val t.isLt).2.2.1 = up 256 1024 (bl (dS (pB P) (pA P) V) t.val)
    ∧ (outsAt0 m c t.val t.isLt).2.2.2.1 = up 256 1024 (bl (dD (pE P) D (vZ V) C H) t.val) := by
  obtain ⟨i0, i1, i2, i3, i4, i5, i6, i7⟩ := ins P V D S C H m c h0 h1 h2 h3 h4 h5 t
  have hN : t.val < 8 := lt_of_lt_of_eq t.isLt N_0
  by_cases k0 : t.val % 8 = 0
  · have k1 : ¬1 ≤ t.val := by omega
    rw [outsAt0_A m c t k0 k1 k0 k1 k0 k1]
    refine ⟨?_, ?_, ?_, ?_⟩
    · frame_out
      rw [i1, i3, i5, half0, pay11_eq]
      rfl
    · frame_out
      rw [i0, i1, i2, i3, i4, i5, i6, i7, half0, half1, pay4_eq, pay7_eq, pay8_eq]
      funext y
      canon_tiles x h
      · refine (dG_second P V D S C H t.val (x 0).val (x 1).val (y 1).val h1).trans ?_
        rw [← h0]
        rfl
      · refine (dG_first P V D S C H t.val (x 0).val (x 1).val (y 1).val h1 x1_lt).trans ?_
        rw [← h0]
        rfl
    · frame_out
      rw [i0, i1, i5, half0, pay12_eq]
      rfl
    · frame_out
      rw [i2, i4, i5, i6, i7, half1, pay4_eq, pay2_eq, pay3_eq, pay13_eq, pay18_eq]
      rfl
  · have k1 : 1 ≤ t.val := by omega
    rw [outsAt0_B m c t k0 k1 k0 k1 k0 k1]
    refine ⟨?_, ?_, ?_, ?_⟩
    · frame_out
      rw [i1, i3, i5, half0, pay11_eq]
      rfl
    · frame_out
      rw [i0, i1, i2, i3, i4, i5, i6, i7, half0, half1, pay4_eq, pay7_eq, pay8_eq]
      funext y
      canon_tiles x h
      · refine (dG_second P V D S C H t.val (x 0).val (x 1).val (y 1).val h1).trans ?_
        rw [← h0]
        rfl
      · refine (dG_first P V D S C H t.val (x 0).val (x 1).val (y 1).val h1 x1_lt).trans ?_
        rw [← h0]
        rfl
    · frame_out
      rw [i0, i1, i5, half0, pay12_eq]
      rfl
    · frame_out
      rw [i2, i4, i5, i6, i7, half1, pay4_eq, pay2_eq, pay3_eq, pay13_eq, pay18_eq]
      rfl

/-- What a point leaves in the three arrays that go on from point to point: the sums over the blocks done. -/
theorem sums : ∀ (n : ℕ) (hn : n < cfg0.N), (outsAt0 m c n hn).2.2.2.2.1 = up 1 1024 (fun _ => upTo (dC (pE P) D (vZ V) C H) (n + 1))
    ∧ (outsAt0 m c n hn).2.2.2.2.2.1 = up 1 1024 (fun _ => upTo (dL (pE P) D (vZ V) C H) (n + 1))
    ∧ (outsAt0 m c n hn).2.2.2.2.2.2 = up 1 1024 (fun _ => upTo (dD (pE P) D (vZ V) C H) (n + 1)) := by
  intro n
  induction n with
  | zero =>
    intro hn
    obtain ⟨i0, i1, i2, i3, i4, i5, i6, i7⟩ := ins P V D S C H m c h0 h1 h2 h3 h4 h5 ⟨0, hn⟩
    rw [outsAt0_A m c ⟨0, hn⟩ rfl (Nat.not_succ_le_zero 0) rfl (Nat.not_succ_le_zero 0) rfl (Nat.not_succ_le_zero 0)]
    refine ⟨?_, ?_, ?_⟩
    · frame_out
      rw [i2, i4, i5, i6, i7, half1, pay4_eq, pay3_eq, pay13_eq, pay16_eq]
      funext j
      exact upTo_first (dC (pE P) D (vZ V) C H) _
    · frame_out
      rw [i2, i4, i5, i6, i7, half1, pay4_eq, pay14_eq]
      funext j
      exact upTo_first (dL (pE P) D (vZ V) C H) _
    · frame_out
      rw [i2, i4, i5, i6, i7, half1, pay4_eq, pay2_eq, pay3_eq, pay13_eq, pay19_eq]
      funext j
      exact upTo_first (dD (pE P) D (vZ V) C H) _
  | succ n ih =>
    intro hn
    have hN : n + 1 < 8 := lt_of_lt_of_eq hn N_0
    obtain ⟨i0, i1, i2, i3, i4, i5, i6, i7⟩ := ins P V D S C H m c h0 h1 h2 h3 h4 h5 ⟨n + 1, hn⟩
    obtain ⟨s12, s13, s14⟩ := ih (Nat.lt_of_succ_lt hn)
    have k0 : ¬(n + 1) % 8 = 0 := by omega
    have k1 : 1 ≤ n + 1 := by omega
    rw [outsAt0_B m c ⟨n + 1, hn⟩ k0 k1 k0 k1 k0 k1]
    simp only [Nat.add_sub_cancel]
    rw [s12, s13, s14]
    refine ⟨?_, ?_, ?_⟩
    · frame_out
      rw [i2, i4, i5, i6, i7, half1, pay4_eq, pay3_eq, pay13_eq]
      unfold k0_pay17
      rw [shapeCast_self, pay16_eq]
      funext j
      exact upTo_succ (dC (pE P) D (vZ V) C H) (n + 1) _
    · frame_out
      rw [i2, i4, i5, i6, i7, half1, pay4_eq, pay14_eq]
      unfold k0_pay15
      rw [shapeCast_self]
      funext j
      exact upTo_succ (dL (pE P) D (vZ V) C H) (n + 1) _
    · frame_out
      rw [i2, i4, i5, i6, i7, half1, pay4_eq, pay2_eq, pay3_eq, pay13_eq]
      unfold k0_pay20
      rw [shapeCast_self, pay19_eq]
      funext j
      exact upTo_succ (dD (pE P) D (vZ V) C H) (n + 1) _

/-- What the kernel's seven arrays hold. -/
theorem arrays_eq : (dats m 0 c).arrAt 8 cfg0.N = up 2048 1024 (dB (pA P) S V) ∧ (dats m 0 c).arrAt 9 cfg0.N = up 2048 2048 (dG P V D S C H)
    ∧ (dats m 0 c).arrAt 10 cfg0.N = up 2048 1024 (dS (pB P) (pA P) V) ∧ (dats m 0 c).arrAt 11 cfg0.N = up 2048 1024 (dD (pE P) D (vZ V) C H)
    ∧ (dats m 0 c).arrAt 12 cfg0.N = up 1 1024 (fun _ => upTo (dC (pE P) D (vZ V) C H) 8)
    ∧ (dats m 0 c).arrAt 13 cfg0.N = up 1 1024 (fun _ => upTo (dL (pE P) D (vZ V) C H) 8)
    ∧ (dats m 0 c).arrAt 14 cfg0.N = up 1 1024 (fun _ => upTo (dD (pE P) D (vZ V) C H) 8) := by
  refine ⟨?_, ?_, ?_, ?_, ?_, ?_, ?_⟩
  · refine (dats m 0 c).arrAt_eq_of_covers 8 _ (by decide +kernel) fun t _ y => ?_
    blk_simp
    rw [after0_8, (rows P V D S C H m c h0 h1 h2 h3 h4 h5 t).1]
    exact (up_at (f := dB (pA P) S V) rfl _ (place3 t y)).symm
  · refine (dats m 0 c).arrAt_eq_of_covers 9 _ (by decide +kernel) fun t _ y => ?_
    blk_simp
    rw [after0_9, (rows P V D S C H m c h0 h1 h2 h3 h4 h5 t).2.1]
    exact (up_at (f := dG P V D S C H) rfl _ (place5 t y)).symm
  · refine (dats m 0 c).arrAt_eq_of_covers 10 _ (by decide +kernel) fun t _ y => ?_
    blk_simp
    rw [after0_10, (rows P V D S C H m c h0 h1 h2 h3 h4 h5 t).2.2.1]
    exact (up_at (f := dS (pB P) (pA P) V) rfl _ (place3 t y)).symm
  · refine (dats m 0 c).arrAt_eq_of_covers 11 _ (by decide +kernel) fun t _ y => ?_
    blk_simp
    rw [after0_11, (rows P V D S C H m c h0 h1 h2 h3 h4 h5 t).2.2.2]
    exact (up_at (f := dD (pE P) D (vZ V) C H) rfl _ (place3 t y)).symm
  · refine (dats m 0 c).arrAt_eq_of_after_last 12 ⟨7, by decide +kernel⟩ (by decide +kernel) _ fun j => ?_
    exact congrFun ((after0_12 m c _).trans (sums P V D S C H m c h0 h1 h2 h3 h4 h5 7 _).1) j
  · refine (dats m 0 c).arrAt_eq_of_after_last 13 ⟨7, by decide +kernel⟩ (by decide +kernel) _ fun j => ?_
    exact congrFun ((after0_13 m c _).trans (sums P V D S C H m c h0 h1 h2 h3 h4 h5 7 _).2.1) j
  · refine (dats m 0 c).arrAt_eq_of_after_last 14 ⟨7, by decide +kernel⟩ (by decide +kernel) _ fun j => ?_
    exact congrFun ((after0_14 m c _).trans (sums P V D S C H m c h0 h1 h2 h3 h4 h5 7 _).2.2) j

end arrays

instance : Subsingleton Cert.Pre_finite_rows.S_.Idx := ⟨fun _ _ => funext fun a => a.elim0⟩

/-- What the precondition gives: the arrays that it names hold reals. -/
theorem pre_reals (h : Cert.Pre_finite_rows.fn (F := Ideal) (up 2048 7168 P) (up 2048 1024 S) (up 2048 1024 D) (up 2048 2048 V) (up 1 1024 fun _ e => C e)
      (up 1 1024 fun _ e => H e) = fun _ => 1#1) :
    (∀ t < 2048, ∀ e < 1024, ∃ r : ℝ, pB P t e = r) ∧ (∀ t < 2048, ∀ e < 1024, ∃ r : ℝ, pE P t e = r) ∧ (∀ t < 2048, ∀ e < 1024, ∃ r : ℝ, S t e = r)
      ∧ (∀ t < 2048, ∀ e < 2048, ∃ r : ℝ, V t e = r) ∧ (∀ e < 1024, ∃ r : ℝ, C e = r) ∧ (∀ e < 1024, ∃ r : ℝ, H e = r) := by
  have h0 := congrFun h ix0
  obtain ⟨h1, aH⟩ := IntOp.andi_eq_one.1 h0
  obtain ⟨h2, aC⟩ := IntOp.andi_eq_one.1 h1
  obtain ⟨h3, aV⟩ := IntOp.andi_eq_one.1 h2
  obtain ⟨h4, aS⟩ := IntOp.andi_eq_one.1 h3
  obtain ⟨aB, aE⟩ := IntOp.andi_eq_one.1 h4
  refine ⟨fun t ht e he => ⟨(pB P t e).toReal, ?_⟩, fun t ht e he => ⟨(pE P t e).toReal, ?_⟩, fun t ht e he => ⟨(S t e).toReal, ?_⟩,
    fun t ht e he => ⟨(V t e).toReal, ?_⟩, fun e he => ⟨(C e).toReal, ?_⟩, fun e he => ⟨(H e).toReal, ?_⟩⟩
  · have q := Host.reduce_andi_all _ _ _ _ _ aB (ix2 ⟨t, ht⟩ ⟨e, he⟩)
    have q2 : extractStridedSlice Cert.Pre_finite_rows.S2048x1024 ![0, 1024] (up 2048 7168 P) Cert.Pre_finite_rows.Gen.slices_S2048x7168_S2048x1024_0_1024
        (ix2 ⟨t, ht⟩ ⟨e, he⟩) = pB P t e :=
      extractStridedSlice_apply ![0, 1024] (up 2048 7168 P) _ _ (ix2 ⟨t, ht⟩ ⟨1024 + e, by omega⟩) (fun a => match a with
        | ⟨0, _⟩ => (Nat.zero_add _).symm
        | ⟨1, _⟩ => rfl)
    rw [← q2]
    exact Cert.Sba.real_of_lt _ q
  · have q := Host.reduce_andi_all _ _ _ _ _ aE (ix2 ⟨t, ht⟩ ⟨e, he⟩)
    have q2 : extractStridedSlice Cert.Pre_finite_rows.S2048x1024 ![0, 6144] (up 2048 7168 P) Cert.Pre_finite_rows.Gen.slices_S2048x7168_S2048x1024_0_6144
        (ix2 ⟨t, ht⟩ ⟨e, he⟩) = pE P t e :=
      extractStridedSlice_apply ![0, 6144] (up 2048 7168 P) _ _ (ix2 ⟨t, ht⟩ ⟨6144 + e, by omega⟩) (fun a => match a with
        | ⟨0, _⟩ => (Nat.zero_add _).symm
        | ⟨1, _⟩ => rfl)
    rw [← q2]
    exact Cert.Sba.real_of_lt _ q
  · exact Cert.Sba.real_of_lt _ (Host.reduce_andi_all _ _ _ _ _ aS (ix2 ⟨t, ht⟩ ⟨e, he⟩))
  · exact Cert.Sba.real_of_lt _ (Host.reduce_andi_all _ _ _ _ _ aV (ix2 ⟨t, ht⟩ ⟨e, he⟩))
  · exact Cert.Sba.real_of_lt _ (Host.reduce_andi_all _ _ _ _ _ aC (ix2 ⟨0, by decide⟩ ⟨e, he⟩))
  · exact Cert.Sba.real_of_lt _ (Host.reduce_andi_all _ _ _ _ _ aH (ix2 ⟨0, by decide⟩ ⟨e, he⟩))

/-- From memories that agree on the six arguments, the kernel and the reference end with the same seven arrays. -/
theorem algebraic : Cert.algebraic_OddRowsIdeal_OddRowsReferenceIdeal_pre_finite_rows := by
  intro m g m' g' hpre hagree
  refine ⟨fun c => (dats m 0 c).arrAt 8 cfg0.N, fun c => (dats m 0 c).arrAt 9 cfg0.N, fun c => (dats m 0 c).arrAt 10 cfg0.N, fun c => (dats m 0 c).arrAt 11 cfg0.N,
    fun c => (dats m 0 c).arrAt 12 cfg0.N, fun c => (dats m 0 c).arrAt 13 cfg0.N, fun c => (dats m 0 c).arrAt 14 cfg0.N,
    run_blocks m g, (θ_run Cert.OddRowsReferenceIdeal.defs _ _).mono (fun r h c => ?_) (Cert.OddRowsReferenceIdeal.Value.run (F := Ideal) m' g')⟩
  obtain ⟨e0, e1, e2, e3, e4, e5, e6, a⟩ := h c
  obtain ⟨q0, q1, q2, q3, q4, q5⟩ := hagree c
  obtain ⟨P, hP⟩ := exists_up (by decide) (by decide) (m ((c.tc : Thread nD τ).loc main_arg0))
  obtain ⟨S, hS⟩ := exists_up (by decide) (by decide) (m ((c.tc : Thread nD τ).loc main_arg1))
  obtain ⟨D, hD⟩ := exists_up (by decide) (by decide) (m ((c.tc : Thread nD τ).loc main_arg2))
  obtain ⟨V, hV⟩ := exists_up (by decide) (by decide) (m ((c.tc : Thread nD τ).loc main_arg3))
  obtain ⟨C, hC⟩ := exists_row (by decide) (m ((c.tc : Thread nD τ).loc main_arg4))
  obtain ⟨H, hH⟩ := exists_row (by decide) (m ((c.tc : Thread nD τ).loc main_arg5))
  have p := hpre c
  rw [hP, hS, hD, hV, hC, hH] at p
  obtain ⟨pBr, pEr, pS, pV, pC, pH⟩ := pre_reals P V D S C H p
  have pZ : ∀ t < 2048, ∀ e < 1024, ∃ r : ℝ, vZ V t e = r := fun t ht e he => pV t ht (1024 + e) (by omega)
  have pY : ∀ t < 2048, ∀ e < 1024, ∃ r : ℝ, V t e = r := fun t ht e he => pV t ht e (by omega)
  obtain ⟨r0, r1, r2, r3, r4, r5, r6⟩ := arrays_eq P V D S C H m c hP hS hD hV hC hH
  refine ⟨(e0.trans (Cert.OddRowsReferenceIdeal.Read.val_main_v73_eq _ _ _)).trans ?_, (e1.trans (Cert.OddRowsReferenceIdeal.Read.val_main_v74_eq m' c)).trans ?_,
    (e2.trans (Cert.OddRowsReferenceIdeal.Read.val_main_v71_eq _ _)).trans ?_, (e3.trans (Cert.OddRowsReferenceIdeal.Read.val_main_v70_eq m' c)).trans ?_,
    (e4.trans (Cert.OddRowsReferenceIdeal.Read.val_main_v44_eq m' c)).trans ?_, (e5.trans (Cert.OddRowsReferenceIdeal.Read.val_main_v41_eq m' c)).trans ?_,
    (e6.trans (Cert.OddRowsReferenceIdeal.Read.val_main_v76_eq m' c)).trans ?_, a⟩
  · rw [q0.trans hP, q1.trans hS, q3.trans hV, ref_dB]
    exact r0.symm
  · rw [q0.trans hP, q1.trans hS, q2.trans hD, q3.trans hV, q4.trans hC, q5.trans hH, ref_dG P V D S C H pZ pC pH pY pBr pS]
    exact r1.symm
  · rw [q0.trans hP, q3.trans hV, ref_dS]
    exact r2.symm
  · rw [q0.trans hP, q2.trans hD, q3.trans hV, q4.trans hC, q5.trans hH, ref_dD P V D C H pZ pEr pC pH]
    exact r3.symm
  · rw [q0.trans hP, q2.trans hD, q3.trans hV, q4.trans hC, q5.trans hH, ref_sumC P V D C H pZ pEr pC pH]
    exact r4.symm
  · rw [q0.trans hP, q2.trans hD, q3.trans hV, q4.trans hC, q5.trans hH, ref_sumL P V D C H pZ pEr pC pH]
    exact r5.symm
  · rw [q0.trans hP, q2.trans hD, q3.trans hV, q4.trans hC, q5.trans hH, ref_sumD P V D C H pZ pEr pC pH]
    exact r6.symm

/-- The reference declares no semaphore, and its run leaves its arguments. -/
theorem frame_reference : Cert.quiescent_OddRowsReferenceIdeal := fun m ρ _ =>
  (θ_run Cert.OddRowsReferenceIdeal.defs _ _).mono (fun r h => ⟨fun c => (h c).2.2.2.2.2.2.2, sem_eq_zero_of_no_sems (by decide) r.2⟩)
    (Cert.OddRowsReferenceIdeal.Value.run (F := Ideal) m ρ)

end Cert.OddRowsProof
-- ==== Proof.EvenMixDefs.lean ====
module
public import proofs.«01_k».proof.Proof.Arrays
public import proofs.«01_k».proof.Proof.LayerNorm
public import Idealize.ShloMosaic.PureOps.Ideal.Laws

/-! The even layer's mixer in numbers: means over trailing windows, a product with a group's weights, a scale, and the gates. -/

@[expose] public section

noncomputable section

namespace Cert.EvenMixProof

open Idealize.ShloMosaic Cert.LayerNorm Finset

variable (U : ℕ → ℕ → EReal) (W : ℕ → ℕ → ℕ → EReal) (S : ℕ → EReal)

/-- The row `j` before row `t`, nothing before the first row. -/
def back (j t c : ℕ) : EReal := if j ≤ t then U (t - j) c else 0

/-- The sum over the `n` rows that end at row `t`. -/
def tot (n t c : ℕ) : EReal := ∑ j ∈ range n, back U j t c

/-- How many rows a window of `n` has at row `t`. -/
def cnt (n t : ℕ) : EReal :=
  FloatOps.sitofp (F := Ideal) .f32 (IntOp.minsi (BitVec.ofNat 32 n) (IntOp.addi 1#32 (BitVec.ofNat 32 t)))

/-- The mean over the window, less the row itself. -/
def mean (n t c : ℕ) : EReal := Ideal.div (tot U n t c) (cnt n t) - U t c

/-- Group `g`, whose window is of `2 ^ (g + 1)` rows: the means times the group's weights and the scale. -/
def pool (g t e : ℕ) : EReal := (∑ k ∈ range 256, mean U (2 ^ (g + 1)) t (256 * g + k) * W g k e) * S (256 * g + e)

/-- The result: the attention's columns and then the four groups', each times its gate. -/
def mix (G A : ℕ → ℕ → EReal) (t e : ℕ) : EReal :=
  (if e < 1024 then A t e else pool U W S ((e - 1024) / 256) t ((e - 1024) % 256)) * gate (G t e)

theorem mix_left (G A : ℕ → ℕ → EReal) (t e : ℕ) (h : e < 1024) : mix U W S G A t e = A t e * gate (G t e) := by
  rw [mix, if_pos h]

theorem mix_right (G A : ℕ → ℕ → EReal) (g t e : ℕ) (h : e < 256) :
    mix U W S G A t (1024 + 256 * g + e) = pool U W S g t e * gate (G t (1024 + 256 * g + e)) := by
  rw [mix, if_neg (by omega), show (1024 + 256 * g + e - 1024) / 256 = g by omega, show (1024 + 256 * g + e - 1024) % 256 = e by omega]

/-- The rows of a block of 256 with the 16 rows before it on top, zeros before the first block. -/
def padded (n r c : ℕ) : EReal := if r < 16 then (if 0 < n then U (256 * n + r - 16) c else 0) else U (256 * n + r - 16) c

theorem padded_at (n j r c : ℕ) (hj : j ≤ 16) : padded U n (16 - j + r) c = back U j (256 * n + r) c := by
  unfold padded back
  by_cases h : j ≤ 256 * n + r
  · rw [if_pos h, show 256 * n + (16 - j + r) - 16 = 256 * n + r - j by omega]
    split
    · rw [if_pos (by omega)]
    · rfl
  · rw [if_neg h, if_pos (by omega), if_neg (by omega)]

theorem padded_own (n r c : ℕ) : padded U n (16 + r) c = U (256 * n + r) c := (padded_at U n 0 r c (by decide)).trans (if_pos (Nat.zero_le _))

theorem tot_eq (n m r c : ℕ) (hm : m ≤ 16) : tot U m (256 * n + r) c = ∑ j ∈ range m, padded U n (16 - j + r) c :=
  sum_congr rfl fun j hj => (padded_at U n j r c (by have := mem_range.mp hj; omega)).symm

/-- The count of rows as a block's own row numbers give it. -/
theorem cnt_eq (w n r : ℕ) : FloatOps.sitofp (F := Ideal) .f32 (IntOp.minsi (BitVec.ofNat 32 w)
    (IntOp.addi (IntOp.addi (IntOp.muli (BitVec.ofNat 32 n) 256#32) (BitVec.ofNat 32 r)) 1#32)) = cnt w (256 * n + r) := by
  unfold cnt
  congr 2
  show BitVec.ofNat 32 n * 256#32 + BitVec.ofNat 32 r + 1#32 = 1#32 + BitVec.ofNat 32 (256 * n + r)
  rw [BitVec.add_comm 1#32, Nat.mul_comm 256 n, BitVec.ofNat_add, BitVec.ofNat_mul]

end Cert.EvenMixProof
-- ==== Proof.EvenMixBlock.lean ====
module
public import proofs.«01_k».proof.Proof.EvenMixDefs
public import proofs.«01_k».proof.Proof.Gen.EvenMixIdeal.Value
public import Idealize.ShloMosaic.Lib.Pipeline.ValueKit

/-! What one grid point of the even layer's mixer computes from its blocks. -/

@[expose] public section

set_option maxRecDepth 16384

noncomputable section

namespace Cert.EvenMixProof

open Idealize.ShloMosaic Idealize.SL Idealize.SL.Sem Cert.EvenMixIdeal Cert.EvenMixIdeal.Gen Cert.Arrays Cert.LayerNorm Finset

variable (U : ℕ → ℕ → EReal) (n : ℕ)

/-- What a load of 256 rows and columns of the padded block reads. -/
def seen (o q : ℕ) : S256x256.Idx → EReal := up 256 256 fun r c => padded U n (o + r) (q + c)

theorem pay4_eq (f : ℕ → ℕ → EReal) : k0_pay4 (F := Ideal) (up 256 1024 f) = up 256 1024 f := by
  unfold k0_pay4
  funext j
  idx_vars j
  pointwise

theorem pay3_eq (i : grid0.Coords) (hi : (i 0).val = n) (hn : n < 8) (f : ℕ → ℕ → EReal) :
    k0_pay3 (F := Ideal) i (up 16 1024 f) = up 16 1024 fun r c => if 0 < n then f r c else 0 := by
  unfold k0_pay3
  rw [hi]
  funext j
  idx_vars j
  by_cases h : 0 < n
  · rw [show Scalar.cmpi .sgt (BitVec.ofNat 32 n) 0#32 = 1#1 by interval_cases n <;> first | rfl | omega]
    pointwise
    simp only [up_ix2, if_pos h]
  · rw [show Scalar.cmpi .sgt (BitVec.ofNat 32 n) 0#32 = 0#1 by interval_cases n <;> first | rfl | omega]
    pointwise
    simp only [up_ix2, if_neg h]

/-- A place lies in a rectangle when its row and its column do. -/
theorem in_rect {N M o p a b : ℕ} (inb) (y : (⟨2, ![N, M]⟩ : Shape).Idx) (h : o ≤ (y 0).val ∧ (y 0).val < o + a) (k : p ≤ (y 1).val ∧ (y 1).val < p + b) :
    y ∈ (Rect.unit (s := ⟨2, ![N, M]⟩) ![o, p] ![a, b] inb).set := by
  refine Rect.mem_set_unit.mpr fun d => ?_
  match d with
  | 0 => exact h
  | 1 => exact k

/-- The padded block, as the two stores leave it. -/
theorem canon_eq (hb) (ht) : View.canon (Val := Elt Ideal) (s := S272x1024) (e := .f32)
    [⟨Rect.unit ![16, 0] ![256, 1024] hb, up 256 1024 fun r c => U (256 * n + r) c⟩,
     ⟨Rect.unit ![0, 0] ![16, 1024] ht, up 16 1024 fun r c => if 0 < n then U (256 * n + r - 16) c else 0⟩]
    = up 272 1024 (padded U n) := by
  funext y
  have y0 : (y 0).val < 272 := (y 0).isLt
  have y1 : (y 1).val < 1024 := (y 1).isLt
  have hc : ∃ p ∈ ([⟨Rect.unit ![16, 0] ![256, 1024] hb, up 256 1024 fun r c => U (256 * n + r) c⟩,
     ⟨Rect.unit ![0, 0] ![16, 1024] ht, up 16 1024 fun r c => if 0 < n then U (256 * n + r - 16) c else 0⟩] : List (View.Piece (Elt Ideal) S272x1024 .f32)),
     y ∈ p.1.set := by
    by_cases h : 16 ≤ (y 0).val
    · exact ⟨_, .head _, in_rect hb y (by omega) (by omega)⟩
    · exact ⟨_, .tail _ (.head _), in_rect ht y (by omega) (by omega)⟩
  canon_tiles x h using hc
  · show U (256 * n + (x 0).val) (x 1).val = padded U n (y 0).val (y 1).val
    rw [h0, h1, padded_own]
  · show (if 0 < n then U (256 * n + (x 0).val - 16) (x 1).val else 0) = padded U n (y 0).val (y 1).val
    rw [h0, h1, padded, if_pos x0_lt]

theorem read_eq {sp : Space} (v : View sig .tc sp S272x1024 .f32) (i : grid0.Coords) (hi : (i 0).val = n) (hn : n < 8) (o q : ℕ) (h16) (h0) (inb) :
    v.readCov (Val := Elt Ideal) [⟨Rect.unit ![16, 0] ![256, 1024] h16, k0_pay4 (F := Ideal) (up 256 1024 fun r c => U (256 * n + r) c)⟩,
     ⟨Rect.unit ![0, 0] ![16, 1024] h0, k0_pay3 (F := Ideal) i (up 16 1024 fun r c => U (if 0 < n then 256 * n + r - 16 else r) c)⟩]
     (Rect.unit (s := S272x1024) ![o, q] ![256, 256] inb).toLoadRect = seen U n o q := by
  have e : (fun r c => if 0 < n then U (if 0 < n then 256 * n + r - 16 else r) c else 0)
      = fun r c => if 0 < n then U (256 * n + r - 16) c else 0 := by
    funext r c
    split <;> rfl
  rw [pay4_eq, pay3_eq n i hi hn, e]
  refine (View.readCov_eq_canon' v _ _).trans ?_
  rw [canon_eq]
  funext x
  show padded U n (o + 1 * (x 0).val) (q + 1 * (x 1).val) = padded U n (o + (x 0).val) (q + (x 1).val)
  rw [one_mul, one_mul]

/-! The four groups' means: the window's rows are added from the last to the first. -/

theorem mean0 (i : grid0.Coords) (hi : (i 0).val = n) (q : ℕ) : k0_pay6 (F := Ideal) i (seen U n 16 q) (seen U n 15 q)
    = up 256 256 fun r c => mean U 2 (256 * n + r) (q + c) := by
  unfold k0_pay6 k0_pay5 seen
  rw [hi]
  funext j
  idx_vars j
  pointwise
  simp only [up_ix2]
  refine congrArg₂ (· - ·) (congrArg₂ Ideal.div ?_ (cnt_eq 2 n _)) (padded_own U n _ _)
  rw [tot_eq U n 2 _ _ (by decide)]
  simp [sum_range_succ]

theorem mean1 (i : grid0.Coords) (hi : (i 0).val = n) (q : ℕ) : k0_pay8 (F := Ideal) (k0_pay5 i) (seen U n 16 q)
      (k0_pay7 (seen U n 16 q) (seen U n 15 q) (seen U n 14 q)) (seen U n 13 q)
    = up 256 256 fun r c => mean U 4 (256 * n + r) (q + c) := by
  unfold k0_pay8 k0_pay7 k0_pay5 seen
  rw [hi]
  funext j
  idx_vars j
  pointwise
  simp only [up_ix2]
  refine congrArg₂ (· - ·) (congrArg₂ Ideal.div ?_ (cnt_eq 4 n _)) (padded_own U n _ _)
  rw [tot_eq U n 4 _ _ (by decide)]
  simp [sum_range_succ]

theorem mean2 (i : grid0.Coords) (hi : (i 0).val = n) (q : ℕ) : k0_pay9 (F := Ideal) (k0_pay5 i) (seen U n 16 q) (seen U n 15 q) (seen U n 14 q)
      (seen U n 13 q) (seen U n 12 q) (seen U n 11 q) (seen U n 10 q) (seen U n 9 q)
    = up 256 256 fun r c => mean U 8 (256 * n + r) (q + c) := by
  unfold k0_pay9 k0_pay5 seen
  rw [hi]
  funext j
  idx_vars j
  pointwise
  simp only [up_ix2]
  refine congrArg₂ (· - ·) (congrArg₂ Ideal.div ?_ (cnt_eq 8 n _)) (padded_own U n _ _)
  rw [tot_eq U n 8 _ _ (by decide)]
  simp [sum_range_succ]

theorem mean3 (i : grid0.Coords) (hi : (i 0).val = n) (q : ℕ) : k0_pay14 (F := Ideal) (seen U n 16 q) (k0_pay11 (k0_pay10 (seen U n 16 q) (seen U n 15 q))
      (seen U n 14 q) (seen U n 13 q) (seen U n 12 q) (seen U n 11 q) (seen U n 10 q) (seen U n 9 q) (seen U n 8 q) (seen U n 7 q) (seen U n 6 q)
      (seen U n 5 q) (seen U n 4 q) (seen U n 3 q) (seen U n 2 q) (seen U n 1 q)) (k0_pay12 (k0_pay5 i)) k0_pay13
    = up 256 256 fun r c => mean U 16 (256 * n + r) (q + c) := by
  unfold k0_pay14 k0_pay13 k0_pay12 k0_pay11 k0_pay10 k0_pay5 seen
  rw [hi]
  funext j
  idx_vars j
  pointwise
  simp only [up_ix2]
  refine congrArg₂ (· - ·) (congrArg₂ Ideal.div ?_ (cnt_eq 16 n _)) (padded_own U n _ _)
  rw [tot_eq U n 16 _ _ (by decide)]
  simp [sum_range_succ]

/-! The groups' results: a product, a scale and the gates. -/

variable (M B z : ℕ → ℕ → EReal) (s : ℕ → EReal)

/-- A group's result in numbers. -/
def gated (r e : ℕ) : EReal := (∑ k ∈ range 256, M r k * B k e) * s e * gate (z r e)

theorem group0 : k0_pay15 (F := Ideal) (up 256 256 M) (up1 256 256 B) (up 1 256 fun _ e => s e) (up 256 256 z) = up 256 256 (gated M B z s) := by
  unfold k0_pay15
  funext j
  idx_vars j
  pointwise
  simp only [up_ix2, up1_ix3]
  rw [← sum_range (fun k => M j0.val k * B k j1.val)]
  rfl

theorem group1 : k0_pay19 (F := Ideal) (k0_pay16 (up 256 256 M) (up1 256 256 B) (up 1 256 fun _ e => s e)) (up 256 256 z) (k0_pay17 (up 256 256 z)) k0_pay18
    = up 256 256 (gated M B z s) := by
  unfold k0_pay19 k0_pay18 k0_pay17 k0_pay16
  funext j
  idx_vars j
  pointwise
  simp only [up_ix2, up1_ix3]
  rw [← sum_range (fun k => M j0.val k * B k j1.val)]
  rfl

theorem group2 : k0_pay20 (F := Ideal) (up 256 256 M) (up1 256 256 B) (up 1 256 fun _ e => s e) (up 256 256 z) = up 256 256 (gated M B z s) := by
  unfold k0_pay20
  funext j
  idx_vars j
  pointwise
  simp only [up_ix2, up1_ix3]
  rw [← sum_range (fun k => M j0.val k * B k j1.val)]
  rfl

theorem group3 : k0_pay1 (F := Ideal) (k0_pay21 (up 256 256 M) (up1 256 256 B) (up 1 256 fun _ e => s e)) (up 256 256 z)
    = up 256 256 (gated M B z s) := by
  unfold k0_pay1 k0_pay21
  funext j
  idx_vars j
  pointwise
  simp only [up_ix2, up1_ix3]
  rw [← sum_range (fun k => M j0.val k * B k j1.val)]
  rfl

theorem left_eq : k0_pay2 (F := Ideal) (up 256 1024 M) (up 256 1024 z) = up 256 1024 fun r e => M r e * gate (z r e) := by
  unfold k0_pay2
  funext j
  idx_vars j
  pointwise
  rfl

end Cert.EvenMixProof
-- ==== Proof.EvenMixRef.lean ====
module
public import proofs.«01_k».proof.Proof.EvenMixDefs
public import proofs.«01_k».proof.Proof.Window
public import proofs.«01_k».proof.Proof.Gen.EvenMixReferenceIdeal.Read
public import Idealize.ShloMosaic.Lib.Pipeline.ValueKit

/-! The reference of the even layer's mixer, read in numbers. -/

@[expose] public section

set_option maxRecDepth 16384

noncomputable section

namespace Cert.EvenMixProof

open Idealize.ShloMosaic Idealize.SL Idealize.SL.Sem Cert.EvenMixReferenceIdeal Cert.EvenMixReferenceIdeal.Gen Cert.EvenMixReferenceIdeal.Read Cert.Arrays Cert.LayerNorm Finset

/-- A column window of `n` rows has `n` places. -/
theorem column_numel (n : ℕ) : (⟨2, ![n, 1]⟩ : Shape).numel = n := by
  simp [Shape.numel]

/-- The place of number `k` in such a window lies `k` rows down. -/
theorem column_coord (n : ℕ) (k : Fin (⟨2, ![n, 1]⟩ : Shape).numel) :
    ((⟨2, ![n, 1]⟩ : Shape).rowMajor.symm k 0).val = k.val ∧ ((⟨2, ![n, 1]⟩ : Shape).rowMajor.symm k 1).val = 0 := by
  have h := Shape.rowMajor_val_two ((⟨2, ![n, 1]⟩ : Shape).rowMajor.symm k)
  rw [Equiv.apply_symm_apply] at h
  have h1 : ((⟨2, ![n, 1]⟩ : Shape).rowMajor.symm k 1).val < 1 := Fin.isLt _
  have h2 : k.val = ((⟨2, ![n, 1]⟩ : Shape).rowMajor.symm k 0).val * 1 + ((⟨2, ![n, 1]⟩ : Shape).rowMajor.symm k 1).val := h
  omega

/-- A sum over a list of all numbers below `N`. -/
theorem sum_list (N M : ℕ) (hN : N = M) (g : Fin N → EReal) (r : ℕ → EReal) (h : ∀ k, g k = r k.val) :
    ((List.finRange N).map g).sum = ∑ k ∈ range M, r k := by
  subst hN
  rw [funext h, ← List.ofFn_eq_map, List.sum_ofFn, sum_range]

/-- A window sum down the rows, padded above by one row less than the window: the sum over the rows that end at the one at hand. -/
theorem window_rows (l : ℕ) (f : ℕ → ℕ → EReal) (init : EReal) (hi : init = 0)
    (h : S2048x256.ReduceWindows ![l + 1, 1] ![1, 1] ![l, 0] ![0, 0] S2048x256) (j : S2048x256.Idx) :
    Ideal.hostReduceWindowAdd ![l + 1, 1] ![1, 1] ![l, 0] ![0, 0] h (up 2048 256 f) init j = tot f (l + 1) (j 0).val (j 1).val := by
  subst hi
  unfold Ideal.hostReduceWindowAdd Host.reduceWindow
  refine (Cert.Sba.foldl_add _ _ _).trans ?_
  rw [zero_add]
  have j0 : (j 0).val < 2048 := (j 0).isLt
  have j1 : (j 1).val < 256 := (j 1).isLt
  refine (sum_list _ (l + 1) (column_numel (l + 1)) _ (fun k => back f (l - k) (j 0).val (j 1).val) fun k => ?_).trans ?_
  · obtain ⟨e0, e1⟩ := column_coord (l + 1) k
    have hk : k.val < l + 1 := lt_of_lt_of_eq k.isLt (column_numel (l + 1))
    by_cases hc : l - k.val ≤ (j 0).val
    · beta_reduce
      rw [back, if_pos hc]
      refine (dif_pos (fun a => ?_)).trans ?_
      · match a with
        | ⟨0, _⟩ =>
          show l ≤ (j 0).val * 1 + ((⟨2, ![l + 1, 1]⟩ : Shape).rowMajor.symm k 0).val
            ∧ (j 0).val * 1 + ((⟨2, ![l + 1, 1]⟩ : Shape).rowMajor.symm k 0).val - l < 2048
          omega
        | ⟨1, _⟩ =>
          show 0 ≤ (j 1).val * 1 + ((⟨2, ![l + 1, 1]⟩ : Shape).rowMajor.symm k 1).val
            ∧ (j 1).val * 1 + ((⟨2, ![l + 1, 1]⟩ : Shape).rowMajor.symm k 1).val - 0 < 256
          omega
      · show f ((j 0).val * 1 + ((⟨2, ![l + 1, 1]⟩ : Shape).rowMajor.symm k 0).val - l)
          ((j 1).val * 1 + ((⟨2, ![l + 1, 1]⟩ : Shape).rowMajor.symm k 1).val - 0) = _
        rw [e0, e1]
        congr 1 <;> omega
    · beta_reduce
      rw [back, if_neg hc]
      refine dif_neg fun hin => hc ?_
      have h2 : l ≤ (j 0).val * 1 + ((⟨2, ![l + 1, 1]⟩ : Shape).rowMajor.symm k 0).val
          ∧ (j 0).val * 1 + ((⟨2, ![l + 1, 1]⟩ : Shape).rowMajor.symm k 0).val - l < 2048 := hin 0
      omega
  · unfold tot
    rw [← sum_range_reflect]
    refine sum_congr rfl fun k hk => ?_
    rw [mem_range] at hk
    beta_reduce
    rw [show l - (l + 1 - 1 - k) = k by omega]

/-- The same of the program's operation. -/
theorem window_rows_host (l : ℕ) (f : ℕ → ℕ → EReal) (init : S_.Idx → EReal) (hi : ∀ i, init i = 0)
    (h : S2048x256.ReduceWindows ![l + 1, 1] ![1, 1] ![l, 0] ![0, 0] S2048x256) (hu : 0 < S_.numel) (j : S2048x256.Idx) :
    Host.reduceWindowAdd (F := Ideal) (φ := .f32) ![l + 1, 1] ![1, 1] ![l, 0] ![0, 0] (up 2048 256 f) init h hu j
      = tot f (l + 1) (j 0).val (j 1).val :=
  window_rows l f (init (Shape.Idx.first hu)) (hi _) h j

variable (P A : ℕ → ℕ → EReal) (W : ℕ → ℕ → ℕ → EReal) (S : ℕ → EReal)

/-! The two column ranges of the first argument: the values that are pooled, and the gates. -/
def uP (t c : ℕ) : EReal := P t (3072 + c)
def gP (t c : ℕ) : EReal := P t (4096 + c)

/-- The groups' weights. -/
def wt : (⟨3, ![4, 256, 256]⟩ : Shape).Idx → EReal := fun j => W (j 0).val (j 1).val (j 2).val

theorem wt_at {i : (⟨3, ![4, 256, 256]⟩ : Shape).Idx} {g k e : ℕ} (h : (i 0).val = g ∧ (i 1).val = k ∧ (i 2).val = e) : wt W i = W g k e := by
  obtain ⟨rfl, rfl, rfl⟩ := h
  rfl

theorem exists_wt (B : (⟨3, ![4, 256, 256]⟩ : Shape).Idx → EReal) : ∃ W, B = wt W := by
  refine ⟨fun g k e => B (ix3 ⟨g % 4, Nat.mod_lt _ (by decide)⟩ ⟨k % 256, Nat.mod_lt _ (by decide)⟩ ⟨e % 256, Nat.mod_lt _ (by decide)⟩),
    funext fun j => congrArg B (funext fun d => ?_)⟩
  match d with
  | 0 => exact Fin.ext (Nat.mod_eq_of_lt (j 0).isLt).symm
  | 1 => exact Fin.ext (Nat.mod_eq_of_lt (j 1).isLt).symm
  | 2 => exact Fin.ext (Nat.mod_eq_of_lt (j 2).isLt).symm

/-! Group 0. -/

theorem slice0 : val_main_v5 (F := Ideal) (up 2048 6144 P) = up 2048 256 fun t c => uP P t (256 * 0 + c) := by
  funext j
  rw [val_main_v5_apply, val_main_v0_apply]
  exact up_at rfl _ ⟨rfl, by show 3072 + (j 1).val = 3072 + (256 * 0 + (j 1).val); omega⟩

theorem count0 (j : S2048x256.Idx) : val_main_v12 (F := Ideal) j = cnt 2 (j 0).val := by
  rw [val_main_v12_apply, val_main_v11_apply, val_main_v10_apply, val_main_v9_apply, val_main_v8_apply, val_main_v4_apply, val_main_v3_apply, val_main_v2_apply]
  rfl

theorem weight0 (j : S256x256.Idx) : val_main_v17 (F := Ideal) (wt W) j = W 0 (j 0).val (j 1).val := by
  have j0 : (j 0).val < 256 := (j 0).isLt
  have j1 : (j 1).val < 256 := (j 1).isLt
  refine (val_main_v17_apply (F := Ideal) _ _).trans ((val_main_v16_apply (F := Ideal) _ _).trans ((val_main_v15_apply (F := Ideal) _ _).trans (wt_at W ⟨?_, ?_, ?_⟩)))
  · rfl
  · show ((j 0).val * 256 + (j 1).val) / 256 % 256 = (j 0).val
    omega
  · show ((j 0).val * 256 + (j 1).val) % 256 = (j 1).val
    omega

theorem means0 (j : S2048x256.Idx) : val_main_v14 (F := Ideal) (up 2048 6144 P) j = mean (uP P) 2 (j 0).val (256 * 0 + (j 1).val) := by
  rw [val_main_v14_apply, val_main_v13_apply, count0]
  unfold val_main_v7
  rw [slice0]
  refine congrArg₂ (· - ·) (congrArg (Ideal.div · _) ((window_rows_host 1 _ _ (fun i => ?_) _ _ j).trans ?_)) rfl
  · rw [val_main_v6_apply]
    exact Ideal.ofBits_zero .f32
  · rfl

theorem pool0 (j : S2048x256.Idx) : (∑ k ∈ range 256, mean (uP P) 2 (j 0).val (256 * 0 + k) * W 0 k (j 1).val)
    = val_main_v18 (F := Ideal) (up 2048 6144 P) (wt W) j := by
  rw [val_main_v18_apply, sum_range]
  refine sum_congr rfl fun k _ => ?_
  rw [means0, weight0]

/-! Group 1. -/

theorem slice1 : val_main_v19 (F := Ideal) (up 2048 6144 P) = up 2048 256 fun t c => uP P t (256 * 1 + c) := by
  funext j
  rw [val_main_v19_apply, val_main_v0_apply]
  exact up_at rfl _ ⟨rfl, rfl⟩

theorem count1 (j : S2048x256.Idx) : val_main_v26 (F := Ideal) j = cnt 4 (j 0).val := by
  rw [val_main_v26_apply, val_main_v25_apply, val_main_v24_apply, val_main_v23_apply, val_main_v22_apply, val_main_v4_apply, val_main_v3_apply, val_main_v2_apply]
  rfl

theorem weight1 (j : S256x256.Idx) : val_main_v31 (F := Ideal) (wt W) j = W 1 (j 0).val (j 1).val := by
  have j0 : (j 0).val < 256 := (j 0).isLt
  have j1 : (j 1).val < 256 := (j 1).isLt
  refine (val_main_v31_apply (F := Ideal) _ _).trans ((val_main_v30_apply (F := Ideal) _ _).trans ((val_main_v29_apply (F := Ideal) _ _).trans (wt_at W ⟨?_, ?_, ?_⟩)))
  · rfl
  · show ((j 0).val * 256 + (j 1).val) / 256 % 256 = (j 0).val
    omega
  · show ((j 0).val * 256 + (j 1).val) % 256 = (j 1).val
    omega

theorem means1 (j : S2048x256.Idx) : val_main_v28 (F := Ideal) (up 2048 6144 P) j = mean (uP P) 4 (j 0).val (256 * 1 + (j 1).val) := by
  rw [val_main_v28_apply, val_main_v27_apply, count1]
  unfold val_main_v21
  rw [slice1]
  refine congrArg₂ (· - ·) (congrArg (Ideal.div · _) ((window_rows_host 3 _ _ (fun i => ?_) _ _ j).trans ?_)) rfl
  · rw [val_main_v20_apply]
    exact Ideal.ofBits_zero .f32
  · rfl

theorem pool1 (j : S2048x256.Idx) : (∑ k ∈ range 256, mean (uP P) 4 (j 0).val (256 * 1 + k) * W 1 k (j 1).val)
    = val_main_v32 (F := Ideal) (up 2048 6144 P) (wt W) j := by
  rw [val_main_v32_apply, sum_range]
  refine sum_congr rfl fun k _ => ?_
  rw [means1, weight1]

/-! Group 2. -/

theorem slice2 : val_main_v33 (F := Ideal) (up 2048 6144 P) = up 2048 256 fun t c => uP P t (256 * 2 + c) := by
  funext j
  rw [val_main_v33_apply, val_main_v0_apply]
  exact up_at rfl _ ⟨rfl, rfl⟩

theorem count2 (j : S2048x256.Idx) : val_main_v40 (F := Ideal) j = cnt 8 (j 0).val := by
  rw [val_main_v40_apply, val_main_v39_apply, val_main_v38_apply, val_main_v37_apply, val_main_v36_apply, val_main_v4_apply, val_main_v3_apply, val_main_v2_apply]
  rfl

theorem weight2 (j : S256x256.Idx) : val_main_v45 (F := Ideal) (wt W) j = W 2 (j 0).val (j 1).val := by
  have j0 : (j 0).val < 256 := (j 0).isLt
  have j1 : (j 1).val < 256 := (j 1).isLt
  refine (val_main_v45_apply (F := Ideal) _ _).trans ((val_main_v44_apply (F := Ideal) _ _).trans ((val_main_v43_apply (F := Ideal) _ _).trans (wt_at W ⟨?_, ?_, ?_⟩)))
  · rfl
  · show ((j 0).val * 256 + (j 1).val) / 256 % 256 = (j 0).val
    omega
  · show ((j 0).val * 256 + (j 1).val) % 256 = (j 1).val
    omega

theorem means2 (j : S2048x256.Idx) : val_main_v42 (F := Ideal) (up 2048 6144 P) j = mean (uP P) 8 (j 0).val (256 * 2 + (j 1).val) := by
  rw [val_main_v42_apply, val_main_v41_apply, count2]
  unfold val_main_v35
  rw [slice2]
  refine congrArg₂ (· - ·) (congrArg (Ideal.div · _) ((window_rows_host 7 _ _ (fun i => ?_) _ _ j).trans ?_)) rfl
  · rw [val_main_v34_apply]
    exact Ideal.ofBits_zero .f32
  · rfl

theorem pool2 (j : S2048x256.Idx) : (∑ k ∈ range 256, mean (uP P) 8 (j 0).val (256 * 2 + k) * W 2 k (j 1).val)
    = val_main_v46 (F := Ideal) (up 2048 6144 P) (wt W) j := by
  rw [val_main_v46_apply, sum_range]
  refine sum_congr rfl fun k _ => ?_
  rw [means2, weight2]

/-! Group 3. -/

theorem slice3 : val_main_v47 (F := Ideal) (up 2048 6144 P) = up 2048 256 fun t c => uP P t (256 * 3 + c) := by
  funext j
  rw [val_main_v47_apply, val_main_v0_apply]
  exact up_at rfl _ ⟨rfl, rfl⟩

theorem count3 (j : S2048x256.Idx) : val_main_v54 (F := Ideal) j = cnt 16 (j 0).val := by
  rw [val_main_v54_apply, val_main_v53_apply, val_main_v52_apply, val_main_v51_apply, val_main_v50_apply, val_main_v4_apply, val_main_v3_apply, val_main_v2_apply]
  rfl

theorem weight3 (j : S256x256.Idx) : val_main_v59 (F := Ideal) (wt W) j = W 3 (j 0).val (j 1).val := by
  have j0 : (j 0).val < 256 := (j 0).isLt
  have j1 : (j 1).val < 256 := (j 1).isLt
  refine (val_main_v59_apply (F := Ideal) _ _).trans ((val_main_v58_apply (F := Ideal) _ _).trans ((val_main_v57_apply (F := Ideal) _ _).trans (wt_at W ⟨?_, ?_, ?_⟩)))
  · rfl
  · show ((j 0).val * 256 + (j 1).val) / 256 % 256 = (j 0).val
    omega
  · show ((j 0).val * 256 + (j 1).val) % 256 = (j 1).val
    omega

theorem means3 (j : S2048x256.Idx) : val_main_v56 (F := Ideal) (up 2048 6144 P) j = mean (uP P) 16 (j 0).val (256 * 3 + (j 1).val) := by
  rw [val_main_v56_apply, val_main_v55_apply, count3]
  unfold val_main_v49
  rw [slice3]
  refine congrArg₂ (· - ·) (congrArg (Ideal.div · _) ((window_rows_host 15 _ _ (fun i => ?_) _ _ j).trans ?_)) rfl
  · rw [val_main_v48_apply]
    exact Ideal.ofBits_zero .f32
  · rfl

theorem pool3 (j : S2048x256.Idx) : (∑ k ∈ range 256, mean (uP P) 16 (j 0).val (256 * 3 + k) * W 3 k (j 1).val)
    = val_main_v60 (F := Ideal) (up 2048 6144 P) (wt W) j := by
  rw [val_main_v60_apply, sum_range]
  refine sum_congr rfl fun k _ => ?_
  rw [means3, weight3]

/-! The joined groups, the attention beside them, and the gates. -/

theorem joined0 (t : Fin 2048) (e : Fin 256) (j : S2048x1024.Idx) (hr : (j 0).val = t.val) (hc : (j 1).val = 0 + e.val) :
    val_main_v61 (F := Ideal) (up 2048 6144 P) (wt W) j = ∑ k ∈ range 256, mean (uP P) 2 t.val (256 * 0 + k) * W 0 k e.val := by
  unfold val_main_v61
  refine (concatenate_apply_piece 1 _ _ j 0 (by simp) S2048x256 (val_main_v18 (F := Ideal) (up 2048 6144 P) (wt W)) rfl rfl 0 rfl (ix2 t e)
    (fun b hb => ?_) ?_).trans (pool0 P W (ix2 t e)).symm
  · match b with
    | 0 => exact hr.symm
    | 1 => exact absurd rfl hb
  · exact hc.symm

theorem joined1 (t : Fin 2048) (e : Fin 256) (j : S2048x1024.Idx) (hr : (j 0).val = t.val) (hc : (j 1).val = 256 + e.val) :
    val_main_v61 (F := Ideal) (up 2048 6144 P) (wt W) j = ∑ k ∈ range 256, mean (uP P) 4 t.val (256 * 1 + k) * W 1 k e.val := by
  unfold val_main_v61
  refine (concatenate_apply_piece 1 _ _ j 1 (by simp) S2048x256 (val_main_v32 (F := Ideal) (up 2048 6144 P) (wt W)) rfl rfl 256 rfl (ix2 t e)
    (fun b hb => ?_) ?_).trans (pool1 P W (ix2 t e)).symm
  · match b with
    | 0 => exact hr.symm
    | 1 => exact absurd rfl hb
  · exact hc.symm

theorem joined2 (t : Fin 2048) (e : Fin 256) (j : S2048x1024.Idx) (hr : (j 0).val = t.val) (hc : (j 1).val = 512 + e.val) :
    val_main_v61 (F := Ideal) (up 2048 6144 P) (wt W) j = ∑ k ∈ range 256, mean (uP P) 8 t.val (256 * 2 + k) * W 2 k e.val := by
  unfold val_main_v61
  refine (concatenate_apply_piece 1 _ _ j 2 (by simp) S2048x256 (val_main_v46 (F := Ideal) (up 2048 6144 P) (wt W)) rfl rfl 512 rfl (ix2 t e)
    (fun b hb => ?_) ?_).trans (pool2 P W (ix2 t e)).symm
  · match b with
    | 0 => exact hr.symm
    | 1 => exact absurd rfl hb
  · exact hc.symm

theorem joined3 (t : Fin 2048) (e : Fin 256) (j : S2048x1024.Idx) (hr : (j 0).val = t.val) (hc : (j 1).val = 768 + e.val) :
    val_main_v61 (F := Ideal) (up 2048 6144 P) (wt W) j = ∑ k ∈ range 256, mean (uP P) 16 t.val (256 * 3 + k) * W 3 k e.val := by
  unfold val_main_v61
  refine (concatenate_apply_piece 1 _ _ j 3 (by simp) S2048x256 (val_main_v60 (F := Ideal) (up 2048 6144 P) (wt W)) rfl rfl 768 rfl (ix2 t e)
    (fun b hb => ?_) ?_).trans (pool3 P W (ix2 t e)).symm
  · match b with
    | 0 => exact hr.symm
    | 1 => exact absurd rfl hb
  · exact hc.symm

theorem joined (j : S2048x1024.Idx) : val_main_v61 (F := Ideal) (up 2048 6144 P) (wt W) j
    = ∑ k ∈ range 256, mean (uP P) (2 ^ ((j 1).val / 256 + 1)) (j 0).val (256 * ((j 1).val / 256) + k) * W ((j 1).val / 256) k ((j 1).val % 256) := by
  have h1 : (j 1).val < 1024 := (j 1).isLt
  obtain ⟨t, ht⟩ : ∃ t : Fin 2048, (j 0).val = t.val := ⟨⟨_, (j 0).isLt⟩, rfl⟩
  obtain ⟨e, he⟩ : ∃ e : Fin 256, (j 1).val % 256 = e.val := ⟨⟨_, Nat.mod_lt _ (by decide)⟩, rfl⟩
  obtain ⟨g, hg⟩ : ∃ g, (j 1).val / 256 = g := ⟨_, rfl⟩
  rw [ht, he, hg]
  have hl : g < 4 := by omega
  interval_cases g
  · exact joined0 P W t e j ht (by omega)
  · exact joined1 P W t e j ht (by omega)
  · exact joined2 P W t e j ht (by omega)
  · exact joined3 P W t e j ht (by omega)

theorem scaled (j : S2048x1024.Idx) : val_main_v63 (F := Ideal) (up 2048 6144 P) (wt W) (up 1 1024 fun _ e => S e) j
    = pool (uP P) W S ((j 1).val / 256) (j 0).val ((j 1).val % 256) := by
  rw [val_main_v63_apply, val_main_v62_apply, joined]
  show _ * S (j 1).val = _
  unfold pool
  rw [Nat.div_add_mod]

theorem beside_left (j : S2048x2048.Idx) (hj : (j 1).val < 1024) :
    val_main_v64 (F := Ideal) (up 2048 6144 P) (up 2048 1024 A) (wt W) (up 1 1024 fun _ e => S e) j = A (j 0).val (j 1).val := by
  unfold val_main_v64
  refine (concatenate_pair_apply_left (s₁ := S2048x1024) (s₂ := S2048x1024) 1 _ _ _ j rfl (ix2 ⟨(j 0).val, ValueIdx.idx2_lt0 j⟩ ⟨(j 1).val, hj⟩) fun b => ?_).trans rfl
  match b with
  | 0 => rfl
  | 1 => rfl

theorem beside_right (j : S2048x2048.Idx) (hj : 1024 ≤ (j 1).val) :
    val_main_v64 (F := Ideal) (up 2048 6144 P) (up 2048 1024 A) (wt W) (up 1 1024 fun _ e => S e) j
      = pool (uP P) W S (((j 1).val - 1024) / 256) (j 0).val (((j 1).val - 1024) % 256) := by
  unfold val_main_v64
  have h1 := ValueIdx.idx2_lt1 j
  refine (concatenate_pair_apply_right (s₁ := S2048x1024) (s₂ := S2048x1024) 1 _ _ _ j rfl rfl (ix2 ⟨(j 0).val, ValueIdx.idx2_lt0 j⟩ ⟨(j 1).val - 1024, by omega⟩) (fun b hb => ?_) ?_).trans (scaled P W S _)
  · match b with
    | 0 => rfl
    | 1 => exact absurd rfl hb
  · show (j 1).val - 1024 + 1024 = (j 1).val
    omega

theorem gates (j : S2048x2048.Idx) : val_main_v65 (F := Ideal) (up 2048 6144 P) j = gate (gP P (j 0).val (j 1).val) := by
  rw [val_main_v65_apply, val_main_call0_v5_apply, val_main_call0_v4_apply, val_main_call0_cst_0_apply, val_main_call0_v3_apply, val_main_call0_v2_apply,
    val_main_call0_cst_apply, val_main_call0_v1_apply, val_main_call0_v0_apply, val_main_v1_apply]
  show gP P (j 0).val (j 1).val * Ideal.div (Ideal.ofBits .f32 0x3F800000#32) (Ideal.ofBits .f32 0x3F800000#32 + Ideal.exp (-gP P (j 0).val (j 1).val)) = _
  rw [one_eq, sg_neg]
  rfl

/-- The reference's array. -/
theorem ref_eq : val_main_v67 (F := Ideal) (up 2048 6144 P) (up 2048 1024 A) (wt W) (up 1 1024 fun _ e => S e)
    = up 2048 2048 (mix (uP P) W S (gP P) A) := by
  funext j
  rw [val_main_v67_apply, val_main_v66_apply, gates]
  show _ * gate (gP P (j 0).val (j 1).val) = mix (uP P) W S (gP P) A (j 0).val (j 1).val
  unfold mix
  by_cases h : (j 1).val < 1024
  · rw [if_pos h, beside_left P A W S j h]
  · rw [if_neg h, beside_right P A W S j (by omega)]

end Cert.EvenMixProof
-- ==== Proof.EvenMix.lean ====
module
public import proofs.«01_k».proof.Defs
public import proofs.«01_k».proof.Proof.EvenMixBlock
public import proofs.«01_k».proof.Proof.EvenMixRef
public import Idealize.ShloMosaic.Lib.Pipeline.ValueKit

/-! The even layer's mixer: the eight grid points of 256 rows each, and what the result array holds. -/

@[expose] public section

set_option maxRecDepth 16384

noncomputable section

namespace Cert.EvenMixProof

open Idealize.ShloMosaic Idealize.SL Idealize.SL.Sem Cert.EvenMixIdeal Cert.EvenMixIdeal.Gen Cert.EvenMixIdeal.Value Cert.Arrays Cert.LayerNorm Finset

variable (P A : ℕ → ℕ → EReal) (W : ℕ → ℕ → ℕ → EReal) (S : ℕ → EReal)

/-! The block numbers at a point, and where an element of a block lies in its array. -/

theorem index0 : ∀ t : Fin cfg0.N, win0_0.index t (0 : Fin 2) = t.val ∧ win0_0.index t (1 : Fin 2) = 3 :=
  (by decide +kernel : ∀ t : Fin grid0.N, _)
theorem index1 : ∀ t : Fin cfg0.N, win0_1.index t (0 : Fin 2) = 16 * t.val - 1 ∧ win0_1.index t (1 : Fin 2) = 3 :=
  (by decide +kernel : ∀ t : Fin grid0.N, _)
theorem index2 : ∀ t : Fin cfg0.N, win0_2.index t (0 : Fin 2) = t.val ∧ win0_2.index t (1 : Fin 2) = 2 :=
  (by decide +kernel : ∀ t : Fin grid0.N, _)
theorem index3 : ∀ t : Fin cfg0.N, win0_3.index t (0 : Fin 2) = t.val ∧ win0_3.index t (1 : Fin 2) = 0 :=
  (by decide +kernel : ∀ t : Fin grid0.N, _)
theorem index4 : ∀ t : Fin cfg0.N, win0_4.index t (0 : Fin 3) = 0 ∧ win0_4.index t (1 : Fin 3) = 0 ∧ win0_4.index t (2 : Fin 3) = 0 :=
  (by decide +kernel : ∀ t : Fin grid0.N, _)
theorem index5 : ∀ t : Fin cfg0.N, win0_5.index t (0 : Fin 2) = 0 ∧ win0_5.index t (1 : Fin 2) = 0 :=
  (by decide +kernel : ∀ t : Fin grid0.N, _)
theorem index6 : ∀ t : Fin cfg0.N, win0_6.index t (0 : Fin 2) = t.val ∧ win0_6.index t (1 : Fin 2) = 0 :=
  (by decide +kernel : ∀ t : Fin grid0.N, _)
theorem flush6 : ∀ t : Fin cfg0.N, (cfg0.win 6).flush t = true := (by decide +kernel : ∀ t : Fin grid0.N, _)
theorem coord (t : Fin cfg0.N) : (grid0.coords t 0).val = t.val := (by decide +kernel : ∀ t : Fin grid0.N, (grid0.coords t 0).val = t.val) t

theorem place0 (t : Fin cfg0.N) (y : (⟨2, ![256, 1024]⟩ : Shape).Idx) :
    (((cfg0.win 0).blk t).view.emb y 0).val = 256 * t.val + (y 0).val ∧ (((cfg0.win 0).blk t).view.emb y 1).val = 3072 + (y 1).val := by
  have b0 : (((cfg0.win 0).blk t).view.emb y 0).val = win0_0.index t (0 : Fin 2) * 256 + 1 * (y 0).val := rfl
  have b1 : (((cfg0.win 0).blk t).view.emb y 1).val = win0_0.index t (1 : Fin 2) * 1024 + 1 * (y 1).val := rfl
  rw [b0, b1, (index0 t).1, (index0 t).2]
  omega

theorem place1 (t : Fin cfg0.N) (y : (⟨2, ![16, 1024]⟩ : Shape).Idx) :
    (((cfg0.win 1).blk t).view.emb y 0).val = (if 0 < t.val then 256 * t.val + (y 0).val - 16 else (y 0).val)
      ∧ (((cfg0.win 1).blk t).view.emb y 1).val = 3072 + (y 1).val := by
  have b0 : (((cfg0.win 1).blk t).view.emb y 0).val = win0_1.index t (0 : Fin 2) * 16 + 1 * (y 0).val := rfl
  have b1 : (((cfg0.win 1).blk t).view.emb y 1).val = win0_1.index t (1 : Fin 2) * 1024 + 1 * (y 1).val := rfl
  rw [b0, b1, (index1 t).1, (index1 t).2]
  split <;> omega

theorem place2 (t : Fin cfg0.N) (y : (⟨2, ![256, 2048]⟩ : Shape).Idx) :
    (((cfg0.win 2).blk t).view.emb y 0).val = 256 * t.val + (y 0).val ∧ (((cfg0.win 2).blk t).view.emb y 1).val = 4096 + (y 1).val := by
  have b0 : (((cfg0.win 2).blk t).view.emb y 0).val = win0_2.index t (0 : Fin 2) * 256 + 1 * (y 0).val := rfl
  have b1 : (((cfg0.win 2).blk t).view.emb y 1).val = win0_2.index t (1 : Fin 2) * 2048 + 1 * (y 1).val := rfl
  rw [b0, b1, (index2 t).1, (index2 t).2]
  omega

theorem place3 (t : Fin cfg0.N) (y : (⟨2, ![256, 1024]⟩ : Shape).Idx) :
    (((cfg0.win 3).blk t).view.emb y 0).val = 256 * t.val + (y 0).val ∧ (((cfg0.win 3).blk t).view.emb y 1).val = (y 1).val := by
  have b0 : (((cfg0.win 3).blk t).view.emb y 0).val = win0_3.index t (0 : Fin 2) * 256 + 1 * (y 0).val := rfl
  have b1 : (((cfg0.win 3).blk t).view.emb y 1).val = win0_3.index t (1 : Fin 2) * 1024 + 1 * (y 1).val := rfl
  rw [b0, b1, (index3 t).1, (index3 t).2]
  omega

theorem place4 (t : Fin cfg0.N) (y : (⟨3, ![4, 256, 256]⟩ : Shape).Idx) :
    (((cfg0.win 4).blk t).view.emb y 0).val = (y 0).val ∧ (((cfg0.win 4).blk t).view.emb y 1).val = (y 1).val
      ∧ (((cfg0.win 4).blk t).view.emb y 2).val = (y 2).val := by
  have b0 : (((cfg0.win 4).blk t).view.emb y 0).val = win0_4.index t (0 : Fin 3) * 4 + 1 * (y 0).val := rfl
  have b1 : (((cfg0.win 4).blk t).view.emb y 1).val = win0_4.index t (1 : Fin 3) * 256 + 1 * (y 1).val := rfl
  have b2 : (((cfg0.win 4).blk t).view.emb y 2).val = win0_4.index t (2 : Fin 3) * 256 + 1 * (y 2).val := rfl
  rw [b0, b1, b2, (index4 t).1, (index4 t).2.1, (index4 t).2.2]
  omega

theorem place5 (t : Fin cfg0.N) (y : (⟨2, ![1, 1024]⟩ : Shape).Idx) :
    (((cfg0.win 5).blk t).view.emb y 0).val = (y 0).val ∧ (((cfg0.win 5).blk t).view.emb y 1).val = (y 1).val := by
  have b0 : (((cfg0.win 5).blk t).view.emb y 0).val = win0_5.index t (0 : Fin 2) * 1 + 1 * (y 0).val := rfl
  have b1 : (((cfg0.win 5).blk t).view.emb y 1).val = win0_5.index t (1 : Fin 2) * 1024 + 1 * (y 1).val := rfl
  rw [b0, b1, (index5 t).1, (index5 t).2]
  omega

theorem place6 (t : Fin cfg0.N) (y : (⟨2, ![256, 2048]⟩ : Shape).Idx) :
    (((cfg0.win 6).blk t).view.emb y 0).val = 256 * t.val + (y 0).val ∧ (((cfg0.win 6).blk t).view.emb y 1).val = (y 1).val := by
  have b0 : (((cfg0.win 6).blk t).view.emb y 0).val = win0_6.index t (0 : Fin 2) * 256 + 1 * (y 0).val := rfl
  have b1 : (((cfg0.win 6).blk t).view.emb y 1).val = win0_6.index t (1 : Fin 2) * 2048 + 1 * (y 1).val := rfl
  rw [b0, b1, (index6 t).1, (index6 t).2]
  omega

/-! Loads of a part of a block. -/

theorem part_gates (f : ℕ → ℕ → EReal) (q b : ℕ) (inb) :
    View.ld (S := S256x2048) (Val := Elt Ideal) (e' := .f32) (up 256 2048 f) (Rect.unit ![0, q] ![256, b] inb) = up 256 b fun r e => f r (q + e) := by
  funext x
  show f (0 + 1 * (x 0).val) (q + 1 * (x 1).val) = f (x 0).val (q + (x 1).val)
  rw [one_mul, one_mul, zero_add]

theorem part_scale (q : ℕ) (inb) :
    View.ld (S := S1x1024) (Val := Elt Ideal) (e' := .f32) (up 1 1024 fun _ e => S e) (Rect.unit ![0, q] ![1, 256] inb) = up 1 256 fun _ e => S (q + e) := by
  funext x
  show S (q + 1 * (x 1).val) = S (q + (x 1).val)
  rw [one_mul]

theorem part_weights (g : ℕ) (inb) :
    View.ld (S := S4x256x256) (Val := Elt Ideal) (e' := .bf16) (wt W) (Rect.unit ![g, 0, 0] ![1, 256, 256] inb) = up1 256 256 (W g) := by
  funext x
  have x0 : (x 0).val = 0 := Nat.lt_one_iff.mp (x 0).isLt
  show W (g + 1 * (x 0).val) (0 + 1 * (x 1).val) (0 + 1 * (x 2).val) = W g (x 1).val (x 2).val
  rw [x0, mul_zero, add_zero, one_mul, one_mul, zero_add, zero_add]

/-- The five stores cover the block. -/
theorem cover (w0 w1 w2 w3 w4) (y : S256x2048.Idx) : ∃ p ∈ ([⟨Rect.unit ![0, 0] ![256, 1024] inb_S256x2048_S256x1024_0_0, w0⟩,
    ⟨Rect.unit ![0, 1792] ![256, 256] inb_S256x2048_S256x256_0_1792, w1⟩, ⟨Rect.unit ![0, 1536] ![256, 256] inb_S256x2048_S256x256_0_1536, w2⟩,
    ⟨Rect.unit ![0, 1280] ![256, 256] inb_S256x2048_S256x256_0_1280, w3⟩, ⟨Rect.unit ![0, 1024] ![256, 256] inb_S256x2048_S256x256_0_1024, w4⟩] :
    List (View.Piece (Elt Ideal) S256x2048 .bf16)), y ∈ p.1.set := by
  have y0 : (y 0).val < 256 := (y 0).isLt
  have y1 : (y 1).val < 2048 := (y 1).isLt
  by_cases k0 : (y 1).val < 1024
  · exact ⟨_, .head _, in_rect inb_S256x2048_S256x1024_0_0 y (by omega) (by omega)⟩
  by_cases k1 : 1792 ≤ (y 1).val
  · exact ⟨_, .tail _ (.head _), in_rect inb_S256x2048_S256x256_0_1792 y (by omega) (by omega)⟩
  by_cases k2 : 1536 ≤ (y 1).val
  · exact ⟨_, .tail _ (.tail _ (.head _)), in_rect inb_S256x2048_S256x256_0_1536 y (by omega) (by omega)⟩
  by_cases k3 : 1280 ≤ (y 1).val
  · exact ⟨_, .tail _ (.tail _ (.tail _ (.head _))), in_rect inb_S256x2048_S256x256_0_1280 y (by omega) (by omega)⟩
  · exact ⟨_, .tail _ (.tail _ (.tail _ (.tail _ (.head _)))), in_rect inb_S256x2048_S256x256_0_1024 y (by omega) (by omega)⟩

variable (m : (ℓ : Loc nD τ sig) → Buf (Elt Ideal) ℓ) (c : Dev nD)
  (h0 : m ((c.tc : Thread nD τ).loc main_arg0) = up 2048 6144 P) (h1 : m ((c.tc : Thread nD τ).loc main_arg1) = up 2048 1024 A)
  (h2 : m ((c.tc : Thread nD τ).loc main_arg2) = wt W) (h3 : m ((c.tc : Thread nD τ).loc main_arg3) = up 1 1024 fun _ e => S e)

include h0 h1 h2 h3

/-- The blocks at a point. -/
theorem ins (t : Fin cfg0.N) : iblk m c 0 t = (up 256 1024 fun r e => uP P (256 * t.val + r) e)
    ∧ iblk m c 1 t = (up 16 1024 fun r e => uP P (if 0 < t.val then 256 * t.val + r - 16 else r) e)
    ∧ iblk m c 2 t = (up 256 2048 fun r e => gP P (256 * t.val + r) e)
    ∧ iblk m c 3 t = (up 256 1024 fun r e => A (256 * t.val + r) e)
    ∧ iblk m c 4 t = wt W ∧ iblk m c 5 t = up 1 1024 fun _ e => S e :=
  ⟨funext fun y => up_at ((V_main_arg0 m c).trans h0) (((cfg0.win 0).blk t).view.emb y) (place0 t y),
   funext fun y => up_at ((V_main_arg0 m c).trans h0) (((cfg0.win 1).blk t).view.emb y) (place1 t y),
   funext fun y => up_at ((V_main_arg0 m c).trans h0) (((cfg0.win 2).blk t).view.emb y) (place2 t y),
   funext fun y => up_at ((V_main_arg1 m c).trans h1) (((cfg0.win 3).blk t).view.emb y) (place3 t y),
   funext fun y => (congrFun ((V_main_arg2 m c).trans h2) (((cfg0.win 4).blk t).view.emb y)).trans (wt_at W (place4 t y)),
   funext fun y => up_at ((V_main_arg3 m c).trans h3) (((cfg0.win 5).blk t).view.emb y) (place5 t y)⟩

/-- What a point writes: its 256 rows of the result. -/
theorem outs (t : Fin cfg0.N) : outsAt0 m c t = up 256 2048 fun r e => mix (uP P) W S (gP P) A (256 * t.val + r) e := by
  obtain ⟨i0, i1, i2, i3, i4, i5⟩ := ins P A W S m c h0 h1 h2 h3 t
  have hN : t.val < 8 := lt_of_lt_of_eq t.isLt N_0
  unfold outsAt0 out0_A_6
  rw [i0, i1, i2, i3, i4, i5]
  frame_out
  simp only [read_eq (uP P) t.val _ (grid0.coords t) (coord t) hN, part_gates, part_scale, part_weights]
  rw [mean0 _ _ _ (coord t), mean1 _ _ _ (coord t), mean2 _ _ _ (coord t), mean3 _ _ _ (coord t), group0, group1, group2, group3, left_eq]
  funext y
  canon_tiles x h using cover _ _ _ _ _ y
  · show A (256 * t.val + (x 0).val) (x 1).val * gate (gP P (256 * t.val + (x 0).val) (0 + (x 1).val)) = mix (uP P) W S (gP P) A (256 * t.val + (y 0).val) (y 1).val
    rw [h0, h1, zero_add]
    exact (mix_left _ W S _ _ _ _ x1_lt).symm
  · show gated _ _ _ _ (x 0).val (x 1).val = mix (uP P) W S (gP P) A (256 * t.val + (y 0).val) (y 1).val
    rw [h0, h1]
    exact (mix_right _ W S _ _ 3 _ _ x1_lt).symm
  · show gated _ _ _ _ (x 0).val (x 1).val = mix (uP P) W S (gP P) A (256 * t.val + (y 0).val) (y 1).val
    rw [h0, h1]
    exact (mix_right _ W S _ _ 2 _ _ x1_lt).symm
  · show gated _ _ _ _ (x 0).val (x 1).val = mix (uP P) W S (gP P) A (256 * t.val + (y 0).val) (y 1).val
    rw [h0, h1]
    exact (mix_right _ W S _ _ 1 _ _ x1_lt).symm
  · show gated _ _ _ _ (x 0).val (x 1).val = mix (uP P) W S (gP P) A (256 * t.val + (y 0).val) (y 1).val
    rw [h0, h1]
    exact (mix_right _ W S _ _ 0 _ _ x1_lt).symm

/-- What the kernel's array holds. -/
theorem array_eq : (dats m 0 c).arrAt 6 cfg0.N = up 2048 2048 (mix (uP P) W S (gP P) A) := by
  funext j
  have j0 : (j 0).val < 2048 := (j 0).isLt
  have j1 : (j 1).val < 2048 := (j 1).isLt
  have hN : (j 0).val / 256 < cfg0.N := lt_of_lt_of_eq (by omega) N_0.symm
  obtain ⟨t, ht⟩ : ∃ t : Fin cfg0.N, t.val = (j 0).val / 256 := ⟨⟨_, hN⟩, rfl⟩
  obtain ⟨y, hy⟩ : ∃ y : (⟨2, ![256, 2048]⟩ : Shape).Idx, (y 0).val = (j 0).val % 256 ∧ (y 1).val = (j 1).val :=
    ⟨ix2 ⟨_, Nat.mod_lt _ (by decide)⟩ ⟨_, j1⟩, rfl, rfl⟩
  obtain ⟨p0, p1⟩ := place6 t y
  have e0 : 256 * t.val + (y 0).val = (j 0).val := by omega
  have hj : ((cfg0.win 6).blk t).view.emb y = j := by
    funext d
    match d with
    | 0 => exact Fin.ext (p0.trans e0)
    | 1 => exact Fin.ext (p1.trans hy.2)
  have hr := congrFun ((blocks6 m c t (flush6 t)).trans (flushed6 m c t)) y
  rw [outs P A W S m c h0 h1 h2 h3] at hr
  have e : mix (uP P) W S (gP P) A (256 * t.val + (y 0).val) (y 1).val = mix (uP P) W S (gP P) A (j 0).val (j 1).val := by rw [e0, hy.2]
  exact ((congrArg _ hj).symm.trans hr).trans e

omit h0 h1 h2 h3

/-- The reference declares no semaphore, and its run leaves its arguments. -/
theorem frame_reference : Cert.quiescent_EvenMixReferenceIdeal := fun m ρ _ =>
  (θ_run (Cert.EvenMixReferenceIdeal.defs (F := Ideal)) _ _).mono (fun r h => ⟨fun c => (h c).2, sem_eq_zero_of_no_sems (by decide) r.2⟩)
    (Cert.EvenMixReferenceIdeal.Value.run (F := Ideal) m ρ)

/-- From memories that agree on the four arguments, the kernel and the reference end with the same array. -/
theorem algebraic : Cert.algebraic_EvenMixIdeal_EvenMixReferenceIdeal := by
  intro m g m' g' _ hagree
  refine ⟨fun c => (dats m 0 c).arrAt 6 cfg0.N, run_blocks m g,
    (θ_run Cert.EvenMixReferenceIdeal.defs _ _).mono (fun r h c => ?_) (Cert.EvenMixReferenceIdeal.Value.run (F := Ideal) m' g')⟩
  obtain ⟨e, a⟩ := h c
  obtain ⟨q0, q1, q2, q3⟩ := hagree c
  obtain ⟨P, hP⟩ := exists_up (by decide) (by decide) (m ((c.tc : Thread nD τ).loc main_arg0))
  obtain ⟨A, hA⟩ := exists_up (by decide) (by decide) (m ((c.tc : Thread nD τ).loc main_arg1))
  obtain ⟨W, hW⟩ := exists_wt (m ((c.tc : Thread nD τ).loc main_arg2))
  obtain ⟨S, hS⟩ := exists_row (by decide) (m ((c.tc : Thread nD τ).loc main_arg3))
  refine ⟨(e.trans (Cert.EvenMixReferenceIdeal.Read.val_main_v67_eq _ _)).trans ?_, a⟩
  rw [q0.trans hP, q1.trans hA, q2.trans hW, q3.trans hS, ref_eq]
  exact (array_eq P A W S m c hP hA hW hS).symm

end Cert.EvenMixProof
-- ==== Proof.lean ====
/- The kernels and their references: every program runs and leaves what it should, and each kernel, idealized, computes what its reference
   computes. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Dx
public import proofs.«01_k».proof.Proof.Gen.Dx.Skeleton
public import proofs.«01_k».proof.Proof.Gen.Dx.Launch
public import proofs.«01_k».proof.Proof.Gen.Dx.Points
public import proofs.«01_k».proof.Proof.Gen.Dx.Frame
public import proofs.«01_k».proof.Proof.Gen.DxIdeal
public import proofs.«01_k».proof.Proof.Gen.DxIdeal.Skeleton
public import proofs.«01_k».proof.Proof.Gen.DxIdeal.Launch
public import proofs.«01_k».proof.Proof.Gen.DxIdeal.Points
public import proofs.«01_k».proof.Proof.Gen.DxIdeal.Frame
public import proofs.«01_k».proof.Proof.Gen.DxReferenceIdeal
public import proofs.«01_k».proof.Proof.Gen.DxEven
public import proofs.«01_k».proof.Proof.Gen.DxEven.Skeleton
public import proofs.«01_k».proof.Proof.Gen.DxEven.Launch
public import proofs.«01_k».proof.Proof.Gen.DxEven.Points
public import proofs.«01_k».proof.Proof.Gen.DxEven.Frame
public import proofs.«01_k».proof.Proof.Gen.DxEvenIdeal
public import proofs.«01_k».proof.Proof.Gen.DxEvenIdeal.Skeleton
public import proofs.«01_k».proof.Proof.Gen.DxEvenIdeal.Launch
public import proofs.«01_k».proof.Proof.Gen.DxEvenIdeal.Points
public import proofs.«01_k».proof.Proof.Gen.DxEvenIdeal.Frame
public import proofs.«01_k».proof.Proof.Gen.DxEvenReferenceIdeal
public import proofs.«01_k».proof.Proof.Gen.DwOdd
public import proofs.«01_k».proof.Proof.Gen.DwOdd.Skeleton
public import proofs.«01_k».proof.Proof.Gen.DwOdd.Launch
public import proofs.«01_k».proof.Proof.Gen.DwOdd.Points
public import proofs.«01_k».proof.Proof.Gen.DwOdd.Frame
public import proofs.«01_k».proof.Proof.Gen.DwOddIdeal
public import proofs.«01_k».proof.Proof.Gen.DwOddIdeal.Skeleton
public import proofs.«01_k».proof.Proof.Gen.DwOddIdeal.Launch
public import proofs.«01_k».proof.Proof.Gen.DwOddIdeal.Points
public import proofs.«01_k».proof.Proof.Gen.DwOddIdeal.Frame
public import proofs.«01_k».proof.Proof.Gen.DwOddReferenceIdeal
public import proofs.«01_k».proof.Proof.Gen.DwEven
public import proofs.«01_k».proof.Proof.Gen.DwEven.Skeleton
public import proofs.«01_k».proof.Proof.Gen.DwEven.Launch
public import proofs.«01_k».proof.Proof.Gen.DwEven.Points
public import proofs.«01_k».proof.Proof.Gen.DwEven.Frame
public import proofs.«01_k».proof.Proof.Gen.DwEvenIdeal
public import proofs.«01_k».proof.Proof.Gen.DwEvenIdeal.Skeleton
public import proofs.«01_k».proof.Proof.Gen.DwEvenIdeal.Launch
public import proofs.«01_k».proof.Proof.Gen.DwEvenIdeal.Points
public import proofs.«01_k».proof.Proof.Gen.DwEvenIdeal.Frame
public import proofs.«01_k».proof.Proof.Gen.DwEvenReferenceIdeal
public import proofs.«01_k».proof.Proof.Gen.DwOut
public import proofs.«01_k».proof.Proof.Gen.DwOut.Skeleton
public import proofs.«01_k».proof.Proof.Gen.DwOut.Launch
public import proofs.«01_k».proof.Proof.Gen.DwOut.Points
public import proofs.«01_k».proof.Proof.Gen.DwOut.Frame
public import proofs.«01_k».proof.Proof.Gen.DwOutIdeal
public import proofs.«01_k».proof.Proof.Gen.DwOutIdeal.Skeleton
public import proofs.«01_k».proof.Proof.Gen.DwOutIdeal.Launch
public import proofs.«01_k».proof.Proof.Gen.DwOutIdeal.Points
public import proofs.«01_k».proof.Proof.Gen.DwOutIdeal.Frame
public import proofs.«01_k».proof.Proof.Gen.DwOutReferenceIdeal
public import proofs.«01_k».proof.Proof.Gen.Dy
public import proofs.«01_k».proof.Proof.Gen.Dy.Skeleton
public import proofs.«01_k».proof.Proof.Gen.Dy.Launch
public import proofs.«01_k».proof.Proof.Gen.Dy.Points
public import proofs.«01_k».proof.Proof.Gen.Dy.Frame
public import proofs.«01_k».proof.Proof.Gen.DyIdeal
public import proofs.«01_k».proof.Proof.Gen.DyIdeal.Skeleton
public import proofs.«01_k».proof.Proof.Gen.DyIdeal.Launch
public import proofs.«01_k».proof.Proof.Gen.DyIdeal.Points
public import proofs.«01_k».proof.Proof.Gen.DyIdeal.Frame
public import proofs.«01_k».proof.Proof.Gen.DyReferenceIdeal
public import proofs.«01_k».proof.Proof.Gen.InOdd
public import proofs.«01_k».proof.Proof.Gen.InOdd.Skeleton
public import proofs.«01_k».proof.Proof.Gen.InOdd.Launch
public import proofs.«01_k».proof.Proof.Gen.InOdd.Points
public import proofs.«01_k».proof.Proof.Gen.InOdd.Frame
public import proofs.«01_k».proof.Proof.Gen.InOddIdeal
public import proofs.«01_k».proof.Proof.Gen.InOddIdeal.Skeleton
public import proofs.«01_k».proof.Proof.Gen.InOddIdeal.Launch
public import proofs.«01_k».proof.Proof.Gen.InOddIdeal.Points
public import proofs.«01_k».proof.Proof.Gen.InOddIdeal.Frame
public import proofs.«01_k».proof.Proof.Gen.InOddReferenceIdeal
public import proofs.«01_k».proof.Proof.Gen.InEven
public import proofs.«01_k».proof.Proof.Gen.InEven.Skeleton
public import proofs.«01_k».proof.Proof.Gen.InEven.Launch
public import proofs.«01_k».proof.Proof.Gen.InEven.Points
public import proofs.«01_k».proof.Proof.Gen.InEven.Frame
public import proofs.«01_k».proof.Proof.Gen.InEvenIdeal
public import proofs.«01_k».proof.Proof.Gen.InEvenIdeal.Skeleton
public import proofs.«01_k».proof.Proof.Gen.InEvenIdeal.Launch
public import proofs.«01_k».proof.Proof.Gen.InEvenIdeal.Points
public import proofs.«01_k».proof.Proof.Gen.InEvenIdeal.Frame
public import proofs.«01_k».proof.Proof.Gen.InEvenReferenceIdeal
public import proofs.«01_k».proof.Proof.Gen.OutEven
public import proofs.«01_k».proof.Proof.Gen.OutEven.Skeleton
public import proofs.«01_k».proof.Proof.Gen.OutEven.Launch
public import proofs.«01_k».proof.Proof.Gen.OutEven.Points
public import proofs.«01_k».proof.Proof.Gen.OutEven.Frame
public import proofs.«01_k».proof.Proof.Gen.OutEvenIdeal
public import proofs.«01_k».proof.Proof.Gen.OutEvenIdeal.Skeleton
public import proofs.«01_k».proof.Proof.Gen.OutEvenIdeal.Launch
public import proofs.«01_k».proof.Proof.Gen.OutEvenIdeal.Points
public import proofs.«01_k».proof.Proof.Gen.OutEvenIdeal.Frame
public import proofs.«01_k».proof.Proof.Gen.OutEvenReferenceIdeal
public import proofs.«01_k».proof.Proof.Gen.OutOdd
public import proofs.«01_k».proof.Proof.Gen.OutOdd.Skeleton
public import proofs.«01_k».proof.Proof.Gen.OutOdd.Launch
public import proofs.«01_k».proof.Proof.Gen.OutOdd.Points
public import proofs.«01_k».proof.Proof.Gen.OutOdd.Frame
public import proofs.«01_k».proof.Proof.Gen.OutOddIdeal
public import proofs.«01_k».proof.Proof.Gen.OutOddIdeal.Skeleton
public import proofs.«01_k».proof.Proof.Gen.OutOddIdeal.Launch
public import proofs.«01_k».proof.Proof.Gen.OutOddIdeal.Points
public import proofs.«01_k».proof.Proof.Gen.OutOddIdeal.Frame
public import proofs.«01_k».proof.Proof.Gen.OutOddReferenceIdeal
public import proofs.«01_k».proof.Proof.Gen.AdamInEven
public import proofs.«01_k».proof.Proof.Gen.AdamInEven.Skeleton
public import proofs.«01_k».proof.Proof.Gen.AdamInEven.Launch
public import proofs.«01_k».proof.Proof.Gen.AdamInEven.Points
public import proofs.«01_k».proof.Proof.Gen.AdamInEven.Frame
public import proofs.«01_k».proof.Proof.Gen.AdamInEvenIdeal
public import proofs.«01_k».proof.Proof.Gen.AdamInEvenIdeal.Skeleton
public import proofs.«01_k».proof.Proof.Gen.AdamInEvenIdeal.Launch
public import proofs.«01_k».proof.Proof.Gen.AdamInEvenIdeal.Points
public import proofs.«01_k».proof.Proof.Gen.AdamInEvenIdeal.Frame
public import proofs.«01_k».proof.Proof.Gen.AdamInEvenReferenceIdeal
public import proofs.«01_k».proof.Proof.Gen.AdamPool
public import proofs.«01_k».proof.Proof.Gen.AdamPool.Skeleton
public import proofs.«01_k».proof.Proof.Gen.AdamPool.Launch
public import proofs.«01_k».proof.Proof.Gen.AdamPool.Points
public import proofs.«01_k».proof.Proof.Gen.AdamPool.Frame
public import proofs.«01_k».proof.Proof.Gen.AdamPoolIdeal
public import proofs.«01_k».proof.Proof.Gen.AdamPoolIdeal.Skeleton
public import proofs.«01_k».proof.Proof.Gen.AdamPoolIdeal.Launch
public import proofs.«01_k».proof.Proof.Gen.AdamPoolIdeal.Points
public import proofs.«01_k».proof.Proof.Gen.AdamPoolIdeal.Frame
public import proofs.«01_k».proof.Proof.Gen.AdamPoolReferenceIdeal
public import proofs.«01_k».proof.Proof.Gen.AdamPoolScale
public import proofs.«01_k».proof.Proof.Gen.AdamPoolScale.Skeleton
public import proofs.«01_k».proof.Proof.Gen.AdamPoolScale.Launch
public import proofs.«01_k».proof.Proof.Gen.AdamPoolScale.Points
public import proofs.«01_k».proof.Proof.Gen.AdamPoolScale.Frame
public import proofs.«01_k».proof.Proof.Gen.AdamPoolScaleIdeal
public import proofs.«01_k».proof.Proof.Gen.AdamPoolScaleIdeal.Skeleton
public import proofs.«01_k».proof.Proof.Gen.AdamPoolScaleIdeal.Launch
public import proofs.«01_k».proof.Proof.Gen.AdamPoolScaleIdeal.Points
public import proofs.«01_k».proof.Proof.Gen.AdamPoolScaleIdeal.Frame
public import proofs.«01_k».proof.Proof.Gen.AdamPoolScaleReferenceIdeal
public import proofs.«01_k».proof.Proof.Gen.AdamOut
public import proofs.«01_k».proof.Proof.Gen.AdamOut.Skeleton
public import proofs.«01_k».proof.Proof.Gen.AdamOut.Launch
public import proofs.«01_k».proof.Proof.Gen.AdamOut.Points
public import proofs.«01_k».proof.Proof.Gen.AdamOut.Frame
public import proofs.«01_k».proof.Proof.Gen.AdamOutIdeal
public import proofs.«01_k».proof.Proof.Gen.AdamOutIdeal.Skeleton
public import proofs.«01_k».proof.Proof.Gen.AdamOutIdeal.Launch
public import proofs.«01_k».proof.Proof.Gen.AdamOutIdeal.Points
public import proofs.«01_k».proof.Proof.Gen.AdamOutIdeal.Frame
public import proofs.«01_k».proof.Proof.Gen.AdamOutReferenceIdeal
public import proofs.«01_k».proof.Proof.Gen.AdamNorm
public import proofs.«01_k».proof.Proof.Gen.AdamNorm.Skeleton
public import proofs.«01_k».proof.Proof.Gen.AdamNorm.Launch
public import proofs.«01_k».proof.Proof.Gen.AdamNorm.Points
public import proofs.«01_k».proof.Proof.Gen.AdamNorm.Frame
public import proofs.«01_k».proof.Proof.Gen.AdamNormIdeal
public import proofs.«01_k».proof.Proof.Gen.AdamNormIdeal.Skeleton
public import proofs.«01_k».proof.Proof.Gen.AdamNormIdeal.Launch
public import proofs.«01_k».proof.Proof.Gen.AdamNormIdeal.Points
public import proofs.«01_k».proof.Proof.Gen.AdamNormIdeal.Frame
public import proofs.«01_k».proof.Proof.Gen.AdamNormReferenceIdeal
public import proofs.«01_k».proof.Proof.Gen.AdamNormOdd
public import proofs.«01_k».proof.Proof.Gen.AdamNormOdd.Skeleton
public import proofs.«01_k».proof.Proof.Gen.AdamNormOdd.Launch
public import proofs.«01_k».proof.Proof.Gen.AdamNormOdd.Points
public import proofs.«01_k».proof.Proof.Gen.AdamNormOdd.Frame
public import proofs.«01_k».proof.Proof.Gen.AdamNormOddIdeal
public import proofs.«01_k».proof.Proof.Gen.AdamNormOddIdeal.Skeleton
public import proofs.«01_k».proof.Proof.Gen.AdamNormOddIdeal.Launch
public import proofs.«01_k».proof.Proof.Gen.AdamNormOddIdeal.Points
public import proofs.«01_k».proof.Proof.Gen.AdamNormOddIdeal.Frame
public import proofs.«01_k».proof.Proof.Gen.AdamNormOddReferenceIdeal
public import proofs.«01_k».proof.Proof.Gen.AdamInOdd
public import proofs.«01_k».proof.Proof.Gen.AdamInOdd.Skeleton
public import proofs.«01_k».proof.Proof.Gen.AdamInOdd.Launch
public import proofs.«01_k».proof.Proof.Gen.AdamInOdd.Points
public import proofs.«01_k».proof.Proof.Gen.AdamInOdd.Frame
public import proofs.«01_k».proof.Proof.Gen.AdamInOddIdeal
public import proofs.«01_k».proof.Proof.Gen.AdamInOddIdeal.Skeleton
public import proofs.«01_k».proof.Proof.Gen.AdamInOddIdeal.Launch
public import proofs.«01_k».proof.Proof.Gen.AdamInOddIdeal.Points
public import proofs.«01_k».proof.Proof.Gen.AdamInOddIdeal.Frame
public import proofs.«01_k».proof.Proof.Gen.AdamInOddReferenceIdeal
public import proofs.«01_k».proof.Proof.Gen.AdamShort
public import proofs.«01_k».proof.Proof.Gen.AdamShort.Skeleton
public import proofs.«01_k».proof.Proof.Gen.AdamShort.Launch
public import proofs.«01_k».proof.Proof.Gen.AdamShort.Points
public import proofs.«01_k».proof.Proof.Gen.AdamShort.Frame
public import proofs.«01_k».proof.Proof.Gen.AdamShortIdeal
public import proofs.«01_k».proof.Proof.Gen.AdamShortIdeal.Skeleton
public import proofs.«01_k».proof.Proof.Gen.AdamShortIdeal.Launch
public import proofs.«01_k».proof.Proof.Gen.AdamShortIdeal.Points
public import proofs.«01_k».proof.Proof.Gen.AdamShortIdeal.Frame
public import proofs.«01_k».proof.Proof.Gen.AdamShortReferenceIdeal
public import proofs.«01_k».proof.Proof.Gen.AdamLong
public import proofs.«01_k».proof.Proof.Gen.AdamLong.Skeleton
public import proofs.«01_k».proof.Proof.Gen.AdamLong.Launch
public import proofs.«01_k».proof.Proof.Gen.AdamLong.Points
public import proofs.«01_k».proof.Proof.Gen.AdamLong.Frame
public import proofs.«01_k».proof.Proof.Gen.AdamLongIdeal
public import proofs.«01_k».proof.Proof.Gen.AdamLongIdeal.Skeleton
public import proofs.«01_k».proof.Proof.Gen.AdamLongIdeal.Launch
public import proofs.«01_k».proof.Proof.Gen.AdamLongIdeal.Points
public import proofs.«01_k».proof.Proof.Gen.AdamLongIdeal.Frame
public import proofs.«01_k».proof.Proof.Gen.AdamLongReferenceIdeal
public import proofs.«01_k».proof.Proof.Gen.AdamBias
public import proofs.«01_k».proof.Proof.Gen.AdamBias.Skeleton
public import proofs.«01_k».proof.Proof.Gen.AdamBias.Launch
public import proofs.«01_k».proof.Proof.Gen.AdamBias.Points
public import proofs.«01_k».proof.Proof.Gen.AdamBias.Frame
public import proofs.«01_k».proof.Proof.Gen.AdamBiasIdeal
public import proofs.«01_k».proof.Proof.Gen.AdamBiasIdeal.Skeleton
public import proofs.«01_k».proof.Proof.Gen.AdamBiasIdeal.Launch
public import proofs.«01_k».proof.Proof.Gen.AdamBiasIdeal.Points
public import proofs.«01_k».proof.Proof.Gen.AdamBiasIdeal.Frame
public import proofs.«01_k».proof.Proof.Gen.AdamBiasReferenceIdeal
public import proofs.«01_k».proof.Proof.Gen.Rms
public import proofs.«01_k».proof.Proof.Gen.Rms.Skeleton
public import proofs.«01_k».proof.Proof.Gen.Rms.Launch
public import proofs.«01_k».proof.Proof.Gen.Rms.Points
public import proofs.«01_k».proof.Proof.Gen.Rms.Frame
public import proofs.«01_k».proof.Proof.Gen.RmsIdeal
public import proofs.«01_k».proof.Proof.Gen.RmsIdeal.Skeleton
public import proofs.«01_k».proof.Proof.Gen.RmsIdeal.Launch
public import proofs.«01_k».proof.Proof.Gen.RmsIdeal.Points
public import proofs.«01_k».proof.Proof.Gen.RmsIdeal.Frame
public import proofs.«01_k».proof.Proof.Gen.RmsReferenceIdeal
public import proofs.«01_k».proof.Proof.Gen.OddRows
public import proofs.«01_k».proof.Proof.Gen.OddRows.Skeleton
public import proofs.«01_k».proof.Proof.Gen.OddRows.Launch
public import proofs.«01_k».proof.Proof.Gen.OddRows.Points
public import proofs.«01_k».proof.Proof.Gen.OddRows.Frame
public import proofs.«01_k».proof.Proof.Gen.OddRowsIdeal
public import proofs.«01_k».proof.Proof.Gen.OddRowsIdeal.Skeleton
public import proofs.«01_k».proof.Proof.Gen.OddRowsIdeal.Launch
public import proofs.«01_k».proof.Proof.Gen.OddRowsIdeal.Points
public import proofs.«01_k».proof.Proof.Gen.OddRowsIdeal.Frame
public import proofs.«01_k».proof.Proof.Gen.OddRowsReferenceIdeal
public import proofs.«01_k».proof.Proof.Gen.EvenMix
public import proofs.«01_k».proof.Proof.Gen.EvenMix.Skeleton
public import proofs.«01_k».proof.Proof.Gen.EvenMix.Launch
public import proofs.«01_k».proof.Proof.Gen.EvenMix.Points
public import proofs.«01_k».proof.Proof.Gen.EvenMix.Frame
public import proofs.«01_k».proof.Proof.Gen.EvenMixIdeal
public import proofs.«01_k».proof.Proof.Gen.EvenMixIdeal.Skeleton
public import proofs.«01_k».proof.Proof.Gen.EvenMixIdeal.Launch
public import proofs.«01_k».proof.Proof.Gen.EvenMixIdeal.Points
public import proofs.«01_k».proof.Proof.Gen.EvenMixIdeal.Frame
public import proofs.«01_k».proof.Proof.Gen.EvenMixReferenceIdeal
public import proofs.«01_k».proof.Proof.Gen.Pre_finite_rows
public import proofs.«01_k».proof.Proof.Gen.Att
public import proofs.«01_k».proof.Proof.Gen.Att.Skeleton
public import proofs.«01_k».proof.Proof.Gen.Att.Loops
public import proofs.«01_k».proof.Proof.Gen.Att.Launch
public import proofs.«01_k».proof.Proof.Gen.Att.Points
public import proofs.«01_k».proof.Proof.Gen.Att.Frame
public import proofs.«01_k».proof.Proof.Gen.AttIdeal
public import proofs.«01_k».proof.Proof.Gen.AttIdeal.Skeleton
public import proofs.«01_k».proof.Proof.Gen.AttIdeal.Loops
public import proofs.«01_k».proof.Proof.Gen.AttIdeal.Launch
public import proofs.«01_k».proof.Proof.Gen.AttIdeal.Points
public import proofs.«01_k».proof.Proof.Gen.AttIdeal.Frame
public import proofs.«01_k».proof.Proof.Gen.AttReferenceIdeal
public import proofs.«01_k».proof.Proof.Gen.Pre_finite
public import proofs.«01_k».proof.Proof.Gen.Pre_finite_qk
public import proofs.«01_k».proof.Proof.Gen.DxEvenIdeal.Value
public import proofs.«01_k».proof.Proof.Gen.DxEvenReferenceIdeal.Run
public import proofs.«01_k».proof.Proof.Gen.DxEvenReferenceIdeal.Read
public import proofs.«01_k».proof.Proof.Gen.DwOddIdeal.Value
public import proofs.«01_k».proof.Proof.Gen.DwOddReferenceIdeal.Run
public import proofs.«01_k».proof.Proof.Gen.DwOddReferenceIdeal.Read
public import proofs.«01_k».proof.Proof.Gen.DwEvenIdeal.Value
public import proofs.«01_k».proof.Proof.Gen.DwEvenReferenceIdeal.Run
public import proofs.«01_k».proof.Proof.Gen.DwEvenReferenceIdeal.Read
public import proofs.«01_k».proof.Proof.Gen.DwOutIdeal.Value
public import proofs.«01_k».proof.Proof.Gen.DwOutReferenceIdeal.Run
public import proofs.«01_k».proof.Proof.Gen.DwOutReferenceIdeal.Read
public import proofs.«01_k».proof.Proof.Gen.DyIdeal.Value
public import proofs.«01_k».proof.Proof.Gen.DyReferenceIdeal.Run
public import proofs.«01_k».proof.Proof.Gen.DyReferenceIdeal.Read
public import proofs.«01_k».proof.Proof.Gen.InOddIdeal.Value
public import proofs.«01_k».proof.Proof.Gen.InOddReferenceIdeal.Run
public import proofs.«01_k».proof.Proof.Gen.InOddReferenceIdeal.Read
public import proofs.«01_k».proof.Proof.Gen.InEvenIdeal.Value
public import proofs.«01_k».proof.Proof.Gen.InEvenReferenceIdeal.Run
public import proofs.«01_k».proof.Proof.Gen.InEvenReferenceIdeal.Read
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.DxIdeal.Value
public import proofs.«01_k».proof.Proof.Gen.DxReferenceIdeal.Run
public import proofs.«01_k».proof.Proof.Gen.DxReferenceIdeal.Read
public import proofs.«01_k».proof.Proof.Gen.OutEvenIdeal.Value
public import proofs.«01_k».proof.Proof.Gen.OutEvenReferenceIdeal.Run
public import proofs.«01_k».proof.Proof.Gen.OutEvenReferenceIdeal.Read
public import proofs.«01_k».proof.Proof.Gen.OutOddIdeal.Value
public import proofs.«01_k».proof.Proof.Gen.OutOddReferenceIdeal.Run
public import proofs.«01_k».proof.Proof.Gen.OutOddReferenceIdeal.Read
public import proofs.«01_k».proof.Proof.Gen.AdamInEvenIdeal.Value
public import proofs.«01_k».proof.Proof.Gen.AdamInEvenReferenceIdeal.Run
public import proofs.«01_k».proof.Proof.Gen.AdamInEvenReferenceIdeal.Read
public import proofs.«01_k».proof.Proof.Gen.AdamPoolIdeal.Value
public import proofs.«01_k».proof.Proof.Gen.AdamPoolReferenceIdeal.Run
public import proofs.«01_k».proof.Proof.Gen.AdamPoolReferenceIdeal.Read
public import proofs.«01_k».proof.Proof.Gen.AdamPoolScaleIdeal.Value
public import proofs.«01_k».proof.Proof.Gen.AdamPoolScaleReferenceIdeal.Run
public import proofs.«01_k».proof.Proof.Gen.AdamPoolScaleReferenceIdeal.Read
public import proofs.«01_k».proof.Proof.Gen.AdamOutIdeal.Value
public import proofs.«01_k».proof.Proof.Gen.AdamOutReferenceIdeal.Run
public import proofs.«01_k».proof.Proof.Gen.AdamOutReferenceIdeal.Read
public import proofs.«01_k».proof.Proof.Gen.AdamNormIdeal.Value
public import proofs.«01_k».proof.Proof.Gen.AdamNormReferenceIdeal.Run
public import proofs.«01_k».proof.Proof.Gen.AdamNormReferenceIdeal.Read
public import proofs.«01_k».proof.Proof.Gen.AdamNormOddIdeal.Value
public import proofs.«01_k».proof.Proof.Gen.AdamNormOddReferenceIdeal.Run
public import proofs.«01_k».proof.Proof.Gen.AdamNormOddReferenceIdeal.Read
public import proofs.«01_k».proof.Proof.Gen.AdamInOddIdeal.Value
public import proofs.«01_k».proof.Proof.Gen.AdamInOddReferenceIdeal.Run
public import proofs.«01_k».proof.Proof.Gen.AdamInOddReferenceIdeal.Read
public import proofs.«01_k».proof.Proof.Gen.AdamShortIdeal.Value
public import proofs.«01_k».proof.Proof.Gen.AdamShortReferenceIdeal.Run
public import proofs.«01_k».proof.Proof.Gen.AdamShortReferenceIdeal.Read
public import proofs.«01_k».proof.Proof.Gen.AdamLongIdeal.Value
public import proofs.«01_k».proof.Proof.Gen.AdamLongReferenceIdeal.Run
public import proofs.«01_k».proof.Proof.Gen.AdamLongReferenceIdeal.Read
public import proofs.«01_k».proof.Proof.Gen.AdamBiasIdeal.Value
public import proofs.«01_k».proof.Proof.Gen.AdamBiasReferenceIdeal.Run
public import proofs.«01_k».proof.Proof.Gen.AdamBiasReferenceIdeal.Read
public import proofs.«01_k».proof.Proof.Gen.RmsIdeal.Value
public import proofs.«01_k».proof.Proof.Gen.RmsReferenceIdeal.Run
public import proofs.«01_k».proof.Proof.Gen.RmsReferenceIdeal.Read
public import proofs.«01_k».proof.Proof.Gen.OddRowsIdeal.Value
public import proofs.«01_k».proof.Proof.Gen.OddRowsReferenceIdeal.Run
public import proofs.«01_k».proof.Proof.Gen.OddRowsReferenceIdeal.Read
public import proofs.«01_k».proof.Proof.Gen.EvenMixIdeal.Value
public import proofs.«01_k».proof.Proof.Gen.EvenMixReferenceIdeal.Run
public import proofs.«01_k».proof.Proof.Gen.EvenMixReferenceIdeal.Read
public import proofs.«01_k».proof.Proof.Gen.AttIdeal.Value
public import proofs.«01_k».proof.Proof.Gen.AttReferenceIdeal.Run
public import proofs.«01_k».proof.Proof.Gen.AttReferenceIdeal.Read
public import proofs.«01_k».proof.Proof.Equation
public import proofs.«01_k».proof.Proof.DxEquation
public import proofs.«01_k».proof.Proof.DxEvenEquation
public import proofs.«01_k».proof.Proof.DwOdd
public import proofs.«01_k».proof.Proof.DwEven
public import proofs.«01_k».proof.Proof.DwOut
public import proofs.«01_k».proof.Proof.Dy
public import proofs.«01_k».proof.Proof.InOdd
public import proofs.«01_k».proof.Proof.InEven
public import proofs.«01_k».proof.Proof.OutEven
public import proofs.«01_k».proof.Proof.OutOdd
public import proofs.«01_k».proof.Proof.Adam
public import proofs.«01_k».proof.Proof.Att
public import proofs.«01_k».proof.Proof.Rms
public import proofs.«01_k».proof.Proof.OddRows
public import proofs.«01_k».proof.Proof.EvenMix
public import Idealize.ShloMosaic.Adequacy
public import Idealize.ShloMosaic.Init

@[expose] public section

noncomputable section

namespace Cert.Proof

open Idealize.ShloMosaic Idealize.SL.Sem

/-- From memories that agree on the two arguments, the backward call and the derivative of the plain attention end with the
same three arrays: the gradients at the queries, the keys and the values. -/
theorem algebraic : Cert.algebraic_KernelIdeal_ReferenceIdeal_pre_finite := by
  intro m g m' g' hpre hagree
  refine ⟨fun c => Cert.KernelIdeal.Value.G5 m c, fun c => Cert.KernelIdeal.Value.G6 m c, fun c => Cert.KernelIdeal.Value.G7 m c,
    Cert.KernelIdeal.Value.run m g, (θ_run Cert.ReferenceIdeal.defs _ _).mono (fun r h c => ?_) (Cert.ReferenceIdeal.Value.run (F := Ideal) m' g')⟩
  obtain ⟨e0, e1, e2, a0, a1⟩ := h c
  obtain ⟨r0, r1, r2⟩ := Cert.Sba.results m c _ _ (hagree c).1.symm (hagree c).2.symm
    (by rw [(hagree c).1, (hagree c).2]; exact hpre c)
  exact ⟨(e0.trans (Cert.ReferenceIdeal.Read.val_main_v52_eq m' c)).trans r0.symm,
    (e1.trans (Cert.ReferenceIdeal.Read.val_main_v53_eq m' c)).trans r1.symm,
    (e2.trans (Cert.ReferenceIdeal.Read.val_main_v54_eq m' c)).trans r2.symm, a0, a1⟩

/-- From memories that agree on the seven arguments, the backward call of the odd layer's input projection and the derivatives of the
product and of the two normalisations end with the same four arrays. -/
theorem algebraic_dx : Cert.algebraic_DxIdeal_DxReferenceIdeal := by
  intro m g m' g' hpre hagree
  refine ⟨fun c => Cert.DxIdeal.Value.G7 m c, fun c => Cert.DxIdeal.Value.G8 m c, fun c => Cert.DxIdeal.Value.G9 m c, fun c => Cert.DxIdeal.Value.G10 m c,
    Cert.DxIdeal.Value.run m g, (θ_run Cert.DxReferenceIdeal.defs _ _).mono (fun r h c => ?_) (Cert.DxReferenceIdeal.Value.run (F := Ideal) m' g')⟩
  obtain ⟨e0, e1, e2, e3, a⟩ := h c
  obtain ⟨q0, q1, q2, q3, q4, q5, q6⟩ := hagree c
  obtain ⟨r0, r1, r2, r3⟩ := Cert.DxOdd.results m c _ _ _ _ _ _ _ q0.symm q1.symm q2.symm q3.symm q4.symm q5.symm q6.symm
  exact ⟨(e0.trans (Cert.DxReferenceIdeal.Read.val_main_v40_eq m' c)).trans r0.symm,
    (e1.trans (Cert.DxReferenceIdeal.Read.val_main_v23_eq _ _ _)).trans r1.symm,
    (e2.trans (Cert.DxReferenceIdeal.Read.val_main_v75_eq m' c)).trans r2.symm,
    (e3.trans (Cert.DxReferenceIdeal.Read.val_main_v58_eq m' c)).trans r3.symm, a⟩

/-- Everything the certificate claims. -/
theorem claim : Cert.Claim := ⟨Cert.Kernel.Gen.facts, Cert.KernelIdeal.Gen.facts, Cert.ReferenceIdeal.Gen.facts,
  Cert.Dx.Gen.facts, Cert.DxIdeal.Gen.facts, Cert.DxReferenceIdeal.Gen.facts,
  Cert.DxEven.Gen.facts, Cert.DxEvenIdeal.Gen.facts, Cert.DxEvenReferenceIdeal.Gen.facts,
  Cert.DwOdd.Gen.facts, Cert.DwOddIdeal.Gen.facts, Cert.DwOddReferenceIdeal.Gen.facts,
  Cert.DwEven.Gen.facts, Cert.DwEvenIdeal.Gen.facts, Cert.DwEvenReferenceIdeal.Gen.facts,
  Cert.DwOut.Gen.facts, Cert.DwOutIdeal.Gen.facts, Cert.DwOutReferenceIdeal.Gen.facts,
  Cert.Dy.Gen.facts, Cert.DyIdeal.Gen.facts, Cert.DyReferenceIdeal.Gen.facts,
  Cert.InOdd.Gen.facts, Cert.InOddIdeal.Gen.facts, Cert.InOddReferenceIdeal.Gen.facts,
  Cert.InEven.Gen.facts, Cert.InEvenIdeal.Gen.facts, Cert.InEvenReferenceIdeal.Gen.facts,
  Cert.OutEven.Gen.facts, Cert.OutEvenIdeal.Gen.facts, Cert.OutEvenReferenceIdeal.Gen.facts,
  Cert.OutOdd.Gen.facts, Cert.OutOddIdeal.Gen.facts, Cert.OutOddReferenceIdeal.Gen.facts,
  Cert.AdamInEven.Gen.facts, Cert.AdamInEvenIdeal.Gen.facts, Cert.AdamInEvenReferenceIdeal.Gen.facts,
  Cert.AdamPool.Gen.facts, Cert.AdamPoolIdeal.Gen.facts, Cert.AdamPoolReferenceIdeal.Gen.facts,
  Cert.AdamPoolScale.Gen.facts, Cert.AdamPoolScaleIdeal.Gen.facts, Cert.AdamPoolScaleReferenceIdeal.Gen.facts,
  Cert.AdamOut.Gen.facts, Cert.AdamOutIdeal.Gen.facts, Cert.AdamOutReferenceIdeal.Gen.facts,
  Cert.AdamNorm.Gen.facts, Cert.AdamNormIdeal.Gen.facts, Cert.AdamNormReferenceIdeal.Gen.facts,
  Cert.AdamNormOdd.Gen.facts, Cert.AdamNormOddIdeal.Gen.facts, Cert.AdamNormOddReferenceIdeal.Gen.facts,
  Cert.AdamInOdd.Gen.facts, Cert.AdamInOddIdeal.Gen.facts, Cert.AdamInOddReferenceIdeal.Gen.facts,
  Cert.AdamShort.Gen.facts, Cert.AdamShortIdeal.Gen.facts, Cert.AdamShortReferenceIdeal.Gen.facts,
  Cert.AdamLong.Gen.facts, Cert.AdamLongIdeal.Gen.facts, Cert.AdamLongReferenceIdeal.Gen.facts,
  Cert.AdamBias.Gen.facts, Cert.AdamBiasIdeal.Gen.facts, Cert.AdamBiasReferenceIdeal.Gen.facts,
  Cert.Att.Gen.facts, Cert.AttIdeal.Gen.facts, Cert.AttReferenceIdeal.Gen.facts,
  Cert.Rms.Gen.facts, Cert.RmsIdeal.Gen.facts, Cert.RmsReferenceIdeal.Gen.facts,
  Cert.OddRows.Gen.facts, Cert.OddRowsIdeal.Gen.facts, Cert.OddRowsReferenceIdeal.Gen.facts,
  Cert.EvenMix.Gen.facts, Cert.EvenMixIdeal.Gen.facts, Cert.EvenMixReferenceIdeal.Gen.facts,
  Cert.Pre_finite.Gen.facts, Cert.Pre_finite_qk.Gen.facts, Cert.Pre_finite_rows.Gen.facts,
  fun m ρ _ => Cert.Kernel.Gen.frame m ρ, fun m ρ _ => Cert.KernelIdeal.Gen.frame m ρ, fun m ρ _ => Cert.KernelIdeal.Gen.frame m ρ,
  fun m ρ _ => Cert.Sba.frame_reference m ρ, fun m ρ _ => Cert.Sba.frame_reference m ρ,
  fun m ρ _ => Cert.Dx.Gen.frame m ρ, fun m ρ _ => Cert.DxIdeal.Gen.frame m ρ, fun m ρ _ => Cert.DxOdd.frame_reference m ρ,
  fun m ρ _ => Cert.DxEven.Gen.frame m ρ, fun m ρ _ => Cert.DxEvenIdeal.Gen.frame m ρ, fun m ρ _ => Cert.DxEvenProof.frame_reference m ρ,
  fun m ρ _ => Cert.DwOdd.Gen.frame m ρ, fun m ρ _ => Cert.DwOddIdeal.Gen.frame m ρ, fun m ρ _ => Cert.DwOddProof.frame_reference m ρ,
  fun m ρ _ => Cert.DwEven.Gen.frame m ρ, fun m ρ _ => Cert.DwEvenIdeal.Gen.frame m ρ, fun m ρ _ => Cert.DwEvenProof.frame_reference m ρ,
  fun m ρ _ => Cert.DwOut.Gen.frame m ρ, fun m ρ _ => Cert.DwOutIdeal.Gen.frame m ρ, fun m ρ _ => Cert.DwOutProof.frame_reference m ρ,
  fun m ρ _ => Cert.Dy.Gen.frame m ρ, fun m ρ _ => Cert.DyIdeal.Gen.frame m ρ, fun m ρ _ => Cert.DyProof.frame_reference m ρ,
  fun m ρ _ => Cert.InOdd.Gen.frame m ρ, fun m ρ _ => Cert.InOddIdeal.Gen.frame m ρ, fun m ρ _ => Cert.InOddProof.frame_reference m ρ,
  fun m ρ _ => Cert.InEven.Gen.frame m ρ, fun m ρ _ => Cert.InEvenIdeal.Gen.frame m ρ, fun m ρ _ => Cert.InEvenProof.frame_reference m ρ,
  fun m ρ _ => Cert.OutEven.Gen.frame m ρ, fun m ρ _ => Cert.OutEvenIdeal.Gen.frame m ρ,
  fun m ρ _ => (θ_run Cert.OutEvenReferenceIdeal.defs _ _).mono (fun r h => ⟨fun c => (h c).2.2.2, sem_eq_zero_of_no_sems (by decide) r.2⟩)
    (Cert.OutEvenReferenceIdeal.Value.run (F := Ideal) m ρ),
  fun m ρ _ => Cert.OutOdd.Gen.frame m ρ, fun m ρ _ => Cert.OutOddIdeal.Gen.frame m ρ,
  fun m ρ _ => (θ_run Cert.OutOddReferenceIdeal.defs _ _).mono (fun r h => ⟨fun c => (h c).2.2.2.2, sem_eq_zero_of_no_sems (by decide) r.2⟩)
    (Cert.OutOddReferenceIdeal.Value.run (F := Ideal) m ρ),
  fun m ρ _ => Cert.AdamInEven.Gen.frame m ρ, fun m ρ _ => Cert.AdamInEvenIdeal.Gen.frame m ρ,
  fun m ρ _ => (θ_run Cert.AdamInEvenReferenceIdeal.defs _ _).mono (fun r h => ⟨fun c => (h c).2.2.2, sem_eq_zero_of_no_sems (by decide) r.2⟩)
    (Cert.AdamInEvenReferenceIdeal.Value.run (F := Ideal) m ρ),
  fun m ρ _ => Cert.AdamPool.Gen.frame m ρ, fun m ρ _ => Cert.AdamPoolIdeal.Gen.frame m ρ,
  fun m ρ _ => (θ_run Cert.AdamPoolReferenceIdeal.defs _ _).mono (fun r h => ⟨fun c => (h c).2.2.2, sem_eq_zero_of_no_sems (by decide) r.2⟩)
    (Cert.AdamPoolReferenceIdeal.Value.run (F := Ideal) m ρ),
  fun m ρ _ => Cert.AdamPoolScale.Gen.frame m ρ, fun m ρ _ => Cert.AdamPoolScaleIdeal.Gen.frame m ρ,
  fun m ρ _ => (θ_run Cert.AdamPoolScaleReferenceIdeal.defs _ _).mono (fun r h => ⟨fun c => (h c).2.2.2, sem_eq_zero_of_no_sems (by decide) r.2⟩)
    (Cert.AdamPoolScaleReferenceIdeal.Value.run (F := Ideal) m ρ),
  fun m ρ _ => Cert.AdamOut.Gen.frame m ρ, fun m ρ _ => Cert.AdamOutIdeal.Gen.frame m ρ,
  fun m ρ _ => (θ_run Cert.AdamOutReferenceIdeal.defs _ _).mono (fun r h => ⟨fun c => (h c).2.2.2, sem_eq_zero_of_no_sems (by decide) r.2⟩)
    (Cert.AdamOutReferenceIdeal.Value.run (F := Ideal) m ρ),
  fun m ρ _ => Cert.AdamNorm.Gen.frame m ρ, fun m ρ _ => Cert.AdamNormIdeal.Gen.frame m ρ,
  fun m ρ _ => (θ_run Cert.AdamNormReferenceIdeal.defs _ _).mono (fun r h => ⟨fun c => (h c).2.2.2, sem_eq_zero_of_no_sems (by decide) r.2⟩)
    (Cert.AdamNormReferenceIdeal.Value.run (F := Ideal) m ρ),
  fun m ρ _ => Cert.AdamNormOdd.Gen.frame m ρ, fun m ρ _ => Cert.AdamNormOddIdeal.Gen.frame m ρ,
  fun m ρ _ => (θ_run Cert.AdamNormOddReferenceIdeal.defs _ _).mono (fun r h => ⟨fun c => (h c).2.2.2, sem_eq_zero_of_no_sems (by decide) r.2⟩)
    (Cert.AdamNormOddReferenceIdeal.Value.run (F := Ideal) m ρ),
  fun m ρ _ => Cert.AdamInOdd.Gen.frame m ρ, fun m ρ _ => Cert.AdamInOddIdeal.Gen.frame m ρ,
  fun m ρ _ => (θ_run Cert.AdamInOddReferenceIdeal.defs _ _).mono (fun r h => ⟨fun c => (h c).2.2.2, sem_eq_zero_of_no_sems (by decide) r.2⟩)
    (Cert.AdamInOddReferenceIdeal.Value.run (F := Ideal) m ρ),
  fun m ρ _ => Cert.AdamShort.Gen.frame m ρ, fun m ρ _ => Cert.AdamShortIdeal.Gen.frame m ρ,
  fun m ρ _ => (θ_run Cert.AdamShortReferenceIdeal.defs _ _).mono (fun r h => ⟨fun c => (h c).2.2.2, sem_eq_zero_of_no_sems (by decide) r.2⟩)
    (Cert.AdamShortReferenceIdeal.Value.run (F := Ideal) m ρ),
  fun m ρ _ => Cert.AdamLong.Gen.frame m ρ, fun m ρ _ => Cert.AdamLongIdeal.Gen.frame m ρ,
  fun m ρ _ => (θ_run Cert.AdamLongReferenceIdeal.defs _ _).mono (fun r h => ⟨fun c => (h c).2.2.2, sem_eq_zero_of_no_sems (by decide) r.2⟩)
    (Cert.AdamLongReferenceIdeal.Value.run (F := Ideal) m ρ),
  fun m ρ _ => Cert.AdamBias.Gen.frame m ρ, fun m ρ _ => Cert.AdamBiasIdeal.Gen.frame m ρ,
  fun m ρ _ => (θ_run Cert.AdamBiasReferenceIdeal.defs _ _).mono (fun r h => ⟨fun c => (h c).2.2.2, sem_eq_zero_of_no_sems (by decide) r.2⟩)
    (Cert.AdamBiasReferenceIdeal.Value.run (F := Ideal) m ρ),
  fun m ρ _ => Cert.Att.Gen.frame m ρ, fun m ρ _ => Cert.AttIdeal.Gen.frame m ρ, fun m ρ _ => Cert.AttIdeal.Gen.frame m ρ,
  fun m ρ _ => Cert.AttProof.frame_reference m ρ, fun m ρ _ => Cert.AttProof.frame_reference m ρ,
  fun m ρ _ => Cert.Rms.Gen.frame m ρ, fun m ρ _ => Cert.RmsIdeal.Gen.frame m ρ,
  fun m ρ _ => (θ_run Cert.RmsReferenceIdeal.defs _ _).mono (fun r h => ⟨fun c => (h c).2, sem_eq_zero_of_no_sems (by decide) r.2⟩)
    (Cert.RmsReferenceIdeal.Value.run (F := Ideal) m ρ),
  fun m ρ _ => Cert.OddRows.Gen.frame m ρ, fun m ρ _ => Cert.OddRowsIdeal.Gen.frame m ρ, fun m ρ _ => Cert.OddRowsIdeal.Gen.frame m ρ,
  Cert.OddRowsProof.frame_reference, fun m ρ _ => Cert.OddRowsProof.frame_reference m ρ trivial,
  fun m ρ _ => Cert.EvenMix.Gen.frame m ρ, fun m ρ _ => Cert.EvenMixIdeal.Gen.frame m ρ, Cert.EvenMixProof.frame_reference,
  trivial, algebraic, trivial, algebraic_dx,
  trivial, Cert.DxEvenProof.algebraic, trivial, Cert.DwOddProof.algebraic, trivial, Cert.DwEvenProof.algebraic,
  trivial, Cert.DwOutProof.algebraic, trivial, Cert.DyProof.algebraic, trivial, Cert.InOddProof.algebraic, trivial, Cert.InEvenProof.algebraic,
  trivial, Cert.OutEvenProof.algebraic,
  trivial, Cert.OutOddProof.algebraic,
  Cert.AdamProof.kept_in_even, Cert.AdamProof.in_even,
  Cert.AdamProof.kept_pool, Cert.AdamProof.pool,
  Cert.AdamProof.kept_pool_scale, Cert.AdamProof.pool_scale,
  Cert.AdamProof.kept_out, Cert.AdamProof.out,
  Cert.AdamProof.kept_norm, Cert.AdamProof.norm,
  Cert.AdamProof.kept_norm_odd, Cert.AdamProof.norm_odd,
  Cert.AdamProof.kept_in_odd, Cert.AdamProof.in_odd,
  Cert.AdamProof.kept_short, Cert.AdamProof.short,
  Cert.AdamProof.kept_long, Cert.AdamProof.long,
  Cert.AdamProof.kept_bias, Cert.AdamProof.bias,
  trivial, Cert.AttProof.algebraic,
  trivial, Cert.RmsProof.algebraic,
  trivial, Cert.OddRowsProof.algebraic,
  trivial, Cert.EvenMixProof.algebraic⟩

end Cert.Proof

end
